-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2)
      ∧ r.2.mem ((c.tc : Thread Cert.Kernel12.nD Cert.Kernel12.τ).loc Cert.Kernel12.main_arg3) = m ((c.tc : Thread Cert.Kernel12.nD Cert.Kernel12.τ).loc Cert.Kernel12.main_arg3))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2)
      ∧ r.2.mem ((c.tc : Thread Cert.Kernel13.nD Cert.Kernel13.τ).loc Cert.Kernel13.main_arg3) = m ((c.tc : Thread Cert.Kernel13.nD Cert.Kernel13.τ).loc Cert.Kernel13.main_arg3))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2)
      ∧ r.2.mem ((c.tc : Thread Cert.Kernel14.nD Cert.Kernel14.τ).loc Cert.Kernel14.main_arg3) = m ((c.tc : Thread Cert.Kernel14.nD Cert.Kernel14.τ).loc Cert.Kernel14.main_arg3))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2)
      ∧ r.2.mem ((c.tc : Thread Cert.Kernel15.nD Cert.Kernel15.τ).loc Cert.Kernel15.main_arg3) = m ((c.tc : Thread Cert.Kernel15.nD Cert.Kernel15.τ).loc Cert.Kernel15.main_arg3)
      ∧ r.2.mem ((c.tc : Thread Cert.Kernel15.nD Cert.Kernel15.τ).loc Cert.Kernel15.main_arg4) = m ((c.tc : Thread Cert.Kernel15.nD Cert.Kernel15.τ).loc Cert.Kernel15.main_arg4)
      ∧ r.2.mem ((c.tc : Thread Cert.Kernel15.nD Cert.Kernel15.τ).loc Cert.Kernel15.main_arg5) = m ((c.tc : Thread Cert.Kernel15.nD Cert.Kernel15.τ).loc Cert.Kernel15.main_arg5)
      ∧ r.2.mem ((c.tc : Thread Cert.Kernel15.nD Cert.Kernel15.τ).loc Cert.Kernel15.main_arg6) = m ((c.tc : Thread Cert.Kernel15.nD Cert.Kernel15.τ).loc Cert.Kernel15.main_arg6)
      ∧ r.2.mem ((c.tc : Thread Cert.Kernel15.nD Cert.Kernel15.τ).loc Cert.Kernel15.main_arg7) = m ((c.tc : Thread Cert.Kernel15.nD Cert.Kernel15.τ).loc Cert.Kernel15.main_arg7)
      ∧ r.2.mem ((c.tc : Thread Cert.Kernel15.nD Cert.Kernel15.τ).loc Cert.Kernel15.main_arg8) = m ((c.tc : Thread Cert.Kernel15.nD Cert.Kernel15.τ).loc Cert.Kernel15.main_arg8)
      ∧ r.2.mem ((c.tc : Thread Cert.Kernel15.nD Cert.Kernel15.τ).loc Cert.Kernel15.main_arg9) = m ((c.tc : Thread Cert.Kernel15.nD Cert.Kernel15.τ).loc Cert.Kernel15.main_arg9)
      ∧ r.2.mem ((c.tc : Thread Cert.Kernel15.nD Cert.Kernel15.τ).loc Cert.Kernel15.main_arg10) = m ((c.tc : Thread Cert.Kernel15.nD Cert.Kernel15.τ).loc Cert.Kernel15.main_arg10)
      ∧ r.2.mem ((c.tc : Thread Cert.Kernel15.nD Cert.Kernel15.τ).loc Cert.Kernel15.main_arg11) = m ((c.tc : Thread Cert.Kernel15.nD Cert.Kernel15.τ).loc Cert.Kernel15.main_arg11)
      ∧ r.2.mem ((c.tc : Thread Cert.Kernel15.nD Cert.Kernel15.τ).loc Cert.Kernel15.main_arg12) = m ((c.tc : Thread Cert.Kernel15.nD Cert.Kernel15.τ).loc Cert.Kernel15.main_arg12)
      ∧ r.2.mem ((c.tc : Thread Cert.Kernel15.nD Cert.Kernel15.τ).loc Cert.Kernel15.main_arg13) = m ((c.tc : Thread Cert.Kernel15.nD Cert.Kernel15.τ).loc Cert.Kernel15.main_arg13)
      ∧ r.2.mem ((c.tc : Thread Cert.Kernel15.nD Cert.Kernel15.τ).loc Cert.Kernel15.main_arg14) = m ((c.tc : Thread Cert.Kernel15.nD Cert.Kernel15.τ).loc Cert.Kernel15.main_arg14)
      ∧ r.2.mem ((c.tc : Thread Cert.Kernel15.nD Cert.Kernel15.τ).loc Cert.Kernel15.main_arg15) = m ((c.tc : Thread Cert.Kernel15.nD Cert.Kernel15.τ).loc Cert.Kernel15.main_arg15)
      ∧ r.2.mem ((c.tc : Thread Cert.Kernel15.nD Cert.Kernel15.τ).loc Cert.Kernel15.main_arg16) = m ((c.tc : Thread Cert.Kernel15.nD Cert.Kernel15.τ).loc Cert.Kernel15.main_arg16)
      ∧ r.2.mem ((c.tc : Thread Cert.Kernel15.nD Cert.Kernel15.τ).loc Cert.Kernel15.main_arg17) = m ((c.tc : Thread Cert.Kernel15.nD Cert.Kernel15.τ).loc Cert.Kernel15.main_arg17)
      ∧ r.2.mem ((c.tc : Thread Cert.Kernel15.nD Cert.Kernel15.τ).loc Cert.Kernel15.main_arg18) = m ((c.tc : Thread Cert.Kernel15.nD Cert.Kernel15.τ).loc Cert.Kernel15.main_arg18)
      ∧ r.2.mem ((c.tc : Thread Cert.Kernel15.nD Cert.Kernel15.τ).loc Cert.Kernel15.main_arg19) = m ((c.tc : Thread Cert.Kernel15.nD Cert.Kernel15.τ).loc Cert.Kernel15.main_arg19)
      ∧ r.2.mem ((c.tc : Thread Cert.Kernel15.nD Cert.Kernel15.τ).loc Cert.Kernel15.main_arg20) = m ((c.tc : Thread Cert.Kernel15.nD Cert.Kernel15.τ).loc Cert.Kernel15.main_arg20)
      ∧ r.2.mem ((c.tc : Thread Cert.Kernel15.nD Cert.Kernel15.τ).loc Cert.Kernel15.main_arg21) = m ((c.tc : Thread Cert.Kernel15.nD Cert.Kernel15.τ).loc Cert.Kernel15.main_arg21)
      ∧ r.2.mem ((c.tc : Thread Cert.Kernel15.nD Cert.Kernel15.τ).loc Cert.Kernel15.main_arg22) = m ((c.tc : Thread Cert.Kernel15.nD Cert.Kernel15.τ).loc Cert.Kernel15.main_arg22)
      ∧ r.2.mem ((c.tc : Thread Cert.Kernel15.nD Cert.Kernel15.τ).loc Cert.Kernel15.main_arg23) = m ((c.tc : Thread Cert.Kernel15.nD Cert.Kernel15.τ).loc Cert.Kernel15.main_arg23)
      ∧ r.2.mem ((c.tc : Thread Cert.Kernel15.nD Cert.Kernel15.τ).loc Cert.Kernel15.main_arg24) = m ((c.tc : Thread Cert.Kernel15.nD Cert.Kernel15.τ).loc Cert.Kernel15.main_arg24)
      ∧ r.2.mem ((c.tc : Thread Cert.Kernel15.nD Cert.Kernel15.τ).loc Cert.Kernel15.main_arg25) = m ((c.tc : Thread Cert.Kernel15.nD Cert.Kernel15.τ).loc Cert.Kernel15.main_arg25)
      ∧ r.2.mem ((c.tc : Thread Cert.Kernel15.nD Cert.Kernel15.τ).loc Cert.Kernel15.main_arg26) = m ((c.tc : Thread Cert.Kernel15.nD Cert.Kernel15.τ).loc Cert.Kernel15.main_arg26)
      ∧ r.2.mem ((c.tc : Thread Cert.Kernel15.nD Cert.Kernel15.τ).loc Cert.Kernel15.main_arg27) = m ((c.tc : Thread Cert.Kernel15.nD Cert.Kernel15.τ).loc Cert.Kernel15.main_arg27))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
      ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3)
      ∧ r.2.mem ((c.tc : Thread Cert.Kernel15Ideal.nD Cert.Kernel15Ideal.τ).loc Cert.Kernel15Ideal.main_arg4) = m ((c.tc : Thread Cert.Kernel15Ideal.nD Cert.Kernel15Ideal.τ).loc Cert.Kernel15Ideal.main_arg4)
      ∧ r.2.mem ((c.tc : Thread Cert.Kernel15Ideal.nD Cert.Kernel15Ideal.τ).loc Cert.Kernel15Ideal.main_arg5) = m ((c.tc : Thread Cert.Kernel15Ideal.nD Cert.Kernel15Ideal.τ).loc Cert.Kernel15Ideal.main_arg5)
      ∧ r.2.mem ((c.tc : Thread Cert.Kernel15Ideal.nD Cert.Kernel15Ideal.τ).loc Cert.Kernel15Ideal.main_arg6) = m ((c.tc : Thread Cert.Kernel15Ideal.nD Cert.Kernel15Ideal.τ).loc Cert.Kernel15Ideal.main_arg6)
      ∧ r.2.mem ((c.tc : Thread Cert.Kernel15Ideal.nD Cert.Kernel15Ideal.τ).loc Cert.Kernel15Ideal.main_arg7) = m ((c.tc : Thread Cert.Kernel15Ideal.nD Cert.Kernel15Ideal.τ).loc Cert.Kernel15Ideal.main_arg7)
      ∧ r.2.mem ((c.tc : Thread Cert.Kernel15Ideal.nD Cert.Kernel15Ideal.τ).loc Cert.Kernel15Ideal.main_arg8) = m ((c.tc : Thread Cert.Kernel15Ideal.nD Cert.Kernel15Ideal.τ).loc Cert.Kernel15Ideal.main_arg8)
      ∧ r.2.mem ((c.tc : Thread Cert.Kernel15Ideal.nD Cert.Kernel15Ideal.τ).loc Cert.Kernel15Ideal.main_arg9) = m ((c.tc : Thread Cert.Kernel15Ideal.nD Cert.Kernel15Ideal.τ).loc Cert.Kernel15Ideal.main_arg9)
      ∧ r.2.mem ((c.tc : Thread Cert.Kernel15Ideal.nD Cert.Kernel15Ideal.τ).loc Cert.Kernel15Ideal.main_arg10) = m ((c.tc : Thread Cert.Kernel15Ideal.nD Cert.Kernel15Ideal.τ).loc Cert.Kernel15Ideal.main_arg10)
      ∧ r.2.mem ((c.tc : Thread Cert.Kernel15Ideal.nD Cert.Kernel15Ideal.τ).loc Cert.Kernel15Ideal.main_arg11) = m ((c.tc : Thread Cert.Kernel15Ideal.nD Cert.Kernel15Ideal.τ).loc Cert.Kernel15Ideal.main_arg11)
      ∧ r.2.mem ((c.tc : Thread Cert.Kernel15Ideal.nD Cert.Kernel15Ideal.τ).loc Cert.Kernel15Ideal.main_arg12) = m ((c.tc : Thread Cert.Kernel15Ideal.nD Cert.Kernel15Ideal.τ).loc Cert.Kernel15Ideal.main_arg12)
      ∧ r.2.mem ((c.tc : Thread Cert.Kernel15Ideal.nD Cert.Kernel15Ideal.τ).loc Cert.Kernel15Ideal.main_arg13) = m ((c.tc : Thread Cert.Kernel15Ideal.nD Cert.Kernel15Ideal.τ).loc Cert.Kernel15Ideal.main_arg13)
      ∧ r.2.mem ((c.tc : Thread Cert.Kernel15Ideal.nD Cert.Kernel15Ideal.τ).loc Cert.Kernel15Ideal.main_arg14) = m ((c.tc : Thread Cert.Kernel15Ideal.nD Cert.Kernel15Ideal.τ).loc Cert.Kernel15Ideal.main_arg14)
      ∧ r.2.mem ((c.tc : Thread Cert.Kernel15Ideal.nD Cert.Kernel15Ideal.τ).loc Cert.Kernel15Ideal.main_arg15) = m ((c.tc : Thread Cert.Kernel15Ideal.nD Cert.Kernel15Ideal.τ).loc Cert.Kernel15Ideal.main_arg15)
      ∧ r.2.mem ((c.tc : Thread Cert.Kernel15Ideal.nD Cert.Kernel15Ideal.τ).loc Cert.Kernel15Ideal.main_arg16) = m ((c.tc : Thread Cert.Kernel15Ideal.nD Cert.Kernel15Ideal.τ).loc Cert.Kernel15Ideal.main_arg16)
      ∧ r.2.mem ((c.tc : Thread Cert.Kernel15Ideal.nD Cert.Kernel15Ideal.τ).loc Cert.Kernel15Ideal.main_arg17) = m ((c.tc : Thread Cert.Kernel15Ideal.nD Cert.Kernel15Ideal.τ).loc Cert.Kernel15Ideal.main_arg17)
      ∧ r.2.mem ((c.tc : Thread Cert.Kernel15Ideal.nD Cert.Kernel15Ideal.τ).loc Cert.Kernel15Ideal.main_arg18) = m ((c.tc : Thread Cert.Kernel15Ideal.nD Cert.Kernel15Ideal.τ).loc Cert.Kernel15Ideal.main_arg18)
      ∧ r.2.mem ((c.tc : Thread Cert.Kernel15Ideal.nD Cert.Kernel15Ideal.τ).loc Cert.Kernel15Ideal.main_arg19) = m ((c.tc : Thread Cert.Kernel15Ideal.nD Cert.Kernel15Ideal.τ).loc Cert.Kernel15Ideal.main_arg19)
      ∧ r.2.mem ((c.tc : Thread Cert.Kernel15Ideal.nD Cert.Kernel15Ideal.τ).loc Cert.Kernel15Ideal.main_arg20) = m ((c.tc : Thread Cert.Kernel15Ideal.nD Cert.Kernel15Ideal.τ).loc Cert.Kernel15Ideal.main_arg20)
      ∧ r.2.mem ((c.tc : Thread Cert.Kernel15Ideal.nD Cert.Kernel15Ideal.τ).loc Cert.Kernel15Ideal.main_arg21) = m ((c.tc : Thread Cert.Kernel15Ideal.nD Cert.Kernel15Ideal.τ).loc Cert.Kernel15Ideal.main_arg21)
      ∧ r.2.mem ((c.tc : Thread Cert.Kernel15Ideal.nD Cert.Kernel15Ideal.τ).loc Cert.Kernel15Ideal.main_arg22) = m ((c.tc : Thread Cert.Kernel15Ideal.nD Cert.Kernel15Ideal.τ).loc Cert.Kernel15Ideal.main_arg22)
      ∧ r.2.mem ((c.tc : Thread Cert.Kernel15Ideal.nD Cert.Kernel15Ideal.τ).loc Cert.Kernel15Ideal.main_arg23) = m ((c.tc : Thread Cert.Kernel15Ideal.nD Cert.Kernel15Ideal.τ).loc Cert.Kernel15Ideal.main_arg23)
      ∧ r.2.mem ((c.tc : Thread Cert.Kernel15Ideal.nD Cert.Kernel15Ideal.τ).loc Cert.Kernel15Ideal.main_arg24) = m ((c.tc : Thread Cert.Kernel15Ideal.nD Cert.Kernel15Ideal.τ).loc Cert.Kernel15Ideal.main_arg24)
      ∧ r.2.mem ((c.tc : Thread Cert.Kernel15Ideal.nD Cert.Kernel15Ideal.τ).loc Cert.Kernel15Ideal.main_arg25) = m ((c.tc : Thread Cert.Kernel15Ideal.nD Cert.Kernel15Ideal.τ).loc Cert.Kernel15Ideal.main_arg25)
      ∧ r.2.mem ((c.tc : Thread Cert.Kernel15Ideal.nD Cert.Kernel15Ideal.τ).loc Cert.Kernel15Ideal.main_arg26) = m ((c.tc : Thread Cert.Kernel15Ideal.nD Cert.Kernel15Ideal.τ).loc Cert.Kernel15Ideal.main_arg26)
      ∧ r.2.mem ((c.tc : Thread Cert.Kernel15Ideal.nD Cert.Kernel15Ideal.τ).loc Cert.Kernel15Ideal.main_arg27) = m ((c.tc : Thread Cert.Kernel15Ideal.nD Cert.Kernel15Ideal.τ).loc Cert.Kernel15Ideal.main_arg27))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2)
      ∧ r.2.mem ((c.tc : Thread Cert.Reference15Ideal.nD Cert.Reference15Ideal.τ).loc Cert.Reference15Ideal.main_arg3) = m ((c.tc : Thread Cert.Reference15Ideal.nD Cert.Reference15Ideal.τ).loc Cert.Reference15Ideal.main_arg3)
      ∧ r.2.mem ((c.tc : Thread Cert.Reference15Ideal.nD Cert.Reference15Ideal.τ).loc Cert.Reference15Ideal.main_arg4) = m ((c.tc : Thread Cert.Reference15Ideal.nD Cert.Reference15Ideal.τ).loc Cert.Reference15Ideal.main_arg4)
      ∧ r.2.mem ((c.tc : Thread Cert.Reference15Ideal.nD Cert.Reference15Ideal.τ).loc Cert.Reference15Ideal.main_arg5) = m ((c.tc : Thread Cert.Reference15Ideal.nD Cert.Reference15Ideal.τ).loc Cert.Reference15Ideal.main_arg5)
      ∧ r.2.mem ((c.tc : Thread Cert.Reference15Ideal.nD Cert.Reference15Ideal.τ).loc Cert.Reference15Ideal.main_arg6) = m ((c.tc : Thread Cert.Reference15Ideal.nD Cert.Reference15Ideal.τ).loc Cert.Reference15Ideal.main_arg6)
      ∧ r.2.mem ((c.tc : Thread Cert.Reference15Ideal.nD Cert.Reference15Ideal.τ).loc Cert.Reference15Ideal.main_arg7) = m ((c.tc : Thread Cert.Reference15Ideal.nD Cert.Reference15Ideal.τ).loc Cert.Reference15Ideal.main_arg7)
      ∧ r.2.mem ((c.tc : Thread Cert.Reference15Ideal.nD Cert.Reference15Ideal.τ).loc Cert.Reference15Ideal.main_arg8) = m ((c.tc : Thread Cert.Reference15Ideal.nD Cert.Reference15Ideal.τ).loc Cert.Reference15Ideal.main_arg8)
      ∧ r.2.mem ((c.tc : Thread Cert.Reference15Ideal.nD Cert.Reference15Ideal.τ).loc Cert.Reference15Ideal.main_arg9) = m ((c.tc : Thread Cert.Reference15Ideal.nD Cert.Reference15Ideal.τ).loc Cert.Reference15Ideal.main_arg9)
      ∧ r.2.mem ((c.tc : Thread Cert.Reference15Ideal.nD Cert.Reference15Ideal.τ).loc Cert.Reference15Ideal.main_arg10) = m ((c.tc : Thread Cert.Reference15Ideal.nD Cert.Reference15Ideal.τ).loc Cert.Reference15Ideal.main_arg10)
      ∧ r.2.mem ((c.tc : Thread Cert.Reference15Ideal.nD Cert.Reference15Ideal.τ).loc Cert.Reference15Ideal.main_arg11) = m ((c.tc : Thread Cert.Reference15Ideal.nD Cert.Reference15Ideal.τ).loc Cert.Reference15Ideal.main_arg11)
      ∧ r.2.mem ((c.tc : Thread Cert.Reference15Ideal.nD Cert.Reference15Ideal.τ).loc Cert.Reference15Ideal.main_arg12) = m ((c.tc : Thread Cert.Reference15Ideal.nD Cert.Reference15Ideal.τ).loc Cert.Reference15Ideal.main_arg12)
      ∧ r.2.mem ((c.tc : Thread Cert.Reference15Ideal.nD Cert.Reference15Ideal.τ).loc Cert.Reference15Ideal.main_arg13) = m ((c.tc : Thread Cert.Reference15Ideal.nD Cert.Reference15Ideal.τ).loc Cert.Reference15Ideal.main_arg13)
      ∧ r.2.mem ((c.tc : Thread Cert.Reference15Ideal.nD Cert.Reference15Ideal.τ).loc Cert.Reference15Ideal.main_arg14) = m ((c.tc : Thread Cert.Reference15Ideal.nD Cert.Reference15Ideal.τ).loc Cert.Reference15Ideal.main_arg14)
      ∧ r.2.mem ((c.tc : Thread Cert.Reference15Ideal.nD Cert.Reference15Ideal.τ).loc Cert.Reference15Ideal.main_arg15) = m ((c.tc : Thread Cert.Reference15Ideal.nD Cert.Reference15Ideal.τ).loc Cert.Reference15Ideal.main_arg15)
      ∧ r.2.mem ((c.tc : Thread Cert.Reference15Ideal.nD Cert.Reference15Ideal.τ).loc Cert.Reference15Ideal.main_arg16) = m ((c.tc : Thread Cert.Reference15Ideal.nD Cert.Reference15Ideal.τ).loc Cert.Reference15Ideal.main_arg16)
      ∧ r.2.mem ((c.tc : Thread Cert.Reference15Ideal.nD Cert.Reference15Ideal.τ).loc Cert.Reference15Ideal.main_arg17) = m ((c.tc : Thread Cert.Reference15Ideal.nD Cert.Reference15Ideal.τ).loc Cert.Reference15Ideal.main_arg17)
      ∧ r.2.mem ((c.tc : Thread Cert.Reference15Ideal.nD Cert.Reference15Ideal.τ).loc Cert.Reference15Ideal.main_arg18) = m ((c.tc : Thread Cert.Reference15Ideal.nD Cert.Reference15Ideal.τ).loc Cert.Reference15Ideal.main_arg18)
      ∧ r.2.mem ((c.tc : Thread Cert.Reference15Ideal.nD Cert.Reference15Ideal.τ).loc Cert.Reference15Ideal.main_arg19) = m ((c.tc : Thread Cert.Reference15Ideal.nD Cert.Reference15Ideal.τ).loc Cert.Reference15Ideal.main_arg19)
      ∧ r.2.mem ((c.tc : Thread Cert.Reference15Ideal.nD Cert.Reference15Ideal.τ).loc Cert.Reference15Ideal.main_arg20) = m ((c.tc : Thread Cert.Reference15Ideal.nD Cert.Reference15Ideal.τ).loc Cert.Reference15Ideal.main_arg20)
      ∧ r.2.mem ((c.tc : Thread Cert.Reference15Ideal.nD Cert.Reference15Ideal.τ).loc Cert.Reference15Ideal.main_arg21) = m ((c.tc : Thread Cert.Reference15Ideal.nD Cert.Reference15Ideal.τ).loc Cert.Reference15Ideal.main_arg21)
      ∧ r.2.mem ((c.tc : Thread Cert.Reference15Ideal.nD Cert.Reference15Ideal.τ).loc Cert.Reference15Ideal.main_arg22) = m ((c.tc : Thread Cert.Reference15Ideal.nD Cert.Reference15Ideal.τ).loc Cert.Reference15Ideal.main_arg22)
      ∧ r.2.mem ((c.tc : Thread Cert.Reference15Ideal.nD Cert.Reference15Ideal.τ).loc Cert.Reference15Ideal.main_arg23) = m ((c.tc : Thread Cert.Reference15Ideal.nD Cert.Reference15Ideal.τ).loc Cert.Reference15Ideal.main_arg23)
      ∧ r.2.mem ((c.tc : Thread Cert.Reference15Ideal.nD Cert.Reference15Ideal.τ).loc Cert.Reference15Ideal.main_arg24) = m ((c.tc : Thread Cert.Reference15Ideal.nD Cert.Reference15Ideal.τ).loc Cert.Reference15Ideal.main_arg24)
      ∧ r.2.mem ((c.tc : Thread Cert.Reference15Ideal.nD Cert.Reference15Ideal.τ).loc Cert.Reference15Ideal.main_arg25) = m ((c.tc : Thread Cert.Reference15Ideal.nD Cert.Reference15Ideal.τ).loc Cert.Reference15Ideal.main_arg25)
      ∧ r.2.mem ((c.tc : Thread Cert.Reference15Ideal.nD Cert.Reference15Ideal.τ).loc Cert.Reference15Ideal.main_arg26) = m ((c.tc : Thread Cert.Reference15Ideal.nD Cert.Reference15Ideal.τ).loc Cert.Reference15Ideal.main_arg26)
      ∧ r.2.mem ((c.tc : Thread Cert.Reference15Ideal.nD Cert.Reference15Ideal.τ).loc Cert.Reference15Ideal.main_arg27) = m ((c.tc : Thread Cert.Reference15Ideal.nD Cert.Reference15Ideal.τ).loc Cert.Reference15Ideal.main_arg27))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)) (v3 : (c : Dev Cert.KernelIdeal.nD) → Buf (Elt Ideal) ((c.tc : Thread Cert.KernelIdeal.nD Cert.KernelIdeal.τ).loc Cert.KernelIdeal.main_v0_3)) (v4 : (c : Dev Cert.KernelIdeal.nD) → Buf (Elt Ideal) ((c.tc : Thread Cert.KernelIdeal.nD Cert.KernelIdeal.τ).loc Cert.KernelIdeal.main_v0_4)) (v5 : (c : Dev Cert.KernelIdeal.nD) → Buf (Elt Ideal) ((c.tc : Thread Cert.KernelIdeal.nD Cert.KernelIdeal.τ).loc Cert.KernelIdeal.main_v0_5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_v0_3) = v3 c
          ∧ r.2.mem ((c.tc : Thread Cert.KernelIdeal.nD Cert.KernelIdeal.τ).loc Cert.KernelIdeal.main_v0_4) = v4 c
          ∧ r.2.mem ((c.tc : Thread Cert.KernelIdeal.nD Cert.KernelIdeal.τ).loc Cert.KernelIdeal.main_v0_5) = v5 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_v25) = v1 c
          ∧ r.2.mem ((c.tc : Thread Cert.ReferenceIdeal.nD Cert.ReferenceIdeal.τ).loc Cert.ReferenceIdeal.main_v27) = v2 c
          ∧ r.2.mem ((c.tc : Thread Cert.ReferenceIdeal.nD Cert.ReferenceIdeal.τ).loc Cert.ReferenceIdeal.main_v29) = v3 c
          ∧ r.2.mem ((c.tc : Thread Cert.ReferenceIdeal.nD Cert.ReferenceIdeal.τ).loc Cert.ReferenceIdeal.main_v31) = v4 c
          ∧ r.2.mem ((c.tc : Thread Cert.ReferenceIdeal.nD Cert.ReferenceIdeal.τ).loc Cert.ReferenceIdeal.main_v32) = v5 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)) →
    ∃ (v0 : (c : Dev Cert.Kernel2Ideal.nD) → Buf (Elt Ideal) ((c.tc : Thread Cert.Kernel2Ideal.nD Cert.Kernel2Ideal.τ).loc Cert.Kernel2Ideal.main_v16_2)) (v1 : (c : Dev Cert.Kernel2Ideal.nD) → Buf (Elt Ideal) ((c.tc : Thread Cert.Kernel2Ideal.nD Cert.Kernel2Ideal.τ).loc Cert.Kernel2Ideal.main_v22_0)) (v2 : (c : Dev Cert.Kernel2Ideal.nD) → Buf (Elt Ideal) ((c.tc : Thread Cert.Kernel2Ideal.nD Cert.Kernel2Ideal.τ).loc Cert.Kernel2Ideal.main_v26)) (v3 : (c : Dev Cert.Kernel2Ideal.nD) → Buf (Elt Ideal) ((c.tc : Thread Cert.Kernel2Ideal.nD Cert.Kernel2Ideal.τ).loc Cert.Kernel2Ideal.main_v22_2)) (v4 : (c : Dev Cert.Kernel2Ideal.nD) → Buf (Elt Ideal) ((c.tc : Thread Cert.Kernel2Ideal.nD Cert.Kernel2Ideal.τ).loc Cert.Kernel2Ideal.main_v30)) (v5 : (c : Dev Cert.Kernel2Ideal.nD) → Buf (Elt Ideal) ((c.tc : Thread Cert.Kernel2Ideal.nD Cert.Kernel2Ideal.τ).loc Cert.Kernel2Ideal.main_v34)) (v6 : (c : Dev Cert.Kernel2Ideal.nD) → Buf (Elt Ideal) ((c.tc : Thread Cert.Kernel2Ideal.nD Cert.Kernel2Ideal.τ).loc Cert.Kernel2Ideal.main_v35)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v16_2) = v0 c
          ∧ r.2.mem ((c.tc : Thread Cert.Kernel2Ideal.nD Cert.Kernel2Ideal.τ).loc Cert.Kernel2Ideal.main_v22_0) = v1 c
          ∧ r.2.mem ((c.tc : Thread Cert.Kernel2Ideal.nD Cert.Kernel2Ideal.τ).loc Cert.Kernel2Ideal.main_v26) = v2 c
          ∧ r.2.mem ((c.tc : Thread Cert.Kernel2Ideal.nD Cert.Kernel2Ideal.τ).loc Cert.Kernel2Ideal.main_v22_2) = v3 c
          ∧ r.2.mem ((c.tc : Thread Cert.Kernel2Ideal.nD Cert.Kernel2Ideal.τ).loc Cert.Kernel2Ideal.main_v30) = v4 c
          ∧ r.2.mem ((c.tc : Thread Cert.Kernel2Ideal.nD Cert.Kernel2Ideal.τ).loc Cert.Kernel2Ideal.main_v34) = v5 c
          ∧ r.2.mem ((c.tc : Thread Cert.Kernel2Ideal.nD Cert.Kernel2Ideal.τ).loc Cert.Kernel2Ideal.main_v35) = v6 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v73) = v0 c
          ∧ r.2.mem ((c.tc : Thread Cert.Reference2Ideal.nD Cert.Reference2Ideal.τ).loc Cert.Reference2Ideal.main_v70) = v1 c
          ∧ r.2.mem ((c.tc : Thread Cert.Reference2Ideal.nD Cert.Reference2Ideal.τ).loc Cert.Reference2Ideal.main_v72) = v2 c
          ∧ r.2.mem ((c.tc : Thread Cert.Reference2Ideal.nD Cert.Reference2Ideal.τ).loc Cert.Reference2Ideal.main_v53) = v3 c
          ∧ r.2.mem ((c.tc : Thread Cert.Reference2Ideal.nD Cert.Reference2Ideal.τ).loc Cert.Reference2Ideal.main_v48) = v4 c
          ∧ r.2.mem ((c.tc : Thread Cert.Reference2Ideal.nD Cert.Reference2Ideal.τ).loc Cert.Reference2Ideal.main_v44) = v5 c
          ∧ r.2.mem ((c.tc : Thread Cert.Reference2Ideal.nD Cert.Reference2Ideal.τ).loc Cert.Reference2Ideal.main_v39) = v6 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v22)) (v1 : (c : Dev Cert.Kernel3Ideal.nD) → Buf (Elt Ideal) ((c.tc : Thread Cert.Kernel3Ideal.nD Cert.Kernel3Ideal.τ).loc Cert.Kernel3Ideal.main_v17_0)) (v2 : (c : Dev Cert.Kernel3Ideal.nD) → Buf (Elt Ideal) ((c.tc : Thread Cert.Kernel3Ideal.nD Cert.Kernel3Ideal.τ).loc Cert.Kernel3Ideal.main_v17_1)) (v3 : (c : Dev Cert.Kernel3Ideal.nD) → Buf (Elt Ideal) ((c.tc : Thread Cert.Kernel3Ideal.nD Cert.Kernel3Ideal.τ).loc Cert.Kernel3Ideal.main_v28)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v22) = v0 c
          ∧ r.2.mem ((c.tc : Thread Cert.Kernel3Ideal.nD Cert.Kernel3Ideal.τ).loc Cert.Kernel3Ideal.main_v17_0) = v1 c
          ∧ r.2.mem ((c.tc : Thread Cert.Kernel3Ideal.nD Cert.Kernel3Ideal.τ).loc Cert.Kernel3Ideal.main_v17_1) = v2 c
          ∧ r.2.mem ((c.tc : Thread Cert.Kernel3Ideal.nD Cert.Kernel3Ideal.τ).loc Cert.Kernel3Ideal.main_v28) = v3 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v15) = v0 c
          ∧ r.2.mem ((c.tc : Thread Cert.Reference3Ideal.nD Cert.Reference3Ideal.τ).loc Cert.Reference3Ideal.main_v38) = v1 c
          ∧ r.2.mem ((c.tc : Thread Cert.Reference3Ideal.nD Cert.Reference3Ideal.τ).loc Cert.Reference3Ideal.main_v21) = v2 c
          ∧ r.2.mem ((c.tc : Thread Cert.Reference3Ideal.nD Cert.Reference3Ideal.τ).loc Cert.Reference3Ideal.main_v17) = v3 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)) →
    ∃ (v0 : (c : Dev Cert.Kernel4Ideal.nD) → Buf (Elt Ideal) ((c.tc : Thread Cert.Kernel4Ideal.nD Cert.Kernel4Ideal.τ).loc Cert.Kernel4Ideal.main_v12)) (v1 : (c : Dev Cert.Kernel4Ideal.nD) → Buf (Elt Ideal) ((c.tc : Thread Cert.Kernel4Ideal.nD Cert.Kernel4Ideal.τ).loc Cert.Kernel4Ideal.main_v13)) (v2 : (c : Dev Cert.Kernel4Ideal.nD) → Buf (Elt Ideal) ((c.tc : Thread Cert.Kernel4Ideal.nD Cert.Kernel4Ideal.τ).loc Cert.Kernel4Ideal.main_v18)) (v3 : (c : Dev Cert.Kernel4Ideal.nD) → Buf (Elt Ideal) ((c.tc : Thread Cert.Kernel4Ideal.nD Cert.Kernel4Ideal.τ).loc Cert.Kernel4Ideal.main_v21)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v12) = v0 c
          ∧ r.2.mem ((c.tc : Thread Cert.Kernel4Ideal.nD Cert.Kernel4Ideal.τ).loc Cert.Kernel4Ideal.main_v13) = v1 c
          ∧ r.2.mem ((c.tc : Thread Cert.Kernel4Ideal.nD Cert.Kernel4Ideal.τ).loc Cert.Kernel4Ideal.main_v18) = v2 c
          ∧ r.2.mem ((c.tc : Thread Cert.Kernel4Ideal.nD Cert.Kernel4Ideal.τ).loc Cert.Kernel4Ideal.main_v21) = v3 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v7) = v0 c
          ∧ r.2.mem ((c.tc : Thread Cert.Reference4Ideal.nD Cert.Reference4Ideal.τ).loc Cert.Reference4Ideal.main_v4) = v1 c
          ∧ r.2.mem ((c.tc : Thread Cert.Reference4Ideal.nD Cert.Reference4Ideal.τ).loc Cert.Reference4Ideal.main_v6) = v2 c
          ∧ r.2.mem ((c.tc : Thread Cert.Reference4Ideal.nD Cert.Reference4Ideal.τ).loc Cert.Reference4Ideal.main_v3) = v3 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)) →
    ∃ (v0 : (c : Dev Cert.Kernel5Ideal.nD) → Buf (Elt Ideal) ((c.tc : Thread Cert.Kernel5Ideal.nD Cert.Kernel5Ideal.τ).loc Cert.Kernel5Ideal.main_v16_0)) (v1 : (c : Dev Cert.Kernel5Ideal.nD) → Buf (Elt Ideal) ((c.tc : Thread Cert.Kernel5Ideal.nD Cert.Kernel5Ideal.τ).loc Cert.Kernel5Ideal.main_v16_1)) (v2 : (c : Dev Cert.Kernel5Ideal.nD) → Buf (Elt Ideal) ((c.tc : Thread Cert.Kernel5Ideal.nD Cert.Kernel5Ideal.τ).loc Cert.Kernel5Ideal.main_v17)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v16_0) = v0 c
          ∧ r.2.mem ((c.tc : Thread Cert.Kernel5Ideal.nD Cert.Kernel5Ideal.τ).loc Cert.Kernel5Ideal.main_v16_1) = v1 c
          ∧ r.2.mem ((c.tc : Thread Cert.Kernel5Ideal.nD Cert.Kernel5Ideal.τ).loc Cert.Kernel5Ideal.main_v17) = v2 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v1) = v0 c
          ∧ r.2.mem ((c.tc : Thread Cert.Reference5Ideal.nD Cert.Reference5Ideal.τ).loc Cert.Reference5Ideal.main_v2) = v1 c
          ∧ r.2.mem ((c.tc : Thread Cert.Reference5Ideal.nD Cert.Reference5Ideal.τ).loc Cert.Reference5Ideal.main_v16) = v2 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)) →
    ∃ (v0 : (c : Dev Cert.Kernel6Ideal.nD) → Buf (Elt Ideal) ((c.tc : Thread Cert.Kernel6Ideal.nD Cert.Kernel6Ideal.τ).loc Cert.Kernel6Ideal.main_v10)) (v1 : (c : Dev Cert.Kernel6Ideal.nD) → Buf (Elt Ideal) ((c.tc : Thread Cert.Kernel6Ideal.nD Cert.Kernel6Ideal.τ).loc Cert.Kernel6Ideal.main_v11)) (v2 : (c : Dev Cert.Kernel6Ideal.nD) → Buf (Elt Ideal) ((c.tc : Thread Cert.Kernel6Ideal.nD Cert.Kernel6Ideal.τ).loc Cert.Kernel6Ideal.main_v12)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v10) = v0 c
          ∧ r.2.mem ((c.tc : Thread Cert.Kernel6Ideal.nD Cert.Kernel6Ideal.τ).loc Cert.Kernel6Ideal.main_v11) = v1 c
          ∧ r.2.mem ((c.tc : Thread Cert.Kernel6Ideal.nD Cert.Kernel6Ideal.τ).loc Cert.Kernel6Ideal.main_v12) = v2 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v30) = v0 c
          ∧ r.2.mem ((c.tc : Thread Cert.Reference6Ideal.nD Cert.Reference6Ideal.τ).loc Cert.Reference6Ideal.main_v24) = v1 c
          ∧ r.2.mem ((c.tc : Thread Cert.Reference6Ideal.nD Cert.Reference6Ideal.τ).loc Cert.Reference6Ideal.main_v20) = v2 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)) →
    ∃ (v0 : (c : Dev Cert.Kernel7Ideal.nD) → Buf (Elt Ideal) ((c.tc : Thread Cert.Kernel7Ideal.nD Cert.Kernel7Ideal.τ).loc Cert.Kernel7Ideal.main_v0_0)) (v1 : (c : Dev Cert.Kernel7Ideal.nD) → Buf (Elt Ideal) ((c.tc : Thread Cert.Kernel7Ideal.nD Cert.Kernel7Ideal.τ).loc Cert.Kernel7Ideal.main_v0_1)) (v2 : (c : Dev Cert.Kernel7Ideal.nD) → Buf (Elt Ideal) ((c.tc : Thread Cert.Kernel7Ideal.nD Cert.Kernel7Ideal.τ).loc Cert.Kernel7Ideal.main_v0_2)) (v3 : (c : Dev Cert.Kernel7Ideal.nD) → Buf (Elt Ideal) ((c.tc : Thread Cert.Kernel7Ideal.nD Cert.Kernel7Ideal.τ).loc Cert.Kernel7Ideal.main_v0_3)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0_0) = v0 c
          ∧ r.2.mem ((c.tc : Thread Cert.Kernel7Ideal.nD Cert.Kernel7Ideal.τ).loc Cert.Kernel7Ideal.main_v0_1) = v1 c
          ∧ r.2.mem ((c.tc : Thread Cert.Kernel7Ideal.nD Cert.Kernel7Ideal.τ).loc Cert.Kernel7Ideal.main_v0_2) = v2 c
          ∧ r.2.mem ((c.tc : Thread Cert.Kernel7Ideal.nD Cert.Kernel7Ideal.τ).loc Cert.Kernel7Ideal.main_v0_3) = v3 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v3) = v0 c
          ∧ r.2.mem ((c.tc : Thread Cert.Reference7Ideal.nD Cert.Reference7Ideal.τ).loc Cert.Reference7Ideal.main_v27) = v1 c
          ∧ r.2.mem ((c.tc : Thread Cert.Reference7Ideal.nD Cert.Reference7Ideal.τ).loc Cert.Reference7Ideal.main_v8) = v2 c
          ∧ r.2.mem ((c.tc : Thread Cert.Reference7Ideal.nD Cert.Reference7Ideal.τ).loc Cert.Reference7Ideal.main_v14) = v3 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)) →
    ∃ (v0 : (c : Dev Cert.Kernel8Ideal.nD) → Buf (Elt Ideal) ((c.tc : Thread Cert.Kernel8Ideal.nD Cert.Kernel8Ideal.τ).loc Cert.Kernel8Ideal.main_v0_0)) (v1 : (c : Dev Cert.Kernel8Ideal.nD) → Buf (Elt Ideal) ((c.tc : Thread Cert.Kernel8Ideal.nD Cert.Kernel8Ideal.τ).loc Cert.Kernel8Ideal.main_v0_1)) (v2 : (c : Dev Cert.Kernel8Ideal.nD) → Buf (Elt Ideal) ((c.tc : Thread Cert.Kernel8Ideal.nD Cert.Kernel8Ideal.τ).loc Cert.Kernel8Ideal.main_v0_2)) (v3 : (c : Dev Cert.Kernel8Ideal.nD) → Buf (Elt Ideal) ((c.tc : Thread Cert.Kernel8Ideal.nD Cert.Kernel8Ideal.τ).loc Cert.Kernel8Ideal.main_v0_3)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0_0) = v0 c
          ∧ r.2.mem ((c.tc : Thread Cert.Kernel8Ideal.nD Cert.Kernel8Ideal.τ).loc Cert.Kernel8Ideal.main_v0_1) = v1 c
          ∧ r.2.mem ((c.tc : Thread Cert.Kernel8Ideal.nD Cert.Kernel8Ideal.τ).loc Cert.Kernel8Ideal.main_v0_2) = v2 c
          ∧ r.2.mem ((c.tc : Thread Cert.Kernel8Ideal.nD Cert.Kernel8Ideal.τ).loc Cert.Kernel8Ideal.main_v0_3) = v3 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v2) = v0 c
          ∧ r.2.mem ((c.tc : Thread Cert.Reference8Ideal.nD Cert.Reference8Ideal.τ).loc Cert.Reference8Ideal.main_v26) = v1 c
          ∧ r.2.mem ((c.tc : Thread Cert.Reference8Ideal.nD Cert.Reference8Ideal.τ).loc Cert.Reference8Ideal.main_v7) = v2 c
          ∧ r.2.mem ((c.tc : Thread Cert.Reference8Ideal.nD Cert.Reference8Ideal.τ).loc Cert.Reference8Ideal.main_v13) = v3 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)) →
    ∃ (v0 : (c : Dev Cert.Kernel9Ideal.nD) → Buf (Elt Ideal) ((c.tc : Thread Cert.Kernel9Ideal.nD Cert.Kernel9Ideal.τ).loc Cert.Kernel9Ideal.main_v0_0)) (v1 : (c : Dev Cert.Kernel9Ideal.nD) → Buf (Elt Ideal) ((c.tc : Thread Cert.Kernel9Ideal.nD Cert.Kernel9Ideal.τ).loc Cert.Kernel9Ideal.main_v0_1)) (v2 : (c : Dev Cert.Kernel9Ideal.nD) → Buf (Elt Ideal) ((c.tc : Thread Cert.Kernel9Ideal.nD Cert.Kernel9Ideal.τ).loc Cert.Kernel9Ideal.main_v0_2)) (v3 : (c : Dev Cert.Kernel9Ideal.nD) → Buf (Elt Ideal) ((c.tc : Thread Cert.Kernel9Ideal.nD Cert.Kernel9Ideal.τ).loc Cert.Kernel9Ideal.main_v0_3)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0_0) = v0 c
          ∧ r.2.mem ((c.tc : Thread Cert.Kernel9Ideal.nD Cert.Kernel9Ideal.τ).loc Cert.Kernel9Ideal.main_v0_1) = v1 c
          ∧ r.2.mem ((c.tc : Thread Cert.Kernel9Ideal.nD Cert.Kernel9Ideal.τ).loc Cert.Kernel9Ideal.main_v0_2) = v2 c
          ∧ r.2.mem ((c.tc : Thread Cert.Kernel9Ideal.nD Cert.Kernel9Ideal.τ).loc Cert.Kernel9Ideal.main_v0_3) = v3 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v2) = v0 c
          ∧ r.2.mem ((c.tc : Thread Cert.Reference9Ideal.nD Cert.Reference9Ideal.τ).loc Cert.Reference9Ideal.main_v26) = v1 c
          ∧ r.2.mem ((c.tc : Thread Cert.Reference9Ideal.nD Cert.Reference9Ideal.τ).loc Cert.Reference9Ideal.main_v7) = v2 c
          ∧ r.2.mem ((c.tc : Thread Cert.Reference9Ideal.nD Cert.Reference9Ideal.τ).loc Cert.Reference9Ideal.main_v13) = v3 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)) →
    ∃ (v0 : (c : Dev Cert.Kernel10Ideal.nD) → Buf (Elt Ideal) ((c.tc : Thread Cert.Kernel10Ideal.nD Cert.Kernel10Ideal.τ).loc Cert.Kernel10Ideal.main_v4)) (v1 : (c : Dev Cert.Kernel10Ideal.nD) → Buf (Elt Ideal) ((c.tc : Thread Cert.Kernel10Ideal.nD Cert.Kernel10Ideal.τ).loc Cert.Kernel10Ideal.main_v5)) (v2 : (c : Dev Cert.Kernel10Ideal.nD) → Buf (Elt Ideal) ((c.tc : Thread Cert.Kernel10Ideal.nD Cert.Kernel10Ideal.τ).loc Cert.Kernel10Ideal.main_v6)) (v3 : (c : Dev Cert.Kernel10Ideal.nD) → Buf (Elt Ideal) ((c.tc : Thread Cert.Kernel10Ideal.nD Cert.Kernel10Ideal.τ).loc Cert.Kernel10Ideal.main_v7)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v4) = v0 c
          ∧ r.2.mem ((c.tc : Thread Cert.Kernel10Ideal.nD Cert.Kernel10Ideal.τ).loc Cert.Kernel10Ideal.main_v5) = v1 c
          ∧ r.2.mem ((c.tc : Thread Cert.Kernel10Ideal.nD Cert.Kernel10Ideal.τ).loc Cert.Kernel10Ideal.main_v6) = v2 c
          ∧ r.2.mem ((c.tc : Thread Cert.Kernel10Ideal.nD Cert.Kernel10Ideal.τ).loc Cert.Kernel10Ideal.main_v7) = v3 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v3) = v0 c
          ∧ r.2.mem ((c.tc : Thread Cert.Reference10Ideal.nD Cert.Reference10Ideal.τ).loc Cert.Reference10Ideal.main_v27) = v1 c
          ∧ r.2.mem ((c.tc : Thread Cert.Reference10Ideal.nD Cert.Reference10Ideal.τ).loc Cert.Reference10Ideal.main_v8) = v2 c
          ∧ r.2.mem ((c.tc : Thread Cert.Reference10Ideal.nD Cert.Reference10Ideal.τ).loc Cert.Reference10Ideal.main_v14) = v3 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)) →
    ∃ (v0 : (c : Dev Cert.Kernel11Ideal.nD) → Buf (Elt Ideal) ((c.tc : Thread Cert.Kernel11Ideal.nD Cert.Kernel11Ideal.τ).loc Cert.Kernel11Ideal.main_v4)) (v1 : (c : Dev Cert.Kernel11Ideal.nD) → Buf (Elt Ideal) ((c.tc : Thread Cert.Kernel11Ideal.nD Cert.Kernel11Ideal.τ).loc Cert.Kernel11Ideal.main_v5)) (v2 : (c : Dev Cert.Kernel11Ideal.nD) → Buf (Elt Ideal) ((c.tc : Thread Cert.Kernel11Ideal.nD Cert.Kernel11Ideal.τ).loc Cert.Kernel11Ideal.main_v6)) (v3 : (c : Dev Cert.Kernel11Ideal.nD) → Buf (Elt Ideal) ((c.tc : Thread Cert.Kernel11Ideal.nD Cert.Kernel11Ideal.τ).loc Cert.Kernel11Ideal.main_v7)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v4) = v0 c
          ∧ r.2.mem ((c.tc : Thread Cert.Kernel11Ideal.nD Cert.Kernel11Ideal.τ).loc Cert.Kernel11Ideal.main_v5) = v1 c
          ∧ r.2.mem ((c.tc : Thread Cert.Kernel11Ideal.nD Cert.Kernel11Ideal.τ).loc Cert.Kernel11Ideal.main_v6) = v2 c
          ∧ r.2.mem ((c.tc : Thread Cert.Kernel11Ideal.nD Cert.Kernel11Ideal.τ).loc Cert.Kernel11Ideal.main_v7) = v3 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v3) = v0 c
          ∧ r.2.mem ((c.tc : Thread Cert.Reference11Ideal.nD Cert.Reference11Ideal.τ).loc Cert.Reference11Ideal.main_v27) = v1 c
          ∧ r.2.mem ((c.tc : Thread Cert.Reference11Ideal.nD Cert.Reference11Ideal.τ).loc Cert.Reference11Ideal.main_v8) = v2 c
          ∧ r.2.mem ((c.tc : Thread Cert.Reference11Ideal.nD Cert.Reference11Ideal.τ).loc Cert.Reference11Ideal.main_v14) = v3 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)
      ∧ m' ((c.tc : Thread Cert.Reference12Ideal.nD Cert.Reference12Ideal.τ).loc Cert.Reference12Ideal.main_arg3) = m ((c.tc : Thread Cert.Kernel12Ideal.nD Cert.Kernel12Ideal.τ).loc Cert.Kernel12Ideal.main_arg3)) →
    ∃ (v0 : (c : Dev Cert.Kernel12Ideal.nD) → Buf (Elt Ideal) ((c.tc : Thread Cert.Kernel12Ideal.nD Cert.Kernel12Ideal.τ).loc Cert.Kernel12Ideal.main_v0_0)) (v1 : (c : Dev Cert.Kernel12Ideal.nD) → Buf (Elt Ideal) ((c.tc : Thread Cert.Kernel12Ideal.nD Cert.Kernel12Ideal.τ).loc Cert.Kernel12Ideal.main_v0_1)) (v2 : (c : Dev Cert.Kernel12Ideal.nD) → Buf (Elt Ideal) ((c.tc : Thread Cert.Kernel12Ideal.nD Cert.Kernel12Ideal.τ).loc Cert.Kernel12Ideal.main_v0_2)) (v3 : (c : Dev Cert.Kernel12Ideal.nD) → Buf (Elt Ideal) ((c.tc : Thread Cert.Kernel12Ideal.nD Cert.Kernel12Ideal.τ).loc Cert.Kernel12Ideal.main_v0_3)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0_0) = v0 c
          ∧ r.2.mem ((c.tc : Thread Cert.Kernel12Ideal.nD Cert.Kernel12Ideal.τ).loc Cert.Kernel12Ideal.main_v0_1) = v1 c
          ∧ r.2.mem ((c.tc : Thread Cert.Kernel12Ideal.nD Cert.Kernel12Ideal.τ).loc Cert.Kernel12Ideal.main_v0_2) = v2 c
          ∧ r.2.mem ((c.tc : Thread Cert.Kernel12Ideal.nD Cert.Kernel12Ideal.τ).loc Cert.Kernel12Ideal.main_v0_3) = v3 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
          ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v1) = v0 c
          ∧ r.2.mem ((c.tc : Thread Cert.Reference12Ideal.nD Cert.Reference12Ideal.τ).loc Cert.Reference12Ideal.main_v25) = v1 c
          ∧ r.2.mem ((c.tc : Thread Cert.Reference12Ideal.nD Cert.Reference12Ideal.τ).loc Cert.Reference12Ideal.main_v6) = v2 c
          ∧ r.2.mem ((c.tc : Thread Cert.Reference12Ideal.nD Cert.Reference12Ideal.τ).loc Cert.Reference12Ideal.main_v12) = v3 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2)
          ∧ r.2.mem ((c.tc : Thread Cert.Reference12Ideal.nD Cert.Reference12Ideal.τ).loc Cert.Reference12Ideal.main_arg3) = m' ((c.tc : Thread Cert.Reference12Ideal.nD Cert.Reference12Ideal.τ).loc Cert.Reference12Ideal.main_arg3))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)
      ∧ m' ((c.tc : Thread Cert.Reference13Ideal.nD Cert.Reference13Ideal.τ).loc Cert.Reference13Ideal.main_arg3) = m ((c.tc : Thread Cert.Kernel13Ideal.nD Cert.Kernel13Ideal.τ).loc Cert.Kernel13Ideal.main_arg3)) →
    ∃ (v0 : (c : Dev Cert.Kernel13Ideal.nD) → Buf (Elt Ideal) ((c.tc : Thread Cert.Kernel13Ideal.nD Cert.Kernel13Ideal.τ).loc Cert.Kernel13Ideal.main_v0_0)) (v1 : (c : Dev Cert.Kernel13Ideal.nD) → Buf (Elt Ideal) ((c.tc : Thread Cert.Kernel13Ideal.nD Cert.Kernel13Ideal.τ).loc Cert.Kernel13Ideal.main_v0_1)) (v2 : (c : Dev Cert.Kernel13Ideal.nD) → Buf (Elt Ideal) ((c.tc : Thread Cert.Kernel13Ideal.nD Cert.Kernel13Ideal.τ).loc Cert.Kernel13Ideal.main_v0_2)) (v3 : (c : Dev Cert.Kernel13Ideal.nD) → Buf (Elt Ideal) ((c.tc : Thread Cert.Kernel13Ideal.nD Cert.Kernel13Ideal.τ).loc Cert.Kernel13Ideal.main_v0_3)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0_0) = v0 c
          ∧ r.2.mem ((c.tc : Thread Cert.Kernel13Ideal.nD Cert.Kernel13Ideal.τ).loc Cert.Kernel13Ideal.main_v0_1) = v1 c
          ∧ r.2.mem ((c.tc : Thread Cert.Kernel13Ideal.nD Cert.Kernel13Ideal.τ).loc Cert.Kernel13Ideal.main_v0_2) = v2 c
          ∧ r.2.mem ((c.tc : Thread Cert.Kernel13Ideal.nD Cert.Kernel13Ideal.τ).loc Cert.Kernel13Ideal.main_v0_3) = v3 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
          ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v2) = v0 c
          ∧ r.2.mem ((c.tc : Thread Cert.Reference13Ideal.nD Cert.Reference13Ideal.τ).loc Cert.Reference13Ideal.main_v26) = v1 c
          ∧ r.2.mem ((c.tc : Thread Cert.Reference13Ideal.nD Cert.Reference13Ideal.τ).loc Cert.Reference13Ideal.main_v7) = v2 c
          ∧ r.2.mem ((c.tc : Thread Cert.Reference13Ideal.nD Cert.Reference13Ideal.τ).loc Cert.Reference13Ideal.main_v13) = v3 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2)
          ∧ r.2.mem ((c.tc : Thread Cert.Reference13Ideal.nD Cert.Reference13Ideal.τ).loc Cert.Reference13Ideal.main_arg3) = m' ((c.tc : Thread Cert.Reference13Ideal.nD Cert.Reference13Ideal.τ).loc Cert.Reference13Ideal.main_arg3))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)
      ∧ m' ((c.tc : Thread Cert.Reference14Ideal.nD Cert.Reference14Ideal.τ).loc Cert.Reference14Ideal.main_arg3) = m ((c.tc : Thread Cert.Kernel14Ideal.nD Cert.Kernel14Ideal.τ).loc Cert.Kernel14Ideal.main_arg3)) →
    ∃ (v0 : (c : Dev Cert.Kernel14Ideal.nD) → Buf (Elt Ideal) ((c.tc : Thread Cert.Kernel14Ideal.nD Cert.Kernel14Ideal.τ).loc Cert.Kernel14Ideal.main_v4)) (v1 : (c : Dev Cert.Kernel14Ideal.nD) → Buf (Elt Ideal) ((c.tc : Thread Cert.Kernel14Ideal.nD Cert.Kernel14Ideal.τ).loc Cert.Kernel14Ideal.main_v5)) (v2 : (c : Dev Cert.Kernel14Ideal.nD) → Buf (Elt Ideal) ((c.tc : Thread Cert.Kernel14Ideal.nD Cert.Kernel14Ideal.τ).loc Cert.Kernel14Ideal.main_v6)) (v3 : (c : Dev Cert.Kernel14Ideal.nD) → Buf (Elt Ideal) ((c.tc : Thread Cert.Kernel14Ideal.nD Cert.Kernel14Ideal.τ).loc Cert.Kernel14Ideal.main_v7)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v4) = v0 c
          ∧ r.2.mem ((c.tc : Thread Cert.Kernel14Ideal.nD Cert.Kernel14Ideal.τ).loc Cert.Kernel14Ideal.main_v5) = v1 c
          ∧ r.2.mem ((c.tc : Thread Cert.Kernel14Ideal.nD Cert.Kernel14Ideal.τ).loc Cert.Kernel14Ideal.main_v6) = v2 c
          ∧ r.2.mem ((c.tc : Thread Cert.Kernel14Ideal.nD Cert.Kernel14Ideal.τ).loc Cert.Kernel14Ideal.main_v7) = v3 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
          ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v3) = v0 c
          ∧ r.2.mem ((c.tc : Thread Cert.Reference14Ideal.nD Cert.Reference14Ideal.τ).loc Cert.Reference14Ideal.main_v27) = v1 c
          ∧ r.2.mem ((c.tc : Thread Cert.Reference14Ideal.nD Cert.Reference14Ideal.τ).loc Cert.Reference14Ideal.main_v8) = v2 c
          ∧ r.2.mem ((c.tc : Thread Cert.Reference14Ideal.nD Cert.Reference14Ideal.τ).loc Cert.Reference14Ideal.main_v14) = v3 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2)
          ∧ r.2.mem ((c.tc : Thread Cert.Reference14Ideal.nD Cert.Reference14Ideal.τ).loc Cert.Reference14Ideal.main_arg3) = m' ((c.tc : Thread Cert.Reference14Ideal.nD Cert.Reference14Ideal.τ).loc Cert.Reference14Ideal.main_arg3))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)
      ∧ m' ((c.tc : Thread Cert.Reference15Ideal.nD Cert.Reference15Ideal.τ).loc Cert.Reference15Ideal.main_arg3) = m ((c.tc : Thread Cert.Kernel15Ideal.nD Cert.Kernel15Ideal.τ).loc Cert.Kernel15Ideal.main_arg3)
      ∧ m' ((c.tc : Thread Cert.Reference15Ideal.nD Cert.Reference15Ideal.τ).loc Cert.Reference15Ideal.main_arg4) = m ((c.tc : Thread Cert.Kernel15Ideal.nD Cert.Kernel15Ideal.τ).loc Cert.Kernel15Ideal.main_arg4)
      ∧ m' ((c.tc : Thread Cert.Reference15Ideal.nD Cert.Reference15Ideal.τ).loc Cert.Reference15Ideal.main_arg5) = m ((c.tc : Thread Cert.Kernel15Ideal.nD Cert.Kernel15Ideal.τ).loc Cert.Kernel15Ideal.main_arg5)
      ∧ m' ((c.tc : Thread Cert.Reference15Ideal.nD Cert.Reference15Ideal.τ).loc Cert.Reference15Ideal.main_arg6) = m ((c.tc : Thread Cert.Kernel15Ideal.nD Cert.Kernel15Ideal.τ).loc Cert.Kernel15Ideal.main_arg6)
      ∧ m' ((c.tc : Thread Cert.Reference15Ideal.nD Cert.Reference15Ideal.τ).loc Cert.Reference15Ideal.main_arg7) = m ((c.tc : Thread Cert.Kernel15Ideal.nD Cert.Kernel15Ideal.τ).loc Cert.Kernel15Ideal.main_arg7)
      ∧ m' ((c.tc : Thread Cert.Reference15Ideal.nD Cert.Reference15Ideal.τ).loc Cert.Reference15Ideal.main_arg8) = m ((c.tc : Thread Cert.Kernel15Ideal.nD Cert.Kernel15Ideal.τ).loc Cert.Kernel15Ideal.main_arg8)
      ∧ m' ((c.tc : Thread Cert.Reference15Ideal.nD Cert.Reference15Ideal.τ).loc Cert.Reference15Ideal.main_arg9) = m ((c.tc : Thread Cert.Kernel15Ideal.nD Cert.Kernel15Ideal.τ).loc Cert.Kernel15Ideal.main_arg9)
      ∧ m' ((c.tc : Thread Cert.Reference15Ideal.nD Cert.Reference15Ideal.τ).loc Cert.Reference15Ideal.main_arg10) = m ((c.tc : Thread Cert.Kernel15Ideal.nD Cert.Kernel15Ideal.τ).loc Cert.Kernel15Ideal.main_arg10)
      ∧ m' ((c.tc : Thread Cert.Reference15Ideal.nD Cert.Reference15Ideal.τ).loc Cert.Reference15Ideal.main_arg11) = m ((c.tc : Thread Cert.Kernel15Ideal.nD Cert.Kernel15Ideal.τ).loc Cert.Kernel15Ideal.main_arg11)
      ∧ m' ((c.tc : Thread Cert.Reference15Ideal.nD Cert.Reference15Ideal.τ).loc Cert.Reference15Ideal.main_arg12) = m ((c.tc : Thread Cert.Kernel15Ideal.nD Cert.Kernel15Ideal.τ).loc Cert.Kernel15Ideal.main_arg12)
      ∧ m' ((c.tc : Thread Cert.Reference15Ideal.nD Cert.Reference15Ideal.τ).loc Cert.Reference15Ideal.main_arg13) = m ((c.tc : Thread Cert.Kernel15Ideal.nD Cert.Kernel15Ideal.τ).loc Cert.Kernel15Ideal.main_arg13)
      ∧ m' ((c.tc : Thread Cert.Reference15Ideal.nD Cert.Reference15Ideal.τ).loc Cert.Reference15Ideal.main_arg14) = m ((c.tc : Thread Cert.Kernel15Ideal.nD Cert.Kernel15Ideal.τ).loc Cert.Kernel15Ideal.main_arg14)
      ∧ m' ((c.tc : Thread Cert.Reference15Ideal.nD Cert.Reference15Ideal.τ).loc Cert.Reference15Ideal.main_arg15) = m ((c.tc : Thread Cert.Kernel15Ideal.nD Cert.Kernel15Ideal.τ).loc Cert.Kernel15Ideal.main_arg15)
      ∧ m' ((c.tc : Thread Cert.Reference15Ideal.nD Cert.Reference15Ideal.τ).loc Cert.Reference15Ideal.main_arg16) = m ((c.tc : Thread Cert.Kernel15Ideal.nD Cert.Kernel15Ideal.τ).loc Cert.Kernel15Ideal.main_arg16)
      ∧ m' ((c.tc : Thread Cert.Reference15Ideal.nD Cert.Reference15Ideal.τ).loc Cert.Reference15Ideal.main_arg17) = m ((c.tc : Thread Cert.Kernel15Ideal.nD Cert.Kernel15Ideal.τ).loc Cert.Kernel15Ideal.main_arg17)
      ∧ m' ((c.tc : Thread Cert.Reference15Ideal.nD Cert.Reference15Ideal.τ).loc Cert.Reference15Ideal.main_arg18) = m ((c.tc : Thread Cert.Kernel15Ideal.nD Cert.Kernel15Ideal.τ).loc Cert.Kernel15Ideal.main_arg18)
      ∧ m' ((c.tc : Thread Cert.Reference15Ideal.nD Cert.Reference15Ideal.τ).loc Cert.Reference15Ideal.main_arg19) = m ((c.tc : Thread Cert.Kernel15Ideal.nD Cert.Kernel15Ideal.τ).loc Cert.Kernel15Ideal.main_arg19)
      ∧ m' ((c.tc : Thread Cert.Reference15Ideal.nD Cert.Reference15Ideal.τ).loc Cert.Reference15Ideal.main_arg20) = m ((c.tc : Thread Cert.Kernel15Ideal.nD Cert.Kernel15Ideal.τ).loc Cert.Kernel15Ideal.main_arg20)
      ∧ m' ((c.tc : Thread Cert.Reference15Ideal.nD Cert.Reference15Ideal.τ).loc Cert.Reference15Ideal.main_arg21) = m ((c.tc : Thread Cert.Kernel15Ideal.nD Cert.Kernel15Ideal.τ).loc Cert.Kernel15Ideal.main_arg21)
      ∧ m' ((c.tc : Thread Cert.Reference15Ideal.nD Cert.Reference15Ideal.τ).loc Cert.Reference15Ideal.main_arg22) = m ((c.tc : Thread Cert.Kernel15Ideal.nD Cert.Kernel15Ideal.τ).loc Cert.Kernel15Ideal.main_arg22)
      ∧ m' ((c.tc : Thread Cert.Reference15Ideal.nD Cert.Reference15Ideal.τ).loc Cert.Reference15Ideal.main_arg23) = m ((c.tc : Thread Cert.Kernel15Ideal.nD Cert.Kernel15Ideal.τ).loc Cert.Kernel15Ideal.main_arg23)
      ∧ m' ((c.tc : Thread Cert.Reference15Ideal.nD Cert.Reference15Ideal.τ).loc Cert.Reference15Ideal.main_arg24) = m ((c.tc : Thread Cert.Kernel15Ideal.nD Cert.Kernel15Ideal.τ).loc Cert.Kernel15Ideal.main_arg24)
      ∧ m' ((c.tc : Thread Cert.Reference15Ideal.nD Cert.Reference15Ideal.τ).loc Cert.Reference15Ideal.main_arg25) = m ((c.tc : Thread Cert.Kernel15Ideal.nD Cert.Kernel15Ideal.τ).loc Cert.Kernel15Ideal.main_arg25)
      ∧ m' ((c.tc : Thread Cert.Reference15Ideal.nD Cert.Reference15Ideal.τ).loc Cert.Reference15Ideal.main_arg26) = m ((c.tc : Thread Cert.Kernel15Ideal.nD Cert.Kernel15Ideal.τ).loc Cert.Kernel15Ideal.main_arg26)
      ∧ m' ((c.tc : Thread Cert.Reference15Ideal.nD Cert.Reference15Ideal.τ).loc Cert.Reference15Ideal.main_arg27) = m ((c.tc : Thread Cert.Kernel15Ideal.nD Cert.Kernel15Ideal.τ).loc Cert.Kernel15Ideal.main_arg27)) →
    ∃ (v0 : (c : Dev Cert.Kernel15Ideal.nD) → Buf (Elt Ideal) ((c.tc : Thread Cert.Kernel15Ideal.nD Cert.Kernel15Ideal.τ).loc Cert.Kernel15Ideal.main_v0_36)) (v1 : (c : Dev Cert.Kernel15Ideal.nD) → Buf (Elt Ideal) ((c.tc : Thread Cert.Kernel15Ideal.nD Cert.Kernel15Ideal.τ).loc Cert.Kernel15Ideal.main_v0_0)) (v2 : (c : Dev Cert.Kernel15Ideal.nD) → Buf (Elt Ideal) ((c.tc : Thread Cert.Kernel15Ideal.nD Cert.Kernel15Ideal.τ).loc Cert.Kernel15Ideal.main_v0_1)) (v3 : (c : Dev Cert.Kernel15Ideal.nD) → Buf (Elt Ideal) ((c.tc : Thread Cert.Kernel15Ideal.nD Cert.Kernel15Ideal.τ).loc Cert.Kernel15Ideal.main_v0_2)) (v4 : (c : Dev Cert.Kernel15Ideal.nD) → Buf (Elt Ideal) ((c.tc : Thread Cert.Kernel15Ideal.nD Cert.Kernel15Ideal.τ).loc Cert.Kernel15Ideal.main_v0_3)) (v5 : (c : Dev Cert.Kernel15Ideal.nD) → Buf (Elt Ideal) ((c.tc : Thread Cert.Kernel15Ideal.nD Cert.Kernel15Ideal.τ).loc Cert.Kernel15Ideal.main_v0_4)) (v6 : (c : Dev Cert.Kernel15Ideal.nD) → Buf (Elt Ideal) ((c.tc : Thread Cert.Kernel15Ideal.nD Cert.Kernel15Ideal.τ).loc Cert.Kernel15Ideal.main_v0_5)) (v7 : (c : Dev Cert.Kernel15Ideal.nD) → Buf (Elt Ideal) ((c.tc : Thread Cert.Kernel15Ideal.nD Cert.Kernel15Ideal.τ).loc Cert.Kernel15Ideal.main_v0_6)) (v8 : (c : Dev Cert.Kernel15Ideal.nD) → Buf (Elt Ideal) ((c.tc : Thread Cert.Kernel15Ideal.nD Cert.Kernel15Ideal.τ).loc Cert.Kernel15Ideal.main_v0_7)) (v9 : (c : Dev Cert.Kernel15Ideal.nD) → Buf (Elt Ideal) ((c.tc : Thread Cert.Kernel15Ideal.nD Cert.Kernel15Ideal.τ).loc Cert.Kernel15Ideal.main_v0_8)) (v10 : (c : Dev Cert.Kernel15Ideal.nD) → Buf (Elt Ideal) ((c.tc : Thread Cert.Kernel15Ideal.nD Cert.Kernel15Ideal.τ).loc Cert.Kernel15Ideal.main_v0_9)) (v11 : (c : Dev Cert.Kernel15Ideal.nD) → Buf (Elt Ideal) ((c.tc : Thread Cert.Kernel15Ideal.nD Cert.Kernel15Ideal.τ).loc Cert.Kernel15Ideal.main_v0_10)) (v12 : (c : Dev Cert.Kernel15Ideal.nD) → Buf (Elt Ideal) ((c.tc : Thread Cert.Kernel15Ideal.nD Cert.Kernel15Ideal.τ).loc Cert.Kernel15Ideal.main_v0_11)) (v13 : (c : Dev Cert.Kernel15Ideal.nD) → Buf (Elt Ideal) ((c.tc : Thread Cert.Kernel15Ideal.nD Cert.Kernel15Ideal.τ).loc Cert.Kernel15Ideal.main_v0_12)) (v14 : (c : Dev Cert.Kernel15Ideal.nD) → Buf (Elt Ideal) ((c.tc : Thread Cert.Kernel15Ideal.nD Cert.Kernel15Ideal.τ).loc Cert.Kernel15Ideal.main_v0_13)) (v15 : (c : Dev Cert.Kernel15Ideal.nD) → Buf (Elt Ideal) ((c.tc : Thread Cert.Kernel15Ideal.nD Cert.Kernel15Ideal.τ).loc Cert.Kernel15Ideal.main_v0_14)) (v16 : (c : Dev Cert.Kernel15Ideal.nD) → Buf (Elt Ideal) ((c.tc : Thread Cert.Kernel15Ideal.nD Cert.Kernel15Ideal.τ).loc Cert.Kernel15Ideal.main_v0_15)) (v17 : (c : Dev Cert.Kernel15Ideal.nD) → Buf (Elt Ideal) ((c.tc : Thread Cert.Kernel15Ideal.nD Cert.Kernel15Ideal.τ).loc Cert.Kernel15Ideal.main_v0_16)) (v18 : (c : Dev Cert.Kernel15Ideal.nD) → Buf (Elt Ideal) ((c.tc : Thread Cert.Kernel15Ideal.nD Cert.Kernel15Ideal.τ).loc Cert.Kernel15Ideal.main_v0_17)) (v19 : (c : Dev Cert.Kernel15Ideal.nD) → Buf (Elt Ideal) ((c.tc : Thread Cert.Kernel15Ideal.nD Cert.Kernel15Ideal.τ).loc Cert.Kernel15Ideal.main_v0_18)) (v20 : (c : Dev Cert.Kernel15Ideal.nD) → Buf (Elt Ideal) ((c.tc : Thread Cert.Kernel15Ideal.nD Cert.Kernel15Ideal.τ).loc Cert.Kernel15Ideal.main_v0_19)) (v21 : (c : Dev Cert.Kernel15Ideal.nD) → Buf (Elt Ideal) ((c.tc : Thread Cert.Kernel15Ideal.nD Cert.Kernel15Ideal.τ).loc Cert.Kernel15Ideal.main_v0_20)) (v22 : (c : Dev Cert.Kernel15Ideal.nD) → Buf (Elt Ideal) ((c.tc : Thread Cert.Kernel15Ideal.nD Cert.Kernel15Ideal.τ).loc Cert.Kernel15Ideal.main_v0_21)) (v23 : (c : Dev Cert.Kernel15Ideal.nD) → Buf (Elt Ideal) ((c.tc : Thread Cert.Kernel15Ideal.nD Cert.Kernel15Ideal.τ).loc Cert.Kernel15Ideal.main_v0_22)) (v24 : (c : Dev Cert.Kernel15Ideal.nD) → Buf (Elt Ideal) ((c.tc : Thread Cert.Kernel15Ideal.nD Cert.Kernel15Ideal.τ).loc Cert.Kernel15Ideal.main_v0_23)) (v25 : (c : Dev Cert.Kernel15Ideal.nD) → Buf (Elt Ideal) ((c.tc : Thread Cert.Kernel15Ideal.nD Cert.Kernel15Ideal.τ).loc Cert.Kernel15Ideal.main_v0_24)) (v26 : (c : Dev Cert.Kernel15Ideal.nD) → Buf (Elt Ideal) ((c.tc : Thread Cert.Kernel15Ideal.nD Cert.Kernel15Ideal.τ).loc Cert.Kernel15Ideal.main_v0_25)) (v27 : (c : Dev Cert.Kernel15Ideal.nD) → Buf (Elt Ideal) ((c.tc : Thread Cert.Kernel15Ideal.nD Cert.Kernel15Ideal.τ).loc Cert.Kernel15Ideal.main_v0_26)) (v28 : (c : Dev Cert.Kernel15Ideal.nD) → Buf (Elt Ideal) ((c.tc : Thread Cert.Kernel15Ideal.nD Cert.Kernel15Ideal.τ).loc Cert.Kernel15Ideal.main_v0_27)) (v29 : (c : Dev Cert.Kernel15Ideal.nD) → Buf (Elt Ideal) ((c.tc : Thread Cert.Kernel15Ideal.nD Cert.Kernel15Ideal.τ).loc Cert.Kernel15Ideal.main_v0_28)) (v30 : (c : Dev Cert.Kernel15Ideal.nD) → Buf (Elt Ideal) ((c.tc : Thread Cert.Kernel15Ideal.nD Cert.Kernel15Ideal.τ).loc Cert.Kernel15Ideal.main_v0_29)) (v31 : (c : Dev Cert.Kernel15Ideal.nD) → Buf (Elt Ideal) ((c.tc : Thread Cert.Kernel15Ideal.nD Cert.Kernel15Ideal.τ).loc Cert.Kernel15Ideal.main_v0_30)) (v32 : (c : Dev Cert.Kernel15Ideal.nD) → Buf (Elt Ideal) ((c.tc : Thread Cert.Kernel15Ideal.nD Cert.Kernel15Ideal.τ).loc Cert.Kernel15Ideal.main_v0_31)) (v33 : (c : Dev Cert.Kernel15Ideal.nD) → Buf (Elt Ideal) ((c.tc : Thread Cert.Kernel15Ideal.nD Cert.Kernel15Ideal.τ).loc Cert.Kernel15Ideal.main_v0_32)) (v34 : (c : Dev Cert.Kernel15Ideal.nD) → Buf (Elt Ideal) ((c.tc : Thread Cert.Kernel15Ideal.nD Cert.Kernel15Ideal.τ).loc Cert.Kernel15Ideal.main_v0_33)) (v35 : (c : Dev Cert.Kernel15Ideal.nD) → Buf (Elt Ideal) ((c.tc : Thread Cert.Kernel15Ideal.nD Cert.Kernel15Ideal.τ).loc Cert.Kernel15Ideal.main_v0_34)) (v36 : (c : Dev Cert.Kernel15Ideal.nD) → Buf (Elt Ideal) ((c.tc : Thread Cert.Kernel15Ideal.nD Cert.Kernel15Ideal.τ).loc Cert.Kernel15Ideal.main_v0_35)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0_36) = v0 c
          ∧ r.2.mem ((c.tc : Thread Cert.Kernel15Ideal.nD Cert.Kernel15Ideal.τ).loc Cert.Kernel15Ideal.main_v0_0) = v1 c
          ∧ r.2.mem ((c.tc : Thread Cert.Kernel15Ideal.nD Cert.Kernel15Ideal.τ).loc Cert.Kernel15Ideal.main_v0_1) = v2 c
          ∧ r.2.mem ((c.tc : Thread Cert.Kernel15Ideal.nD Cert.Kernel15Ideal.τ).loc Cert.Kernel15Ideal.main_v0_2) = v3 c
          ∧ r.2.mem ((c.tc : Thread Cert.Kernel15Ideal.nD Cert.Kernel15Ideal.τ).loc Cert.Kernel15Ideal.main_v0_3) = v4 c
          ∧ r.2.mem ((c.tc : Thread Cert.Kernel15Ideal.nD Cert.Kernel15Ideal.τ).loc Cert.Kernel15Ideal.main_v0_4) = v5 c
          ∧ r.2.mem ((c.tc : Thread Cert.Kernel15Ideal.nD Cert.Kernel15Ideal.τ).loc Cert.Kernel15Ideal.main_v0_5) = v6 c
          ∧ r.2.mem ((c.tc : Thread Cert.Kernel15Ideal.nD Cert.Kernel15Ideal.τ).loc Cert.Kernel15Ideal.main_v0_6) = v7 c
          ∧ r.2.mem ((c.tc : Thread Cert.Kernel15Ideal.nD Cert.Kernel15Ideal.τ).loc Cert.Kernel15Ideal.main_v0_7) = v8 c
          ∧ r.2.mem ((c.tc : Thread Cert.Kernel15Ideal.nD Cert.Kernel15Ideal.τ).loc Cert.Kernel15Ideal.main_v0_8) = v9 c
          ∧ r.2.mem ((c.tc : Thread Cert.Kernel15Ideal.nD Cert.Kernel15Ideal.τ).loc Cert.Kernel15Ideal.main_v0_9) = v10 c
          ∧ r.2.mem ((c.tc : Thread Cert.Kernel15Ideal.nD Cert.Kernel15Ideal.τ).loc Cert.Kernel15Ideal.main_v0_10) = v11 c
          ∧ r.2.mem ((c.tc : Thread Cert.Kernel15Ideal.nD Cert.Kernel15Ideal.τ).loc Cert.Kernel15Ideal.main_v0_11) = v12 c
          ∧ r.2.mem ((c.tc : Thread Cert.Kernel15Ideal.nD Cert.Kernel15Ideal.τ).loc Cert.Kernel15Ideal.main_v0_12) = v13 c
          ∧ r.2.mem ((c.tc : Thread Cert.Kernel15Ideal.nD Cert.Kernel15Ideal.τ).loc Cert.Kernel15Ideal.main_v0_13) = v14 c
          ∧ r.2.mem ((c.tc : Thread Cert.Kernel15Ideal.nD Cert.Kernel15Ideal.τ).loc Cert.Kernel15Ideal.main_v0_14) = v15 c
          ∧ r.2.mem ((c.tc : Thread Cert.Kernel15Ideal.nD Cert.Kernel15Ideal.τ).loc Cert.Kernel15Ideal.main_v0_15) = v16 c
          ∧ r.2.mem ((c.tc : Thread Cert.Kernel15Ideal.nD Cert.Kernel15Ideal.τ).loc Cert.Kernel15Ideal.main_v0_16) = v17 c
          ∧ r.2.mem ((c.tc : Thread Cert.Kernel15Ideal.nD Cert.Kernel15Ideal.τ).loc Cert.Kernel15Ideal.main_v0_17) = v18 c
          ∧ r.2.mem ((c.tc : Thread Cert.Kernel15Ideal.nD Cert.Kernel15Ideal.τ).loc Cert.Kernel15Ideal.main_v0_18) = v19 c
          ∧ r.2.mem ((c.tc : Thread Cert.Kernel15Ideal.nD Cert.Kernel15Ideal.τ).loc Cert.Kernel15Ideal.main_v0_19) = v20 c
          ∧ r.2.mem ((c.tc : Thread Cert.Kernel15Ideal.nD Cert.Kernel15Ideal.τ).loc Cert.Kernel15Ideal.main_v0_20) = v21 c
          ∧ r.2.mem ((c.tc : Thread Cert.Kernel15Ideal.nD Cert.Kernel15Ideal.τ).loc Cert.Kernel15Ideal.main_v0_21) = v22 c
          ∧ r.2.mem ((c.tc : Thread Cert.Kernel15Ideal.nD Cert.Kernel15Ideal.τ).loc Cert.Kernel15Ideal.main_v0_22) = v23 c
          ∧ r.2.mem ((c.tc : Thread Cert.Kernel15Ideal.nD Cert.Kernel15Ideal.τ).loc Cert.Kernel15Ideal.main_v0_23) = v24 c
          ∧ r.2.mem ((c.tc : Thread Cert.Kernel15Ideal.nD Cert.Kernel15Ideal.τ).loc Cert.Kernel15Ideal.main_v0_24) = v25 c
          ∧ r.2.mem ((c.tc : Thread Cert.Kernel15Ideal.nD Cert.Kernel15Ideal.τ).loc Cert.Kernel15Ideal.main_v0_25) = v26 c
          ∧ r.2.mem ((c.tc : Thread Cert.Kernel15Ideal.nD Cert.Kernel15Ideal.τ).loc Cert.Kernel15Ideal.main_v0_26) = v27 c
          ∧ r.2.mem ((c.tc : Thread Cert.Kernel15Ideal.nD Cert.Kernel15Ideal.τ).loc Cert.Kernel15Ideal.main_v0_27) = v28 c
          ∧ r.2.mem ((c.tc : Thread Cert.Kernel15Ideal.nD Cert.Kernel15Ideal.τ).loc Cert.Kernel15Ideal.main_v0_28) = v29 c
          ∧ r.2.mem ((c.tc : Thread Cert.Kernel15Ideal.nD Cert.Kernel15Ideal.τ).loc Cert.Kernel15Ideal.main_v0_29) = v30 c
          ∧ r.2.mem ((c.tc : Thread Cert.Kernel15Ideal.nD Cert.Kernel15Ideal.τ).loc Cert.Kernel15Ideal.main_v0_30) = v31 c
          ∧ r.2.mem ((c.tc : Thread Cert.Kernel15Ideal.nD Cert.Kernel15Ideal.τ).loc Cert.Kernel15Ideal.main_v0_31) = v32 c
          ∧ r.2.mem ((c.tc : Thread Cert.Kernel15Ideal.nD Cert.Kernel15Ideal.τ).loc Cert.Kernel15Ideal.main_v0_32) = v33 c
          ∧ r.2.mem ((c.tc : Thread Cert.Kernel15Ideal.nD Cert.Kernel15Ideal.τ).loc Cert.Kernel15Ideal.main_v0_33) = v34 c
          ∧ r.2.mem ((c.tc : Thread Cert.Kernel15Ideal.nD Cert.Kernel15Ideal.τ).loc Cert.Kernel15Ideal.main_v0_34) = v35 c
          ∧ r.2.mem ((c.tc : Thread Cert.Kernel15Ideal.nD Cert.Kernel15Ideal.τ).loc Cert.Kernel15Ideal.main_v0_35) = v36 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
          ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3)
          ∧ r.2.mem ((c.tc : Thread Cert.Kernel15Ideal.nD Cert.Kernel15Ideal.τ).loc Cert.Kernel15Ideal.main_arg4) = m ((c.tc : Thread Cert.Kernel15Ideal.nD Cert.Kernel15Ideal.τ).loc Cert.Kernel15Ideal.main_arg4)
          ∧ r.2.mem ((c.tc : Thread Cert.Kernel15Ideal.nD Cert.Kernel15Ideal.τ).loc Cert.Kernel15Ideal.main_arg5) = m ((c.tc : Thread Cert.Kernel15Ideal.nD Cert.Kernel15Ideal.τ).loc Cert.Kernel15Ideal.main_arg5)
          ∧ r.2.mem ((c.tc : Thread Cert.Kernel15Ideal.nD Cert.Kernel15Ideal.τ).loc Cert.Kernel15Ideal.main_arg6) = m ((c.tc : Thread Cert.Kernel15Ideal.nD Cert.Kernel15Ideal.τ).loc Cert.Kernel15Ideal.main_arg6)
          ∧ r.2.mem ((c.tc : Thread Cert.Kernel15Ideal.nD Cert.Kernel15Ideal.τ).loc Cert.Kernel15Ideal.main_arg7) = m ((c.tc : Thread Cert.Kernel15Ideal.nD Cert.Kernel15Ideal.τ).loc Cert.Kernel15Ideal.main_arg7)
          ∧ r.2.mem ((c.tc : Thread Cert.Kernel15Ideal.nD Cert.Kernel15Ideal.τ).loc Cert.Kernel15Ideal.main_arg8) = m ((c.tc : Thread Cert.Kernel15Ideal.nD Cert.Kernel15Ideal.τ).loc Cert.Kernel15Ideal.main_arg8)
          ∧ r.2.mem ((c.tc : Thread Cert.Kernel15Ideal.nD Cert.Kernel15Ideal.τ).loc Cert.Kernel15Ideal.main_arg9) = m ((c.tc : Thread Cert.Kernel15Ideal.nD Cert.Kernel15Ideal.τ).loc Cert.Kernel15Ideal.main_arg9)
          ∧ r.2.mem ((c.tc : Thread Cert.Kernel15Ideal.nD Cert.Kernel15Ideal.τ).loc Cert.Kernel15Ideal.main_arg10) = m ((c.tc : Thread Cert.Kernel15Ideal.nD Cert.Kernel15Ideal.τ).loc Cert.Kernel15Ideal.main_arg10)
          ∧ r.2.mem ((c.tc : Thread Cert.Kernel15Ideal.nD Cert.Kernel15Ideal.τ).loc Cert.Kernel15Ideal.main_arg11) = m ((c.tc : Thread Cert.Kernel15Ideal.nD Cert.Kernel15Ideal.τ).loc Cert.Kernel15Ideal.main_arg11)
          ∧ r.2.mem ((c.tc : Thread Cert.Kernel15Ideal.nD Cert.Kernel15Ideal.τ).loc Cert.Kernel15Ideal.main_arg12) = m ((c.tc : Thread Cert.Kernel15Ideal.nD Cert.Kernel15Ideal.τ).loc Cert.Kernel15Ideal.main_arg12)
          ∧ r.2.mem ((c.tc : Thread Cert.Kernel15Ideal.nD Cert.Kernel15Ideal.τ).loc Cert.Kernel15Ideal.main_arg13) = m ((c.tc : Thread Cert.Kernel15Ideal.nD Cert.Kernel15Ideal.τ).loc Cert.Kernel15Ideal.main_arg13)
          ∧ r.2.mem ((c.tc : Thread Cert.Kernel15Ideal.nD Cert.Kernel15Ideal.τ).loc Cert.Kernel15Ideal.main_arg14) = m ((c.tc : Thread Cert.Kernel15Ideal.nD Cert.Kernel15Ideal.τ).loc Cert.Kernel15Ideal.main_arg14)
          ∧ r.2.mem ((c.tc : Thread Cert.Kernel15Ideal.nD Cert.Kernel15Ideal.τ).loc Cert.Kernel15Ideal.main_arg15) = m ((c.tc : Thread Cert.Kernel15Ideal.nD Cert.Kernel15Ideal.τ).loc Cert.Kernel15Ideal.main_arg15)
          ∧ r.2.mem ((c.tc : Thread Cert.Kernel15Ideal.nD Cert.Kernel15Ideal.τ).loc Cert.Kernel15Ideal.main_arg16) = m ((c.tc : Thread Cert.Kernel15Ideal.nD Cert.Kernel15Ideal.τ).loc Cert.Kernel15Ideal.main_arg16)
          ∧ r.2.mem ((c.tc : Thread Cert.Kernel15Ideal.nD Cert.Kernel15Ideal.τ).loc Cert.Kernel15Ideal.main_arg17) = m ((c.tc : Thread Cert.Kernel15Ideal.nD Cert.Kernel15Ideal.τ).loc Cert.Kernel15Ideal.main_arg17)
          ∧ r.2.mem ((c.tc : Thread Cert.Kernel15Ideal.nD Cert.Kernel15Ideal.τ).loc Cert.Kernel15Ideal.main_arg18) = m ((c.tc : Thread Cert.Kernel15Ideal.nD Cert.Kernel15Ideal.τ).loc Cert.Kernel15Ideal.main_arg18)
          ∧ r.2.mem ((c.tc : Thread Cert.Kernel15Ideal.nD Cert.Kernel15Ideal.τ).loc Cert.Kernel15Ideal.main_arg19) = m ((c.tc : Thread Cert.Kernel15Ideal.nD Cert.Kernel15Ideal.τ).loc Cert.Kernel15Ideal.main_arg19)
          ∧ r.2.mem ((c.tc : Thread Cert.Kernel15Ideal.nD Cert.Kernel15Ideal.τ).loc Cert.Kernel15Ideal.main_arg20) = m ((c.tc : Thread Cert.Kernel15Ideal.nD Cert.Kernel15Ideal.τ).loc Cert.Kernel15Ideal.main_arg20)
          ∧ r.2.mem ((c.tc : Thread Cert.Kernel15Ideal.nD Cert.Kernel15Ideal.τ).loc Cert.Kernel15Ideal.main_arg21) = m ((c.tc : Thread Cert.Kernel15Ideal.nD Cert.Kernel15Ideal.τ).loc Cert.Kernel15Ideal.main_arg21)
          ∧ r.2.mem ((c.tc : Thread Cert.Kernel15Ideal.nD Cert.Kernel15Ideal.τ).loc Cert.Kernel15Ideal.main_arg22) = m ((c.tc : Thread Cert.Kernel15Ideal.nD Cert.Kernel15Ideal.τ).loc Cert.Kernel15Ideal.main_arg22)
          ∧ r.2.mem ((c.tc : Thread Cert.Kernel15Ideal.nD Cert.Kernel15Ideal.τ).loc Cert.Kernel15Ideal.main_arg23) = m ((c.tc : Thread Cert.Kernel15Ideal.nD Cert.Kernel15Ideal.τ).loc Cert.Kernel15Ideal.main_arg23)
          ∧ r.2.mem ((c.tc : Thread Cert.Kernel15Ideal.nD Cert.Kernel15Ideal.τ).loc Cert.Kernel15Ideal.main_arg24) = m ((c.tc : Thread Cert.Kernel15Ideal.nD Cert.Kernel15Ideal.τ).loc Cert.Kernel15Ideal.main_arg24)
          ∧ r.2.mem ((c.tc : Thread Cert.Kernel15Ideal.nD Cert.Kernel15Ideal.τ).loc Cert.Kernel15Ideal.main_arg25) = m ((c.tc : Thread Cert.Kernel15Ideal.nD Cert.Kernel15Ideal.τ).loc Cert.Kernel15Ideal.main_arg25)
          ∧ r.2.mem ((c.tc : Thread Cert.Kernel15Ideal.nD Cert.Kernel15Ideal.τ).loc Cert.Kernel15Ideal.main_arg26) = m ((c.tc : Thread Cert.Kernel15Ideal.nD Cert.Kernel15Ideal.τ).loc Cert.Kernel15Ideal.main_arg26)
          ∧ r.2.mem ((c.tc : Thread Cert.Kernel15Ideal.nD Cert.Kernel15Ideal.τ).loc Cert.Kernel15Ideal.main_arg27) = m ((c.tc : Thread Cert.Kernel15Ideal.nD Cert.Kernel15Ideal.τ).loc Cert.Kernel15Ideal.main_arg27))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v226) = v0 c
          ∧ r.2.mem ((c.tc : Thread Cert.Reference15Ideal.nD Cert.Reference15Ideal.τ).loc Cert.Reference15Ideal.main_v1) = v1 c
          ∧ r.2.mem ((c.tc : Thread Cert.Reference15Ideal.nD Cert.Reference15Ideal.τ).loc Cert.Reference15Ideal.main_v26) = v2 c
          ∧ r.2.mem ((c.tc : Thread Cert.Reference15Ideal.nD Cert.Reference15Ideal.τ).loc Cert.Reference15Ideal.main_v51) = v3 c
          ∧ r.2.mem ((c.tc : Thread Cert.Reference15Ideal.nD Cert.Reference15Ideal.τ).loc Cert.Reference15Ideal.main_v76) = v4 c
          ∧ r.2.mem ((c.tc : Thread Cert.Reference15Ideal.nD Cert.Reference15Ideal.τ).loc Cert.Reference15Ideal.main_v101) = v5 c
          ∧ r.2.mem ((c.tc : Thread Cert.Reference15Ideal.nD Cert.Reference15Ideal.τ).loc Cert.Reference15Ideal.main_v126) = v6 c
          ∧ r.2.mem ((c.tc : Thread Cert.Reference15Ideal.nD Cert.Reference15Ideal.τ).loc Cert.Reference15Ideal.main_v151) = v7 c
          ∧ r.2.mem ((c.tc : Thread Cert.Reference15Ideal.nD Cert.Reference15Ideal.τ).loc Cert.Reference15Ideal.main_v176) = v8 c
          ∧ r.2.mem ((c.tc : Thread Cert.Reference15Ideal.nD Cert.Reference15Ideal.τ).loc Cert.Reference15Ideal.main_v201) = v9 c
          ∧ r.2.mem ((c.tc : Thread Cert.Reference15Ideal.nD Cert.Reference15Ideal.τ).loc Cert.Reference15Ideal.main_v25) = v10 c
          ∧ r.2.mem ((c.tc : Thread Cert.Reference15Ideal.nD Cert.Reference15Ideal.τ).loc Cert.Reference15Ideal.main_v50) = v11 c
          ∧ r.2.mem ((c.tc : Thread Cert.Reference15Ideal.nD Cert.Reference15Ideal.τ).loc Cert.Reference15Ideal.main_v75) = v12 c
          ∧ r.2.mem ((c.tc : Thread Cert.Reference15Ideal.nD Cert.Reference15Ideal.τ).loc Cert.Reference15Ideal.main_v100) = v13 c
          ∧ r.2.mem ((c.tc : Thread Cert.Reference15Ideal.nD Cert.Reference15Ideal.τ).loc Cert.Reference15Ideal.main_v125) = v14 c
          ∧ r.2.mem ((c.tc : Thread Cert.Reference15Ideal.nD Cert.Reference15Ideal.τ).loc Cert.Reference15Ideal.main_v150) = v15 c
          ∧ r.2.mem ((c.tc : Thread Cert.Reference15Ideal.nD Cert.Reference15Ideal.τ).loc Cert.Reference15Ideal.main_v175) = v16 c
          ∧ r.2.mem ((c.tc : Thread Cert.Reference15Ideal.nD Cert.Reference15Ideal.τ).loc Cert.Reference15Ideal.main_v200) = v17 c
          ∧ r.2.mem ((c.tc : Thread Cert.Reference15Ideal.nD Cert.Reference15Ideal.τ).loc Cert.Reference15Ideal.main_v225) = v18 c
          ∧ r.2.mem ((c.tc : Thread Cert.Reference15Ideal.nD Cert.Reference15Ideal.τ).loc Cert.Reference15Ideal.main_v6) = v19 c
          ∧ r.2.mem ((c.tc : Thread Cert.Reference15Ideal.nD Cert.Reference15Ideal.τ).loc Cert.Reference15Ideal.main_v31) = v20 c
          ∧ r.2.mem ((c.tc : Thread Cert.Reference15Ideal.nD Cert.Reference15Ideal.τ).loc Cert.Reference15Ideal.main_v56) = v21 c
          ∧ r.2.mem ((c.tc : Thread Cert.Reference15Ideal.nD Cert.Reference15Ideal.τ).loc Cert.Reference15Ideal.main_v81) = v22 c
          ∧ r.2.mem ((c.tc : Thread Cert.Reference15Ideal.nD Cert.Reference15Ideal.τ).loc Cert.Reference15Ideal.main_v106) = v23 c
          ∧ r.2.mem ((c.tc : Thread Cert.Reference15Ideal.nD Cert.Reference15Ideal.τ).loc Cert.Reference15Ideal.main_v131) = v24 c
          ∧ r.2.mem ((c.tc : Thread Cert.Reference15Ideal.nD Cert.Reference15Ideal.τ).loc Cert.Reference15Ideal.main_v156) = v25 c
          ∧ r.2.mem ((c.tc : Thread Cert.Reference15Ideal.nD Cert.Reference15Ideal.τ).loc Cert.Reference15Ideal.main_v181) = v26 c
          ∧ r.2.mem ((c.tc : Thread Cert.Reference15Ideal.nD Cert.Reference15Ideal.τ).loc Cert.Reference15Ideal.main_v206) = v27 c
          ∧ r.2.mem ((c.tc : Thread Cert.Reference15Ideal.nD Cert.Reference15Ideal.τ).loc Cert.Reference15Ideal.main_v12) = v28 c
          ∧ r.2.mem ((c.tc : Thread Cert.Reference15Ideal.nD Cert.Reference15Ideal.τ).loc Cert.Reference15Ideal.main_v37) = v29 c
          ∧ r.2.mem ((c.tc : Thread Cert.Reference15Ideal.nD Cert.Reference15Ideal.τ).loc Cert.Reference15Ideal.main_v62) = v30 c
          ∧ r.2.mem ((c.tc : Thread Cert.Reference15Ideal.nD Cert.Reference15Ideal.τ).loc Cert.Reference15Ideal.main_v87) = v31 c
          ∧ r.2.mem ((c.tc : Thread Cert.Reference15Ideal.nD Cert.Reference15Ideal.τ).loc Cert.Reference15Ideal.main_v112) = v32 c
          ∧ r.2.mem ((c.tc : Thread Cert.Reference15Ideal.nD Cert.Reference15Ideal.τ).loc Cert.Reference15Ideal.main_v137) = v33 c
          ∧ r.2.mem ((c.tc : Thread Cert.Reference15Ideal.nD Cert.Reference15Ideal.τ).loc Cert.Reference15Ideal.main_v162) = v34 c
          ∧ r.2.mem ((c.tc : Thread Cert.Reference15Ideal.nD Cert.Reference15Ideal.τ).loc Cert.Reference15Ideal.main_v187) = v35 c
          ∧ r.2.mem ((c.tc : Thread Cert.Reference15Ideal.nD Cert.Reference15Ideal.τ).loc Cert.Reference15Ideal.main_v212) = v36 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2)
          ∧ r.2.mem ((c.tc : Thread Cert.Reference15Ideal.nD Cert.Reference15Ideal.τ).loc Cert.Reference15Ideal.main_arg3) = m' ((c.tc : Thread Cert.Reference15Ideal.nD Cert.Reference15Ideal.τ).loc Cert.Reference15Ideal.main_arg3)
          ∧ r.2.mem ((c.tc : Thread Cert.Reference15Ideal.nD Cert.Reference15Ideal.τ).loc Cert.Reference15Ideal.main_arg4) = m' ((c.tc : Thread Cert.Reference15Ideal.nD Cert.Reference15Ideal.τ).loc Cert.Reference15Ideal.main_arg4)
          ∧ r.2.mem ((c.tc : Thread Cert.Reference15Ideal.nD Cert.Reference15Ideal.τ).loc Cert.Reference15Ideal.main_arg5) = m' ((c.tc : Thread Cert.Reference15Ideal.nD Cert.Reference15Ideal.τ).loc Cert.Reference15Ideal.main_arg5)
          ∧ r.2.mem ((c.tc : Thread Cert.Reference15Ideal.nD Cert.Reference15Ideal.τ).loc Cert.Reference15Ideal.main_arg6) = m' ((c.tc : Thread Cert.Reference15Ideal.nD Cert.Reference15Ideal.τ).loc Cert.Reference15Ideal.main_arg6)
          ∧ r.2.mem ((c.tc : Thread Cert.Reference15Ideal.nD Cert.Reference15Ideal.τ).loc Cert.Reference15Ideal.main_arg7) = m' ((c.tc : Thread Cert.Reference15Ideal.nD Cert.Reference15Ideal.τ).loc Cert.Reference15Ideal.main_arg7)
          ∧ r.2.mem ((c.tc : Thread Cert.Reference15Ideal.nD Cert.Reference15Ideal.τ).loc Cert.Reference15Ideal.main_arg8) = m' ((c.tc : Thread Cert.Reference15Ideal.nD Cert.Reference15Ideal.τ).loc Cert.Reference15Ideal.main_arg8)
          ∧ r.2.mem ((c.tc : Thread Cert.Reference15Ideal.nD Cert.Reference15Ideal.τ).loc Cert.Reference15Ideal.main_arg9) = m' ((c.tc : Thread Cert.Reference15Ideal.nD Cert.Reference15Ideal.τ).loc Cert.Reference15Ideal.main_arg9)
          ∧ r.2.mem ((c.tc : Thread Cert.Reference15Ideal.nD Cert.Reference15Ideal.τ).loc Cert.Reference15Ideal.main_arg10) = m' ((c.tc : Thread Cert.Reference15Ideal.nD Cert.Reference15Ideal.τ).loc Cert.Reference15Ideal.main_arg10)
          ∧ r.2.mem ((c.tc : Thread Cert.Reference15Ideal.nD Cert.Reference15Ideal.τ).loc Cert.Reference15Ideal.main_arg11) = m' ((c.tc : Thread Cert.Reference15Ideal.nD Cert.Reference15Ideal.τ).loc Cert.Reference15Ideal.main_arg11)
          ∧ r.2.mem ((c.tc : Thread Cert.Reference15Ideal.nD Cert.Reference15Ideal.τ).loc Cert.Reference15Ideal.main_arg12) = m' ((c.tc : Thread Cert.Reference15Ideal.nD Cert.Reference15Ideal.τ).loc Cert.Reference15Ideal.main_arg12)
          ∧ r.2.mem ((c.tc : Thread Cert.Reference15Ideal.nD Cert.Reference15Ideal.τ).loc Cert.Reference15Ideal.main_arg13) = m' ((c.tc : Thread Cert.Reference15Ideal.nD Cert.Reference15Ideal.τ).loc Cert.Reference15Ideal.main_arg13)
          ∧ r.2.mem ((c.tc : Thread Cert.Reference15Ideal.nD Cert.Reference15Ideal.τ).loc Cert.Reference15Ideal.main_arg14) = m' ((c.tc : Thread Cert.Reference15Ideal.nD Cert.Reference15Ideal.τ).loc Cert.Reference15Ideal.main_arg14)
          ∧ r.2.mem ((c.tc : Thread Cert.Reference15Ideal.nD Cert.Reference15Ideal.τ).loc Cert.Reference15Ideal.main_arg15) = m' ((c.tc : Thread Cert.Reference15Ideal.nD Cert.Reference15Ideal.τ).loc Cert.Reference15Ideal.main_arg15)
          ∧ r.2.mem ((c.tc : Thread Cert.Reference15Ideal.nD Cert.Reference15Ideal.τ).loc Cert.Reference15Ideal.main_arg16) = m' ((c.tc : Thread Cert.Reference15Ideal.nD Cert.Reference15Ideal.τ).loc Cert.Reference15Ideal.main_arg16)
          ∧ r.2.mem ((c.tc : Thread Cert.Reference15Ideal.nD Cert.Reference15Ideal.τ).loc Cert.Reference15Ideal.main_arg17) = m' ((c.tc : Thread Cert.Reference15Ideal.nD Cert.Reference15Ideal.τ).loc Cert.Reference15Ideal.main_arg17)
          ∧ r.2.mem ((c.tc : Thread Cert.Reference15Ideal.nD Cert.Reference15Ideal.τ).loc Cert.Reference15Ideal.main_arg18) = m' ((c.tc : Thread Cert.Reference15Ideal.nD Cert.Reference15Ideal.τ).loc Cert.Reference15Ideal.main_arg18)
          ∧ r.2.mem ((c.tc : Thread Cert.Reference15Ideal.nD Cert.Reference15Ideal.τ).loc Cert.Reference15Ideal.main_arg19) = m' ((c.tc : Thread Cert.Reference15Ideal.nD Cert.Reference15Ideal.τ).loc Cert.Reference15Ideal.main_arg19)
          ∧ r.2.mem ((c.tc : Thread Cert.Reference15Ideal.nD Cert.Reference15Ideal.τ).loc Cert.Reference15Ideal.main_arg20) = m' ((c.tc : Thread Cert.Reference15Ideal.nD Cert.Reference15Ideal.τ).loc Cert.Reference15Ideal.main_arg20)
          ∧ r.2.mem ((c.tc : Thread Cert.Reference15Ideal.nD Cert.Reference15Ideal.τ).loc Cert.Reference15Ideal.main_arg21) = m' ((c.tc : Thread Cert.Reference15Ideal.nD Cert.Reference15Ideal.τ).loc Cert.Reference15Ideal.main_arg21)
          ∧ r.2.mem ((c.tc : Thread Cert.Reference15Ideal.nD Cert.Reference15Ideal.τ).loc Cert.Reference15Ideal.main_arg22) = m' ((c.tc : Thread Cert.Reference15Ideal.nD Cert.Reference15Ideal.τ).loc Cert.Reference15Ideal.main_arg22)
          ∧ r.2.mem ((c.tc : Thread Cert.Reference15Ideal.nD Cert.Reference15Ideal.τ).loc Cert.Reference15Ideal.main_arg23) = m' ((c.tc : Thread Cert.Reference15Ideal.nD Cert.Reference15Ideal.τ).loc Cert.Reference15Ideal.main_arg23)
          ∧ r.2.mem ((c.tc : Thread Cert.Reference15Ideal.nD Cert.Reference15Ideal.τ).loc Cert.Reference15Ideal.main_arg24) = m' ((c.tc : Thread Cert.Reference15Ideal.nD Cert.Reference15Ideal.τ).loc Cert.Reference15Ideal.main_arg24)
          ∧ r.2.mem ((c.tc : Thread Cert.Reference15Ideal.nD Cert.Reference15Ideal.τ).loc Cert.Reference15Ideal.main_arg25) = m' ((c.tc : Thread Cert.Reference15Ideal.nD Cert.Reference15Ideal.τ).loc Cert.Reference15Ideal.main_arg25)
          ∧ r.2.mem ((c.tc : Thread Cert.Reference15Ideal.nD Cert.Reference15Ideal.τ).loc Cert.Reference15Ideal.main_arg26) = m' ((c.tc : Thread Cert.Reference15Ideal.nD Cert.Reference15Ideal.τ).loc Cert.Reference15Ideal.main_arg26)
          ∧ r.2.mem ((c.tc : Thread Cert.Reference15Ideal.nD Cert.Reference15Ideal.τ).loc Cert.Reference15Ideal.main_arg27) = m' ((c.tc : Thread Cert.Reference15Ideal.nD Cert.Reference15Ideal.τ).loc Cert.Reference15Ideal.main_arg27))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
-- ==== Kernel.lean ====
abbrev S4096x512 : Shape := ⟨2, ![4096, 512]⟩
abbrev S4x4096x64 : Shape := ⟨3, ![4, 4096, 64]⟩
abbrev S4x64x1x128 : Shape := ⟨4, ![4, 64, 1, 128]⟩
abbrev S4x64x128x128 : Shape := ⟨4, ![4, 64, 128, 128]⟩
abbrev S1024x512 : Shape := ⟨2, ![1024, 512]⟩
abbrev S4x1024x64 : Shape := ⟨3, ![4, 1024, 64]⟩
abbrev S4x16x1x128 : Shape := ⟨4, ![4, 16, 1, 128]⟩
abbrev S4x16x128x128 : Shape := ⟨4, ![4, 16, 128, 128]⟩
abbrev S4x128x128 : Shape := ⟨3, ![4, 128, 128]⟩
abbrev S4x1x128x128 : Shape := ⟨4, ![4, 1, 128, 128]⟩
abbrev S64x128 : Shape := ⟨2, ![64, 128]⟩
abbrev S1x64x128 : Shape := ⟨3, ![1, 64, 128]⟩
abbrev S4x64x128 : Shape := ⟨3, ![4, 64, 128]⟩
abbrev S4x64x64 : Shape := ⟨3, ![4, 64, 64]⟩
abbrev S4x1x1x128 : Shape := ⟨4, ![4, 1, 1, 128]⟩
abbrev S4x1x128 : Shape := ⟨3, ![4, 1, 128]⟩
abbrev S4x128x64 : Shape := ⟨3, ![4, 128, 64]⟩
abbrev S4x128 : Shape := ⟨2, ![4, 128]⟩

abbrev nBuf : Space → Nat
  | .hbm => 14
  | .vmem => 29
  | .smem => 0
  | _ => 0

abbrev bufTy : (tb : Table) → Fin (tcTables nBuf tb) → BufTy
  | .hbm, ⟨0, _⟩ => ⟨S4096x512, .f32⟩
  | .hbm, ⟨1, _⟩ => ⟨S4096x512, .f32⟩
  | .hbm, ⟨2, _⟩ => ⟨S4096x512, .f32⟩
  | .hbm, ⟨3, _⟩ => ⟨S4096x512, .f32⟩
  | .hbm, ⟨4, _⟩ => ⟨S4x4096x64, .f32⟩
  | .hbm, ⟨5, _⟩ => ⟨S4x64x1x128, .f32⟩
  | .hbm, ⟨6, _⟩ => ⟨S4x64x128x128, .f32⟩
  | .hbm, ⟨7, _⟩ => ⟨S4096x512, .f32⟩
  | .hbm, ⟨8, _⟩ => ⟨S4096x512, .f32⟩
  | .hbm, ⟨9, _⟩ => ⟨S4096x512, .f32⟩
  | .hbm, ⟨10, _⟩ => ⟨S4096x512, .f32⟩
  | .hbm, ⟨11, _⟩ => ⟨S4096x512, .f32⟩
  | .hbm, ⟨12, _⟩ => ⟨S4x4096x64, .f32⟩
  | .hbm, ⟨13, _⟩ => ⟨S4x64x1x128, .f32⟩
  | .local _ .vmem, ⟨0, _⟩ => ⟨S1024x512, .f32⟩
  | .local _ .vmem, ⟨1, _⟩ => ⟨S1024x512, .f32⟩
  | .local _ .vmem, ⟨2, _⟩ => ⟨S1024x512, .f32⟩
  | .local _ .vmem, ⟨3, _⟩ => ⟨S1024x512, .f32⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | .local _ .vmem, ⟨8, _⟩ => ⟨S4x1024x64, .f32⟩
  | .local _ .vmem, ⟨9, _⟩ => ⟨S4x1024x64, .f32⟩
  | .local _ .vmem, ⟨10, _⟩ => ⟨S4x16x1x128, .f32⟩
  | .local _ .vmem, ⟨11, _⟩ => ⟨S4x16x1x128, .f32⟩
  | .local _ .vmem, ⟨12, _⟩ => ⟨S4x16x128x128, .f32⟩
  | .local _ .vmem, ⟨13, _⟩ => ⟨S4x16x128x128, .f32⟩
  | .local _ .vmem, ⟨14, _⟩ => ⟨S1024x512, .f32⟩
  | .local _ .vmem, ⟨15, _⟩ => ⟨S1024x512, .f32⟩
  | .local _ .vmem, ⟨16, _⟩ => ⟨S1024x512, .f32⟩
  | .local _ .vmem, ⟨17, _⟩ => ⟨S1024x512, .f32⟩
  | .local _ .vmem, ⟨18, _⟩ => ⟨S1024x512, .f32⟩
  | .local _ .vmem, ⟨19, _⟩ => ⟨S1024x512, .f32⟩
  | .local _ .vmem, ⟨20, _⟩ => ⟨S1024x512, .f32⟩
  | .local _ .vmem, ⟨21, _⟩ => ⟨S1024x512, .f32⟩
  | .local _ .vmem, ⟨22, _⟩ => ⟨S1024x512, .f32⟩
  | .local _ .vmem, ⟨23, _⟩ => ⟨S1024x512, .f32⟩
  | .local _ .vmem, ⟨24, _⟩ => ⟨S4x1024x64, .f32⟩
  | .local _ .vmem, ⟨25, _⟩ => ⟨S4x1024x64, .f32⟩
  | .local _ .vmem, ⟨26, _⟩ => ⟨S4x16x1x128, .f32⟩
  | .local _ .vmem, ⟨27, _⟩ => ⟨S4x16x1x128, .f32⟩
  | .local _ .vmem, ⟨28, _⟩ => ⟨S4x128x128, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev main_v0_4 : Ref sig .tc := ⟨.hbm, 12, rfl⟩
abbrev main_v0_5 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_scratch0 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c3_i32 : BitVec 32 := 3#32
  let v0 : BitVec 32 := Scalar.subi c3_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c3_i32 : BitVec 32 := 3#32
  let v0 : BitVec 32 := Scalar.subi c3_i32 arg0
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c3_i32 : BitVec 32 := 3#32
  let v0 : BitVec 32 := Scalar.subi c3_i32 arg0
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c3_i32 : BitVec 32 := 3#32
  let v0 : BitVec 32 := Scalar.subi c3_i32 arg0
  let c0_i32 : BitVec 32 := 0#32
  let c0_i32_0 : BitVec 32 := 0#32
  ![v0.toNat, c0_i32.toNat]

def cc0_transform_4 (i : grid0.Coords) : Fin 3 → Nat :=
  let arg0 : BitVec 32 := BitVec.ofNat 32 (i 0).val
  let c3_i32 : BitVec 32 := 3#32
  let v0 : BitVec 32 := Scalar.subi c3_i32 arg0
  let c0_i32 : BitVec 32 := 0#32
  let c0_i32_0 : BitVec 32 := 0#32
  let c0_i32_1 : BitVec 32 := 0#32
  ![c0_i32.toNat, v0.toNat, c0_i32_0.toNat]

def cc0_transform_5 (i : grid0.Coords) : Fin 4 → Nat :=
  let arg0 : BitVec 32 := BitVec.ofNat 32 (i 0).val
  let c3_i32 : BitVec 32 := 3#32
  let v0 : BitVec 32 := Scalar.subi c3_i32 arg0
  let c0_i32 : BitVec 32 := 0#32
  let c0_i32_0 : BitVec 32 := 0#32
  let c0_i32_1 : BitVec 32 := 0#32
  let c0_i32_2 : BitVec 32 := 0#32
  ![c0_i32.toNat, v0.toNat, c0_i32_0.toNat, c0_i32_1.toNat]

def cc0_transform_6 (i : grid0.Coords) : Fin 4 → Nat :=
  let arg0 : BitVec 32 := BitVec.ofNat 32 (i 0).val
  let c3_i32 : BitVec 32 := 3#32
  let v0 : BitVec 32 := Scalar.subi c3_i32 arg0
  let c0_i32 : BitVec 32 := 0#32
  let c0_i32_0 : BitVec 32 := 0#32
  let c0_i32_1 : BitVec 32 := 0#32
  let c0_i32_2 : BitVec 32 := 0#32
  ![c0_i32.toNat, v0.toNat, c0_i32_0.toNat, c0_i32_1.toNat]

def cc0_transform_7 (i : grid0.Coords) : Fin 2 → Nat :=
  let arg0 : BitVec 32 := BitVec.ofNat 32 (i 0).val
  let c3_i32 : BitVec 32 := 3#32
  let v0 : BitVec 32 := Scalar.subi c3_i32 arg0
  let c0_i32 : BitVec 32 := 0#32
  let c0_i32_0 : BitVec 32 := 0#32
  ![v0.toNat, c0_i32.toNat]

def cc0_transform_8 (i : grid0.Coords) : Fin 2 → Nat :=
  let arg0 : BitVec 32 := BitVec.ofNat 32 (i 0).val
  let c3_i32 : BitVec 32 := 3#32
  let v0 : BitVec 32 := Scalar.subi c3_i32 arg0
  let c0_i32 : BitVec 32 := 0#32
  let c0_i32_0 : BitVec 32 := 0#32
  ![v0.toNat, c0_i32.toNat]

def cc0_transform_9 (i : grid0.Coords) : Fin 2 → Nat :=
  let arg0 : BitVec 32 := BitVec.ofNat 32 (i 0).val
  let c3_i32 : BitVec 32 := 3#32
  let v0 : BitVec 32 := Scalar.subi c3_i32 arg0
  let c0_i32 : BitVec 32 := 0#32
  let c0_i32_0 : BitVec 32 := 0#32
  ![v0.toNat, c0_i32.toNat]

def cc0_transform_10 (i : grid0.Coords) : Fin 2 → Nat :=
  let arg0 : BitVec 32 := BitVec.ofNat 32 (i 0).val
  let c3_i32 : BitVec 32 := 3#32
  let v0 : BitVec 32 := Scalar.subi c3_i32 arg0
  let c0_i32 : BitVec 32 := 0#32
  let c0_i32_0 : BitVec 32 := 0#32
  ![v0.toNat, c0_i32.toNat]

def cc0_transform_11 (i : grid0.Coords) : Fin 2 → Nat :=
  let arg0 : BitVec 32 := BitVec.ofNat 32 (i 0).val
  let c3_i32 : BitVec 32 := 3#32
  let v0 : BitVec 32 := Scalar.subi c3_i32 arg0
  let c0_i32 : BitVec 32 := 0#32
  let c0_i32_0 : BitVec 32 := 0#32
  ![v0.toNat, c0_i32.toNat]

def cc0_transform_12 (i : grid0.Coords) : Fin 3 → Nat :=
  let arg0 : BitVec 32 := BitVec.ofNat 32 (i 0).val
  let c3_i32 : BitVec 32 := 3#32
  let v0 : BitVec 32 := Scalar.subi c3_i32 arg0
  let c0_i32 : BitVec 32 := 0#32
  let c0_i32_0 : BitVec 32 := 0#32
  let c0_i32_1 : BitVec 32 := 0#32
  ![c0_i32.toNat, v0.toNat, c0_i32_0.toNat]

def cc0_transform_13 (i : grid0.Coords) : Fin 4 → Nat :=
  let arg0 : BitVec 32 := BitVec.ofNat 32 (i 0).val
  let c3_i32 : BitVec 32 := 3#32
  let v0 : BitVec 32 := Scalar.subi c3_i32 arg0
  let c0_i32 : BitVec 32 := 0#32
  let c0_i32_0 : BitVec 32 := 0#32
  let c0_i32_1 : BitVec 32 := 0#32
  let c0_i32_2 : BitVec 32 := 0#32
  ![c0_i32.toNat, v0.toNat, c0_i32_0.toNat, c0_i32_1.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4x1024x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S4x16x1x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S4x16x128x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1024x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1024x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1024x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1024x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S4x1024x64 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S4x16x1x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== ReferenceIdeal.lean ====
abbrev S4096x512 : Shape := ⟨2, ![4096, 512]⟩
abbrev S4x4096x64 : Shape := ⟨3, ![4, 4096, 64]⟩
abbrev S4x64x1x128 : Shape := ⟨4, ![4, 64, 1, 128]⟩
abbrev S4x64x128x128 : Shape := ⟨4, ![4, 64, 128, 128]⟩
abbrev S64x4x128x128 : Shape := ⟨4, ![64, 4, 128, 128]⟩
abbrev S64x64x4x128 : Shape := ⟨4, ![64, 64, 4, 128]⟩
abbrev S64x4x64x128 : Shape := ⟨4, ![64, 4, 64, 128]⟩
abbrev S4x64x64x64 : Shape := ⟨4, ![4, 64, 64, 64]⟩
abbrev S64x4x64x64 : Shape := ⟨4, ![64, 4, 64, 64]⟩
abbrev S64x4x1x128 : Shape := ⟨4, ![64, 4, 1, 128]⟩
abbrev S_ : Shape := ⟨0, ![]⟩
abbrev S4x128x128 : Shape := ⟨3, ![4, 128, 128]⟩
abbrev S1x4x128x128 : Shape := ⟨4, ![1, 4, 128, 128]⟩
abbrev S1x4x64x128 : Shape := ⟨4, ![1, 4, 64, 128]⟩
abbrev S4x64x128 : Shape := ⟨3, ![4, 64, 128]⟩
abbrev S1x4x64x64 : Shape := ⟨4, ![1, 4, 64, 64]⟩
abbrev S4x64x64 : Shape := ⟨3, ![4, 64, 64]⟩
abbrev S1x4x1x128 : Shape := ⟨4, ![1, 4, 1, 128]⟩
abbrev S4x1x128 : Shape := ⟨3, ![4, 1, 128]⟩
abbrev S4x128x64 : Shape := ⟨3, ![4, 128, 64]⟩
abbrev S4x128 : Shape := ⟨2, ![4, 128]⟩

abbrev nBuf : Space → Nat
  | .hbm => 174
  | .vmem => 0
  | .smem => 0
  | _ => 0

abbrev hbmTy0_0 (i : Nat) : BufTy := match i % 128 with
  | 0 => ⟨S4096x512, .f32⟩
  | 1 => ⟨S4096x512, .f32⟩
  | 2 => ⟨S4096x512, .f32⟩
  | 3 => ⟨S4096x512, .f32⟩
  | 4 => ⟨S4x4096x64, .f32⟩
  | 5 => ⟨S4x64x1x128, .f32⟩
  | 6 => ⟨S4x64x128x128, .f32⟩
  | 7 => ⟨S4096x512, .f32⟩
  | 8 => ⟨S64x4x128x128, .f32⟩
  | 9 => ⟨S64x64x4x128, .f32⟩
  | 10 => ⟨S64x4x64x128, .f32⟩
  | 11 => ⟨S64x64x4x128, .f32⟩
  | 12 => ⟨S64x4x64x128, .f32⟩
  | 13 => ⟨S64x64x4x128, .f32⟩
  | 14 => ⟨S64x4x64x128, .f32⟩
  | 15 => ⟨S64x64x4x128, .f32⟩
  | 16 => ⟨S64x4x64x128, .f32⟩
  | 17 => ⟨S4x64x64x64, .f32⟩
  | 18 => ⟨S64x4x64x64, .f32⟩
  | 19 => ⟨S64x4x1x128, .f32⟩
  | 20 => ⟨S_, .f32⟩
  | 21 => ⟨S4x128x128, .f32⟩
  | 22 => ⟨S64x64x4x128, .f32⟩
  | 23 => ⟨S64x4x64x128, .f32⟩
  | 24 => ⟨S_, .f32⟩
  | 25 => ⟨S64x4x64x128, .f32⟩
  | 26 => ⟨S_, .f32⟩
  | 27 => ⟨S64x4x64x128, .f32⟩
  | 28 => ⟨S_, .f32⟩
  | 29 => ⟨S64x4x64x128, .f32⟩
  | 30 => ⟨S_, .f32⟩
  | 31 => ⟨S64x4x64x128, .f32⟩
  | 32 => ⟨S_, .f32⟩
  | 33 => ⟨S64x4x64x64, .f32⟩
  | 34 => ⟨S_, .f32⟩
  | 35 => ⟨S64x4x1x128, .f32⟩
  | 36 => ⟨S_, .i32⟩
  | 37 => ⟨S64x4x128x128, .f32⟩
  | 38 => ⟨S64x4x64x128, .f32⟩
  | 39 => ⟨S64x4x64x128, .f32⟩
  | 40 => ⟨S64x4x64x128, .f32⟩
  | 41 => ⟨S64x4x64x128, .f32⟩
  | 42 => ⟨S64x4x64x64, .f32⟩
  | 43 => ⟨S64x4x1x128, .f32⟩
  | 44 => ⟨S64x4x64x128, .f32⟩
  | 45 => ⟨S_, .i32⟩
  | 46 => ⟨S4x128x128, .f32⟩
  | 47 => ⟨S64x4x64x128, .f32⟩
  | 48 => ⟨S64x4x64x128, .f32⟩
  | 49 => ⟨S64x4x64x128, .f32⟩
  | 50 => ⟨S64x4x64x128, .f32⟩
  | 51 => ⟨S64x4x64x64, .f32⟩
  | 52 => ⟨S64x4x1x128, .f32⟩
  | 53 => ⟨S_, .i32⟩
  | 54 => ⟨S_, .i1⟩
  | 55 => ⟨S_, .i32⟩
  | 56 => ⟨S_, .i32⟩
  | 57 => ⟨S_, .i32⟩
  | 58 => ⟨S_, .i32⟩
  | 59 => ⟨S_, .i32⟩
  | 60 => ⟨S_, .i32⟩
  | 61 => ⟨S_, .i32⟩
  | 62 => ⟨S1x4x128x128, .f32⟩
  | 63 => ⟨S4x128x128, .f32⟩
  | 64 => ⟨S_, .i32⟩
  | 65 => ⟨S_, .i32⟩
  | 66 => ⟨S_, .i32⟩
  | 67 => ⟨S1x4x64x128, .f32⟩
  | 68 => ⟨S4x64x128, .f32⟩
  | 69 => ⟨S_, .i32⟩
  | 70 => ⟨S_, .i32⟩
  | 71 => ⟨S_, .i32⟩
  | 72 => ⟨S1x4x64x128, .f32⟩
  | 73 => ⟨S4x64x128, .f32⟩
  | 74 => ⟨S_, .i32⟩
  | 75 => ⟨S_, .i32⟩
  | 76 => ⟨S_, .i32⟩
  | 77 => ⟨S1x4x64x128, .f32⟩
  | 78 => ⟨S4x64x128, .f32⟩
  | 79 => ⟨S_, .i32⟩
  | 80 => ⟨S_, .i32⟩
  | 81 => ⟨S_, .i32⟩
  | 82 => ⟨S1x4x64x128, .f32⟩
  | 83 => ⟨S4x64x128, .f32⟩
  | 84 => ⟨S_, .i32⟩
  | 85 => ⟨S_, .i32⟩
  | 86 => ⟨S_, .i32⟩
  | 87 => ⟨S1x4x64x64, .f32⟩
  | 88 => ⟨S4x64x64, .f32⟩
  | 89 => ⟨S_, .i32⟩
  | 90 => ⟨S_, .i32⟩
  | 91 => ⟨S_, .i32⟩
  | 92 => ⟨S1x4x1x128, .f32⟩
  | 93 => ⟨S4x1x128, .f32⟩
  | 94 => ⟨S_, .i32⟩
  | 95 => ⟨S_, .i32⟩
  | 96 => ⟨S_, .i32⟩
  | 97 => ⟨S1x4x64x128, .f32⟩
  | 98 => ⟨S4x64x128, .f32⟩
  | 99 => ⟨S4x64x128, .f32⟩
  | 100 => ⟨S4x64x128, .f32⟩
  | 101 => ⟨S4x64x128, .f32⟩
  | 102 => ⟨S4x64x128, .f32⟩
  | 103 => ⟨S4x64x128, .f32⟩
  | 104 => ⟨S4x128x128, .f32⟩
  | 105 => ⟨S4x128x128, .f32⟩
  | 106 => ⟨S4x128x128, .f32⟩
  | 107 => ⟨S4x128x128, .f32⟩
  | 108 => ⟨S4x128x64, .f32⟩
  | 109 => ⟨S4x64x128, .f32⟩
  | 110 => ⟨S4x128x64, .f32⟩
  | 111 => ⟨S4x64x128, .f32⟩
  | 112 => ⟨S4x128x128, .f32⟩
  | 113 => ⟨S_, .f32⟩
  | 114 => ⟨S4x128, .f32⟩
  | 115 => ⟨S4x1x128, .f32⟩
  | 116 => ⟨S4x128x128, .f32⟩
  | 117 => ⟨S4x128x128, .f32⟩
  | 118 => ⟨S4x128x64, .f32⟩
  | 119 => ⟨S4x64x128, .f32⟩
  | 120 => ⟨S4x64x128, .f32⟩
  | 121 => ⟨S4x64x64, .f32⟩
  | 122 => ⟨S4x128x128, .f32⟩
  | 123 => ⟨S4x128x128, .f32⟩
  | 124 => ⟨S4x128x128, .f32⟩
  | 125 => ⟨S4x64x128, .f32⟩
  | 126 => ⟨S4x64x128, .f32⟩
  | 127 => ⟨S4x128x128, .f32⟩
  | _ => ⟨S4096x512, .f32⟩

abbrev hbmTy0_1 (i : Nat) : BufTy := match i % 128 with
  | 0 => ⟨S4x128x128, .f32⟩
  | 1 => ⟨S4x128x128, .f32⟩
  | 2 => ⟨S4x64x128, .f32⟩
  | 3 => ⟨S1x4x64x128, .f32⟩
  | 4 => ⟨S_, .i32⟩
  | 5 => ⟨S_, .i32⟩
  | 6 => ⟨S_, .i32⟩
  | 7 => ⟨S64x4x64x128, .f32⟩
  | 8 => ⟨S1x4x64x128, .f32⟩
  | 9 => ⟨S_, .i32⟩
  | 10 => ⟨S_, .i32⟩
  | 11 => ⟨S_, .i32⟩
  | 12 => ⟨S64x4x64x128, .f32⟩
  | 13 => ⟨S1x4x64x128, .f32⟩
  | 14 => ⟨S_, .i32⟩
  | 15 => ⟨S_, .i32⟩
  | 16 => ⟨S_, .i32⟩
  | 17 => ⟨S64x4x64x128, .f32⟩
  | 18 => ⟨S1x4x64x128, .f32⟩
  | 19 => ⟨S_, .i32⟩
  | 20 => ⟨S_, .i32⟩
  | 21 => ⟨S_, .i32⟩
  | 22 => ⟨S64x4x64x128, .f32⟩
  | 23 => ⟨S1x4x64x64, .f32⟩
  | 24 => ⟨S_, .i32⟩
  | 25 => ⟨S_, .i32⟩
  | 26 => ⟨S_, .i32⟩
  | 27 => ⟨S64x4x64x64, .f32⟩
  | 28 => ⟨S1x4x1x128, .f32⟩
  | 29 => ⟨S_, .i32⟩
  | 30 => ⟨S_, .i32⟩
  | 31 => ⟨S_, .i32⟩
  | 32 => ⟨S64x4x1x128, .f32⟩
  | 33 => ⟨S_, .i32⟩
  | 34 => ⟨S_, .i32⟩
  | 35 => ⟨S64x64x4x128, .f32⟩
  | 36 => ⟨S4096x512, .f32⟩
  | 37 => ⟨S64x64x4x128, .f32⟩
  | 38 => ⟨S4096x512, .f32⟩
  | 39 => ⟨S64x64x4x128, .f32⟩
  | 40 => ⟨S4096x512, .f32⟩
  | 41 => ⟨S64x64x4x128, .f32⟩
  | 42 => ⟨S4096x512, .f32⟩
  | 43 => ⟨S4x64x64x64, .f32⟩
  | 44 => ⟨S4x4096x64, .f32⟩
  | 45 => ⟨S4x64x1x128, .f32⟩
  | _ => ⟨S4096x512, .f32⟩

abbrev hbmTy (i : Nat) : BufTy := match i / 128 with
  | 0 => hbmTy0_0 i
  | 1 => hbmTy0_1 i
  | _ => ⟨S4096x512, .f32⟩

abbrev bufTy : (tb : Table) → Fin (tcTables nBuf tb) → BufTy
  | .hbm, ⟨i, _⟩ => hbmTy i
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_0 : Ref sig .tc := ⟨.hbm, 24, rfl⟩
abbrev main_v15 : Ref sig .tc := ⟨.hbm, 25, rfl⟩
abbrev main_cst_1 : Ref sig .tc := ⟨.hbm, 26, rfl⟩
abbrev main_v16 : Ref sig .tc := ⟨.hbm, 27, rfl⟩
abbrev main_cst_2 : Ref sig .tc := ⟨.hbm, 28, rfl⟩
abbrev main_v17 : Ref sig .tc := ⟨.hbm, 29, rfl⟩
abbrev main_cst_3 : Ref sig .tc := ⟨.hbm, 30, rfl⟩
abbrev main_v18 : Ref sig .tc := ⟨.hbm, 31, rfl⟩
abbrev main_cst_4 : Ref sig .tc := ⟨.hbm, 32, rfl⟩
abbrev main_v19 : Ref sig .tc := ⟨.hbm, 33, rfl⟩
abbrev main_cst_5 : Ref sig .tc := ⟨.hbm, 34, rfl⟩
abbrev main_v20 : Ref sig .tc := ⟨.hbm, 35, rfl⟩
abbrev main_c : Ref sig .tc := ⟨.hbm, 36, rfl⟩
abbrev main_v21_0 : Ref sig .tc := ⟨.hbm, 37, rfl⟩
abbrev main_v21_1 : Ref sig .tc := ⟨.hbm, 38, rfl⟩
abbrev main_v21_2 : Ref sig .tc := ⟨.hbm, 39, rfl⟩
abbrev main_v21_3 : Ref sig .tc := ⟨.hbm, 40, rfl⟩
abbrev main_v21_4 : Ref sig .tc := ⟨.hbm, 41, rfl⟩
abbrev main_v21_5 : Ref sig .tc := ⟨.hbm, 42, rfl⟩
abbrev main_v21_6 : Ref sig .tc := ⟨.hbm, 43, rfl⟩
abbrev main_v21_7 : Ref sig .tc := ⟨.hbm, 44, rfl⟩
abbrev main_v21_8 : Ref sig .tc := ⟨.hbm, 45, rfl⟩
abbrev main_v21_9 : Ref sig .tc := ⟨.hbm, 46, rfl⟩
abbrev main_v21_10 : Ref sig .tc := ⟨.hbm, 47, rfl⟩
abbrev main_v21_11 : Ref sig .tc := ⟨.hbm, 48, rfl⟩
abbrev main_v21_12 : Ref sig .tc := ⟨.hbm, 49, rfl⟩
abbrev main_v21_13 : Ref sig .tc := ⟨.hbm, 50, rfl⟩
abbrev main_v21_14 : Ref sig .tc := ⟨.hbm, 51, rfl⟩
abbrev main_v21_15 : Ref sig .tc := ⟨.hbm, 52, rfl⟩
abbrev main_while0c_c_21 : Ref sig .tc := ⟨.hbm, 53, rfl⟩
abbrev main_while0c_v33 : Ref sig .tc := ⟨.hbm, 54, rfl⟩
abbrev main_while0b_c_21 : Ref sig .tc := ⟨.hbm, 55, rfl⟩
abbrev main_while0b_v33 : Ref sig .tc := ⟨.hbm, 56, rfl⟩
abbrev main_while0b_c_22 : Ref sig .tc := ⟨.hbm, 57, rfl⟩
abbrev main_while0b_v34 : Ref sig .tc := ⟨.hbm, 58, rfl⟩
abbrev main_while0b_call0_c : Ref sig .tc := ⟨.hbm, 59, rfl⟩
abbrev main_while0b_call0_c_0 : Ref sig .tc := ⟨.hbm, 60, rfl⟩
abbrev main_while0b_call0_c_1 : Ref sig .tc := ⟨.hbm, 61, rfl⟩
abbrev main_while0b_call0_v0 : Ref sig .tc := ⟨.hbm, 62, rfl⟩
abbrev main_while0b_v35 : Ref sig .tc := ⟨.hbm, 63, rfl⟩
abbrev main_while0b_call1_c : Ref sig .tc := ⟨.hbm, 64, rfl⟩
abbrev main_while0b_call1_c_0 : Ref sig .tc := ⟨.hbm, 65, rfl⟩
abbrev main_while0b_call1_c_1 : Ref sig .tc := ⟨.hbm, 66, rfl⟩
abbrev main_while0b_call1_v0 : Ref sig .tc := ⟨.hbm, 67, rfl⟩
abbrev main_while0b_v36 : Ref sig .tc := ⟨.hbm, 68, rfl⟩
abbrev main_while0b_call2_c : Ref sig .tc := ⟨.hbm, 69, rfl⟩
abbrev main_while0b_call2_c_0 : Ref sig .tc := ⟨.hbm, 70, rfl⟩
abbrev main_while0b_call2_c_1 : Ref sig .tc := ⟨.hbm, 71, rfl⟩
abbrev main_while0b_call2_v0 : Ref sig .tc := ⟨.hbm, 72, rfl⟩
abbrev main_while0b_v37 : Ref sig .tc := ⟨.hbm, 73, rfl⟩
abbrev main_while0b_call3_c : Ref sig .tc := ⟨.hbm, 74, rfl⟩
abbrev main_while0b_call3_c_0 : Ref sig .tc := ⟨.hbm, 75, rfl⟩
abbrev main_while0b_call3_c_1 : Ref sig .tc := ⟨.hbm, 76, rfl⟩
abbrev main_while0b_call3_v0 : Ref sig .tc := ⟨.hbm, 77, rfl⟩
abbrev main_while0b_v38 : Ref sig .tc := ⟨.hbm, 78, rfl⟩
abbrev main_while0b_call4_c : Ref sig .tc := ⟨.hbm, 79, rfl⟩
abbrev main_while0b_call4_c_0 : Ref sig .tc := ⟨.hbm, 80, rfl⟩
abbrev main_while0b_call4_c_1 : Ref sig .tc := ⟨.hbm, 81, rfl⟩
abbrev main_while0b_call4_v0 : Ref sig .tc := ⟨.hbm, 82, rfl⟩
abbrev main_while0b_v39 : Ref sig .tc := ⟨.hbm, 83, rfl⟩
abbrev main_while0b_call5_c : Ref sig .tc := ⟨.hbm, 84, rfl⟩
abbrev main_while0b_call5_c_0 : Ref sig .tc := ⟨.hbm, 85, rfl⟩
abbrev main_while0b_call5_c_1 : Ref sig .tc := ⟨.hbm, 86, rfl⟩
abbrev main_while0b_call5_v0 : Ref sig .tc := ⟨.hbm, 87, rfl⟩
abbrev main_while0b_v40 : Ref sig .tc := ⟨.hbm, 88, rfl⟩
abbrev main_while0b_call6_c : Ref sig .tc := ⟨.hbm, 89, rfl⟩
abbrev main_while0b_call6_c_0 : Ref sig .tc := ⟨.hbm, 90, rfl⟩
abbrev main_while0b_call6_c_1 : Ref sig .tc := ⟨.hbm, 91, rfl⟩
abbrev main_while0b_call6_v0 : Ref sig .tc := ⟨.hbm, 92, rfl⟩
abbrev main_while0b_v41 : Ref sig .tc := ⟨.hbm, 93, rfl⟩
abbrev main_while0b_call7_c : Ref sig .tc := ⟨.hbm, 94, rfl⟩
abbrev main_while0b_call7_c_0 : Ref sig .tc := ⟨.hbm, 95, rfl⟩
abbrev main_while0b_call7_c_1 : Ref sig .tc := ⟨.hbm, 96, rfl⟩
abbrev main_while0b_call7_v0 : Ref sig .tc := ⟨.hbm, 97, rfl⟩
abbrev main_while0b_v42 : Ref sig .tc := ⟨.hbm, 98, rfl⟩
abbrev main_while0b_v43 : Ref sig .tc := ⟨.hbm, 99, rfl⟩
abbrev main_while0b_v44 : Ref sig .tc := ⟨.hbm, 100, rfl⟩
abbrev main_while0b_v45 : Ref sig .tc := ⟨.hbm, 101, rfl⟩
abbrev main_while0b_v46 : Ref sig .tc := ⟨.hbm, 102, rfl⟩
abbrev main_while0b_v47 : Ref sig .tc := ⟨.hbm, 103, rfl⟩
abbrev main_while0b_v48 : Ref sig .tc := ⟨.hbm, 104, rfl⟩
abbrev main_while0b_v49 : Ref sig .tc := ⟨.hbm, 105, rfl⟩
abbrev main_while0b_v50 : Ref sig .tc := ⟨.hbm, 106, rfl⟩
abbrev main_while0b_v51 : Ref sig .tc := ⟨.hbm, 107, rfl⟩
abbrev main_while0b_v52 : Ref sig .tc := ⟨.hbm, 108, rfl⟩
abbrev main_while0b_v53 : Ref sig .tc := ⟨.hbm, 109, rfl⟩
abbrev main_while0b_v54 : Ref sig .tc := ⟨.hbm, 110, rfl⟩
abbrev main_while0b_v55 : Ref sig .tc := ⟨.hbm, 111, rfl⟩
abbrev main_while0b_v56 : Ref sig .tc := ⟨.hbm, 112, rfl⟩
abbrev main_while0b_cst_23 : Ref sig .tc := ⟨.hbm, 113, rfl⟩
abbrev main_while0b_v57 : Ref sig .tc := ⟨.hbm, 114, rfl⟩
abbrev main_while0b_v58 : Ref sig .tc := ⟨.hbm, 115, rfl⟩
abbrev main_while0b_v59 : Ref sig .tc := ⟨.hbm, 116, rfl⟩
abbrev main_while0b_v60 : Ref sig .tc := ⟨.hbm, 117, rfl⟩
abbrev main_while0b_v61 : Ref sig .tc := ⟨.hbm, 118, rfl⟩
abbrev main_while0b_v62 : Ref sig .tc := ⟨.hbm, 119, rfl⟩
abbrev main_while0b_v63 : Ref sig .tc := ⟨.hbm, 120, rfl⟩
abbrev main_while0b_v64 : Ref sig .tc := ⟨.hbm, 121, rfl⟩
abbrev main_while0b_v65 : Ref sig .tc := ⟨.hbm, 122, rfl⟩
abbrev main_while0b_v66 : Ref sig .tc := ⟨.hbm, 123, rfl⟩
abbrev main_while0b_v67 : Ref sig .tc := ⟨.hbm, 124, rfl⟩
abbrev main_while0b_v68 : Ref sig .tc := ⟨.hbm, 125, rfl⟩
abbrev main_while0b_v69 : Ref sig .tc := ⟨.hbm, 126, rfl⟩
abbrev main_while0b_v70 : Ref sig .tc := ⟨.hbm, 127, rfl⟩
abbrev main_while0b_v71 : Ref sig .tc := ⟨.hbm, 128, rfl⟩
abbrev main_while0b_v72 : Ref sig .tc := ⟨.hbm, 129, rfl⟩
abbrev main_while0b_v73 : Ref sig .tc := ⟨.hbm, 130, rfl⟩
abbrev main_while0b_call8_v0 : Ref sig .tc := ⟨.hbm, 131, rfl⟩
abbrev main_while0b_call8_c : Ref sig .tc := ⟨.hbm, 132, rfl⟩
abbrev main_while0b_call8_c_0 : Ref sig .tc := ⟨.hbm, 133, rfl⟩
abbrev main_while0b_call8_c_1 : Ref sig .tc := ⟨.hbm, 134, rfl⟩
abbrev main_while0b_v74 : Ref sig .tc := ⟨.hbm, 135, rfl⟩
abbrev main_while0b_call9_v0 : Ref sig .tc := ⟨.hbm, 136, rfl⟩
abbrev main_while0b_call9_c : Ref sig .tc := ⟨.hbm, 137, rfl⟩
abbrev main_while0b_call9_c_0 : Ref sig .tc := ⟨.hbm, 138, rfl⟩
abbrev main_while0b_call9_c_1 : Ref sig .tc := ⟨.hbm, 139, rfl⟩
abbrev main_while0b_v75 : Ref sig .tc := ⟨.hbm, 140, rfl⟩
abbrev main_while0b_call10_v0 : Ref sig .tc := ⟨.hbm, 141, rfl⟩
abbrev main_while0b_call10_c : Ref sig .tc := ⟨.hbm, 142, rfl⟩
abbrev main_while0b_call10_c_0 : Ref sig .tc := ⟨.hbm, 143, rfl⟩
abbrev main_while0b_call10_c_1 : Ref sig .tc := ⟨.hbm, 144, rfl⟩
abbrev main_while0b_v76 : Ref sig .tc := ⟨.hbm, 145, rfl⟩
abbrev main_while0b_call11_v0 : Ref sig .tc := ⟨.hbm, 146, rfl⟩
abbrev main_while0b_call11_c : Ref sig .tc := ⟨.hbm, 147, rfl⟩
abbrev main_while0b_call11_c_0 : Ref sig .tc := ⟨.hbm, 148, rfl⟩
abbrev main_while0b_call11_c_1 : Ref sig .tc := ⟨.hbm, 149, rfl⟩
abbrev main_while0b_v77 : Ref sig .tc := ⟨.hbm, 150, rfl⟩
abbrev main_while0b_call12_v0 : Ref sig .tc := ⟨.hbm, 151, rfl⟩
abbrev main_while0b_call12_c : Ref sig .tc := ⟨.hbm, 152, rfl⟩
abbrev main_while0b_call12_c_0 : Ref sig .tc := ⟨.hbm, 153, rfl⟩
abbrev main_while0b_call12_c_1 : Ref sig .tc := ⟨.hbm, 154, rfl⟩
abbrev main_while0b_v78 : Ref sig .tc := ⟨.hbm, 155, rfl⟩
abbrev main_while0b_call13_v0 : Ref sig .tc := ⟨.hbm, 156, rfl⟩
abbrev main_while0b_call13_c : Ref sig .tc := ⟨.hbm, 157, rfl⟩
abbrev main_while0b_call13_c_0 : Ref sig .tc := ⟨.hbm, 158, rfl⟩
abbrev main_while0b_call13_c_1 : Ref sig .tc := ⟨.hbm, 159, rfl⟩
abbrev main_while0b_v79 : Ref sig .tc := ⟨.hbm, 160, rfl⟩
abbrev main_while0b_c_24 : Ref sig .tc := ⟨.hbm, 161, rfl⟩
abbrev main_while0b_v80 : Ref sig .tc := ⟨.hbm, 162, rfl⟩
abbrev main_v22 : Ref sig .tc := ⟨.hbm, 163, rfl⟩
abbrev main_v23 : Ref sig .tc := ⟨.hbm, 164, rfl⟩
abbrev main_v24 : Ref sig .tc := ⟨.hbm, 165, rfl⟩
abbrev main_v25 : Ref sig .tc := ⟨.hbm, 166, rfl⟩
abbrev main_v26 : Ref sig .tc := ⟨.hbm, 167, rfl⟩
abbrev main_v27 : Ref sig .tc := ⟨.hbm, 168, rfl⟩
abbrev main_v28 : Ref sig .tc := ⟨.hbm, 169, rfl⟩
abbrev main_v29 : Ref sig .tc := ⟨.hbm, 170, rfl⟩
abbrev main_v30 : Ref sig .tc := ⟨.hbm, 171, rfl⟩
abbrev main_v31 : Ref sig .tc := ⟨.hbm, 172, rfl⟩
abbrev main_v32 : Ref sig .tc := ⟨.hbm, 173, rfl⟩

abbrev nD : Nat := 1
abbrev τ : Topo := Topo.v7x

variable {F : FTy → Type} [FloatOps F]

abbrev main_while0_count : Scf.Loop 32 := ⟨0#32, 64#32, 1#32⟩
-- ==== Kernel2.lean ====
abbrev S4096x1024 : Shape := ⟨2, ![4096, 1024]⟩
abbrev S1024x1024 : Shape := ⟨2, ![1024, 1024]⟩
abbrev S1x1024 : Shape := ⟨2, ![1, 1024]⟩
abbrev S1024x2816 : Shape := ⟨2, ![1024, 2816]⟩
abbrev S2816x1024 : Shape := ⟨2, ![2816, 1024]⟩
abbrev S1024x8x352 : Shape := ⟨3, ![1024, 8, 352]⟩
abbrev S8x1024x352 : Shape := ⟨3, ![8, 1024, 352]⟩
abbrev S_ : Shape := ⟨0, ![]⟩
abbrev S8x1024x384 : Shape := ⟨3, ![8, 1024, 384]⟩
abbrev S8x352x1024 : Shape := ⟨3, ![8, 352, 1024]⟩
abbrev S8x384x1024 : Shape := ⟨3, ![8, 384, 1024]⟩
abbrev S3072x1024 : Shape := ⟨2, ![3072, 1024]⟩
abbrev S512x1024 : Shape := ⟨2, ![512, 1024]⟩
abbrev S512 : Shape := ⟨1, ![512]⟩
abbrev S512x1 : Shape := ⟨2, ![512, 1]⟩
abbrev S4096x3072 : Shape := ⟨2, ![4096, 3072]⟩
abbrev S2x1024x384 : Shape := ⟨3, ![2, 1024, 384]⟩
abbrev S1024x768 : Shape := ⟨2, ![1024, 768]⟩
abbrev S1x1024x384 : Shape := ⟨3, ![1, 1024, 384]⟩
abbrev S1024x384 : Shape := ⟨2, ![1024, 384]⟩
abbrev S1x1 : Shape := ⟨2, ![1, 1]⟩
abbrev S512x3072 : Shape := ⟨2, ![512, 3072]⟩
abbrev S1 : Shape := ⟨1, ![1]⟩
abbrev S768x1024 : Shape := ⟨2, ![768, 1024]⟩
abbrev S4096x768 : Shape := ⟨2, ![4096, 768]⟩
abbrev S256x3072 : Shape := ⟨2, ![256, 3072]⟩
abbrev S256x1024 : Shape := ⟨2, ![256, 1024]⟩
abbrev S1024x3072 : Shape := ⟨2, ![1024, 3072]⟩
abbrev S256 : Shape := ⟨1, ![256]⟩
abbrev S256x1 : Shape := ⟨2, ![256, 1]⟩
abbrev S1024 : Shape := ⟨1, ![1024]⟩
abbrev S4096x512 : Shape := ⟨2, ![4096, 512]⟩

abbrev nBuf : Space → Nat
  | .hbm => 58
  | .vmem => 84
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1024x1024, .f32⟩
  | .hbm, ⟨3, _⟩ => ⟨S1x1024, .f32⟩
  | .hbm, ⟨4, _⟩ => ⟨S1024x2816, .f32⟩
  | .hbm, ⟨5, _⟩ => ⟨S1024x2816, .f32⟩
  | .hbm, ⟨6, _⟩ => ⟨S2816x1024, .f32⟩
  | .hbm, ⟨7, _⟩ => ⟨S4096x1024, .f32⟩
  | .hbm, ⟨8, _⟩ => ⟨S1024x8x352, .f32⟩
  | .hbm, ⟨9, _⟩ => ⟨S8x1024x352, .f32⟩
  | .hbm, ⟨10, _⟩ => ⟨S_, .i32⟩
  | .hbm, ⟨11, _⟩ => ⟨S_, .f32⟩
  | .hbm, ⟨12, _⟩ => ⟨S8x1024x384, .f32⟩
  | .hbm, ⟨13, _⟩ => ⟨S8x1024x384, .bf16⟩
  | .hbm, ⟨14, _⟩ => ⟨S1024x8x352, .f32⟩
  | .hbm, ⟨15, _⟩ => ⟨S8x1024x352, .f32⟩
  | .hbm, ⟨16, _⟩ => ⟨S_, .i32⟩
  | .hbm, ⟨17, _⟩ => ⟨S_, .f32⟩
  | .hbm, ⟨18, _⟩ => ⟨S8x1024x384, .f32⟩
  | .hbm, ⟨19, _⟩ => ⟨S8x1024x384, .bf16⟩
  | .hbm, ⟨20, _⟩ => ⟨S1024x1024, .bf16⟩
  | .hbm, ⟨21, _⟩ => ⟨S8x352x1024, .f32⟩
  | .hbm, ⟨22, _⟩ => ⟨S_, .i32⟩
  | .hbm, ⟨23, _⟩ => ⟨S_, .f32⟩
  | .hbm, ⟨24, _⟩ => ⟨S8x384x1024, .f32⟩
  | .hbm, ⟨25, _⟩ => ⟨S8x384x1024, .bf16⟩
  | .hbm, ⟨26, _⟩ => ⟨S3072x1024, .bf16⟩
  | .hbm, ⟨27, _⟩ => ⟨S4096x1024, .bf16⟩
  | .hbm, ⟨28, _⟩ => ⟨S4096x1024, .f32⟩
  | .hbm, ⟨29, _⟩ => ⟨S4096x1024, .bf16⟩
  | .hbm, ⟨30, _⟩ => ⟨S4096x3072, .f32⟩
  | .hbm, ⟨31, _⟩ => ⟨S4096x3072, .f32⟩
  | .hbm, ⟨32, _⟩ => ⟨S4096x3072, .bf16⟩
  | .hbm, ⟨33, _⟩ => ⟨S4096x1024, .f32⟩
  | .hbm, ⟨34, _⟩ => ⟨S4096x1024, .bf16⟩
  | .hbm, ⟨35, _⟩ => ⟨S1x1, .f32⟩
  | .hbm, ⟨36, _⟩ => ⟨S4096x3072, .bf16⟩
  | .hbm, ⟨37, _⟩ => ⟨S4096x3072, .bf16⟩
  | .hbm, ⟨38, _⟩ => ⟨S3072x1024, .bf16⟩
  | .hbm, ⟨39, _⟩ => ⟨S8x384x1024, .bf16⟩
  | .hbm, ⟨40, _⟩ => ⟨S8x1024x384, .bf16⟩
  | .hbm, ⟨41, _⟩ => ⟨S8x1024x384, .bf16⟩
  | .hbm, ⟨42, _⟩ => ⟨S4096x1024, .f32⟩
  | .hbm, ⟨43, _⟩ => ⟨S4096x1024, .bf16⟩
  | .hbm, ⟨44, _⟩ => ⟨S1x1024, .f32⟩
  | .hbm, ⟨45, _⟩ => ⟨S1024x1024, .bf16⟩
  | .hbm, ⟨46, _⟩ => ⟨S8x352x1024, .bf16⟩
  | .hbm, ⟨47, _⟩ => ⟨S2816x1024, .bf16⟩
  | .hbm, ⟨48, _⟩ => ⟨S1024x1024, .f32⟩
  | .hbm, ⟨49, _⟩ => ⟨S8x1024x352, .bf16⟩
  | .hbm, ⟨50, _⟩ => ⟨S1024x8x352, .bf16⟩
  | .hbm, ⟨51, _⟩ => ⟨S1024x2816, .bf16⟩
  | .hbm, ⟨52, _⟩ => ⟨S1024x2816, .f32⟩
  | .hbm, ⟨53, _⟩ => ⟨S8x1024x352, .bf16⟩
  | .hbm, ⟨54, _⟩ => ⟨S1024x8x352, .bf16⟩
  | .hbm, ⟨55, _⟩ => ⟨S1024x2816, .bf16⟩
  | .hbm, ⟨56, _⟩ => ⟨S1024x2816, .f32⟩
  | .hbm, ⟨57, _⟩ => ⟨S2816x1024, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .bf16⟩
  | .local _ .vmem, ⟨9, _⟩ => ⟨S512x1024, .bf16⟩
  | .local _ .vmem, ⟨10, _⟩ => ⟨S1024x1024, .bf16⟩
  | .local _ .vmem, ⟨11, _⟩ => ⟨S1024x1024, .bf16⟩
  | .local _ .vmem, ⟨12, _⟩ => ⟨S2x1024x384, .bf16⟩
  | .local _ .vmem, ⟨13, _⟩ => ⟨S2x1024x384, .bf16⟩
  | .local _ .vmem, ⟨14, _⟩ => ⟨S1024x1024, .bf16⟩
  | .local _ .vmem, ⟨15, _⟩ => ⟨S1024x1024, .bf16⟩
  | .local _ .vmem, ⟨16, _⟩ => ⟨S2x1024x384, .bf16⟩
  | .local _ .vmem, ⟨17, _⟩ => ⟨S2x1024x384, .bf16⟩
  | .local _ .vmem, ⟨18, _⟩ => ⟨S1024x768, .f32⟩
  | .local _ .vmem, ⟨19, _⟩ => ⟨S1024x768, .f32⟩
  | .local _ .vmem, ⟨20, _⟩ => ⟨S1024x768, .f32⟩
  | .local _ .vmem, ⟨21, _⟩ => ⟨S1024x768, .f32⟩
  | .local _ .vmem, ⟨22, _⟩ => ⟨S1024x768, .bf16⟩
  | .local _ .vmem, ⟨23, _⟩ => ⟨S1024x768, .bf16⟩
  | .local _ .vmem, ⟨24, _⟩ => ⟨S512x3072, .bf16⟩
  | .local _ .vmem, ⟨25, _⟩ => ⟨S512x3072, .bf16⟩
  | .local _ .vmem, ⟨26, _⟩ => ⟨S3072x1024, .bf16⟩
  | .local _ .vmem, ⟨27, _⟩ => ⟨S512x1024, .f32⟩
  | .local _ .vmem, ⟨28, _⟩ => ⟨S512x1024, .f32⟩
  | .local _ .vmem, ⟨29, _⟩ => ⟨S512x1024, .f32⟩
  | .local _ .vmem, ⟨30, _⟩ => ⟨S512x1024, .f32⟩
  | .local _ .vmem, ⟨31, _⟩ => ⟨S512x1024, .f32⟩
  | .local _ .vmem, ⟨32, _⟩ => ⟨S512x1024, .f32⟩
  | .local _ .vmem, ⟨33, _⟩ => ⟨S512x1024, .bf16⟩
  | .local _ .vmem, ⟨34, _⟩ => ⟨S512x1024, .bf16⟩
  | .local _ .vmem, ⟨35, _⟩ => ⟨S1x1, .f32⟩
  | .local _ .vmem, ⟨36, _⟩ => ⟨S1024x1024, .bf16⟩
  | .local _ .vmem, ⟨37, _⟩ => ⟨S1024x1024, .bf16⟩
  | .local _ .vmem, ⟨38, _⟩ => ⟨S768x1024, .bf16⟩
  | .local _ .vmem, ⟨39, _⟩ => ⟨S768x1024, .bf16⟩
  | .local _ .vmem, ⟨40, _⟩ => ⟨S1024x768, .f32⟩
  | .local _ .vmem, ⟨41, _⟩ => ⟨S1024x768, .f32⟩
  | .local _ .vmem, ⟨42, _⟩ => ⟨S1024x768, .f32⟩
  | .local _ .vmem, ⟨43, _⟩ => ⟨S1024x768, .f32⟩
  | .local _ .vmem, ⟨44, _⟩ => ⟨S1024x768, .bf16⟩
  | .local _ .vmem, ⟨45, _⟩ => ⟨S1024x768, .bf16⟩
  | .local _ .vmem, ⟨46, _⟩ => ⟨S1024x768, .bf16⟩
  | .local _ .vmem, ⟨47, _⟩ => ⟨S1024x768, .bf16⟩
  | .local _ .vmem, ⟨48, _⟩ => ⟨S4096x768, .bf16⟩
  | .local _ .vmem, ⟨49, _⟩ => ⟨S4096x768, .bf16⟩
  | .local _ .vmem, ⟨50, _⟩ => ⟨S4096x1024, .bf16⟩
  | .local _ .vmem, ⟨51, _⟩ => ⟨S768x1024, .bf16⟩
  | .local _ .vmem, ⟨52, _⟩ => ⟨S768x1024, .bf16⟩
  | .local _ .vmem, ⟨53, _⟩ => ⟨S4096x1024, .bf16⟩
  | .local _ .vmem, ⟨54, _⟩ => ⟨S4096x768, .bf16⟩
  | .local _ .vmem, ⟨55, _⟩ => ⟨S4096x768, .bf16⟩
  | .local _ .vmem, ⟨56, _⟩ => ⟨S2x1024x384, .bf16⟩
  | .local _ .vmem, ⟨57, _⟩ => ⟨S2x1024x384, .bf16⟩
  | .local _ .vmem, ⟨58, _⟩ => ⟨S4096x1024, .bf16⟩
  | .local _ .vmem, ⟨59, _⟩ => ⟨S4096x768, .bf16⟩
  | .local _ .vmem, ⟨60, _⟩ => ⟨S4096x768, .bf16⟩
  | .local _ .vmem, ⟨61, _⟩ => ⟨S2x1024x384, .bf16⟩
  | .local _ .vmem, ⟨62, _⟩ => ⟨S2x1024x384, .bf16⟩
  | .local _ .vmem, ⟨63, _⟩ => ⟨S256x3072, .bf16⟩
  | .local _ .vmem, ⟨64, _⟩ => ⟨S256x3072, .bf16⟩
  | .local _ .vmem, ⟨65, _⟩ => ⟨S8x1024x384, .bf16⟩
  | .local _ .vmem, ⟨66, _⟩ => ⟨S256x3072, .bf16⟩
  | .local _ .vmem, ⟨67, _⟩ => ⟨S256x3072, .bf16⟩
  | .local _ .vmem, ⟨68, _⟩ => ⟨S8x1024x384, .bf16⟩
  | .local _ .vmem, ⟨69, _⟩ => ⟨S256x1024, .f32⟩
  | .local _ .vmem, ⟨70, _⟩ => ⟨S256x1024, .f32⟩
  | .local _ .vmem, ⟨71, _⟩ => ⟨S256x1024, .f32⟩
  | .local _ .vmem, ⟨72, _⟩ => ⟨S256x1024, .f32⟩
  | .local _ .vmem, ⟨73, _⟩ => ⟨S1x1024, .f32⟩
  | .local _ .vmem, ⟨74, _⟩ => ⟨S256x1024, .f32⟩
  | .local _ .vmem, ⟨75, _⟩ => ⟨S256x1024, .f32⟩
  | .local _ .vmem, ⟨76, _⟩ => ⟨S256x1024, .bf16⟩
  | .local _ .vmem, ⟨77, _⟩ => ⟨S256x1024, .bf16⟩
  | .local _ .vmem, ⟨78, _⟩ => ⟨S1x1024, .f32⟩
  | .local _ .vmem, ⟨79, _⟩ => ⟨S4096x512, .bf16⟩
  | .local _ .vmem, ⟨80, _⟩ => ⟨S4096x512, .bf16⟩
  | .local _ .vmem, ⟨81, _⟩ => ⟨S4096x1024, .bf16⟩
  | .local _ .vmem, ⟨82, _⟩ => ⟨S512x1024, .bf16⟩
  | .local _ .vmem, ⟨83, _⟩ => ⟨S512x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | .vmem, ⟨83, _⟩ => true
  | _, _ => false

abbrev semScoped : Fin 0 → Bool
  | ⟨_, h⟩ => absurd h (Nat.not_lt_zero _)

abbrev dmaSemScoped : Fin 84 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | _ => false

abbrev sig : RefSig :=
  ofTc nBuf bufTy 0 84 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_c : Ref sig .tc := ⟨.hbm, 10, rfl⟩
abbrev main_call0_v0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_c_0 : Ref sig .tc := ⟨.hbm, 16, rfl⟩
abbrev main_call1_v0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_c_1 : Ref sig .tc := ⟨.hbm, 22, rfl⟩
abbrev main_call2_v0 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14_0 : Ref sig .tc := ⟨.hbm, 28, rfl⟩
abbrev main_v14_1 : Ref sig .tc := ⟨.hbm, 29, rfl⟩
abbrev main_v15_0 : Ref sig .tc := ⟨.hbm, 30, rfl⟩
abbrev main_v15_1 : Ref sig .tc := ⟨.hbm, 31, rfl⟩
abbrev main_v15_2 : Ref sig .tc := ⟨.hbm, 32, rfl⟩
abbrev main_v16_0 : Ref sig .tc := ⟨.hbm, 33, rfl⟩
abbrev main_v16_1 : Ref sig .tc := ⟨.hbm, 34, rfl⟩
abbrev main_v16_2 : Ref sig .tc := ⟨.hbm, 35, rfl⟩
abbrev main_v17_0 : Ref sig .tc := ⟨.hbm, 36, rfl⟩
abbrev main_v17_1 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22_0 : Ref sig .tc := ⟨.hbm, 42, rfl⟩
abbrev main_v22_1 : Ref sig .tc := ⟨.hbm, 43, rfl⟩
abbrev main_v22_2 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg3_1 : Ref sig .tc := ⟨.vmem, 17, rfl⟩
abbrev cc1_stg4_0 : Ref sig .tc := ⟨.vmem, 18, rfl⟩
abbrev cc1_stg4_1 : Ref sig .tc := ⟨.vmem, 19, rfl⟩
abbrev cc1_stg5_0 : Ref sig .tc := ⟨.vmem, 20, rfl⟩
abbrev cc1_stg5_1 : Ref sig .tc := ⟨.vmem, 21, rfl⟩
abbrev cc1_stg6_0 : Ref sig .tc := ⟨.vmem, 22, rfl⟩
abbrev cc1_stg6_1 : Ref sig .tc := ⟨.vmem, 23, rfl⟩
abbrev cc2_stg0_0 : Ref sig .tc := ⟨.vmem, 24, rfl⟩
abbrev cc2_stg0_1 : Ref sig .tc := ⟨.vmem, 25, rfl⟩
abbrev cc2_stg1_0 : Ref sig .tc := ⟨.vmem, 26, rfl⟩
abbrev cc2_stg2_0 : Ref sig .tc := ⟨.vmem, 27, rfl⟩
abbrev cc2_stg2_1 : Ref sig .tc := ⟨.vmem, 28, rfl⟩
abbrev cc2_stg3_0 : Ref sig .tc := ⟨.vmem, 29, rfl⟩
abbrev cc2_stg3_1 : Ref sig .tc := ⟨.vmem, 30, rfl⟩
abbrev cc2_stg4_0 : Ref sig .tc := ⟨.vmem, 31, rfl⟩
abbrev cc2_stg4_1 : Ref sig .tc := ⟨.vmem, 32, rfl⟩
abbrev cc2_stg5_0 : Ref sig .tc := ⟨.vmem, 33, rfl⟩
abbrev cc2_stg5_1 : Ref sig .tc := ⟨.vmem, 34, rfl⟩
abbrev cc2_stg6_0 : Ref sig .tc := ⟨.vmem, 35, rfl⟩
abbrev cc3_stg0_0 : Ref sig .tc := ⟨.vmem, 36, rfl⟩
abbrev cc3_stg0_1 : Ref sig .tc := ⟨.vmem, 37, rfl⟩
abbrev cc3_stg1_0 : Ref sig .tc := ⟨.vmem, 38, rfl⟩
abbrev cc3_stg1_1 : Ref sig .tc := ⟨.vmem, 39, rfl⟩
abbrev cc3_stg2_0 : Ref sig .tc := ⟨.vmem, 40, rfl⟩
abbrev cc3_stg2_1 : Ref sig .tc := ⟨.vmem, 41, rfl⟩
abbrev cc3_stg3_0 : Ref sig .tc := ⟨.vmem, 42, rfl⟩
abbrev cc3_stg3_1 : Ref sig .tc := ⟨.vmem, 43, rfl⟩
abbrev cc3_stg4_0 : Ref sig .tc := ⟨.vmem, 44, rfl⟩
abbrev cc3_stg4_1 : Ref sig .tc := ⟨.vmem, 45, rfl⟩
abbrev cc3_stg5_0 : Ref sig .tc := ⟨.vmem, 46, rfl⟩
abbrev cc3_stg5_1 : Ref sig .tc := ⟨.vmem, 47, rfl⟩
abbrev cc4_stg0_0 : Ref sig .tc := ⟨.vmem, 48, rfl⟩
abbrev cc4_stg0_1 : Ref sig .tc := ⟨.vmem, 49, rfl⟩
abbrev cc4_stg1_0 : Ref sig .tc := ⟨.vmem, 50, rfl⟩
abbrev cc4_stg2_0 : Ref sig .tc := ⟨.vmem, 51, rfl⟩
abbrev cc4_stg2_1 : Ref sig .tc := ⟨.vmem, 52, rfl⟩
abbrev cc5_stg0_0 : Ref sig .tc := ⟨.vmem, 53, rfl⟩
abbrev cc5_stg1_0 : Ref sig .tc := ⟨.vmem, 54, rfl⟩
abbrev cc5_stg1_1 : Ref sig .tc := ⟨.vmem, 55, rfl⟩
abbrev cc5_stg2_0 : Ref sig .tc := ⟨.vmem, 56, rfl⟩
abbrev cc5_stg2_1 : Ref sig .tc := ⟨.vmem, 57, rfl⟩
abbrev cc6_stg0_0 : Ref sig .tc := ⟨.vmem, 58, rfl⟩
abbrev cc6_stg1_0 : Ref sig .tc := ⟨.vmem, 59, rfl⟩
abbrev cc6_stg1_1 : Ref sig .tc := ⟨.vmem, 60, rfl⟩
abbrev cc6_stg2_0 : Ref sig .tc := ⟨.vmem, 61, rfl⟩
abbrev cc6_stg2_1 : Ref sig .tc := ⟨.vmem, 62, rfl⟩
abbrev cc7_stg0_0 : Ref sig .tc := ⟨.vmem, 63, rfl⟩
abbrev cc7_stg0_1 : Ref sig .tc := ⟨.vmem, 64, rfl⟩
abbrev cc7_stg1_0 : Ref sig .tc := ⟨.vmem, 65, rfl⟩
abbrev cc7_stg2_0 : Ref sig .tc := ⟨.vmem, 66, rfl⟩
abbrev cc7_stg2_1 : Ref sig .tc := ⟨.vmem, 67, rfl⟩
abbrev cc7_stg3_0 : Ref sig .tc := ⟨.vmem, 68, rfl⟩
abbrev cc7_stg4_0 : Ref sig .tc := ⟨.vmem, 69, rfl⟩
abbrev cc7_stg4_1 : Ref sig .tc := ⟨.vmem, 70, rfl⟩
abbrev cc7_stg5_0 : Ref sig .tc := ⟨.vmem, 71, rfl⟩
abbrev cc7_stg5_1 : Ref sig .tc := ⟨.vmem, 72, rfl⟩
abbrev cc7_stg6_0 : Ref sig .tc := ⟨.vmem, 73, rfl⟩
abbrev cc7_stg7_0 : Ref sig .tc := ⟨.vmem, 74, rfl⟩
abbrev cc7_stg7_1 : Ref sig .tc := ⟨.vmem, 75, rfl⟩
abbrev cc7_stg8_0 : Ref sig .tc := ⟨.vmem, 76, rfl⟩
abbrev cc7_stg8_1 : Ref sig .tc := ⟨.vmem, 77, rfl⟩
abbrev cc7_stg9_0 : Ref sig .tc := ⟨.vmem, 78, rfl⟩
abbrev cc8_stg0_0 : Ref sig .tc := ⟨.vmem, 79, rfl⟩
abbrev cc8_stg0_1 : Ref sig .tc := ⟨.vmem, 80, rfl⟩
abbrev cc8_stg1_0 : Ref sig .tc := ⟨.vmem, 81, rfl⟩
abbrev cc8_stg2_0 : Ref sig .tc := ⟨.vmem, 82, rfl⟩
abbrev cc8_stg2_1 : Ref sig .tc := ⟨.vmem, 83, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem3_1 : DmaSem sig := 17
abbrev cc1_sem4_0 : DmaSem sig := 18
abbrev cc1_sem4_1 : DmaSem sig := 19
abbrev cc1_sem5_0 : DmaSem sig := 20
abbrev cc1_sem5_1 : DmaSem sig := 21
abbrev cc1_sem6_0 : DmaSem sig := 22
abbrev cc1_sem6_1 : DmaSem sig := 23
abbrev cc2_sem0_0 : DmaSem sig := 24
abbrev cc2_sem0_1 : DmaSem sig := 25
abbrev cc2_sem1_0 : DmaSem sig := 26
abbrev cc2_sem2_0 : DmaSem sig := 27
abbrev cc2_sem2_1 : DmaSem sig := 28
abbrev cc2_sem3_0 : DmaSem sig := 29
abbrev cc2_sem3_1 : DmaSem sig := 30
abbrev cc2_sem4_0 : DmaSem sig := 31
abbrev cc2_sem4_1 : DmaSem sig := 32
abbrev cc2_sem5_0 : DmaSem sig := 33
abbrev cc2_sem5_1 : DmaSem sig := 34
abbrev cc2_sem6_0 : DmaSem sig := 35
abbrev cc3_sem0_0 : DmaSem sig := 36
abbrev cc3_sem0_1 : DmaSem sig := 37
abbrev cc3_sem1_0 : DmaSem sig := 38
abbrev cc3_sem1_1 : DmaSem sig := 39
abbrev cc3_sem2_0 : DmaSem sig := 40
abbrev cc3_sem2_1 : DmaSem sig := 41
abbrev cc3_sem3_0 : DmaSem sig := 42
abbrev cc3_sem3_1 : DmaSem sig := 43
abbrev cc3_sem4_0 : DmaSem sig := 44
abbrev cc3_sem4_1 : DmaSem sig := 45
abbrev cc3_sem5_0 : DmaSem sig := 46
abbrev cc3_sem5_1 : DmaSem sig := 47
abbrev cc4_sem0_0 : DmaSem sig := 48
abbrev cc4_sem0_1 : DmaSem sig := 49
abbrev cc4_sem1_0 : DmaSem sig := 50
abbrev cc4_sem2_0 : DmaSem sig := 51
abbrev cc4_sem2_1 : DmaSem sig := 52
abbrev cc5_sem0_0 : DmaSem sig := 53
abbrev cc5_sem1_0 : DmaSem sig := 54
abbrev cc5_sem1_1 : DmaSem sig := 55
abbrev cc5_sem2_0 : DmaSem sig := 56
abbrev cc5_sem2_1 : DmaSem sig := 57
abbrev cc6_sem0_0 : DmaSem sig := 58
abbrev cc6_sem1_0 : DmaSem sig := 59
abbrev cc6_sem1_1 : DmaSem sig := 60
abbrev cc6_sem2_0 : DmaSem sig := 61
abbrev cc6_sem2_1 : DmaSem sig := 62
abbrev cc7_sem0_0 : DmaSem sig := 63
abbrev cc7_sem0_1 : DmaSem sig := 64
abbrev cc7_sem1_0 : DmaSem sig := 65
abbrev cc7_sem2_0 : DmaSem sig := 66
abbrev cc7_sem2_1 : DmaSem sig := 67
abbrev cc7_sem3_0 : DmaSem sig := 68
abbrev cc7_sem4_0 : DmaSem sig := 69
abbrev cc7_sem4_1 : DmaSem sig := 70
abbrev cc7_sem5_0 : DmaSem sig := 71
abbrev cc7_sem5_1 : DmaSem sig := 72
abbrev cc7_sem6_0 : DmaSem sig := 73
abbrev cc7_sem7_0 : DmaSem sig := 74
abbrev cc7_sem7_1 : DmaSem sig := 75
abbrev cc7_sem8_0 : DmaSem sig := 76
abbrev cc7_sem8_1 : DmaSem sig := 77
abbrev cc7_sem9_0 : DmaSem sig := 78
abbrev cc8_sem0_0 : DmaSem sig := 79
abbrev cc8_sem0_1 : DmaSem sig := 80
abbrev cc8_sem1_0 : DmaSem sig := 81
abbrev cc8_sem2_0 : DmaSem sig := 82
abbrev cc8_sem2_1 : DmaSem sig := 83

abbrev nD : Nat := 1
abbrev τ : Topo := Topo.v7x

variable {F : FTy → Type} [FloatOps F]

abbrev grid0 : Pipeline.Grid := ⟨2, ![8, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev grid1 : Pipeline.Grid := ⟨2, ![4, 4], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage1_0 : Fin 2 → Memref sig .tc .vmem S1024x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true]

abbrev stage1_1 : Fin 2 → Memref sig .tc .vmem S2x1024x384 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1024x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 2 → Memref sig .tc .vmem S2x1024x384 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev stage1_4 : Fin 2 → Memref sig .tc .vmem S1024x768 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev stage1_5 : Fin 2 → Memref sig .tc .vmem S1024x768 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

abbrev stage1_6 : Fin 2 → Memref sig .tc .vmem S1024x768 .bf16 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true]

abbrev grid2 : Pipeline.Grid := ⟨2, ![8, 1], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![arg0.toNat, v0.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![arg0.toNat, v0.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc2_transform_5 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc2_transform_6 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S512x3072 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 1 → Memref sig .tc .vmem S3072x1024 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false, true]

abbrev stage2_2 : Fin 2 → Memref sig .tc .vmem S512x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

abbrev stage2_3 : Fin 2 → Memref sig .tc .vmem S512x1024 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true]

abbrev stage2_4 : Fin 2 → Memref sig .tc .vmem S512x1024 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, true]

abbrev stage2_5 : Fin 2 → Memref sig .tc .vmem S512x1024 .bf16 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true, true]

abbrev stage2_6 : Fin 1 → Memref sig .tc .vmem S1x1 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false, false]

abbrev grid3 : Pipeline.Grid := ⟨2, ![4, 4], ![false, false]⟩

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc3_transform_3 (i : grid3.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc3_transform_4 (i : grid3.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc3_transform_5 (i : grid3.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage3_0 : Fin 2 → Memref sig .tc .vmem S1024x1024 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![false, true]

abbrev stage3_1 : Fin 2 → Memref sig .tc .vmem S768x1024 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true, false]

abbrev stage3_2 : Fin 2 → Memref sig .tc .vmem S1024x768 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true]

abbrev stage3_3 : Fin 2 → Memref sig .tc .vmem S1024x768 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, true]

abbrev stage3_4 : Fin 2 → Memref sig .tc .vmem S1024x768 .bf16 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true, true]

abbrev stage3_5 : Fin 2 → Memref sig .tc .vmem S1024x768 .bf16 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true, true]

abbrev grid4 : Pipeline.Grid := ⟨2, ![1, 4], ![false, false]⟩

def cc4_transform_0 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc4_transform_1 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc4_transform_2 (i : grid4.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage4_0 : Fin 2 → Memref sig .tc .vmem S4096x768 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![false, true]

abbrev stage4_1 : Fin 1 → Memref sig .tc .vmem S4096x1024 .bf16 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![true, false]

abbrev stage4_2 : Fin 2 → Memref sig .tc .vmem S768x1024 .bf16 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, true]

abbrev grid5 : Pipeline.Grid := ⟨2, ![1, 4], ![false, false]⟩

def cc5_transform_0 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc5_transform_1 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc5_transform_2 (i : grid5.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage5_0 : Fin 1 → Memref sig .tc .vmem S4096x1024 .bf16 := fun | 0 => Memref.whole cc5_stg0_0 | ⟨_ + 1, h⟩ => absurd h (Nat.not_lt.2 (Nat.le_add_left _ _))
abbrev sem5_0 : Fin 1 → DmaSem sig := fun | 0 => cc5_sem0_0 | ⟨_ + 1, h⟩ => absurd h (Nat.not_lt.2 (Nat.le_add_left _ _))
abbrev reads5_0 : Fin grid5.rank → Bool := ![true, false]

abbrev stage5_1 : Fin 2 → Memref sig .tc .vmem S4096x768 .bf16 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![false, true]

abbrev stage5_2 : Fin 2 → Memref sig .tc .vmem S2x1024x384 .bf16 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true, true]

abbrev grid6 : Pipeline.Grid := ⟨2, ![1, 4], ![false, false]⟩

def cc6_transform_0 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc6_transform_1 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc6_transform_2 (i : grid6.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage6_0 : Fin 1 → Memref sig .tc .vmem S4096x1024 .bf16 := fun | 0 => Memref.whole cc6_stg0_0 | ⟨_ + 1, h⟩ => absurd h (Nat.not_lt.2 (Nat.le_add_left _ _))
abbrev sem6_0 : Fin 1 → DmaSem sig := fun | 0 => cc6_sem0_0 | ⟨_ + 1, h⟩ => absurd h (Nat.not_lt.2 (Nat.le_add_left _ _))
abbrev reads6_0 : Fin grid6.rank → Bool := ![true, false]

abbrev stage6_1 : Fin 2 → Memref sig .tc .vmem S4096x768 .bf16 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![false, true]

abbrev stage6_2 : Fin 2 → Memref sig .tc .vmem S2x1024x384 .bf16 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true, true]

abbrev grid7 : Pipeline.Grid := ⟨2, ![16, 1], ![false, false]⟩

def cc7_transform_0 (i : grid7.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc7_transform_1 (i : grid7.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc7_transform_2 (i : grid7.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc7_transform_3 (i : grid7.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc7_transform_4 (i : grid7.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![arg0.toNat, v0.toNat]

def cc7_transform_5 (i : grid7.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![arg0.toNat, v0.toNat]

def cc7_transform_6 (i : grid7.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc7_transform_7 (i : grid7.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc7_transform_8 (i : grid7.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc7_transform_9 (i : grid7.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage7_0 : Fin 2 → Memref sig .tc .vmem S256x3072 .bf16 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true, false]

abbrev stage7_1 : Fin 1 → Memref sig .tc .vmem S8x1024x384 .bf16 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false, true]

abbrev stage7_2 : Fin 2 → Memref sig .tc .vmem S256x3072 .bf16 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true, false]

abbrev stage7_3 : Fin 1 → Memref sig .tc .vmem S8x1024x384 .bf16 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false, true]

abbrev stage7_4 : Fin 2 → Memref sig .tc .vmem S256x1024 .f32 := fun | 0 => Memref.whole cc7_stg4_0 | 1 => Memref.whole cc7_stg4_1 | ⟨_ + 2, h⟩ => absurd h (Nat.not_lt.2 (Nat.le_add_left _ _))
abbrev sem7_4 : Fin 2 → DmaSem sig := fun | 0 => cc7_sem4_0 | 1 => cc7_sem4_1 | ⟨_ + 2, h⟩ => absurd h (Nat.not_lt.2 (Nat.le_add_left _ _))
abbrev reads7_4 : Fin grid7.rank → Bool := ![true, true]

abbrev stage7_5 : Fin 2 → Memref sig .tc .vmem S256x1024 .f32 := fun | 0 => Memref.whole cc7_stg5_0 | 1 => Memref.whole cc7_stg5_1 | ⟨_ + 2, h⟩ => absurd h (Nat.not_lt.2 (Nat.le_add_left _ _))
abbrev sem7_5 : Fin 2 → DmaSem sig := fun | 0 => cc7_sem5_0 | 1 => cc7_sem5_1 | ⟨_ + 2, h⟩ => absurd h (Nat.not_lt.2 (Nat.le_add_left _ _))
abbrev reads7_5 : Fin grid7.rank → Bool := ![true, true]

abbrev stage7_6 : Fin 1 → Memref sig .tc .vmem S1x1024 .f32 := fun | 0 => Memref.whole cc7_stg6_0 | ⟨_ + 1, h⟩ => absurd h (Nat.not_lt.2 (Nat.le_add_left _ _))
abbrev sem7_6 : Fin 1 → DmaSem sig := fun | 0 => cc7_sem6_0 | ⟨_ + 1, h⟩ => absurd h (Nat.not_lt.2 (Nat.le_add_left _ _))
abbrev reads7_6 : Fin grid7.rank → Bool := ![false, true]

abbrev stage7_7 : Fin 2 → Memref sig .tc .vmem S256x1024 .f32 := fun | 0 => Memref.whole cc7_stg7_0 | 1 => Memref.whole cc7_stg7_1 | ⟨_ + 2, h⟩ => absurd h (Nat.not_lt.2 (Nat.le_add_left _ _))
abbrev sem7_7 : Fin 2 → DmaSem sig := fun | 0 => cc7_sem7_0 | 1 => cc7_sem7_1 | ⟨_ + 2, h⟩ => absurd h (Nat.not_lt.2 (Nat.le_add_left _ _))
abbrev reads7_7 : Fin grid7.rank → Bool := ![true, true]

abbrev stage7_8 : Fin 2 → Memref sig .tc .vmem S256x1024 .bf16 := fun | 0 => Memref.whole cc7_stg8_0 | 1 => Memref.whole cc7_stg8_1 | ⟨_ + 2, h⟩ => absurd h (Nat.not_lt.2 (Nat.le_add_left _ _))
abbrev sem7_8 : Fin 2 → DmaSem sig := fun | 0 => cc7_sem8_0 | 1 => cc7_sem8_1 | ⟨_ + 2, h⟩ => absurd h (Nat.not_lt.2 (Nat.le_add_left _ _))
abbrev reads7_8 : Fin grid7.rank → Bool := ![true, true]

abbrev stage7_9 : Fin 1 → Memref sig .tc .vmem S1x1024 .f32 := fun | 0 => Memref.whole cc7_stg9_0 | ⟨_ + 1, h⟩ => absurd h (Nat.not_lt.2 (Nat.le_add_left _ _))
abbrev sem7_9 : Fin 1 → DmaSem sig := fun | 0 => cc7_sem9_0 | ⟨_ + 1, h⟩ => absurd h (Nat.not_lt.2 (Nat.le_add_left _ _))
abbrev reads7_9 : Fin grid7.rank → Bool := ![false, false]

abbrev grid8 : Pipeline.Grid := ⟨2, ![1, 2], ![false, false]⟩

def cc8_transform_0 (i : grid8.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc8_transform_1 (i : grid8.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc8_transform_2 (i : grid8.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage8_0 : Fin 2 → Memref sig .tc .vmem S4096x512 .bf16 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![false, true]

abbrev stage8_1 : Fin 1 → Memref sig .tc .vmem S4096x1024 .bf16 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![true, false]

abbrev stage8_2 : Fin 2 → Memref sig .tc .vmem S512x1024 .bf16 := fun | 0 => Memref.whole cc8_stg2_0 | 1 => Memref.whole cc8_stg2_1 | ⟨_ + 2, h⟩ => absurd h (Nat.not_lt.2 (Nat.le_add_left _ _))
abbrev sem8_2 : Fin 2 → DmaSem sig := fun | 0 => cc8_sem2_0 | 1 => cc8_sem2_1 | ⟨_ + 2, h⟩ => absurd h (Nat.not_lt.2 (Nat.le_add_left _ _))
abbrev reads8_2 : Fin grid8.rank → Bool := ![true, true]
-- ==== Reference2Ideal.lean ====
abbrev S4096x1024 : Shape := ⟨2, ![4096, 1024]⟩
abbrev S1024x1024 : Shape := ⟨2, ![1024, 1024]⟩
abbrev S1x1024 : Shape := ⟨2, ![1, 1024]⟩
abbrev S1024x2816 : Shape := ⟨2, ![1024, 2816]⟩
abbrev S2816x1024 : Shape := ⟨2, ![2816, 1024]⟩
abbrev S_ : Shape := ⟨0, ![]⟩
abbrev S4096 : Shape := ⟨1, ![4096]⟩
abbrev S4096x1 : Shape := ⟨2, ![4096, 1]⟩
abbrev S4096x2816 : Shape := ⟨2, ![4096, 2816]⟩
abbrev S1024 : Shape := ⟨1, ![1024]⟩
abbrev S1x1 : Shape := ⟨2, ![1, 1]⟩

abbrev nBuf : Space → Nat
  | .hbm => 113
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1024x1024, .f32⟩
  | .hbm, ⟨3, _⟩ => ⟨S1x1024, .f32⟩
  | .hbm, ⟨4, _⟩ => ⟨S1024x2816, .f32⟩
  | .hbm, ⟨5, _⟩ => ⟨S1024x2816, .f32⟩
  | .hbm, ⟨6, _⟩ => ⟨S2816x1024, .f32⟩
  | .hbm, ⟨7, _⟩ => ⟨S4096x1024, .f32⟩
  | .hbm, ⟨8, _⟩ => ⟨S4096x1024, .f32⟩
  | .hbm, ⟨9, _⟩ => ⟨S4096x1024, .f32⟩
  | .hbm, ⟨10, _⟩ => ⟨S4096x1024, .f32⟩
  | .hbm, ⟨11, _⟩ => ⟨S_, .f32⟩
  | .hbm, ⟨12, _⟩ => ⟨S4096, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1, .f32⟩
  | .hbm, ⟨21, _⟩ => ⟨S4096x1, .f32⟩
  | .hbm, ⟨22, _⟩ => ⟨S_, .f32⟩
  | .hbm, ⟨23, _⟩ => ⟨S4096x1, .f32⟩
  | .hbm, ⟨24, _⟩ => ⟨S4096x1, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S4096x1024, .f32⟩
  | .hbm, ⟨29, _⟩ => ⟨S4096x2816, .f32⟩
  | .hbm, ⟨30, _⟩ => ⟨S4096x2816, .f32⟩
  | .hbm, ⟨31, _⟩ => ⟨S4096x2816, .f32⟩
  | .hbm, ⟨32, _⟩ => ⟨S_, .f32⟩
  | .hbm, ⟨33, _⟩ => ⟨S4096x2816, .f32⟩
  | .hbm, ⟨34, _⟩ => ⟨S4096x2816, .f32⟩
  | .hbm, ⟨35, _⟩ => ⟨S_, .f32⟩
  | .hbm, ⟨36, _⟩ => ⟨S4096x2816, .f32⟩
  | .hbm, ⟨37, _⟩ => ⟨S4096x2816, .f32⟩
  | .hbm, ⟨38, _⟩ => ⟨S_, .f32⟩
  | .hbm, ⟨39, _⟩ => ⟨S4096x2816, .f32⟩
  | .hbm, ⟨40, _⟩ => ⟨S4096x2816, .f32⟩
  | .hbm, ⟨41, _⟩ => ⟨S4096x2816, .f32⟩
  | .hbm, ⟨42, _⟩ => ⟨S4096x2816, .f32⟩
  | .hbm, ⟨43, _⟩ => ⟨S4096x2816, .f32⟩
  | .hbm, ⟨44, _⟩ => ⟨S4096x2816, .f32⟩
  | .hbm, ⟨45, _⟩ => ⟨S4096x1024, .f32⟩
  | .hbm, ⟨46, _⟩ => ⟨S4096x1024, .f32⟩
  | .hbm, ⟨47, _⟩ => ⟨S4096x1024, .f32⟩
  | .hbm, ⟨48, _⟩ => ⟨S4096x1024, .f32⟩
  | .hbm, ⟨49, _⟩ => ⟨S_, .f32⟩
  | .hbm, ⟨50, _⟩ => ⟨S4096x1024, .f32⟩
  | .hbm, ⟨51, _⟩ => ⟨S4096x1024, .f32⟩
  | .hbm, ⟨52, _⟩ => ⟨S_, .f32⟩
  | .hbm, ⟨53, _⟩ => ⟨S4096, .f32⟩
  | .hbm, ⟨54, _⟩ => ⟨S_, .f32⟩
  | .hbm, ⟨55, _⟩ => ⟨S4096, .f32⟩
  | .hbm, ⟨56, _⟩ => ⟨S4096, .f32⟩
  | .hbm, ⟨57, _⟩ => ⟨S_, .f32⟩
  | .hbm, ⟨58, _⟩ => ⟨S_, .f32⟩
  | .hbm, ⟨59, _⟩ => ⟨S_, .f32⟩
  | .hbm, ⟨60, _⟩ => ⟨S_, .f32⟩
  | .hbm, ⟨61, _⟩ => ⟨S_, .f32⟩
  | .hbm, ⟨62, _⟩ => ⟨S_, .f32⟩
  | .hbm, ⟨63, _⟩ => ⟨S_, .f32⟩
  | .hbm, ⟨64, _⟩ => ⟨S4096, .f32⟩
  | .hbm, ⟨65, _⟩ => ⟨S_, .f32⟩
  | .hbm, ⟨66, _⟩ => ⟨S4096, .f32⟩
  | .hbm, ⟨67, _⟩ => ⟨S4096, .f32⟩
  | .hbm, ⟨68, _⟩ => ⟨S4096x1024, .f32⟩
  | .hbm, ⟨69, _⟩ => ⟨S4096x1024, .f32⟩
  | .hbm, ⟨70, _⟩ => ⟨S1024x2816, .f32⟩
  | .hbm, ⟨71, _⟩ => ⟨S2816x1024, .f32⟩
  | .hbm, ⟨72, _⟩ => ⟨S4096x2816, .f32⟩
  | .hbm, ⟨73, _⟩ => ⟨S4096x2816, .f32⟩
  | .hbm, ⟨74, _⟩ => ⟨S4096x2816, .f32⟩
  | .hbm, ⟨75, _⟩ => ⟨S2816x1024, .f32⟩
  | .hbm, ⟨76, _⟩ => ⟨S1024x2816, .f32⟩
  | .hbm, ⟨77, _⟩ => ⟨S4096x1024, .f32⟩
  | .hbm, ⟨78, _⟩ => ⟨S4096x2816, .f32⟩
  | .hbm, ⟨79, _⟩ => ⟨S4096x2816, .f32⟩
  | .hbm, ⟨80, _⟩ => ⟨S4096x2816, .f32⟩
  | .hbm, ⟨81, _⟩ => ⟨S4096x2816, .f32⟩
  | .hbm, ⟨82, _⟩ => ⟨S2816x1024, .f32⟩
  | .hbm, ⟨83, _⟩ => ⟨S1024x2816, .f32⟩
  | .hbm, ⟨84, _⟩ => ⟨S4096x1024, .f32⟩
  | .hbm, ⟨85, _⟩ => ⟨S4096x1024, .f32⟩
  | .hbm, ⟨86, _⟩ => ⟨S4096x1024, .f32⟩
  | .hbm, ⟨87, _⟩ => ⟨S_, .f32⟩
  | .hbm, ⟨88, _⟩ => ⟨S1024, .f32⟩
  | .hbm, ⟨89, _⟩ => ⟨S1x1024, .f32⟩
  | .hbm, ⟨90, _⟩ => ⟨S4096x1024, .f32⟩
  | .hbm, ⟨91, _⟩ => ⟨S4096x1024, .f32⟩
  | .hbm, ⟨92, _⟩ => ⟨S4096x1024, .f32⟩
  | .hbm, ⟨93, _⟩ => ⟨S_, .f32⟩
  | .hbm, ⟨94, _⟩ => ⟨S4096, .f32⟩
  | .hbm, ⟨95, _⟩ => ⟨S4096x1, .f32⟩
  | .hbm, ⟨96, _⟩ => ⟨S4096x1024, .f32⟩
  | .hbm, ⟨97, _⟩ => ⟨S4096x1024, .f32⟩
  | .hbm, ⟨98, _⟩ => ⟨S4096x1024, .f32⟩
  | .hbm, ⟨99, _⟩ => ⟨S4096x1, .f32⟩
  | .hbm, ⟨100, _⟩ => ⟨S_, .f32⟩
  | .hbm, ⟨101, _⟩ => ⟨S4096x1, .f32⟩
  | .hbm, ⟨102, _⟩ => ⟨S4096x1, .f32⟩
  | .hbm, ⟨103, _⟩ => ⟨S_, .f32⟩
  | .hbm, ⟨104, _⟩ => ⟨S4096, .f32⟩
  | .hbm, ⟨105, _⟩ => ⟨S4096x1024, .f32⟩
  | .hbm, ⟨106, _⟩ => ⟨S4096x1024, .f32⟩
  | .hbm, ⟨107, _⟩ => ⟨S4096x1024, .f32⟩
  | .hbm, ⟨108, _⟩ => ⟨S4096x1024, .f32⟩
  | .hbm, ⟨109, _⟩ => ⟨S4096x1024, .f32⟩
  | .hbm, ⟨110, _⟩ => ⟨S1024x1024, .f32⟩
  | .hbm, ⟨111, _⟩ => ⟨S1024x1024, .f32⟩
  | .hbm, ⟨112, _⟩ => ⟨S1x1, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_cst : Ref sig .tc := ⟨.hbm, 11, rfl⟩
abbrev main_v3 : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_cst_1 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_2 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_call0_v0 : Ref sig .tc := ⟨.hbm, 30, rfl⟩
abbrev main_call0_v1 : Ref sig .tc := ⟨.hbm, 31, rfl⟩
abbrev main_call0_cst : Ref sig .tc := ⟨.hbm, 32, rfl⟩
abbrev main_call0_v2 : Ref sig .tc := ⟨.hbm, 33, rfl⟩
abbrev main_call0_v3 : Ref sig .tc := ⟨.hbm, 34, rfl⟩
abbrev main_call0_cst_0 : Ref sig .tc := ⟨.hbm, 35, rfl⟩
abbrev main_call0_v4 : Ref sig .tc := ⟨.hbm, 36, rfl⟩
abbrev main_v18_2 : Ref sig .tc := ⟨.hbm, 37, rfl⟩
abbrev main_call0_cst_1 : Ref sig .tc := ⟨.hbm, 38, rfl⟩
abbrev main_call0_v6 : Ref sig .tc := ⟨.hbm, 39, rfl⟩
abbrev main_call0_v7 : Ref sig .tc := ⟨.hbm, 40, rfl⟩
abbrev main_v18_1 : Ref sig .tc := ⟨.hbm, 41, rfl⟩
abbrev main_v18_0 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_cst_3 : Ref sig .tc := ⟨.hbm, 49, rfl⟩
abbrev main_v25 : Ref sig .tc := ⟨.hbm, 50, rfl⟩
abbrev main_v26 : Ref sig .tc := ⟨.hbm, 51, rfl⟩
abbrev main_cst_4 : Ref sig .tc := ⟨.hbm, 52, rfl⟩
abbrev main_v27 : Ref sig .tc := ⟨.hbm, 53, rfl⟩
abbrev main_cst_5 : Ref sig .tc := ⟨.hbm, 54, rfl⟩
abbrev main_v28 : Ref sig .tc := ⟨.hbm, 55, rfl⟩
abbrev main_v29 : Ref sig .tc := ⟨.hbm, 56, rfl⟩
abbrev main_cst_6 : Ref sig .tc := ⟨.hbm, 57, rfl⟩
abbrev main_v30 : Ref sig .tc := ⟨.hbm, 58, rfl⟩
abbrev main_cst_7 : Ref sig .tc := ⟨.hbm, 59, rfl⟩
abbrev main_v31 : Ref sig .tc := ⟨.hbm, 60, rfl⟩
abbrev main_cst_8 : Ref sig .tc := ⟨.hbm, 61, rfl⟩
abbrev main_cst_9 : Ref sig .tc := ⟨.hbm, 62, rfl⟩
abbrev main_v32 : Ref sig .tc := ⟨.hbm, 63, rfl⟩
abbrev main_v33 : Ref sig .tc := ⟨.hbm, 64, rfl⟩
abbrev main_cst_10 : Ref sig .tc := ⟨.hbm, 65, rfl⟩
abbrev main_v34 : Ref sig .tc := ⟨.hbm, 66, rfl⟩
abbrev main_v35 : Ref sig .tc := ⟨.hbm, 67, rfl⟩
abbrev main_v36 : Ref sig .tc := ⟨.hbm, 68, rfl⟩
abbrev main_v37 : Ref sig .tc := ⟨.hbm, 69, rfl⟩
abbrev main_v38 : Ref sig .tc := ⟨.hbm, 70, rfl⟩
abbrev main_v39 : Ref sig .tc := ⟨.hbm, 71, rfl⟩
abbrev main_v40 : Ref sig .tc := ⟨.hbm, 72, rfl⟩
abbrev main_v41 : Ref sig .tc := ⟨.hbm, 73, rfl⟩
abbrev main_v42 : Ref sig .tc := ⟨.hbm, 74, rfl⟩
abbrev main_v43 : Ref sig .tc := ⟨.hbm, 75, rfl⟩
abbrev main_v44 : Ref sig .tc := ⟨.hbm, 76, rfl⟩
abbrev main_v45 : Ref sig .tc := ⟨.hbm, 77, rfl⟩
abbrev main_call1_v0 : Ref sig .tc := ⟨.hbm, 78, rfl⟩
abbrev main_call1_v1 : Ref sig .tc := ⟨.hbm, 79, rfl⟩
abbrev main_call1_v2 : Ref sig .tc := ⟨.hbm, 80, rfl⟩
abbrev main_v46 : Ref sig .tc := ⟨.hbm, 81, rfl⟩
abbrev main_v47 : Ref sig .tc := ⟨.hbm, 82, rfl⟩
abbrev main_v48 : Ref sig .tc := ⟨.hbm, 83, rfl⟩
abbrev main_v49 : Ref sig .tc := ⟨.hbm, 84, rfl⟩
abbrev main_v50 : Ref sig .tc := ⟨.hbm, 85, rfl⟩
abbrev main_v51 : Ref sig .tc := ⟨.hbm, 86, rfl⟩
abbrev main_cst_11 : Ref sig .tc := ⟨.hbm, 87, rfl⟩
abbrev main_v52 : Ref sig .tc := ⟨.hbm, 88, rfl⟩
abbrev main_v53 : Ref sig .tc := ⟨.hbm, 89, rfl⟩
abbrev main_v54 : Ref sig .tc := ⟨.hbm, 90, rfl⟩
abbrev main_v55 : Ref sig .tc := ⟨.hbm, 91, rfl⟩
abbrev main_v56 : Ref sig .tc := ⟨.hbm, 92, rfl⟩
abbrev main_cst_12 : Ref sig .tc := ⟨.hbm, 93, rfl⟩
abbrev main_v57 : Ref sig .tc := ⟨.hbm, 94, rfl⟩
abbrev main_v58 : Ref sig .tc := ⟨.hbm, 95, rfl⟩
abbrev main_v59 : Ref sig .tc := ⟨.hbm, 96, rfl⟩
abbrev main_v60 : Ref sig .tc := ⟨.hbm, 97, rfl⟩
abbrev main_v61 : Ref sig .tc := ⟨.hbm, 98, rfl⟩
abbrev main_v62 : Ref sig .tc := ⟨.hbm, 99, rfl⟩
abbrev main_cst_13 : Ref sig .tc := ⟨.hbm, 100, rfl⟩
abbrev main_v63 : Ref sig .tc := ⟨.hbm, 101, rfl⟩
abbrev main_v64 : Ref sig .tc := ⟨.hbm, 102, rfl⟩
abbrev main_cst_14 : Ref sig .tc := ⟨.hbm, 103, rfl⟩
abbrev main_v65 : Ref sig .tc := ⟨.hbm, 104, rfl⟩
abbrev main_v66 : Ref sig .tc := ⟨.hbm, 105, rfl⟩
abbrev main_v67 : Ref sig .tc := ⟨.hbm, 106, rfl⟩
abbrev main_v68 : Ref sig .tc := ⟨.hbm, 107, rfl⟩
abbrev main_v69 : Ref sig .tc := ⟨.hbm, 108, rfl⟩
abbrev main_v70 : Ref sig .tc := ⟨.hbm, 109, rfl⟩
abbrev main_v71 : Ref sig .tc := ⟨.hbm, 110, rfl⟩
abbrev main_v72 : Ref sig .tc := ⟨.hbm, 111, rfl⟩
abbrev main_v73 : Ref sig .tc := ⟨.hbm, 112, rfl⟩

abbrev nD : Nat := 1
abbrev τ : Topo := Topo.v7x

variable {F : FTy → Type} [FloatOps F]
-- ==== Kernel3.lean ====
abbrev S4096x1024 : Shape := ⟨2, ![4096, 1024]⟩
abbrev S1x1024 : Shape := ⟨2, ![1, 1024]⟩
abbrev S1024x4872 : Shape := ⟨2, ![1024, 4872]⟩
abbrev S4096x4872 : Shape := ⟨2, ![4096, 4872]⟩
abbrev S_ : Shape := ⟨0, ![]⟩
abbrev S1024x120 : Shape := ⟨2, ![1024, 120]⟩
abbrev S1024x2048 : Shape := ⟨2, ![1024, 2048]⟩
abbrev S1024x768 : Shape := ⟨2, ![1024, 768]⟩
abbrev S1024x8 : Shape := ⟨2, ![1024, 8]⟩
abbrev S1024x4992 : Shape := ⟨2, ![1024, 4992]⟩
abbrev S4096x120 : Shape := ⟨2, ![4096, 120]⟩
abbrev S4096x2048 : Shape := ⟨2, ![4096, 2048]⟩
abbrev S4096x768 : Shape := ⟨2, ![4096, 768]⟩
abbrev S4096x8 : Shape := ⟨2, ![4096, 8]⟩
abbrev S4096x4992 : Shape := ⟨2, ![4096, 4992]⟩
abbrev S1024x1024 : Shape := ⟨2, ![1024, 1024]⟩
abbrev S1024 : Shape := ⟨1, ![1024]⟩
abbrev S1024x1 : Shape := ⟨2, ![1024, 1]⟩
abbrev S1024x1664 : Shape := ⟨2, ![1024, 1664]⟩
abbrev S4096x512 : Shape := ⟨2, ![4096, 512]⟩
abbrev S4096x1664 : Shape := ⟨2, ![4096, 1664]⟩
abbrev S512x1664 : Shape := ⟨2, ![512, 1664]⟩
abbrev S512x4992 : Shape := ⟨2, ![512, 4992]⟩
abbrev S512x1024 : Shape := ⟨2, ![512, 1024]⟩
abbrev S512 : Shape := ⟨1, ![512]⟩
abbrev S512x1 : Shape := ⟨2, ![512, 1]⟩

abbrev nBuf : Space → Nat
  | .hbm => 37
  | .vmem => 28
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x4872, .f32⟩
  | .hbm, ⟨3, _⟩ => ⟨S4096x1024, .f32⟩
  | .hbm, ⟨4, _⟩ => ⟨S4096x4872, .f32⟩
  | .hbm, ⟨5, _⟩ => ⟨S_, .f32⟩
  | .hbm, ⟨6, _⟩ => ⟨S1024x120, .f32⟩
  | .hbm, ⟨7, _⟩ => ⟨S1024x2048, .f32⟩
  | .hbm, ⟨8, _⟩ => ⟨S1024x2048, .f32⟩
  | .hbm, ⟨9, _⟩ => ⟨S1024x768, .f32⟩
  | .hbm, ⟨10, _⟩ => ⟨S1024x8, .f32⟩
  | .hbm, ⟨11, _⟩ => ⟨S1024x4992, .f32⟩
  | .hbm, ⟨12, _⟩ => ⟨S1024x4992, .bf16⟩
  | .hbm, ⟨13, _⟩ => ⟨S_, .f32⟩
  | .hbm, ⟨14, _⟩ => ⟨S4096x120, .f32⟩
  | .hbm, ⟨15, _⟩ => ⟨S4096x2048, .f32⟩
  | .hbm, ⟨16, _⟩ => ⟨S4096x2048, .f32⟩
  | .hbm, ⟨17, _⟩ => ⟨S4096x768, .f32⟩
  | .hbm, ⟨18, _⟩ => ⟨S4096x8, .f32⟩
  | .hbm, ⟨19, _⟩ => ⟨S4096x4992, .f32⟩
  | .hbm, ⟨20, _⟩ => ⟨S4096x4992, .bf16⟩
  | .hbm, ⟨21, _⟩ => ⟨S4096x1024, .bf16⟩
  | .hbm, ⟨22, _⟩ => ⟨S4096x4992, .f32⟩
  | .hbm, ⟨23, _⟩ => ⟨S1024x4992, .bf16⟩
  | .hbm, ⟨24, _⟩ => ⟨S4096x1024, .f32⟩
  | .hbm, ⟨25, _⟩ => ⟨S1x1024, .f32⟩
  | .hbm, ⟨26, _⟩ => ⟨S4096x2048, .f32⟩
  | .hbm, ⟨27, _⟩ => ⟨S4096x8, .f32⟩
  | .hbm, ⟨28, _⟩ => ⟨S4096x768, .f32⟩
  | .hbm, ⟨29, _⟩ => ⟨S4096x2048, .f32⟩
  | .hbm, ⟨30, _⟩ => ⟨S4096x4872, .f32⟩
  | .hbm, ⟨31, _⟩ => ⟨S1024x2048, .bf16⟩
  | .hbm, ⟨32, _⟩ => ⟨S1024x8, .bf16⟩
  | .hbm, ⟨33, _⟩ => ⟨S1024x768, .bf16⟩
  | .hbm, ⟨34, _⟩ => ⟨S1024x2048, .bf16⟩
  | .hbm, ⟨35, _⟩ => ⟨S1024x4872, .bf16⟩
  | .hbm, ⟨36, _⟩ => ⟨S1024x4872, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1664, .bf16⟩
  | .local _ .vmem, ⟨8, _⟩ => ⟨S1024x1664, .bf16⟩
  | .local _ .vmem, ⟨9, _⟩ => ⟨S1024x1664, .f32⟩
  | .local _ .vmem, ⟨10, _⟩ => ⟨S1024x1664, .f32⟩
  | .local _ .vmem, ⟨11, _⟩ => ⟨S4096x512, .bf16⟩
  | .local _ .vmem, ⟨12, _⟩ => ⟨S4096x512, .bf16⟩
  | .local _ .vmem, ⟨13, _⟩ => ⟨S4096x1664, .bf16⟩
  | .local _ .vmem, ⟨14, _⟩ => ⟨S4096x1664, .bf16⟩
  | .local _ .vmem, ⟨15, _⟩ => ⟨S512x1664, .bf16⟩
  | .local _ .vmem, ⟨16, _⟩ => ⟨S512x1664, .bf16⟩
  | .local _ .vmem, ⟨17, _⟩ => ⟨S512x4992, .bf16⟩
  | .local _ .vmem, ⟨18, _⟩ => ⟨S512x4992, .bf16⟩
  | .local _ .vmem, ⟨19, _⟩ => ⟨S1024x4992, .bf16⟩
  | .local _ .vmem, ⟨20, _⟩ => ⟨S512x1024, .f32⟩
  | .local _ .vmem, ⟨21, _⟩ => ⟨S512x1024, .f32⟩
  | .local _ .vmem, ⟨22, _⟩ => ⟨S512x1024, .f32⟩
  | .local _ .vmem, ⟨23, _⟩ => ⟨S512x1024, .f32⟩
  | .local _ .vmem, ⟨24, _⟩ => ⟨S1x1024, .f32⟩
  | .local _ .vmem, ⟨25, _⟩ => ⟨S512x1024, .f32⟩
  | .local _ .vmem, ⟨26, _⟩ => ⟨S512x1024, .f32⟩
  | .local _ .vmem, ⟨27, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17_0 : Ref sig .tc := ⟨.hbm, 24, rfl⟩
abbrev main_v17_1 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg1_1 : Ref sig .tc := ⟨.vmem, 14, rfl⟩
abbrev cc2_stg2_0 : Ref sig .tc := ⟨.vmem, 15, rfl⟩
abbrev cc2_stg2_1 : Ref sig .tc := ⟨.vmem, 16, rfl⟩
abbrev cc3_stg0_0 : Ref sig .tc := ⟨.vmem, 17, rfl⟩
abbrev cc3_stg0_1 : Ref sig .tc := ⟨.vmem, 18, rfl⟩
abbrev cc3_stg1_0 : Ref sig .tc := ⟨.vmem, 19, rfl⟩
abbrev cc3_stg2_0 : Ref sig .tc := ⟨.vmem, 20, rfl⟩
abbrev cc3_stg2_1 : Ref sig .tc := ⟨.vmem, 21, rfl⟩
abbrev cc3_stg3_0 : Ref sig .tc := ⟨.vmem, 22, rfl⟩
abbrev cc3_stg3_1 : Ref sig .tc := ⟨.vmem, 23, rfl⟩
abbrev cc3_stg4_0 : Ref sig .tc := ⟨.vmem, 24, rfl⟩
abbrev cc3_stg5_0 : Ref sig .tc := ⟨.vmem, 25, rfl⟩
abbrev cc3_stg5_1 : Ref sig .tc := ⟨.vmem, 26, rfl⟩
abbrev cc3_stg6_0 : Ref sig .tc := ⟨.vmem, 27, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc2_sem0_0 : DmaSem sig := 11
abbrev cc2_sem0_1 : DmaSem sig := 12
abbrev cc2_sem1_0 : DmaSem sig := 13
abbrev cc2_sem1_1 : DmaSem sig := 14
abbrev cc2_sem2_0 : DmaSem sig := 15
abbrev cc2_sem2_1 : DmaSem sig := 16
abbrev cc3_sem0_0 : DmaSem sig := 17
abbrev cc3_sem0_1 : DmaSem sig := 18
abbrev cc3_sem1_0 : DmaSem sig := 19
abbrev cc3_sem2_0 : DmaSem sig := 20
abbrev cc3_sem2_1 : DmaSem sig := 21
abbrev cc3_sem3_0 : DmaSem sig := 22
abbrev cc3_sem3_1 : DmaSem sig := 23
abbrev cc3_sem4_0 : DmaSem sig := 24
abbrev cc3_sem5_0 : DmaSem sig := 25
abbrev cc3_sem5_1 : DmaSem sig := 26
abbrev cc3_sem6_0 : DmaSem sig := 27

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![3, 4], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage1_0 : Fin 2 → Memref sig .tc .vmem S1024x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true]

abbrev stage1_1 : Fin 2 → Memref sig .tc .vmem S1024x1664 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1024x1664 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev grid2 : Pipeline.Grid := ⟨2, ![3, 2], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage2_0 : Fin 2 → Memref sig .tc .vmem S4096x512 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![false, true]

abbrev stage2_1 : Fin 2 → Memref sig .tc .vmem S4096x1664 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, false]

abbrev stage2_2 : Fin 2 → Memref sig .tc .vmem S512x1664 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

abbrev grid3 : Pipeline.Grid := ⟨2, ![8, 1], ![false, false]⟩

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![arg0.toNat, v0.toNat]

def cc3_transform_3 (i : grid3.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![arg0.toNat, v0.toNat]

def cc3_transform_4 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc3_transform_5 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc3_transform_6 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage3_0 : Fin 2 → Memref sig .tc .vmem S512x4992 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false]

abbrev stage3_1 : Fin 1 → Memref sig .tc .vmem S1024x4992 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false, true]

abbrev stage3_2 : Fin 2 → Memref sig .tc .vmem S512x1024 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true]

abbrev stage3_3 : Fin 2 → Memref sig .tc .vmem S512x1024 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, true]

abbrev stage3_4 : Fin 1 → Memref sig .tc .vmem S1x1024 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false, true]

abbrev stage3_5 : Fin 2 → Memref sig .tc .vmem S512x1024 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true, true]

abbrev stage3_6 : Fin 1 → Memref sig .tc .vmem S1x1024 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false, false]
-- ==== Reference3Ideal.lean ====
abbrev S4096x1024 : Shape := ⟨2, ![4096, 1024]⟩
abbrev S1x1024 : Shape := ⟨2, ![1, 1024]⟩
abbrev S1024x4872 : Shape := ⟨2, ![1024, 4872]⟩
abbrev S4096x4872 : Shape := ⟨2, ![4096, 4872]⟩
abbrev S_ : Shape := ⟨0, ![]⟩
abbrev S4096 : Shape := ⟨1, ![4096]⟩
abbrev S4096x1 : Shape := ⟨2, ![4096, 1]⟩
abbrev S4872x1024 : Shape := ⟨2, ![4872, 1024]⟩
abbrev S1024 : Shape := ⟨1, ![1024]⟩

abbrev nBuf : Space → Nat
  | .hbm => 52
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x4872, .f32⟩
  | .hbm, ⟨3, _⟩ => ⟨S4096x1024, .f32⟩
  | .hbm, ⟨4, _⟩ => ⟨S4096x4872, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S4096x4872, .f32⟩
  | .hbm, ⟨25, _⟩ => ⟨S4872x1024, .f32⟩
  | .hbm, ⟨26, _⟩ => ⟨S1024x4872, .f32⟩
  | .hbm, ⟨27, _⟩ => ⟨S4096x1024, .f32⟩
  | .hbm, ⟨28, _⟩ => ⟨S4096x1024, .f32⟩
  | .hbm, ⟨29, _⟩ => ⟨S_, .f32⟩
  | .hbm, ⟨30, _⟩ => ⟨S1024, .f32⟩
  | .hbm, ⟨31, _⟩ => ⟨S1x1024, .f32⟩
  | .hbm, ⟨32, _⟩ => ⟨S4096x1024, .f32⟩
  | .hbm, ⟨33, _⟩ => ⟨S4096x1024, .f32⟩
  | .hbm, ⟨34, _⟩ => ⟨S4096x1024, .f32⟩
  | .hbm, ⟨35, _⟩ => ⟨S_, .f32⟩
  | .hbm, ⟨36, _⟩ => ⟨S4096, .f32⟩
  | .hbm, ⟨37, _⟩ => ⟨S4096x1, .f32⟩
  | .hbm, ⟨38, _⟩ => ⟨S4096x1024, .f32⟩
  | .hbm, ⟨39, _⟩ => ⟨S4096x1024, .f32⟩
  | .hbm, ⟨40, _⟩ => ⟨S4096x1024, .f32⟩
  | .hbm, ⟨41, _⟩ => ⟨S4096x1, .f32⟩
  | .hbm, ⟨42, _⟩ => ⟨S_, .f32⟩
  | .hbm, ⟨43, _⟩ => ⟨S4096x1, .f32⟩
  | .hbm, ⟨44, _⟩ => ⟨S4096x1, .f32⟩
  | .hbm, ⟨45, _⟩ => ⟨S_, .f32⟩
  | .hbm, ⟨46, _⟩ => ⟨S4096, .f32⟩
  | .hbm, ⟨47, _⟩ => ⟨S4096x1024, .f32⟩
  | .hbm, ⟨48, _⟩ => ⟨S4096x1024, .f32⟩
  | .hbm, ⟨49, _⟩ => ⟨S4096x1024, .f32⟩
  | .hbm, ⟨50, _⟩ => ⟨S4096x1024, .f32⟩
  | .hbm, ⟨51, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_4 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_5 : Ref sig .tc := ⟨.hbm, 42, rfl⟩
abbrev main_v31 : Ref sig .tc := ⟨.hbm, 43, rfl⟩
abbrev main_v32 : Ref sig .tc := ⟨.hbm, 44, rfl⟩
abbrev main_cst_6 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩

abbrev nD : Nat := 1
abbrev τ : Topo := Topo.v7x

variable {F : FTy → Type} [FloatOps F]
-- ==== Kernel4.lean ====
abbrev S4096x512 : Shape := ⟨2, ![4096, 512]⟩
abbrev S512x1024 : Shape := ⟨2, ![512, 1024]⟩
abbrev S4096x1024 : Shape := ⟨2, ![4096, 1024]⟩
abbrev S512x8x128 : Shape := ⟨3, ![512, 8, 128]⟩
abbrev S8x512x128 : Shape := ⟨3, ![8, 512, 128]⟩
abbrev S_ : Shape := ⟨0, ![]⟩
abbrev S1024x1024 : Shape := ⟨2, ![1024, 1024]⟩
abbrev S1024x512 : Shape := ⟨2, ![1024, 512]⟩
abbrev S1x512x128 : Shape := ⟨3, ![1, 512, 128]⟩
abbrev S512x128 : Shape := ⟨2, ![512, 128]⟩
abbrev S4x512x128 : Shape := ⟨3, ![4, 512, 128]⟩
abbrev S512x512 : Shape := ⟨2, ![512, 512]⟩

abbrev nBuf : Space → Nat
  | .hbm => 32
  | .vmem => 20
  | .smem => 0
  | _ => 0

abbrev bufTy : (tb : Table) → Fin (tcTables nBuf tb) → BufTy
  | .hbm, ⟨0, _⟩ => ⟨S4096x512, .f32⟩
  | .hbm, ⟨1, _⟩ => ⟨S4096x512, .f32⟩
  | .hbm, ⟨2, _⟩ => ⟨S512x1024, .f32⟩
  | .hbm, ⟨3, _⟩ => ⟨S512x1024, .f32⟩
  | .hbm, ⟨4, _⟩ => ⟨S4096x1024, .f32⟩
  | .hbm, ⟨5, _⟩ => ⟨S4096x1024, .f32⟩
  | .hbm, ⟨6, _⟩ => ⟨S512x8x128, .f32⟩
  | .hbm, ⟨7, _⟩ => ⟨S8x512x128, .f32⟩
  | .hbm, ⟨8, _⟩ => ⟨S_, .i32⟩
  | .hbm, ⟨9, _⟩ => ⟨S_, .f32⟩
  | .hbm, ⟨10, _⟩ => ⟨S8x512x128, .f32⟩
  | .hbm, ⟨11, _⟩ => ⟨S8x512x128, .bf16⟩
  | .hbm, ⟨12, _⟩ => ⟨S512x8x128, .f32⟩
  | .hbm, ⟨13, _⟩ => ⟨S8x512x128, .f32⟩
  | .hbm, ⟨14, _⟩ => ⟨S_, .i32⟩
  | .hbm, ⟨15, _⟩ => ⟨S_, .f32⟩
  | .hbm, ⟨16, _⟩ => ⟨S8x512x128, .f32⟩
  | .hbm, ⟨17, _⟩ => ⟨S8x512x128, .bf16⟩
  | .hbm, ⟨18, _⟩ => ⟨S4096x512, .bf16⟩
  | .hbm, ⟨19, _⟩ => ⟨S4096x512, .bf16⟩
  | .hbm, ⟨20, _⟩ => ⟨S4096x1024, .bf16⟩
  | .hbm, ⟨21, _⟩ => ⟨S4096x1024, .bf16⟩
  | .hbm, ⟨22, _⟩ => ⟨S4096x512, .f32⟩
  | .hbm, ⟨23, _⟩ => ⟨S4096x512, .f32⟩
  | .hbm, ⟨24, _⟩ => ⟨S8x512x128, .bf16⟩
  | .hbm, ⟨25, _⟩ => ⟨S8x512x128, .bf16⟩
  | .hbm, ⟨26, _⟩ => ⟨S512x8x128, .bf16⟩
  | .hbm, ⟨27, _⟩ => ⟨S512x1024, .bf16⟩
  | .hbm, ⟨28, _⟩ => ⟨S512x1024, .f32⟩
  | .hbm, ⟨29, _⟩ => ⟨S512x8x128, .bf16⟩
  | .hbm, ⟨30, _⟩ => ⟨S512x1024, .bf16⟩
  | .hbm, ⟨31, _⟩ => ⟨S512x1024, .f32⟩
  | .local _ .vmem, ⟨0, _⟩ => ⟨S1024x1024, .bf16⟩
  | .local _ .vmem, ⟨1, _⟩ => ⟨S1024x1024, .bf16⟩
  | .local _ .vmem, ⟨2, _⟩ => ⟨S8x512x128, .bf16⟩
  | .local _ .vmem, ⟨3, _⟩ => ⟨S1024x512, .f32⟩
  | .local _ .vmem, ⟨4, _⟩ => ⟨S1024x512, .f32⟩
  | .local _ .vmem, ⟨5, _⟩ => ⟨S1024x1024, .bf16⟩
  | .local _ .vmem, ⟨6, _⟩ => ⟨S1024x1024, .bf16⟩
  | .local _ .vmem, ⟨7, _⟩ => ⟨S8x512x128, .bf16⟩
  | .local _ .vmem, ⟨8, _⟩ => ⟨S1024x512, .f32⟩
  | .local _ .vmem, ⟨9, _⟩ => ⟨S1024x512, .f32⟩
  | .local _ .vmem, ⟨10, _⟩ => ⟨S4096x512, .bf16⟩
  | .local _ .vmem, ⟨11, _⟩ => ⟨S4096x512, .bf16⟩
  | .local _ .vmem, ⟨12, _⟩ => ⟨S4096x512, .bf16⟩
  | .local _ .vmem, ⟨13, _⟩ => ⟨S4x512x128, .bf16⟩
  | .local _ .vmem, ⟨14, _⟩ => ⟨S4x512x128, .bf16⟩
  | .local _ .vmem, ⟨15, _⟩ => ⟨S4096x512, .bf16⟩
  | .local _ .vmem, ⟨16, _⟩ => ⟨S4096x512, .bf16⟩
  | .local _ .vmem, ⟨17, _⟩ => ⟨S4096x512, .bf16⟩
  | .local _ .vmem, ⟨18, _⟩ => ⟨S4x512x128, .bf16⟩
  | .local _ .vmem, ⟨19, _⟩ => ⟨S4x512x128, .bf16⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_call0_v0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_c_0 : Ref sig .tc := ⟨.hbm, 14, rfl⟩
abbrev main_call1_v0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg1_0 : Ref sig .tc := ⟨.vmem, 11, rfl⟩
abbrev cc2_stg1_1 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg1_0 : Ref sig .tc := ⟨.vmem, 16, rfl⟩
abbrev cc3_stg1_1 : Ref sig .tc := ⟨.vmem, 17, rfl⟩
abbrev cc3_stg2_0 : Ref sig .tc := ⟨.vmem, 18, rfl⟩
abbrev cc3_stg2_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem1_0 : DmaSem sig := 11
abbrev cc2_sem1_1 : DmaSem sig := 12
abbrev cc2_sem2_0 : DmaSem sig := 13
abbrev cc2_sem2_1 : DmaSem sig := 14
abbrev cc3_sem0_0 : DmaSem sig := 15
abbrev cc3_sem1_0 : DmaSem sig := 16
abbrev cc3_sem1_1 : DmaSem sig := 17
abbrev cc3_sem2_0 : DmaSem sig := 18
abbrev cc3_sem2_1 : DmaSem sig := 19

abbrev nD : Nat := 1
abbrev τ : Topo := Topo.v7x

variable {F : FTy → Type} [FloatOps F]

abbrev grid0 : Pipeline.Grid := ⟨2, ![4, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S8x512x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev grid1 : Pipeline.Grid := ⟨2, ![4, 1], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S1024x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 1 → Memref sig .tc .vmem S8x512x128 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, true]

abbrev stage1_2 : Fin 2 → Memref sig .tc .vmem S1024x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev grid2 : Pipeline.Grid := ⟨2, ![1, 2], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc2_transform_2 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage2_0 : Fin 1 → Memref sig .tc .vmem S4096x512 .bf16 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![true, false]

abbrev stage2_1 : Fin 2 → Memref sig .tc .vmem S4096x512 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S4x512x128 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

abbrev grid3 : Pipeline.Grid := ⟨2, ![1, 2], ![false, false]⟩

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc3_transform_2 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage3_0 : Fin 1 → Memref sig .tc .vmem S4096x512 .bf16 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![true, false]

abbrev stage3_1 : Fin 2 → Memref sig .tc .vmem S4096x512 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true]

abbrev stage3_2 : Fin 2 → Memref sig .tc .vmem S4x512x128 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true]
-- ==== Reference4Ideal.lean ====
abbrev S4096x512 : Shape := ⟨2, ![4096, 512]⟩
abbrev S512x1024 : Shape := ⟨2, ![512, 1024]⟩
abbrev S4096x1024 : Shape := ⟨2, ![4096, 1024]⟩
abbrev S1024x512 : Shape := ⟨2, ![1024, 512]⟩

abbrev nBuf : Space → Nat
  | .hbm => 14
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S4096x512, .f32⟩
  | .hbm, ⟨2, _⟩ => ⟨S512x1024, .f32⟩
  | .hbm, ⟨3, _⟩ => ⟨S512x1024, .f32⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S4096x1024, .f32⟩
  | .hbm, ⟨8, _⟩ => ⟨S1024x512, .f32⟩
  | .hbm, ⟨9, _⟩ => ⟨S512x1024, .f32⟩
  | .hbm, ⟨10, _⟩ => ⟨S4096x512, .f32⟩
  | .hbm, ⟨11, _⟩ => ⟨S1024x512, .f32⟩
  | .hbm, ⟨12, _⟩ => ⟨S512x1024, .f32⟩
  | .hbm, ⟨13, _⟩ => ⟨S4096x512, .f32⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩

abbrev nD : Nat := 1
abbrev τ : Topo := Topo.v7x

variable {F : FTy → Type} [FloatOps F]
-- ==== Kernel5.lean ====
abbrev S4096x4872 : Shape := ⟨2, ![4096, 4872]⟩
abbrev S4096x512 : Shape := ⟨2, ![4096, 512]⟩
abbrev S512x1024 : Shape := ⟨2, ![512, 1024]⟩
abbrev S_ : Shape := ⟨0, ![]⟩
abbrev S4096x120 : Shape := ⟨2, ![4096, 120]⟩
abbrev S4096x2048 : Shape := ⟨2, ![4096, 2048]⟩
abbrev S4096x768 : Shape := ⟨2, ![4096, 768]⟩
abbrev S4096x8 : Shape := ⟨2, ![4096, 8]⟩
abbrev S4096x4992 : Shape := ⟨2, ![4096, 4992]⟩
abbrev S512x8x128 : Shape := ⟨3, ![512, 8, 128]⟩
abbrev S8x512x128 : Shape := ⟨3, ![8, 512, 128]⟩
abbrev S4096x1024 : Shape := ⟨2, ![4096, 1024]⟩
abbrev S1024x512 : Shape := ⟨2, ![1024, 512]⟩
abbrev S4x512x128 : Shape := ⟨3, ![4, 512, 128]⟩
abbrev S1x512x128 : Shape := ⟨3, ![1, 512, 128]⟩
abbrev S512x128 : Shape := ⟨2, ![512, 128]⟩
abbrev S512x512 : Shape := ⟨2, ![512, 512]⟩

abbrev nBuf : Space → Nat
  | .hbm => 30
  | .vmem => 18
  | .smem => 0
  | _ => 0

abbrev bufTy : (tb : Table) → Fin (tcTables nBuf tb) → BufTy
  | .hbm, ⟨0, _⟩ => ⟨S4096x4872, .f32⟩
  | .hbm, ⟨1, _⟩ => ⟨S4096x512, .f32⟩
  | .hbm, ⟨2, _⟩ => ⟨S4096x512, .f32⟩
  | .hbm, ⟨3, _⟩ => ⟨S512x1024, .f32⟩
  | .hbm, ⟨4, _⟩ => ⟨S512x1024, .f32⟩
  | .hbm, ⟨5, _⟩ => ⟨S_, .f32⟩
  | .hbm, ⟨6, _⟩ => ⟨S4096x120, .f32⟩
  | .hbm, ⟨7, _⟩ => ⟨S4096x2048, .f32⟩
  | .hbm, ⟨8, _⟩ => ⟨S4096x2048, .f32⟩
  | .hbm, ⟨9, _⟩ => ⟨S4096x768, .f32⟩
  | .hbm, ⟨10, _⟩ => ⟨S4096x8, .f32⟩
  | .hbm, ⟨11, _⟩ => ⟨S4096x4992, .f32⟩
  | .hbm, ⟨12, _⟩ => ⟨S512x8x128, .f32⟩
  | .hbm, ⟨13, _⟩ => ⟨S8x512x128, .f32⟩
  | .hbm, ⟨14, _⟩ => ⟨S_, .i32⟩
  | .hbm, ⟨15, _⟩ => ⟨S_, .f32⟩
  | .hbm, ⟨16, _⟩ => ⟨S8x512x128, .f32⟩
  | .hbm, ⟨17, _⟩ => ⟨S8x512x128, .bf16⟩
  | .hbm, ⟨18, _⟩ => ⟨S512x8x128, .f32⟩
  | .hbm, ⟨19, _⟩ => ⟨S8x512x128, .f32⟩
  | .hbm, ⟨20, _⟩ => ⟨S_, .i32⟩
  | .hbm, ⟨21, _⟩ => ⟨S_, .f32⟩
  | .hbm, ⟨22, _⟩ => ⟨S8x512x128, .f32⟩
  | .hbm, ⟨23, _⟩ => ⟨S8x512x128, .bf16⟩
  | .hbm, ⟨24, _⟩ => ⟨S4096x512, .bf16⟩
  | .hbm, ⟨25, _⟩ => ⟨S4096x512, .bf16⟩
  | .hbm, ⟨26, _⟩ => ⟨S4096x1024, .f32⟩
  | .hbm, ⟨27, _⟩ => ⟨S4096x1024, .f32⟩
  | .hbm, ⟨28, _⟩ => ⟨S4096x1024, .bf16⟩
  | .hbm, ⟨29, _⟩ => ⟨S4096x1024, .f32⟩
  | .local _ .vmem, ⟨0, _⟩ => ⟨S1024x512, .bf16⟩
  | .local _ .vmem, ⟨1, _⟩ => ⟨S1024x512, .bf16⟩
  | .local _ .vmem, ⟨2, _⟩ => ⟨S4x512x128, .bf16⟩
  | .local _ .vmem, ⟨3, _⟩ => ⟨S4x512x128, .bf16⟩
  | .local _ .vmem, ⟨4, _⟩ => ⟨S1024x512, .bf16⟩
  | .local _ .vmem, ⟨5, _⟩ => ⟨S1024x512, .bf16⟩
  | .local _ .vmem, ⟨6, _⟩ => ⟨S4x512x128, .bf16⟩
  | .local _ .vmem, ⟨7, _⟩ => ⟨S4x512x128, .bf16⟩
  | .local _ .vmem, ⟨8, _⟩ => ⟨S1024x512, .f32⟩
  | .local _ .vmem, ⟨9, _⟩ => ⟨S1024x512, .f32⟩
  | .local _ .vmem, ⟨10, _⟩ => ⟨S1024x512, .f32⟩
  | .local _ .vmem, ⟨11, _⟩ => ⟨S1024x512, .f32⟩
  | .local _ .vmem, ⟨12, _⟩ => ⟨S1024x512, .f32⟩
  | .local _ .vmem, ⟨13, _⟩ => ⟨S1024x512, .f32⟩
  | .local _ .vmem, ⟨14, _⟩ => ⟨S1024x512, .f32⟩
  | .local _ .vmem, ⟨15, _⟩ => ⟨S1024x512, .f32⟩
  | .local _ .vmem, ⟨16, _⟩ => ⟨S1024x512, .bf16⟩
  | .local _ .vmem, ⟨17, _⟩ => ⟨S1024x512, .bf16⟩
  | _, _ => ⟨S4096x4872, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_c : Ref sig .tc := ⟨.hbm, 14, rfl⟩
abbrev main_call0_v0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_c_0 : Ref sig .tc := ⟨.hbm, 20, rfl⟩
abbrev main_call1_v0 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16_0 : Ref sig .tc := ⟨.hbm, 26, rfl⟩
abbrev main_v16_1 : Ref sig .tc := ⟨.hbm, 27, rfl⟩
abbrev main_v16_2 : Ref sig .tc := ⟨.hbm, 28, rfl⟩
abbrev main_v17 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![4, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![arg0.toNat, v0.toNat]

def cc0_transform_5 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg1
  let c0_i32 : BitVec 32 := 0#32
  ![arg0.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4x512x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S4x512x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1024x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1024x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference5Ideal.lean ====
abbrev S4096x4872 : Shape := ⟨2, ![4096, 4872]⟩
abbrev S4096x512 : Shape := ⟨2, ![4096, 512]⟩
abbrev S512x1024 : Shape := ⟨2, ![512, 1024]⟩
abbrev S4096x2048 : Shape := ⟨2, ![4096, 2048]⟩
abbrev S4096x1024 : Shape := ⟨2, ![4096, 1024]⟩
abbrev S_ : Shape := ⟨0, ![]⟩
abbrev S4096x2x1024 : Shape := ⟨3, ![4096, 2, 1024]⟩
abbrev S4096x1x1024 : Shape := ⟨3, ![4096, 1, 1024]⟩

abbrev nBuf : Space → Nat
  | .hbm => 24
  | .vmem => 0
  | .smem => 0
  | _ => 0

abbrev bufTy : (tb : Table) → Fin (tcTables nBuf tb) → BufTy
  | .hbm, ⟨0, _⟩ => ⟨S4096x4872, .f32⟩
  | .hbm, ⟨1, _⟩ => ⟨S4096x512, .f32⟩
  | .hbm, ⟨2, _⟩ => ⟨S4096x512, .f32⟩
  | .hbm, ⟨3, _⟩ => ⟨S512x1024, .f32⟩
  | .hbm, ⟨4, _⟩ => ⟨S512x1024, .f32⟩
  | .hbm, ⟨5, _⟩ => ⟨S4096x2048, .f32⟩
  | .hbm, ⟨6, _⟩ => ⟨S4096x1024, .f32⟩
  | .hbm, ⟨7, _⟩ => ⟨S4096x1024, .f32⟩
  | .hbm, ⟨8, _⟩ => ⟨S4096x2048, .f32⟩
  | .hbm, ⟨9, _⟩ => ⟨S4096x2048, .f32⟩
  | .hbm, ⟨10, _⟩ => ⟨S_, .f32⟩
  | .hbm, ⟨11, _⟩ => ⟨S4096x2048, .f32⟩
  | .hbm, ⟨12, _⟩ => ⟨S4096x2048, .f32⟩
  | .hbm, ⟨13, _⟩ => ⟨S_, .f32⟩
  | .hbm, ⟨14, _⟩ => ⟨S4096x2048, .f32⟩
  | .hbm, ⟨15, _⟩ => ⟨S4096x2048, .f32⟩
  | .hbm, ⟨16, _⟩ => ⟨S4096x2x1024, .f32⟩
  | .hbm, ⟨17, _⟩ => ⟨S4096x1x1024, .f32⟩
  | .hbm, ⟨18, _⟩ => ⟨S4096x1024, .f32⟩
  | .hbm, ⟨19, _⟩ => ⟨S4096x1024, .f32⟩
  | .hbm, ⟨20, _⟩ => ⟨S4096x1x1024, .f32⟩
  | .hbm, ⟨21, _⟩ => ⟨S4096x1024, .f32⟩
  | .hbm, ⟨22, _⟩ => ⟨S4096x1024, .f32⟩
  | .hbm, ⟨23, _⟩ => ⟨S4096x1024, .f32⟩
  | _, _ => ⟨S4096x4872, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩

abbrev nD : Nat := 1
abbrev τ : Topo := Topo.v7x

variable {F : FTy → Type} [FloatOps F]
-- ==== Kernel6.lean ====
abbrev S4096x4872 : Shape := ⟨2, ![4096, 4872]⟩
abbrev S4096x1024 : Shape := ⟨2, ![4096, 1024]⟩
abbrev S1024x1024 : Shape := ⟨2, ![1024, 1024]⟩
abbrev S_ : Shape := ⟨0, ![]⟩
abbrev S4096x120 : Shape := ⟨2, ![4096, 120]⟩
abbrev S4096x2048 : Shape := ⟨2, ![4096, 2048]⟩
abbrev S4096x768 : Shape := ⟨2, ![4096, 768]⟩
abbrev S4096x8 : Shape := ⟨2, ![4096, 8]⟩
abbrev S4096x4992 : Shape := ⟨2, ![4096, 4992]⟩
abbrev S512x1024 : Shape := ⟨2, ![512, 1024]⟩
abbrev S512x2048 : Shape := ⟨2, ![512, 2048]⟩

abbrev nBuf : Space → Nat
  | .hbm => 21
  | .vmem => 17
  | .smem => 0
  | _ => 0

abbrev bufTy : (tb : Table) → Fin (tcTables nBuf tb) → BufTy
  | .hbm, ⟨0, _⟩ => ⟨S4096x4872, .f32⟩
  | .hbm, ⟨1, _⟩ => ⟨S4096x1024, .f32⟩
  | .hbm, ⟨2, _⟩ => ⟨S4096x1024, .f32⟩
  | .hbm, ⟨3, _⟩ => ⟨S1024x1024, .f32⟩
  | .hbm, ⟨4, _⟩ => ⟨S4096x1024, .f32⟩
  | .hbm, ⟨5, _⟩ => ⟨S_, .f32⟩
  | .hbm, ⟨6, _⟩ => ⟨S4096x120, .f32⟩
  | .hbm, ⟨7, _⟩ => ⟨S4096x2048, .f32⟩
  | .hbm, ⟨8, _⟩ => ⟨S4096x2048, .f32⟩
  | .hbm, ⟨9, _⟩ => ⟨S4096x768, .f32⟩
  | .hbm, ⟨10, _⟩ => ⟨S4096x8, .f32⟩
  | .hbm, ⟨11, _⟩ => ⟨S4096x4992, .f32⟩
  | .hbm, ⟨12, _⟩ => ⟨S1024x1024, .bf16⟩
  | .hbm, ⟨13, _⟩ => ⟨S4096x1024, .bf16⟩
  | .hbm, ⟨14, _⟩ => ⟨S4096x4992, .bf16⟩
  | .hbm, ⟨15, _⟩ => ⟨S4096x1024, .bf16⟩
  | .hbm, ⟨16, _⟩ => ⟨S4096x1024, .bf16⟩
  | .hbm, ⟨17, _⟩ => ⟨S4096x2048, .bf16⟩
  | .hbm, ⟨18, _⟩ => ⟨S4096x2048, .f32⟩
  | .hbm, ⟨19, _⟩ => ⟨S4096x1024, .f32⟩
  | .hbm, ⟨20, _⟩ => ⟨S4096x1024, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x2048, .bf16⟩
  | .local _ .vmem, ⟨12, _⟩ => ⟨S512x2048, .bf16⟩
  | .local _ .vmem, ⟨13, _⟩ => ⟨S512x1024, .bf16⟩
  | .local _ .vmem, ⟨14, _⟩ => ⟨S512x1024, .bf16⟩
  | .local _ .vmem, ⟨15, _⟩ => ⟨S512x1024, .bf16⟩
  | .local _ .vmem, ⟨16, _⟩ => ⟨S512x1024, .bf16⟩
  | _, _ => ⟨S4096x4872, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8_0 : Ref sig .tc := ⟨.hbm, 14, rfl⟩
abbrev main_v8_1 : Ref sig .tc := ⟨.hbm, 15, rfl⟩
abbrev main_v8_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨2, ![8, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi c1_i32 arg1
  let c0_i32 : BitVec 32 := 0#32
  ![arg0.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![arg0.toNat, v0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![arg0.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference6Ideal.lean ====
abbrev S4096x4872 : Shape := ⟨2, ![4096, 4872]⟩
abbrev S4096x1024 : Shape := ⟨2, ![4096, 1024]⟩
abbrev S1024x1024 : Shape := ⟨2, ![1024, 1024]⟩
abbrev S4096x2048 : Shape := ⟨2, ![4096, 2048]⟩
abbrev S_ : Shape := ⟨0, ![]⟩
abbrev S4096x2x1024 : Shape := ⟨3, ![4096, 2, 1024]⟩
abbrev S4096x1x1024 : Shape := ⟨3, ![4096, 1, 1024]⟩

abbrev nBuf : Space → Nat
  | .hbm => 41
  | .vmem => 0
  | .smem => 0
  | _ => 0

abbrev bufTy : (tb : Table) → Fin (tcTables nBuf tb) → BufTy
  | .hbm, ⟨0, _⟩ => ⟨S4096x4872, .f32⟩
  | .hbm, ⟨1, _⟩ => ⟨S4096x1024, .f32⟩
  | .hbm, ⟨2, _⟩ => ⟨S4096x1024, .f32⟩
  | .hbm, ⟨3, _⟩ => ⟨S1024x1024, .f32⟩
  | .hbm, ⟨4, _⟩ => ⟨S4096x1024, .f32⟩
  | .hbm, ⟨5, _⟩ => ⟨S4096x2048, .f32⟩
  | .hbm, ⟨6, _⟩ => ⟨S4096x2048, .f32⟩
  | .hbm, ⟨7, _⟩ => ⟨S4096x2048, .f32⟩
  | .hbm, ⟨8, _⟩ => ⟨S_, .f32⟩
  | .hbm, ⟨9, _⟩ => ⟨S4096x2048, .f32⟩
  | .hbm, ⟨10, _⟩ => ⟨S4096x2048, .f32⟩
  | .hbm, ⟨11, _⟩ => ⟨S_, .f32⟩
  | .hbm, ⟨12, _⟩ => ⟨S4096x2048, .f32⟩
  | .hbm, ⟨13, _⟩ => ⟨S4096x2048, .f32⟩
  | .hbm, ⟨14, _⟩ => ⟨S_, .f32⟩
  | .hbm, ⟨15, _⟩ => ⟨S4096x2048, .f32⟩
  | .hbm, ⟨16, _⟩ => ⟨S4096x2048, .f32⟩
  | .hbm, ⟨17, _⟩ => ⟨S4096x2048, .f32⟩
  | .hbm, ⟨18, _⟩ => ⟨S4096x2x1024, .f32⟩
  | .hbm, ⟨19, _⟩ => ⟨S4096x1x1024, .f32⟩
  | .hbm, ⟨20, _⟩ => ⟨S4096x1024, .f32⟩
  | .hbm, ⟨21, _⟩ => ⟨S4096x1024, .f32⟩
  | .hbm, ⟨22, _⟩ => ⟨S4096x1x1024, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S4096x1024, .f32⟩
  | .hbm, ⟨29, _⟩ => ⟨S4096x1024, .f32⟩
  | .hbm, ⟨30, _⟩ => ⟨S4096x1x1024, .f32⟩
  | .hbm, ⟨31, _⟩ => ⟨S_, .f32⟩
  | .hbm, ⟨32, _⟩ => ⟨S4096x2x1024, .f32⟩
  | .hbm, ⟨33, _⟩ => ⟨S4096x1024, .f32⟩
  | .hbm, ⟨34, _⟩ => ⟨S4096x1024, .f32⟩
  | .hbm, ⟨35, _⟩ => ⟨S4096x1x1024, .f32⟩
  | .hbm, ⟨36, _⟩ => ⟨S_, .f32⟩
  | .hbm, ⟨37, _⟩ => ⟨S4096x2x1024, .f32⟩
  | .hbm, ⟨38, _⟩ => ⟨S4096x2x1024, .f32⟩
  | .hbm, ⟨39, _⟩ => ⟨S4096x2048, .f32⟩
  | .hbm, ⟨40, _⟩ => ⟨S4096x2048, .f32⟩
  | _, _ => ⟨S4096x4872, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_cst_2 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_cst_3 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩

abbrev nD : Nat := 1
abbrev τ : Topo := Topo.v7x

variable {F : FTy → Type} [FloatOps F]
-- ==== Kernel7.lean ====
abbrev S8x384x1024 : Shape := ⟨3, ![8, 384, 1024]⟩
abbrev S1x352x1024 : Shape := ⟨3, ![1, 352, 1024]⟩
abbrev S8x176x1024 : Shape := ⟨3, ![8, 176, 1024]⟩
abbrev S1x176x1024 : Shape := ⟨3, ![1, 176, 1024]⟩
abbrev S176x1024 : Shape := ⟨2, ![176, 1024]⟩

abbrev nBuf : Space → Nat
  | .hbm => 8
  | .vmem => 16
  | .smem => 0
  | _ => 0

abbrev bufTy : (tb : Table) → Fin (tcTables nBuf tb) → BufTy
  | .hbm, ⟨0, _⟩ => ⟨S8x384x1024, .bf16⟩
  | .hbm, ⟨1, _⟩ => ⟨S1x352x1024, .f32⟩
  | .hbm, ⟨2, _⟩ => ⟨S1x352x1024, .f32⟩
  | .hbm, ⟨3, _⟩ => ⟨S1x352x1024, .f32⟩
  | .hbm, ⟨4, _⟩ => ⟨S1x352x1024, .f32⟩
  | .hbm, ⟨5, _⟩ => ⟨S1x352x1024, .f32⟩
  | .hbm, ⟨6, _⟩ => ⟨S1x352x1024, .f32⟩
  | .hbm, ⟨7, _⟩ => ⟨S1x352x1024, .f32⟩
  | .local _ .vmem, ⟨0, _⟩ => ⟨S8x176x1024, .bf16⟩
  | .local _ .vmem, ⟨1, _⟩ => ⟨S8x176x1024, .bf16⟩
  | .local _ .vmem, ⟨2, _⟩ => ⟨S1x176x1024, .f32⟩
  | .local _ .vmem, ⟨3, _⟩ => ⟨S1x176x1024, .f32⟩
  | .local _ .vmem, ⟨4, _⟩ => ⟨S1x176x1024, .f32⟩
  | .local _ .vmem, ⟨5, _⟩ => ⟨S1x176x1024, .f32⟩
  | .local _ .vmem, ⟨6, _⟩ => ⟨S1x176x1024, .f32⟩
  | .local _ .vmem, ⟨7, _⟩ => ⟨S1x176x1024, .f32⟩
  | .local _ .vmem, ⟨8, _⟩ => ⟨S1x176x1024, .f32⟩
  | .local _ .vmem, ⟨9, _⟩ => ⟨S1x176x1024, .f32⟩
  | .local _ .vmem, ⟨10, _⟩ => ⟨S1x176x1024, .f32⟩
  | .local _ .vmem, ⟨11, _⟩ => ⟨S1x176x1024, .f32⟩
  | .local _ .vmem, ⟨12, _⟩ => ⟨S1x176x1024, .f32⟩
  | .local _ .vmem, ⟨13, _⟩ => ⟨S1x176x1024, .f32⟩
  | .local _ .vmem, ⟨14, _⟩ => ⟨S1x176x1024, .f32⟩
  | .local _ .vmem, ⟨15, _⟩ => ⟨S1x176x1024, .f32⟩
  | _, _ => ⟨S8x384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S8x176x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x176x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x176x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x176x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x176x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x176x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x176x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x176x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference7Ideal.lean ====
abbrev S8x384x1024 : Shape := ⟨3, ![8, 384, 1024]⟩
abbrev S1x352x1024 : Shape := ⟨3, ![1, 352, 1024]⟩
abbrev S8x352x1024 : Shape := ⟨3, ![8, 352, 1024]⟩
abbrev S_ : Shape := ⟨0, ![]⟩
abbrev S352x1024 : Shape := ⟨2, ![352, 1024]⟩

abbrev nBuf : Space → Nat
  | .hbm => 42
  | .vmem => 0
  | .smem => 0
  | _ => 0

abbrev bufTy : (tb : Table) → Fin (tcTables nBuf tb) → BufTy
  | .hbm, ⟨0, _⟩ => ⟨S8x384x1024, .bf16⟩
  | .hbm, ⟨1, _⟩ => ⟨S1x352x1024, .f32⟩
  | .hbm, ⟨2, _⟩ => ⟨S1x352x1024, .f32⟩
  | .hbm, ⟨3, _⟩ => ⟨S1x352x1024, .f32⟩
  | .hbm, ⟨4, _⟩ => ⟨S8x352x1024, .bf16⟩
  | .hbm, ⟨5, _⟩ => ⟨S8x352x1024, .f32⟩
  | .hbm, ⟨6, _⟩ => ⟨S_, .f32⟩
  | .hbm, ⟨7, _⟩ => ⟨S352x1024, .f32⟩
  | .hbm, ⟨8, _⟩ => ⟨S1x352x1024, .f32⟩
  | .hbm, ⟨9, _⟩ => ⟨S_, .f32⟩
  | .hbm, ⟨10, _⟩ => ⟨S1x352x1024, .f32⟩
  | .hbm, ⟨11, _⟩ => ⟨S1x352x1024, .f32⟩
  | .hbm, ⟨12, _⟩ => ⟨S_, .f32⟩
  | .hbm, ⟨13, _⟩ => ⟨S1x352x1024, .f32⟩
  | .hbm, ⟨14, _⟩ => ⟨S1x352x1024, .f32⟩
  | .hbm, ⟨15, _⟩ => ⟨S1x352x1024, .f32⟩
  | .hbm, ⟨16, _⟩ => ⟨S_, .f32⟩
  | .hbm, ⟨17, _⟩ => ⟨S1x352x1024, .f32⟩
  | .hbm, ⟨18, _⟩ => ⟨S1x352x1024, .f32⟩
  | .hbm, ⟨19, _⟩ => ⟨S1x352x1024, .f32⟩
  | .hbm, ⟨20, _⟩ => ⟨S_, .f32⟩
  | .hbm, ⟨21, _⟩ => ⟨S1x352x1024, .f32⟩
  | .hbm, ⟨22, _⟩ => ⟨S1x352x1024, .f32⟩
  | .hbm, ⟨23, _⟩ => ⟨S1x352x1024, .f32⟩
  | .hbm, ⟨24, _⟩ => ⟨S_, .f32⟩
  | .hbm, ⟨25, _⟩ => ⟨S1x352x1024, .f32⟩
  | .hbm, ⟨26, _⟩ => ⟨S1x352x1024, .f32⟩
  | .hbm, ⟨27, _⟩ => ⟨S_, .f32⟩
  | .hbm, ⟨28, _⟩ => ⟨S1x352x1024, .f32⟩
  | .hbm, ⟨29, _⟩ => ⟨S1x352x1024, .f32⟩
  | .hbm, ⟨30, _⟩ => ⟨S1x352x1024, .f32⟩
  | .hbm, ⟨31, _⟩ => ⟨S_, .f32⟩
  | .hbm, ⟨32, _⟩ => ⟨S1x352x1024, .f32⟩
  | .hbm, ⟨33, _⟩ => ⟨S1x352x1024, .f32⟩
  | .hbm, ⟨34, _⟩ => ⟨S1x352x1024, .f32⟩
  | .hbm, ⟨35, _⟩ => ⟨S_, .f32⟩
  | .hbm, ⟨36, _⟩ => ⟨S1x352x1024, .f32⟩
  | .hbm, ⟨37, _⟩ => ⟨S1x352x1024, .f32⟩
  | .hbm, ⟨38, _⟩ => ⟨S1x352x1024, .f32⟩
  | .hbm, ⟨39, _⟩ => ⟨S_, .f32⟩
  | .hbm, ⟨40, _⟩ => ⟨S1x352x1024, .f32⟩
  | .hbm, ⟨41, _⟩ => ⟨S1x352x1024, .f32⟩
  | _, _ => ⟨S8x384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_4 : Ref sig .tc := ⟨.hbm, 24, rfl⟩
abbrev main_v15 : Ref sig .tc := ⟨.hbm, 25, rfl⟩
abbrev main_v16 : Ref sig .tc := ⟨.hbm, 26, rfl⟩
abbrev main_cst_5 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_6 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_7 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_8 : Ref sig .tc := ⟨.hbm, 39, rfl⟩
abbrev main_v26 : Ref sig .tc := ⟨.hbm, 40, rfl⟩
abbrev main_v27 : Ref sig .tc := ⟨.hbm, 41, rfl⟩

abbrev nD : Nat := 1
abbrev τ : Topo := Topo.v7x

variable {F : FTy → Type} [FloatOps F]
-- ==== Kernel8.lean ====
abbrev S8x128x1024 : Shape := ⟨3, ![8, 128, 1024]⟩
abbrev S1x128x1024 : Shape := ⟨3, ![1, 128, 1024]⟩
abbrev S128x1024 : Shape := ⟨2, ![128, 1024]⟩

abbrev nBuf : Space → Nat
  | .hbm => 8
  | .vmem => 8
  | .smem => 0
  | _ => 0

abbrev bufTy : (tb : Table) → Fin (tcTables nBuf tb) → BufTy
  | .hbm, ⟨0, _⟩ => ⟨S8x128x1024, .bf16⟩
  | .hbm, ⟨1, _⟩ => ⟨S1x128x1024, .f32⟩
  | .hbm, ⟨2, _⟩ => ⟨S1x128x1024, .f32⟩
  | .hbm, ⟨3, _⟩ => ⟨S1x128x1024, .f32⟩
  | .hbm, ⟨4, _⟩ => ⟨S1x128x1024, .f32⟩
  | .hbm, ⟨5, _⟩ => ⟨S1x128x1024, .f32⟩
  | .hbm, ⟨6, _⟩ => ⟨S1x128x1024, .f32⟩
  | .hbm, ⟨7, _⟩ => ⟨S1x128x1024, .f32⟩
  | .local _ .vmem, ⟨0, _⟩ => ⟨S8x128x1024, .bf16⟩
  | .local _ .vmem, ⟨1, _⟩ => ⟨S1x128x1024, .f32⟩
  | .local _ .vmem, ⟨2, _⟩ => ⟨S1x128x1024, .f32⟩
  | .local _ .vmem, ⟨3, _⟩ => ⟨S1x128x1024, .f32⟩
  | .local _ .vmem, ⟨4, _⟩ => ⟨S1x128x1024, .f32⟩
  | .local _ .vmem, ⟨5, _⟩ => ⟨S1x128x1024, .f32⟩
  | .local _ .vmem, ⟨6, _⟩ => ⟨S1x128x1024, .f32⟩
  | .local _ .vmem, ⟨7, _⟩ => ⟨S1x128x1024, .f32⟩
  | _, _ => ⟨S8x128x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 1 → Memref sig .tc .vmem S8x128x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x128x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x128x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x128x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x128x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1x128x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Reference8Ideal.lean ====
abbrev S8x128x1024 : Shape := ⟨3, ![8, 128, 1024]⟩
abbrev S1x128x1024 : Shape := ⟨3, ![1, 128, 1024]⟩
abbrev S_ : Shape := ⟨0, ![]⟩
abbrev S128x1024 : Shape := ⟨2, ![128, 1024]⟩

abbrev nBuf : Space → Nat
  | .hbm => 41
  | .vmem => 0
  | .smem => 0
  | _ => 0

abbrev bufTy : (tb : Table) → Fin (tcTables nBuf tb) → BufTy
  | .hbm, ⟨0, _⟩ => ⟨S8x128x1024, .bf16⟩
  | .hbm, ⟨1, _⟩ => ⟨S1x128x1024, .f32⟩
  | .hbm, ⟨2, _⟩ => ⟨S1x128x1024, .f32⟩
  | .hbm, ⟨3, _⟩ => ⟨S1x128x1024, .f32⟩
  | .hbm, ⟨4, _⟩ => ⟨S8x128x1024, .f32⟩
  | .hbm, ⟨5, _⟩ => ⟨S_, .f32⟩
  | .hbm, ⟨6, _⟩ => ⟨S128x1024, .f32⟩
  | .hbm, ⟨7, _⟩ => ⟨S1x128x1024, .f32⟩
  | .hbm, ⟨8, _⟩ => ⟨S_, .f32⟩
  | .hbm, ⟨9, _⟩ => ⟨S1x128x1024, .f32⟩
  | .hbm, ⟨10, _⟩ => ⟨S1x128x1024, .f32⟩
  | .hbm, ⟨11, _⟩ => ⟨S_, .f32⟩
  | .hbm, ⟨12, _⟩ => ⟨S1x128x1024, .f32⟩
  | .hbm, ⟨13, _⟩ => ⟨S1x128x1024, .f32⟩
  | .hbm, ⟨14, _⟩ => ⟨S1x128x1024, .f32⟩
  | .hbm, ⟨15, _⟩ => ⟨S_, .f32⟩
  | .hbm, ⟨16, _⟩ => ⟨S1x128x1024, .f32⟩
  | .hbm, ⟨17, _⟩ => ⟨S1x128x1024, .f32⟩
  | .hbm, ⟨18, _⟩ => ⟨S1x128x1024, .f32⟩
  | .hbm, ⟨19, _⟩ => ⟨S_, .f32⟩
  | .hbm, ⟨20, _⟩ => ⟨S1x128x1024, .f32⟩
  | .hbm, ⟨21, _⟩ => ⟨S1x128x1024, .f32⟩
  | .hbm, ⟨22, _⟩ => ⟨S1x128x1024, .f32⟩
  | .hbm, ⟨23, _⟩ => ⟨S_, .f32⟩
  | .hbm, ⟨24, _⟩ => ⟨S1x128x1024, .f32⟩
  | .hbm, ⟨25, _⟩ => ⟨S1x128x1024, .f32⟩
  | .hbm, ⟨26, _⟩ => ⟨S_, .f32⟩
  | .hbm, ⟨27, _⟩ => ⟨S1x128x1024, .f32⟩
  | .hbm, ⟨28, _⟩ => ⟨S1x128x1024, .f32⟩
  | .hbm, ⟨29, _⟩ => ⟨S1x128x1024, .f32⟩
  | .hbm, ⟨30, _⟩ => ⟨S_, .f32⟩
  | .hbm, ⟨31, _⟩ => ⟨S1x128x1024, .f32⟩
  | .hbm, ⟨32, _⟩ => ⟨S1x128x1024, .f32⟩
  | .hbm, ⟨33, _⟩ => ⟨S1x128x1024, .f32⟩
  | .hbm, ⟨34, _⟩ => ⟨S_, .f32⟩
  | .hbm, ⟨35, _⟩ => ⟨S1x128x1024, .f32⟩
  | .hbm, ⟨36, _⟩ => ⟨S1x128x1024, .f32⟩
  | .hbm, ⟨37, _⟩ => ⟨S1x128x1024, .f32⟩
  | .hbm, ⟨38, _⟩ => ⟨S_, .f32⟩
  | .hbm, ⟨39, _⟩ => ⟨S1x128x1024, .f32⟩
  | .hbm, ⟨40, _⟩ => ⟨S1x128x1024, .f32⟩
  | _, _ => ⟨S8x128x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_8 : Ref sig .tc := ⟨.hbm, 38, rfl⟩
abbrev main_v25 : Ref sig .tc := ⟨.hbm, 39, rfl⟩
abbrev main_v26 : Ref sig .tc := ⟨.hbm, 40, rfl⟩

abbrev nD : Nat := 1
abbrev τ : Topo := Topo.v7x

variable {F : FTy → Type} [FloatOps F]
-- ==== Kernel9.lean ====
abbrev S8x512x128 : Shape := ⟨3, ![8, 512, 128]⟩
abbrev S1x512x128 : Shape := ⟨3, ![1, 512, 128]⟩
abbrev S8x256x128 : Shape := ⟨3, ![8, 256, 128]⟩
abbrev S1x256x128 : Shape := ⟨3, ![1, 256, 128]⟩
abbrev S256x128 : Shape := ⟨2, ![256, 128]⟩

abbrev nBuf : Space → Nat
  | .hbm => 8
  | .vmem => 16
  | .smem => 0
  | _ => 0

abbrev bufTy : (tb : Table) → Fin (tcTables nBuf tb) → BufTy
  | .hbm, ⟨0, _⟩ => ⟨S8x512x128, .bf16⟩
  | .hbm, ⟨1, _⟩ => ⟨S1x512x128, .f32⟩
  | .hbm, ⟨2, _⟩ => ⟨S1x512x128, .f32⟩
  | .hbm, ⟨3, _⟩ => ⟨S1x512x128, .f32⟩
  | .hbm, ⟨4, _⟩ => ⟨S1x512x128, .f32⟩
  | .hbm, ⟨5, _⟩ => ⟨S1x512x128, .f32⟩
  | .hbm, ⟨6, _⟩ => ⟨S1x512x128, .f32⟩
  | .hbm, ⟨7, _⟩ => ⟨S1x512x128, .f32⟩
  | .local _ .vmem, ⟨0, _⟩ => ⟨S8x256x128, .bf16⟩
  | .local _ .vmem, ⟨1, _⟩ => ⟨S8x256x128, .bf16⟩
  | .local _ .vmem, ⟨2, _⟩ => ⟨S1x256x128, .f32⟩
  | .local _ .vmem, ⟨3, _⟩ => ⟨S1x256x128, .f32⟩
  | .local _ .vmem, ⟨4, _⟩ => ⟨S1x256x128, .f32⟩
  | .local _ .vmem, ⟨5, _⟩ => ⟨S1x256x128, .f32⟩
  | .local _ .vmem, ⟨6, _⟩ => ⟨S1x256x128, .f32⟩
  | .local _ .vmem, ⟨7, _⟩ => ⟨S1x256x128, .f32⟩
  | .local _ .vmem, ⟨8, _⟩ => ⟨S1x256x128, .f32⟩
  | .local _ .vmem, ⟨9, _⟩ => ⟨S1x256x128, .f32⟩
  | .local _ .vmem, ⟨10, _⟩ => ⟨S1x256x128, .f32⟩
  | .local _ .vmem, ⟨11, _⟩ => ⟨S1x256x128, .f32⟩
  | .local _ .vmem, ⟨12, _⟩ => ⟨S1x256x128, .f32⟩
  | .local _ .vmem, ⟨13, _⟩ => ⟨S1x256x128, .f32⟩
  | .local _ .vmem, ⟨14, _⟩ => ⟨S1x256x128, .f32⟩
  | .local _ .vmem, ⟨15, _⟩ => ⟨S1x256x128, .f32⟩
  | _, _ => ⟨S8x512x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S8x256x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x256x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference9Ideal.lean ====
abbrev S8x512x128 : Shape := ⟨3, ![8, 512, 128]⟩
abbrev S1x512x128 : Shape := ⟨3, ![1, 512, 128]⟩
abbrev S_ : Shape := ⟨0, ![]⟩
abbrev S512x128 : Shape := ⟨2, ![512, 128]⟩

abbrev nBuf : Space → Nat
  | .hbm => 41
  | .vmem => 0
  | .smem => 0
  | _ => 0

abbrev bufTy : (tb : Table) → Fin (tcTables nBuf tb) → BufTy
  | .hbm, ⟨0, _⟩ => ⟨S8x512x128, .bf16⟩
  | .hbm, ⟨1, _⟩ => ⟨S1x512x128, .f32⟩
  | .hbm, ⟨2, _⟩ => ⟨S1x512x128, .f32⟩
  | .hbm, ⟨3, _⟩ => ⟨S1x512x128, .f32⟩
  | .hbm, ⟨4, _⟩ => ⟨S8x512x128, .f32⟩
  | .hbm, ⟨5, _⟩ => ⟨S_, .f32⟩
  | .hbm, ⟨6, _⟩ => ⟨S512x128, .f32⟩
  | .hbm, ⟨7, _⟩ => ⟨S1x512x128, .f32⟩
  | .hbm, ⟨8, _⟩ => ⟨S_, .f32⟩
  | .hbm, ⟨9, _⟩ => ⟨S1x512x128, .f32⟩
  | .hbm, ⟨10, _⟩ => ⟨S1x512x128, .f32⟩
  | .hbm, ⟨11, _⟩ => ⟨S_, .f32⟩
  | .hbm, ⟨12, _⟩ => ⟨S1x512x128, .f32⟩
  | .hbm, ⟨13, _⟩ => ⟨S1x512x128, .f32⟩
  | .hbm, ⟨14, _⟩ => ⟨S1x512x128, .f32⟩
  | .hbm, ⟨15, _⟩ => ⟨S_, .f32⟩
  | .hbm, ⟨16, _⟩ => ⟨S1x512x128, .f32⟩
  | .hbm, ⟨17, _⟩ => ⟨S1x512x128, .f32⟩
  | .hbm, ⟨18, _⟩ => ⟨S1x512x128, .f32⟩
  | .hbm, ⟨19, _⟩ => ⟨S_, .f32⟩
  | .hbm, ⟨20, _⟩ => ⟨S1x512x128, .f32⟩
  | .hbm, ⟨21, _⟩ => ⟨S1x512x128, .f32⟩
  | .hbm, ⟨22, _⟩ => ⟨S1x512x128, .f32⟩
  | .hbm, ⟨23, _⟩ => ⟨S_, .f32⟩
  | .hbm, ⟨24, _⟩ => ⟨S1x512x128, .f32⟩
  | .hbm, ⟨25, _⟩ => ⟨S1x512x128, .f32⟩
  | .hbm, ⟨26, _⟩ => ⟨S_, .f32⟩
  | .hbm, ⟨27, _⟩ => ⟨S1x512x128, .f32⟩
  | .hbm, ⟨28, _⟩ => ⟨S1x512x128, .f32⟩
  | .hbm, ⟨29, _⟩ => ⟨S1x512x128, .f32⟩
  | .hbm, ⟨30, _⟩ => ⟨S_, .f32⟩
  | .hbm, ⟨31, _⟩ => ⟨S1x512x128, .f32⟩
  | .hbm, ⟨32, _⟩ => ⟨S1x512x128, .f32⟩
  | .hbm, ⟨33, _⟩ => ⟨S1x512x128, .f32⟩
  | .hbm, ⟨34, _⟩ => ⟨S_, .f32⟩
  | .hbm, ⟨35, _⟩ => ⟨S1x512x128, .f32⟩
  | .hbm, ⟨36, _⟩ => ⟨S1x512x128, .f32⟩
  | .hbm, ⟨37, _⟩ => ⟨S1x512x128, .f32⟩
  | .hbm, ⟨38, _⟩ => ⟨S_, .f32⟩
  | .hbm, ⟨39, _⟩ => ⟨S1x512x128, .f32⟩
  | .hbm, ⟨40, _⟩ => ⟨S1x512x128, .f32⟩
  | _, _ => ⟨S8x512x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_8 : Ref sig .tc := ⟨.hbm, 38, rfl⟩
abbrev main_v25 : Ref sig .tc := ⟨.hbm, 39, rfl⟩
abbrev main_v26 : Ref sig .tc := ⟨.hbm, 40, rfl⟩

abbrev nD : Nat := 1
abbrev τ : Topo := Topo.v7x

variable {F : FTy → Type} [FloatOps F]
-- ==== Kernel10.lean ====
abbrev S8x1024x384 : Shape := ⟨3, ![8, 1024, 384]⟩
abbrev S1x1024x352 : Shape := ⟨3, ![1, 1024, 352]⟩
abbrev S1x352x1024 : Shape := ⟨3, ![1, 352, 1024]⟩
abbrev S8x256x384 : Shape := ⟨3, ![8, 256, 384]⟩
abbrev S1x352x256 : Shape := ⟨3, ![1, 352, 256]⟩
abbrev S1x256x384 : Shape := ⟨3, ![1, 256, 384]⟩
abbrev S256x384 : Shape := ⟨2, ![256, 384]⟩
abbrev S384x256 : Shape := ⟨2, ![384, 256]⟩
abbrev S352x256 : Shape := ⟨2, ![352, 256]⟩

abbrev nBuf : Space → Nat
  | .hbm => 15
  | .vmem => 16
  | .smem => 0
  | _ => 0

abbrev bufTy : (tb : Table) → Fin (tcTables nBuf tb) → BufTy
  | .hbm, ⟨0, _⟩ => ⟨S8x1024x384, .bf16⟩
  | .hbm, ⟨1, _⟩ => ⟨S1x1024x352, .f32⟩
  | .hbm, ⟨2, _⟩ => ⟨S1x1024x352, .f32⟩
  | .hbm, ⟨3, _⟩ => ⟨S1x1024x352, .f32⟩
  | .hbm, ⟨4, _⟩ => ⟨S1x352x1024, .f32⟩
  | .hbm, ⟨5, _⟩ => ⟨S1x352x1024, .f32⟩
  | .hbm, ⟨6, _⟩ => ⟨S1x352x1024, .f32⟩
  | .hbm, ⟨7, _⟩ => ⟨S1x352x1024, .f32⟩
  | .hbm, ⟨8, _⟩ => ⟨S1x352x1024, .f32⟩
  | .hbm, ⟨9, _⟩ => ⟨S1x352x1024, .f32⟩
  | .hbm, ⟨10, _⟩ => ⟨S1x352x1024, .f32⟩
  | .hbm, ⟨11, _⟩ => ⟨S1x1024x352, .f32⟩
  | .hbm, ⟨12, _⟩ => ⟨S1x1024x352, .f32⟩
  | .hbm, ⟨13, _⟩ => ⟨S1x1024x352, .f32⟩
  | .hbm, ⟨14, _⟩ => ⟨S1x1024x352, .f32⟩
  | .local _ .vmem, ⟨0, _⟩ => ⟨S8x256x384, .bf16⟩
  | .local _ .vmem, ⟨1, _⟩ => ⟨S8x256x384, .bf16⟩
  | .local _ .vmem, ⟨2, _⟩ => ⟨S1x352x256, .f32⟩
  | .local _ .vmem, ⟨3, _⟩ => ⟨S1x352x256, .f32⟩
  | .local _ .vmem, ⟨4, _⟩ => ⟨S1x352x256, .f32⟩
  | .local _ .vmem, ⟨5, _⟩ => ⟨S1x352x256, .f32⟩
  | .local _ .vmem, ⟨6, _⟩ => ⟨S1x352x256, .f32⟩
  | .local _ .vmem, ⟨7, _⟩ => ⟨S1x352x256, .f32⟩
  | .local _ .vmem, ⟨8, _⟩ => ⟨S1x352x256, .f32⟩
  | .local _ .vmem, ⟨9, _⟩ => ⟨S1x352x256, .f32⟩
  | .local _ .vmem, ⟨10, _⟩ => ⟨S1x352x256, .f32⟩
  | .local _ .vmem, ⟨11, _⟩ => ⟨S1x352x256, .f32⟩
  | .local _ .vmem, ⟨12, _⟩ => ⟨S1x352x256, .f32⟩
  | .local _ .vmem, ⟨13, _⟩ => ⟨S1x352x256, .f32⟩
  | .local _ .vmem, ⟨14, _⟩ => ⟨S1x352x256, .f32⟩
  | .local _ .vmem, ⟨15, _⟩ => ⟨S1x352x256, .f32⟩
  | _, _ => ⟨S8x1024x384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev main_v3_3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

abbrev stage0_0 : Fin 2 → Memref sig .tc .vmem S8x256x384 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x352x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x352x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x352x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x352x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x352x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x352x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x352x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference10Ideal.lean ====
abbrev S8x1024x384 : Shape := ⟨3, ![8, 1024, 384]⟩
abbrev S1x1024x352 : Shape := ⟨3, ![1, 1024, 352]⟩
abbrev S8x1024x352 : Shape := ⟨3, ![8, 1024, 352]⟩
abbrev S_ : Shape := ⟨0, ![]⟩
abbrev S1024x352 : Shape := ⟨2, ![1024, 352]⟩

abbrev nBuf : Space → Nat
  | .hbm => 42
  | .vmem => 0
  | .smem => 0
  | _ => 0

abbrev bufTy : (tb : Table) → Fin (tcTables nBuf tb) → BufTy
  | .hbm, ⟨0, _⟩ => ⟨S8x1024x384, .bf16⟩
  | .hbm, ⟨1, _⟩ => ⟨S1x1024x352, .f32⟩
  | .hbm, ⟨2, _⟩ => ⟨S1x1024x352, .f32⟩
  | .hbm, ⟨3, _⟩ => ⟨S1x1024x352, .f32⟩
  | .hbm, ⟨4, _⟩ => ⟨S8x1024x352, .bf16⟩
  | .hbm, ⟨5, _⟩ => ⟨S8x1024x352, .f32⟩
  | .hbm, ⟨6, _⟩ => ⟨S_, .f32⟩
  | .hbm, ⟨7, _⟩ => ⟨S1024x352, .f32⟩
  | .hbm, ⟨8, _⟩ => ⟨S1x1024x352, .f32⟩
  | .hbm, ⟨9, _⟩ => ⟨S_, .f32⟩
  | .hbm, ⟨10, _⟩ => ⟨S1x1024x352, .f32⟩
  | .hbm, ⟨11, _⟩ => ⟨S1x1024x352, .f32⟩
  | .hbm, ⟨12, _⟩ => ⟨S_, .f32⟩
  | .hbm, ⟨13, _⟩ => ⟨S1x1024x352, .f32⟩
  | .hbm, ⟨14, _⟩ => ⟨S1x1024x352, .f32⟩
  | .hbm, ⟨15, _⟩ => ⟨S1x1024x352, .f32⟩
  | .hbm, ⟨16, _⟩ => ⟨S_, .f32⟩
  | .hbm, ⟨17, _⟩ => ⟨S1x1024x352, .f32⟩
  | .hbm, ⟨18, _⟩ => ⟨S1x1024x352, .f32⟩
  | .hbm, ⟨19, _⟩ => ⟨S1x1024x352, .f32⟩
  | .hbm, ⟨20, _⟩ => ⟨S_, .f32⟩
  | .hbm, ⟨21, _⟩ => ⟨S1x1024x352, .f32⟩
  | .hbm, ⟨22, _⟩ => ⟨S1x1024x352, .f32⟩
  | .hbm, ⟨23, _⟩ => ⟨S1x1024x352, .f32⟩
  | .hbm, ⟨24, _⟩ => ⟨S_, .f32⟩
  | .hbm, ⟨25, _⟩ => ⟨S1x1024x352, .f32⟩
  | .hbm, ⟨26, _⟩ => ⟨S1x1024x352, .f32⟩
  | .hbm, ⟨27, _⟩ => ⟨S_, .f32⟩
  | .hbm, ⟨28, _⟩ => ⟨S1x1024x352, .f32⟩
  | .hbm, ⟨29, _⟩ => ⟨S1x1024x352, .f32⟩
  | .hbm, ⟨30, _⟩ => ⟨S1x1024x352, .f32⟩
  | .hbm, ⟨31, _⟩ => ⟨S_, .f32⟩
  | .hbm, ⟨32, _⟩ => ⟨S1x1024x352, .f32⟩
  | .hbm, ⟨33, _⟩ => ⟨S1x1024x352, .f32⟩
  | .hbm, ⟨34, _⟩ => ⟨S1x1024x352, .f32⟩
  | .hbm, ⟨35, _⟩ => ⟨S_, .f32⟩
  | .hbm, ⟨36, _⟩ => ⟨S1x1024x352, .f32⟩
  | .hbm, ⟨37, _⟩ => ⟨S1x1024x352, .f32⟩
  | .hbm, ⟨38, _⟩ => ⟨S1x1024x352, .f32⟩
  | .hbm, ⟨39, _⟩ => ⟨S_, .f32⟩
  | .hbm, ⟨40, _⟩ => ⟨S1x1024x352, .f32⟩
  | .hbm, ⟨41, _⟩ => ⟨S1x1024x352, .f32⟩
  | _, _ => ⟨S8x1024x384, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_4 : Ref sig .tc := ⟨.hbm, 24, rfl⟩
abbrev main_v15 : Ref sig .tc := ⟨.hbm, 25, rfl⟩
abbrev main_v16 : Ref sig .tc := ⟨.hbm, 26, rfl⟩
abbrev main_cst_5 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_6 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_7 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_8 : Ref sig .tc := ⟨.hbm, 39, rfl⟩
abbrev main_v26 : Ref sig .tc := ⟨.hbm, 40, rfl⟩
abbrev main_v27 : Ref sig .tc := ⟨.hbm, 41, rfl⟩

abbrev nD : Nat := 1
abbrev τ : Topo := Topo.v7x

variable {F : FTy → Type} [FloatOps F]
-- ==== Kernel11.lean ====
abbrev S8x1024x640 : Shape := ⟨3, ![8, 1024, 640]⟩
abbrev S1x1024x609 : Shape := ⟨3, ![1, 1024, 609]⟩
abbrev S609x1x1024 : Shape := ⟨3, ![609, 1, 1024]⟩
abbrev S8x256x640 : Shape := ⟨3, ![8, 256, 640]⟩
abbrev S609x1x256 : Shape := ⟨3, ![609, 1, 256]⟩
abbrev S1x256x640 : Shape := ⟨3, ![1, 256, 640]⟩
abbrev S256x640 : Shape := ⟨2, ![256, 640]⟩
abbrev S640x256 : Shape := ⟨2, ![640, 256]⟩
abbrev S609x256 : Shape := ⟨2, ![609, 256]⟩

abbrev nBuf : Space → Nat
  | .hbm => 15
  | .vmem => 16
  | .smem => 0
  | _ => 0

abbrev bufTy : (tb : Table) → Fin (tcTables nBuf tb) → BufTy
  | .hbm, ⟨0, _⟩ => ⟨S8x1024x640, .bf16⟩
  | .hbm, ⟨1, _⟩ => ⟨S1x1024x609, .f32⟩
  | .hbm, ⟨2, _⟩ => ⟨S1x1024x609, .f32⟩
  | .hbm, ⟨3, _⟩ => ⟨S1x1024x609, .f32⟩
  | .hbm, ⟨4, _⟩ => ⟨S609x1x1024, .f32⟩
  | .hbm, ⟨5, _⟩ => ⟨S609x1x1024, .f32⟩
  | .hbm, ⟨6, _⟩ => ⟨S609x1x1024, .f32⟩
  | .hbm, ⟨7, _⟩ => ⟨S609x1x1024, .f32⟩
  | .hbm, ⟨8, _⟩ => ⟨S609x1x1024, .f32⟩
  | .hbm, ⟨9, _⟩ => ⟨S609x1x1024, .f32⟩
  | .hbm, ⟨10, _⟩ => ⟨S609x1x1024, .f32⟩
  | .hbm, ⟨11, _⟩ => ⟨S1x1024x609, .f32⟩
  | .hbm, ⟨12, _⟩ => ⟨S1x1024x609, .f32⟩
  | .hbm, ⟨13, _⟩ => ⟨S1x1024x609, .f32⟩
  | .hbm, ⟨14, _⟩ => ⟨S1x1024x609, .f32⟩
  | .local _ .vmem, ⟨0, _⟩ => ⟨S8x256x640, .bf16⟩
  | .local _ .vmem, ⟨1, _⟩ => ⟨S8x256x640, .bf16⟩
  | .local _ .vmem, ⟨2, _⟩ => ⟨S609x1x256, .f32⟩
  | .local _ .vmem, ⟨3, _⟩ => ⟨S609x1x256, .f32⟩
  | .local _ .vmem, ⟨4, _⟩ => ⟨S609x1x256, .f32⟩
  | .local _ .vmem, ⟨5, _⟩ => ⟨S609x1x256, .f32⟩
  | .local _ .vmem, ⟨6, _⟩ => ⟨S609x1x256, .f32⟩
  | .local _ .vmem, ⟨7, _⟩ => ⟨S609x1x256, .f32⟩
  | .local _ .vmem, ⟨8, _⟩ => ⟨S609x1x256, .f32⟩
  | .local _ .vmem, ⟨9, _⟩ => ⟨S609x1x256, .f32⟩
  | .local _ .vmem, ⟨10, _⟩ => ⟨S609x1x256, .f32⟩
  | .local _ .vmem, ⟨11, _⟩ => ⟨S609x1x256, .f32⟩
  | .local _ .vmem, ⟨12, _⟩ => ⟨S609x1x256, .f32⟩
  | .local _ .vmem, ⟨13, _⟩ => ⟨S609x1x256, .f32⟩
  | .local _ .vmem, ⟨14, _⟩ => ⟨S609x1x256, .f32⟩
  | .local _ .vmem, ⟨15, _⟩ => ⟨S609x1x256, .f32⟩
  | _, _ => ⟨S8x1024x640, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev main_v3_3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

abbrev stage0_0 : Fin 2 → Memref sig .tc .vmem S8x256x640 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S609x1x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S609x1x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S609x1x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S609x1x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S609x1x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S609x1x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S609x1x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference11Ideal.lean ====
abbrev S8x1024x640 : Shape := ⟨3, ![8, 1024, 640]⟩
abbrev S1x1024x609 : Shape := ⟨3, ![1, 1024, 609]⟩
abbrev S8x1024x609 : Shape := ⟨3, ![8, 1024, 609]⟩
abbrev S_ : Shape := ⟨0, ![]⟩
abbrev S1024x609 : Shape := ⟨2, ![1024, 609]⟩

abbrev nBuf : Space → Nat
  | .hbm => 42
  | .vmem => 0
  | .smem => 0
  | _ => 0

abbrev bufTy : (tb : Table) → Fin (tcTables nBuf tb) → BufTy
  | .hbm, ⟨0, _⟩ => ⟨S8x1024x640, .bf16⟩
  | .hbm, ⟨1, _⟩ => ⟨S1x1024x609, .f32⟩
  | .hbm, ⟨2, _⟩ => ⟨S1x1024x609, .f32⟩
  | .hbm, ⟨3, _⟩ => ⟨S1x1024x609, .f32⟩
  | .hbm, ⟨4, _⟩ => ⟨S8x1024x609, .bf16⟩
  | .hbm, ⟨5, _⟩ => ⟨S8x1024x609, .f32⟩
  | .hbm, ⟨6, _⟩ => ⟨S_, .f32⟩
  | .hbm, ⟨7, _⟩ => ⟨S1024x609, .f32⟩
  | .hbm, ⟨8, _⟩ => ⟨S1x1024x609, .f32⟩
  | .hbm, ⟨9, _⟩ => ⟨S_, .f32⟩
  | .hbm, ⟨10, _⟩ => ⟨S1x1024x609, .f32⟩
  | .hbm, ⟨11, _⟩ => ⟨S1x1024x609, .f32⟩
  | .hbm, ⟨12, _⟩ => ⟨S_, .f32⟩
  | .hbm, ⟨13, _⟩ => ⟨S1x1024x609, .f32⟩
  | .hbm, ⟨14, _⟩ => ⟨S1x1024x609, .f32⟩
  | .hbm, ⟨15, _⟩ => ⟨S1x1024x609, .f32⟩
  | .hbm, ⟨16, _⟩ => ⟨S_, .f32⟩
  | .hbm, ⟨17, _⟩ => ⟨S1x1024x609, .f32⟩
  | .hbm, ⟨18, _⟩ => ⟨S1x1024x609, .f32⟩
  | .hbm, ⟨19, _⟩ => ⟨S1x1024x609, .f32⟩
  | .hbm, ⟨20, _⟩ => ⟨S_, .f32⟩
  | .hbm, ⟨21, _⟩ => ⟨S1x1024x609, .f32⟩
  | .hbm, ⟨22, _⟩ => ⟨S1x1024x609, .f32⟩
  | .hbm, ⟨23, _⟩ => ⟨S1x1024x609, .f32⟩
  | .hbm, ⟨24, _⟩ => ⟨S_, .f32⟩
  | .hbm, ⟨25, _⟩ => ⟨S1x1024x609, .f32⟩
  | .hbm, ⟨26, _⟩ => ⟨S1x1024x609, .f32⟩
  | .hbm, ⟨27, _⟩ => ⟨S_, .f32⟩
  | .hbm, ⟨28, _⟩ => ⟨S1x1024x609, .f32⟩
  | .hbm, ⟨29, _⟩ => ⟨S1x1024x609, .f32⟩
  | .hbm, ⟨30, _⟩ => ⟨S1x1024x609, .f32⟩
  | .hbm, ⟨31, _⟩ => ⟨S_, .f32⟩
  | .hbm, ⟨32, _⟩ => ⟨S1x1024x609, .f32⟩
  | .hbm, ⟨33, _⟩ => ⟨S1x1024x609, .f32⟩
  | .hbm, ⟨34, _⟩ => ⟨S1x1024x609, .f32⟩
  | .hbm, ⟨35, _⟩ => ⟨S_, .f32⟩
  | .hbm, ⟨36, _⟩ => ⟨S1x1024x609, .f32⟩
  | .hbm, ⟨37, _⟩ => ⟨S1x1024x609, .f32⟩
  | .hbm, ⟨38, _⟩ => ⟨S1x1024x609, .f32⟩
  | .hbm, ⟨39, _⟩ => ⟨S_, .f32⟩
  | .hbm, ⟨40, _⟩ => ⟨S1x1024x609, .f32⟩
  | .hbm, ⟨41, _⟩ => ⟨S1x1024x609, .f32⟩
  | _, _ => ⟨S8x1024x640, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_4 : Ref sig .tc := ⟨.hbm, 24, rfl⟩
abbrev main_v15 : Ref sig .tc := ⟨.hbm, 25, rfl⟩
abbrev main_v16 : Ref sig .tc := ⟨.hbm, 26, rfl⟩
abbrev main_cst_5 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_6 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_7 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_8 : Ref sig .tc := ⟨.hbm, 39, rfl⟩
abbrev main_v26 : Ref sig .tc := ⟨.hbm, 40, rfl⟩
abbrev main_v27 : Ref sig .tc := ⟨.hbm, 41, rfl⟩

abbrev nD : Nat := 1
abbrev τ : Topo := Topo.v7x

variable {F : FTy → Type} [FloatOps F]
-- ==== Kernel12.lean ====
abbrev S8x4x192 : Shape := ⟨3, ![8, 4, 192]⟩
abbrev S1x4x192 : Shape := ⟨3, ![1, 4, 192]⟩
abbrev S4x192 : Shape := ⟨2, ![4, 192]⟩

abbrev nBuf : Space → Nat
  | .hbm => 8
  | .vmem => 8
  | .smem => 0
  | _ => 0

abbrev bufTy : (tb : Table) → Fin (tcTables nBuf tb) → BufTy
  | .hbm, ⟨0, _⟩ => ⟨S8x4x192, .f32⟩
  | .hbm, ⟨1, _⟩ => ⟨S1x4x192, .f32⟩
  | .hbm, ⟨2, _⟩ => ⟨S1x4x192, .f32⟩
  | .hbm, ⟨3, _⟩ => ⟨S1x4x192, .f32⟩
  | .hbm, ⟨4, _⟩ => ⟨S1x4x192, .f32⟩
  | .hbm, ⟨5, _⟩ => ⟨S1x4x192, .f32⟩
  | .hbm, ⟨6, _⟩ => ⟨S1x4x192, .f32⟩
  | .hbm, ⟨7, _⟩ => ⟨S1x4x192, .f32⟩
  | .local _ .vmem, ⟨0, _⟩ => ⟨S8x4x192, .f32⟩
  | .local _ .vmem, ⟨1, _⟩ => ⟨S1x4x192, .f32⟩
  | .local _ .vmem, ⟨2, _⟩ => ⟨S1x4x192, .f32⟩
  | .local _ .vmem, ⟨3, _⟩ => ⟨S1x4x192, .f32⟩
  | .local _ .vmem, ⟨4, _⟩ => ⟨S1x4x192, .f32⟩
  | .local _ .vmem, ⟨5, _⟩ => ⟨S1x4x192, .f32⟩
  | .local _ .vmem, ⟨6, _⟩ => ⟨S1x4x192, .f32⟩
  | .local _ .vmem, ⟨7, _⟩ => ⟨S1x4x192, .f32⟩
  | _, _ => ⟨S8x4x192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 1 → Memref sig .tc .vmem S8x4x192 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x4x192 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x4x192 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x4x192 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x4x192 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x4x192 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x4x192 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1x4x192 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Reference12Ideal.lean ====
abbrev S8x4x192 : Shape := ⟨3, ![8, 4, 192]⟩
abbrev S1x4x192 : Shape := ⟨3, ![1, 4, 192]⟩
abbrev S_ : Shape := ⟨0, ![]⟩
abbrev S4x192 : Shape := ⟨2, ![4, 192]⟩

abbrev nBuf : Space → Nat
  | .hbm => 40
  | .vmem => 0
  | .smem => 0
  | _ => 0

abbrev bufTy : (tb : Table) → Fin (tcTables nBuf tb) → BufTy
  | .hbm, ⟨0, _⟩ => ⟨S8x4x192, .f32⟩
  | .hbm, ⟨1, _⟩ => ⟨S1x4x192, .f32⟩
  | .hbm, ⟨2, _⟩ => ⟨S1x4x192, .f32⟩
  | .hbm, ⟨3, _⟩ => ⟨S1x4x192, .f32⟩
  | .hbm, ⟨4, _⟩ => ⟨S_, .f32⟩
  | .hbm, ⟨5, _⟩ => ⟨S4x192, .f32⟩
  | .hbm, ⟨6, _⟩ => ⟨S1x4x192, .f32⟩
  | .hbm, ⟨7, _⟩ => ⟨S_, .f32⟩
  | .hbm, ⟨8, _⟩ => ⟨S1x4x192, .f32⟩
  | .hbm, ⟨9, _⟩ => ⟨S1x4x192, .f32⟩
  | .hbm, ⟨10, _⟩ => ⟨S_, .f32⟩
  | .hbm, ⟨11, _⟩ => ⟨S1x4x192, .f32⟩
  | .hbm, ⟨12, _⟩ => ⟨S1x4x192, .f32⟩
  | .hbm, ⟨13, _⟩ => ⟨S1x4x192, .f32⟩
  | .hbm, ⟨14, _⟩ => ⟨S_, .f32⟩
  | .hbm, ⟨15, _⟩ => ⟨S1x4x192, .f32⟩
  | .hbm, ⟨16, _⟩ => ⟨S1x4x192, .f32⟩
  | .hbm, ⟨17, _⟩ => ⟨S1x4x192, .f32⟩
  | .hbm, ⟨18, _⟩ => ⟨S_, .f32⟩
  | .hbm, ⟨19, _⟩ => ⟨S1x4x192, .f32⟩
  | .hbm, ⟨20, _⟩ => ⟨S1x4x192, .f32⟩
  | .hbm, ⟨21, _⟩ => ⟨S1x4x192, .f32⟩
  | .hbm, ⟨22, _⟩ => ⟨S_, .f32⟩
  | .hbm, ⟨23, _⟩ => ⟨S1x4x192, .f32⟩
  | .hbm, ⟨24, _⟩ => ⟨S1x4x192, .f32⟩
  | .hbm, ⟨25, _⟩ => ⟨S_, .f32⟩
  | .hbm, ⟨26, _⟩ => ⟨S1x4x192, .f32⟩
  | .hbm, ⟨27, _⟩ => ⟨S1x4x192, .f32⟩
  | .hbm, ⟨28, _⟩ => ⟨S1x4x192, .f32⟩
  | .hbm, ⟨29, _⟩ => ⟨S_, .f32⟩
  | .hbm, ⟨30, _⟩ => ⟨S1x4x192, .f32⟩
  | .hbm, ⟨31, _⟩ => ⟨S1x4x192, .f32⟩
  | .hbm, ⟨32, _⟩ => ⟨S1x4x192, .f32⟩
  | .hbm, ⟨33, _⟩ => ⟨S_, .f32⟩
  | .hbm, ⟨34, _⟩ => ⟨S1x4x192, .f32⟩
  | .hbm, ⟨35, _⟩ => ⟨S1x4x192, .f32⟩
  | .hbm, ⟨36, _⟩ => ⟨S1x4x192, .f32⟩
  | .hbm, ⟨37, _⟩ => ⟨S_, .f32⟩
  | .hbm, ⟨38, _⟩ => ⟨S1x4x192, .f32⟩
  | .hbm, ⟨39, _⟩ => ⟨S1x4x192, .f32⟩
  | _, _ => ⟨S8x4x192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Kernel13.lean ====
abbrev S8x512x128 : Shape := ⟨3, ![8, 512, 128]⟩
abbrev S1x512x128 : Shape := ⟨3, ![1, 512, 128]⟩
abbrev S8x256x128 : Shape := ⟨3, ![8, 256, 128]⟩
abbrev S1x256x128 : Shape := ⟨3, ![1, 256, 128]⟩
abbrev S256x128 : Shape := ⟨2, ![256, 128]⟩

abbrev nBuf : Space → Nat
  | .hbm => 8
  | .vmem => 16
  | .smem => 0
  | _ => 0

abbrev bufTy : (tb : Table) → Fin (tcTables nBuf tb) → BufTy
  | .hbm, ⟨0, _⟩ => ⟨S8x512x128, .bf16⟩
  | .hbm, ⟨1, _⟩ => ⟨S1x512x128, .f32⟩
  | .hbm, ⟨2, _⟩ => ⟨S1x512x128, .f32⟩
  | .hbm, ⟨3, _⟩ => ⟨S1x512x128, .f32⟩
  | .hbm, ⟨4, _⟩ => ⟨S1x512x128, .f32⟩
  | .hbm, ⟨5, _⟩ => ⟨S1x512x128, .f32⟩
  | .hbm, ⟨6, _⟩ => ⟨S1x512x128, .f32⟩
  | .hbm, ⟨7, _⟩ => ⟨S1x512x128, .f32⟩
  | .local _ .vmem, ⟨0, _⟩ => ⟨S8x256x128, .bf16⟩
  | .local _ .vmem, ⟨1, _⟩ => ⟨S8x256x128, .bf16⟩
  | .local _ .vmem, ⟨2, _⟩ => ⟨S1x256x128, .f32⟩
  | .local _ .vmem, ⟨3, _⟩ => ⟨S1x256x128, .f32⟩
  | .local _ .vmem, ⟨4, _⟩ => ⟨S1x256x128, .f32⟩
  | .local _ .vmem, ⟨5, _⟩ => ⟨S1x256x128, .f32⟩
  | .local _ .vmem, ⟨6, _⟩ => ⟨S1x256x128, .f32⟩
  | .local _ .vmem, ⟨7, _⟩ => ⟨S1x256x128, .f32⟩
  | .local _ .vmem, ⟨8, _⟩ => ⟨S1x256x128, .f32⟩
  | .local _ .vmem, ⟨9, _⟩ => ⟨S1x256x128, .f32⟩
  | .local _ .vmem, ⟨10, _⟩ => ⟨S1x256x128, .f32⟩
  | .local _ .vmem, ⟨11, _⟩ => ⟨S1x256x128, .f32⟩
  | .local _ .vmem, ⟨12, _⟩ => ⟨S1x256x128, .f32⟩
  | .local _ .vmem, ⟨13, _⟩ => ⟨S1x256x128, .f32⟩
  | .local _ .vmem, ⟨14, _⟩ => ⟨S1x256x128, .f32⟩
  | .local _ .vmem, ⟨15, _⟩ => ⟨S1x256x128, .f32⟩
  | _, _ => ⟨S8x512x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S8x256x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x256x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference13Ideal.lean ====
abbrev S8x512x128 : Shape := ⟨3, ![8, 512, 128]⟩
abbrev S1x512x128 : Shape := ⟨3, ![1, 512, 128]⟩
abbrev S_ : Shape := ⟨0, ![]⟩
abbrev S512x128 : Shape := ⟨2, ![512, 128]⟩

abbrev nBuf : Space → Nat
  | .hbm => 41
  | .vmem => 0
  | .smem => 0
  | _ => 0

abbrev bufTy : (tb : Table) → Fin (tcTables nBuf tb) → BufTy
  | .hbm, ⟨0, _⟩ => ⟨S8x512x128, .bf16⟩
  | .hbm, ⟨1, _⟩ => ⟨S1x512x128, .f32⟩
  | .hbm, ⟨2, _⟩ => ⟨S1x512x128, .f32⟩
  | .hbm, ⟨3, _⟩ => ⟨S1x512x128, .f32⟩
  | .hbm, ⟨4, _⟩ => ⟨S8x512x128, .f32⟩
  | .hbm, ⟨5, _⟩ => ⟨S_, .f32⟩
  | .hbm, ⟨6, _⟩ => ⟨S512x128, .f32⟩
  | .hbm, ⟨7, _⟩ => ⟨S1x512x128, .f32⟩
  | .hbm, ⟨8, _⟩ => ⟨S_, .f32⟩
  | .hbm, ⟨9, _⟩ => ⟨S1x512x128, .f32⟩
  | .hbm, ⟨10, _⟩ => ⟨S1x512x128, .f32⟩
  | .hbm, ⟨11, _⟩ => ⟨S_, .f32⟩
  | .hbm, ⟨12, _⟩ => ⟨S1x512x128, .f32⟩
  | .hbm, ⟨13, _⟩ => ⟨S1x512x128, .f32⟩
  | .hbm, ⟨14, _⟩ => ⟨S1x512x128, .f32⟩
  | .hbm, ⟨15, _⟩ => ⟨S_, .f32⟩
  | .hbm, ⟨16, _⟩ => ⟨S1x512x128, .f32⟩
  | .hbm, ⟨17, _⟩ => ⟨S1x512x128, .f32⟩
  | .hbm, ⟨18, _⟩ => ⟨S1x512x128, .f32⟩
  | .hbm, ⟨19, _⟩ => ⟨S_, .f32⟩
  | .hbm, ⟨20, _⟩ => ⟨S1x512x128, .f32⟩
  | .hbm, ⟨21, _⟩ => ⟨S1x512x128, .f32⟩
  | .hbm, ⟨22, _⟩ => ⟨S1x512x128, .f32⟩
  | .hbm, ⟨23, _⟩ => ⟨S_, .f32⟩
  | .hbm, ⟨24, _⟩ => ⟨S1x512x128, .f32⟩
  | .hbm, ⟨25, _⟩ => ⟨S1x512x128, .f32⟩
  | .hbm, ⟨26, _⟩ => ⟨S_, .f32⟩
  | .hbm, ⟨27, _⟩ => ⟨S1x512x128, .f32⟩
  | .hbm, ⟨28, _⟩ => ⟨S1x512x128, .f32⟩
  | .hbm, ⟨29, _⟩ => ⟨S1x512x128, .f32⟩
  | .hbm, ⟨30, _⟩ => ⟨S_, .f32⟩
  | .hbm, ⟨31, _⟩ => ⟨S1x512x128, .f32⟩
  | .hbm, ⟨32, _⟩ => ⟨S1x512x128, .f32⟩
  | .hbm, ⟨33, _⟩ => ⟨S1x512x128, .f32⟩
  | .hbm, ⟨34, _⟩ => ⟨S_, .f32⟩
  | .hbm, ⟨35, _⟩ => ⟨S1x512x128, .f32⟩
  | .hbm, ⟨36, _⟩ => ⟨S1x512x128, .f32⟩
  | .hbm, ⟨37, _⟩ => ⟨S1x512x128, .f32⟩
  | .hbm, ⟨38, _⟩ => ⟨S_, .f32⟩
  | .hbm, ⟨39, _⟩ => ⟨S1x512x128, .f32⟩
  | .hbm, ⟨40, _⟩ => ⟨S1x512x128, .f32⟩
  | _, _ => ⟨S8x512x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_8 : Ref sig .tc := ⟨.hbm, 38, rfl⟩
abbrev main_v25 : Ref sig .tc := ⟨.hbm, 39, rfl⟩
abbrev main_v26 : Ref sig .tc := ⟨.hbm, 40, rfl⟩

abbrev nD : Nat := 1
abbrev τ : Topo := Topo.v7x

variable {F : FTy → Type} [FloatOps F]
-- ==== Kernel14.lean ====
abbrev S8x1024x384 : Shape := ⟨3, ![8, 1024, 384]⟩
abbrev S1x1024x352 : Shape := ⟨3, ![1, 1024, 352]⟩
abbrev S1x352x1024 : Shape := ⟨3, ![1, 352, 1024]⟩
abbrev S8x256x384 : Shape := ⟨3, ![8, 256, 384]⟩
abbrev S1x352x256 : Shape := ⟨3, ![1, 352, 256]⟩
abbrev S1x256x384 : Shape := ⟨3, ![1, 256, 384]⟩
abbrev S256x384 : Shape := ⟨2, ![256, 384]⟩
abbrev S384x256 : Shape := ⟨2, ![384, 256]⟩
abbrev S352x256 : Shape := ⟨2, ![352, 256]⟩

abbrev nBuf : Space → Nat
  | .hbm => 15
  | .vmem => 16
  | .smem => 0
  | _ => 0

abbrev bufTy : (tb : Table) → Fin (tcTables nBuf tb) → BufTy
  | .hbm, ⟨0, _⟩ => ⟨S8x1024x384, .bf16⟩
  | .hbm, ⟨1, _⟩ => ⟨S1x1024x352, .f32⟩
  | .hbm, ⟨2, _⟩ => ⟨S1x1024x352, .f32⟩
  | .hbm, ⟨3, _⟩ => ⟨S1x1024x352, .f32⟩
  | .hbm, ⟨4, _⟩ => ⟨S1x352x1024, .f32⟩
  | .hbm, ⟨5, _⟩ => ⟨S1x352x1024, .f32⟩
  | .hbm, ⟨6, _⟩ => ⟨S1x352x1024, .f32⟩
  | .hbm, ⟨7, _⟩ => ⟨S1x352x1024, .f32⟩
  | .hbm, ⟨8, _⟩ => ⟨S1x352x1024, .f32⟩
  | .hbm, ⟨9, _⟩ => ⟨S1x352x1024, .f32⟩
  | .hbm, ⟨10, _⟩ => ⟨S1x352x1024, .f32⟩
  | .hbm, ⟨11, _⟩ => ⟨S1x1024x352, .f32⟩
  | .hbm, ⟨12, _⟩ => ⟨S1x1024x352, .f32⟩
  | .hbm, ⟨13, _⟩ => ⟨S1x1024x352, .f32⟩
  | .hbm, ⟨14, _⟩ => ⟨S1x1024x352, .f32⟩
  | .local _ .vmem, ⟨0, _⟩ => ⟨S8x256x384, .bf16⟩
  | .local _ .vmem, ⟨1, _⟩ => ⟨S8x256x384, .bf16⟩
  | .local _ .vmem, ⟨2, _⟩ => ⟨S1x352x256, .f32⟩
  | .local _ .vmem, ⟨3, _⟩ => ⟨S1x352x256, .f32⟩
  | .local _ .vmem, ⟨4, _⟩ => ⟨S1x352x256, .f32⟩
  | .local _ .vmem, ⟨5, _⟩ => ⟨S1x352x256, .f32⟩
  | .local _ .vmem, ⟨6, _⟩ => ⟨S1x352x256, .f32⟩
  | .local _ .vmem, ⟨7, _⟩ => ⟨S1x352x256, .f32⟩
  | .local _ .vmem, ⟨8, _⟩ => ⟨S1x352x256, .f32⟩
  | .local _ .vmem, ⟨9, _⟩ => ⟨S1x352x256, .f32⟩
  | .local _ .vmem, ⟨10, _⟩ => ⟨S1x352x256, .f32⟩
  | .local _ .vmem, ⟨11, _⟩ => ⟨S1x352x256, .f32⟩
  | .local _ .vmem, ⟨12, _⟩ => ⟨S1x352x256, .f32⟩
  | .local _ .vmem, ⟨13, _⟩ => ⟨S1x352x256, .f32⟩
  | .local _ .vmem, ⟨14, _⟩ => ⟨S1x352x256, .f32⟩
  | .local _ .vmem, ⟨15, _⟩ => ⟨S1x352x256, .f32⟩
  | _, _ => ⟨S8x1024x384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev main_v3_3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

abbrev stage0_0 : Fin 2 → Memref sig .tc .vmem S8x256x384 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x352x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x352x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x352x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x352x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x352x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x352x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x352x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference14Ideal.lean ====
abbrev S8x1024x384 : Shape := ⟨3, ![8, 1024, 384]⟩
abbrev S1x1024x352 : Shape := ⟨3, ![1, 1024, 352]⟩
abbrev S8x1024x352 : Shape := ⟨3, ![8, 1024, 352]⟩
abbrev S_ : Shape := ⟨0, ![]⟩
abbrev S1024x352 : Shape := ⟨2, ![1024, 352]⟩

abbrev nBuf : Space → Nat
  | .hbm => 42
  | .vmem => 0
  | .smem => 0
  | _ => 0

abbrev bufTy : (tb : Table) → Fin (tcTables nBuf tb) → BufTy
  | .hbm, ⟨0, _⟩ => ⟨S8x1024x384, .bf16⟩
  | .hbm, ⟨1, _⟩ => ⟨S1x1024x352, .f32⟩
  | .hbm, ⟨2, _⟩ => ⟨S1x1024x352, .f32⟩
  | .hbm, ⟨3, _⟩ => ⟨S1x1024x352, .f32⟩
  | .hbm, ⟨4, _⟩ => ⟨S8x1024x352, .bf16⟩
  | .hbm, ⟨5, _⟩ => ⟨S8x1024x352, .f32⟩
  | .hbm, ⟨6, _⟩ => ⟨S_, .f32⟩
  | .hbm, ⟨7, _⟩ => ⟨S1024x352, .f32⟩
  | .hbm, ⟨8, _⟩ => ⟨S1x1024x352, .f32⟩
  | .hbm, ⟨9, _⟩ => ⟨S_, .f32⟩
  | .hbm, ⟨10, _⟩ => ⟨S1x1024x352, .f32⟩
  | .hbm, ⟨11, _⟩ => ⟨S1x1024x352, .f32⟩
  | .hbm, ⟨12, _⟩ => ⟨S_, .f32⟩
  | .hbm, ⟨13, _⟩ => ⟨S1x1024x352, .f32⟩
  | .hbm, ⟨14, _⟩ => ⟨S1x1024x352, .f32⟩
  | .hbm, ⟨15, _⟩ => ⟨S1x1024x352, .f32⟩
  | .hbm, ⟨16, _⟩ => ⟨S_, .f32⟩
  | .hbm, ⟨17, _⟩ => ⟨S1x1024x352, .f32⟩
  | .hbm, ⟨18, _⟩ => ⟨S1x1024x352, .f32⟩
  | .hbm, ⟨19, _⟩ => ⟨S1x1024x352, .f32⟩
  | .hbm, ⟨20, _⟩ => ⟨S_, .f32⟩
  | .hbm, ⟨21, _⟩ => ⟨S1x1024x352, .f32⟩
  | .hbm, ⟨22, _⟩ => ⟨S1x1024x352, .f32⟩
  | .hbm, ⟨23, _⟩ => ⟨S1x1024x352, .f32⟩
  | .hbm, ⟨24, _⟩ => ⟨S_, .f32⟩
  | .hbm, ⟨25, _⟩ => ⟨S1x1024x352, .f32⟩
  | .hbm, ⟨26, _⟩ => ⟨S1x1024x352, .f32⟩
  | .hbm, ⟨27, _⟩ => ⟨S_, .f32⟩
  | .hbm, ⟨28, _⟩ => ⟨S1x1024x352, .f32⟩
  | .hbm, ⟨29, _⟩ => ⟨S1x1024x352, .f32⟩
  | .hbm, ⟨30, _⟩ => ⟨S1x1024x352, .f32⟩
  | .hbm, ⟨31, _⟩ => ⟨S_, .f32⟩
  | .hbm, ⟨32, _⟩ => ⟨S1x1024x352, .f32⟩
  | .hbm, ⟨33, _⟩ => ⟨S1x1024x352, .f32⟩
  | .hbm, ⟨34, _⟩ => ⟨S1x1024x352, .f32⟩
  | .hbm, ⟨35, _⟩ => ⟨S_, .f32⟩
  | .hbm, ⟨36, _⟩ => ⟨S1x1024x352, .f32⟩
  | .hbm, ⟨37, _⟩ => ⟨S1x1024x352, .f32⟩
  | .hbm, ⟨38, _⟩ => ⟨S1x1024x352, .f32⟩
  | .hbm, ⟨39, _⟩ => ⟨S_, .f32⟩
  | .hbm, ⟨40, _⟩ => ⟨S1x1024x352, .f32⟩
  | .hbm, ⟨41, _⟩ => ⟨S1x1024x352, .f32⟩
  | _, _ => ⟨S8x1024x384, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_4 : Ref sig .tc := ⟨.hbm, 24, rfl⟩
abbrev main_v15 : Ref sig .tc := ⟨.hbm, 25, rfl⟩
abbrev main_v16 : Ref sig .tc := ⟨.hbm, 26, rfl⟩
abbrev main_cst_5 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_6 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_7 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_8 : Ref sig .tc := ⟨.hbm, 39, rfl⟩
abbrev main_v26 : Ref sig .tc := ⟨.hbm, 40, rfl⟩
abbrev main_v27 : Ref sig .tc := ⟨.hbm, 41, rfl⟩

abbrev nD : Nat := 1
abbrev τ : Topo := Topo.v7x

variable {F : FTy → Type} [FloatOps F]
-- ==== Kernel15.lean ====
abbrev S8x48x1024 : Shape := ⟨3, ![8, 48, 1024]⟩
abbrev S1x1024 : Shape := ⟨2, ![1, 1024]⟩
abbrev S1x128 : Shape := ⟨2, ![1, 128]⟩
abbrev S1x64 : Shape := ⟨2, ![1, 64]⟩
abbrev S1x4 : Shape := ⟨2, ![1, 4]⟩
abbrev S1x8 : Shape := ⟨2, ![1, 8]⟩
abbrev S32x8 : Shape := ⟨2, ![32, 8]⟩
abbrev S1x1 : Shape := ⟨2, ![1, 1]⟩
abbrev S1x1x1 : Shape := ⟨3, ![1, 1, 1]⟩
abbrev S1x1x1024 : Shape := ⟨3, ![1, 1, 1024]⟩
abbrev S1x1x128 : Shape := ⟨3, ![1, 1, 128]⟩
abbrev S1x1x64 : Shape := ⟨3, ![1, 1, 64]⟩
abbrev S1x1x4 : Shape := ⟨3, ![1, 1, 4]⟩
abbrev S1x1x8 : Shape := ⟨3, ![1, 1, 8]⟩
abbrev S1x32x8 : Shape := ⟨3, ![1, 32, 8]⟩

abbrev nBuf : Space → Nat
  | .hbm => 65
  | .vmem => 65
  | .smem => 0
  | _ => 0

abbrev bufTy : (tb : Table) → Fin (tcTables nBuf tb) → BufTy
  | .hbm, ⟨0, _⟩ => ⟨S8x48x1024, .f32⟩
  | .hbm, ⟨1, _⟩ => ⟨S1x1024, .f32⟩
  | .hbm, ⟨2, _⟩ => ⟨S1x1024, .f32⟩
  | .hbm, ⟨3, _⟩ => ⟨S1x128, .f32⟩
  | .hbm, ⟨4, _⟩ => ⟨S1x64, .f32⟩
  | .hbm, ⟨5, _⟩ => ⟨S1x64, .f32⟩
  | .hbm, ⟨6, _⟩ => ⟨S1x4, .f32⟩
  | .hbm, ⟨7, _⟩ => ⟨S1x4, .f32⟩
  | .hbm, ⟨8, _⟩ => ⟨S1x8, .f32⟩
  | .hbm, ⟨9, _⟩ => ⟨S32x8, .f32⟩
  | .hbm, ⟨10, _⟩ => ⟨S1x1024, .f32⟩
  | .hbm, ⟨11, _⟩ => ⟨S1x1024, .f32⟩
  | .hbm, ⟨12, _⟩ => ⟨S1x128, .f32⟩
  | .hbm, ⟨13, _⟩ => ⟨S1x64, .f32⟩
  | .hbm, ⟨14, _⟩ => ⟨S1x64, .f32⟩
  | .hbm, ⟨15, _⟩ => ⟨S1x4, .f32⟩
  | .hbm, ⟨16, _⟩ => ⟨S1x4, .f32⟩
  | .hbm, ⟨17, _⟩ => ⟨S1x8, .f32⟩
  | .hbm, ⟨18, _⟩ => ⟨S32x8, .f32⟩
  | .hbm, ⟨19, _⟩ => ⟨S1x1024, .f32⟩
  | .hbm, ⟨20, _⟩ => ⟨S1x1024, .f32⟩
  | .hbm, ⟨21, _⟩ => ⟨S1x128, .f32⟩
  | .hbm, ⟨22, _⟩ => ⟨S1x64, .f32⟩
  | .hbm, ⟨23, _⟩ => ⟨S1x64, .f32⟩
  | .hbm, ⟨24, _⟩ => ⟨S1x4, .f32⟩
  | .hbm, ⟨25, _⟩ => ⟨S1x4, .f32⟩
  | .hbm, ⟨26, _⟩ => ⟨S1x8, .f32⟩
  | .hbm, ⟨27, _⟩ => ⟨S32x8, .f32⟩
  | .hbm, ⟨28, _⟩ => ⟨S1x1024, .f32⟩
  | .hbm, ⟨29, _⟩ => ⟨S1x1024, .f32⟩
  | .hbm, ⟨30, _⟩ => ⟨S1x128, .f32⟩
  | .hbm, ⟨31, _⟩ => ⟨S1x64, .f32⟩
  | .hbm, ⟨32, _⟩ => ⟨S1x64, .f32⟩
  | .hbm, ⟨33, _⟩ => ⟨S1x4, .f32⟩
  | .hbm, ⟨34, _⟩ => ⟨S1x4, .f32⟩
  | .hbm, ⟨35, _⟩ => ⟨S1x8, .f32⟩
  | .hbm, ⟨36, _⟩ => ⟨S32x8, .f32⟩
  | .hbm, ⟨37, _⟩ => ⟨S1x1024, .f32⟩
  | .hbm, ⟨38, _⟩ => ⟨S1x1024, .f32⟩
  | .hbm, ⟨39, _⟩ => ⟨S1x128, .f32⟩
  | .hbm, ⟨40, _⟩ => ⟨S1x64, .f32⟩
  | .hbm, ⟨41, _⟩ => ⟨S1x64, .f32⟩
  | .hbm, ⟨42, _⟩ => ⟨S1x4, .f32⟩
  | .hbm, ⟨43, _⟩ => ⟨S1x4, .f32⟩
  | .hbm, ⟨44, _⟩ => ⟨S1x8, .f32⟩
  | .hbm, ⟨45, _⟩ => ⟨S32x8, .f32⟩
  | .hbm, ⟨46, _⟩ => ⟨S1x1024, .f32⟩
  | .hbm, ⟨47, _⟩ => ⟨S1x1024, .f32⟩
  | .hbm, ⟨48, _⟩ => ⟨S1x128, .f32⟩
  | .hbm, ⟨49, _⟩ => ⟨S1x64, .f32⟩
  | .hbm, ⟨50, _⟩ => ⟨S1x64, .f32⟩
  | .hbm, ⟨51, _⟩ => ⟨S1x4, .f32⟩
  | .hbm, ⟨52, _⟩ => ⟨S1x4, .f32⟩
  | .hbm, ⟨53, _⟩ => ⟨S1x8, .f32⟩
  | .hbm, ⟨54, _⟩ => ⟨S32x8, .f32⟩
  | .hbm, ⟨55, _⟩ => ⟨S1x1024, .f32⟩
  | .hbm, ⟨56, _⟩ => ⟨S1x1024, .f32⟩
  | .hbm, ⟨57, _⟩ => ⟨S1x128, .f32⟩
  | .hbm, ⟨58, _⟩ => ⟨S1x64, .f32⟩
  | .hbm, ⟨59, _⟩ => ⟨S1x64, .f32⟩
  | .hbm, ⟨60, _⟩ => ⟨S1x4, .f32⟩
  | .hbm, ⟨61, _⟩ => ⟨S1x4, .f32⟩
  | .hbm, ⟨62, _⟩ => ⟨S1x8, .f32⟩
  | .hbm, ⟨63, _⟩ => ⟨S32x8, .f32⟩
  | .hbm, ⟨64, _⟩ => ⟨S1x1, .f32⟩
  | .local _ .vmem, ⟨0, _⟩ => ⟨S8x48x1024, .f32⟩
  | .local _ .vmem, ⟨1, _⟩ => ⟨S1x1024, .f32⟩
  | .local _ .vmem, ⟨2, _⟩ => ⟨S1x1024, .f32⟩
  | .local _ .vmem, ⟨3, _⟩ => ⟨S1x128, .f32⟩
  | .local _ .vmem, ⟨4, _⟩ => ⟨S1x64, .f32⟩
  | .local _ .vmem, ⟨5, _⟩ => ⟨S1x64, .f32⟩
  | .local _ .vmem, ⟨6, _⟩ => ⟨S1x4, .f32⟩
  | .local _ .vmem, ⟨7, _⟩ => ⟨S1x4, .f32⟩
  | .local _ .vmem, ⟨8, _⟩ => ⟨S1x8, .f32⟩
  | .local _ .vmem, ⟨9, _⟩ => ⟨S32x8, .f32⟩
  | .local _ .vmem, ⟨10, _⟩ => ⟨S1x1024, .f32⟩
  | .local _ .vmem, ⟨11, _⟩ => ⟨S1x1024, .f32⟩
  | .local _ .vmem, ⟨12, _⟩ => ⟨S1x128, .f32⟩
  | .local _ .vmem, ⟨13, _⟩ => ⟨S1x64, .f32⟩
  | .local _ .vmem, ⟨14, _⟩ => ⟨S1x64, .f32⟩
  | .local _ .vmem, ⟨15, _⟩ => ⟨S1x4, .f32⟩
  | .local _ .vmem, ⟨16, _⟩ => ⟨S1x4, .f32⟩
  | .local _ .vmem, ⟨17, _⟩ => ⟨S1x8, .f32⟩
  | .local _ .vmem, ⟨18, _⟩ => ⟨S32x8, .f32⟩
  | .local _ .vmem, ⟨19, _⟩ => ⟨S1x1024, .f32⟩
  | .local _ .vmem, ⟨20, _⟩ => ⟨S1x1024, .f32⟩
  | .local _ .vmem, ⟨21, _⟩ => ⟨S1x128, .f32⟩
  | .local _ .vmem, ⟨22, _⟩ => ⟨S1x64, .f32⟩
  | .local _ .vmem, ⟨23, _⟩ => ⟨S1x64, .f32⟩
  | .local _ .vmem, ⟨24, _⟩ => ⟨S1x4, .f32⟩
  | .local _ .vmem, ⟨25, _⟩ => ⟨S1x4, .f32⟩
  | .local _ .vmem, ⟨26, _⟩ => ⟨S1x8, .f32⟩
  | .local _ .vmem, ⟨27, _⟩ => ⟨S32x8, .f32⟩
  | .local _ .vmem, ⟨28, _⟩ => ⟨S1x1024, .f32⟩
  | .local _ .vmem, ⟨29, _⟩ => ⟨S1x1024, .f32⟩
  | .local _ .vmem, ⟨30, _⟩ => ⟨S1x128, .f32⟩
  | .local _ .vmem, ⟨31, _⟩ => ⟨S1x64, .f32⟩
  | .local _ .vmem, ⟨32, _⟩ => ⟨S1x64, .f32⟩
  | .local _ .vmem, ⟨33, _⟩ => ⟨S1x4, .f32⟩
  | .local _ .vmem, ⟨34, _⟩ => ⟨S1x4, .f32⟩
  | .local _ .vmem, ⟨35, _⟩ => ⟨S1x8, .f32⟩
  | .local _ .vmem, ⟨36, _⟩ => ⟨S32x8, .f32⟩
  | .local _ .vmem, ⟨37, _⟩ => ⟨S1x1024, .f32⟩
  | .local _ .vmem, ⟨38, _⟩ => ⟨S1x1024, .f32⟩
  | .local _ .vmem, ⟨39, _⟩ => ⟨S1x128, .f32⟩
  | .local _ .vmem, ⟨40, _⟩ => ⟨S1x64, .f32⟩
  | .local _ .vmem, ⟨41, _⟩ => ⟨S1x64, .f32⟩
  | .local _ .vmem, ⟨42, _⟩ => ⟨S1x4, .f32⟩
  | .local _ .vmem, ⟨43, _⟩ => ⟨S1x4, .f32⟩
  | .local _ .vmem, ⟨44, _⟩ => ⟨S1x8, .f32⟩
  | .local _ .vmem, ⟨45, _⟩ => ⟨S32x8, .f32⟩
  | .local _ .vmem, ⟨46, _⟩ => ⟨S1x1024, .f32⟩
  | .local _ .vmem, ⟨47, _⟩ => ⟨S1x1024, .f32⟩
  | .local _ .vmem, ⟨48, _⟩ => ⟨S1x128, .f32⟩
  | .local _ .vmem, ⟨49, _⟩ => ⟨S1x64, .f32⟩
  | .local _ .vmem, ⟨50, _⟩ => ⟨S1x64, .f32⟩
  | .local _ .vmem, ⟨51, _⟩ => ⟨S1x4, .f32⟩
  | .local _ .vmem, ⟨52, _⟩ => ⟨S1x4, .f32⟩
  | .local _ .vmem, ⟨53, _⟩ => ⟨S1x8, .f32⟩
  | .local _ .vmem, ⟨54, _⟩ => ⟨S32x8, .f32⟩
  | .local _ .vmem, ⟨55, _⟩ => ⟨S1x1024, .f32⟩
  | .local _ .vmem, ⟨56, _⟩ => ⟨S1x1024, .f32⟩
  | .local _ .vmem, ⟨57, _⟩ => ⟨S1x128, .f32⟩
  | .local _ .vmem, ⟨58, _⟩ => ⟨S1x64, .f32⟩
  | .local _ .vmem, ⟨59, _⟩ => ⟨S1x64, .f32⟩
  | .local _ .vmem, ⟨60, _⟩ => ⟨S1x4, .f32⟩
  | .local _ .vmem, ⟨61, _⟩ => ⟨S1x4, .f32⟩
  | .local _ .vmem, ⟨62, _⟩ => ⟨S1x8, .f32⟩
  | .local _ .vmem, ⟨63, _⟩ => ⟨S32x8, .f32⟩
  | .local _ .vmem, ⟨64, _⟩ => ⟨S1x1, .f32⟩
  | _, _ => ⟨S8x48x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | _, _ => false

abbrev semScoped : Fin 0 → Bool
  | ⟨_, h⟩ => absurd h (Nat.not_lt_zero _)

abbrev dmaSemScoped : Fin 65 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | _ => false

abbrev sig : RefSig :=
  ofTc nBuf bufTy 0 65 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_v0_0 : Ref sig .tc := ⟨.hbm, 28, rfl⟩
abbrev main_v0_1 : Ref sig .tc := ⟨.hbm, 29, rfl⟩
abbrev main_v0_2 : Ref sig .tc := ⟨.hbm, 30, rfl⟩
abbrev main_v0_3 : Ref sig .tc := ⟨.hbm, 31, rfl⟩
abbrev main_v0_4 : Ref sig .tc := ⟨.hbm, 32, rfl⟩
abbrev main_v0_5 : Ref sig .tc := ⟨.hbm, 33, rfl⟩
abbrev main_v0_6 : Ref sig .tc := ⟨.hbm, 34, rfl⟩
abbrev main_v0_7 : Ref sig .tc := ⟨.hbm, 35, rfl⟩
abbrev main_v0_8 : Ref sig .tc := ⟨.hbm, 36, rfl⟩
abbrev main_v0_9 : Ref sig .tc := ⟨.hbm, 37, rfl⟩
abbrev main_v0_10 : Ref sig .tc := ⟨.hbm, 38, rfl⟩
abbrev main_v0_11 : Ref sig .tc := ⟨.hbm, 39, rfl⟩
abbrev main_v0_12 : Ref sig .tc := ⟨.hbm, 40, rfl⟩
abbrev main_v0_13 : Ref sig .tc := ⟨.hbm, 41, rfl⟩
abbrev main_v0_14 : Ref sig .tc := ⟨.hbm, 42, rfl⟩
abbrev main_v0_15 : Ref sig .tc := ⟨.hbm, 43, rfl⟩
abbrev main_v0_16 : Ref sig .tc := ⟨.hbm, 44, rfl⟩
abbrev main_v0_17 : Ref sig .tc := ⟨.hbm, 45, rfl⟩
abbrev main_v0_18 : Ref sig .tc := ⟨.hbm, 46, rfl⟩
abbrev main_v0_19 : Ref sig .tc := ⟨.hbm, 47, rfl⟩
abbrev main_v0_20 : Ref sig .tc := ⟨.hbm, 48, rfl⟩
abbrev main_v0_21 : Ref sig .tc := ⟨.hbm, 49, rfl⟩
abbrev main_v0_22 : Ref sig .tc := ⟨.hbm, 50, rfl⟩
abbrev main_v0_23 : Ref sig .tc := ⟨.hbm, 51, rfl⟩
abbrev main_v0_24 : Ref sig .tc := ⟨.hbm, 52, rfl⟩
abbrev main_v0_25 : Ref sig .tc := ⟨.hbm, 53, rfl⟩
abbrev main_v0_26 : Ref sig .tc := ⟨.hbm, 54, rfl⟩
abbrev main_v0_27 : Ref sig .tc := ⟨.hbm, 55, rfl⟩
abbrev main_v0_28 : Ref sig .tc := ⟨.hbm, 56, rfl⟩
abbrev main_v0_29 : Ref sig .tc := ⟨.hbm, 57, rfl⟩
abbrev main_v0_30 : Ref sig .tc := ⟨.hbm, 58, rfl⟩
abbrev main_v0_31 : Ref sig .tc := ⟨.hbm, 59, rfl⟩
abbrev main_v0_32 : Ref sig .tc := ⟨.hbm, 60, rfl⟩
abbrev main_v0_33 : Ref sig .tc := ⟨.hbm, 61, rfl⟩
abbrev main_v0_34 : Ref sig .tc := ⟨.hbm, 62, rfl⟩
abbrev main_v0_35 : Ref sig .tc := ⟨.hbm, 63, rfl⟩
abbrev main_v0_36 : Ref sig .tc := ⟨.hbm, 64, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_stg19_0 : Ref sig .tc := ⟨.vmem, 19, rfl⟩
abbrev cc0_stg20_0 : Ref sig .tc := ⟨.vmem, 20, rfl⟩
abbrev cc0_stg21_0 : Ref sig .tc := ⟨.vmem, 21, rfl⟩
abbrev cc0_stg22_0 : Ref sig .tc := ⟨.vmem, 22, rfl⟩
abbrev cc0_stg23_0 : Ref sig .tc := ⟨.vmem, 23, rfl⟩
abbrev cc0_stg24_0 : Ref sig .tc := ⟨.vmem, 24, rfl⟩
abbrev cc0_stg25_0 : Ref sig .tc := ⟨.vmem, 25, rfl⟩
abbrev cc0_stg26_0 : Ref sig .tc := ⟨.vmem, 26, rfl⟩
abbrev cc0_stg27_0 : Ref sig .tc := ⟨.vmem, 27, rfl⟩
abbrev cc0_stg28_0 : Ref sig .tc := ⟨.vmem, 28, rfl⟩
abbrev cc0_stg29_0 : Ref sig .tc := ⟨.vmem, 29, rfl⟩
abbrev cc0_stg30_0 : Ref sig .tc := ⟨.vmem, 30, rfl⟩
abbrev cc0_stg31_0 : Ref sig .tc := ⟨.vmem, 31, rfl⟩
abbrev cc0_stg32_0 : Ref sig .tc := ⟨.vmem, 32, rfl⟩
abbrev cc0_stg33_0 : Ref sig .tc := ⟨.vmem, 33, rfl⟩
abbrev cc0_stg34_0 : Ref sig .tc := ⟨.vmem, 34, rfl⟩
abbrev cc0_stg35_0 : Ref sig .tc := ⟨.vmem, 35, rfl⟩
abbrev cc0_stg36_0 : Ref sig .tc := ⟨.vmem, 36, rfl⟩
abbrev cc0_stg37_0 : Ref sig .tc := ⟨.vmem, 37, rfl⟩
abbrev cc0_stg38_0 : Ref sig .tc := ⟨.vmem, 38, rfl⟩
abbrev cc0_stg39_0 : Ref sig .tc := ⟨.vmem, 39, rfl⟩
abbrev cc0_stg40_0 : Ref sig .tc := ⟨.vmem, 40, rfl⟩
abbrev cc0_stg41_0 : Ref sig .tc := ⟨.vmem, 41, rfl⟩
abbrev cc0_stg42_0 : Ref sig .tc := ⟨.vmem, 42, rfl⟩
abbrev cc0_stg43_0 : Ref sig .tc := ⟨.vmem, 43, rfl⟩
abbrev cc0_stg44_0 : Ref sig .tc := ⟨.vmem, 44, rfl⟩
abbrev cc0_stg45_0 : Ref sig .tc := ⟨.vmem, 45, rfl⟩
abbrev cc0_stg46_0 : Ref sig .tc := ⟨.vmem, 46, rfl⟩
abbrev cc0_stg47_0 : Ref sig .tc := ⟨.vmem, 47, rfl⟩
abbrev cc0_stg48_0 : Ref sig .tc := ⟨.vmem, 48, rfl⟩
abbrev cc0_stg49_0 : Ref sig .tc := ⟨.vmem, 49, rfl⟩
abbrev cc0_stg50_0 : Ref sig .tc := ⟨.vmem, 50, rfl⟩
abbrev cc0_stg51_0 : Ref sig .tc := ⟨.vmem, 51, rfl⟩
abbrev cc0_stg52_0 : Ref sig .tc := ⟨.vmem, 52, rfl⟩
abbrev cc0_stg53_0 : Ref sig .tc := ⟨.vmem, 53, rfl⟩
abbrev cc0_stg54_0 : Ref sig .tc := ⟨.vmem, 54, rfl⟩
abbrev cc0_stg55_0 : Ref sig .tc := ⟨.vmem, 55, rfl⟩
abbrev cc0_stg56_0 : Ref sig .tc := ⟨.vmem, 56, rfl⟩
abbrev cc0_stg57_0 : Ref sig .tc := ⟨.vmem, 57, rfl⟩
abbrev cc0_stg58_0 : Ref sig .tc := ⟨.vmem, 58, rfl⟩
abbrev cc0_stg59_0 : Ref sig .tc := ⟨.vmem, 59, rfl⟩
abbrev cc0_stg60_0 : Ref sig .tc := ⟨.vmem, 60, rfl⟩
abbrev cc0_stg61_0 : Ref sig .tc := ⟨.vmem, 61, rfl⟩
abbrev cc0_stg62_0 : Ref sig .tc := ⟨.vmem, 62, rfl⟩
abbrev cc0_stg63_0 : Ref sig .tc := ⟨.vmem, 63, rfl⟩
abbrev cc0_stg64_0 : Ref sig .tc := ⟨.vmem, 64, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19
abbrev cc0_sem20_0 : DmaSem sig := 20
abbrev cc0_sem21_0 : DmaSem sig := 21
abbrev cc0_sem22_0 : DmaSem sig := 22
abbrev cc0_sem23_0 : DmaSem sig := 23
abbrev cc0_sem24_0 : DmaSem sig := 24
abbrev cc0_sem25_0 : DmaSem sig := 25
abbrev cc0_sem26_0 : DmaSem sig := 26
abbrev cc0_sem27_0 : DmaSem sig := 27
abbrev cc0_sem28_0 : DmaSem sig := 28
abbrev cc0_sem29_0 : DmaSem sig := 29
abbrev cc0_sem30_0 : DmaSem sig := 30
abbrev cc0_sem31_0 : DmaSem sig := 31
abbrev cc0_sem32_0 : DmaSem sig := 32
abbrev cc0_sem33_0 : DmaSem sig := 33
abbrev cc0_sem34_0 : DmaSem sig := 34
abbrev cc0_sem35_0 : DmaSem sig := 35
abbrev cc0_sem36_0 : DmaSem sig := 36
abbrev cc0_sem37_0 : DmaSem sig := 37
abbrev cc0_sem38_0 : DmaSem sig := 38
abbrev cc0_sem39_0 : DmaSem sig := 39
abbrev cc0_sem40_0 : DmaSem sig := 40
abbrev cc0_sem41_0 : DmaSem sig := 41
abbrev cc0_sem42_0 : DmaSem sig := 42
abbrev cc0_sem43_0 : DmaSem sig := 43
abbrev cc0_sem44_0 : DmaSem sig := 44
abbrev cc0_sem45_0 : DmaSem sig := 45
abbrev cc0_sem46_0 : DmaSem sig := 46
abbrev cc0_sem47_0 : DmaSem sig := 47
abbrev cc0_sem48_0 : DmaSem sig := 48
abbrev cc0_sem49_0 : DmaSem sig := 49
abbrev cc0_sem50_0 : DmaSem sig := 50
abbrev cc0_sem51_0 : DmaSem sig := 51
abbrev cc0_sem52_0 : DmaSem sig := 52
abbrev cc0_sem53_0 : DmaSem sig := 53
abbrev cc0_sem54_0 : DmaSem sig := 54
abbrev cc0_sem55_0 : DmaSem sig := 55
abbrev cc0_sem56_0 : DmaSem sig := 56
abbrev cc0_sem57_0 : DmaSem sig := 57
abbrev cc0_sem58_0 : DmaSem sig := 58
abbrev cc0_sem59_0 : DmaSem sig := 59
abbrev cc0_sem60_0 : DmaSem sig := 60
abbrev cc0_sem61_0 : DmaSem sig := 61
abbrev cc0_sem62_0 : DmaSem sig := 62
abbrev cc0_sem63_0 : DmaSem sig := 63
abbrev cc0_sem64_0 : DmaSem sig := 64

abbrev nD : Nat := 1
abbrev τ : Topo := Topo.v7x

variable {F : FTy → Type} [FloatOps F]

abbrev grid0 : Pipeline.Grid := .none

abbrev stage0_0 : Fin 1 → Memref sig .tc .vmem S8x48x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x4 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x4 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1x8 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S32x8 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S1x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S1x64 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S1x64 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S1x4 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S1x4 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))

abbrev stage0_17 : Fin 1 → Memref sig .tc .vmem S1x8 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))

abbrev stage0_18 : Fin 1 → Memref sig .tc .vmem S32x8 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))

abbrev stage0_19 : Fin 1 → Memref sig .tc .vmem S1x1024 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))

abbrev stage0_20 : Fin 1 → Memref sig .tc .vmem S1x1024 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))

abbrev stage0_21 : Fin 1 → Memref sig .tc .vmem S1x128 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))

abbrev stage0_22 : Fin 1 → Memref sig .tc .vmem S1x64 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))

abbrev stage0_23 : Fin 1 → Memref sig .tc .vmem S1x64 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))

abbrev stage0_24 : Fin 1 → Memref sig .tc .vmem S1x4 .f32 := fun | 0 => Memref.whole cc0_stg24_0 | ⟨_ + 1, h⟩ => absurd h (Nat.not_lt.2 (Nat.le_add_left _ _))
abbrev sem0_24 : Fin 1 → DmaSem sig := fun | 0 => cc0_sem24_0 | ⟨_ + 1, h⟩ => absurd h (Nat.not_lt.2 (Nat.le_add_left _ _))

abbrev stage0_25 : Fin 1 → Memref sig .tc .vmem S1x4 .f32 := fun | 0 => Memref.whole cc0_stg25_0 | ⟨_ + 1, h⟩ => absurd h (Nat.not_lt.2 (Nat.le_add_left _ _))
abbrev sem0_25 : Fin 1 → DmaSem sig := fun | 0 => cc0_sem25_0 | ⟨_ + 1, h⟩ => absurd h (Nat.not_lt.2 (Nat.le_add_left _ _))

abbrev stage0_26 : Fin 1 → Memref sig .tc .vmem S1x8 .f32 := fun | 0 => Memref.whole cc0_stg26_0 | ⟨_ + 1, h⟩ => absurd h (Nat.not_lt.2 (Nat.le_add_left _ _))
abbrev sem0_26 : Fin 1 → DmaSem sig := fun | 0 => cc0_sem26_0 | ⟨_ + 1, h⟩ => absurd h (Nat.not_lt.2 (Nat.le_add_left _ _))

abbrev stage0_27 : Fin 1 → Memref sig .tc .vmem S32x8 .f32 := fun | 0 => Memref.whole cc0_stg27_0 | ⟨_ + 1, h⟩ => absurd h (Nat.not_lt.2 (Nat.le_add_left _ _))
abbrev sem0_27 : Fin 1 → DmaSem sig := fun | 0 => cc0_sem27_0 | ⟨_ + 1, h⟩ => absurd h (Nat.not_lt.2 (Nat.le_add_left _ _))

abbrev stage0_28 : Fin 1 → Memref sig .tc .vmem S1x1024 .f32 := fun | 0 => Memref.whole cc0_stg28_0 | ⟨_ + 1, h⟩ => absurd h (Nat.not_lt.2 (Nat.le_add_left _ _))
abbrev sem0_28 : Fin 1 → DmaSem sig := fun | 0 => cc0_sem28_0 | ⟨_ + 1, h⟩ => absurd h (Nat.not_lt.2 (Nat.le_add_left _ _))

abbrev stage0_29 : Fin 1 → Memref sig .tc .vmem S1x1024 .f32 := fun | 0 => Memref.whole cc0_stg29_0 | ⟨_ + 1, h⟩ => absurd h (Nat.not_lt.2 (Nat.le_add_left _ _))
abbrev sem0_29 : Fin 1 → DmaSem sig := fun | 0 => cc0_sem29_0 | ⟨_ + 1, h⟩ => absurd h (Nat.not_lt.2 (Nat.le_add_left _ _))

abbrev stage0_30 : Fin 1 → Memref sig .tc .vmem S1x128 .f32 := fun | 0 => Memref.whole cc0_stg30_0 | ⟨_ + 1, h⟩ => absurd h (Nat.not_lt.2 (Nat.le_add_left _ _))
abbrev sem0_30 : Fin 1 → DmaSem sig := fun | 0 => cc0_sem30_0 | ⟨_ + 1, h⟩ => absurd h (Nat.not_lt.2 (Nat.le_add_left _ _))

abbrev stage0_31 : Fin 1 → Memref sig .tc .vmem S1x64 .f32 := fun | 0 => Memref.whole cc0_stg31_0 | ⟨_ + 1, h⟩ => absurd h (Nat.not_lt.2 (Nat.le_add_left _ _))
abbrev sem0_31 : Fin 1 → DmaSem sig := fun | 0 => cc0_sem31_0 | ⟨_ + 1, h⟩ => absurd h (Nat.not_lt.2 (Nat.le_add_left _ _))

abbrev stage0_32 : Fin 1 → Memref sig .tc .vmem S1x64 .f32 := fun | 0 => Memref.whole cc0_stg32_0 | ⟨_ + 1, h⟩ => absurd h (Nat.not_lt.2 (Nat.le_add_left _ _))
abbrev sem0_32 : Fin 1 → DmaSem sig := fun | 0 => cc0_sem32_0 | ⟨_ + 1, h⟩ => absurd h (Nat.not_lt.2 (Nat.le_add_left _ _))

abbrev stage0_33 : Fin 1 → Memref sig .tc .vmem S1x4 .f32 := fun | 0 => Memref.whole cc0_stg33_0 | ⟨_ + 1, h⟩ => absurd h (Nat.not_lt.2 (Nat.le_add_left _ _))
abbrev sem0_33 : Fin 1 → DmaSem sig := fun | 0 => cc0_sem33_0 | ⟨_ + 1, h⟩ => absurd h (Nat.not_lt.2 (Nat.le_add_left _ _))

abbrev stage0_34 : Fin 1 → Memref sig .tc .vmem S1x4 .f32 := fun | 0 => Memref.whole cc0_stg34_0 | ⟨_ + 1, h⟩ => absurd h (Nat.not_lt.2 (Nat.le_add_left _ _))
abbrev sem0_34 : Fin 1 → DmaSem sig := fun | 0 => cc0_sem34_0 | ⟨_ + 1, h⟩ => absurd h (Nat.not_lt.2 (Nat.le_add_left _ _))

abbrev stage0_35 : Fin 1 → Memref sig .tc .vmem S1x8 .f32 := fun | 0 => Memref.whole cc0_stg35_0 | ⟨_ + 1, h⟩ => absurd h (Nat.not_lt.2 (Nat.le_add_left _ _))
abbrev sem0_35 : Fin 1 → DmaSem sig := fun | 0 => cc0_sem35_0 | ⟨_ + 1, h⟩ => absurd h (Nat.not_lt.2 (Nat.le_add_left _ _))

abbrev stage0_36 : Fin 1 → Memref sig .tc .vmem S32x8 .f32 := fun | 0 => Memref.whole cc0_stg36_0 | ⟨_ + 1, h⟩ => absurd h (Nat.not_lt.2 (Nat.le_add_left _ _))
abbrev sem0_36 : Fin 1 → DmaSem sig := fun | 0 => cc0_sem36_0 | ⟨_ + 1, h⟩ => absurd h (Nat.not_lt.2 (Nat.le_add_left _ _))

abbrev stage0_37 : Fin 1 → Memref sig .tc .vmem S1x1024 .f32 := fun | 0 => Memref.whole cc0_stg37_0 | ⟨_ + 1, h⟩ => absurd h (Nat.not_lt.2 (Nat.le_add_left _ _))
abbrev sem0_37 : Fin 1 → DmaSem sig := fun | 0 => cc0_sem37_0 | ⟨_ + 1, h⟩ => absurd h (Nat.not_lt.2 (Nat.le_add_left _ _))

abbrev stage0_38 : Fin 1 → Memref sig .tc .vmem S1x1024 .f32 := fun | 0 => Memref.whole cc0_stg38_0 | ⟨_ + 1, h⟩ => absurd h (Nat.not_lt.2 (Nat.le_add_left _ _))
abbrev sem0_38 : Fin 1 → DmaSem sig := fun | 0 => cc0_sem38_0 | ⟨_ + 1, h⟩ => absurd h (Nat.not_lt.2 (Nat.le_add_left _ _))

abbrev stage0_39 : Fin 1 → Memref sig .tc .vmem S1x128 .f32 := fun | 0 => Memref.whole cc0_stg39_0 | ⟨_ + 1, h⟩ => absurd h (Nat.not_lt.2 (Nat.le_add_left _ _))
abbrev sem0_39 : Fin 1 → DmaSem sig := fun | 0 => cc0_sem39_0 | ⟨_ + 1, h⟩ => absurd h (Nat.not_lt.2 (Nat.le_add_left _ _))

abbrev stage0_40 : Fin 1 → Memref sig .tc .vmem S1x64 .f32 := fun | 0 => Memref.whole cc0_stg40_0 | ⟨_ + 1, h⟩ => absurd h (Nat.not_lt.2 (Nat.le_add_left _ _))
abbrev sem0_40 : Fin 1 → DmaSem sig := fun | 0 => cc0_sem40_0 | ⟨_ + 1, h⟩ => absurd h (Nat.not_lt.2 (Nat.le_add_left _ _))

abbrev stage0_41 : Fin 1 → Memref sig .tc .vmem S1x64 .f32 := fun | 0 => Memref.whole cc0_stg41_0 | ⟨_ + 1, h⟩ => absurd h (Nat.not_lt.2 (Nat.le_add_left _ _))
abbrev sem0_41 : Fin 1 → DmaSem sig := fun | 0 => cc0_sem41_0 | ⟨_ + 1, h⟩ => absurd h (Nat.not_lt.2 (Nat.le_add_left _ _))

abbrev stage0_42 : Fin 1 → Memref sig .tc .vmem S1x4 .f32 := fun | 0 => Memref.whole cc0_stg42_0 | ⟨_ + 1, h⟩ => absurd h (Nat.not_lt.2 (Nat.le_add_left _ _))
abbrev sem0_42 : Fin 1 → DmaSem sig := fun | 0 => cc0_sem42_0 | ⟨_ + 1, h⟩ => absurd h (Nat.not_lt.2 (Nat.le_add_left _ _))

abbrev stage0_43 : Fin 1 → Memref sig .tc .vmem S1x4 .f32 := fun | 0 => Memref.whole cc0_stg43_0 | ⟨_ + 1, h⟩ => absurd h (Nat.not_lt.2 (Nat.le_add_left _ _))
abbrev sem0_43 : Fin 1 → DmaSem sig := fun | 0 => cc0_sem43_0 | ⟨_ + 1, h⟩ => absurd h (Nat.not_lt.2 (Nat.le_add_left _ _))

abbrev stage0_44 : Fin 1 → Memref sig .tc .vmem S1x8 .f32 := fun | 0 => Memref.whole cc0_stg44_0 | ⟨_ + 1, h⟩ => absurd h (Nat.not_lt.2 (Nat.le_add_left _ _))
abbrev sem0_44 : Fin 1 → DmaSem sig := fun | 0 => cc0_sem44_0 | ⟨_ + 1, h⟩ => absurd h (Nat.not_lt.2 (Nat.le_add_left _ _))

abbrev stage0_45 : Fin 1 → Memref sig .tc .vmem S32x8 .f32 := fun | 0 => Memref.whole cc0_stg45_0 | ⟨_ + 1, h⟩ => absurd h (Nat.not_lt.2 (Nat.le_add_left _ _))
abbrev sem0_45 : Fin 1 → DmaSem sig := fun | 0 => cc0_sem45_0 | ⟨_ + 1, h⟩ => absurd h (Nat.not_lt.2 (Nat.le_add_left _ _))

abbrev stage0_46 : Fin 1 → Memref sig .tc .vmem S1x1024 .f32 := fun | 0 => Memref.whole cc0_stg46_0 | ⟨_ + 1, h⟩ => absurd h (Nat.not_lt.2 (Nat.le_add_left _ _))
abbrev sem0_46 : Fin 1 → DmaSem sig := fun | 0 => cc0_sem46_0 | ⟨_ + 1, h⟩ => absurd h (Nat.not_lt.2 (Nat.le_add_left _ _))

abbrev stage0_47 : Fin 1 → Memref sig .tc .vmem S1x1024 .f32 := fun | 0 => Memref.whole cc0_stg47_0 | ⟨_ + 1, h⟩ => absurd h (Nat.not_lt.2 (Nat.le_add_left _ _))
abbrev sem0_47 : Fin 1 → DmaSem sig := fun | 0 => cc0_sem47_0 | ⟨_ + 1, h⟩ => absurd h (Nat.not_lt.2 (Nat.le_add_left _ _))

abbrev stage0_48 : Fin 1 → Memref sig .tc .vmem S1x128 .f32 := fun | 0 => Memref.whole cc0_stg48_0 | ⟨_ + 1, h⟩ => absurd h (Nat.not_lt.2 (Nat.le_add_left _ _))
abbrev sem0_48 : Fin 1 → DmaSem sig := fun | 0 => cc0_sem48_0 | ⟨_ + 1, h⟩ => absurd h (Nat.not_lt.2 (Nat.le_add_left _ _))

abbrev stage0_49 : Fin 1 → Memref sig .tc .vmem S1x64 .f32 := fun | 0 => Memref.whole cc0_stg49_0 | ⟨_ + 1, h⟩ => absurd h (Nat.not_lt.2 (Nat.le_add_left _ _))
abbrev sem0_49 : Fin 1 → DmaSem sig := fun | 0 => cc0_sem49_0 | ⟨_ + 1, h⟩ => absurd h (Nat.not_lt.2 (Nat.le_add_left _ _))

abbrev stage0_50 : Fin 1 → Memref sig .tc .vmem S1x64 .f32 := fun | 0 => Memref.whole cc0_stg50_0 | ⟨_ + 1, h⟩ => absurd h (Nat.not_lt.2 (Nat.le_add_left _ _))
abbrev sem0_50 : Fin 1 → DmaSem sig := fun | 0 => cc0_sem50_0 | ⟨_ + 1, h⟩ => absurd h (Nat.not_lt.2 (Nat.le_add_left _ _))

abbrev stage0_51 : Fin 1 → Memref sig .tc .vmem S1x4 .f32 := fun | 0 => Memref.whole cc0_stg51_0 | ⟨_ + 1, h⟩ => absurd h (Nat.not_lt.2 (Nat.le_add_left _ _))
abbrev sem0_51 : Fin 1 → DmaSem sig := fun | 0 => cc0_sem51_0 | ⟨_ + 1, h⟩ => absurd h (Nat.not_lt.2 (Nat.le_add_left _ _))

abbrev stage0_52 : Fin 1 → Memref sig .tc .vmem S1x4 .f32 := fun | 0 => Memref.whole cc0_stg52_0 | ⟨_ + 1, h⟩ => absurd h (Nat.not_lt.2 (Nat.le_add_left _ _))
abbrev sem0_52 : Fin 1 → DmaSem sig := fun | 0 => cc0_sem52_0 | ⟨_ + 1, h⟩ => absurd h (Nat.not_lt.2 (Nat.le_add_left _ _))

abbrev stage0_53 : Fin 1 → Memref sig .tc .vmem S1x8 .f32 := fun | 0 => Memref.whole cc0_stg53_0 | ⟨_ + 1, h⟩ => absurd h (Nat.not_lt.2 (Nat.le_add_left _ _))
abbrev sem0_53 : Fin 1 → DmaSem sig := fun | 0 => cc0_sem53_0 | ⟨_ + 1, h⟩ => absurd h (Nat.not_lt.2 (Nat.le_add_left _ _))

abbrev stage0_54 : Fin 1 → Memref sig .tc .vmem S32x8 .f32 := fun | 0 => Memref.whole cc0_stg54_0 | ⟨_ + 1, h⟩ => absurd h (Nat.not_lt.2 (Nat.le_add_left _ _))
abbrev sem0_54 : Fin 1 → DmaSem sig := fun | 0 => cc0_sem54_0 | ⟨_ + 1, h⟩ => absurd h (Nat.not_lt.2 (Nat.le_add_left _ _))

abbrev stage0_55 : Fin 1 → Memref sig .tc .vmem S1x1024 .f32 := fun | 0 => Memref.whole cc0_stg55_0 | ⟨_ + 1, h⟩ => absurd h (Nat.not_lt.2 (Nat.le_add_left _ _))
abbrev sem0_55 : Fin 1 → DmaSem sig := fun | 0 => cc0_sem55_0 | ⟨_ + 1, h⟩ => absurd h (Nat.not_lt.2 (Nat.le_add_left _ _))

abbrev stage0_56 : Fin 1 → Memref sig .tc .vmem S1x1024 .f32 := fun | 0 => Memref.whole cc0_stg56_0 | ⟨_ + 1, h⟩ => absurd h (Nat.not_lt.2 (Nat.le_add_left _ _))
abbrev sem0_56 : Fin 1 → DmaSem sig := fun | 0 => cc0_sem56_0 | ⟨_ + 1, h⟩ => absurd h (Nat.not_lt.2 (Nat.le_add_left _ _))

abbrev stage0_57 : Fin 1 → Memref sig .tc .vmem S1x128 .f32 := fun | 0 => Memref.whole cc0_stg57_0 | ⟨_ + 1, h⟩ => absurd h (Nat.not_lt.2 (Nat.le_add_left _ _))
abbrev sem0_57 : Fin 1 → DmaSem sig := fun | 0 => cc0_sem57_0 | ⟨_ + 1, h⟩ => absurd h (Nat.not_lt.2 (Nat.le_add_left _ _))

abbrev stage0_58 : Fin 1 → Memref sig .tc .vmem S1x64 .f32 := fun | 0 => Memref.whole cc0_stg58_0 | ⟨_ + 1, h⟩ => absurd h (Nat.not_lt.2 (Nat.le_add_left _ _))
abbrev sem0_58 : Fin 1 → DmaSem sig := fun | 0 => cc0_sem58_0 | ⟨_ + 1, h⟩ => absurd h (Nat.not_lt.2 (Nat.le_add_left _ _))

abbrev stage0_59 : Fin 1 → Memref sig .tc .vmem S1x64 .f32 := fun | 0 => Memref.whole cc0_stg59_0 | ⟨_ + 1, h⟩ => absurd h (Nat.not_lt.2 (Nat.le_add_left _ _))
abbrev sem0_59 : Fin 1 → DmaSem sig := fun | 0 => cc0_sem59_0 | ⟨_ + 1, h⟩ => absurd h (Nat.not_lt.2 (Nat.le_add_left _ _))

abbrev stage0_60 : Fin 1 → Memref sig .tc .vmem S1x4 .f32 := fun | 0 => Memref.whole cc0_stg60_0 | ⟨_ + 1, h⟩ => absurd h (Nat.not_lt.2 (Nat.le_add_left _ _))
abbrev sem0_60 : Fin 1 → DmaSem sig := fun | 0 => cc0_sem60_0 | ⟨_ + 1, h⟩ => absurd h (Nat.not_lt.2 (Nat.le_add_left _ _))

abbrev stage0_61 : Fin 1 → Memref sig .tc .vmem S1x4 .f32 := fun | 0 => Memref.whole cc0_stg61_0 | ⟨_ + 1, h⟩ => absurd h (Nat.not_lt.2 (Nat.le_add_left _ _))
abbrev sem0_61 : Fin 1 → DmaSem sig := fun | 0 => cc0_sem61_0 | ⟨_ + 1, h⟩ => absurd h (Nat.not_lt.2 (Nat.le_add_left _ _))

abbrev stage0_62 : Fin 1 → Memref sig .tc .vmem S1x8 .f32 := fun | 0 => Memref.whole cc0_stg62_0 | ⟨_ + 1, h⟩ => absurd h (Nat.not_lt.2 (Nat.le_add_left _ _))
abbrev sem0_62 : Fin 1 → DmaSem sig := fun | 0 => cc0_sem62_0 | ⟨_ + 1, h⟩ => absurd h (Nat.not_lt.2 (Nat.le_add_left _ _))

abbrev stage0_63 : Fin 1 → Memref sig .tc .vmem S32x8 .f32 := fun | 0 => Memref.whole cc0_stg63_0 | ⟨_ + 1, h⟩ => absurd h (Nat.not_lt.2 (Nat.le_add_left _ _))
abbrev sem0_63 : Fin 1 → DmaSem sig := fun | 0 => cc0_sem63_0 | ⟨_ + 1, h⟩ => absurd h (Nat.not_lt.2 (Nat.le_add_left _ _))

abbrev stage0_64 : Fin 1 → Memref sig .tc .vmem S1x1 .f32 := fun | 0 => Memref.whole cc0_stg64_0 | ⟨_ + 1, h⟩ => absurd h (Nat.not_lt.2 (Nat.le_add_left _ _))
abbrev sem0_64 : Fin 1 → DmaSem sig := fun | 0 => cc0_sem64_0 | ⟨_ + 1, h⟩ => absurd h (Nat.not_lt.2 (Nat.le_add_left _ _))
-- ==== Reference15Ideal.lean ====
abbrev S8x48x1024 : Shape := ⟨3, ![8, 48, 1024]⟩
abbrev S1x1024 : Shape := ⟨2, ![1, 1024]⟩
abbrev S1x128 : Shape := ⟨2, ![1, 128]⟩
abbrev S1x64 : Shape := ⟨2, ![1, 64]⟩
abbrev S1x4 : Shape := ⟨2, ![1, 4]⟩
abbrev S1x8 : Shape := ⟨2, ![1, 8]⟩
abbrev S32x8 : Shape := ⟨2, ![32, 8]⟩
abbrev S_ : Shape := ⟨0, ![]⟩
abbrev S48x1024 : Shape := ⟨2, ![48, 1024]⟩
abbrev S1x1 : Shape := ⟨2, ![1, 1]⟩

abbrev nBuf : Space → Nat
  | .hbm => 337
  | .vmem => 0
  | .smem => 0
  | _ => 0

abbrev hbmTy0_0 (i : Nat) : BufTy := match i % 128 with
  | 0 => ⟨S8x48x1024, .f32⟩
  | 1 => ⟨S1x1024, .f32⟩
  | 2 => ⟨S1x1024, .f32⟩
  | 3 => ⟨S1x128, .f32⟩
  | 4 => ⟨S1x64, .f32⟩
  | 5 => ⟨S1x64, .f32⟩
  | 6 => ⟨S1x4, .f32⟩
  | 7 => ⟨S1x4, .f32⟩
  | 8 => ⟨S1x8, .f32⟩
  | 9 => ⟨S32x8, .f32⟩
  | 10 => ⟨S1x1024, .f32⟩
  | 11 => ⟨S1x1024, .f32⟩
  | 12 => ⟨S1x128, .f32⟩
  | 13 => ⟨S1x64, .f32⟩
  | 14 => ⟨S1x64, .f32⟩
  | 15 => ⟨S1x4, .f32⟩
  | 16 => ⟨S1x4, .f32⟩
  | 17 => ⟨S1x8, .f32⟩
  | 18 => ⟨S32x8, .f32⟩
  | 19 => ⟨S1x1024, .f32⟩
  | 20 => ⟨S1x1024, .f32⟩
  | 21 => ⟨S1x128, .f32⟩
  | 22 => ⟨S1x64, .f32⟩
  | 23 => ⟨S1x64, .f32⟩
  | 24 => ⟨S1x4, .f32⟩
  | 25 => ⟨S1x4, .f32⟩
  | 26 => ⟨S1x8, .f32⟩
  | 27 => ⟨S32x8, .f32⟩
  | 28 => ⟨S_, .f32⟩
  | 29 => ⟨S48x1024, .f32⟩
  | 30 => ⟨S1x1024, .f32⟩
  | 31 => ⟨S_, .f32⟩
  | 32 => ⟨S1x1024, .f32⟩
  | 33 => ⟨S1x1024, .f32⟩
  | 34 => ⟨S_, .f32⟩
  | 35 => ⟨S1x1024, .f32⟩
  | 36 => ⟨S1x1024, .f32⟩
  | 37 => ⟨S1x1024, .f32⟩
  | 38 => ⟨S_, .f32⟩
  | 39 => ⟨S1x1024, .f32⟩
  | 40 => ⟨S1x1024, .f32⟩
  | 41 => ⟨S1x1024, .f32⟩
  | 42 => ⟨S_, .f32⟩
  | 43 => ⟨S1x1024, .f32⟩
  | 44 => ⟨S1x1024, .f32⟩
  | 45 => ⟨S1x1024, .f32⟩
  | 46 => ⟨S_, .f32⟩
  | 47 => ⟨S1x1024, .f32⟩
  | 48 => ⟨S1x1024, .f32⟩
  | 49 => ⟨S_, .f32⟩
  | 50 => ⟨S1x1024, .f32⟩
  | 51 => ⟨S1x1024, .f32⟩
  | 52 => ⟨S1x1024, .f32⟩
  | 53 => ⟨S_, .f32⟩
  | 54 => ⟨S1x1024, .f32⟩
  | 55 => ⟨S1x1024, .f32⟩
  | 56 => ⟨S1x1024, .f32⟩
  | 57 => ⟨S_, .f32⟩
  | 58 => ⟨S1x1024, .f32⟩
  | 59 => ⟨S1x1024, .f32⟩
  | 60 => ⟨S1x1024, .f32⟩
  | 61 => ⟨S_, .f32⟩
  | 62 => ⟨S1x1024, .f32⟩
  | 63 => ⟨S1x1024, .f32⟩
  | 64 => ⟨S1x1024, .f32⟩
  | 65 => ⟨S_, .f32⟩
  | 66 => ⟨S1x1024, .f32⟩
  | 67 => ⟨S1x1024, .f32⟩
  | 68 => ⟨S_, .f32⟩
  | 69 => ⟨S1x1024, .f32⟩
  | 70 => ⟨S1x1024, .f32⟩
  | 71 => ⟨S1x1024, .f32⟩
  | 72 => ⟨S_, .f32⟩
  | 73 => ⟨S1x1024, .f32⟩
  | 74 => ⟨S1x1024, .f32⟩
  | 75 => ⟨S1x1024, .f32⟩
  | 76 => ⟨S_, .f32⟩
  | 77 => ⟨S1x1024, .f32⟩
  | 78 => ⟨S1x1024, .f32⟩
  | 79 => ⟨S1x1024, .f32⟩
  | 80 => ⟨S_, .f32⟩
  | 81 => ⟨S1x1024, .f32⟩
  | 82 => ⟨S1x1024, .f32⟩
  | 83 => ⟨S_, .f32⟩
  | 84 => ⟨S1x1024, .f32⟩
  | 85 => ⟨S1x1024, .f32⟩
  | 86 => ⟨S1x1024, .f32⟩
  | 87 => ⟨S_, .f32⟩
  | 88 => ⟨S1x1024, .f32⟩
  | 89 => ⟨S1x1024, .f32⟩
  | 90 => ⟨S1x1024, .f32⟩
  | 91 => ⟨S_, .f32⟩
  | 92 => ⟨S1x1024, .f32⟩
  | 93 => ⟨S1x1024, .f32⟩
  | 94 => ⟨S1x1024, .f32⟩
  | 95 => ⟨S_, .f32⟩
  | 96 => ⟨S1x1024, .f32⟩
  | 97 => ⟨S1x1024, .f32⟩
  | 98 => ⟨S1x128, .f32⟩
  | 99 => ⟨S_, .f32⟩
  | 100 => ⟨S1x128, .f32⟩
  | 101 => ⟨S1x128, .f32⟩
  | 102 => ⟨S_, .f32⟩
  | 103 => ⟨S1x128, .f32⟩
  | 104 => ⟨S1x128, .f32⟩
  | 105 => ⟨S1x128, .f32⟩
  | 106 => ⟨S_, .f32⟩
  | 107 => ⟨S1x128, .f32⟩
  | 108 => ⟨S1x128, .f32⟩
  | 109 => ⟨S1x128, .f32⟩
  | 110 => ⟨S_, .f32⟩
  | 111 => ⟨S1x128, .f32⟩
  | 112 => ⟨S1x128, .f32⟩
  | 113 => ⟨S1x128, .f32⟩
  | 114 => ⟨S_, .f32⟩
  | 115 => ⟨S1x128, .f32⟩
  | 116 => ⟨S1x128, .f32⟩
  | 117 => ⟨S_, .f32⟩
  | 118 => ⟨S1x128, .f32⟩
  | 119 => ⟨S1x128, .f32⟩
  | 120 => ⟨S1x128, .f32⟩
  | 121 => ⟨S_, .f32⟩
  | 122 => ⟨S1x128, .f32⟩
  | 123 => ⟨S1x128, .f32⟩
  | 124 => ⟨S1x128, .f32⟩
  | 125 => ⟨S_, .f32⟩
  | 126 => ⟨S1x128, .f32⟩
  | 127 => ⟨S1x128, .f32⟩
  | _ => ⟨S8x48x1024, .f32⟩

abbrev hbmTy0_1 (i : Nat) : BufTy := match i % 128 with
  | 0 => ⟨S1x128, .f32⟩
  | 1 => ⟨S_, .f32⟩
  | 2 => ⟨S1x128, .f32⟩
  | 3 => ⟨S1x128, .f32⟩
  | 4 => ⟨S1x64, .f32⟩
  | 5 => ⟨S_, .f32⟩
  | 6 => ⟨S1x64, .f32⟩
  | 7 => ⟨S1x64, .f32⟩
  | 8 => ⟨S_, .f32⟩
  | 9 => ⟨S1x64, .f32⟩
  | 10 => ⟨S1x64, .f32⟩
  | 11 => ⟨S1x64, .f32⟩
  | 12 => ⟨S_, .f32⟩
  | 13 => ⟨S1x64, .f32⟩
  | 14 => ⟨S1x64, .f32⟩
  | 15 => ⟨S1x64, .f32⟩
  | 16 => ⟨S_, .f32⟩
  | 17 => ⟨S1x64, .f32⟩
  | 18 => ⟨S1x64, .f32⟩
  | 19 => ⟨S1x64, .f32⟩
  | 20 => ⟨S_, .f32⟩
  | 21 => ⟨S1x64, .f32⟩
  | 22 => ⟨S1x64, .f32⟩
  | 23 => ⟨S_, .f32⟩
  | 24 => ⟨S1x64, .f32⟩
  | 25 => ⟨S1x64, .f32⟩
  | 26 => ⟨S1x64, .f32⟩
  | 27 => ⟨S_, .f32⟩
  | 28 => ⟨S1x64, .f32⟩
  | 29 => ⟨S1x64, .f32⟩
  | 30 => ⟨S1x64, .f32⟩
  | 31 => ⟨S_, .f32⟩
  | 32 => ⟨S1x64, .f32⟩
  | 33 => ⟨S1x64, .f32⟩
  | 34 => ⟨S1x64, .f32⟩
  | 35 => ⟨S_, .f32⟩
  | 36 => ⟨S1x64, .f32⟩
  | 37 => ⟨S1x64, .f32⟩
  | 38 => ⟨S1x64, .f32⟩
  | 39 => ⟨S_, .f32⟩
  | 40 => ⟨S1x64, .f32⟩
  | 41 => ⟨S1x64, .f32⟩
  | 42 => ⟨S_, .f32⟩
  | 43 => ⟨S1x64, .f32⟩
  | 44 => ⟨S1x64, .f32⟩
  | 45 => ⟨S1x64, .f32⟩
  | 46 => ⟨S_, .f32⟩
  | 47 => ⟨S1x64, .f32⟩
  | 48 => ⟨S1x64, .f32⟩
  | 49 => ⟨S1x64, .f32⟩
  | 50 => ⟨S_, .f32⟩
  | 51 => ⟨S1x64, .f32⟩
  | 52 => ⟨S1x64, .f32⟩
  | 53 => ⟨S1x64, .f32⟩
  | 54 => ⟨S_, .f32⟩
  | 55 => ⟨S1x64, .f32⟩
  | 56 => ⟨S1x64, .f32⟩
  | 57 => ⟨S_, .f32⟩
  | 58 => ⟨S1x64, .f32⟩
  | 59 => ⟨S1x64, .f32⟩
  | 60 => ⟨S1x64, .f32⟩
  | 61 => ⟨S_, .f32⟩
  | 62 => ⟨S1x64, .f32⟩
  | 63 => ⟨S1x64, .f32⟩
  | 64 => ⟨S1x64, .f32⟩
  | 65 => ⟨S_, .f32⟩
  | 66 => ⟨S1x64, .f32⟩
  | 67 => ⟨S1x64, .f32⟩
  | 68 => ⟨S1x64, .f32⟩
  | 69 => ⟨S_, .f32⟩
  | 70 => ⟨S1x64, .f32⟩
  | 71 => ⟨S1x64, .f32⟩
  | 72 => ⟨S1x4, .f32⟩
  | 73 => ⟨S_, .f32⟩
  | 74 => ⟨S1x4, .f32⟩
  | 75 => ⟨S1x4, .f32⟩
  | 76 => ⟨S_, .f32⟩
  | 77 => ⟨S1x4, .f32⟩
  | 78 => ⟨S1x4, .f32⟩
  | 79 => ⟨S1x4, .f32⟩
  | 80 => ⟨S_, .f32⟩
  | 81 => ⟨S1x4, .f32⟩
  | 82 => ⟨S1x4, .f32⟩
  | 83 => ⟨S1x4, .f32⟩
  | 84 => ⟨S_, .f32⟩
  | 85 => ⟨S1x4, .f32⟩
  | 86 => ⟨S1x4, .f32⟩
  | 87 => ⟨S1x4, .f32⟩
  | 88 => ⟨S_, .f32⟩
  | 89 => ⟨S1x4, .f32⟩
  | 90 => ⟨S1x4, .f32⟩
  | 91 => ⟨S_, .f32⟩
  | 92 => ⟨S1x4, .f32⟩
  | 93 => ⟨S1x4, .f32⟩
  | 94 => ⟨S1x4, .f32⟩
  | 95 => ⟨S_, .f32⟩
  | 96 => ⟨S1x4, .f32⟩
  | 97 => ⟨S1x4, .f32⟩
  | 98 => ⟨S1x4, .f32⟩
  | 99 => ⟨S_, .f32⟩
  | 100 => ⟨S1x4, .f32⟩
  | 101 => ⟨S1x4, .f32⟩
  | 102 => ⟨S1x4, .f32⟩
  | 103 => ⟨S_, .f32⟩
  | 104 => ⟨S1x4, .f32⟩
  | 105 => ⟨S1x4, .f32⟩
  | 106 => ⟨S1x4, .f32⟩
  | 107 => ⟨S_, .f32⟩
  | 108 => ⟨S1x4, .f32⟩
  | 109 => ⟨S1x4, .f32⟩
  | 110 => ⟨S_, .f32⟩
  | 111 => ⟨S1x4, .f32⟩
  | 112 => ⟨S1x4, .f32⟩
  | 113 => ⟨S1x4, .f32⟩
  | 114 => ⟨S_, .f32⟩
  | 115 => ⟨S1x4, .f32⟩
  | 116 => ⟨S1x4, .f32⟩
  | 117 => ⟨S1x4, .f32⟩
  | 118 => ⟨S_, .f32⟩
  | 119 => ⟨S1x4, .f32⟩
  | 120 => ⟨S1x4, .f32⟩
  | 121 => ⟨S1x4, .f32⟩
  | 122 => ⟨S_, .f32⟩
  | 123 => ⟨S1x4, .f32⟩
  | 124 => ⟨S1x4, .f32⟩
  | 125 => ⟨S_, .f32⟩
  | 126 => ⟨S1x4, .f32⟩
  | 127 => ⟨S1x4, .f32⟩
  | _ => ⟨S8x48x1024, .f32⟩

abbrev hbmTy0_2 (i : Nat) : BufTy := match i % 128 with
  | 0 => ⟨S1x4, .f32⟩
  | 1 => ⟨S_, .f32⟩
  | 2 => ⟨S1x4, .f32⟩
  | 3 => ⟨S1x4, .f32⟩
  | 4 => ⟨S1x4, .f32⟩
  | 5 => ⟨S_, .f32⟩
  | 6 => ⟨S1x4, .f32⟩
  | 7 => ⟨S1x4, .f32⟩
  | 8 => ⟨S1x4, .f32⟩
  | 9 => ⟨S_, .f32⟩
  | 10 => ⟨S1x4, .f32⟩
  | 11 => ⟨S1x4, .f32⟩
  | 12 => ⟨S1x8, .f32⟩
  | 13 => ⟨S_, .f32⟩
  | 14 => ⟨S1x8, .f32⟩
  | 15 => ⟨S1x8, .f32⟩
  | 16 => ⟨S_, .f32⟩
  | 17 => ⟨S1x8, .f32⟩
  | 18 => ⟨S1x8, .f32⟩
  | 19 => ⟨S1x8, .f32⟩
  | 20 => ⟨S_, .f32⟩
  | 21 => ⟨S1x8, .f32⟩
  | 22 => ⟨S1x8, .f32⟩
  | 23 => ⟨S1x8, .f32⟩
  | 24 => ⟨S_, .f32⟩
  | 25 => ⟨S1x8, .f32⟩
  | 26 => ⟨S1x8, .f32⟩
  | 27 => ⟨S1x8, .f32⟩
  | 28 => ⟨S_, .f32⟩
  | 29 => ⟨S1x8, .f32⟩
  | 30 => ⟨S1x8, .f32⟩
  | 31 => ⟨S_, .f32⟩
  | 32 => ⟨S1x8, .f32⟩
  | 33 => ⟨S1x8, .f32⟩
  | 34 => ⟨S1x8, .f32⟩
  | 35 => ⟨S_, .f32⟩
  | 36 => ⟨S1x8, .f32⟩
  | 37 => ⟨S1x8, .f32⟩
  | 38 => ⟨S1x8, .f32⟩
  | 39 => ⟨S_, .f32⟩
  | 40 => ⟨S1x8, .f32⟩
  | 41 => ⟨S1x8, .f32⟩
  | 42 => ⟨S1x8, .f32⟩
  | 43 => ⟨S_, .f32⟩
  | 44 => ⟨S1x8, .f32⟩
  | 45 => ⟨S1x8, .f32⟩
  | 46 => ⟨S32x8, .f32⟩
  | 47 => ⟨S_, .f32⟩
  | 48 => ⟨S32x8, .f32⟩
  | 49 => ⟨S32x8, .f32⟩
  | 50 => ⟨S_, .f32⟩
  | 51 => ⟨S32x8, .f32⟩
  | 52 => ⟨S32x8, .f32⟩
  | 53 => ⟨S32x8, .f32⟩
  | 54 => ⟨S_, .f32⟩
  | 55 => ⟨S32x8, .f32⟩
  | 56 => ⟨S32x8, .f32⟩
  | 57 => ⟨S32x8, .f32⟩
  | 58 => ⟨S_, .f32⟩
  | 59 => ⟨S32x8, .f32⟩
  | 60 => ⟨S32x8, .f32⟩
  | 61 => ⟨S32x8, .f32⟩
  | 62 => ⟨S_, .f32⟩
  | 63 => ⟨S32x8, .f32⟩
  | 64 => ⟨S32x8, .f32⟩
  | 65 => ⟨S_, .f32⟩
  | 66 => ⟨S32x8, .f32⟩
  | 67 => ⟨S32x8, .f32⟩
  | 68 => ⟨S32x8, .f32⟩
  | 69 => ⟨S_, .f32⟩
  | 70 => ⟨S32x8, .f32⟩
  | 71 => ⟨S32x8, .f32⟩
  | 72 => ⟨S32x8, .f32⟩
  | 73 => ⟨S_, .f32⟩
  | 74 => ⟨S32x8, .f32⟩
  | 75 => ⟨S32x8, .f32⟩
  | 76 => ⟨S32x8, .f32⟩
  | 77 => ⟨S_, .f32⟩
  | 78 => ⟨S32x8, .f32⟩
  | 79 => ⟨S32x8, .f32⟩
  | 80 => ⟨S1x1, .f32⟩
  | _ => ⟨S8x48x1024, .f32⟩

abbrev hbmTy (i : Nat) : BufTy := match i / 128 with
  | 0 => hbmTy0_0 i
  | 1 => hbmTy0_1 i
  | 2 => hbmTy0_2 i
  | _ => ⟨S8x48x1024, .f32⟩

abbrev bufTy : (tb : Table) → Fin (tcTables nBuf tb) → BufTy
  | .hbm, ⟨i, _⟩ => hbmTy i
  | _, _ => ⟨S8x48x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_cst : Ref sig .tc := ⟨.hbm, 28, rfl⟩
abbrev main_v0 : Ref sig .tc := ⟨.hbm, 29, rfl⟩
abbrev main_v1 : Ref sig .tc := ⟨.hbm, 30, rfl⟩
abbrev main_cst_0 : Ref sig .tc := ⟨.hbm, 31, rfl⟩
abbrev main_v2 : Ref sig .tc := ⟨.hbm, 32, rfl⟩
abbrev main_v3 : Ref sig .tc := ⟨.hbm, 33, rfl⟩
abbrev main_cst_1 : Ref sig .tc := ⟨.hbm, 34, rfl⟩
abbrev main_v4 : Ref sig .tc := ⟨.hbm, 35, rfl⟩
abbrev main_v5 : Ref sig .tc := ⟨.hbm, 36, rfl⟩
abbrev main_v6 : Ref sig .tc := ⟨.hbm, 37, rfl⟩
abbrev main_cst_2 : Ref sig .tc := ⟨.hbm, 38, rfl⟩
abbrev main_v7 : Ref sig .tc := ⟨.hbm, 39, rfl⟩
abbrev main_v8 : Ref sig .tc := ⟨.hbm, 40, rfl⟩
abbrev main_v9 : Ref sig .tc := ⟨.hbm, 41, rfl⟩
abbrev main_cst_3 : Ref sig .tc := ⟨.hbm, 42, rfl⟩
abbrev main_v10 : Ref sig .tc := ⟨.hbm, 43, rfl⟩
abbrev main_v11 : Ref sig .tc := ⟨.hbm, 44, rfl⟩
abbrev main_v12 : Ref sig .tc := ⟨.hbm, 45, rfl⟩
abbrev main_cst_4 : Ref sig .tc := ⟨.hbm, 46, rfl⟩
abbrev main_v13 : Ref sig .tc := ⟨.hbm, 47, rfl⟩
abbrev main_v14 : Ref sig .tc := ⟨.hbm, 48, rfl⟩
abbrev main_cst_5 : Ref sig .tc := ⟨.hbm, 49, rfl⟩
abbrev main_v15 : Ref sig .tc := ⟨.hbm, 50, rfl⟩
abbrev main_v16 : Ref sig .tc := ⟨.hbm, 51, rfl⟩
abbrev main_v17 : Ref sig .tc := ⟨.hbm, 52, rfl⟩
abbrev main_cst_6 : Ref sig .tc := ⟨.hbm, 53, rfl⟩
abbrev main_v18 : Ref sig .tc := ⟨.hbm, 54, rfl⟩
abbrev main_v19 : Ref sig .tc := ⟨.hbm, 55, rfl⟩
abbrev main_v20 : Ref sig .tc := ⟨.hbm, 56, rfl⟩
abbrev main_cst_7 : Ref sig .tc := ⟨.hbm, 57, rfl⟩
abbrev main_v21 : Ref sig .tc := ⟨.hbm, 58, rfl⟩
abbrev main_v22 : Ref sig .tc := ⟨.hbm, 59, rfl⟩
abbrev main_v23 : Ref sig .tc := ⟨.hbm, 60, rfl⟩
abbrev main_cst_8 : Ref sig .tc := ⟨.hbm, 61, rfl⟩
abbrev main_v24 : Ref sig .tc := ⟨.hbm, 62, rfl⟩
abbrev main_v25 : Ref sig .tc := ⟨.hbm, 63, rfl⟩
abbrev main_v26 : Ref sig .tc := ⟨.hbm, 64, rfl⟩
abbrev main_cst_9 : Ref sig .tc := ⟨.hbm, 65, rfl⟩
abbrev main_v27 : Ref sig .tc := ⟨.hbm, 66, rfl⟩
abbrev main_v28 : Ref sig .tc := ⟨.hbm, 67, rfl⟩
abbrev main_cst_10 : Ref sig .tc := ⟨.hbm, 68, rfl⟩
abbrev main_v29 : Ref sig .tc := ⟨.hbm, 69, rfl⟩
abbrev main_v30 : Ref sig .tc := ⟨.hbm, 70, rfl⟩
abbrev main_v31 : Ref sig .tc := ⟨.hbm, 71, rfl⟩
abbrev main_cst_11 : Ref sig .tc := ⟨.hbm, 72, rfl⟩
abbrev main_v32 : Ref sig .tc := ⟨.hbm, 73, rfl⟩
abbrev main_v33 : Ref sig .tc := ⟨.hbm, 74, rfl⟩
abbrev main_v34 : Ref sig .tc := ⟨.hbm, 75, rfl⟩
abbrev main_cst_12 : Ref sig .tc := ⟨.hbm, 76, rfl⟩
abbrev main_v35 : Ref sig .tc := ⟨.hbm, 77, rfl⟩
abbrev main_v36 : Ref sig .tc := ⟨.hbm, 78, rfl⟩
abbrev main_v37 : Ref sig .tc := ⟨.hbm, 79, rfl⟩
abbrev main_cst_13 : Ref sig .tc := ⟨.hbm, 80, rfl⟩
abbrev main_v38 : Ref sig .tc := ⟨.hbm, 81, rfl⟩
abbrev main_v39 : Ref sig .tc := ⟨.hbm, 82, rfl⟩
abbrev main_cst_14 : Ref sig .tc := ⟨.hbm, 83, rfl⟩
abbrev main_v40 : Ref sig .tc := ⟨.hbm, 84, rfl⟩
abbrev main_v41 : Ref sig .tc := ⟨.hbm, 85, rfl⟩
abbrev main_v42 : Ref sig .tc := ⟨.hbm, 86, rfl⟩
abbrev main_cst_15 : Ref sig .tc := ⟨.hbm, 87, rfl⟩
abbrev main_v43 : Ref sig .tc := ⟨.hbm, 88, rfl⟩
abbrev main_v44 : Ref sig .tc := ⟨.hbm, 89, rfl⟩
abbrev main_v45 : Ref sig .tc := ⟨.hbm, 90, rfl⟩
abbrev main_cst_16 : Ref sig .tc := ⟨.hbm, 91, rfl⟩
abbrev main_v46 : Ref sig .tc := ⟨.hbm, 92, rfl⟩
abbrev main_v47 : Ref sig .tc := ⟨.hbm, 93, rfl⟩
abbrev main_v48 : Ref sig .tc := ⟨.hbm, 94, rfl⟩
abbrev main_cst_17 : Ref sig .tc := ⟨.hbm, 95, rfl⟩
abbrev main_v49 : Ref sig .tc := ⟨.hbm, 96, rfl⟩
abbrev main_v50 : Ref sig .tc := ⟨.hbm, 97, rfl⟩
abbrev main_v51 : Ref sig .tc := ⟨.hbm, 98, rfl⟩
abbrev main_cst_18 : Ref sig .tc := ⟨.hbm, 99, rfl⟩
abbrev main_v52 : Ref sig .tc := ⟨.hbm, 100, rfl⟩
abbrev main_v53 : Ref sig .tc := ⟨.hbm, 101, rfl⟩
abbrev main_cst_19 : Ref sig .tc := ⟨.hbm, 102, rfl⟩
abbrev main_v54 : Ref sig .tc := ⟨.hbm, 103, rfl⟩
abbrev main_v55 : Ref sig .tc := ⟨.hbm, 104, rfl⟩
abbrev main_v56 : Ref sig .tc := ⟨.hbm, 105, rfl⟩
abbrev main_cst_20 : Ref sig .tc := ⟨.hbm, 106, rfl⟩
abbrev main_v57 : Ref sig .tc := ⟨.hbm, 107, rfl⟩
abbrev main_v58 : Ref sig .tc := ⟨.hbm, 108, rfl⟩
abbrev main_v59 : Ref sig .tc := ⟨.hbm, 109, rfl⟩
abbrev main_cst_21 : Ref sig .tc := ⟨.hbm, 110, rfl⟩
abbrev main_v60 : Ref sig .tc := ⟨.hbm, 111, rfl⟩
abbrev main_v61 : Ref sig .tc := ⟨.hbm, 112, rfl⟩
abbrev main_v62 : Ref sig .tc := ⟨.hbm, 113, rfl⟩
abbrev main_cst_22 : Ref sig .tc := ⟨.hbm, 114, rfl⟩
abbrev main_v63 : Ref sig .tc := ⟨.hbm, 115, rfl⟩
abbrev main_v64 : Ref sig .tc := ⟨.hbm, 116, rfl⟩
abbrev main_cst_23 : Ref sig .tc := ⟨.hbm, 117, rfl⟩
abbrev main_v65 : Ref sig .tc := ⟨.hbm, 118, rfl⟩
abbrev main_v66 : Ref sig .tc := ⟨.hbm, 119, rfl⟩
abbrev main_v67 : Ref sig .tc := ⟨.hbm, 120, rfl⟩
abbrev main_cst_24 : Ref sig .tc := ⟨.hbm, 121, rfl⟩
abbrev main_v68 : Ref sig .tc := ⟨.hbm, 122, rfl⟩
abbrev main_v69 : Ref sig .tc := ⟨.hbm, 123, rfl⟩
abbrev main_v70 : Ref sig .tc := ⟨.hbm, 124, rfl⟩
abbrev main_cst_25 : Ref sig .tc := ⟨.hbm, 125, rfl⟩
abbrev main_v71 : Ref sig .tc := ⟨.hbm, 126, rfl⟩
abbrev main_v72 : Ref sig .tc := ⟨.hbm, 127, rfl⟩
abbrev main_v73 : Ref sig .tc := ⟨.hbm, 128, rfl⟩
abbrev main_cst_26 : Ref sig .tc := ⟨.hbm, 129, rfl⟩
abbrev main_v74 : Ref sig .tc := ⟨.hbm, 130, rfl⟩
abbrev main_v75 : Ref sig .tc := ⟨.hbm, 131, rfl⟩
abbrev main_v76 : Ref sig .tc := ⟨.hbm, 132, rfl⟩
abbrev main_cst_27 : Ref sig .tc := ⟨.hbm, 133, rfl⟩
abbrev main_v77 : Ref sig .tc := ⟨.hbm, 134, rfl⟩
abbrev main_v78 : Ref sig .tc := ⟨.hbm, 135, rfl⟩
abbrev main_cst_28 : Ref sig .tc := ⟨.hbm, 136, rfl⟩
abbrev main_v79 : Ref sig .tc := ⟨.hbm, 137, rfl⟩
abbrev main_v80 : Ref sig .tc := ⟨.hbm, 138, rfl⟩
abbrev main_v81 : Ref sig .tc := ⟨.hbm, 139, rfl⟩
abbrev main_cst_29 : Ref sig .tc := ⟨.hbm, 140, rfl⟩
abbrev main_v82 : Ref sig .tc := ⟨.hbm, 141, rfl⟩
abbrev main_v83 : Ref sig .tc := ⟨.hbm, 142, rfl⟩
abbrev main_v84 : Ref sig .tc := ⟨.hbm, 143, rfl⟩
abbrev main_cst_30 : Ref sig .tc := ⟨.hbm, 144, rfl⟩
abbrev main_v85 : Ref sig .tc := ⟨.hbm, 145, rfl⟩
abbrev main_v86 : Ref sig .tc := ⟨.hbm, 146, rfl⟩
abbrev main_v87 : Ref sig .tc := ⟨.hbm, 147, rfl⟩
abbrev main_cst_31 : Ref sig .tc := ⟨.hbm, 148, rfl⟩
abbrev main_v88 : Ref sig .tc := ⟨.hbm, 149, rfl⟩
abbrev main_v89 : Ref sig .tc := ⟨.hbm, 150, rfl⟩
abbrev main_cst_32 : Ref sig .tc := ⟨.hbm, 151, rfl⟩
abbrev main_v90 : Ref sig .tc := ⟨.hbm, 152, rfl⟩
abbrev main_v91 : Ref sig .tc := ⟨.hbm, 153, rfl⟩
abbrev main_v92 : Ref sig .tc := ⟨.hbm, 154, rfl⟩
abbrev main_cst_33 : Ref sig .tc := ⟨.hbm, 155, rfl⟩
abbrev main_v93 : Ref sig .tc := ⟨.hbm, 156, rfl⟩
abbrev main_v94 : Ref sig .tc := ⟨.hbm, 157, rfl⟩
abbrev main_v95 : Ref sig .tc := ⟨.hbm, 158, rfl⟩
abbrev main_cst_34 : Ref sig .tc := ⟨.hbm, 159, rfl⟩
abbrev main_v96 : Ref sig .tc := ⟨.hbm, 160, rfl⟩
abbrev main_v97 : Ref sig .tc := ⟨.hbm, 161, rfl⟩
abbrev main_v98 : Ref sig .tc := ⟨.hbm, 162, rfl⟩
abbrev main_cst_35 : Ref sig .tc := ⟨.hbm, 163, rfl⟩
abbrev main_v99 : Ref sig .tc := ⟨.hbm, 164, rfl⟩
abbrev main_v100 : Ref sig .tc := ⟨.hbm, 165, rfl⟩
abbrev main_v101 : Ref sig .tc := ⟨.hbm, 166, rfl⟩
abbrev main_cst_36 : Ref sig .tc := ⟨.hbm, 167, rfl⟩
abbrev main_v102 : Ref sig .tc := ⟨.hbm, 168, rfl⟩
abbrev main_v103 : Ref sig .tc := ⟨.hbm, 169, rfl⟩
abbrev main_cst_37 : Ref sig .tc := ⟨.hbm, 170, rfl⟩
abbrev main_v104 : Ref sig .tc := ⟨.hbm, 171, rfl⟩
abbrev main_v105 : Ref sig .tc := ⟨.hbm, 172, rfl⟩
abbrev main_v106 : Ref sig .tc := ⟨.hbm, 173, rfl⟩
abbrev main_cst_38 : Ref sig .tc := ⟨.hbm, 174, rfl⟩
abbrev main_v107 : Ref sig .tc := ⟨.hbm, 175, rfl⟩
abbrev main_v108 : Ref sig .tc := ⟨.hbm, 176, rfl⟩
abbrev main_v109 : Ref sig .tc := ⟨.hbm, 177, rfl⟩
abbrev main_cst_39 : Ref sig .tc := ⟨.hbm, 178, rfl⟩
abbrev main_v110 : Ref sig .tc := ⟨.hbm, 179, rfl⟩
abbrev main_v111 : Ref sig .tc := ⟨.hbm, 180, rfl⟩
abbrev main_v112 : Ref sig .tc := ⟨.hbm, 181, rfl⟩
abbrev main_cst_40 : Ref sig .tc := ⟨.hbm, 182, rfl⟩
abbrev main_v113 : Ref sig .tc := ⟨.hbm, 183, rfl⟩
abbrev main_v114 : Ref sig .tc := ⟨.hbm, 184, rfl⟩
abbrev main_cst_41 : Ref sig .tc := ⟨.hbm, 185, rfl⟩
abbrev main_v115 : Ref sig .tc := ⟨.hbm, 186, rfl⟩
abbrev main_v116 : Ref sig .tc := ⟨.hbm, 187, rfl⟩
abbrev main_v117 : Ref sig .tc := ⟨.hbm, 188, rfl⟩
abbrev main_cst_42 : Ref sig .tc := ⟨.hbm, 189, rfl⟩
abbrev main_v118 : Ref sig .tc := ⟨.hbm, 190, rfl⟩
abbrev main_v119 : Ref sig .tc := ⟨.hbm, 191, rfl⟩
abbrev main_v120 : Ref sig .tc := ⟨.hbm, 192, rfl⟩
abbrev main_cst_43 : Ref sig .tc := ⟨.hbm, 193, rfl⟩
abbrev main_v121 : Ref sig .tc := ⟨.hbm, 194, rfl⟩
abbrev main_v122 : Ref sig .tc := ⟨.hbm, 195, rfl⟩
abbrev main_v123 : Ref sig .tc := ⟨.hbm, 196, rfl⟩
abbrev main_cst_44 : Ref sig .tc := ⟨.hbm, 197, rfl⟩
abbrev main_v124 : Ref sig .tc := ⟨.hbm, 198, rfl⟩
abbrev main_v125 : Ref sig .tc := ⟨.hbm, 199, rfl⟩
abbrev main_v126 : Ref sig .tc := ⟨.hbm, 200, rfl⟩
abbrev main_cst_45 : Ref sig .tc := ⟨.hbm, 201, rfl⟩
abbrev main_v127 : Ref sig .tc := ⟨.hbm, 202, rfl⟩
abbrev main_v128 : Ref sig .tc := ⟨.hbm, 203, rfl⟩
abbrev main_cst_46 : Ref sig .tc := ⟨.hbm, 204, rfl⟩
abbrev main_v129 : Ref sig .tc := ⟨.hbm, 205, rfl⟩
abbrev main_v130 : Ref sig .tc := ⟨.hbm, 206, rfl⟩
abbrev main_v131 : Ref sig .tc := ⟨.hbm, 207, rfl⟩
abbrev main_cst_47 : Ref sig .tc := ⟨.hbm, 208, rfl⟩
abbrev main_v132 : Ref sig .tc := ⟨.hbm, 209, rfl⟩
abbrev main_v133 : Ref sig .tc := ⟨.hbm, 210, rfl⟩
abbrev main_v134 : Ref sig .tc := ⟨.hbm, 211, rfl⟩
abbrev main_cst_48 : Ref sig .tc := ⟨.hbm, 212, rfl⟩
abbrev main_v135 : Ref sig .tc := ⟨.hbm, 213, rfl⟩
abbrev main_v136 : Ref sig .tc := ⟨.hbm, 214, rfl⟩
abbrev main_v137 : Ref sig .tc := ⟨.hbm, 215, rfl⟩
abbrev main_cst_49 : Ref sig .tc := ⟨.hbm, 216, rfl⟩
abbrev main_v138 : Ref sig .tc := ⟨.hbm, 217, rfl⟩
abbrev main_v139 : Ref sig .tc := ⟨.hbm, 218, rfl⟩
abbrev main_cst_50 : Ref sig .tc := ⟨.hbm, 219, rfl⟩
abbrev main_v140 : Ref sig .tc := ⟨.hbm, 220, rfl⟩
abbrev main_v141 : Ref sig .tc := ⟨.hbm, 221, rfl⟩
abbrev main_v142 : Ref sig .tc := ⟨.hbm, 222, rfl⟩
abbrev main_cst_51 : Ref sig .tc := ⟨.hbm, 223, rfl⟩
abbrev main_v143 : Ref sig .tc := ⟨.hbm, 224, rfl⟩
abbrev main_v144 : Ref sig .tc := ⟨.hbm, 225, rfl⟩
abbrev main_v145 : Ref sig .tc := ⟨.hbm, 226, rfl⟩
abbrev main_cst_52 : Ref sig .tc := ⟨.hbm, 227, rfl⟩
abbrev main_v146 : Ref sig .tc := ⟨.hbm, 228, rfl⟩
abbrev main_v147 : Ref sig .tc := ⟨.hbm, 229, rfl⟩
abbrev main_v148 : Ref sig .tc := ⟨.hbm, 230, rfl⟩
abbrev main_cst_53 : Ref sig .tc := ⟨.hbm, 231, rfl⟩
abbrev main_v149 : Ref sig .tc := ⟨.hbm, 232, rfl⟩
abbrev main_v150 : Ref sig .tc := ⟨.hbm, 233, rfl⟩
abbrev main_v151 : Ref sig .tc := ⟨.hbm, 234, rfl⟩
abbrev main_cst_54 : Ref sig .tc := ⟨.hbm, 235, rfl⟩
abbrev main_v152 : Ref sig .tc := ⟨.hbm, 236, rfl⟩
abbrev main_v153 : Ref sig .tc := ⟨.hbm, 237, rfl⟩
abbrev main_cst_55 : Ref sig .tc := ⟨.hbm, 238, rfl⟩
abbrev main_v154 : Ref sig .tc := ⟨.hbm, 239, rfl⟩
abbrev main_v155 : Ref sig .tc := ⟨.hbm, 240, rfl⟩
abbrev main_v156 : Ref sig .tc := ⟨.hbm, 241, rfl⟩
abbrev main_cst_56 : Ref sig .tc := ⟨.hbm, 242, rfl⟩
abbrev main_v157 : Ref sig .tc := ⟨.hbm, 243, rfl⟩
abbrev main_v158 : Ref sig .tc := ⟨.hbm, 244, rfl⟩
abbrev main_v159 : Ref sig .tc := ⟨.hbm, 245, rfl⟩
abbrev main_cst_57 : Ref sig .tc := ⟨.hbm, 246, rfl⟩
abbrev main_v160 : Ref sig .tc := ⟨.hbm, 247, rfl⟩
abbrev main_v161 : Ref sig .tc := ⟨.hbm, 248, rfl⟩
abbrev main_v162 : Ref sig .tc := ⟨.hbm, 249, rfl⟩
abbrev main_cst_58 : Ref sig .tc := ⟨.hbm, 250, rfl⟩
abbrev main_v163 : Ref sig .tc := ⟨.hbm, 251, rfl⟩
abbrev main_v164 : Ref sig .tc := ⟨.hbm, 252, rfl⟩
abbrev main_cst_59 : Ref sig .tc := ⟨.hbm, 253, rfl⟩
abbrev main_v165 : Ref sig .tc := ⟨.hbm, 254, rfl⟩
abbrev main_v166 : Ref sig .tc := ⟨.hbm, 255, rfl⟩
abbrev main_v167 : Ref sig .tc := ⟨.hbm, 256, rfl⟩
abbrev main_cst_60 : Ref sig .tc := ⟨.hbm, 257, rfl⟩
abbrev main_v168 : Ref sig .tc := ⟨.hbm, 258, rfl⟩
abbrev main_v169 : Ref sig .tc := ⟨.hbm, 259, rfl⟩
abbrev main_v170 : Ref sig .tc := ⟨.hbm, 260, rfl⟩
abbrev main_cst_61 : Ref sig .tc := ⟨.hbm, 261, rfl⟩
abbrev main_v171 : Ref sig .tc := ⟨.hbm, 262, rfl⟩
abbrev main_v172 : Ref sig .tc := ⟨.hbm, 263, rfl⟩
abbrev main_v173 : Ref sig .tc := ⟨.hbm, 264, rfl⟩
abbrev main_cst_62 : Ref sig .tc := ⟨.hbm, 265, rfl⟩
abbrev main_v174 : Ref sig .tc := ⟨.hbm, 266, rfl⟩
abbrev main_v175 : Ref sig .tc := ⟨.hbm, 267, rfl⟩
abbrev main_v176 : Ref sig .tc := ⟨.hbm, 268, rfl⟩
abbrev main_cst_63 : Ref sig .tc := ⟨.hbm, 269, rfl⟩
abbrev main_v177 : Ref sig .tc := ⟨.hbm, 270, rfl⟩
abbrev main_v178 : Ref sig .tc := ⟨.hbm, 271, rfl⟩
abbrev main_cst_64 : Ref sig .tc := ⟨.hbm, 272, rfl⟩
abbrev main_v179 : Ref sig .tc := ⟨.hbm, 273, rfl⟩
abbrev main_v180 : Ref sig .tc := ⟨.hbm, 274, rfl⟩
abbrev main_v181 : Ref sig .tc := ⟨.hbm, 275, rfl⟩
abbrev main_cst_65 : Ref sig .tc := ⟨.hbm, 276, rfl⟩
abbrev main_v182 : Ref sig .tc := ⟨.hbm, 277, rfl⟩
abbrev main_v183 : Ref sig .tc := ⟨.hbm, 278, rfl⟩
abbrev main_v184 : Ref sig .tc := ⟨.hbm, 279, rfl⟩
abbrev main_cst_66 : Ref sig .tc := ⟨.hbm, 280, rfl⟩
abbrev main_v185 : Ref sig .tc := ⟨.hbm, 281, rfl⟩
abbrev main_v186 : Ref sig .tc := ⟨.hbm, 282, rfl⟩
abbrev main_v187 : Ref sig .tc := ⟨.hbm, 283, rfl⟩
abbrev main_cst_67 : Ref sig .tc := ⟨.hbm, 284, rfl⟩
abbrev main_v188 : Ref sig .tc := ⟨.hbm, 285, rfl⟩
abbrev main_v189 : Ref sig .tc := ⟨.hbm, 286, rfl⟩
abbrev main_cst_68 : Ref sig .tc := ⟨.hbm, 287, rfl⟩
abbrev main_v190 : Ref sig .tc := ⟨.hbm, 288, rfl⟩
abbrev main_v191 : Ref sig .tc := ⟨.hbm, 289, rfl⟩
abbrev main_v192 : Ref sig .tc := ⟨.hbm, 290, rfl⟩
abbrev main_cst_69 : Ref sig .tc := ⟨.hbm, 291, rfl⟩
abbrev main_v193 : Ref sig .tc := ⟨.hbm, 292, rfl⟩
abbrev main_v194 : Ref sig .tc := ⟨.hbm, 293, rfl⟩
abbrev main_v195 : Ref sig .tc := ⟨.hbm, 294, rfl⟩
abbrev main_cst_70 : Ref sig .tc := ⟨.hbm, 295, rfl⟩
abbrev main_v196 : Ref sig .tc := ⟨.hbm, 296, rfl⟩
abbrev main_v197 : Ref sig .tc := ⟨.hbm, 297, rfl⟩
abbrev main_v198 : Ref sig .tc := ⟨.hbm, 298, rfl⟩
abbrev main_cst_71 : Ref sig .tc := ⟨.hbm, 299, rfl⟩
abbrev main_v199 : Ref sig .tc := ⟨.hbm, 300, rfl⟩
abbrev main_v200 : Ref sig .tc := ⟨.hbm, 301, rfl⟩
abbrev main_v201 : Ref sig .tc := ⟨.hbm, 302, rfl⟩
abbrev main_cst_72 : Ref sig .tc := ⟨.hbm, 303, rfl⟩
abbrev main_v202 : Ref sig .tc := ⟨.hbm, 304, rfl⟩
abbrev main_v203 : Ref sig .tc := ⟨.hbm, 305, rfl⟩
abbrev main_cst_73 : Ref sig .tc := ⟨.hbm, 306, rfl⟩
abbrev main_v204 : Ref sig .tc := ⟨.hbm, 307, rfl⟩
abbrev main_v205 : Ref sig .tc := ⟨.hbm, 308, rfl⟩
abbrev main_v206 : Ref sig .tc := ⟨.hbm, 309, rfl⟩
abbrev main_cst_74 : Ref sig .tc := ⟨.hbm, 310, rfl⟩
abbrev main_v207 : Ref sig .tc := ⟨.hbm, 311, rfl⟩
abbrev main_v208 : Ref sig .tc := ⟨.hbm, 312, rfl⟩
abbrev main_v209 : Ref sig .tc := ⟨.hbm, 313, rfl⟩
abbrev main_cst_75 : Ref sig .tc := ⟨.hbm, 314, rfl⟩
abbrev main_v210 : Ref sig .tc := ⟨.hbm, 315, rfl⟩
abbrev main_v211 : Ref sig .tc := ⟨.hbm, 316, rfl⟩
abbrev main_v212 : Ref sig .tc := ⟨.hbm, 317, rfl⟩
abbrev main_cst_76 : Ref sig .tc := ⟨.hbm, 318, rfl⟩
abbrev main_v213 : Ref sig .tc := ⟨.hbm, 319, rfl⟩
abbrev main_v214 : Ref sig .tc := ⟨.hbm, 320, rfl⟩
abbrev main_cst_77 : Ref sig .tc := ⟨.hbm, 321, rfl⟩
abbrev main_v215 : Ref sig .tc := ⟨.hbm, 322, rfl⟩
abbrev main_v216 : Ref sig .tc := ⟨.hbm, 323, rfl⟩
abbrev main_v217 : Ref sig .tc := ⟨.hbm, 324, rfl⟩
abbrev main_cst_78 : Ref sig .tc := ⟨.hbm, 325, rfl⟩
abbrev main_v218 : Ref sig .tc := ⟨.hbm, 326, rfl⟩
abbrev main_v219 : Ref sig .tc := ⟨.hbm, 327, rfl⟩
abbrev main_v220 : Ref sig .tc := ⟨.hbm, 328, rfl⟩
abbrev main_cst_79 : Ref sig .tc := ⟨.hbm, 329, rfl⟩
abbrev main_v221 : Ref sig .tc := ⟨.hbm, 330, rfl⟩
abbrev main_v222 : Ref sig .tc := ⟨.hbm, 331, rfl⟩
abbrev main_v223 : Ref sig .tc := ⟨.hbm, 332, rfl⟩
abbrev main_cst_80 : Ref sig .tc := ⟨.hbm, 333, rfl⟩
abbrev main_v224 : Ref sig .tc := ⟨.hbm, 334, rfl⟩
abbrev main_v225 : Ref sig .tc := ⟨.hbm, 335, rfl⟩
abbrev main_v226 : Ref sig .tc := ⟨.hbm, 336, rfl⟩

abbrev nD : Nat := 1
abbrev τ : Topo := Topo.v7x

variable {F : FTy → Type} [FloatOps F]
-- ==== Proof.Spec.lean ====
/-
  The gradient of one chunk of the gated delta recurrence, as plain formulas over extended reals.

  One chunk of the recurrence takes, per head, a state `s` (128 by 128), rows `u`, `w`, `q`, `k` (64 by 128), the
  64 by 64 matrix `a` of the products inside the chunk and one decay `e` per lane, and forms

    n = u - w s,      o = q s + a n,      s' = s * e + kᵀ n.

  Given the cotangents `g` of `s'` and `d` of `o`, the functions below are the cotangents of the seven operands.
-/
module

public import Mathlib.Data.EReal.Operations
public import Mathlib.Algebra.BigOperators.Fin

@[expose] public section

noncomputable section

namespace Cert.Delta

/-- An array of three axes of the given extents. -/
abbrev T3 (a b c : ℕ) : Type := Fin a → Fin b → Fin c → EReal

/-- The rows the chunk writes into the state: `n = u - w s`. -/
def fresh (s : T3 4 128 128) (u w : T3 4 64 128) : T3 4 64 128 := fun h c v => u h c v - ∑ k, w h c k * s h k v

/-- What the chunk puts out: `o = q s + a n`. -/
def out (s : T3 4 128 128) (q n : T3 4 64 128) (a : T3 4 64 64) : T3 4 64 128 :=
  fun h c v => (∑ k, q h c k * s h k v) + ∑ r, a h c r * n h r v

/-- The state the chunk leaves: `s' = s * e + kᵀ n`. -/
def next (s : T3 4 128 128) (k n : T3 4 64 128) (e : T3 4 1 128) : T3 4 128 128 :=
  fun h i v => s h i v * e h 0 v + ∑ c, k h c i * n h c v

/-- The cotangent of `n`, which is also that of `u`: `k g + aᵀ d`. -/
def dFresh (g : T3 4 128 128) (k d : T3 4 64 128) (a : T3 4 64 64) : T3 4 64 128 :=
  fun h c v => (∑ i, g h i v * k h c i) + ∑ r, d h r v * a h r c

/-- The cotangent of `w`, from that of `n`: `-dn sᵀ`. -/
def dW (s : T3 4 128 128) (dn : T3 4 64 128) : T3 4 64 128 := fun h c k => ∑ v, -(dn h c v) * s h k v

/-- The cotangent of `q`: `d sᵀ`. -/
def dQ (s : T3 4 128 128) (d : T3 4 64 128) : T3 4 64 128 := fun h c k => ∑ v, d h c v * s h k v

/-- The cotangent of `k`: `n gᵀ`. -/
def dK (g : T3 4 128 128) (n : T3 4 64 128) : T3 4 64 128 := fun h c k => ∑ v, g h k v * n h c v

/-- The cotangent of `a`: `d nᵀ`. -/
def dA (d n : T3 4 64 128) : T3 4 64 64 := fun h c r => ∑ v, d h c v * n h r v

/-- The cotangent of the decay `e`, lane by lane: the rows of `s * g` added. -/
def dE (s g : T3 4 128 128) : T3 4 1 128 := fun h _ v => ∑ k, s h k v * g h k v

/-- The cotangent of the state `s`: `g * e + qᵀ d - wᵀ dn`. -/
def dS (g : T3 4 128 128) (w q d dn : T3 4 64 128) (e : T3 4 1 128) : T3 4 128 128 :=
  fun h i v => (g h i v * e h 0 v + ∑ c, d h c v * q h c i) + ∑ c, -(dn h c v) * w h c i

/-- The operands of the sixty-four chunks of a sequence, with the state each chunk found on the way forward. -/
structure Chunks where
  u : Fin 64 → T3 4 64 128
  w : Fin 64 → T3 4 64 128
  q : Fin 64 → T3 4 64 128
  k : Fin 64 → T3 4 64 128
  a : Fin 64 → T3 4 64 64
  e : Fin 64 → T3 4 1 128
  s : Fin 64 → T3 4 128 128
  d : Fin 64 → T3 4 64 128

namespace Chunks

variable (C : Chunks)

/-- One chunk taken backward: from the cotangent of the state it left to that of the state it found. -/
def back (j : Fin 64) (g : T3 4 128 128) : T3 4 128 128 :=
  dS g (C.w j) (C.q j) (C.d j) (dFresh g (C.k j) (C.d j) (C.a j)) (C.e j)

/-- The cotangent of the state when the last `n` chunks have been taken backward: the last state's is zero. -/
def carry : ℕ → T3 4 128 128
  | 0 => fun _ _ _ => 0
  | n + 1 => C.back ⟨63 - n, by omega⟩ (carry n)

/-- The cotangent of the state chunk `j` leaves. -/
def cot (j : Fin 64) : T3 4 128 128 := C.carry (63 - j.val)

/-- The rows chunk `j` writes into the state. -/
def n (j : Fin 64) : T3 4 64 128 := fresh (C.s j) (C.u j) (C.w j)

/-- The gradient of `u`, chunk by chunk. -/
def du (j : Fin 64) : T3 4 64 128 := dFresh (C.cot j) (C.k j) (C.d j) (C.a j)

/-- The gradient of `w`. -/
def dw (j : Fin 64) : T3 4 64 128 := dW (C.s j) (C.du j)

/-- The gradient of `q`. -/
def dq (j : Fin 64) : T3 4 64 128 := dQ (C.s j) (C.d j)

/-- The gradient of `k`. -/
def dk (j : Fin 64) : T3 4 64 128 := dK (C.cot j) (C.n j)

/-- The gradient of `a`. -/
def da (j : Fin 64) : T3 4 64 64 := dA (C.d j) (C.n j)

/-- The gradient of the decay, lane by lane. -/
def de (j : Fin 64) : T3 4 1 128 := dE (C.s j) (C.cot j)

end Chunks

end Cert.Delta

end
-- ==== Proof.Layout.lean ====
/-
  How the arrays hold the chunks: 4096 rows are 64 chunks of 64 rows, and 512 lanes are 4 heads of 128 lanes.
-/
module

public import proofs.«01_k».proof.Proof.Spec
public import Idealize.ShloMosaic.Lib.Pointwise

@[expose] public section

noncomputable section

namespace Cert.Delta

open Idealize.ShloMosaic

/-- A float array of shape `S` over extended reals. -/
abbrev Arr (S : Shape) : Type := FVec Ideal S .f32

/-- An array of three axes as a function of its three coordinates. -/
def at3 {a b c : ℕ} (x : FVec Ideal (⟨3, ![a, b, c]⟩ : Shape) .f32) : T3 a b c := fun i j k => x (ix3 i j k)

/-- Chunk `j` of an array with the heads side by side. -/
def rows (x : Arr ⟨2, ![4096, 512]⟩) (j : Fin 64) : T3 4 64 128 := fun h c v =>
  x (ix2 ⟨64 * j.val + c.val, by omega⟩ ⟨128 * h.val + v.val, by omega⟩)

/-- Chunk `j` of the squares. -/
def squares (x : Arr ⟨3, ![4, 4096, 64]⟩) (j : Fin 64) : T3 4 64 64 := fun h c r =>
  x (ix3 h ⟨64 * j.val + c.val, by omega⟩ r)

/-- Chunk `j` of the decays. -/
def decays (x : Arr ⟨4, ![4, 64, 1, 128]⟩) (j : Fin 64) : T3 4 1 128 := fun h z v => x (ix4 h j z v)

/-- Chunk `j` of the states. -/
def states (x : Arr ⟨4, ![4, 64, 128, 128]⟩) (j : Fin 64) : T3 4 128 128 := fun h k v => x (ix4 h j k v)

/-- The chunks of eight arrays. -/
def chunks (u w q k : Arr ⟨2, ![4096, 512]⟩) (a : Arr ⟨3, ![4, 4096, 64]⟩) (e : Arr ⟨4, ![4, 64, 1, 128]⟩)
    (s : Arr ⟨4, ![4, 64, 128, 128]⟩) (d : Arr ⟨2, ![4096, 512]⟩) : Chunks where
  u := rows u
  w := rows w
  q := rows q
  k := rows k
  a := squares a
  e := decays e
  s := states s
  d := rows d

/-- The array whose chunks are `f`, the heads side by side. -/
def unrows (f : Fin 64 → T3 4 64 128) : Arr ⟨2, ![4096, 512]⟩ := fun y =>
  f ⟨(y 0).val / 64, by have : (y 0).val < 4096 := (y 0).isLt; omega⟩
    ⟨(y 1).val / 128, by have : (y 1).val < 512 := (y 1).isLt; omega⟩
    ⟨(y 0).val % 64, by omega⟩ ⟨(y 1).val % 128, by omega⟩

/-- The array whose squares are `f`. -/
def unsquares (f : Fin 64 → T3 4 64 64) : Arr ⟨3, ![4, 4096, 64]⟩ := fun y =>
  f ⟨(y 1).val / 64, by have : (y 1).val < 4096 := (y 1).isLt; omega⟩ (y 0) ⟨(y 1).val % 64, by omega⟩ (y 2)

/-- The array whose decays are `f`. -/
def undecays (f : Fin 64 → T3 4 1 128) : Arr ⟨4, ![4, 64, 1, 128]⟩ := fun y => f (y 1) (y 0) (y 2) (y 3)

end Cert.Delta

end
-- ==== Proof.Chunk.lean ====
/-
  One chunk of the kernel's body. The definitions name the body's values, one per quantity of `Proof/Spec.lean`, over
  whatever arithmetic; the theorems read each of them over extended reals, where rounding changes nothing and a matrix
  product is a sum, as the formula of that file.
-/
module

public import proofs.«01_k».proof.Proof.Layout
public import proofs.«01_k».proof.Proof.Gen.KernelIdeal.Value
public import Idealize.ShloMosaic.Lib.Pointwise
public import Idealize.ShloMosaic.Lib.ValueIdx

@[expose] public section

set_option maxRecDepth 16384

noncomputable section

open Idealize.ShloMosaic Idealize.SL.Sem

namespace Cert.KernelIdeal.Chunk

open Cert.Delta Cert.KernelIdeal.Gen

variable {F : FTy → Type} [FloatOps F]

/-- Four heads' rows, one over another. -/
def heads (x0 x1 x2 x3 : Vec F S64x128 .f32) : FVec F S4x64x128 .f32 :=
  concatenate S4x64x128 0 [⟨S1x64x128, shapeCast S1x64x128 x0 shapeCasts_S64x128_S1x64x128⟩,
    ⟨S1x64x128, shapeCast S1x64x128 x1 shapeCasts_S64x128_S1x64x128⟩,
    ⟨S1x64x128, shapeCast S1x64x128 x2 shapeCasts_S64x128_S1x64x128⟩,
    ⟨S1x64x128, shapeCast S1x64x128 x3 shapeCasts_S64x128_S1x64x128⟩]
    concatenates_S1x64x128_S1x64x128_S1x64x128_S1x64x128_S4x64x128_d0

/-- A value rounded to bf16 and back. -/
def round {S : Shape} (x : FVec F S .f32) : FVec F S .f32 := extf .f32 (truncf .bf16 x bitsLt_bf16_f32) bitsLt_bf16_f32

/-- A value rounded to bf16. -/
def half {S : Shape} (x : FVec F S .f32) : FVec F S .bf16 := truncf .bf16 x bitsLt_bf16_f32

/-- The carried cotangent as the body loads and stores it. -/
def whole (g : FVec F S4x128x128 .f32) : FVec F S4x128x128 .f32 := shapeCast S4x128x128 g shapeCasts_S4x128x128_S4x128x128

/-- The body's `n`. -/
def kFresh (s : FVec F S4x128x128 .f32) (u w : FVec F S4x64x128 .f32) : FVec F S4x64x128 .f32 :=
  subf u (matmul dot_S4x64x128_S4x128x128_S4x64x128_2_1_1_2_0_0 none (half w) (half s)
    (constant S4x64x128 .f32 0x00000000#32))

/-- The body's cotangent of `n`. -/
def kDFresh (g : FVec F S4x128x128 .f32) (k d : FVec F S4x64x128 .f32) (a : FVec F S4x64x64 .f32) :
    FVec F S4x64x128 .f32 :=
  addf (round (transpose S4x64x128 [0, 2, 1] (matmul dot_S4x128x128_S4x64x128_S4x128x64_1_2_2_1_0_0 none
      g (half k) (constant S4x128x64 .f32 0x00000000#32)) transposes_S4x128x64_p0_2_1_S4x64x128))
    (round (transpose S4x64x128 [0, 2, 1] (matmul dot_S4x64x128_S4x64x64_S4x128x64_1_1_2_2_0_0 none
      d (half a) (constant S4x128x64 .f32 0x00000000#32)) transposes_S4x128x64_p0_2_1_S4x64x128))

/-- The body's negation. -/
def kNeg (x : FVec F S4x64x128 .f32) : FVec F S4x64x128 .f32 :=
  subf (broadcast S4x64x128 (Scalar.ofBits .f32 0x00000000#32)) x

/-- The body's cotangent of `w`, from that of `n`. -/
def kDW (s : FVec F S4x128x128 .f32) (dn : FVec F S4x64x128 .f32) : FVec F S4x64x128 .f32 :=
  round (matmul dot_S4x64x128_S4x128x128_S4x64x128_2_2_1_1_0_0 none (kNeg dn) (half s)
    (constant S4x64x128 .f32 0x00000000#32))

/-- The body's cotangent of `q`. -/
def kDQ (s : FVec F S4x128x128 .f32) (d : FVec F S4x64x128 .f32) : FVec F S4x64x128 .f32 :=
  round (matmul dot_S4x64x128_S4x128x128_S4x64x128_2_2_1_1_0_0 none d (half s) (constant S4x64x128 .f32 0x00000000#32))

/-- The body's cotangent of `k`. -/
def kDK (g : FVec F S4x128x128 .f32) (n : FVec F S4x64x128 .f32) : FVec F S4x64x128 .f32 :=
  round (transpose S4x64x128 [0, 2, 1] (matmul dot_S4x128x128_S4x64x128_S4x128x64_2_2_1_1_0_0 none
    g (half n) (constant S4x128x64 .f32 0x00000000#32)) transposes_S4x128x64_p0_2_1_S4x64x128)

/-- The body's cotangent of `a`. -/
def kDA (d n : FVec F S4x64x128 .f32) : FVec F S4x64x64 .f32 :=
  round (matmul dot_S4x64x128_S4x64x128_S4x64x64_2_2_1_1_0_0 none d (half n) (constant S4x64x64 .f32 0x00000000#32))

/-- The body's cotangent of the decay. -/
def kDE (s g : FVec F S4x128x128 .f32) : FVec F S4x1x128 .f32 :=
  shapeCast S4x1x128 (multiReduction .add [1] S4x128 (mulf s g) 0x00000000#32 reduces_S4x128x128_S4x128
    (.inl rfl) rfl) shapeCasts_S4x128_S4x1x128

/-- The body's cotangent of the state. -/
def kDS (g : FVec F S4x128x128 .f32) (w q d dn : FVec F S4x64x128 .f32) (e : FVec F S4x1x128 .f32) :
    FVec F S4x128x128 .f32 :=
  addf (addf (mulf g (broadcastTo S4x128x128 e broadcasts_S4x1x128_S4x128x128))
      (round (transpose S4x128x128 [0, 2, 1] (matmul dot_S4x64x128_S4x64x128_S4x128x128_1_1_2_2_0_0 none d (half q)
        (constant S4x128x128 .f32 0x00000000#32)) transposes_S4x128x128_p0_2_1_S4x128x128)))
    (round (transpose S4x128x128 [0, 2, 1] (matmul dot_S4x64x128_S4x64x128_S4x128x128_1_1_2_2_0_0 none (kNeg dn) (half w)
      (constant S4x128x128 .f32 0x00000000#32)) transposes_S4x128x128_p0_2_1_S4x128x128))

/-- `kFresh` over extended reals is `fresh`. -/
theorem at3_kFresh (s : FVec Ideal S4x128x128 .f32) (u w : FVec Ideal S4x64x128 .f32) :
    at3 (kFresh s u w) = fresh (at3 s) (at3 u) (at3 w) := by
  funext i j l
  pointwise [at3, kFresh, fresh, half, round, kNeg]

/-- `kDFresh` over extended reals is `dFresh`. -/
theorem at3_kDFresh (g : FVec Ideal S4x128x128 .f32) (k d : FVec Ideal S4x64x128 .f32) (a : FVec Ideal S4x64x64 .f32) :
    at3 (kDFresh g k d a) = dFresh (at3 g) (at3 k) (at3 d) (at3 a) := by
  funext i j l
  pointwise [at3, kDFresh, dFresh, half, round, kNeg]

/-- `kDW` over extended reals is `dW`. -/
theorem at3_kDW (s : FVec Ideal S4x128x128 .f32) (n : FVec Ideal S4x64x128 .f32) :
    at3 (kDW s n) = dW (at3 s) (at3 n) := by
  funext i j l
  pointwise [at3, kDW, dW, half, round, kNeg]
  simp only [zero_sub]

/-- `kDQ` over extended reals is `dQ`. -/
theorem at3_kDQ (s : FVec Ideal S4x128x128 .f32) (n : FVec Ideal S4x64x128 .f32) :
    at3 (kDQ s n) = dQ (at3 s) (at3 n) := by
  funext i j l
  pointwise [at3, kDQ, dQ, half, round, kNeg]

/-- `kDK` over extended reals is `dK`. -/
theorem at3_kDK (s : FVec Ideal S4x128x128 .f32) (n : FVec Ideal S4x64x128 .f32) :
    at3 (kDK s n) = dK (at3 s) (at3 n) := by
  funext i j l
  pointwise [at3, kDK, dK, half, round, kNeg]

/-- `kDA` over extended reals is `dA`. -/
theorem at3_kDA (d n : FVec Ideal S4x64x128 .f32) :
    at3 (kDA d n) = dA (at3 d) (at3 n) := by
  funext i j l
  pointwise [at3, kDA, dA, half, round, kNeg]

/-- `kDE` over extended reals is `dE`. -/
theorem at3_kDE (s g : FVec Ideal S4x128x128 .f32) :
    at3 (kDE s g) = dE (at3 s) (at3 g) := by
  funext i j l
  pointwise [at3, kDE, dE, half, round, kNeg]

/-- `kDS` over extended reals is `dS`. -/
theorem at3_kDS (g : FVec Ideal S4x128x128 .f32) (w q d n : FVec Ideal S4x64x128 .f32) (e : FVec Ideal S4x1x128 .f32) :
    at3 (kDS g w q d n e) = dS (at3 g) (at3 w) (at3 q) (at3 d) (at3 n) (at3 e) := by
  funext i j l
  pointwise [at3, kDS, dS, half, round, kNeg]
  simp only [zero_sub]

/-- The heads' rows at an index. -/
theorem heads_apply (x0 x1 x2 x3 : Vec F S64x128 .f32) (h : Fin 4) (c : Fin 64) (v : Fin 128) :
    heads x0 x1 x2 x3 (ix3 h c v) = (match h with | 0 => x0 | 1 => x1 | 2 => x2 | 3 => x3) (ix2 c v) := by
  fin_cases h <;> pointwise [heads]

end Cert.KernelIdeal.Chunk

end
-- ==== Proof.Run.lean ====
module

public import proofs.«01_k».proof.Proof.Chunk
public import proofs.«01_k».proof.Proof.Gen.KernelIdeal.Frame.RunB

/-! What one run of the body leaves, in terms of the chunk's operations: sixteen chunks, the last first, each
handing the cotangent of its state to the next. -/

@[expose] public section

set_option maxRecDepth 16384

noncomputable section

namespace Cert.KernelIdeal.Chunk

open Idealize.ShloMosaic Idealize.ShloMosaic.TcCoe Idealize.ShloMosaic.Tactic Idealize.SL.Sem
open Cert.KernelIdeal.Gen

variable {F : FTy → Type} [FloatOps F]

/-- The rows of chunk `i`, one head. -/
def rowRect (i : Fin 16) (h : Fin 4) : Rect S1024x512 :=
  Rect.unit ![64 * i.val, 128 * h.val] S64x128.size (fun a => by
    have hi := i.isLt; have hh := h.isLt
    match a with
    | 0 => show 64 * i.val + 64 ≤ 1024; omega
    | 1 => show 128 * h.val + 128 ≤ 512; omega)

/-- The rows of chunk `i` of an array with the heads side by side, split into heads. -/
def kRows (b : Memref sig .tc .vmem S1024x512 .f32) (hb : b.IsWhole) (x : Vec F S1024x512 .f32) (i : Fin 16) :
    FVec F S4x64x128 .f32 :=
  heads (View.readAt (Elt F) b.view (rowRect i 0).toLoadRect (hb.unread x))
    (View.readAt (Elt F) b.view (rowRect i 1).toLoadRect (hb.unread x))
    (View.readAt (Elt F) b.view (rowRect i 2).toLoadRect (hb.unread x))
    (View.readAt (Elt F) b.view (rowRect i 3).toLoadRect (hb.unread x))

/-- Chunk `i`'s square within the chunk. -/
def qkRect (i : Fin 16) : Rect S4x1024x64 :=
  Rect.unit ![0, 64 * i.val, 0] S4x64x64.size (fun a => by
    have hi := i.isLt
    match a with
    | 0 => show 0 + 4 ≤ 4; omega
    | 1 => show 64 * i.val + 64 ≤ 1024; omega
    | 2 => show 0 + 64 ≤ 64; omega)

/-- Chunk `i`'s decay. -/
def decayRect (i : Fin 16) : Rect S4x16x1x128 :=
  Rect.unit ![0, i.val, 0, 0] S4x1x1x128.size (fun a => by
    have hi := i.isLt
    match a with
    | 0 => show 0 + 4 ≤ 4; omega
    | 1 => show i.val + 1 ≤ 16; omega
    | 2 => show 0 + 1 ≤ 1; omega
    | 3 => show 0 + 128 ≤ 128; omega)

/-- Chunk `i`'s state. -/
def stateRect (i : Fin 16) : Rect S4x16x128x128 :=
  Rect.unit ![0, i.val, 0, 0] S4x1x128x128.size (fun a => by
    have hi := i.isLt
    match a with
    | 0 => show 0 + 4 ≤ 4; omega
    | 1 => show i.val + 1 ≤ 16; omega
    | 2 => show 0 + 128 ≤ 128; omega
    | 3 => show 0 + 128 ≤ 128; omega)

/-- Chunk `i`'s square. -/
def kQk (b : Memref sig .tc .vmem S4x1024x64 .f32) (hb : b.IsWhole) (x : Vec F S4x1024x64 .f32) (i : Fin 16) :
    FVec F S4x64x64 .f32 :=
  View.readAt (Elt F) b.view (qkRect i).toLoadRect (hb.unread x)

/-- Chunk `i`'s decay. -/
def kDecay (b : Memref sig .tc .vmem S4x16x1x128 .f32) (hb : b.IsWhole) (x : Vec F S4x16x1x128 .f32) (i : Fin 16) :
    FVec F S4x1x128 .f32 :=
  shapeCast S4x1x128 (View.readAt (Elt F) b.view (decayRect i).toLoadRect (hb.unread x))
    shapeCasts_S4x1x1x128_S4x1x128

/-- Chunk `i`'s state. -/
def kState (b : Memref sig .tc .vmem S4x16x128x128 .f32) (hb : b.IsWhole) (x : Vec F S4x16x128x128 .f32)
    (i : Fin 16) : FVec F S4x128x128 .f32 :=
  shapeCast S4x128x128 (View.readAt (Elt F) b.view (stateRect i).toLoadRect (hb.unread x))
    shapeCasts_S4x1x128x128_S4x128x128

/-- Head `h` of a chunk's rows. -/
def headSlice (V : FVec F S4x64x128 .f32) : Fin 4 → FVec F S64x128 .f32
  | 0 => shapeCast S64x128 (extractStridedSlice S1x64x128 ![0, 0, 0] V
      slices_S4x64x128_o0_0_0_S1x64x128) shapeCasts_S1x64x128_S64x128
  | 1 => shapeCast S64x128 (extractStridedSlice S1x64x128 ![1, 0, 0] V
      slices_S4x64x128_o1_0_0_S1x64x128) shapeCasts_S1x64x128_S64x128
  | 2 => shapeCast S64x128 (extractStridedSlice S1x64x128 ![2, 0, 0] V
      slices_S4x64x128_o2_0_0_S1x64x128) shapeCasts_S1x64x128_S64x128
  | 3 => shapeCast S64x128 (extractStridedSlice S1x64x128 ![3, 0, 0] V
      slices_S4x64x128_o3_0_0_S1x64x128) shapeCasts_S1x64x128_S64x128

/-- The stores of sixteen chunks' rows, the last store first. -/
def wide (f : Fin 16 → FVec F S4x64x128 .f32) : List (View.Piece (Elt F) S1024x512 .f32) :=
  (List.finRange 16).flatMap fun i =>
    [⟨rowRect i 3, headSlice (f i) 3⟩, ⟨rowRect i 2, headSlice (f i) 2⟩, ⟨rowRect i 1, headSlice (f i) 1⟩,
      ⟨rowRect i 0, headSlice (f i) 0⟩]

/-- The stores of sixteen chunks' squares. -/
def wideQk (f : Fin 16 → FVec F S4x64x64 .f32) : List (View.Piece (Elt F) S4x1024x64 .f32) :=
  (List.finRange 16).map fun i => ⟨qkRect i, f i⟩

/-- The stores of sixteen chunks' decays. -/
def wideDecay (f : Fin 16 → FVec F S4x1x128 .f32) : List (View.Piece (Elt F) S4x16x1x128 .f32) :=
  (List.finRange 16).map fun i =>
    ⟨decayRect i, shapeCast S4x1x1x128 (f i) shapeCasts_S4x1x128_S4x1x1x128⟩

section
variable (arg1 : Memref sig .tc .vmem S1024x512 .f32) (harg1 : arg1.IsWhole)
  (arg2 : Memref sig .tc .vmem S1024x512 .f32) (harg2 : arg2.IsWhole)
  (arg3 : Memref sig .tc .vmem S1024x512 .f32) (harg3 : arg3.IsWhole)
  (arg4 : Memref sig .tc .vmem S1024x512 .f32) (harg4 : arg4.IsWhole)
  (arg5 : Memref sig .tc .vmem S4x1024x64 .f32) (harg5 : arg5.IsWhole)
  (arg6 : Memref sig .tc .vmem S4x16x1x128 .f32) (harg6 : arg6.IsWhole)
  (arg7 : Memref sig .tc .vmem S4x16x128x128 .f32) (harg7 : arg7.IsWhole)
  (arg8 : Memref sig .tc .vmem S1024x512 .f32) (harg8 : arg8.IsWhole)
  (x0 x1 x2 x3 : Vec F S1024x512 .f32) (x4 : Vec F S4x1024x64 .f32) (x5 : Vec F S4x16x1x128 .f32)
  (x6 : Vec F S4x16x128x128 .f32) (x7 : Vec F S1024x512 .f32)
  (g : FVec F S4x128x128 .f32)

/-- The carried cotangent when `n` of the sixteen chunks are done. -/
def kCarry : (n : ℕ) → n ≤ 16 → FVec F S4x128x128 .f32
  | 0, _ => g
  | n + 1, hn =>
    have G := kCarry n (by omega)
    kDS G (kRows arg2 harg2 x1 ⟨15 - n, by omega⟩) (kRows arg3 harg3 x2 ⟨15 - n, by omega⟩)
      (kRows arg8 harg8 x7 ⟨15 - n, by omega⟩)
      (kDFresh G (kRows arg4 harg4 x3 ⟨15 - n, by omega⟩) (kRows arg8 harg8 x7 ⟨15 - n, by omega⟩)
        (kQk arg5 harg5 x4 ⟨15 - n, by omega⟩))
      (kDecay arg6 harg6 x5 ⟨15 - n, by omega⟩)

/-- The cotangent chunk `i` finds. -/
def kAt (i : Fin 16) : FVec F S4x128x128 .f32 :=
  kCarry arg2 harg2 arg3 harg3 arg4 harg4 arg5 harg5 arg6 harg6 arg8 harg8 x1 x2 x3 x4 x5 x7 g (15 - i.val) (by omega)

/-- Chunk `i`'s cotangent of `n`. -/
def kU (i : Fin 16) : FVec F S4x64x128 .f32 :=
  kDFresh (kAt arg2 harg2 arg3 harg3 arg4 harg4 arg5 harg5 arg6 harg6 arg8 harg8 x1 x2 x3 x4 x5 x7 g i)
    (kRows arg4 harg4 x3 i) (kRows arg8 harg8 x7 i) (kQk arg5 harg5 x4 i)

/-- Chunk `i`'s `n`. -/
def kN (i : Fin 16) : FVec F S4x64x128 .f32 :=
  kFresh (kState arg7 harg7 x6 i) (kRows arg1 harg1 x0 i) (kRows arg2 harg2 x1 i)

end

section
variable (c : Dev nD) (i : grid0.Coords)
  (arg1 : Memref sig .tc .vmem S1024x512 .f32) (harg1 : arg1.IsWhole)
  (arg2 : Memref sig .tc .vmem S1024x512 .f32) (harg2 : arg2.IsWhole)
  (arg3 : Memref sig .tc .vmem S1024x512 .f32) (harg3 : arg3.IsWhole)
  (arg4 : Memref sig .tc .vmem S1024x512 .f32) (harg4 : arg4.IsWhole)
  (arg5 : Memref sig .tc .vmem S4x1024x64 .f32) (harg5 : arg5.IsWhole)
  (arg6 : Memref sig .tc .vmem S4x16x1x128 .f32) (harg6 : arg6.IsWhole)
  (arg7 : Memref sig .tc .vmem S4x16x128x128 .f32) (harg7 : arg7.IsWhole)
  (arg8 : Memref sig .tc .vmem S1024x512 .f32) (harg8 : arg8.IsWhole)
  (arg9 : Memref sig .tc .vmem S1024x512 .f32) (harg9 : arg9.IsWhole)
  (arg10 : Memref sig .tc .vmem S1024x512 .f32) (harg10 : arg10.IsWhole)
  (arg11 : Memref sig .tc .vmem S1024x512 .f32) (harg11 : arg11.IsWhole)
  (arg12 : Memref sig .tc .vmem S1024x512 .f32) (harg12 : arg12.IsWhole)
  (arg13 : Memref sig .tc .vmem S4x1024x64 .f32) (harg13 : arg13.IsWhole)
  (arg14 : Memref sig .tc .vmem S4x16x1x128 .f32) (harg14 : arg14.IsWhole)
  (arg15 : Memref sig .tc .vmem S4x128x128 .f32) (harg15 : arg15.IsWhole)
  (x0 x1 x2 x3 : Vec F S1024x512 .f32) (x4 : Vec F S4x1024x64 .f32) (x5 : Vec F S4x16x1x128 .f32)
  (x6 : Vec F S4x16x128x128 .f32) (x7 : Vec F S1024x512 .f32)

/-- The rectangle of the whole carried block. -/
def carryRect : Rect S4x128x128 :=
  Rect.unit ![0, 0, 0] S4x128x128.size (by decide)

/-- The carried cotangent at the first point: the zeros just stored. -/
def startA (b : Memref sig .tc .vmem S4x128x128 .f32) : FVec F S4x128x128 .f32 :=
  whole (View.readCov (Val := Elt F) b.view [⟨carryRect, k0_pay4⟩] carryRect.toLoadRect)

/-- The carried cotangent at a later point: what the point before left. -/
def startB (b : Memref sig .tc .vmem S4x128x128 .f32) (hb : b.IsWhole) (x : Vec F S4x128x128 .f32) :
    FVec F S4x128x128 .f32 :=
  whole (View.readAt (Elt F) b.view carryRect.toLoadRect (hb.unread x))

/-- Output 8 in case A. -/
theorem runA_8 (hc0 : cond0_0 i) :
    (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7).1 =
      wide fun j => kU arg2 harg2 arg3 harg3 arg4 harg4 arg5 harg5 arg6 harg6 arg8 harg8 x1 x2 x3 x4 x5 x7 (startA arg15) j := by
  sl_kernel_rfl

/-- Output 9 in case A. -/
theorem runA_9 (hc0 : cond0_0 i) :
    (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7).2.1 =
      wide fun j => kDW (kState arg7 harg7 x6 j) (kU arg2 harg2 arg3 harg3 arg4 harg4 arg5 harg5 arg6 harg6 arg8 harg8 x1 x2 x3 x4 x5 x7 (startA arg15) j) := by
  sl_kernel_rfl

/-- Output 10 in case A. -/
theorem runA_10 (hc0 : cond0_0 i) :
    (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7).2.2.1 =
      wide fun j => kDQ (kState arg7 harg7 x6 j) (kRows arg8 harg8 x7 j) := by
  sl_kernel_rfl

/-- Output 11 in case A. -/
theorem runA_11 (hc0 : cond0_0 i) :
    (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7).2.2.2.1 =
      wide fun j => kDK (kAt arg2 harg2 arg3 harg3 arg4 harg4 arg5 harg5 arg6 harg6 arg8 harg8 x1 x2 x3 x4 x5 x7 (startA arg15) j) (kN arg1 harg1 arg2 harg2 arg7 harg7 x0 x1 x6 j) := by
  sl_kernel_rfl

/-- Output 12 in case A. -/
theorem runA_12 (hc0 : cond0_0 i) :
    (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7).2.2.2.2.1 =
      wideQk fun j => kDA (kRows arg8 harg8 x7 j) (kN arg1 harg1 arg2 harg2 arg7 harg7 x0 x1 x6 j) := by
  sl_kernel_rfl

/-- Output 13 in case A. -/
theorem runA_13 (hc0 : cond0_0 i) :
    (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7).2.2.2.2.2.1 =
      wideDecay fun j => kDE (kState arg7 harg7 x6 j) (kAt arg2 harg2 arg3 harg3 arg4 harg4 arg5 harg5 arg6 harg6 arg8 harg8 x1 x2 x3 x4 x5 x7 (startA arg15) j) := by
  sl_kernel_rfl

/-- Output s in case A. -/
theorem runA_s (hc0 : cond0_0 i) :
    (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7).2.2.2.2.2.2.1 =
      [⟨carryRect, whole (kCarry arg2 harg2 arg3 harg3 arg4 harg4 arg5 harg5 arg6 harg6 arg8 harg8 x1 x2 x3 x4 x5 x7 (startA arg15) 16 le_rfl)⟩] ++ [⟨carryRect, k0_pay4⟩] := by
  sl_kernel_rfl

/-- Output 8 in case B. -/
theorem runB_8 (hc0 : ¬cond0_0 i) (xs0 : Vec F S4x128x128 .f32) :
    (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 xs0).1 =
      wide fun j => kU arg2 harg2 arg3 harg3 arg4 harg4 arg5 harg5 arg6 harg6 arg8 harg8 x1 x2 x3 x4 x5 x7 (startB arg15 harg15 xs0) j := by
  sl_kernel_rfl

/-- Output 9 in case B. -/
theorem runB_9 (hc0 : ¬cond0_0 i) (xs0 : Vec F S4x128x128 .f32) :
    (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 xs0).2.1 =
      wide fun j => kDW (kState arg7 harg7 x6 j) (kU arg2 harg2 arg3 harg3 arg4 harg4 arg5 harg5 arg6 harg6 arg8 harg8 x1 x2 x3 x4 x5 x7 (startB arg15 harg15 xs0) j) := by
  sl_kernel_rfl

/-- Output 10 in case B. -/
theorem runB_10 (hc0 : ¬cond0_0 i) (xs0 : Vec F S4x128x128 .f32) :
    (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 xs0).2.2.1 =
      wide fun j => kDQ (kState arg7 harg7 x6 j) (kRows arg8 harg8 x7 j) := by
  sl_kernel_rfl

/-- Output 11 in case B. -/
theorem runB_11 (hc0 : ¬cond0_0 i) (xs0 : Vec F S4x128x128 .f32) :
    (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 xs0).2.2.2.1 =
      wide fun j => kDK (kAt arg2 harg2 arg3 harg3 arg4 harg4 arg5 harg5 arg6 harg6 arg8 harg8 x1 x2 x3 x4 x5 x7 (startB arg15 harg15 xs0) j) (kN arg1 harg1 arg2 harg2 arg7 harg7 x0 x1 x6 j) := by
  sl_kernel_rfl

/-- Output 12 in case B. -/
theorem runB_12 (hc0 : ¬cond0_0 i) (xs0 : Vec F S4x128x128 .f32) :
    (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 xs0).2.2.2.2.1 =
      wideQk fun j => kDA (kRows arg8 harg8 x7 j) (kN arg1 harg1 arg2 harg2 arg7 harg7 x0 x1 x6 j) := by
  sl_kernel_rfl

/-- Output 13 in case B. -/
theorem runB_13 (hc0 : ¬cond0_0 i) (xs0 : Vec F S4x128x128 .f32) :
    (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 xs0).2.2.2.2.2.1 =
      wideDecay fun j => kDE (kState arg7 harg7 x6 j) (kAt arg2 harg2 arg3 harg3 arg4 harg4 arg5 harg5 arg6 harg6 arg8 harg8 x1 x2 x3 x4 x5 x7 (startB arg15 harg15 xs0) j) := by
  sl_kernel_rfl

/-- Output s in case B. -/
theorem runB_s (hc0 : ¬cond0_0 i) (xs0 : Vec F S4x128x128 .f32) :
    (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 xs0).2.2.2.2.2.2.1 =
      [⟨carryRect, whole (kCarry arg2 harg2 arg3 harg3 arg4 harg4 arg5 harg5 arg6 harg6 arg8 harg8 x1 x2 x3 x4 x5 x7 (startB arg15 harg15 xs0) 16 le_rfl)⟩] := by
  sl_kernel_rfl

end

end Cert.KernelIdeal.Chunk

end
-- ==== Proof.Body.lean ====
/-
  What one run of the body leaves, over extended reals: the sixteen chunks of the block it is given.
-/
module

public import proofs.«01_k».proof.Proof.Run
public import proofs.«01_k».proof.Proof.Layout
public import Idealize.ShloMosaic.Lib.WholeRead

@[expose] public section

noncomputable section

namespace Cert.KernelIdeal.Chunk

open Idealize.ShloMosaic Idealize.ShloMosaic.TcCoe Idealize.ShloMosaic.Tactic Idealize.SL.Sem
open Cert.KernelIdeal.Gen Cert.Delta

/-- The chunk of the sequence that is chunk `i` of the block of point `p`: the blocks are taken from the last. -/
def place (p : Fin 4) (i : Fin 16) : Fin 64 := ⟨16 * (3 - p.val) + i.val, by omega⟩

/-! ## The loads -/

/-- One head's rows, at an index. -/
theorem row_load (b : Memref sig .tc .vmem S1024x512 .f32) (hb : b.IsWhole) (x : Vec Ideal S1024x512 .f32)
    (i : Fin 16) (h : Fin 4) (c : Fin 64) (v : Fin 128) :
    View.readAt (Elt Ideal) b.view (rowRect i h).toLoadRect (hb.unread x) (ix2 c v) =
      x (ix2 ⟨64 * i.val + c.val, by omega⟩ ⟨128 * h.val + v.val, by omega⟩) := by
  refine (Memref.IsWhole.readAt_unread hb x _ _).trans (congrArg x ?_)
  funext a; apply Fin.ext
  match a with
  | 0 => exact congrArg (64 * i.val + ·) (Nat.one_mul _)
  | 1 => exact congrArg (128 * h.val + ·) (Nat.one_mul _)

/-- The rows of chunk `i`, at an index. -/
theorem at3_kRows (b : Memref sig .tc .vmem S1024x512 .f32) (hb : b.IsWhole) (x : Vec Ideal S1024x512 .f32)
    (i : Fin 16) : at3 (kRows b hb x i) = fun h c v =>
      x (ix2 ⟨64 * i.val + c.val, by omega⟩ ⟨128 * h.val + v.val, by omega⟩) := by
  funext h c v
  unfold at3 kRows
  refine (heads_apply _ _ _ _ h c v).trans ?_
  match h with
  | 0 => exact row_load b hb x i 0 c v
  | 1 => exact row_load b hb x i 1 c v
  | 2 => exact row_load b hb x i 2 c v
  | 3 => exact row_load b hb x i 3 c v

/-- A state with its unit axis dropped. -/
theorem drop_state {F : FTy → Type} [FloatOps F] (V : FVec F S4x1x128x128 .f32) (h : Fin 4) (k v : Fin 128) :
    shapeCast S4x128x128 V shapeCasts_S4x1x128x128_S4x128x128 (ix3 h k v) = V (ix4 h 0 k v) := by
  pointwise []

/-- A decay with its unit axis dropped. -/
theorem drop_decay {F : FTy → Type} [FloatOps F] (V : FVec F S4x1x1x128 .f32) (h : Fin 4) (z : Fin 1) (v : Fin 128) :
    shapeCast S4x1x128 V shapeCasts_S4x1x1x128_S4x1x128 (ix3 h z v) = V (ix4 h 0 z v) := by
  obtain rfl : z = 0 := Subsingleton.elim _ _
  pointwise []

/-- The square of chunk `i`, at an index. -/
theorem at3_kQk (b : Memref sig .tc .vmem S4x1024x64 .f32) (hb : b.IsWhole) (x : Vec Ideal S4x1024x64 .f32)
    (i : Fin 16) : at3 (kQk b hb x i) = fun h c r => x (ix3 h ⟨64 * i.val + c.val, by omega⟩ r) := by
  funext h c r
  unfold at3 kQk
  refine (Memref.IsWhole.readAt_unread hb x _ _).trans (congrArg x ?_)
  funext a; apply Fin.ext
  match a with
  | 0 => show 0 + 1 * h.val = h.val; omega
  | 1 => show 64 * i.val + 1 * c.val = 64 * i.val + c.val; omega
  | 2 => show 0 + 1 * r.val = r.val; omega

theorem at3_kDecay (b : Memref sig .tc .vmem S4x16x1x128 .f32) (hb : b.IsWhole) (x : Vec Ideal S4x16x1x128 .f32)
    (i : Fin 16) : at3 (kDecay b hb x i) = fun h z v => x (ix4 h i z v) := by
  funext h z v
  unfold at3 kDecay
  refine (drop_decay (F := Ideal) _ h z v).trans ?_
  refine (Memref.IsWhole.readAt_unread hb x _ _).trans (congrArg x ?_)
  funext a; apply Fin.ext
  match a with
  | 0 => show 0 + 1 * h.val = h.val; omega
  | 1 => show i.val + 1 * 0 = i.val; omega
  | 2 => show 0 + 1 * z.val = z.val; omega
  | 3 => show 0 + 1 * v.val = v.val; omega

theorem at3_kState (b : Memref sig .tc .vmem S4x16x128x128 .f32) (hb : b.IsWhole)
    (x : Vec Ideal S4x16x128x128 .f32) (i : Fin 16) : at3 (kState b hb x i) = fun h k v => x (ix4 h i k v) := by
  funext h k v
  unfold at3 kState
  refine (drop_state (F := Ideal) _ h k v).trans ?_
  refine (Memref.IsWhole.readAt_unread hb x _ _).trans (congrArg x ?_)
  funext a; apply Fin.ext
  match a with
  | 0 => show 0 + 1 * h.val = h.val; omega
  | 1 => show i.val + 1 * 0 = i.val; omega
  | 2 => show 0 + 1 * k.val = k.val; omega
  | 3 => show 0 + 1 * v.val = v.val; omega

/-! ## The stores -/

variable {F : FTy → Type} [FloatOps F]

theorem headSlice_apply (V : FVec F S4x64x128 .f32) (h : Fin 4) (c : Fin 64) (v : Fin 128) :
    headSlice V h (ix2 c v) = V (ix3 h c v) := by
  fin_cases h <;> pointwise [headSlice]

/-- The rows' stores, read back. -/
theorem canon_wide (f : Fin 16 → FVec F S4x64x128 .f32) (y : S1024x512.Idx) :
    View.canon (wide f) y = f ⟨(y 0).val / 64, by have : (y 0).val < 1024 := (y 0).isLt; omega⟩
      (ix3 ⟨(y 1).val / 128, by have : (y 1).val < 512 := (y 1).isLt; omega⟩
        ⟨(y 0).val % 64, by omega⟩ ⟨(y 1).val % 128, by omega⟩) := by
  refine View.canon_apply_of_pieces (fun y : S1024x512.Idx =>
    f ⟨(y 0).val / 64, by have : (y 0).val < 1024 := (y 0).isLt; omega⟩
      (ix3 ⟨(y 1).val / 128, by have : (y 1).val < 512 := (y 1).isLt; omega⟩
        ⟨(y 0).val % 64, by omega⟩ ⟨(y 1).val % 128, by omega⟩)) (wide f) ?_ y
    (View.cover_of_tiledL (wide f) S64x128.size (by sl_kernel_rfl) y)
  intro p hp x
  obtain ⟨i, -, hp⟩ := List.mem_flatMap.mp hp
  have key : ∀ h : Fin 4, ∀ x : S64x128.Idx, headSlice (f i) h x =
      f ⟨((rowRect i h).emb x 0).val / 64, by have : ((rowRect i h).emb x 0).val < 1024 := ((rowRect i h).emb x 0).isLt; omega⟩
      (ix3 ⟨((rowRect i h).emb x 1).val / 128, by have : ((rowRect i h).emb x 1).val < 512 := ((rowRect i h).emb x 1).isLt; omega⟩
        ⟨((rowRect i h).emb x 0).val % 64, by omega⟩ ⟨((rowRect i h).emb x 1).val % 128, by omega⟩) := by
    intro h x
    have e0 : ((rowRect i h).emb x 0).val = 64 * i.val + (x 0).val :=
      congrArg (64 * i.val + ·) (Nat.one_mul _)
    have e1 : ((rowRect i h).emb x 1).val = 128 * h.val + (x 1).val :=
      congrArg (128 * h.val + ·) (Nat.one_mul _)
    have b0 : (x 0).val < 64 := (x 0).isLt
    have b1 : (x 1).val < 128 := (x 1).isLt
    have ex : x = ix2 (x 0) (x 1) := by funext a; match a with | 0 => rfl | 1 => rfl
    refine (congrArg (headSlice (f i) h) ex).trans ((headSlice_apply (f i) h (x 0) (x 1)).trans ?_)
    congr 1
    · congr 1; apply Fin.ext; dsimp only; omega
    · congr 1 <;> (apply Fin.ext; dsimp only; omega)
  simp only [List.mem_cons, List.not_mem_nil, or_false] at hp
  rcases hp with rfl | rfl | rfl | rfl
  · exact key 3 x
  · exact key 2 x
  · exact key 1 x
  · exact key 0 x

/-- The squares' stores, read back. -/
theorem canon_wideQk (f : Fin 16 → FVec F S4x64x64 .f32) (y : S4x1024x64.Idx) :
    View.canon (wideQk f) y = f ⟨(y 1).val / 64, by have : (y 1).val < 1024 := (y 1).isLt; omega⟩
      (ix3 (y 0) ⟨(y 1).val % 64, by omega⟩ (y 2)) := by
  refine View.canon_apply_of_pieces (fun y : S4x1024x64.Idx =>
    f ⟨(y 1).val / 64, by have : (y 1).val < 1024 := (y 1).isLt; omega⟩
      (ix3 (y 0) ⟨(y 1).val % 64, by omega⟩ (y 2))) (wideQk f) ?_ y
    (View.cover_of_tiledL (wideQk f) S4x64x64.size (by sl_kernel_rfl) y)
  intro p hp x
  obtain ⟨i, -, rfl⟩ := List.mem_map.mp hp
  have e0 : ((qkRect i).emb x 0).val = (x 0).val := (Nat.zero_add _).trans (Nat.one_mul _)
  have e1 : ((qkRect i).emb x 1).val = 64 * i.val + (x 1).val := congrArg (64 * i.val + ·) (Nat.one_mul _)
  have e2 : ((qkRect i).emb x 2).val = (x 2).val := (Nat.zero_add _).trans (Nat.one_mul _)
  have b1 : (x 1).val < 64 := (x 1).isLt
  have ex : x = ix3 (x 0) (x 1) (x 2) := by funext a; match a with | 0 => rfl | 1 => rfl | 2 => rfl
  show f i x = _
  refine (congrArg (f i) ex).trans ?_
  congr 1
  · congr 1; apply Fin.ext; dsimp only; omega
  · congr 1 <;> (apply Fin.ext; dsimp only; omega)

/-- The decays' stores, read back. -/
theorem canon_wideDecay (f : Fin 16 → FVec F S4x1x128 .f32) (y : S4x16x1x128.Idx) :
    View.canon (wideDecay f) y = f (y 1) (ix3 (y 0) (y 2) (y 3)) := by
  refine View.canon_apply_of_pieces (fun y : S4x16x1x128.Idx => f (y 1) (ix3 (y 0) (y 2) (y 3))) (wideDecay f) ?_ y
    (View.cover_of_tiledL (wideDecay f) S4x1x1x128.size (by sl_kernel_rfl) y)
  intro p hp x
  obtain ⟨i, -, rfl⟩ := List.mem_map.mp hp
  have e0 : ((decayRect i).emb x 0).val = (x 0).val := (Nat.zero_add _).trans (Nat.one_mul _)
  have e1 : ((decayRect i).emb x 1).val = i.val + (x 1).val := congrArg (i.val + ·) (Nat.one_mul _)
  have e3 : ((decayRect i).emb x 3).val = (x 3).val := (Nat.zero_add _).trans (Nat.one_mul _)
  have b1 : (x 1).val < 1 := (x 1).isLt
  have key : ∀ x : S4x1x1x128.Idx, shapeCast S4x1x1x128 (f i) shapeCasts_S4x1x128_S4x1x1x128 x
      = f i (ix3 (x 0) 0 (x 3)) := by
    intro x
    have ex : x = ix4 (x 0) 0 0 (x 3) := by
      funext a
      match a with
      | 0 => rfl
      | 1 => exact Subsingleton.elim (α := Fin 1) _ _
      | 2 => exact Subsingleton.elim (α := Fin 1) _ _
      | 3 => rfl
    rw [ex]
    pointwise []
  refine (key x).trans ?_
  congr 1
  · congr 1; apply Fin.ext; dsimp only; omega
  · congr 1
    · apply Fin.ext; dsimp only; omega
    · exact Subsingleton.elim (α := Fin 1) _ _
    · apply Fin.ext; dsimp only; omega

/-! ## The chunks of one block -/

section
variable (arg1 : Memref sig .tc .vmem S1024x512 .f32) (harg1 : arg1.IsWhole)
  (arg2 : Memref sig .tc .vmem S1024x512 .f32) (harg2 : arg2.IsWhole)
  (arg3 : Memref sig .tc .vmem S1024x512 .f32) (harg3 : arg3.IsWhole)
  (arg4 : Memref sig .tc .vmem S1024x512 .f32) (harg4 : arg4.IsWhole)
  (arg5 : Memref sig .tc .vmem S4x1024x64 .f32) (harg5 : arg5.IsWhole)
  (arg6 : Memref sig .tc .vmem S4x16x1x128 .f32) (harg6 : arg6.IsWhole)
  (arg7 : Memref sig .tc .vmem S4x16x128x128 .f32) (harg7 : arg7.IsWhole)
  (arg8 : Memref sig .tc .vmem S1024x512 .f32) (harg8 : arg8.IsWhole)
  (x0 x1 x2 x3 : Vec Ideal S1024x512 .f32) (x4 : Vec Ideal S4x1024x64 .f32) (x5 : Vec Ideal S4x16x1x128 .f32)
  (x6 : Vec Ideal S4x16x128x128 .f32) (x7 : Vec Ideal S1024x512 .f32)
  (g : FVec Ideal S4x128x128 .f32) (C : Chunks) (p : Fin 4)

/-- The staged blocks hold the chunks of point `p`. -/
structure Holds : Prop where
  u : ∀ i, at3 (kRows arg1 harg1 x0 i) = C.u (place p i)
  w : ∀ i, at3 (kRows arg2 harg2 x1 i) = C.w (place p i)
  q : ∀ i, at3 (kRows arg3 harg3 x2 i) = C.q (place p i)
  k : ∀ i, at3 (kRows arg4 harg4 x3 i) = C.k (place p i)
  a : ∀ i, at3 (kQk arg5 harg5 x4 i) = C.a (place p i)
  e : ∀ i, at3 (kDecay arg6 harg6 x5 i) = C.e (place p i)
  s : ∀ i, at3 (kState arg7 harg7 x6 i) = C.s (place p i)
  d : ∀ i, at3 (kRows arg8 harg8 x7 i) = C.d (place p i)

variable {arg1 harg1 arg2 harg2 arg3 harg3 arg4 harg4 arg5 harg5 arg6 harg6 arg7 harg7 arg8 harg8
  x0 x1 x2 x3 x4 x5 x6 x7 g C p}
variable (H : Holds arg1 harg1 arg2 harg2 arg3 harg3 arg4 harg4 arg5 harg5 arg6 harg6 arg7 harg7 arg8 harg8
  x0 x1 x2 x3 x4 x5 x6 x7 C p) (hg : at3 g = C.carry (16 * p.val))
include H hg

/-- The carried cotangent follows the sequence's. -/
theorem at3_kCarry : ∀ (n : ℕ) (hn : n ≤ 16),
    at3 (kCarry arg2 harg2 arg3 harg3 arg4 harg4 arg5 harg5 arg6 harg6 arg8 harg8 x1 x2 x3 x4 x5 x7 g n hn) =
      C.carry (16 * p.val + n)
  | 0, _ => hg
  | n + 1, hn => by
    have ih := at3_kCarry n (by omega)
    have e : (⟨63 - (16 * p.val + n), by omega⟩ : Fin 64) = place p ⟨15 - n, by omega⟩ := by
      apply Fin.ext; show 63 - (16 * p.val + n) = 16 * (3 - p.val) + (15 - n); omega
    show at3 (kDS _ _ _ _ _ _) = C.back ⟨63 - (16 * p.val + n), _⟩ (C.carry (16 * p.val + n))
    rw [at3_kDS, at3_kDFresh, ih, H.w, H.q, H.d, H.k, H.a, H.e, e]
    rfl

/-- The cotangent a chunk of the block finds. -/
theorem at3_kAt (i : Fin 16) :
    at3 (kAt arg2 harg2 arg3 harg3 arg4 harg4 arg5 harg5 arg6 harg6 arg8 harg8 x1 x2 x3 x4 x5 x7 g i) =
      C.cot (place p i) := by
  refine (at3_kCarry H hg _ _).trans ?_
  show C.carry _ = C.carry (63 - (16 * (3 - p.val) + i.val))
  congr 1; omega

/-- A chunk's gradient of `u`. -/
theorem at3_kU (i : Fin 16) :
    at3 (kU arg2 harg2 arg3 harg3 arg4 harg4 arg5 harg5 arg6 harg6 arg8 harg8 x1 x2 x3 x4 x5 x7 g i) =
      C.du (place p i) := by
  unfold kU
  rw [at3_kDFresh, at3_kAt H hg, H.k, H.d, H.a]
  rfl

omit hg in
/-- A chunk's rows written into the state. -/
theorem at3_kN (i : Fin 16) : at3 (kN arg1 harg1 arg2 harg2 arg7 harg7 x0 x1 x6 i) = C.n (place p i) := by
  unfold kN
  rw [at3_kFresh, H.s, H.u, H.w]
  rfl

end

end Cert.KernelIdeal.Chunk

end
-- ==== Proof.KernelValue.lean ====
/-
  The result arrays of the kernel, over extended reals, as functions of its argument arrays.
-/
module

public import proofs.«01_k».proof.Proof.Body
public import proofs.«01_k».proof.Proof.Gen.KernelIdeal.Value
public import Idealize.ShloMosaic.Lib.Pipeline.ValueKit.Geometry
public import Idealize.ShloMosaic.Lib.Pipeline.ValueKit.Acc

@[expose] public section

set_option maxRecDepth 16384

noncomputable section

namespace Cert.KernelIdeal.Chunk

open Idealize.ShloMosaic Idealize.ShloMosaic.TcCoe Idealize.ShloMosaic.Tactic Idealize.SL.Sem
open Cert.KernelIdeal.Gen Cert.KernelIdeal.Value Cert.Delta

variable (m : (ℓ : Loc nD τ sig) → Buf (Elt Ideal) ℓ) (c : Dev nD)

/-- The chunks of the argument arrays. -/
def data : Chunks :=
  chunks (m (c.tc.loc main_arg0)) (m (c.tc.loc main_arg1))
    (m (c.tc.loc main_arg2)) (m (c.tc.loc main_arg3))
    (m (c.tc.loc main_arg4)) (m (c.tc.loc main_arg5))
    (m (c.tc.loc main_arg6)) (m (c.tc.loc main_arg7))

/-- A point of the grid, of the four. -/
def pt (t : Fin cfg0.N) : Fin 4 := ⟨t.val, lt_of_lt_of_eq t.isLt N_0⟩

theorem index0 : ∀ t : Fin cfg0.N, win0_0.index t = ![3 - t.val, 0] := by
  change ∀ t : Fin grid0.N, _; decide +kernel
theorem index1 : ∀ t : Fin cfg0.N, win0_1.index t = ![3 - t.val, 0] := by
  change ∀ t : Fin grid0.N, _; decide +kernel
theorem index2 : ∀ t : Fin cfg0.N, win0_2.index t = ![3 - t.val, 0] := by
  change ∀ t : Fin grid0.N, _; decide +kernel
theorem index3 : ∀ t : Fin cfg0.N, win0_3.index t = ![3 - t.val, 0] := by
  change ∀ t : Fin grid0.N, _; decide +kernel
theorem index7 : ∀ t : Fin cfg0.N, win0_7.index t = ![3 - t.val, 0] := by
  change ∀ t : Fin grid0.N, _; decide +kernel
theorem index8 : ∀ t : Fin cfg0.N, win0_8.index t = ![3 - t.val, 0] := by
  change ∀ t : Fin grid0.N, _; decide +kernel
theorem index9 : ∀ t : Fin cfg0.N, win0_9.index t = ![3 - t.val, 0] := by
  change ∀ t : Fin grid0.N, _; decide +kernel
theorem index10 : ∀ t : Fin cfg0.N, win0_10.index t = ![3 - t.val, 0] := by
  change ∀ t : Fin grid0.N, _; decide +kernel
theorem index11 : ∀ t : Fin cfg0.N, win0_11.index t = ![3 - t.val, 0] := by
  change ∀ t : Fin grid0.N, _; decide +kernel
theorem index4 : ∀ t : Fin cfg0.N, win0_4.index t = ![0, 3 - t.val, 0] := by
  change ∀ t : Fin grid0.N, _; decide +kernel
theorem index12 : ∀ t : Fin cfg0.N, win0_12.index t = ![0, 3 - t.val, 0] := by
  change ∀ t : Fin grid0.N, _; decide +kernel
theorem index5 : ∀ t : Fin cfg0.N, win0_5.index t = ![0, 3 - t.val, 0, 0] := by
  change ∀ t : Fin grid0.N, _; decide +kernel
theorem index6 : ∀ t : Fin cfg0.N, win0_6.index t = ![0, 3 - t.val, 0, 0] := by
  change ∀ t : Fin grid0.N, _; decide +kernel
theorem index13 : ∀ t : Fin cfg0.N, win0_13.index t = ![0, 3 - t.val, 0, 0] := by
  change ∀ t : Fin grid0.N, _; decide +kernel

/-! ## The blocks read -/

theorem iblk0 (t : Fin cfg0.N) (r : Fin 1024) (v : Fin 512) : (iblk m c 0 t : Vec Ideal S1024x512 .f32) (ix2 r v) =
    (m (c.tc.loc main_arg0) : Vec Ideal S4096x512 .f32) (ix2 ⟨1024 * (3 - t.val) + r.val, by omega⟩ v) := by
  blk_simp [iblk]
  refine congrArg (m (c.tc.loc main_arg0) : Vec Ideal S4096x512 .f32) ?_
  blk_ext [index0]

theorem iblk1 (t : Fin cfg0.N) (r : Fin 1024) (v : Fin 512) : (iblk m c 1 t : Vec Ideal S1024x512 .f32) (ix2 r v) =
    (m (c.tc.loc main_arg1) : Vec Ideal S4096x512 .f32) (ix2 ⟨1024 * (3 - t.val) + r.val, by omega⟩ v) := by
  blk_simp [iblk]
  refine congrArg (m (c.tc.loc main_arg1) : Vec Ideal S4096x512 .f32) ?_
  blk_ext [index1]

theorem iblk2 (t : Fin cfg0.N) (r : Fin 1024) (v : Fin 512) : (iblk m c 2 t : Vec Ideal S1024x512 .f32) (ix2 r v) =
    (m (c.tc.loc main_arg2) : Vec Ideal S4096x512 .f32) (ix2 ⟨1024 * (3 - t.val) + r.val, by omega⟩ v) := by
  blk_simp [iblk]
  refine congrArg (m (c.tc.loc main_arg2) : Vec Ideal S4096x512 .f32) ?_
  blk_ext [index2]

theorem iblk3 (t : Fin cfg0.N) (r : Fin 1024) (v : Fin 512) : (iblk m c 3 t : Vec Ideal S1024x512 .f32) (ix2 r v) =
    (m (c.tc.loc main_arg3) : Vec Ideal S4096x512 .f32) (ix2 ⟨1024 * (3 - t.val) + r.val, by omega⟩ v) := by
  blk_simp [iblk]
  refine congrArg (m (c.tc.loc main_arg3) : Vec Ideal S4096x512 .f32) ?_
  blk_ext [index3]

theorem iblk7 (t : Fin cfg0.N) (r : Fin 1024) (v : Fin 512) : (iblk m c 7 t : Vec Ideal S1024x512 .f32) (ix2 r v) =
    (m (c.tc.loc main_arg7) : Vec Ideal S4096x512 .f32) (ix2 ⟨1024 * (3 - t.val) + r.val, by omega⟩ v) := by
  blk_simp [iblk]
  refine congrArg (m (c.tc.loc main_arg7) : Vec Ideal S4096x512 .f32) ?_
  blk_ext [index7]

theorem iblk4 (t : Fin cfg0.N) (h : Fin 4) (r : Fin 1024) (v : Fin 64) : (iblk m c 4 t : Vec Ideal S4x1024x64 .f32) (ix3 h r v) =
    (m (c.tc.loc main_arg4) : Vec Ideal S4x4096x64 .f32) (ix3 h ⟨1024 * (3 - t.val) + r.val, by omega⟩ v) := by
  blk_simp [iblk]
  refine congrArg (m (c.tc.loc main_arg4) : Vec Ideal S4x4096x64 .f32) ?_
  blk_ext [index4]

theorem iblk5 (t : Fin cfg0.N) (h : Fin 4) (i : Fin 16) (z : Fin 1) (v : Fin 128) : (iblk m c 5 t : Vec Ideal S4x16x1x128 .f32) (ix4 h i z v) =
    (m (c.tc.loc main_arg5) : Vec Ideal S4x64x1x128 .f32) (ix4 h ⟨16 * (3 - t.val) + i.val, by omega⟩ z v) := by
  blk_simp [iblk]
  refine congrArg (m (c.tc.loc main_arg5) : Vec Ideal S4x64x1x128 .f32) ?_
  blk_ext [index5]

theorem iblk6 (t : Fin cfg0.N) (h : Fin 4) (i : Fin 16) (k v : Fin 128) : (iblk m c 6 t : Vec Ideal S4x16x128x128 .f32) (ix4 h i k v) =
    (m (c.tc.loc main_arg6) : Vec Ideal S4x64x128x128 .f32) (ix4 h ⟨16 * (3 - t.val) + i.val, by omega⟩ k v) := by
  blk_simp [iblk]
  refine congrArg (m (c.tc.loc main_arg6) : Vec Ideal S4x64x128x128 .f32) ?_
  blk_ext [index6]

/-- A chunk's rows within the block are the chunk's rows in the array. -/
theorem rows_block (x : Arr ⟨2, ![4096, 512]⟩) (X : Vec Ideal S1024x512 .f32) (p : Fin 4) (i : Fin 16)
    (e : ∀ r v, X (ix2 r v) = x (ix2 ⟨1024 * (3 - p.val) + r.val, by omega⟩ v)) :
    (fun h c v => X (ix2 ⟨64 * i.val + c.val, by omega⟩ ⟨128 * h.val + v.val, by omega⟩) : T3 4 64 128) =
      rows x (place p i) := by
  funext h c v
  refine (e _ _).trans (congrArg (fun r => x (ix2 r _)) (Fin.ext ?_))
  show 1024 * (3 - p.val) + (64 * i.val + c.val) = 64 * (16 * (3 - p.val) + i.val) + c.val
  omega

/-- The staged blocks of point `t` hold its chunks. -/
theorem holds (t : Fin cfg0.N) : Holds (ms0_0 t) (hs0_0 t) (ms0_1 t) (hs0_1 t) (ms0_2 t) (hs0_2 t) (ms0_3 t) (hs0_3 t)
    (ms0_4 t) (hs0_4 t) (ms0_5 t) (hs0_5 t) (ms0_6 t) (hs0_6 t) (ms0_7 t) (hs0_7 t)
    (iblk m c 0 t) (iblk m c 1 t) (iblk m c 2 t) (iblk m c 3 t) (iblk m c 4 t) (iblk m c 5 t) (iblk m c 6 t)
    (iblk m c 7 t) (data m c) (pt t) where
  u i := (at3_kRows _ _ _ i).trans (rows_block _ _ (pt t) i (iblk0 m c t))
  w i := (at3_kRows _ _ _ i).trans (rows_block _ _ (pt t) i (iblk1 m c t))
  q i := (at3_kRows _ _ _ i).trans (rows_block _ _ (pt t) i (iblk2 m c t))
  k i := (at3_kRows _ _ _ i).trans (rows_block _ _ (pt t) i (iblk3 m c t))
  d i := (at3_kRows _ _ _ i).trans (rows_block _ _ (pt t) i (iblk7 m c t))
  a i := (at3_kQk _ _ _ i).trans (funext fun h => funext fun r => funext fun v => (iblk4 m c t _ _ _).trans
    (congrArg (fun r => (m (c.tc.loc main_arg4) : Vec Ideal S4x4096x64 .f32) (ix3 h r v))
      (Fin.ext (by show 1024 * (3 - t.val) + (64 * i.val + r.val) = 64 * (16 * (3 - t.val) + i.val) + r.val; omega))))
  e i := (at3_kDecay _ _ _ i).trans (funext fun h => funext fun z => funext fun v => iblk5 m c t h i z v)
  s i := (at3_kState _ _ _ i).trans (funext fun h => funext fun z => funext fun v => iblk6 m c t h i z v)

/-! ## The carried cotangent -/

/-- Loading and storing the whole carried block changes nothing. -/
theorem whole_eq (x : FVec Ideal S4x128x128 .f32) : whole x = x := shapeCast_self _ _

theorem hz : (![0, 0, 0] : Fin 3 → Nat) = fun _ => 0 := funext fun a => by fin_cases a <;> rfl

/-- The zeros stored at the first point. -/
theorem at3_startA (b : Memref sig .tc .vmem S4x128x128 .f32) : at3 (startA b) = (data m c).carry 0 := by
  have e : startA (F := Ideal) b = k0_pay4 :=
    (whole_eq _).trans (View.readCov_unit_zero (S := S4x128x128) _ hz _ _)
  rw [e]
  funext h k v
  pointwise [at3, k0_pay4, Chunks.carry]

/-- What the point before left. -/
theorem startB_eq (b : Memref sig .tc .vmem S4x128x128 .f32) (hb : b.IsWhole) (x : Vec Ideal S4x128x128 .f32) :
    startB b hb x = x := by
  refine (whole_eq _).trans ?_
  funext y
  refine (Memref.IsWhole.readAt_unread hb x _ _).trans (congrArg x ?_)
  funext a; apply Fin.ext
  fin_cases a <;> exact (Nat.zero_add _).trans (Nat.one_mul _)

/-- One store of the whole carried block, read back. -/
theorem canon_carry (x : Vec Ideal S4x128x128 .f32) (l : List (View.Piece (Elt Ideal) S4x128x128 .f32)) :
    View.canon (⟨carryRect, whole (F := Ideal) x⟩ :: l) = x :=
  (View.canon_cons_unit_zero (S := S4x128x128) hz _ _ _).trans (whole_eq x)

/-- After point `n` the scratch holds the cotangent of the state its block found. -/
theorem scratch : ∀ (n : ℕ) (hn : n < cfg0.N),
    at3 (outsAt0 m c n hn).2.2.2.2.2.2 = (data m c).carry (16 * (n + 1))
  | 0, hn => by
    rw [outsAt0_A m c ⟨0, hn⟩ rfl]
    dsimp only
    unfold sout0_A_0
    rw [View.read_writes_junk_eq_canon, runA_s]
    refine (congrArg at3 (canon_carry _ _)).trans ?_
    exact at3_kCarry (holds m c ⟨0, hn⟩) (at3_startA m c _) 16 le_rfl
  | n + 1, hn => by
    have hN : cfg0.N = 4 := N_0
    have h0 : ¬(⟨n + 1, hn⟩ : Fin cfg0.N).val % 4 = 0 := by dsimp only; omega
    have ih := scratch n (by omega)
    rw [outsAt0_B m c ⟨n + 1, hn⟩ h0]
    dsimp only
    unfold sout0_B_0
    rw [View.read_writes_junk_eq_canon, runB_s]
    refine (congrArg at3 (canon_carry _ _)).trans ?_
    exact at3_kCarry (holds m c ⟨n + 1, hn⟩) ((congrArg at3 (startB_eq _ _ _)).trans ih) 16 le_rfl

/-- The scratch as a later point finds it. -/
theorem at3_startB (t : Fin cfg0.N) (h0 : ¬t.val % 4 = 0) (b : Memref sig .tc .vmem S4x128x128 .f32)
    (hb : b.IsWhole) (ht : t.val - 1 < cfg0.N) : at3 (startB b hb (outsAt0 m c (t.val - 1) ht).2.2.2.2.2.2) =
      (data m c).carry (16 * (pt t).val) := by
  rw [startB_eq, scratch]
  have : t.val ≠ 0 := fun h => h0 (by rw [h])
  show (data m c).carry (16 * (t.val - 1 + 1)) = (data m c).carry (16 * t.val)
  congr 2; omega

/-! ## What a point writes back -/

theorem after8 (t : Fin cfg0.N) (y : S1024x512.Idx) : (outsAt0 m c t.val t.isLt).1 y =
    (data m c).du (place (pt t) ⟨(y 0).val / 64, by have : (y 0).val < 1024 := (y 0).isLt; omega⟩)
      ⟨(y 1).val / 128, by have : (y 1).val < 512 := (y 1).isLt; omega⟩ ⟨(y 0).val % 64, by omega⟩ ⟨(y 1).val % 128, by omega⟩ := by
  by_cases h0 : t.val % 4 = 0
  · rw [outsAt0_A m c t h0]
    dsimp only
    unfold out0_A_8
    rw [View.read_writes_junk_apply_eq_canon, runA_8, canon_wide]
    have hg : at3 (startA scM0_0) = (data m c).carry (16 * (pt t).val) := by
      have hN : cfg0.N = 4 := N_0
      have : t.val = 0 := by have := t.isLt; omega
      rw [at3_startA m c]; show _ = (data m c).carry (16 * t.val); rw [this]
    exact congrFun (congrFun (congrFun (at3_kU (holds m c t) hg _) _) _) _
  · rw [outsAt0_B m c t h0]
    dsimp only
    unfold out0_B_8
    rw [View.read_writes_junk_apply_eq_canon, runB_8, canon_wide]
    exact congrFun (congrFun (congrFun (at3_kU (holds m c t) (at3_startB m c t h0 _ _ _) _) _) _) _

theorem after9 (t : Fin cfg0.N) (y : S1024x512.Idx) : (outsAt0 m c t.val t.isLt).2.1 y =
    (data m c).dw (place (pt t) ⟨(y 0).val / 64, by have : (y 0).val < 1024 := (y 0).isLt; omega⟩)
      ⟨(y 1).val / 128, by have : (y 1).val < 512 := (y 1).isLt; omega⟩ ⟨(y 0).val % 64, by omega⟩ ⟨(y 1).val % 128, by omega⟩ := by
  by_cases h0 : t.val % 4 = 0
  · rw [outsAt0_A m c t h0]
    dsimp only
    unfold out0_A_9
    rw [View.read_writes_junk_apply_eq_canon, runA_9, canon_wide]
    have hg : at3 (startA scM0_0) = (data m c).carry (16 * (pt t).val) := by
      have hN : cfg0.N = 4 := N_0
      have : t.val = 0 := by have := t.isLt; omega
      rw [at3_startA m c]; show _ = (data m c).carry (16 * t.val); rw [this]
    exact congrFun (congrFun (congrFun ((at3_kDW _ _).trans (congrArg₂ dW ((holds m c t).s _) (at3_kU (holds m c t) hg _))) _) _) _
  · rw [outsAt0_B m c t h0]
    dsimp only
    unfold out0_B_9
    rw [View.read_writes_junk_apply_eq_canon, runB_9, canon_wide]
    exact congrFun (congrFun (congrFun ((at3_kDW _ _).trans (congrArg₂ dW ((holds m c t).s _) (at3_kU (holds m c t) (at3_startB m c t h0 _ _ _) _))) _) _) _

theorem after10 (t : Fin cfg0.N) (y : S1024x512.Idx) : (outsAt0 m c t.val t.isLt).2.2.1 y =
    (data m c).dq (place (pt t) ⟨(y 0).val / 64, by have : (y 0).val < 1024 := (y 0).isLt; omega⟩)
      ⟨(y 1).val / 128, by have : (y 1).val < 512 := (y 1).isLt; omega⟩ ⟨(y 0).val % 64, by omega⟩ ⟨(y 1).val % 128, by omega⟩ := by
  by_cases h0 : t.val % 4 = 0
  · rw [outsAt0_A m c t h0]
    dsimp only
    unfold out0_A_10
    rw [View.read_writes_junk_apply_eq_canon, runA_10, canon_wide]
    have hg : at3 (startA scM0_0) = (data m c).carry (16 * (pt t).val) := by
      have hN : cfg0.N = 4 := N_0
      have : t.val = 0 := by have := t.isLt; omega
      rw [at3_startA m c]; show _ = (data m c).carry (16 * t.val); rw [this]
    exact congrFun (congrFun (congrFun ((at3_kDQ _ _).trans (congrArg₂ dQ ((holds m c t).s _) ((holds m c t).d _))) _) _) _
  · rw [outsAt0_B m c t h0]
    dsimp only
    unfold out0_B_10
    rw [View.read_writes_junk_apply_eq_canon, runB_10, canon_wide]
    exact congrFun (congrFun (congrFun ((at3_kDQ _ _).trans (congrArg₂ dQ ((holds m c t).s _) ((holds m c t).d _))) _) _) _

theorem after11 (t : Fin cfg0.N) (y : S1024x512.Idx) : (outsAt0 m c t.val t.isLt).2.2.2.1 y =
    (data m c).dk (place (pt t) ⟨(y 0).val / 64, by have : (y 0).val < 1024 := (y 0).isLt; omega⟩)
      ⟨(y 1).val / 128, by have : (y 1).val < 512 := (y 1).isLt; omega⟩ ⟨(y 0).val % 64, by omega⟩ ⟨(y 1).val % 128, by omega⟩ := by
  by_cases h0 : t.val % 4 = 0
  · rw [outsAt0_A m c t h0]
    dsimp only
    unfold out0_A_11
    rw [View.read_writes_junk_apply_eq_canon, runA_11, canon_wide]
    have hg : at3 (startA scM0_0) = (data m c).carry (16 * (pt t).val) := by
      have hN : cfg0.N = 4 := N_0
      have : t.val = 0 := by have := t.isLt; omega
      rw [at3_startA m c]; show _ = (data m c).carry (16 * t.val); rw [this]
    exact congrFun (congrFun (congrFun ((at3_kDK _ _).trans (congrArg₂ dK (at3_kAt (holds m c t) hg _) (at3_kN (holds m c t) _))) _) _) _
  · rw [outsAt0_B m c t h0]
    dsimp only
    unfold out0_B_11
    rw [View.read_writes_junk_apply_eq_canon, runB_11, canon_wide]
    exact congrFun (congrFun (congrFun ((at3_kDK _ _).trans (congrArg₂ dK (at3_kAt (holds m c t) (at3_startB m c t h0 _ _ _) _) (at3_kN (holds m c t) _))) _) _) _

theorem after12 (t : Fin cfg0.N) (y : S4x1024x64.Idx) : (outsAt0 m c t.val t.isLt).2.2.2.2.1 y =
    (data m c).da (place (pt t) ⟨(y 1).val / 64, by have : (y 1).val < 1024 := (y 1).isLt; omega⟩)
      (y 0) ⟨(y 1).val % 64, by omega⟩ (y 2) := by
  by_cases h0 : t.val % 4 = 0
  · rw [outsAt0_A m c t h0]
    dsimp only
    unfold out0_A_12
    rw [View.read_writes_junk_apply_eq_canon, runA_12, canon_wideQk]
    have hg : at3 (startA scM0_0) = (data m c).carry (16 * (pt t).val) := by
      have hN : cfg0.N = 4 := N_0
      have : t.val = 0 := by have := t.isLt; omega
      rw [at3_startA m c]; show _ = (data m c).carry (16 * t.val); rw [this]
    exact congrFun (congrFun (congrFun ((at3_kDA _ _).trans (congrArg₂ dA ((holds m c t).d _) (at3_kN (holds m c t) _))) _) _) _
  · rw [outsAt0_B m c t h0]
    dsimp only
    unfold out0_B_12
    rw [View.read_writes_junk_apply_eq_canon, runB_12, canon_wideQk]
    exact congrFun (congrFun (congrFun ((at3_kDA _ _).trans (congrArg₂ dA ((holds m c t).d _) (at3_kN (holds m c t) _))) _) _) _

theorem after13 (t : Fin cfg0.N) (y : S4x16x1x128.Idx) : (outsAt0 m c t.val t.isLt).2.2.2.2.2.1 y =
    (data m c).de (place (pt t) (y 1)) (y 0) (y 2) (y 3) := by
  by_cases h0 : t.val % 4 = 0
  · rw [outsAt0_A m c t h0]
    dsimp only
    unfold out0_A_13
    rw [View.read_writes_junk_apply_eq_canon, runA_13, canon_wideDecay]
    have hg : at3 (startA scM0_0) = (data m c).carry (16 * (pt t).val) := by
      have hN : cfg0.N = 4 := N_0
      have : t.val = 0 := by have := t.isLt; omega
      rw [at3_startA m c]; show _ = (data m c).carry (16 * t.val); rw [this]
    exact congrFun (congrFun (congrFun ((at3_kDE _ _).trans (congrArg₂ dE ((holds m c t).s _) (at3_kAt (holds m c t) hg _))) _) _) _
  · rw [outsAt0_B m c t h0]
    dsimp only
    unfold out0_B_13
    rw [View.read_writes_junk_apply_eq_canon, runB_13, canon_wideDecay]
    exact congrFun (congrFun (congrFun ((at3_kDE _ _).trans (congrArg₂ dE ((holds m c t).s _) (at3_kAt (holds m c t) (at3_startB m c t h0 _ _ _) _))) _) _) _

/-! ## The result arrays -/

/-- Equal arguments, equal values. -/
theorem app4 {α β γ δ ε : Type} (f : α → β → γ → δ → ε) {a a' : α} {b b' : β} {c c' : γ} {d d' : δ}
    (ha : a = a') (hb : b = b') (hc : c = c') (hd : d = d') : f a b c d = f a' b' c' d' := by
  subst ha hb hc hd; rfl

/-- An array at an index of block `p`, in rows. -/
theorem unrows_block (f : Fin 64 → T3 4 64 128) (p : Fin 4) (z : (⟨2, ![4096, 512]⟩ : Shape).Idx) (y : S1024x512.Idx)
    (e0 : (z 0).val = 1024 * (3 - p.val) + (y 0).val) (e1 : (z 1).val = (y 1).val) : unrows f z =
      f (place p ⟨(y 0).val / 64, by have : (y 0).val < 1024 := (y 0).isLt; omega⟩)
      ⟨(y 1).val / 128, by have : (y 1).val < 512 := (y 1).isLt; omega⟩ ⟨(y 0).val % 64, by omega⟩ ⟨(y 1).val % 128, by omega⟩ := by
  exact app4 f (Fin.ext (by show (z 0).val / 64 = 16 * (3 - p.val) + (y 0).val / 64; omega))
    (Fin.ext (by show (z 1).val / 128 = (y 1).val / 128; omega))
    (Fin.ext (by show (z 0).val % 64 = (y 0).val % 64; omega))
    (Fin.ext (by show (z 1).val % 128 = (y 1).val % 128; omega))

/-- An array at an index of block `p`, in squares. -/
theorem unsquares_block (f : Fin 64 → T3 4 64 64) (p : Fin 4) (z : (⟨3, ![4, 4096, 64]⟩ : Shape).Idx) (y : S4x1024x64.Idx)
    (e0 : (z 0).val = (y 0).val) (e1 : (z 1).val = 1024 * (3 - p.val) + (y 1).val) (e2 : (z 2).val = (y 2).val) :
    unsquares f z = f (place p ⟨(y 1).val / 64, by have : (y 1).val < 1024 := (y 1).isLt; omega⟩)
      (y 0) ⟨(y 1).val % 64, by omega⟩ (y 2) := by
  exact app4 f (Fin.ext (by show (z 1).val / 64 = 16 * (3 - p.val) + (y 1).val / 64; omega)) (Fin.ext e0)
    (Fin.ext (by show (z 1).val % 64 = (y 1).val % 64; omega)) (Fin.ext e2)

/-- An array at an index of block `p`, in decays. -/
theorem undecays_block (f : Fin 64 → T3 4 1 128) (p : Fin 4) (z : (⟨4, ![4, 64, 1, 128]⟩ : Shape).Idx) (y : S4x16x1x128.Idx)
    (e0 : (z 0).val = (y 0).val) (e1 : (z 1).val = 16 * (3 - p.val) + (y 1).val) (e2 : (z 2).val = (y 2).val)
    (e3 : (z 3).val = (y 3).val) : undecays f z = f (place p (y 1)) (y 0) (y 2) (y 3) := by
  exact app4 f (Fin.ext e1) (Fin.ext e0) (Fin.ext e2) (Fin.ext e3)

/-- Result 0 is the gradient `du`. -/
theorem final8 : (dats m 0 c).arrAt 8 cfg0.N = unrows (data m c).du := by
  refine (dats m 0 c).arrAt_eq_of_covers 8 _ (by decide +kernel) fun t hf y => ?_
  blk_simp
  rw [after0_8]
  refine (after8 m c t y).trans (unrows_block _ (pt t) _ y ?_ ?_).symm
  all_goals (blk_simp [index8]; try simp only [pt]; try omega)

/-- Result 1 is the gradient `dw`. -/
theorem final9 : (dats m 0 c).arrAt 9 cfg0.N = unrows (data m c).dw := by
  refine (dats m 0 c).arrAt_eq_of_covers 9 _ (by decide +kernel) fun t hf y => ?_
  blk_simp
  rw [after0_9]
  refine (after9 m c t y).trans (unrows_block _ (pt t) _ y ?_ ?_).symm
  all_goals (blk_simp [index9]; try simp only [pt]; try omega)

/-- Result 2 is the gradient `dq`. -/
theorem final10 : (dats m 0 c).arrAt 10 cfg0.N = unrows (data m c).dq := by
  refine (dats m 0 c).arrAt_eq_of_covers 10 _ (by decide +kernel) fun t hf y => ?_
  blk_simp
  rw [after0_10]
  refine (after10 m c t y).trans (unrows_block _ (pt t) _ y ?_ ?_).symm
  all_goals (blk_simp [index10]; try simp only [pt]; try omega)

/-- Result 3 is the gradient `dk`. -/
theorem final11 : (dats m 0 c).arrAt 11 cfg0.N = unrows (data m c).dk := by
  refine (dats m 0 c).arrAt_eq_of_covers 11 _ (by decide +kernel) fun t hf y => ?_
  blk_simp
  rw [after0_11]
  refine (after11 m c t y).trans (unrows_block _ (pt t) _ y ?_ ?_).symm
  all_goals (blk_simp [index11]; try simp only [pt]; try omega)

/-- Result 4 is the gradient `da`. -/
theorem final12 : (dats m 0 c).arrAt 12 cfg0.N = unsquares (data m c).da := by
  refine (dats m 0 c).arrAt_eq_of_covers 12 _ (by decide +kernel) fun t hf y => ?_
  blk_simp
  rw [after0_12]
  refine (after12 m c t y).trans (unsquares_block _ (pt t) _ y ?_ ?_ ?_).symm
  all_goals (blk_simp [index12]; try simp only [pt]; try omega)

/-- Result 5 is the gradient `de`. -/
theorem final13 : (dats m 0 c).arrAt 13 cfg0.N = undecays (data m c).de := by
  refine (dats m 0 c).arrAt_eq_of_covers 13 _ (by decide +kernel) fun t hf y => ?_
  blk_simp
  rw [after0_13]
  refine (after13 m c t y).trans (undecays_block _ (pt t) _ y ?_ ?_ ?_ ?_).symm
  all_goals (blk_simp [index13]; try simp only [pt]; try omega)

/-- The run: the six gradients of the argument arrays, which stay as they were. -/
theorem run (ρ : Dev nD → PrngReg) : θ_run defs (onTc (τ := τ) (main (F := Ideal))) ⟨m, fun _ => 0, ρ⟩ fun r => ∀ c : Dev nD,
      r.2.mem (c.tc.loc main_v0_0) = unrows (data m c).du
      ∧ r.2.mem (c.tc.loc main_v0_1) = unrows (data m c).dw
      ∧ r.2.mem (c.tc.loc main_v0_2) = unrows (data m c).dq
      ∧ r.2.mem (c.tc.loc main_v0_3) = unrows (data m c).dk
      ∧ r.2.mem (c.tc.loc main_v0_4) = unsquares (data m c).da
      ∧ r.2.mem (c.tc.loc main_v0_5) = undecays (data m c).de
      ∧ r.2.mem (c.tc.loc main_arg0) = m (c.tc.loc main_arg0)
      ∧ r.2.mem (c.tc.loc main_arg1) = m (c.tc.loc main_arg1)
      ∧ r.2.mem (c.tc.loc main_arg2) = m (c.tc.loc main_arg2)
      ∧ r.2.mem (c.tc.loc main_arg3) = m (c.tc.loc main_arg3)
      ∧ r.2.mem (c.tc.loc main_arg4) = m (c.tc.loc main_arg4)
      ∧ r.2.mem (c.tc.loc main_arg5) = m (c.tc.loc main_arg5)
      ∧ r.2.mem (c.tc.loc main_arg6) = m (c.tc.loc main_arg6)
      ∧ r.2.mem (c.tc.loc main_arg7) = m (c.tc.loc main_arg7) :=
  (θ_run defs _ _).mono (fun _ h c => ⟨(h c).1.trans (final8 m c), (h c).2.1.trans (final9 m c),
    (h c).2.2.1.trans (final10 m c), (h c).2.2.2.1.trans (final11 m c), (h c).2.2.2.2.1.trans (final12 m c),
    (h c).2.2.2.2.2.1.trans (final13 m c), (h c).2.2.2.2.2.2⟩) (Value.run_blocks m ρ)

end Cert.KernelIdeal.Chunk

end
-- ==== Proof.RefTrip.lean ====
/-
  The reference's loop over its states: what one trip does to the buffers it carries is `Step.step` of the state they
  hold, so the run's results are those of the state after sixty-four trips.
-/
module

public import proofs.«01_k».proof.Proof.Gen.ReferenceIdeal.Run
public import proofs.«01_k».proof.Proof.Gen.ReferenceIdeal.Step

@[expose] public section

set_option maxRecDepth 65536
set_option maxHeartbeats 600000

noncomputable section

namespace Cert.ReferenceIdeal.Scan

open Idealize.ShloMosaic Idealize.ShloMosaic.TcCoe Idealize.SL.Sem Idealize.ShloMosaic.StableHlo
open Cert.ReferenceIdeal Cert.ReferenceIdeal.Gen Cert.ReferenceIdeal.Value Cert.ReferenceIdeal.Step

variable {F : FTy → Type} [FloatOps F]

/-- The state the loop's buffers hold. -/
def held (V : Valuation τ sig (Elt F)) : State F where
  main_v21_9 := V (Proc.devRef .tc main_v21_9)
  main_v21_10 := V (Proc.devRef .tc main_v21_10)
  main_v21_11 := V (Proc.devRef .tc main_v21_11)
  main_v21_12 := V (Proc.devRef .tc main_v21_12)
  main_v21_13 := V (Proc.devRef .tc main_v21_13)
  main_v21_14 := V (Proc.devRef .tc main_v21_14)
  main_v21_15 := V (Proc.devRef .tc main_v21_15)
  main_v21_0 := V (Proc.devRef .tc main_v21_0)
  main_v21_1 := V (Proc.devRef .tc main_v21_1)
  main_v21_2 := V (Proc.devRef .tc main_v21_2)
  main_v21_3 := V (Proc.devRef .tc main_v21_3)
  main_v21_4 := V (Proc.devRef .tc main_v21_4)
  main_v21_5 := V (Proc.devRef .tc main_v21_5)
  main_v21_6 := V (Proc.devRef .tc main_v21_6)
  main_v21_7 := V (Proc.devRef .tc main_v21_7)

/-- The buffer of the trip's number holds `j`. -/
def At (V : Valuation τ sig (Elt F)) (j : ℕ) : Prop :=
  V (Proc.devRef .tc main_v21_8) = constantI S_ 32 (BitVec.ofNat 32 j)

variable {V : Valuation τ sig (Elt F)} {j : ℕ}

/-- The chunk a trip takes, from the buffer of the trip's number. -/
theorem index_eq (h : At V j) : res_main_while0b_v34 V = b3 j (held V) := by
  unfold res_main_while0b_v34
  rw [h]; rfl

/-- The state of the trip's chunk. -/
theorem v35_eq (h : At V j) : res_main_while0b_v35 V = b8 j (held V) := by
  unfold res_main_while0b_v35
  rw [index_eq h]; rfl

/-- The chunk of `w`. -/
theorem v37_eq (h : At V j) : res_main_while0b_v37 V = b18 j (held V) := by
  unfold res_main_while0b_v37
  rw [index_eq h]; rfl

/-- The chunk of `qe`. -/
theorem v38_eq (h : At V j) : res_main_while0b_v38 V = b23 j (held V) := by
  unfold res_main_while0b_v38
  rw [index_eq h]; rfl

/-- The chunk of `kd`. -/
theorem v39_eq (h : At V j) : res_main_while0b_v39 V = b28 j (held V) := by
  unfold res_main_while0b_v39
  rw [index_eq h]; rfl

/-- The chunk of `qk`. -/
theorem v40_eq (h : At V j) : res_main_while0b_v40 V = b33 j (held V) := by
  unfold res_main_while0b_v40
  rw [index_eq h]; rfl

/-- The chunk of the decays. -/
theorem v41_eq (h : At V j) : res_main_while0b_v41 V = b38 j (held V) := by
  unfold res_main_while0b_v41
  rw [index_eq h]; rfl

/-- The chunk of the cotangent. -/
theorem v42_eq (h : At V j) : res_main_while0b_v42 V = b43 j (held V) := by
  unfold res_main_while0b_v42
  rw [index_eq h]; rfl

/-- The rows the chunk writes into the state. -/
theorem v44_eq (h : At V j) : res_main_while0b_v44 V = b45 j (held V) := by
  unfold res_main_while0b_v44
  rw [index_eq h, v37_eq h, v35_eq h]; rfl

/-- Their cotangent. -/
theorem v63_eq (h : At V j) : res_main_while0b_v63 V = b65 j (held V) := by
  unfold res_main_while0b_v63
  rw [v39_eq h, v42_eq h, v40_eq h]; rfl

/-- That cotangent negated. -/
theorem v69_eq (h : At V j) : res_main_while0b_v69 V = b71 j (held V) := by
  unfold res_main_while0b_v69
  rw [v63_eq h]; rfl

/-- The carried cotangent after a trip. -/
theorem trip9 (h : At V j) : Value.step_main_v21_9 V = b74 j (held V) := by
  unfold Value.step_main_v21_9
  rw [v41_eq h, v42_eq h, v38_eq h, v69_eq h, v37_eq h]; rfl

/-- The gradient of `u` after a trip. -/
theorem trip10 (h : At V j) : Value.step_main_v21_10 V = b80 j (held V) := by
  unfold Value.step_main_v21_10
  rw [v63_eq h, index_eq h]; rfl

/-- The gradient of `w`. -/
theorem trip11 (h : At V j) : Value.step_main_v21_11 V = b85 j (held V) := by
  unfold Value.step_main_v21_11
  rw [v69_eq h, v35_eq h, index_eq h]; rfl

/-- The gradient of `qe`. -/
theorem trip12 (h : At V j) : Value.step_main_v21_12 V = b90 j (held V) := by
  unfold Value.step_main_v21_12
  rw [v42_eq h, v35_eq h, index_eq h]; rfl

/-- The gradient of `kd`. -/
theorem trip13 (h : At V j) : Value.step_main_v21_13 V = b95 j (held V) := by
  unfold Value.step_main_v21_13
  rw [v44_eq h, index_eq h]; rfl

/-- The gradient of `qk`. -/
theorem trip14 (h : At V j) : Value.step_main_v21_14 V = b100 j (held V) := by
  unfold Value.step_main_v21_14
  rw [v42_eq h, v44_eq h, index_eq h]; rfl

/-- The gradient of the decays. -/
theorem trip15 (h : At V j) : Value.step_main_v21_15 V = b105 j (held V) := by
  unfold Value.step_main_v21_15
  rw [v35_eq h, index_eq h]; rfl

/-- The trip's number after a trip. -/
theorem trip8 (h : At V j) : At (STEP V) (j + 1) := by
  unfold At
  rw [STEP_main_v21_8]
  unfold step_main_v21_8
  rw [h]
  funext i
  show IntOp.addi (BitVec.ofNat 32 j) 1#32 = BitVec.ofNat 32 (j + 1)
  simp [IntOp.addi, BitVec.ofNat_add]

/-- Two states are equal when their fields are. -/
theorem state_ext {s t : State F} (h9 : s.main_v21_9 = t.main_v21_9) (h10 : s.main_v21_10 = t.main_v21_10) (h11 : s.main_v21_11 = t.main_v21_11)
    (h12 : s.main_v21_12 = t.main_v21_12) (h13 : s.main_v21_13 = t.main_v21_13) (h14 : s.main_v21_14 = t.main_v21_14)
    (h15 : s.main_v21_15 = t.main_v21_15) (h0 : s.main_v21_0 = t.main_v21_0) (h1 : s.main_v21_1 = t.main_v21_1)
    (h2 : s.main_v21_2 = t.main_v21_2) (h3 : s.main_v21_3 = t.main_v21_3) (h4 : s.main_v21_4 = t.main_v21_4)
    (h5 : s.main_v21_5 = t.main_v21_5) (h6 : s.main_v21_6 = t.main_v21_6) (h7 : s.main_v21_7 = t.main_v21_7)
    : s = t := by
  cases s; cases t
  cases h9; cases h10; cases h11; cases h12; cases h13; cases h14; cases h15; cases h0; cases h1; cases h2; cases h3; cases h4; cases h5; cases h6; cases h7
  rfl

/-- Contents that hold a trip's values in their buffers hold the stepped state. -/
theorem held_of {W : Valuation τ sig (Elt F)}
    (h9 : W (Proc.devRef .tc main_v21_9) = b74 j (held V))
    (h10 : W (Proc.devRef .tc main_v21_10) = b80 j (held V))
    (h11 : W (Proc.devRef .tc main_v21_11) = b85 j (held V))
    (h12 : W (Proc.devRef .tc main_v21_12) = b90 j (held V))
    (h13 : W (Proc.devRef .tc main_v21_13) = b95 j (held V))
    (h14 : W (Proc.devRef .tc main_v21_14) = b100 j (held V))
    (h15 : W (Proc.devRef .tc main_v21_15) = b105 j (held V))
    (h0 : W (Proc.devRef .tc main_v21_0) = V (Proc.devRef .tc main_v21_0))
    (h1 : W (Proc.devRef .tc main_v21_1) = V (Proc.devRef .tc main_v21_1))
    (h2 : W (Proc.devRef .tc main_v21_2) = V (Proc.devRef .tc main_v21_2))
    (h3 : W (Proc.devRef .tc main_v21_3) = V (Proc.devRef .tc main_v21_3))
    (h4 : W (Proc.devRef .tc main_v21_4) = V (Proc.devRef .tc main_v21_4))
    (h5 : W (Proc.devRef .tc main_v21_5) = V (Proc.devRef .tc main_v21_5))
    (h6 : W (Proc.devRef .tc main_v21_6) = V (Proc.devRef .tc main_v21_6))
    (h7 : W (Proc.devRef .tc main_v21_7) = V (Proc.devRef .tc main_v21_7)) :
    held W = step j (held V) :=
  state_ext h9 h10 h11 h12 h13 h14 h15 h0 h1 h2 h3 h4 h5 h6 h7

/-- A trip steps the state. -/
theorem held_step (h : At V j) : held (STEP V) = step j (held V) :=
  held_of ((STEP_main_v21_9 V).trans (trip9 h)) ((STEP_main_v21_10 V).trans (trip10 h)) ((STEP_main_v21_11 V).trans (trip11 h)) ((STEP_main_v21_12 V).trans (trip12 h)) ((STEP_main_v21_13 V).trans (trip13 h)) ((STEP_main_v21_14 V).trans (trip14 h)) ((STEP_main_v21_15 V).trans (trip15 h))
    (STEP_main_v21_0 V)  (STEP_main_v21_1 V)  (STEP_main_v21_2 V)  (STEP_main_v21_3 V)  (STEP_main_v21_4 V)  (STEP_main_v21_5 V)  (STEP_main_v21_6 V)  (STEP_main_v21_7 V)

variable (m : (ℓ : Loc nD τ sig) → Buf (Elt F) ℓ) (ρ : Dev nD → PrngReg) (c : Dev nD)

/-- The loop's state after `n` trips. -/
def after : ℕ → State F
  | 0 => init (m (c.tc.loc main_arg0)) (m (c.tc.loc main_arg1))
      (m (c.tc.loc main_arg2)) (m (c.tc.loc main_arg3))
      (m (c.tc.loc main_arg4)) (m (c.tc.loc main_arg5))
      (m (c.tc.loc main_arg6)) (m (c.tc.loc main_arg7))
  | n + 1 => step n (after n)

/-- Before the loop its buffers hold the first state. -/
theorem entry : At (entryContents preI m c) 0 ∧ held (entryContents preI m c) = after m c 0 := by
  constructor
  · unfold At
    simp only [entryContents, afterL_cons, afterL_nil]
    after_reads_simp
    try rfl
  · unfold held after init
    congr 1 <;> (simp only [entryContents, afterL_cons, afterL_nil]; after_reads_simp) <;> try rfl

/-- After `n` trips they hold state `n`. -/
theorem held_after : ∀ n, At (STEP^[n] (entryContents preI m c)) n ∧ held (STEP^[n] (entryContents preI m c)) = after m c n
  | 0 => entry m c
  | n + 1 => by
    obtain ⟨h, e⟩ := held_after n
    rw [Function.iterate_succ_apply']
    exact ⟨trip8 h, (held_step h).trans (congrArg (step n) e)⟩

end Cert.ReferenceIdeal.Scan

end
-- ==== Proof.RefValue.lean ====
/-
  The reference's loop, read over extended reals: each trip takes one chunk, the last first, so that after `n` trips the
  carried cotangent is `Chunks.carry n` and the last `n` chunks of every result array are in place.
-/
module

public import proofs.«01_k».proof.Proof.Layout
public import proofs.«01_k».proof.Proof.RefTrip
public import Idealize.ShloMosaic.Lib.Pointwise
public import Idealize.ShloMosaic.Lib.DynamicIndex
public import Idealize.ShloMosaic.Lib.Quiescent

@[expose] public section

set_option maxRecDepth 16384

noncomputable section

namespace Cert.ReferenceIdeal.Scan

open Idealize.ShloMosaic Idealize.ShloMosaic.TcCoe Idealize.SL.Sem
open Cert.Delta Cert.ReferenceIdeal Cert.ReferenceIdeal.Gen Cert.ReferenceIdeal.Step

/-- Four starts, the first of them `p` and the others zero. -/
def Starts {r : ℕ} (start : Fin r → Int) (p : ℕ) : Prop := ∀ a, start a = if a.val = 0 then (p : Int) else 0

/-- A dynamic slice of one leading index reads the array there. -/
theorem slice_at {α : Type} {b c d : ℕ} (x : (⟨4, ![64, b, c, d]⟩ : Shape).Idx → α) (start : Fin 4 → Int) (p : Fin 64)
    (hs : Starts start p.val) (h : (⟨4, ![64, b, c, d]⟩ : Shape).Slices (fun _ => 0) ⟨4, ![1, b, c, d]⟩)
    (i : Fin b) (j : Fin c) (k : Fin d) :
    Host.dynamicSlice ⟨4, ![1, b, c, d]⟩ x start h (ix4 0 i j k) = x (ix4 p i j k) := by
  unfold Host.dynamicSlice extractStridedSlice
  refine congrArg x (funext fun a => Fin.ext ?_)
  have hp := p.isLt
  match a with
  | ⟨0, _⟩ =>
    show (min (max (start 0) 0) ((64 - 1 : ℕ) : Int)).toNat + 0 = p.val
    rw [hs 0]; simp; omega
  | ⟨1, _⟩ =>
    show (min (max (start 1) 0) ((b - b : ℕ) : Int)).toNat + i.val = i.val
    rw [hs 1]; simp
  | ⟨2, _⟩ =>
    show (min (max (start 2) 0) ((c - c : ℕ) : Int)).toNat + j.val = j.val
    rw [hs 2]; simp
  | ⟨3, _⟩ =>
    show (min (max (start 3) 0) ((d - d : ℕ) : Int)).toNat + k.val = k.val
    rw [hs 3]; simp

/-- A dynamic update of one leading index writes there and nowhere else. -/
theorem update_at {α : Type} {b c d : ℕ} (x : (⟨4, ![64, b, c, d]⟩ : Shape).Idx → α)
    (y : (⟨4, ![1, b, c, d]⟩ : Shape).Idx → α) (start : Fin 4 → Int) (p : Fin 64) (hs : Starts start p.val)
    (h : (⟨4, ![64, b, c, d]⟩ : Shape).Slices (fun _ => 0) ⟨4, ![1, b, c, d]⟩) (q : Fin 64)
    (i : Fin b) (j : Fin c) (k : Fin d) :
    Host.dynamicUpdateSlice x y start h (ix4 q i j k) = if q = p then y (ix4 0 i j k) else x (ix4 q i j k) := by
  have hp := p.isLt
  have e (a : Fin 4) : Host.clampedStart ⟨4, ![64, b, c, d]⟩ ⟨4, ![1, b, c, d]⟩ h.1 start a = if a.val = 0 then p.val else 0 := by
    unfold Host.clampedStart
    rw [hs a]
    match a with
    | ⟨0, _⟩ => show (min (max ((p.val : ℕ) : Int) 0) ((64 - 1 : ℕ) : Int)).toNat = p.val; simp; omega
    | ⟨1, _⟩ => show (min (max (0 : Int) 0) ((b - b : ℕ) : Int)).toNat = 0; simp
    | ⟨2, _⟩ => show (min (max (0 : Int) 0) ((c - c : ℕ) : Int)).toNat = 0; simp
    | ⟨3, _⟩ => show (min (max (0 : Int) 0) ((d - d : ℕ) : Int)).toNat = 0; simp
  rw [Host.dynamicUpdateSlice_apply]
  by_cases hq : q = p
  · rw [if_pos hq, dif_pos]
    · refine congrArg y (funext fun a => Fin.ext ?_)
      match a with
      | ⟨0, _⟩ => show q.val - _ = 0; rw [e]; simp [hq]
      | ⟨1, _⟩ => show i.val - _ = i.val; rw [e]; simp
      | ⟨2, _⟩ => show j.val - _ = j.val; rw [e]; simp
      | ⟨3, _⟩ => show k.val - _ = k.val; rw [e]; simp
    · intro a
      rw [e a]
      match a with
      | ⟨0, _⟩ => exact ⟨le_of_eq (congrArg Fin.val hq).symm, show q.val < p.val + 1 by rw [hq]; omega⟩
      | ⟨1, _⟩ => exact ⟨Nat.zero_le _, show i.val < 0 + b by omega⟩
      | ⟨2, _⟩ => exact ⟨Nat.zero_le _, show j.val < 0 + c by omega⟩
      | ⟨3, _⟩ => exact ⟨Nat.zero_le _, show k.val < 0 + d by omega⟩
  · rw [if_neg hq, dif_neg]
    intro hin
    have h0 := hin 0
    rw [e 0] at h0
    have h1 : p.val ≤ q.val := h0.1
    have h2 : q.val < p.val + 1 := h0.2
    exact hq (Fin.ext (by omega))

/-- Trip `j` starts at chunk `63 - j`. -/
theorem b3_eq (j : Fin 64) : ((IntOp.subi (IntOp.subi 64#32 (BitVec.ofNat 32 j.val)) 1#32).toInt) = ((63 - j.val : ℕ) : Int) := by
  revert j; decide +kernel

variable (s : State Ideal)

/-- The starts of every slice and update of trip `j`. -/
theorem starts (j : Fin 64) (x y z : (⟨S_, .i32⟩ : BufTy).Contents (Elt Ideal)) (hx : x = constantI S_ 32 0#32)
    (hy : y = constantI S_ 32 0#32) (hz : z = constantI S_ 32 0#32) :
    Starts (fun k => (((![b3 j.val s, x, y, z] : Fin 4 → (⟨S_, .i32⟩ : BufTy).Contents (Elt Ideal))) k (Shape.Idx.first h_S_)).toInt)
      (⟨63 - j.val, by omega⟩ : Fin 64).val := by
  subst hx hy hz
  intro a
  match a with
  | ⟨0, _⟩ => exact b3_eq j
  | ⟨1, _⟩ => rfl
  | ⟨2, _⟩ => rfl
  | ⟨3, _⟩ => rfl

/-- The chunk trip `j` takes. -/
def at' (j : Fin 64) : Fin 64 := ⟨63 - j.val, by omega⟩

/-- One leading index of an array of four axes. -/
def lead {a b c d : ℕ} (x : FVec Ideal (⟨4, ![a, b, c, d]⟩ : Shape) .f32) (p : Fin a) : T3 b c d := fun i j k => x (ix4 p i j k)

variable (j : Fin 64)

/-- The trip's chunk of the state. -/
theorem chunk8 : at3 (b8 j.val s) = lead s.main_v21_0 (at' j) := by
  funext h i v
  pointwise [at3, b8]
  exact slice_at s.main_v21_0 _ (at' j) (starts s j _ _ _ rfl rfl rfl) _ h i v

/-- The trip's chunk of `u`. -/
theorem chunk13 : at3 (b13 j.val s) = lead s.main_v21_1 (at' j) := by
  funext h i v
  pointwise [at3, b13]
  exact slice_at s.main_v21_1 _ (at' j) (starts s j _ _ _ rfl rfl rfl) _ h i v

/-- The trip's chunk of `w`. -/
theorem chunk18 : at3 (b18 j.val s) = lead s.main_v21_2 (at' j) := by
  funext h i v
  pointwise [at3, b18]
  exact slice_at s.main_v21_2 _ (at' j) (starts s j _ _ _ rfl rfl rfl) _ h i v

/-- The trip's chunk of `qe`. -/
theorem chunk23 : at3 (b23 j.val s) = lead s.main_v21_3 (at' j) := by
  funext h i v
  pointwise [at3, b23]
  exact slice_at s.main_v21_3 _ (at' j) (starts s j _ _ _ rfl rfl rfl) _ h i v

/-- The trip's chunk of `kd`. -/
theorem chunk28 : at3 (b28 j.val s) = lead s.main_v21_4 (at' j) := by
  funext h i v
  pointwise [at3, b28]
  exact slice_at s.main_v21_4 _ (at' j) (starts s j _ _ _ rfl rfl rfl) _ h i v

/-- The trip's chunk of `qk`. -/
theorem chunk33 : at3 (b33 j.val s) = lead s.main_v21_5 (at' j) := by
  funext h i v
  pointwise [at3, b33]
  exact slice_at s.main_v21_5 _ (at' j) (starts s j _ _ _ rfl rfl rfl) _ h i v

/-- The trip's chunk of the decays. -/
theorem chunk38 : at3 (b38 j.val s) = lead s.main_v21_6 (at' j) := by
  funext h i v
  obtain rfl : i = 0 := Subsingleton.elim _ _
  pointwise [at3, b38]
  exact slice_at s.main_v21_6 _ (at' j) (starts s j _ _ _ rfl rfl rfl) _ h 0 v

/-- The trip's chunk of the cotangent. -/
theorem chunk43 : at3 (b43 j.val s) = lead s.main_v21_7 (at' j) := by
  funext h i v
  pointwise [at3, b43]
  exact slice_at s.main_v21_7 _ (at' j) (starts s j _ _ _ rfl rfl rfl) _ h i v

/-- The rows the chunk writes into the state. -/
theorem value45 : at3 (b45 j.val s) = fresh (lead s.main_v21_0 (at' j)) (lead s.main_v21_1 (at' j)) (lead s.main_v21_2 (at' j)) := by
  rw [← chunk8 s j, ← chunk13 s j, ← chunk18 s j]
  funext h i v
  pointwise [at3, b45, b44, fresh]

/-- Their cotangent. -/
theorem value65 : at3 (b65 j.val s) = dFresh (at3 s.main_v21_9) (lead s.main_v21_4 (at' j)) (lead s.main_v21_7 (at' j)) (lead s.main_v21_5 (at' j)) := by
  rw [← chunk28 s j, ← chunk33 s j, ← chunk43 s j]
  funext h i v
  pointwise [at3, b65, b64, b63, b54, b53, dFresh]

/-- The gradient of `w`. -/
theorem value75 : at3 (b75 j.val s) = dW (lead s.main_v21_0 (at' j)) (dFresh (at3 s.main_v21_9) (lead s.main_v21_4 (at' j)) (lead s.main_v21_7 (at' j)) (lead s.main_v21_5 (at' j))) := by
  rw [← chunk8 s j, ← value65 s j]
  funext h i v
  pointwise [at3, b75, b71, dW]

/-- The gradient of `qe`. -/
theorem value70 : at3 (b70 j.val s) = dQ (lead s.main_v21_0 (at' j)) (lead s.main_v21_7 (at' j)) := by
  rw [← chunk8 s j, ← chunk43 s j]
  funext h i v
  pointwise [at3, b70, dQ]

/-- The gradient of `kd`. -/
theorem value56 : at3 (b56 j.val s) = dK (at3 s.main_v21_9) (fresh (lead s.main_v21_0 (at' j)) (lead s.main_v21_1 (at' j)) (lead s.main_v21_2 (at' j))) := by
  rw [← value45 s j]
  funext h i v
  pointwise [at3, b56, b55, dK]

/-- The gradient of `qk`. -/
theorem value66 : at3 (b66 j.val s) = dA (lead s.main_v21_7 (at' j)) (fresh (lead s.main_v21_0 (at' j)) (lead s.main_v21_1 (at' j)) (lead s.main_v21_2 (at' j))) := by
  rw [← chunk43 s j, ← value45 s j]
  funext h i v
  pointwise [at3, b66, dA]

/-- The gradient of the decays. -/
theorem value60 : at3 (b60 j.val s) = dE (lead s.main_v21_0 (at' j)) (at3 s.main_v21_9) := by
  rw [← chunk8 s j]
  funext h i v
  pointwise [at3, b60, b59, b58, b57, dE]

/-- The cotangent of the chunk's state. -/
theorem value74 : at3 (b74 j.val s) = dS (at3 s.main_v21_9) (lead s.main_v21_2 (at' j)) (lead s.main_v21_3 (at' j)) (lead s.main_v21_7 (at' j)) (dFresh (at3 s.main_v21_9) (lead s.main_v21_4 (at' j)) (lead s.main_v21_7 (at' j)) (lead s.main_v21_5 (at' j))) (lead s.main_v21_6 (at' j)) := by
  rw [← value65 s j, ← chunk18 s j, ← chunk23 s j, ← chunk38 s j, ← chunk43 s j]
  funext h i v
  pointwise [at3, b74, b73, b72, b71, b69, b68, b67, b62, b61, dS]

/-- A trip writes its chunk of the gradient of `u` and keeps the others. -/
theorem write10 (q : Fin 64) : lead (b80 j.val s) q = if q = at' j then at3 (b65 j.val s) else lead s.main_v21_10 q := by
  funext h i v
  refine (update_at s.main_v21_10 (b76 j.val s) _ (at' j) (starts s j _ _ _ rfl rfl rfl)
    updateFits_S64x4x64x128_S1x4x64x128 q h _ v).trans ?_
  split
  · pointwise [at3, b76]
  · rfl

/-- A trip writes its chunk of the gradient of `w` and keeps the others. -/
theorem write11 (q : Fin 64) : lead (b85 j.val s) q = if q = at' j then at3 (b75 j.val s) else lead s.main_v21_11 q := by
  funext h i v
  refine (update_at s.main_v21_11 (b81 j.val s) _ (at' j) (starts s j _ _ _ rfl rfl rfl)
    updateFits_S64x4x64x128_S1x4x64x128 q h _ v).trans ?_
  split
  · pointwise [at3, b81]
  · rfl

/-- A trip writes its chunk of the gradient of `qe` and keeps the others. -/
theorem write12 (q : Fin 64) : lead (b90 j.val s) q = if q = at' j then at3 (b70 j.val s) else lead s.main_v21_12 q := by
  funext h i v
  refine (update_at s.main_v21_12 (b86 j.val s) _ (at' j) (starts s j _ _ _ rfl rfl rfl)
    updateFits_S64x4x64x128_S1x4x64x128 q h _ v).trans ?_
  split
  · pointwise [at3, b86]
  · rfl

/-- A trip writes its chunk of the gradient of `kd` and keeps the others. -/
theorem write13 (q : Fin 64) : lead (b95 j.val s) q = if q = at' j then at3 (b56 j.val s) else lead s.main_v21_13 q := by
  funext h i v
  refine (update_at s.main_v21_13 (b91 j.val s) _ (at' j) (starts s j _ _ _ rfl rfl rfl)
    updateFits_S64x4x64x128_S1x4x64x128 q h _ v).trans ?_
  split
  · pointwise [at3, b91]
  · rfl

/-- A trip writes its chunk of the gradient of `qk` and keeps the others. -/
theorem write14 (q : Fin 64) : lead (b100 j.val s) q = if q = at' j then at3 (b66 j.val s) else lead s.main_v21_14 q := by
  funext h i v
  refine (update_at s.main_v21_14 (b96 j.val s) _ (at' j) (starts s j _ _ _ rfl rfl rfl)
    updateFits_S64x4x64x64_S1x4x64x64 q h _ v).trans ?_
  split
  · pointwise [at3, b96]
  · rfl

/-- A trip writes its chunk of the gradient of the decays and keeps the others. -/
theorem write15 (q : Fin 64) : lead (b105 j.val s) q = if q = at' j then at3 (b60 j.val s) else lead s.main_v21_15 q := by
  funext h i v
  obtain rfl : i = 0 := Subsingleton.elim _ _
  refine (update_at s.main_v21_15 (b101 j.val s) _ (at' j) (starts s j _ _ _ rfl rfl rfl)
    updateFits_S64x4x1x128_S1x4x1x128 q h _ v).trans ?_
  split
  · pointwise [at3, b101]
  · rfl

variable (u w q k : Arr ⟨2, ![4096, 512]⟩) (a : Arr ⟨3, ![4, 4096, 64]⟩) (e : Arr ⟨4, ![4, 64, 1, 128]⟩)
  (st : Arr ⟨4, ![4, 64, 128, 128]⟩) (d : Arr ⟨2, ![4096, 512]⟩) (p : Fin 64)

/-- Chunk by chunk, the states. -/
theorem arg0 : lead (A_main_v0 (F := Ideal) u w q k a e st d) p = states st p := by
  funext h i v
  pointwise [lead, A_main_v0, states]

/-- Chunk by chunk, `u`. -/
theorem arg2 : lead (A_main_v2 (F := Ideal) u w q k a e st d) p = rows u p := by
  funext h i v
  pointwise [lead, A_main_v2, A_main_v1, rows]
  exact congrArg u (congrArg₂ ix2 (Fin.ext (by simp; omega)) (Fin.ext (by simp; omega)))

/-- Chunk by chunk, `w`. -/
theorem arg4 : lead (A_main_v4 (F := Ideal) u w q k a e st d) p = rows w p := by
  funext h i v
  pointwise [lead, A_main_v4, A_main_v3, rows]
  exact congrArg w (congrArg₂ ix2 (Fin.ext (by simp; omega)) (Fin.ext (by simp; omega)))

/-- Chunk by chunk, `qe`. -/
theorem arg6 : lead (A_main_v6 (F := Ideal) u w q k a e st d) p = rows q p := by
  funext h i v
  pointwise [lead, A_main_v6, A_main_v5, rows]
  exact congrArg q (congrArg₂ ix2 (Fin.ext (by simp; omega)) (Fin.ext (by simp; omega)))

/-- Chunk by chunk, `kd`. -/
theorem arg8 : lead (A_main_v8 (F := Ideal) u w q k a e st d) p = rows k p := by
  funext h i v
  pointwise [lead, A_main_v8, A_main_v7, rows]
  exact congrArg k (congrArg₂ ix2 (Fin.ext (by simp; omega)) (Fin.ext (by simp; omega)))

/-- Chunk by chunk, `qk`. -/
theorem arg10 : lead (A_main_v10 (F := Ideal) u w q k a e st d) p = squares a p := by
  funext h i v
  pointwise [lead, A_main_v10, A_main_v9, squares]
  exact congrArg a (congrArg (fun y => ix3 h y v) (Fin.ext (by simp; omega)))

/-- Chunk by chunk, the decays. -/
theorem arg11 : lead (A_main_v11 (F := Ideal) u w q k a e st d) p = decays e p := by
  funext h i v
  obtain rfl : i = 0 := Subsingleton.elim _ _
  pointwise [lead, A_main_v11, decays]

/-- Chunk by chunk, the cotangent. -/
theorem arg14 : lead (A_main_v14 (F := Ideal) u w q k a e st d) p = rows d p := by
  funext h i v
  pointwise [lead, A_main_v14, A_main_v13, rows]
  exact congrArg d (congrArg₂ ix2 (Fin.ext (by simp; omega)) (Fin.ext (by simp; omega)))

/-- An array filled trip by trip, each trip its own chunk, is whole after sixty-four trips. -/
theorem filled {T : Type} (f : ℕ → Fin 64 → T) (g : Fin 64 → T)
    (h : ∀ (n : ℕ) (hn : n < 64) (q : Fin 64), f (n + 1) q = if q = at' ⟨n, hn⟩ then g (at' ⟨n, hn⟩) else f n q) :
    f 64 = g := by
  have key : ∀ n, n ≤ 64 → ∀ q : Fin 64, 64 - n ≤ q.val → f n q = g q := by
    intro n
    induction n with
    | zero => intro _ q hq; omega
    | succ n ih =>
      intro hn q hq
      rw [h n (by omega) q]
      split
      · rename_i he; rw [he]
      · rename_i hne
        refine ih (by omega) q ?_
        have : q.val ≠ 63 - n := fun hv => hne (Fin.ext hv)
        omega
  funext q
  exact key 64 (le_refl _) q (by omega)

variable (m : (ℓ : Loc nD τ sig) → Buf (Elt Ideal) ℓ) (ρ : Dev nD → PrngReg) (c : Dev nD)

/-- The chunks of the reference's arguments. -/
def data : Chunks := chunks (m (c.tc.loc main_arg0)) (m (c.tc.loc main_arg1))
  (m (c.tc.loc main_arg2)) (m (c.tc.loc main_arg3)) (m (c.tc.loc main_arg4))
  (m (c.tc.loc main_arg5)) (m (c.tc.loc main_arg6)) (m (c.tc.loc main_arg7))

/-- No trip changes the states. -/
theorem kept0 (q : Fin 64) : ∀ n, lead (after m c n).main_v21_0 q = (data m c).s q
  | 0 => arg0
      (m (c.tc.loc main_arg0)) (m (c.tc.loc main_arg1)) (m (c.tc.loc main_arg2))
      (m (c.tc.loc main_arg3)) (m (c.tc.loc main_arg4)) (m (c.tc.loc main_arg5))
      (m (c.tc.loc main_arg6)) (m (c.tc.loc main_arg7)) q
  | n + 1 => kept0 q n

/-- No trip changes `u`. -/
theorem kept1 (q : Fin 64) : ∀ n, lead (after m c n).main_v21_1 q = (data m c).u q
  | 0 => arg2
      (m (c.tc.loc main_arg0)) (m (c.tc.loc main_arg1)) (m (c.tc.loc main_arg2))
      (m (c.tc.loc main_arg3)) (m (c.tc.loc main_arg4)) (m (c.tc.loc main_arg5))
      (m (c.tc.loc main_arg6)) (m (c.tc.loc main_arg7)) q
  | n + 1 => kept1 q n

/-- No trip changes `w`. -/
theorem kept2 (q : Fin 64) : ∀ n, lead (after m c n).main_v21_2 q = (data m c).w q
  | 0 => arg4
      (m (c.tc.loc main_arg0)) (m (c.tc.loc main_arg1)) (m (c.tc.loc main_arg2))
      (m (c.tc.loc main_arg3)) (m (c.tc.loc main_arg4)) (m (c.tc.loc main_arg5))
      (m (c.tc.loc main_arg6)) (m (c.tc.loc main_arg7)) q
  | n + 1 => kept2 q n

/-- No trip changes `qe`. -/
theorem kept3 (q : Fin 64) : ∀ n, lead (after m c n).main_v21_3 q = (data m c).q q
  | 0 => arg6
      (m (c.tc.loc main_arg0)) (m (c.tc.loc main_arg1)) (m (c.tc.loc main_arg2))
      (m (c.tc.loc main_arg3)) (m (c.tc.loc main_arg4)) (m (c.tc.loc main_arg5))
      (m (c.tc.loc main_arg6)) (m (c.tc.loc main_arg7)) q
  | n + 1 => kept3 q n

/-- No trip changes `kd`. -/
theorem kept4 (q : Fin 64) : ∀ n, lead (after m c n).main_v21_4 q = (data m c).k q
  | 0 => arg8
      (m (c.tc.loc main_arg0)) (m (c.tc.loc main_arg1)) (m (c.tc.loc main_arg2))
      (m (c.tc.loc main_arg3)) (m (c.tc.loc main_arg4)) (m (c.tc.loc main_arg5))
      (m (c.tc.loc main_arg6)) (m (c.tc.loc main_arg7)) q
  | n + 1 => kept4 q n

/-- No trip changes `qk`. -/
theorem kept5 (q : Fin 64) : ∀ n, lead (after m c n).main_v21_5 q = (data m c).a q
  | 0 => arg10
      (m (c.tc.loc main_arg0)) (m (c.tc.loc main_arg1)) (m (c.tc.loc main_arg2))
      (m (c.tc.loc main_arg3)) (m (c.tc.loc main_arg4)) (m (c.tc.loc main_arg5))
      (m (c.tc.loc main_arg6)) (m (c.tc.loc main_arg7)) q
  | n + 1 => kept5 q n

/-- No trip changes the decays. -/
theorem kept6 (q : Fin 64) : ∀ n, lead (after m c n).main_v21_6 q = (data m c).e q
  | 0 => arg11
      (m (c.tc.loc main_arg0)) (m (c.tc.loc main_arg1)) (m (c.tc.loc main_arg2))
      (m (c.tc.loc main_arg3)) (m (c.tc.loc main_arg4)) (m (c.tc.loc main_arg5))
      (m (c.tc.loc main_arg6)) (m (c.tc.loc main_arg7)) q
  | n + 1 => kept6 q n

/-- No trip changes the cotangent. -/
theorem kept7 (q : Fin 64) : ∀ n, lead (after m c n).main_v21_7 q = (data m c).d q
  | 0 => arg14
      (m (c.tc.loc main_arg0)) (m (c.tc.loc main_arg1)) (m (c.tc.loc main_arg2))
      (m (c.tc.loc main_arg3)) (m (c.tc.loc main_arg4)) (m (c.tc.loc main_arg5))
      (m (c.tc.loc main_arg6)) (m (c.tc.loc main_arg7)) q
  | n + 1 => kept7 q n

/-- The carried cotangent after `n` trips. -/
theorem carried : ∀ n, n ≤ 64 → at3 (after m c n).main_v21_9 = (data m c).carry n
  | 0, _ => by
    funext h i v
    show at3 (K_main_v12 (F := Ideal)) h i v = 0
    pointwise [at3, K_main_v12, K_main_cst]
  | n + 1, hn => by
    have ih := carried n (by omega)
    show at3 (b74 (⟨n, by omega⟩ : Fin 64).val (after m c n)) = _
    rw [value74, ih, kept2, kept3, kept4, kept5, kept6, kept7]
    rfl

/-- The cotangent of the state that the chunk of trip `n` leaves is what is carried into the trip. -/
theorem cot_at (n : ℕ) (hn : n < 64) : (data m c).cot (at' ⟨n, hn⟩) = at3 (after m c n).main_v21_9 := by
  rw [carried m c n (by omega)]
  show (data m c).carry (63 - (63 - n)) = _
  rw [show 63 - (63 - n) = n by omega]

/-- After the last trip the gradient of `u` is in place. -/
theorem whole10 : lead (after m c 64).main_v21_10 = (data m c).du := by
  refine filled (fun n => lead (after m c n).main_v21_10) _ fun n hn q => ?_
  refine (write10 (after m c n) ⟨n, hn⟩ q).trans ?_
  rw [value65, kept4, kept5, kept7]
  simp only [Chunks.du, cot_at m c n hn]

/-- After the last trip the gradient of `w` is in place. -/
theorem whole11 : lead (after m c 64).main_v21_11 = (data m c).dw := by
  refine filled (fun n => lead (after m c n).main_v21_11) _ fun n hn q => ?_
  refine (write11 (after m c n) ⟨n, hn⟩ q).trans ?_
  rw [value75, kept0, kept4, kept5, kept7]
  simp only [Chunks.dw, Chunks.du, cot_at m c n hn]

/-- After the last trip the gradient of `qe` is in place. -/
theorem whole12 : lead (after m c 64).main_v21_12 = (data m c).dq := by
  refine filled (fun n => lead (after m c n).main_v21_12) _ fun n hn q => ?_
  refine (write12 (after m c n) ⟨n, hn⟩ q).trans ?_
  rw [value70, kept0, kept7]
  simp only [Chunks.dq]

/-- After the last trip the gradient of `kd` is in place. -/
theorem whole13 : lead (after m c 64).main_v21_13 = (data m c).dk := by
  refine filled (fun n => lead (after m c n).main_v21_13) _ fun n hn q => ?_
  refine (write13 (after m c n) ⟨n, hn⟩ q).trans ?_
  rw [value56, kept0, kept1, kept2]
  simp only [Chunks.dk, Chunks.n, cot_at m c n hn]

/-- After the last trip the gradient of `qk` is in place. -/
theorem whole14 : lead (after m c 64).main_v21_14 = (data m c).da := by
  refine filled (fun n => lead (after m c n).main_v21_14) _ fun n hn q => ?_
  refine (write14 (after m c n) ⟨n, hn⟩ q).trans ?_
  rw [value66, kept0, kept1, kept2, kept7]
  simp only [Chunks.da, Chunks.n]

/-- After the last trip the gradient of the decays is in place. -/
theorem whole15 : lead (after m c 64).main_v21_15 = (data m c).de := by
  refine filled (fun n => lead (after m c n).main_v21_15) _ fun n hn q => ?_
  refine (write15 (after m c n) ⟨n, hn⟩ q).trans ?_
  rw [value60, kept0]
  simp only [Chunks.de, cot_at m c n hn]

/-- A result array from its chunks. -/
theorem result23 (s : State Ideal) : R_main_v23 s = unrows (lead s.main_v21_10) := by
  funext y
  pointwise [R_main_v23, unrows, lead]

/-- A result array from its chunks. -/
theorem result25 (s : State Ideal) : R_main_v25 s = unrows (lead s.main_v21_11) := by
  funext y
  pointwise [R_main_v25, unrows, lead]

/-- A result array from its chunks. -/
theorem result27 (s : State Ideal) : R_main_v27 s = unrows (lead s.main_v21_12) := by
  funext y
  pointwise [R_main_v27, unrows, lead]

/-- A result array from its chunks. -/
theorem result29 (s : State Ideal) : R_main_v29 s = unrows (lead s.main_v21_13) := by
  funext y
  pointwise [R_main_v29, unrows, lead]

/-- A result array from its chunks. -/
theorem result31 (s : State Ideal) : R_main_v31 s = unsquares (lead s.main_v21_14) := by
  funext y
  pointwise [R_main_v31, unsquares, lead]

/-- A result array from its chunks. -/
theorem result32 (s : State Ideal) : R_main_v32 s = undecays (lead s.main_v21_15) := by
  funext y
  pointwise [R_main_v32, undecays, lead]
  exact congrArg (fun z : Fin 1 => s.main_v21_15 (ix4 (y 1) (y 0) z (y 3))) (Subsingleton.elim _ _)

/-- The run: the six gradients of the argument arrays, which stay as they were. -/
theorem run : θ_run defs (onTc (τ := τ) (main (F := Ideal))) ⟨m, fun _ => 0, ρ⟩ fun r => ∀ c : Dev nD,
      r.2.mem (c.tc.loc main_v23) = unrows (data m c).du
      ∧ r.2.mem (c.tc.loc main_v25) = unrows (data m c).dw
      ∧ r.2.mem (c.tc.loc main_v27) = unrows (data m c).dq
      ∧ r.2.mem (c.tc.loc main_v29) = unrows (data m c).dk
      ∧ r.2.mem (c.tc.loc main_v31) = unsquares (data m c).da
      ∧ r.2.mem (c.tc.loc main_v32) = undecays (data m c).de
      ∧ r.2.mem (c.tc.loc main_arg0) = m (c.tc.loc main_arg0)
      ∧ r.2.mem (c.tc.loc main_arg1) = m (c.tc.loc main_arg1)
      ∧ r.2.mem (c.tc.loc main_arg2) = m (c.tc.loc main_arg2)
      ∧ r.2.mem (c.tc.loc main_arg3) = m (c.tc.loc main_arg3)
      ∧ r.2.mem (c.tc.loc main_arg4) = m (c.tc.loc main_arg4)
      ∧ r.2.mem (c.tc.loc main_arg5) = m (c.tc.loc main_arg5)
      ∧ r.2.mem (c.tc.loc main_arg6) = m (c.tc.loc main_arg6)
      ∧ r.2.mem (c.tc.loc main_arg7) = m (c.tc.loc main_arg7) := by
  refine (θ_run defs _ _).mono (fun r h c => ?_) (Value.run m ρ)
  obtain ⟨h0, h1, h2, h3, h4, h5, hk⟩ := h c
  have e := (held_after m c 64).2
  have e0 := (show Value.out_main_v23 _ = R_main_v23 (held _) from rfl).trans ((congrArg R_main_v23 e).trans ((result23 _).trans (congrArg _ (whole10 m c))))
  have e1 := (show Value.out_main_v25 _ = R_main_v25 (held _) from rfl).trans ((congrArg R_main_v25 e).trans ((result25 _).trans (congrArg _ (whole11 m c))))
  have e2 := (show Value.out_main_v27 _ = R_main_v27 (held _) from rfl).trans ((congrArg R_main_v27 e).trans ((result27 _).trans (congrArg _ (whole12 m c))))
  have e3 := (show Value.out_main_v29 _ = R_main_v29 (held _) from rfl).trans ((congrArg R_main_v29 e).trans ((result29 _).trans (congrArg _ (whole13 m c))))
  have e4 := (show Value.out_main_v31 _ = R_main_v31 (held _) from rfl).trans ((congrArg R_main_v31 e).trans ((result31 _).trans (congrArg _ (whole14 m c))))
  have e5 := (show Value.out_main_v32 _ = R_main_v32 (held _) from rfl).trans ((congrArg R_main_v32 e).trans ((result32 _).trans (congrArg _ (whole15 m c))))
  exact ⟨h0.trans e0, h1.trans e1, h2.trans e2, h3.trans e3, h4.trans e4, h5.trans e5, hk⟩

end Cert.ReferenceIdeal.Scan

end
-- ==== Proof.FfnSpec.lean ====
/-
  A feed-forward layer with the projection before it and the squared-error head after it, over extended reals: its
  values, its loss and the gradients of the loss, as plain functions of matrices.
-/
module

public import Idealize.ShloMosaic.Lib.Pointwise

@[expose] public section

noncomputable section

namespace Cert.Ffn

open Idealize.ShloMosaic

/-- A matrix over extended reals. -/
abbrev Mat (a b : ℕ) : Type := Fin a → Fin b → EReal

variable {a b k : ℕ}

/-- The product of two matrices. -/
def dot (x : Mat a k) (y : Mat k b) : Mat a b := fun i j => ∑ l, x i l * y l j

/-- The product with the second matrix transposed. -/
def dotT (x : Mat a k) (y : Mat b k) : Mat a b := fun i j => ∑ l, x i l * y j l

/-- The product with the first matrix transposed. -/
def tDot (x : Mat k a) (y : Mat k b) : Mat a b := fun i j => ∑ l, x l i * y l j

/-- The width of a row, 1024. -/
def width : EReal := Ideal.ofBits .f32 0x44800000#32
/-- The reciprocal of the width. -/
def recip : EReal := Ideal.ofBits .f32 0x3A800000#32
/-- The constant added under the root. -/
def eps : EReal := Ideal.ofBits .f32 0x358637BD#32
/-- One half. -/
def half : EReal := Ideal.ofBits .f32 0x3F000000#32
/-- Minus one half. -/
def negHalf : EReal := Ideal.ofBits .f32 0xBF000000#32

/-- The mean square of a row, with the constant. -/
def spread (x : Fin 1024 → EReal) : EReal := Ideal.div (∑ l, x l * x l) width + eps

/-- A row over the root of its mean square. -/
def unit (x : Fin 1024 → EReal) (j : Fin 1024) : EReal := x j * Ideal.rsqrt (spread x)

/-- The rows over the roots of their mean squares, times the gains. -/
def norm (x : Mat a 1024) (g : Fin 1024 → EReal) : Mat a 1024 := fun i j => unit (x i) j * g j

/-- What a row's cotangent `q` gives through the mean square, per entry of the row. -/
def through (x q : Fin 1024 → EReal) : EReal :=
  Ideal.div ((∑ l, x l * q l) * (negHalf * Ideal.div (Ideal.rsqrt (spread x)) (spread x))) width

/-- The cotangent `d` of the normalised rows, drawn back to the rows. -/
def normBack (x : Mat a 1024) (g : Fin 1024 → EReal) (d : Mat a 1024) : Mat a 1024 := fun i j =>
  d i j * g j * Ideal.rsqrt (spread (x i)) + x i j * through (x i) (fun l => d i l * g l) +
    through (x i) (fun l => d i l * g l) * x i j

/-- The gate's activation. -/
def silu (t : EReal) : EReal := t * Ideal.logistic t

/-- The gate's activation drawn back: the cotangent `d` of `silu t` as a cotangent of `t`. -/
def siluBack (t d : EReal) : EReal := d * Ideal.logistic t + t * d * (Ideal.logistic t * (1 - Ideal.logistic t))

/-- The arrays of one layer of `n` hidden columns. -/
structure Layer (n : ℕ) where
  /-- The rows entering. -/
  x : Mat 4096 1024
  /-- The rows to be projected. -/
  merged : Mat 4096 1024
  /-- The projection. -/
  wo : Mat 1024 1024
  /-- The gains. -/
  g : Fin 1024 → EReal
  /-- The gate's weights. -/
  wg : Mat 1024 n
  /-- The hidden columns' weights. -/
  wu : Mat 1024 n
  /-- The weights back. -/
  wd : Mat n 1024
  /-- The rows aimed at. -/
  target : Mat 4096 1024

namespace Layer

variable {n n' : ℕ} (L : Layer n)

/-- The rows after the projection. -/
def x1 : Mat 4096 1024 := fun i j => L.x i j + dot L.merged L.wo i j
/-- The normalised rows. -/
def h2 : Mat 4096 1024 := norm L.x1 L.g
/-- The gate's columns. -/
def gate : Mat 4096 n := dot L.h2 L.wg
/-- The hidden columns. -/
def up : Mat 4096 n := dot L.h2 L.wu
/-- The gated columns. -/
def act : Mat 4096 n := fun i f => silu (L.gate i f) * L.up i f
/-- The rows leaving, less the rows aimed at. -/
def diff : Mat 4096 1024 := fun i j => L.x1 i j + dot L.act L.wd i j - L.target i j
/-- Half the mean squared error, summed over the rows. -/
def loss : EReal := half * ∑ i, Ideal.div (∑ j, L.diff i j * L.diff i j) width
/-- The gradient by the rows leaving. -/
def dy : Mat 4096 1024 := fun i j => L.diff i j * recip
/-- The gradient by the gated columns. -/
def dact : Mat 4096 n := dotT L.dy L.wd
/-- The gradient by the gate's columns. -/
def dgate : Mat 4096 n := fun i f => siluBack (L.gate i f) (L.dact i f * L.up i f)
/-- The gradient by the hidden columns. -/
def dup : Mat 4096 n := fun i f => silu (L.gate i f) * L.dact i f
/-- The gradient by the normalised rows. -/
def dh2 : Mat 4096 1024 := fun i j => dotT L.dgate L.wg i j + dotT L.dup L.wu i j
/-- The gradient by the rows after the projection, which is that by the rows entering. -/
def dx1 : Mat 4096 1024 := fun i j => normBack L.x1 L.g L.dh2 i j + L.dy i j
/-- The gradient by the gains. -/
def dg : Fin 1024 → EReal := fun j => ∑ i, unit (L.x1 i) j * L.dh2 i j
/-- The gradient by the projection. -/
def dwo : Mat 1024 1024 := tDot L.merged L.dx1
/-- The gradient by the gate's weights. -/
def dwg : Mat 1024 n := tDot L.h2 L.dgate
/-- The gradient by the hidden columns' weights. -/
def dwu : Mat 1024 n := tDot L.h2 L.dup
/-- The gradient by the weights back. -/
def dwd : Mat n 1024 := tDot L.act L.dy

/-- `L'` is `L` with further hidden columns of zero weights, column `f` of `L` being its column `e f`. -/
structure Pads (e : Fin n → Fin n') (L : Layer n) (L' : Layer n') : Prop where
  inj : Function.Injective e
  x : L'.x = L.x
  merged : L'.merged = L.merged
  wo : L'.wo = L.wo
  g : L'.g = L.g
  target : L'.target = L.target
  wg : ∀ i f, L'.wg i (e f) = L.wg i f
  wu : ∀ i f, L'.wu i (e f) = L.wu i f
  wd : ∀ f j, L'.wd (e f) j = L.wd f j
  wg0 : ∀ i f, f ∉ Set.range e → L'.wg i f = 0
  wu0 : ∀ i f, f ∉ Set.range e → L'.wu i f = 0
  wd0 : ∀ f j, f ∉ Set.range e → L'.wd f j = 0

variable {L} {e : Fin n → Fin n'} {L' : Layer n'}

namespace Pads

variable (p : Pads e L L')
include p

theorem x1 : L'.x1 = L.x1 := by unfold Layer.x1; rw [p.x, p.merged, p.wo]

theorem h2 : L'.h2 = L.h2 := by unfold Layer.h2; rw [p.x1, p.g]

theorem gate (i : Fin 4096) (f : Fin n) : L'.gate i (e f) = L.gate i f := by
  unfold Layer.gate dot; rw [p.h2]; simp only [p.wg]

theorem up (i : Fin 4096) (f : Fin n) : L'.up i (e f) = L.up i f := by
  unfold Layer.up dot; rw [p.h2]; simp only [p.wu]

theorem act (i : Fin 4096) (f : Fin n) : L'.act i (e f) = L.act i f := by
  unfold Layer.act; rw [p.gate, p.up]

/-- A sum over the hidden columns whose terms off `L`'s columns vanish is the sum over `L`'s columns. -/
theorem sum (s : Fin n → EReal) (s' : Fin n' → EReal) (h : ∀ f, s' (e f) = s f) (h0 : ∀ f, f ∉ Set.range e → s' f = 0) :
    ∑ f, s' f = ∑ f, s f :=
  (Fintype.sum_of_injective e p.inj s s' h0 fun f => (h f).symm).symm

theorem diff : L'.diff = L.diff := by
  funext i j
  unfold Layer.diff dot
  rw [p.x1, p.target, p.sum (fun f => L.act i f * L.wd f j) (fun f => L'.act i f * L'.wd f j)
    (fun f => by rw [p.act, p.wd]) (fun f h => by rw [p.wd0 f j h, mul_zero])]

theorem loss : L'.loss = L.loss := by unfold Layer.loss; rw [p.diff]

theorem dy : L'.dy = L.dy := by unfold Layer.dy; rw [p.diff]

theorem dact (i : Fin 4096) (f : Fin n) : L'.dact i (e f) = L.dact i f := by
  unfold Layer.dact dotT; rw [p.dy]; simp only [p.wd]

theorem dgate (i : Fin 4096) (f : Fin n) : L'.dgate i (e f) = L.dgate i f := by
  unfold Layer.dgate; rw [p.gate, p.up, p.dact]

theorem dup (i : Fin 4096) (f : Fin n) : L'.dup i (e f) = L.dup i f := by
  unfold Layer.dup; rw [p.gate, p.dact]

theorem dh2 : L'.dh2 = L.dh2 := by
  funext i j
  unfold Layer.dh2 dotT
  rw [p.sum (fun f => L.dgate i f * L.wg j f) (fun f => L'.dgate i f * L'.wg j f)
      (fun f => by rw [p.dgate, p.wg]) (fun f h => by rw [p.wg0 j f h, mul_zero]),
    p.sum (fun f => L.dup i f * L.wu j f) (fun f => L'.dup i f * L'.wu j f)
      (fun f => by rw [p.dup, p.wu]) (fun f h => by rw [p.wu0 j f h, mul_zero])]

theorem dx1 : L'.dx1 = L.dx1 := by unfold Layer.dx1; rw [p.x1, p.g, p.dh2, p.dy]

theorem dg : L'.dg = L.dg := by unfold Layer.dg; rw [p.x1, p.dh2]

theorem dwo : L'.dwo = L.dwo := by unfold Layer.dwo; rw [p.merged, p.dx1]

theorem dwg (i : Fin 1024) (f : Fin n) : L'.dwg i (e f) = L.dwg i f := by
  unfold Layer.dwg tDot; rw [p.h2]; simp only [p.dgate]

theorem dwu (i : Fin 1024) (f : Fin n) : L'.dwu i (e f) = L.dwu i f := by
  unfold Layer.dwu tDot; rw [p.h2]; simp only [p.dup]

theorem dwd (f : Fin n) (j : Fin 1024) : L'.dwd (e f) j = L.dwd f j := by
  unfold Layer.dwd tDot; rw [p.dy]; simp only [p.act]

end Pads

end Layer

/-! ## Arrays as matrices -/

/-- An array of two axes as a matrix. -/
def mat (φ : FTy) (x : FVec Ideal (⟨2, ![a, b]⟩ : Shape) φ) : Mat a b := fun i j => x (ix2 i j)

/-- A matrix as an array. -/
def arr (φ : FTy) (f : Mat a b) : FVec Ideal (⟨2, ![a, b]⟩ : Shape) φ := fun y => f (y 0) (y 1)

/-- The column blocks of an array of three axes, side by side, as a matrix. -/
def cols (φ : FTy) (x : FVec Ideal (⟨3, ![8, 1024, 384]⟩ : Shape) φ) : Mat 1024 3072 := fun i f =>
  x (ix3 ⟨f.val / 384, by omega⟩ i ⟨f.val % 384, by omega⟩)

/-- A matrix cut into column blocks. -/
def uncols (φ : FTy) (f : Mat 1024 3072) : FVec Ideal (⟨3, ![8, 1024, 384]⟩ : Shape) φ := fun y =>
  f (y 1) ⟨384 * (y 0).val + (y 2).val, by have : (y 0).val < 8 := (y 0).isLt; have : (y 2).val < 384 := (y 2).isLt; omega⟩

/-- The layer of 2816 hidden columns of eight arrays. -/
def layerOf (x merged : FVec Ideal (⟨2, ![4096, 1024]⟩ : Shape) .f32) (wo : FVec Ideal (⟨2, ![1024, 1024]⟩ : Shape) .f32)
    (g : FVec Ideal (⟨2, ![1, 1024]⟩ : Shape) .f32) (wg wu : FVec Ideal (⟨2, ![1024, 2816]⟩ : Shape) .f32)
    (wd : FVec Ideal (⟨2, ![2816, 1024]⟩ : Shape) .f32) (target : FVec Ideal (⟨2, ![4096, 1024]⟩ : Shape) .f32) : Layer 2816 where
  x := mat .f32 x
  merged := mat .f32 merged
  wo := mat .f32 wo
  g := mat .f32 g 0
  wg := mat .f32 wg
  wu := mat .f32 wu
  wd := mat .f32 wd
  target := mat .f32 target

@[simp] theorem mat_arr (φ ψ : FTy) (f : Mat a b) : mat φ (arr ψ f) = f := rfl

/-- A matrix's array at an index of the coordinates `i` and `j`. -/
theorem arr_at (φ : FTy) (f : Mat a b) (z : (⟨2, ![a, b]⟩ : Shape).Idx) (i : Fin a) (j : Fin b)
    (hi : (z 0).val = i.val) (hj : (z 1).val = j.val) : arr φ f z = f i j := by
  unfold arr
  rw [show z 0 = i from Fin.ext hi, show z 1 = j from Fin.ext hj]

/-- An index of two axes, by its coordinates. -/
theorem eq_ix2 (y : (⟨2, ![a, b]⟩ : Shape).Idx) : ∃ (i : Fin a) (j : Fin b), y = ix2 i j :=
  ⟨y 0, y 1, funext fun x => by fin_cases x <;> rfl⟩

/-- A matrix cut into column blocks, at an index of row `i` and column `f`. -/
theorem uncols_at (φ : FTy) (m : Mat 1024 3072) (z : (⟨3, ![8, 1024, 384]⟩ : Shape).Idx) (i : Fin 1024) (f : Fin 3072)
    (hi : (z 1).val = i.val) (hf : 384 * (z 0).val + (z 2).val = f.val) : uncols φ m z = m i f :=
  congrArg₂ m (Fin.ext hi) (Fin.ext hf)

/-- An index of three axes of which the first has one entry, by its coordinates. -/
theorem eq_ix3 (y : (⟨3, ![1, a, b]⟩ : Shape).Idx) : ∃ (i : Fin a) (j : Fin b), y = ix3 0 i j :=
  ⟨y 1, y 2, funext fun x => by
    fin_cases x
    · exact Subsingleton.elim (α := Fin 1) _ _
    · rfl
    · rfl⟩

/-! ## Sums by blocks -/

/-- A value that takes one further term at each step holds the sum of the terms so far. -/
theorem accum {N : ℕ} (s : Fin N → EReal) (acc : (n : ℕ) → n < N → EReal) (h0 : ∀ h, acc 0 h = s ⟨0, h⟩)
    (hs : ∀ n h, acc (n + 1) h = acc n (Nat.lt_of_succ_lt h) + s ⟨n + 1, h⟩) :
    ∀ n h, acc n h = ∑ p : Fin (n + 1), s ⟨p.val, Nat.lt_of_lt_of_le p.isLt h⟩
  | 0, h => by rw [h0 h]; exact (Fin.sum_univ_one (fun p : Fin 1 => s ⟨p.val, Nat.lt_of_lt_of_le p.isLt h⟩)).symm
  | n + 1, h => by
    rw [hs n h, accum s acc h0 hs n _]
    exact (Fin.sum_univ_castSucc (fun p : Fin (n + 1 + 1) => s ⟨p.val, Nat.lt_of_lt_of_le p.isLt h⟩)).symm

/-- A sum of `p * q` terms, taken as `p` sums of `q` terms. -/
theorem sum_blocks (p q : ℕ) (f : Fin (p * q) → EReal) :
    ∑ i, f i = ∑ s : Fin p, ∑ r : Fin q, f (finProdFinEquiv (s, r)) := by
  rw [← Fintype.sum_prod_type']
  exact (Equiv.sum_comp finProdFinEquiv f).symm

theorem half_eq : half = ((1 / 2 : ℝ) : EReal) := by
  unfold half
  simp [Ideal.ofBits, Ideal.ieee, -EReal.coe_mul]; norm_num

/-- The halves of finitely many terms make the half of their sum. -/
theorem sum_half {ι : Type} [Fintype ι] (f : ι → EReal) : ∑ i, f i * half = half * ∑ i, f i := by
  rw [mul_comm half, half_eq]
  have h0 : (0 : EReal) ≤ ((1 / 2 : ℝ) : EReal) := by exact_mod_cast (by norm_num : (0 : ℝ) ≤ 1 / 2)
  induction (Finset.univ : Finset ι) using Finset.cons_induction with
  | empty => simp
  | cons a s ha ih => rw [Finset.sum_cons, Finset.sum_cons, ih, EReal.right_distrib_of_nonneg_of_ne_top h0 (EReal.coe_ne_top _)]

end Cert.Ffn

end
-- ==== Proof.FfnHost.lean ====
/-
  What the host prepares for the layer's calls, and what it makes of their results.
-/
module

public import proofs.«01_k».proof.Proof.Gen.Kernel2Ideal.Frame
public import proofs.«01_k».proof.Proof.FfnSpec
public import Idealize.ShloMosaic.Lib.StableHlo.ReadAt

@[expose] public section

set_option maxRecDepth 16384

noncomputable section

namespace Cert.Kernel2Ideal.Ffn

open Idealize.ShloMosaic Idealize.ShloMosaic.StableHlo Cert.Ffn Cert.Kernel2Ideal Cert.Kernel2Ideal.Gen

variable (V : Valuation τ sig (Elt Ideal))

/-- The buffers once the host has prepared the arguments of the calls. -/
abbrev prep : Valuation τ sig (Elt Ideal) :=
  after hostOps0_6 (after hostOps0_5 (after hostOps0_4 (after hostOps0_3 (after hostOps0_2 (after hostOps0_1 (after hostOps0 V))))))

theorem sitofp_zero : (FloatOps.sitofp (F := Ideal) FTy.f32 0#32 : EReal) = 0 := by
  simp [FloatOps.sitofp]

/-- The gate's weights are cut into eight column blocks, each widened from 352 to 384 columns by zeros. -/
theorem prep_v3 (d : Fin 8) (i : Fin 1024) (f : Fin 384) :
    (prep V (Proc.devRef .tc main_v3) : Vec Ideal S8x1024x384 .bf16) (ix3 d i f) =
      if h : f.val < 352 then (V (Proc.devRef .tc main_arg4) : Vec Ideal S1024x2816 .f32) (ix2 i ⟨d.val * 352 + f.val, by omega⟩) else (0 : EReal) := by
  rw [← sitofp_zero]
  after_reads_at

/-- So are the hidden columns' weights. -/
theorem prep_v7 (d : Fin 8) (i : Fin 1024) (f : Fin 384) :
    (prep V (Proc.devRef .tc main_v7) : Vec Ideal S8x1024x384 .bf16) (ix3 d i f) =
      if h : f.val < 352 then (V (Proc.devRef .tc main_arg5) : Vec Ideal S1024x2816 .f32) (ix2 i ⟨d.val * 352 + f.val, by omega⟩) else (0 : EReal) := by
  rw [← sitofp_zero]
  after_reads_at

/-- The weights back are cut into eight blocks of rows, each widened by zero rows. -/
theorem prep_v12 (f : Fin 3072) (j : Fin 1024) :
    (prep V (Proc.devRef .tc main_v12) : Vec Ideal S3072x1024 .bf16) (ix2 f j) =
      if h : f.val % 384 < 352 then (V (Proc.devRef .tc main_arg6) : Vec Ideal S2816x1024 .f32) (ix2 ⟨f.val / 384 * 352 + f.val % 384, by omega⟩ j)
      else (0 : EReal) := by
  rw [← sitofp_zero]
  after_reads_at
  have h8 : f.val / 384 < 8 := by omega
  simp only [h8, true_and]

theorem prep_v8 (i j : Fin 1024) :
    (prep V (Proc.devRef .tc main_v8) : Vec Ideal S1024x1024 .bf16) (ix2 i j) = (V (Proc.devRef .tc main_arg2) : Vec Ideal S1024x1024 .f32) (ix2 i j) := by
  after_reads_at

theorem prep_v13 (i : Fin 4096) (j : Fin 1024) :
    (prep V (Proc.devRef .tc main_v13) : Vec Ideal S4096x1024 .bf16) (ix2 i j) = (V (Proc.devRef .tc main_arg1) : Vec Ideal S4096x1024 .f32) (ix2 i j) := by
  after_reads_at

/-! ## The results -/

theorem fin_v26 (i j : Fin 1024) :
    (after hostOps9 V (Proc.devRef .tc main_v26) : Vec Ideal S1024x1024 .f32) (ix2 i j) = (V (Proc.devRef .tc main_v23) : Vec Ideal S1024x1024 .bf16) (ix2 i j) := by
  after_reads_at

theorem fin_v30 (i : Fin 1024) (f : Fin 2816) :
    (after hostOps9 V (Proc.devRef .tc main_v30) : Vec Ideal S1024x2816 .f32) (ix2 i f) =
      (V (Proc.devRef .tc main_v20) : Vec Ideal S8x1024x384 .bf16) (ix3 ⟨f.val / 352, by omega⟩ i ⟨f.val % 352, by omega⟩) := by
  after_reads_at

theorem fin_v34 (i : Fin 1024) (f : Fin 2816) :
    (after hostOps9 V (Proc.devRef .tc main_v34) : Vec Ideal S1024x2816 .f32) (ix2 i f) =
      (V (Proc.devRef .tc main_v21) : Vec Ideal S8x1024x384 .bf16) (ix3 ⟨f.val / 352, by omega⟩ i ⟨f.val % 352, by omega⟩) := by
  after_reads_at

theorem fin_v35 (f : Fin 2816) (j : Fin 1024) :
    (after hostOps9 V (Proc.devRef .tc main_v35) : Vec Ideal S2816x1024 .f32) (ix2 f j) =
      (V (Proc.devRef .tc main_v19) : Vec Ideal S8x384x1024 .bf16) (ix3 ⟨f.val / 352, by omega⟩ ⟨f.val % 352, by omega⟩ j) := by
  after_reads_at

theorem mid_v19 (d : Fin 8) (f : Fin 384) (j : Fin 1024) :
    (after hostOps5 V (Proc.devRef .tc main_v19) : Vec Ideal S8x384x1024 .bf16) (ix3 d f j) =
      (V (Proc.devRef .tc main_v18) : Vec Ideal S3072x1024 .bf16) (ix2 ⟨d.val * 384 + f.val, by omega⟩ j) := by
  after_reads_at

end Cert.Kernel2Ideal.Ffn
-- ==== Proof.FfnRegion0.lean ====
/-
  The projection and the normalisation: what the first call leaves in its two result arrays, from the arrays it finds.
-/
module

public import proofs.«01_k».proof.Proof.FfnSpec
public import proofs.«01_k».proof.Proof.Gen.Kernel2Ideal.Frame.Region0
public import Idealize.ShloMosaic.Lib.Pipeline.ValueKit.Geometry
public import Idealize.ShloMosaic.Lib.Pipeline.ValueKit.Acc

@[expose] public section

set_option maxRecDepth 16384

noncomputable section

namespace Cert.Kernel2Ideal.Ffn

open Idealize.ShloMosaic Idealize.ShloMosaic.TcCoe Idealize.ShloMosaic.Tactic Idealize.SL.Sem
open Cert.Kernel2Ideal.Gen Cert.Ffn

/-! ## The body's arithmetic -/

theorem k0_x1 (a : Vec Ideal S512x1024 .bf16) (b : Vec Ideal S1024x1024 .bf16) (x : Vec Ideal S512x1024 .f32)
    (i : Fin 512) (j : Fin 1024) :
    k0_pay1 a b x (ix2 i j) = x (ix2 i j) + ∑ k : Fin 1024, (a (ix2 i k) : EReal) * b (ix2 k j) := by
  pointwise [k0_pay1]

theorem k0_h2 (a : Vec Ideal S512x1024 .bf16) (b : Vec Ideal S1024x1024 .bf16) (x : Vec Ideal S512x1024 .f32)
    (g : Vec Ideal S1x1024 .f32) (i : Fin 512) (j : Fin 1024) :
    k0_pay2 a b x g (ix2 i j) = unit (fun l => k0_pay1 a b x (ix2 i l)) j * (g (ix2 0 j) : EReal) := by
  generalize h : k0_pay1 a b x = X
  pointwise [k0_pay2, h, unit, spread, width, eps]

variable (V : (c : Dev nD) → (b : Ref sig .tc) → Buf (Elt Ideal) ((c : Thread nD τ).loc b)) (c : Dev nD)

/-! ## The blocks read -/

theorem index0_0 : ∀ t : Fin cfg0.N, win0_0.index t = ![t.val, 0] := by
  change ∀ t : Fin grid0.N, _; decide +kernel
theorem index0_1 : ∀ t : Fin cfg0.N, win0_1.index t = ![0, 0] := by
  change ∀ t : Fin grid0.N, _; decide +kernel
theorem index0_2 : ∀ t : Fin cfg0.N, win0_2.index t = ![t.val, 0] := by
  change ∀ t : Fin grid0.N, _; decide +kernel
theorem index0_3 : ∀ t : Fin cfg0.N, win0_3.index t = ![0, 0] := by
  change ∀ t : Fin grid0.N, _; decide +kernel
theorem index0_4 : ∀ t : Fin cfg0.N, win0_4.index t = ![t.val, 0] := by
  change ∀ t : Fin grid0.N, _; decide +kernel
theorem index0_5 : ∀ t : Fin cfg0.N, win0_5.index t = ![t.val, 0] := by
  change ∀ t : Fin grid0.N, _; decide +kernel

/-- Row `r` of point `t`'s block of 512 rows. -/
def row0 (t : Fin cfg0.N) (r : Fin 512) : Fin 4096 := ⟨512 * t.val + r.val, by have := t.isLt; have : cfg0.N = 8 := N_0; omega⟩

theorem iblk0_0 (t : Fin cfg0.N) (r : Fin 512) (v : Fin 1024) : (iblk0 V c 0 t : Vec Ideal S512x1024 .bf16) (ix2 r v) =
    (V c main_v13 : Vec Ideal S4096x1024 .bf16) (ix2 (row0 t r) v) := by
  blk_simp [iblk0]
  refine congrArg (V c main_v13 : Vec Ideal S4096x1024 .bf16) ?_
  blk_ext [index0_0, row0]

theorem iblk0_1 (t : Fin cfg0.N) (r : Fin 1024) (v : Fin 1024) : (iblk0 V c 1 t : Vec Ideal S1024x1024 .bf16) (ix2 r v) =
    (V c main_v8 : Vec Ideal S1024x1024 .bf16) (ix2 r v) := by
  blk_simp [iblk0]
  refine congrArg (V c main_v8 : Vec Ideal S1024x1024 .bf16) ?_
  blk_ext [index0_1]

theorem iblk0_2 (t : Fin cfg0.N) (r : Fin 512) (v : Fin 1024) : (iblk0 V c 2 t : Vec Ideal S512x1024 .f32) (ix2 r v) =
    (V c main_arg0 : Vec Ideal S4096x1024 .f32) (ix2 (row0 t r) v) := by
  blk_simp [iblk0]
  refine congrArg (V c main_arg0 : Vec Ideal S4096x1024 .f32) ?_
  blk_ext [index0_2, row0]

theorem iblk0_3 (t : Fin cfg0.N) (r : Fin 1) (v : Fin 1024) : (iblk0 V c 3 t : Vec Ideal S1x1024 .f32) (ix2 r v) =
    (V c main_arg3 : Vec Ideal S1x1024 .f32) (ix2 r v) := by
  blk_simp [iblk0]
  refine congrArg (V c main_arg3 : Vec Ideal S1x1024 .f32) ?_
  blk_ext [index0_3]

/-! ## The result arrays -/

/-- The rows after the projection, from the arrays the call finds. -/
def rows1 : Mat 4096 1024 := fun i j => mat .f32 (V c main_arg0 : Vec Ideal S4096x1024 .f32) i j +
  dot (mat .bf16 (V c main_v13 : Vec Ideal S4096x1024 .bf16)) (mat .bf16 (V c main_v8 : Vec Ideal S1024x1024 .bf16)) i j

/-- A point's block of the projected rows. -/
theorem block_x1 (t : Fin cfg0.N) (i : Fin 512) (j : Fin 1024) :
    k0_pay1 (iblk0 V c 0 t) (iblk0 V c 1 t) (iblk0 V c 2 t) (ix2 i j) = rows1 V c (row0 t i) j := by
  refine (k0_x1 _ _ _ i j).trans ?_
  rw [iblk0_2]
  simp only [iblk0_0, iblk0_1]
  rfl

/-- Result 0 holds the projected rows. -/
theorem final0_4 : (dat0 V c).arrAt 4 cfg0.N = arr .f32 (rows1 V c) := by
  refine (dat0 V c).arrAt_eq_of_covers 4 _ (by decide +kernel) fun t hf y => ?_
  blk_simp
  rw [after0_4]; frame_out
  obtain ⟨i, j, rfl⟩ := eq_ix2 (a := 512) (b := 1024) y
  refine (block_x1 V c t i j).trans (arr_at _ _ _ (row0 t i) j ?_ ?_).symm
  all_goals (blk_simp [index0_4, row0]; try (dsimp only; omega))

/-- Result 1 holds their normalisation. -/
theorem final0_5 : (dat0 V c).arrAt 5 cfg0.N =
    arr .bf16 (norm (rows1 V c) (mat .f32 (V c main_arg3 : Vec Ideal S1x1024 .f32) 0)) := by
  refine (dat0 V c).arrAt_eq_of_covers 5 _ (by decide +kernel) fun t hf y => ?_
  blk_simp
  rw [after0_5]; frame_out
  obtain ⟨i, j, rfl⟩ := eq_ix2 (a := 512) (b := 1024) y
  refine Eq.trans ?_ (arr_at _ _ _ (row0 t i) j ?_ ?_).symm
  · refine (k0_h2 _ _ _ _ i j).trans ?_
    simp only [block_x1]
    rw [iblk0_3]
    rfl
  all_goals (blk_simp [index0_5, row0]; try (dsimp only; omega))

end Cert.Kernel2Ideal.Ffn

end
-- ==== Proof.FfnRegion1.lean ====
/-
  The gate's and the hidden columns: what the second call leaves in its three result arrays, from the arrays it finds.
-/
module

public import proofs.«01_k».proof.Proof.FfnSpec
public import proofs.«01_k».proof.Proof.Gen.Kernel2Ideal.Frame.Region1
public import Idealize.ShloMosaic.Lib.Pipeline.ValueKit.Geometry
public import Idealize.ShloMosaic.Lib.Pipeline.ValueKit.Acc
public import Idealize.ShloMosaic.Lib.Pipeline.ValueKit.Tiles

@[expose] public section

set_option maxRecDepth 16384

noncomputable section

namespace Cert.Kernel2Ideal.Ffn

open Idealize.ShloMosaic Idealize.ShloMosaic.TcCoe Idealize.ShloMosaic.Tactic Idealize.SL.Sem
open Cert.Kernel2Ideal.Gen Cert.Ffn

/-! ## The body's arithmetic -/

theorem k1_gate (a : Vec Ideal S1024x1024 .bf16) (b0 b1 : Vec Ideal S1x1024x384 .bf16) (i : Fin 1024) (j : Fin 768) :
    k1_pay1 a b0 b1 (ix2 i j) = ∑ x : Fin 1024, (a (ix2 i x) : EReal) *
      if h : j.val < 384 then b0 (ix3 0 x ⟨j.val, h⟩) else b1 (ix3 0 x ⟨j.val - 384, by omega⟩) := by
  pointwise [k1_pay1]

theorem k1_up (a : Vec Ideal S1024x1024 .bf16) (b0 b1 : Vec Ideal S1x1024x384 .bf16) (i : Fin 1024) (j : Fin 768) :
    k1_pay2 a b0 b1 (ix2 i j) = ∑ x : Fin 1024, (a (ix2 i x) : EReal) *
      if h : j.val < 384 then b0 (ix3 0 x ⟨j.val, h⟩) else b1 (ix3 0 x ⟨j.val - 384, by omega⟩) := by
  pointwise [k1_pay2]

theorem k1_act (a : Vec Ideal S1024x1024 .bf16) (b0 b1 : Vec Ideal S1x1024x384 .bf16) (a' : Vec Ideal S1024x1024 .bf16)
    (b0' b1' : Vec Ideal S1x1024x384 .bf16) (i : Fin 1024) (j : Fin 768) :
    k1_pay3 a b0 b1 a' b0' b1' (ix2 i j) = silu (k1_pay1 a b0 b1 (ix2 i j)) * k1_pay2 a' b0' b1' (ix2 i j) := by
  generalize h : k1_pay1 a b0 b1 = X
  generalize h' : k1_pay2 a' b0' b1' = Y
  pointwise [k1_pay3, h, h', silu]

/-- The first of two column blocks. -/
theorem ld_first (x : Vec Ideal S2x1024x384 .bf16) (i : Fin 1024) (j : Fin 384) :
    View.ld x r1_1 (ix3 0 i j) = x (ix3 0 i j) :=
  View.ld_unit_apply_of x _ _ _ _ (ix3 0 i j) fun a => match a with
    | ⟨0, _⟩ => rfl | ⟨1, _⟩ => (Nat.zero_add _).symm | ⟨2, _⟩ => (Nat.zero_add _).symm

/-- The second of two column blocks. -/
theorem ld_second (x : Vec Ideal S2x1024x384 .bf16) (i : Fin 1024) (j : Fin 384) :
    View.ld x r1_2 (ix3 0 i j) = x (ix3 1 i j) :=
  View.ld_unit_apply_of x _ _ _ _ (ix3 1 i j) fun a => match a with
    | ⟨0, _⟩ => rfl | ⟨1, _⟩ => (Nat.zero_add _).symm | ⟨2, _⟩ => (Nat.zero_add _).symm

variable (V : (c : Dev nD) → (b : Ref sig .tc) → Buf (Elt Ideal) ((c : Thread nD τ).loc b)) (c : Dev nD)

/-! ## The blocks read -/

theorem index1_0 : ∀ t : Fin cfg1.N, win1_0.index t = ![t.val % 4, 0] := by
  change ∀ t : Fin grid1.N, _; decide +kernel
theorem index1_1 : ∀ t : Fin cfg1.N, win1_1.index t = ![t.val / 4, 0, 0] := by
  change ∀ t : Fin grid1.N, _; decide +kernel
theorem index1_2 : ∀ t : Fin cfg1.N, win1_2.index t = ![t.val % 4, 0] := by
  change ∀ t : Fin grid1.N, _; decide +kernel
theorem index1_3 : ∀ t : Fin cfg1.N, win1_3.index t = ![t.val / 4, 0, 0] := by
  change ∀ t : Fin grid1.N, _; decide +kernel
theorem index1_4 : ∀ t : Fin cfg1.N, win1_4.index t = ![t.val % 4, t.val / 4] := by
  change ∀ t : Fin grid1.N, _; decide +kernel
theorem index1_5 : ∀ t : Fin cfg1.N, win1_5.index t = ![t.val % 4, t.val / 4] := by
  change ∀ t : Fin grid1.N, _; decide +kernel
theorem index1_6 : ∀ t : Fin cfg1.N, win1_6.index t = ![t.val % 4, t.val / 4] := by
  change ∀ t : Fin grid1.N, _; decide +kernel

/-- Row `r` of point `t`'s block of 1024 rows. -/
def row1 (t : Fin cfg1.N) (r : Fin 1024) : Fin 4096 :=
  ⟨1024 * (t.val % 4) + r.val, by have := t.isLt; have : cfg1.N = 16 := N_1; omega⟩

/-- Column `r` of point `t`'s block of 768 columns. -/
def col1 (t : Fin cfg1.N) (r : Fin 768) : Fin 3072 :=
  ⟨768 * (t.val / 4) + r.val, by have := t.isLt; have : cfg1.N = 16 := N_1; omega⟩

/-- Of point `t`'s two column blocks, the one of number `r`. -/
def cut1 (t : Fin cfg1.N) (r : Fin 2) : Fin 8 :=
  ⟨2 * (t.val / 4) + r.val, by have := t.isLt; have : cfg1.N = 16 := N_1; omega⟩

theorem iblk1_0 (t : Fin cfg1.N) (r : Fin 1024) (v : Fin 1024) : (iblk1 V c 0 t : Vec Ideal S1024x1024 .bf16) (ix2 r v) =
    (V c main_v14_1 : Vec Ideal S4096x1024 .bf16) (ix2 (row1 t r) v) := by
  blk_simp [iblk1]
  refine congrArg (V c main_v14_1 : Vec Ideal S4096x1024 .bf16) ?_
  blk_ext [index1_0, row1]

theorem iblk1_2 (t : Fin cfg1.N) (r : Fin 1024) (v : Fin 1024) : (iblk1 V c 2 t : Vec Ideal S1024x1024 .bf16) (ix2 r v) =
    (V c main_v14_1 : Vec Ideal S4096x1024 .bf16) (ix2 (row1 t r) v) := by
  blk_simp [iblk1]
  refine congrArg (V c main_v14_1 : Vec Ideal S4096x1024 .bf16) ?_
  blk_ext [index1_2, row1]

theorem iblk1_1 (t : Fin cfg1.N) (r : Fin 2) (v : Fin 1024) (w : Fin 384) : (iblk1 V c 1 t : Vec Ideal S2x1024x384 .bf16) (ix3 r v w) =
    (V c main_v3 : Vec Ideal S8x1024x384 .bf16) (ix3 (cut1 t r) v w) := by
  blk_simp [iblk1]
  refine congrArg (V c main_v3 : Vec Ideal S8x1024x384 .bf16) ?_
  blk_ext [index1_1, cut1]

theorem iblk1_3 (t : Fin cfg1.N) (r : Fin 2) (v : Fin 1024) (w : Fin 384) : (iblk1 V c 3 t : Vec Ideal S2x1024x384 .bf16) (ix3 r v w) =
    (V c main_v7 : Vec Ideal S8x1024x384 .bf16) (ix3 (cut1 t r) v w) := by
  blk_simp [iblk1]
  refine congrArg (V c main_v7 : Vec Ideal S8x1024x384 .bf16) ?_
  blk_ext [index1_3, cut1]

/-- Two column blocks side by side are columns of the eight. -/
theorem side_by_side (t : Fin cfg1.N) (w : Vec Ideal S8x1024x384 .bf16) (x : Fin 1024) (j : Fin 768) :
    (if h : j.val < 384 then w (ix3 (cut1 t 0) x ⟨j.val, h⟩) else w (ix3 (cut1 t 1) x ⟨j.val - 384, by omega⟩)) =
      cols .bf16 w x (col1 t j) := by
  have hj := j.isLt
  unfold cols
  split
  · refine congrArg w (congrArg₂ (fun p q => ix3 p x q) (Fin.ext ?_) (Fin.ext ?_))
    all_goals (simp only [cut1, col1, Fin.val_zero]; omega)
  · refine congrArg w (congrArg₂ (fun p q => ix3 p x q) (Fin.ext ?_) (Fin.ext ?_))
    all_goals (simp only [cut1, col1, Fin.val_one]; omega)

/-! ## The result arrays -/

/-- A point's block of the gate's columns. -/
theorem block_gate (t : Fin cfg1.N) (i : Fin 1024) (j : Fin 768) :
    k1_pay1 (iblk1 V c 0 t) (View.ld (iblk1 V c 1 t) r1_1) (View.ld (iblk1 V c 1 t) r1_2) (ix2 i j) =
      dot (mat .bf16 (V c main_v14_1 : Vec Ideal S4096x1024 .bf16)) (cols .bf16 (V c main_v3 : Vec Ideal S8x1024x384 .bf16)) (row1 t i) (col1 t j) := by
  refine (k1_gate _ _ _ i j).trans (Finset.sum_congr rfl fun x _ => ?_)
  refine congrArg₂ (fun p q : EReal => p * q) (iblk1_0 V c t i x) (Eq.trans ?_ (side_by_side t _ x j))
  split
  · exact (ld_first _ _ _).trans (iblk1_1 V c t _ _ _)
  · exact (ld_second _ _ _).trans (iblk1_1 V c t _ _ _)

/-- A point's block of the hidden columns. -/
theorem block_up (t : Fin cfg1.N) (i : Fin 1024) (j : Fin 768) :
    k1_pay2 (iblk1 V c 2 t) (View.ld (iblk1 V c 3 t) r1_1) (View.ld (iblk1 V c 3 t) r1_2) (ix2 i j) =
      dot (mat .bf16 (V c main_v14_1 : Vec Ideal S4096x1024 .bf16)) (cols .bf16 (V c main_v7 : Vec Ideal S8x1024x384 .bf16)) (row1 t i) (col1 t j) := by
  refine (k1_up _ _ _ i j).trans (Finset.sum_congr rfl fun x _ => ?_)
  refine congrArg₂ (fun p q : EReal => p * q) (iblk1_2 V c t i x) (Eq.trans ?_ (side_by_side t _ x j))
  split
  · exact (ld_first _ _ _).trans (iblk1_3 V c t _ _ _)
  · exact (ld_second _ _ _).trans (iblk1_3 V c t _ _ _)

/-- Result 0 holds the gate's columns. -/
theorem final1_4 : (dat1 V c).arrAt 4 cfg1.N = arr .f32 (dot (mat .bf16 (V c main_v14_1 : Vec Ideal S4096x1024 .bf16)) (cols .bf16 (V c main_v3 : Vec Ideal S8x1024x384 .bf16))) := by
  refine (dat1 V c).arrAt_eq_of_covers 4 _ (by decide +kernel) fun t hf y => ?_
  blk_simp
  rw [after1_4]; frame_out
  obtain ⟨i, j, rfl⟩ := eq_ix2 (a := 1024) (b := 768) y
  refine Eq.trans ?_ (arr_at _ _ _ (row1 t i) (col1 t j) ?_ ?_).symm
  · exact block_gate V c t i j
  all_goals (blk_simp [index1_4, row1, col1]; try (dsimp only; omega))

/-- Result 1 holds the hidden columns. -/
theorem final1_5 : (dat1 V c).arrAt 5 cfg1.N = arr .f32 (dot (mat .bf16 (V c main_v14_1 : Vec Ideal S4096x1024 .bf16)) (cols .bf16 (V c main_v7 : Vec Ideal S8x1024x384 .bf16))) := by
  refine (dat1 V c).arrAt_eq_of_covers 5 _ (by decide +kernel) fun t hf y => ?_
  blk_simp
  rw [after1_5]; frame_out
  obtain ⟨i, j, rfl⟩ := eq_ix2 (a := 1024) (b := 768) y
  refine Eq.trans ?_ (arr_at _ _ _ (row1 t i) (col1 t j) ?_ ?_).symm
  · exact block_up V c t i j
  all_goals (blk_simp [index1_5, row1, col1]; try (dsimp only; omega))

/-- Result 2 holds the gated columns. -/
theorem final1_6 : (dat1 V c).arrAt 6 cfg1.N = arr .bf16 (fun i f =>
    silu (dot (mat .bf16 (V c main_v14_1 : Vec Ideal S4096x1024 .bf16)) (cols .bf16 (V c main_v3 : Vec Ideal S8x1024x384 .bf16)) i f) *
    dot (mat .bf16 (V c main_v14_1 : Vec Ideal S4096x1024 .bf16)) (cols .bf16 (V c main_v7 : Vec Ideal S8x1024x384 .bf16)) i f) := by
  refine (dat1 V c).arrAt_eq_of_covers 6 _ (by decide +kernel) fun t hf y => ?_
  blk_simp
  rw [after1_6]; frame_out
  obtain ⟨i, j, rfl⟩ := eq_ix2 (a := 1024) (b := 768) y
  refine Eq.trans ?_ (arr_at _ _ _ (row1 t i) (col1 t j) ?_ ?_).symm
  · exact (k1_act _ _ _ _ _ _ i j).trans (congrArg₂ (fun p q : EReal => silu p * q) (block_gate V c t i j) (block_up V c t i j))
  all_goals (blk_simp [index1_6, row1, col1]; try (dsimp only; omega))

end Cert.Kernel2Ideal.Ffn

end
-- ==== Proof.FfnRegion2.lean ====
/-
  The rows leaving and the squared error: what the third call leaves in its three result arrays, from the arrays it finds.
-/
module

public import proofs.«01_k».proof.Proof.FfnSpec
public import proofs.«01_k».proof.Proof.Gen.Kernel2Ideal.Frame.Region2
public import Idealize.ShloMosaic.Lib.Pipeline.ValueKit.Geometry
public import Idealize.ShloMosaic.Lib.Pipeline.ValueKit.Acc

@[expose] public section

set_option maxRecDepth 16384

noncomputable section

namespace Cert.Kernel2Ideal.Ffn

open Idealize.ShloMosaic Idealize.ShloMosaic.TcCoe Idealize.ShloMosaic.Tactic Idealize.SL.Sem
open Cert.Kernel2Ideal.Gen Cert.Ffn

/-! ## The body's arithmetic -/

theorem k2_diff (a : Vec Ideal S512x3072 .bf16) (b : Vec Ideal S3072x1024 .bf16) (x y : Vec Ideal S512x1024 .f32)
    (i : Fin 512) (j : Fin 1024) :
    k2_pay1 a b x y (ix2 i j) = x (ix2 i j) + (∑ k : Fin 3072, (a (ix2 i k) : EReal) * b (ix2 k j)) - y (ix2 i j) := by
  pointwise [k2_pay1]

theorem k2_scaled (a : Vec Ideal S512x3072 .bf16) (b : Vec Ideal S3072x1024 .bf16) (x y : Vec Ideal S512x1024 .f32)
    (i : Fin 512) (j : Fin 1024) :
    k2_pay2 a b x y (ix2 i j) = (k2_pay1 a b x y (ix2 i j) : EReal) * recip := by
  generalize h : k2_pay1 a b x y = X
  pointwise [k2_pay2, h, recip]

theorem k2_rounded (a : Vec Ideal S512x3072 .bf16) (b : Vec Ideal S3072x1024 .bf16) (x y : Vec Ideal S512x1024 .f32)
    (i : Fin 512) (j : Fin 1024) :
    k2_pay3 a b x y (ix2 i j) = (k2_pay1 a b x y (ix2 i j) : EReal) * recip := by
  generalize h : k2_pay1 a b x y = X
  pointwise [k2_pay3, k2_pay2, h, recip]

theorem k2_zero : (k2_pay4 : FVec Ideal S1x1 .f32) (ix2 0 0) = (0 : EReal) := by
  pointwise [k2_pay4]

theorem k2_loss (a : Vec Ideal S512x3072 .bf16) (b : Vec Ideal S3072x1024 .bf16) (x y : Vec Ideal S512x1024 .f32)
    (o : Vec Ideal S1x1 .f32) :
    k2_pay5 a b x y o (ix2 0 0) = (o (ix2 0 0) : EReal) +
      (∑ i : Fin 512, Ideal.div (∑ j : Fin 1024, (k2_pay1 a b x y (ix2 i j) : EReal) * k2_pay1 a b x y (ix2 i j)) width) * half := by
  generalize h : k2_pay1 a b x y = X
  pointwise [k2_pay5, h, width, half]

variable (V : (c : Dev nD) → (b : Ref sig .tc) → Buf (Elt Ideal) ((c : Thread nD τ).loc b)) (c : Dev nD)

/-! ## The blocks read -/

theorem index2_0 : ∀ t : Fin cfg2.N, win2_0.index t = ![t.val, 0] := by
  change ∀ t : Fin grid2.N, _; decide +kernel
theorem index2_1 : ∀ t : Fin cfg2.N, win2_1.index t = ![0, 0] := by
  change ∀ t : Fin grid2.N, _; decide +kernel
theorem index2_2 : ∀ t : Fin cfg2.N, win2_2.index t = ![t.val, 0] := by
  change ∀ t : Fin grid2.N, _; decide +kernel
theorem index2_3 : ∀ t : Fin cfg2.N, win2_3.index t = ![t.val, 0] := by
  change ∀ t : Fin grid2.N, _; decide +kernel
theorem index2_4 : ∀ t : Fin cfg2.N, win2_4.index t = ![t.val, 0] := by
  change ∀ t : Fin grid2.N, _; decide +kernel
theorem index2_5 : ∀ t : Fin cfg2.N, win2_5.index t = ![t.val, 0] := by
  change ∀ t : Fin grid2.N, _; decide +kernel

/-- Row `r` of point `t`'s block of 512 rows. -/
def row2 (t : Fin cfg2.N) (r : Fin 512) : Fin 4096 := ⟨512 * t.val + r.val, by have := t.isLt; have : cfg2.N = 8 := N_2; omega⟩

theorem iblk2_0 (t : Fin cfg2.N) (r : Fin 512) (v : Fin 3072) : (iblk2 V c 0 t : Vec Ideal S512x3072 .bf16) (ix2 r v) =
    (V c main_v15_2 : Vec Ideal S4096x3072 .bf16) (ix2 (row2 t r) v) := by
  blk_simp [iblk2]
  refine congrArg (V c main_v15_2 : Vec Ideal S4096x3072 .bf16) ?_
  blk_ext [index2_0, row2]

theorem iblk2_1 (t : Fin cfg2.N) (r : Fin 3072) (v : Fin 1024) : (iblk2 V c 1 t : Vec Ideal S3072x1024 .bf16) (ix2 r v) =
    (V c main_v12 : Vec Ideal S3072x1024 .bf16) (ix2 r v) := by
  blk_simp [iblk2]
  refine congrArg (V c main_v12 : Vec Ideal S3072x1024 .bf16) ?_
  blk_ext [index2_1]

theorem iblk2_2 (t : Fin cfg2.N) (r : Fin 512) (v : Fin 1024) : (iblk2 V c 2 t : Vec Ideal S512x1024 .f32) (ix2 r v) =
    (V c main_v14_0 : Vec Ideal S4096x1024 .f32) (ix2 (row2 t r) v) := by
  blk_simp [iblk2]
  refine congrArg (V c main_v14_0 : Vec Ideal S4096x1024 .f32) ?_
  blk_ext [index2_2, row2]

theorem iblk2_3 (t : Fin cfg2.N) (r : Fin 512) (v : Fin 1024) : (iblk2 V c 3 t : Vec Ideal S512x1024 .f32) (ix2 r v) =
    (V c main_arg7 : Vec Ideal S4096x1024 .f32) (ix2 (row2 t r) v) := by
  blk_simp [iblk2]
  refine congrArg (V c main_arg7 : Vec Ideal S4096x1024 .f32) ?_
  blk_ext [index2_3, row2]

/-! ## The result arrays -/

/-- The rows leaving less the rows aimed at, from the arrays the call finds. -/
def gap : Mat 4096 1024 := fun i j => mat .f32 (V c main_v14_0 : Vec Ideal S4096x1024 .f32) i j +
  dot (mat .bf16 (V c main_v15_2 : Vec Ideal S4096x3072 .bf16)) (mat .bf16 (V c main_v12 : Vec Ideal S3072x1024 .bf16)) i j -
  mat .f32 (V c main_arg7 : Vec Ideal S4096x1024 .f32) i j

/-- A point's block of those rows. -/
theorem block_gap (t : Fin cfg2.N) (i : Fin 512) (j : Fin 1024) :
    k2_pay1 (iblk2 V c 0 t) (iblk2 V c 1 t) (iblk2 V c 2 t) (iblk2 V c 3 t) (ix2 i j) = gap V c (row2 t i) j := by
  refine (k2_diff _ _ _ _ i j).trans ?_
  rw [iblk2_2, iblk2_3]
  simp only [iblk2_0, iblk2_1]
  rfl

/-- Result 0 holds those rows over the width. -/
theorem final2_4 : (dat2 V c).arrAt 4 cfg2.N = arr .f32 (fun i j => gap V c i j * recip) := by
  refine (dat2 V c).arrAt_eq_of_covers 4 _ (by decide +kernel) fun t hf y => ?_
  blk_simp
  obtain ⟨i, j, rfl⟩ := eq_ix2 (a := 512) (b := 1024) y
  refine Eq.trans ?_ (arr_at _ _ _ (row2 t i) j ?_ ?_).symm
  · rw [← block_gap]
    rw [after2_4]
    by_cases h0 : t.val % 8 = 0
    · rw [outsAt2_A V c t h0]; frame_out
      exact k2_scaled _ _ _ _ i j
    · rw [outsAt2_B V c t h0]; frame_out
      exact k2_scaled _ _ _ _ i j
  all_goals (blk_simp [index2_4, row2]; try (dsimp only; omega))

/-- Result 1 holds the same. -/
theorem final2_5 : (dat2 V c).arrAt 5 cfg2.N = arr .bf16 (fun i j => gap V c i j * recip) := by
  refine (dat2 V c).arrAt_eq_of_covers 5 _ (by decide +kernel) fun t hf y => ?_
  blk_simp
  obtain ⟨i, j, rfl⟩ := eq_ix2 (a := 512) (b := 1024) y
  refine Eq.trans ?_ (arr_at _ _ _ (row2 t i) j ?_ ?_).symm
  · rw [← block_gap]
    rw [after2_5]
    by_cases h0 : t.val % 8 = 0
    · rw [outsAt2_A V c t h0]; frame_out
      exact k2_rounded _ _ _ _ i j
    · rw [outsAt2_B V c t h0]; frame_out
      exact k2_rounded _ _ _ _ i j
  all_goals (blk_simp [index2_5, row2]; try (dsimp only; omega))

/-- A row's mean squared error. -/
def rowErr (i : Fin 4096) : EReal := Ideal.div (∑ j, gap V c i j * gap V c i j) width

/-- What a point adds to the loss. -/
def lossAt (t : Fin cfg2.N) : EReal := (∑ r : Fin 512, rowErr V c (row2 t r)) * half

theorem lossAt_eq (t : Fin cfg2.N) (o : Vec Ideal S1x1 .f32) :
    k2_pay5 (iblk2 V c 0 t) (iblk2 V c 1 t) (iblk2 V c 2 t) (iblk2 V c 3 t) o (ix2 0 0) = (o (ix2 0 0) : EReal) + lossAt V c t := by
  refine (k2_loss _ _ _ _ o).trans ?_
  simp only [block_gap]
  rfl

theorem loss_first (h : 0 < cfg2.N) : (outsAt2 V c 0 h).2.2 (ix2 0 0) = lossAt V c ⟨0, h⟩ := by
  rw [outsAt2_A V c ⟨0, h⟩ rfl]; frame_out
  refine (lossAt_eq V c _ _).trans ?_
  rw [k2_zero, zero_add]

theorem loss_next (n : ℕ) (h : n + 1 < cfg2.N) : (outsAt2 V c (n + 1) h).2.2 (ix2 0 0) =
    ((outsAt2 V c n (Nat.lt_of_succ_lt h)).2.2 (ix2 0 0) : EReal) + lossAt V c ⟨n + 1, h⟩ := by
  have hN : cfg2.N = 8 := N_2
  rw [outsAt2_B V c ⟨n + 1, h⟩ (by dsimp only; omega)]; frame_out
  exact lossAt_eq V c _ _

/-- Result 2 holds the loss. -/
theorem final2_6 : (dat2 V c).arrAt 6 cfg2.N = arr .f32 (fun _ _ => half * ∑ i, rowErr V c i) := by
  refine (dat2 V c).arrAt_eq_of_covers 6 _ (by decide +kernel) fun t hf y => ?_
  have hN : cfg2.N = 8 := N_2
  have ht : t.val = 7 := by have := (flush2_6 t).mp hf; have := t.isLt; omega
  blk_simp
  rw [after2_6]
  obtain rfl : y = ix2 0 0 := funext fun a => by fin_cases a <;> exact Subsingleton.elim (α := Fin 1) _ _
  refine (accum (lossAt V c) (fun n h => (outsAt2 V c n h).2.2 (ix2 0 0)) (loss_first V c) (loss_next V c) t.val
    t.isLt).trans ?_
  obtain ⟨n, hn⟩ := t
  obtain rfl : n = 7 := ht
  refine (sum_half _).trans (congrArg (fun s : EReal => half * s) ?_)
  refine Eq.trans ?_ (sum_blocks 8 512 (rowErr V c)).symm
  exact Finset.sum_congr rfl fun p _ => Finset.sum_congr rfl fun r _ => congrArg (rowErr V c) (Fin.ext (Nat.add_comm _ _))

end Cert.Kernel2Ideal.Ffn

end
-- ==== Proof.FfnRegion3.lean ====
/-
  The gradients by the gate's and the hidden columns: what the fourth call leaves in its two result arrays, from the
  arrays it finds.
-/
module

public import proofs.«01_k».proof.Proof.FfnSpec
public import proofs.«01_k».proof.Proof.Gen.Kernel2Ideal.Frame.Region3
public import Idealize.ShloMosaic.Lib.Pipeline.ValueKit.Geometry
public import Idealize.ShloMosaic.Lib.Pipeline.ValueKit.Acc
public import Idealize.ShloMosaic.Lib.Pipeline.ValueKit.Tiles

@[expose] public section

set_option maxRecDepth 16384

noncomputable section

namespace Cert.Kernel2Ideal.Ffn

open Idealize.ShloMosaic Idealize.ShloMosaic.TcCoe Idealize.ShloMosaic.Tactic Idealize.SL.Sem
open Cert.Kernel2Ideal.Gen Cert.Ffn

/-! ## The body's arithmetic -/

theorem k3_dact (a : Vec Ideal S1024x1024 .bf16) (b : Vec Ideal S768x1024 .bf16) (i : Fin 1024) (j : Fin 768) :
    k3_pay1 a b (ix2 i j) = ∑ x : Fin 1024, (a (ix2 i x) : EReal) * b (ix2 j x) := by
  pointwise [k3_pay1]

theorem k3_dgate (a : Vec Ideal S1024x1024 .bf16) (b : Vec Ideal S768x1024 .bf16) (g u : Vec Ideal S1024x768 .f32)
    (i : Fin 1024) (j : Fin 768) :
    k3_pay4 a b g u (ix2 i j) = siluBack (g (ix2 i j)) (k3_pay1 a b (ix2 i j) * u (ix2 i j)) := by
  generalize h : k3_pay1 a b = X
  pointwise [k3_pay4, k3_pay2, k3_pay3, h, siluBack]

theorem k3_dup (a : Vec Ideal S1024x1024 .bf16) (b : Vec Ideal S768x1024 .bf16) (g : Vec Ideal S1024x768 .f32)
    (i : Fin 1024) (j : Fin 768) :
    k3_pay5 a b g (ix2 i j) = silu (g (ix2 i j)) * k3_pay1 a b (ix2 i j) := by
  generalize h : k3_pay1 a b = X
  pointwise [k3_pay5, k3_pay2, k3_pay3, h, silu]

variable (V : (c : Dev nD) → (b : Ref sig .tc) → Buf (Elt Ideal) ((c : Thread nD τ).loc b)) (c : Dev nD)

/-! ## The blocks read -/

theorem index3_0 : ∀ t : Fin cfg3.N, win3_0.index t = ![t.val % 4, 0] := by
  change ∀ t : Fin grid3.N, _; decide +kernel
theorem index3_1 : ∀ t : Fin cfg3.N, win3_1.index t = ![t.val / 4, 0] := by
  change ∀ t : Fin grid3.N, _; decide +kernel
theorem index3_2 : ∀ t : Fin cfg3.N, win3_2.index t = ![t.val % 4, t.val / 4] := by
  change ∀ t : Fin grid3.N, _; decide +kernel
theorem index3_3 : ∀ t : Fin cfg3.N, win3_3.index t = ![t.val % 4, t.val / 4] := by
  change ∀ t : Fin grid3.N, _; decide +kernel
theorem index3_4 : ∀ t : Fin cfg3.N, win3_4.index t = ![t.val % 4, t.val / 4] := by
  change ∀ t : Fin grid3.N, _; decide +kernel
theorem index3_5 : ∀ t : Fin cfg3.N, win3_5.index t = ![t.val % 4, t.val / 4] := by
  change ∀ t : Fin grid3.N, _; decide +kernel

/-- Row `r` of point `t`'s block of 1024 rows. -/
def row3 (t : Fin cfg3.N) (r : Fin 1024) : Fin 4096 :=
  ⟨1024 * (t.val % 4) + r.val, by have := t.isLt; have : cfg3.N = 16 := N_3; omega⟩

/-- Column `r` of point `t`'s block of 768 columns. -/
def col3 (t : Fin cfg3.N) (r : Fin 768) : Fin 3072 :=
  ⟨768 * (t.val / 4) + r.val, by have := t.isLt; have : cfg3.N = 16 := N_3; omega⟩

theorem iblk3_0 (t : Fin cfg3.N) (r : Fin 1024) (v : Fin 1024) : (iblk3 V c 0 t : Vec Ideal S1024x1024 .bf16) (ix2 r v) =
    (V c main_v16_1 : Vec Ideal S4096x1024 .bf16) (ix2 (row3 t r) v) := by
  blk_simp [iblk3]
  refine congrArg (V c main_v16_1 : Vec Ideal S4096x1024 .bf16) ?_
  blk_ext [index3_0, row3]

theorem iblk3_1 (t : Fin cfg3.N) (r : Fin 768) (v : Fin 1024) : (iblk3 V c 1 t : Vec Ideal S768x1024 .bf16) (ix2 r v) =
    (V c main_v12 : Vec Ideal S3072x1024 .bf16) (ix2 (col3 t r) v) := by
  blk_simp [iblk3]
  refine congrArg (V c main_v12 : Vec Ideal S3072x1024 .bf16) ?_
  blk_ext [index3_1, col3]

theorem iblk3_2 (t : Fin cfg3.N) (r : Fin 1024) (v : Fin 768) : (iblk3 V c 2 t : Vec Ideal S1024x768 .f32) (ix2 r v) =
    (V c main_v15_0 : Vec Ideal S4096x3072 .f32) (ix2 (row3 t r) (col3 t v)) := by
  blk_simp [iblk3]
  refine congrArg (V c main_v15_0 : Vec Ideal S4096x3072 .f32) ?_
  blk_ext [index3_2, row3, col3]

theorem iblk3_3 (t : Fin cfg3.N) (r : Fin 1024) (v : Fin 768) : (iblk3 V c 3 t : Vec Ideal S1024x768 .f32) (ix2 r v) =
    (V c main_v15_1 : Vec Ideal S4096x3072 .f32) (ix2 (row3 t r) (col3 t v)) := by
  blk_simp [iblk3]
  refine congrArg (V c main_v15_1 : Vec Ideal S4096x3072 .f32) ?_
  blk_ext [index3_3, row3, col3]

/-! ## The result arrays -/

/-- A point's block of the gradient by the gated columns. -/
theorem block_dact (t : Fin cfg3.N) (i : Fin 1024) (j : Fin 768) :
    k3_pay1 (iblk3 V c 0 t) (iblk3 V c 1 t) (ix2 i j) =
      dotT (mat .bf16 (V c main_v16_1 : Vec Ideal S4096x1024 .bf16)) (mat .bf16 (V c main_v12 : Vec Ideal S3072x1024 .bf16)) (row3 t i) (col3 t j) := by
  refine (k3_dact _ _ i j).trans (Finset.sum_congr rfl fun x _ => ?_)
  rw [iblk3_0, iblk3_1]
  rfl

/-- Result 0 holds the gradient by the gate's columns. -/
theorem final3_4 : (dat3 V c).arrAt 4 cfg3.N = arr .bf16 (fun i f => siluBack (mat .f32 (V c main_v15_0 : Vec Ideal S4096x3072 .f32) i f)
    (dotT (mat .bf16 (V c main_v16_1 : Vec Ideal S4096x1024 .bf16)) (mat .bf16 (V c main_v12 : Vec Ideal S3072x1024 .bf16)) i f *
      mat .f32 (V c main_v15_1 : Vec Ideal S4096x3072 .f32) i f)) := by
  refine (dat3 V c).arrAt_eq_of_covers 4 _ (by decide +kernel) fun t hf y => ?_
  blk_simp
  rw [after3_4]; frame_out
  obtain ⟨i, j, rfl⟩ := eq_ix2 (a := 1024) (b := 768) y
  refine Eq.trans ?_ (arr_at _ _ _ (row3 t i) (col3 t j) ?_ ?_).symm
  · refine (k3_dgate _ _ _ _ i j).trans ?_
    rw [block_dact, iblk3_2, iblk3_3]
    rfl
  all_goals (blk_simp [index3_4, row3, col3]; try (dsimp only; omega))

/-- Result 1 holds the gradient by the hidden columns. -/
theorem final3_5 : (dat3 V c).arrAt 5 cfg3.N = arr .bf16 (fun i f => silu (mat .f32 (V c main_v15_0 : Vec Ideal S4096x3072 .f32) i f) *
    dotT (mat .bf16 (V c main_v16_1 : Vec Ideal S4096x1024 .bf16)) (mat .bf16 (V c main_v12 : Vec Ideal S3072x1024 .bf16)) i f) := by
  refine (dat3 V c).arrAt_eq_of_covers 5 _ (by decide +kernel) fun t hf y => ?_
  blk_simp
  rw [after3_5]; frame_out
  obtain ⟨i, j, rfl⟩ := eq_ix2 (a := 1024) (b := 768) y
  refine Eq.trans ?_ (arr_at _ _ _ (row3 t i) (col3 t j) ?_ ?_).symm
  · refine (k3_dup _ _ _ i j).trans ?_
    rw [block_dact, iblk3_2]
    rfl
  all_goals (blk_simp [index3_5, row3, col3]; try (dsimp only; omega))

end Cert.Kernel2Ideal.Ffn

end
-- ==== Proof.FfnRegion4.lean ====
/-
  The gradient by the weights back: what the fifth call leaves in its result array, from the arrays it finds.
-/
module

public import proofs.«01_k».proof.Proof.FfnSpec
public import proofs.«01_k».proof.Proof.Gen.Kernel2Ideal.Frame.Region4
public import Idealize.ShloMosaic.Lib.Pipeline.ValueKit.Geometry
public import Idealize.ShloMosaic.Lib.Pipeline.ValueKit.Acc
public import Idealize.ShloMosaic.Lib.Pipeline.ValueKit.Tiles

@[expose] public section

set_option maxRecDepth 16384

noncomputable section

namespace Cert.Kernel2Ideal.Ffn

open Idealize.ShloMosaic Idealize.ShloMosaic.TcCoe Idealize.ShloMosaic.Tactic Idealize.SL.Sem
open Cert.Kernel2Ideal.Gen Cert.Ffn

theorem k4_product (a : Vec Ideal S4096x768 .bf16) (b : Vec Ideal S4096x1024 .bf16) (i : Fin 768) (j : Fin 1024) :
    k4_pay1 a b (ix2 i j) = ∑ x : Fin 4096, (a (ix2 x i) : EReal) * b (ix2 x j) := by
  pointwise [k4_pay1]

variable (V : (c : Dev nD) → (b : Ref sig .tc) → Buf (Elt Ideal) ((c : Thread nD τ).loc b)) (c : Dev nD)

theorem index4_0 : ∀ t : Fin cfg4.N, win4_0.index t = ![0, t.val] := by
  change ∀ t : Fin grid4.N, _; decide +kernel
theorem index4_1 : ∀ t : Fin cfg4.N, win4_1.index t = ![0, 0] := by
  change ∀ t : Fin grid4.N, _; decide +kernel
theorem index4_2 : ∀ t : Fin cfg4.N, win4_2.index t = ![t.val, 0] := by
  change ∀ t : Fin grid4.N, _; decide +kernel

/-- Row `r` of point `t`'s block of 768 rows. -/
def row4 (t : Fin cfg4.N) (r : Fin 768) : Fin 3072 :=
  ⟨768 * (t.val) + r.val, by have := t.isLt; have : cfg4.N = 4 := N_4; omega⟩

theorem iblk4_0 (t : Fin cfg4.N) (r : Fin 4096) (v : Fin 768) : (iblk4 V c 0 t : Vec Ideal S4096x768 .bf16) (ix2 r v) =
    (V c main_v15_2 : Vec Ideal S4096x3072 .bf16) (ix2 r (row4 t v)) := by
  blk_simp [iblk4]
  refine congrArg (V c main_v15_2 : Vec Ideal S4096x3072 .bf16) ?_
  blk_ext [index4_0, row4]

theorem iblk4_1 (t : Fin cfg4.N) (r : Fin 4096) (v : Fin 1024) : (iblk4 V c 1 t : Vec Ideal S4096x1024 .bf16) (ix2 r v) =
    (V c main_v16_1 : Vec Ideal S4096x1024 .bf16) (ix2 r v) := by
  blk_simp [iblk4]
  refine congrArg (V c main_v16_1 : Vec Ideal S4096x1024 .bf16) ?_
  blk_ext [index4_1]

/-- The result holds the product of the first array's columns with the second array's. -/
theorem final4_2 : (dat4 V c).arrAt 2 cfg4.N = arr .bf16 (tDot (mat .bf16 (V c main_v15_2 : Vec Ideal S4096x3072 .bf16))
    (mat .bf16 (V c main_v16_1 : Vec Ideal S4096x1024 .bf16))) := by
  refine (dat4 V c).arrAt_eq_of_covers 2 _ (by decide +kernel) fun t hf y => ?_
  blk_simp
  rw [after4_2]; frame_out
  obtain ⟨i, j, rfl⟩ := eq_ix2 (a := 768) (b := 1024) y
  refine Eq.trans ?_ (arr_at _ _ _ (row4 t i) j ?_ ?_).symm
  · refine (k4_product _ _ i j).trans (Finset.sum_congr rfl fun x _ => ?_)
    rw [iblk4_0, iblk4_1]
    rfl
  all_goals (blk_simp [index4_2, row4]; try (dsimp only; omega))

end Cert.Kernel2Ideal.Ffn

end
-- ==== Proof.FfnRegion5.lean ====
/-
  The gradient by the gate's weights: what the sixth call leaves in its result array, from the arrays it finds.
-/
module

public import proofs.«01_k».proof.Proof.FfnSpec
public import proofs.«01_k».proof.Proof.Gen.Kernel2Ideal.Frame.Region5
public import Idealize.ShloMosaic.Lib.Pipeline.ValueKit.Geometry
public import Idealize.ShloMosaic.Lib.Pipeline.ValueKit.Acc
public import Idealize.ShloMosaic.Lib.Pipeline.ValueKit.Tiles

@[expose] public section

set_option maxRecDepth 16384

noncomputable section

namespace Cert.Kernel2Ideal.Ffn

open Idealize.ShloMosaic Idealize.ShloMosaic.TcCoe Idealize.ShloMosaic.Tactic Idealize.SL.Sem
open Cert.Kernel2Ideal.Gen Cert.Ffn

theorem k5_first (a : Vec Ideal S4096x1024 .bf16) (b : Vec Ideal S4096x768 .bf16) (i : Fin 1024) (j : Fin 384) :
    k5_pay2 a b (ix3 0 i j) = ∑ x : Fin 4096, (a (ix2 x i) : EReal) * b (ix2 x ⟨j.val, by omega⟩) := by
  pointwise [k5_pay1, k5_pay2]

theorem k5_second (a : Vec Ideal S4096x1024 .bf16) (b : Vec Ideal S4096x768 .bf16) (i : Fin 1024) (j : Fin 384) :
    k5_pay3 a b (ix3 0 i j) = ∑ x : Fin 4096, (a (ix2 x i) : EReal) * b (ix2 x ⟨384 + j.val, by omega⟩) := by
  pointwise [k5_pay1, k5_pay3]

variable (V : (c : Dev nD) → (b : Ref sig .tc) → Buf (Elt Ideal) ((c : Thread nD τ).loc b)) (c : Dev nD)

theorem index5_0 : ∀ t : Fin cfg5.N, win5_0.index t = ![0, 0] := by
  change ∀ t : Fin grid5.N, _; decide +kernel
theorem index5_1 : ∀ t : Fin cfg5.N, win5_1.index t = ![0, t.val] := by
  change ∀ t : Fin grid5.N, _; decide +kernel
theorem index5_2 : ∀ t : Fin cfg5.N, win5_2.index t = ![t.val, 0, 0] := by
  change ∀ t : Fin grid5.N, _; decide +kernel

/-- Column `r` of point `t`'s block of 768 columns. -/
def col5 (t : Fin cfg5.N) (r : Fin 768) : Fin 3072 :=
  ⟨768 * (t.val) + r.val, by have := t.isLt; have : cfg5.N = 4 := N_5; omega⟩

theorem iblk5_0 (t : Fin cfg5.N) (r : Fin 4096) (v : Fin 1024) : (iblk5 V c 0 t : Vec Ideal S4096x1024 .bf16) (ix2 r v) =
    (V c main_v14_1 : Vec Ideal S4096x1024 .bf16) (ix2 r v) := by
  blk_simp [iblk5]
  refine congrArg (V c main_v14_1 : Vec Ideal S4096x1024 .bf16) ?_
  blk_ext [index5_0]

theorem iblk5_1 (t : Fin cfg5.N) (r : Fin 4096) (v : Fin 768) : (iblk5 V c 1 t : Vec Ideal S4096x768 .bf16) (ix2 r v) =
    (V c main_v17_0 : Vec Ideal S4096x3072 .bf16) (ix2 r (col5 t v)) := by
  blk_simp [iblk5]
  refine congrArg (V c main_v17_0 : Vec Ideal S4096x3072 .bf16) ?_
  blk_ext [index5_1, col5]

/-- The result holds the product of the first array's columns with the second array's, cut into column blocks. -/
theorem final5_2 : (dat5 V c).arrAt 2 cfg5.N = uncols .bf16 (tDot (mat .bf16 (V c main_v14_1 : Vec Ideal S4096x1024 .bf16))
    (mat .bf16 (V c main_v17_0 : Vec Ideal S4096x3072 .bf16))) := by
  refine (dat5 V c).arrAt_eq_of_covers 2 _ (by decide +kernel) fun t hf y => ?_
  blk_simp
  rw [after5_2]
  frame_out
  canon_tiles x h using Gen.cover5_2 ..
  · obtain ⟨i, j, rfl⟩ := eq_ix3 (a := 1024) (b := 384) x
    have e2 : (y 2).val = j.val := h2
    have e1 : (y 1).val = i.val := h1
    have e0 : (y 0).val = 1 := h0
    refine Eq.trans ?_ (uncols_at _ _ _ i (col5 t ⟨384 + j.val, by omega⟩) ?_ ?_).symm
    · refine (k5_second _ _ i j).trans (Finset.sum_congr rfl fun l _ => ?_)
      exact congrArg₂ (fun p q : EReal => p * q) (iblk5_0 V c t _ _) (iblk5_1 V c t _ _)
    all_goals (blk_simp [index5_2, col5]; try (dsimp only; omega))
  · obtain ⟨i, j, rfl⟩ := eq_ix3 (a := 1024) (b := 384) x
    have e2 : (y 2).val = j.val := h2
    have e1 : (y 1).val = i.val := h1
    have e0 : (y 0).val = 0 := h0
    refine Eq.trans ?_ (uncols_at _ _ _ i (col5 t ⟨j.val, by omega⟩) ?_ ?_).symm
    · refine (k5_first _ _ i j).trans (Finset.sum_congr rfl fun l _ => ?_)
      exact congrArg₂ (fun p q : EReal => p * q) (iblk5_0 V c t _ _) (iblk5_1 V c t _ _)
    all_goals (blk_simp [index5_2, col5]; try (dsimp only; omega))

end Cert.Kernel2Ideal.Ffn

end
-- ==== Proof.FfnRegion6.lean ====
/-
  The gradient by the hidden columns' weights: what the seventh call leaves in its result array, from the arrays it
  finds.
-/
module

public import proofs.«01_k».proof.Proof.FfnSpec
public import proofs.«01_k».proof.Proof.Gen.Kernel2Ideal.Frame.Region6
public import Idealize.ShloMosaic.Lib.Pipeline.ValueKit.Geometry
public import Idealize.ShloMosaic.Lib.Pipeline.ValueKit.Acc
public import Idealize.ShloMosaic.Lib.Pipeline.ValueKit.Tiles

@[expose] public section

set_option maxRecDepth 16384

noncomputable section

namespace Cert.Kernel2Ideal.Ffn

open Idealize.ShloMosaic Idealize.ShloMosaic.TcCoe Idealize.ShloMosaic.Tactic Idealize.SL.Sem
open Cert.Kernel2Ideal.Gen Cert.Ffn

theorem k6_first (a : Vec Ideal S4096x1024 .bf16) (b : Vec Ideal S4096x768 .bf16) (i : Fin 1024) (j : Fin 384) :
    k6_pay2 a b (ix3 0 i j) = ∑ x : Fin 4096, (a (ix2 x i) : EReal) * b (ix2 x ⟨j.val, by omega⟩) := by
  pointwise [k6_pay1, k6_pay2]

theorem k6_second (a : Vec Ideal S4096x1024 .bf16) (b : Vec Ideal S4096x768 .bf16) (i : Fin 1024) (j : Fin 384) :
    k6_pay3 a b (ix3 0 i j) = ∑ x : Fin 4096, (a (ix2 x i) : EReal) * b (ix2 x ⟨384 + j.val, by omega⟩) := by
  pointwise [k6_pay1, k6_pay3]

variable (V : (c : Dev nD) → (b : Ref sig .tc) → Buf (Elt Ideal) ((c : Thread nD τ).loc b)) (c : Dev nD)

theorem index6_0 : ∀ t : Fin cfg6.N, win6_0.index t = ![0, 0] := by
  change ∀ t : Fin grid6.N, _; decide +kernel
theorem index6_1 : ∀ t : Fin cfg6.N, win6_1.index t = ![0, t.val] := by
  change ∀ t : Fin grid6.N, _; decide +kernel
theorem index6_2 : ∀ t : Fin cfg6.N, win6_2.index t = ![t.val, 0, 0] := by
  change ∀ t : Fin grid6.N, _; decide +kernel

/-- Column `r` of point `t`'s block of 768 columns. -/
def col6 (t : Fin cfg6.N) (r : Fin 768) : Fin 3072 :=
  ⟨768 * (t.val) + r.val, by have := t.isLt; have : cfg6.N = 4 := N_6; omega⟩

theorem iblk6_0 (t : Fin cfg6.N) (r : Fin 4096) (v : Fin 1024) : (iblk6 V c 0 t : Vec Ideal S4096x1024 .bf16) (ix2 r v) =
    (V c main_v14_1 : Vec Ideal S4096x1024 .bf16) (ix2 r v) := by
  blk_simp [iblk6]
  refine congrArg (V c main_v14_1 : Vec Ideal S4096x1024 .bf16) ?_
  blk_ext [index6_0]

theorem iblk6_1 (t : Fin cfg6.N) (r : Fin 4096) (v : Fin 768) : (iblk6 V c 1 t : Vec Ideal S4096x768 .bf16) (ix2 r v) =
    (V c main_v17_1 : Vec Ideal S4096x3072 .bf16) (ix2 r (col6 t v)) := by
  blk_simp [iblk6]
  refine congrArg (V c main_v17_1 : Vec Ideal S4096x3072 .bf16) ?_
  blk_ext [index6_1, col6]

/-- The result holds the product of the first array's columns with the second array's, cut into column blocks. -/
theorem final6_2 : (dat6 V c).arrAt 2 cfg6.N = uncols .bf16 (tDot (mat .bf16 (V c main_v14_1 : Vec Ideal S4096x1024 .bf16))
    (mat .bf16 (V c main_v17_1 : Vec Ideal S4096x3072 .bf16))) := by
  refine (dat6 V c).arrAt_eq_of_covers 2 _ (by decide +kernel) fun t hf y => ?_
  blk_simp
  rw [after6_2]
  frame_out
  canon_tiles x h using Gen.cover6_2 ..
  · obtain ⟨i, j, rfl⟩ := eq_ix3 (a := 1024) (b := 384) x
    have e2 : (y 2).val = j.val := h2
    have e1 : (y 1).val = i.val := h1
    have e0 : (y 0).val = 1 := h0
    refine Eq.trans ?_ (uncols_at _ _ _ i (col6 t ⟨384 + j.val, by omega⟩) ?_ ?_).symm
    · refine (k6_second _ _ i j).trans (Finset.sum_congr rfl fun l _ => ?_)
      exact congrArg₂ (fun p q : EReal => p * q) (iblk6_0 V c t _ _) (iblk6_1 V c t _ _)
    all_goals (blk_simp [index6_2, col6]; try (dsimp only; omega))
  · obtain ⟨i, j, rfl⟩ := eq_ix3 (a := 1024) (b := 384) x
    have e2 : (y 2).val = j.val := h2
    have e1 : (y 1).val = i.val := h1
    have e0 : (y 0).val = 0 := h0
    refine Eq.trans ?_ (uncols_at _ _ _ i (col6 t ⟨j.val, by omega⟩) ?_ ?_).symm
    · refine (k6_first _ _ i j).trans (Finset.sum_congr rfl fun l _ => ?_)
      exact congrArg₂ (fun p q : EReal => p * q) (iblk6_0 V c t _ _) (iblk6_1 V c t _ _)
    all_goals (blk_simp [index6_2, col6]; try (dsimp only; omega))

end Cert.Kernel2Ideal.Ffn

end
-- ==== Proof.FfnRegion7.lean ====
/-
  The gradients through the normalisation: what the eighth call leaves in its three result arrays, from the arrays it finds.
-/
module

public import proofs.«01_k».proof.Proof.FfnSpec
public import proofs.«01_k».proof.Proof.Gen.Kernel2Ideal.Frame.Region7
public import Idealize.ShloMosaic.Lib.Pipeline.ValueKit.Geometry
public import Idealize.ShloMosaic.Lib.Pipeline.ValueKit.Acc
public import Idealize.ShloMosaic.Lib.Pipeline.ValueKit.Tiles

@[expose] public section

set_option maxRecDepth 16384

noncomputable section

namespace Cert.Kernel2Ideal.Ffn

open Idealize.ShloMosaic Idealize.ShloMosaic.TcCoe Idealize.ShloMosaic.Tactic Idealize.SL.Sem
open Cert.Kernel2Ideal.Gen Cert.Ffn

/-! ## The body's arithmetic -/

/-- Eight column blocks are the column blocks of one array. -/
structure Blocks (x : Vec Ideal S8x1024x384 .bf16) (b0 b1 b2 b3 b4 b5 b6 b7 : Vec Ideal S1x1024x384 .bf16) : Prop where
  e0 : ∀ (i : Fin 1024) (j : Fin 384), b0 (ix3 0 i j) = x (ix3 0 i j)
  e1 : ∀ (i : Fin 1024) (j : Fin 384), b1 (ix3 0 i j) = x (ix3 1 i j)
  e2 : ∀ (i : Fin 1024) (j : Fin 384), b2 (ix3 0 i j) = x (ix3 2 i j)
  e3 : ∀ (i : Fin 1024) (j : Fin 384), b3 (ix3 0 i j) = x (ix3 3 i j)
  e4 : ∀ (i : Fin 1024) (j : Fin 384), b4 (ix3 0 i j) = x (ix3 4 i j)
  e5 : ∀ (i : Fin 1024) (j : Fin 384), b5 (ix3 0 i j) = x (ix3 5 i j)
  e6 : ∀ (i : Fin 1024) (j : Fin 384), b6 (ix3 0 i j) = x (ix3 6 i j)
  e7 : ∀ (i : Fin 1024) (j : Fin 384), b7 (ix3 0 i j) = x (ix3 7 i j)

/-- An entry of a column block, by its column among all. -/
theorem pick {x : Vec Ideal S8x1024x384 .bf16} {b : Vec Ideal S1x1024x384 .bf16} {k : Fin 8}
    (h : ∀ (i : Fin 1024) (j : Fin 384), b (ix3 0 i j) = x (ix3 k i j)) (f : Fin 3072) (r : ℕ)
    (e : f.val = 384 * k.val + r) (hr : r < 384) (j : Fin 1024) :
    b (ix3 0 j ⟨r, hr⟩) = x (ix3 ⟨f.val / 384, by omega⟩ j ⟨f.val % 384, by omega⟩) :=
  (h _ _).trans (congrArg₂ (fun p q => x (ix3 p j q)) (Fin.ext (show k.val = f.val / 384 by omega))
    (Fin.ext (show r = f.val % 384 by omega)))

theorem k7_first {x : Vec Ideal S8x1024x384 .bf16} {b0 b1 b2 b3 b4 b5 b6 b7 : Vec Ideal S1x1024x384 .bf16}
    (h : Blocks x b0 b1 b2 b3 b4 b5 b6 b7) (a : Vec Ideal S256x3072 .bf16) (i : Fin 256) (j : Fin 1024) :
    k7_pay1 a b0 b1 b2 b3 b4 b5 b6 b7 (ix2 i j) = dotT (mat .bf16 a) (cols .bf16 x) i j := by
  pointwise [k7_pay1, dotT, mat, cols]
  refine Finset.sum_congr rfl fun f _ => congrArg (fun q : EReal => a (ix2 i f) * q) ?_
  by_cases h0 : f.val < 384
  · rw [dif_pos h0]; exact pick h.e0 f _ (show f.val = 384 * 0 + (f.val) by omega) _ _
  rw [dif_neg h0]
  by_cases h1 : f.val - 384 < 384
  · rw [dif_pos h1]; exact pick h.e1 f _ (show f.val = 384 * 1 + (f.val - 384) by omega) _ _
  rw [dif_neg h1]
  by_cases h2 : f.val - 384 - 384 < 384
  · rw [dif_pos h2]; exact pick h.e2 f _ (show f.val = 384 * 2 + (f.val - 384 - 384) by omega) _ _
  rw [dif_neg h2]
  by_cases h3 : f.val - 384 - 384 - 384 < 384
  · rw [dif_pos h3]; exact pick h.e3 f _ (show f.val = 384 * 3 + (f.val - 384 - 384 - 384) by omega) _ _
  rw [dif_neg h3]
  by_cases h4 : f.val - 384 - 384 - 384 - 384 < 384
  · rw [dif_pos h4]; exact pick h.e4 f _ (show f.val = 384 * 4 + (f.val - 384 - 384 - 384 - 384) by omega) _ _
  rw [dif_neg h4]
  by_cases h5 : f.val - 384 - 384 - 384 - 384 - 384 < 384
  · rw [dif_pos h5]; exact pick h.e5 f _ (show f.val = 384 * 5 + (f.val - 384 - 384 - 384 - 384 - 384) by omega) _ _
  rw [dif_neg h5]
  by_cases h6 : f.val - 384 - 384 - 384 - 384 - 384 - 384 < 384
  · rw [dif_pos h6]; exact pick h.e6 f _ (show f.val = 384 * 6 + (f.val - 384 - 384 - 384 - 384 - 384 - 384) by omega) _ _
  rw [dif_neg h6]
  exact pick h.e7 f _ (show f.val = 384 * 7 + (f.val - 384 - 384 - 384 - 384 - 384 - 384 - 384) by omega) _ _

theorem k7_second {x : Vec Ideal S8x1024x384 .bf16} {b0 b1 b2 b3 b4 b5 b6 b7 : Vec Ideal S1x1024x384 .bf16}
    (h : Blocks x b0 b1 b2 b3 b4 b5 b6 b7) (a : Vec Ideal S256x3072 .bf16) (i : Fin 256) (j : Fin 1024) :
    k7_pay4 (k7_pay2 a) (k7_pay3 b0) b1 b2 b3 b4 b5 b6 b7 (ix2 i j) = dotT (mat .bf16 a) (cols .bf16 x) i j :=
  k7_first h a i j

theorem k7_sum (p q : FVec Ideal S256x1024 .f32) (i : Fin 256) (j : Fin 1024) :
    k7_pay10 p q (ix2 i j) = (p (ix2 i j) : EReal) + q (ix2 i j) := by
  pointwise [k7_pay10]

theorem k7_spread (x : Vec Ideal S256x1024 .f32) (i : Fin 256) :
    k7_pay7 x (ix2 i 0) = spread (mat .f32 x i) := by
  pointwise [k7_pay7, k7_pay5, spread, mat, width, eps]

theorem k7_root (x : Vec Ideal S256x1024 .f32) (i : Fin 256) :
    k7_pay8 x (ix2 i 0) = Ideal.rsqrt (spread (mat .f32 x i)) := by
  rw [← k7_spread]
  generalize h : k7_pay7 x = X
  pointwise [k7_pay8, h]

theorem k7_ratio (x : Vec Ideal S256x1024 .f32) (i : Fin 256) :
    k7_pay9 x (ix2 i 0) = Ideal.div (Ideal.rsqrt (spread (mat .f32 x i))) (spread (mat .f32 x i)) := by
  rw [← k7_root, ← k7_spread]
  generalize h : k7_pay7 x = X
  generalize h' : k7_pay8 x = Y
  pointwise [k7_pay9, h, h']

theorem k7_back (p q : FVec Ideal S256x1024 .f32) (x y : Vec Ideal S256x1024 .f32) (g : Vec Ideal S1x1024 .f32)
    (i : Fin 256) (j : Fin 1024) :
    k7_pay11 p q (k7_pay5 x) (k7_pay6 y) g (k7_pay8 x) (k7_pay9 x) (Scalar.ofBits .f32 0xBF000000#32) (ix2 i j) =
      normBack (mat .f32 x) (mat .f32 g 0) (mat .f32 (k7_pay10 p q)) i j + y (ix2 i j) := by
  unfold normBack through
  rw [← k7_ratio, ← k7_root]
  generalize h : k7_pay10 p q = D
  generalize h' : k7_pay8 x = R
  generalize h'' : k7_pay9 x = T
  pointwise [k7_pay11, k7_pay5, k7_pay6, h, h', h'', mat, negHalf, width]
  simp only [Fin.sum_univ_one, Fin.isValue]

theorem k7_narrow (p q x y : FVec Ideal S256x1024 .f32) (g : Vec Ideal S1x1024 .f32) (r s : FVec Ideal S256x1 .f32)
    (e : Ideal .f32) (i : Fin 256) (j : Fin 1024) : k7_pay12 p q x y g r s e (ix2 i j) = k7_pay11 p q x y g r s e (ix2 i j) := by
  generalize h : k7_pay11 p q x y g r s e = X
  pointwise [k7_pay12, h]

theorem k7_rounded (p q : FVec Ideal S256x1024 .f32) (x y : Vec Ideal S256x1024 .f32) (g : Vec Ideal S1x1024 .f32)
    (i : Fin 256) (j : Fin 1024) :
    k7_pay12 p q (k7_pay5 x) (k7_pay6 y) g (k7_pay8 x) (k7_pay9 x) (Scalar.ofBits .f32 0xBF000000#32) (ix2 i j) =
      normBack (mat .f32 x) (mat .f32 g 0) (mat .f32 (k7_pay10 p q)) i j + y (ix2 i j) :=
  (k7_narrow _ _ _ _ _ _ _ _ i j).trans (k7_back p q x y g i j)

theorem k7_zero (j : Fin 1024) : (k7_pay13 : FVec Ideal S1x1024 .f32) (ix2 0 j) = (0 : EReal) := by
  pointwise [k7_pay13]

theorem k7_gains (p q : FVec Ideal S256x1024 .f32) (x : Vec Ideal S256x1024 .f32) (o : Vec Ideal S1x1024 .f32) (j : Fin 1024) :
    k7_pay14 p q (k7_pay5 x) (k7_pay8 x) o (ix2 0 j) = (o (ix2 0 j) : EReal) +
      ∑ i : Fin 256, unit (mat .f32 x i) j * (k7_pay10 p q (ix2 i j) : EReal) := by
  unfold unit
  simp only [← k7_root]
  generalize h : k7_pay10 p q = D
  generalize h' : k7_pay8 x = R
  pointwise [k7_pay14, k7_pay5, h, h', mat]

variable (V : (c : Dev nD) → (b : Ref sig .tc) → Buf (Elt Ideal) ((c : Thread nD τ).loc b)) (c : Dev nD)

/-! ## The blocks read -/

theorem index7_0 : ∀ t : Fin cfg7.N, win7_0.index t = ![t.val, 0] := by
  change ∀ t : Fin grid7.N, _; decide +kernel
theorem index7_2 : ∀ t : Fin cfg7.N, win7_2.index t = ![t.val, 0] := by
  change ∀ t : Fin grid7.N, _; decide +kernel
theorem index7_4 : ∀ t : Fin cfg7.N, win7_4.index t = ![t.val, 0] := by
  change ∀ t : Fin grid7.N, _; decide +kernel
theorem index7_5 : ∀ t : Fin cfg7.N, win7_5.index t = ![t.val, 0] := by
  change ∀ t : Fin grid7.N, _; decide +kernel
theorem index7_7 : ∀ t : Fin cfg7.N, win7_7.index t = ![t.val, 0] := by
  change ∀ t : Fin grid7.N, _; decide +kernel
theorem index7_8 : ∀ t : Fin cfg7.N, win7_8.index t = ![t.val, 0] := by
  change ∀ t : Fin grid7.N, _; decide +kernel
theorem index7_1 : ∀ t : Fin cfg7.N, win7_1.index t = ![0, 0, 0] := by
  change ∀ t : Fin grid7.N, _; decide +kernel
theorem index7_3 : ∀ t : Fin cfg7.N, win7_3.index t = ![0, 0, 0] := by
  change ∀ t : Fin grid7.N, _; decide +kernel
theorem index7_6 : ∀ t : Fin cfg7.N, win7_6.index t = ![0, 0] := by
  change ∀ t : Fin grid7.N, _; decide +kernel
theorem index7_9 : ∀ t : Fin cfg7.N, win7_9.index t = ![0, 0] := by
  change ∀ t : Fin grid7.N, _; decide +kernel

/-- Row `r` of point `t`'s block of 256 rows. -/
def row7 (t : Fin cfg7.N) (r : Fin 256) : Fin 4096 := ⟨256 * t.val + r.val, by have := t.isLt; have : cfg7.N = 16 := N_7; omega⟩

theorem iblk7_0 (t : Fin cfg7.N) (r : Fin 256) (v : Fin 3072) : (iblk7 V c 0 t : Vec Ideal S256x3072 .bf16) (ix2 r v) =
    (V c main_v17_0 : Vec Ideal S4096x3072 .bf16) (ix2 (row7 t r) v) := by
  blk_simp [iblk7]
  refine congrArg (V c main_v17_0 : Vec Ideal S4096x3072 .bf16) ?_
  blk_ext [index7_0, row7]

theorem iblk7_2 (t : Fin cfg7.N) (r : Fin 256) (v : Fin 3072) : (iblk7 V c 2 t : Vec Ideal S256x3072 .bf16) (ix2 r v) =
    (V c main_v17_1 : Vec Ideal S4096x3072 .bf16) (ix2 (row7 t r) v) := by
  blk_simp [iblk7]
  refine congrArg (V c main_v17_1 : Vec Ideal S4096x3072 .bf16) ?_
  blk_ext [index7_2, row7]

theorem iblk7_4 (t : Fin cfg7.N) (r : Fin 256) (v : Fin 1024) : (iblk7 V c 4 t : Vec Ideal S256x1024 .f32) (ix2 r v) =
    (V c main_v14_0 : Vec Ideal S4096x1024 .f32) (ix2 (row7 t r) v) := by
  blk_simp [iblk7]
  refine congrArg (V c main_v14_0 : Vec Ideal S4096x1024 .f32) ?_
  blk_ext [index7_4, row7]

theorem iblk7_5 (t : Fin cfg7.N) (r : Fin 256) (v : Fin 1024) : (iblk7 V c 5 t : Vec Ideal S256x1024 .f32) (ix2 r v) =
    (V c main_v16_0 : Vec Ideal S4096x1024 .f32) (ix2 (row7 t r) v) := by
  blk_simp [iblk7]
  refine congrArg (V c main_v16_0 : Vec Ideal S4096x1024 .f32) ?_
  blk_ext [index7_5, row7]

theorem iblk7_1 (t : Fin cfg7.N) : (iblk7 V c 1 t : Vec Ideal S8x1024x384 .bf16) =
    (V c main_v3 : Vec Ideal S8x1024x384 .bf16) := by
  funext y
  blk_simp [iblk7]
  refine congrArg (V c main_v3 : Vec Ideal S8x1024x384 .bf16) ?_
  blk_ext [index7_1]

theorem iblk7_3 (t : Fin cfg7.N) : (iblk7 V c 3 t : Vec Ideal S8x1024x384 .bf16) =
    (V c main_v7 : Vec Ideal S8x1024x384 .bf16) := by
  funext y
  blk_simp [iblk7]
  refine congrArg (V c main_v7 : Vec Ideal S8x1024x384 .bf16) ?_
  blk_ext [index7_3]

theorem iblk7_6 (t : Fin cfg7.N) : (iblk7 V c 6 t : Vec Ideal S1x1024 .f32) = (V c main_arg3 : Vec Ideal S1x1024 .f32) := by
  funext y
  blk_simp [iblk7]
  refine congrArg (V c main_arg3 : Vec Ideal S1x1024 .f32) ?_
  blk_ext [index7_6]

/-! ## The result arrays -/

/-- The gradient by the normalised rows, from the arrays the call finds. -/
def back : Mat 4096 1024 := fun i j =>
  dotT (mat .bf16 (V c main_v17_0 : Vec Ideal S4096x3072 .bf16)) (cols .bf16 (V c main_v3 : Vec Ideal S8x1024x384 .bf16)) i j +
  dotT (mat .bf16 (V c main_v17_1 : Vec Ideal S4096x3072 .bf16)) (cols .bf16 (V c main_v7 : Vec Ideal S8x1024x384 .bf16)) i j

/-- The gradient by the rows before the normalisation, from the arrays the call finds. -/
def through7 : Mat 4096 1024 := fun i j =>
  normBack (mat .f32 (V c main_v14_0 : Vec Ideal S4096x1024 .f32)) (mat .f32 (V c main_arg3 : Vec Ideal S1x1024 .f32) 0)
    (back V c) i j + mat .f32 (V c main_v16_0 : Vec Ideal S4096x1024 .f32) i j

/-- A column block, loaded. -/
theorem ld_block (x : Vec Ideal S8x1024x384 .bf16) (n : Fin 8) (h) (i : Fin 1024) (j : Fin 384) :
    View.ld x (Rect.unit (s := S8x1024x384) ![n.val, 0, 0] S1x1024x384.size h) (ix3 0 i j) = x (ix3 n i j) :=
  View.ld_unit_apply_of x _ _ _ _ (ix3 n i j) fun a => match a with
    | ⟨0, _⟩ => rfl | ⟨1, _⟩ => (Nat.zero_add _).symm | ⟨2, _⟩ => (Nat.zero_add _).symm

/-- The column blocks of an array, loaded one by one. -/
theorem ld_blocks (x : Vec Ideal S8x1024x384 .bf16) : Blocks x
    (View.ld x (Rect.unit (s := S8x1024x384) ![0, 0, 0] S1x1024x384.size inb_S8x1024x384_S1x1024x384_0_0_0))
    (View.ld x (Rect.unit (s := S8x1024x384) ![1, 0, 0] S1x1024x384.size inb_S8x1024x384_S1x1024x384_1_0_0))
    (View.ld x (Rect.unit (s := S8x1024x384) ![2, 0, 0] S1x1024x384.size inb_S8x1024x384_S1x1024x384_2_0_0))
    (View.ld x (Rect.unit (s := S8x1024x384) ![3, 0, 0] S1x1024x384.size inb_S8x1024x384_S1x1024x384_3_0_0))
    (View.ld x (Rect.unit (s := S8x1024x384) ![4, 0, 0] S1x1024x384.size inb_S8x1024x384_S1x1024x384_4_0_0))
    (View.ld x (Rect.unit (s := S8x1024x384) ![5, 0, 0] S1x1024x384.size inb_S8x1024x384_S1x1024x384_5_0_0))
    (View.ld x (Rect.unit (s := S8x1024x384) ![6, 0, 0] S1x1024x384.size inb_S8x1024x384_S1x1024x384_6_0_0))
    (View.ld x (Rect.unit (s := S8x1024x384) ![7, 0, 0] S1x1024x384.size inb_S8x1024x384_S1x1024x384_7_0_0)) where
  e0 := ld_block x 0 _
  e1 := ld_block x 1 _
  e2 := ld_block x 2 _
  e3 := ld_block x 3 _
  e4 := ld_block x 4 _
  e5 := ld_block x 5 _
  e6 := ld_block x 6 _
  e7 := ld_block x 7 _

/-- A point's first product. -/
abbrev prodA (t : Fin cfg7.N) : FVec Ideal S256x1024 .f32 := k7_pay1 (iblk7 V c 0 t)
  (View.ld (iblk7 V c 1 t) (Rect.unit (s := S8x1024x384) ![0, 0, 0] S1x1024x384.size inb_S8x1024x384_S1x1024x384_0_0_0))
  (View.ld (iblk7 V c 1 t) (Rect.unit (s := S8x1024x384) ![1, 0, 0] S1x1024x384.size inb_S8x1024x384_S1x1024x384_1_0_0))
  (View.ld (iblk7 V c 1 t) (Rect.unit (s := S8x1024x384) ![2, 0, 0] S1x1024x384.size inb_S8x1024x384_S1x1024x384_2_0_0))
  (View.ld (iblk7 V c 1 t) (Rect.unit (s := S8x1024x384) ![3, 0, 0] S1x1024x384.size inb_S8x1024x384_S1x1024x384_3_0_0))
  (View.ld (iblk7 V c 1 t) (Rect.unit (s := S8x1024x384) ![4, 0, 0] S1x1024x384.size inb_S8x1024x384_S1x1024x384_4_0_0))
  (View.ld (iblk7 V c 1 t) (Rect.unit (s := S8x1024x384) ![5, 0, 0] S1x1024x384.size inb_S8x1024x384_S1x1024x384_5_0_0))
  (View.ld (iblk7 V c 1 t) (Rect.unit (s := S8x1024x384) ![6, 0, 0] S1x1024x384.size inb_S8x1024x384_S1x1024x384_6_0_0))
  (View.ld (iblk7 V c 1 t) (Rect.unit (s := S8x1024x384) ![7, 0, 0] S1x1024x384.size inb_S8x1024x384_S1x1024x384_7_0_0))

/-- A point's second product. -/
abbrev prodB (t : Fin cfg7.N) : FVec Ideal S256x1024 .f32 := k7_pay4 (k7_pay2 (iblk7 V c 2 t))
  (k7_pay3 (View.ld (iblk7 V c 3 t) (Rect.unit (s := S8x1024x384) ![0, 0, 0] S1x1024x384.size inb_S8x1024x384_S1x1024x384_0_0_0)))
  (View.ld (iblk7 V c 3 t) (Rect.unit (s := S8x1024x384) ![1, 0, 0] S1x1024x384.size inb_S8x1024x384_S1x1024x384_1_0_0))
  (View.ld (iblk7 V c 3 t) (Rect.unit (s := S8x1024x384) ![2, 0, 0] S1x1024x384.size inb_S8x1024x384_S1x1024x384_2_0_0))
  (View.ld (iblk7 V c 3 t) (Rect.unit (s := S8x1024x384) ![3, 0, 0] S1x1024x384.size inb_S8x1024x384_S1x1024x384_3_0_0))
  (View.ld (iblk7 V c 3 t) (Rect.unit (s := S8x1024x384) ![4, 0, 0] S1x1024x384.size inb_S8x1024x384_S1x1024x384_4_0_0))
  (View.ld (iblk7 V c 3 t) (Rect.unit (s := S8x1024x384) ![5, 0, 0] S1x1024x384.size inb_S8x1024x384_S1x1024x384_5_0_0))
  (View.ld (iblk7 V c 3 t) (Rect.unit (s := S8x1024x384) ![6, 0, 0] S1x1024x384.size inb_S8x1024x384_S1x1024x384_6_0_0))
  (View.ld (iblk7 V c 3 t) (Rect.unit (s := S8x1024x384) ![7, 0, 0] S1x1024x384.size inb_S8x1024x384_S1x1024x384_7_0_0))

/-- A point's block of the gradient by the normalised rows. -/
theorem block_back (t : Fin cfg7.N) : mat .f32 (k7_pay10 (prodA V c t) (prodB V c t)) = fun i j => back V c (row7 t i) j := by
  funext i j
  refine (k7_sum _ _ i j).trans ?_
  refine congrArg₂ (fun p q : EReal => p + q) ((k7_first (ld_blocks _) _ i j).trans ?_) ((k7_second (ld_blocks _) _ i j).trans ?_)
  · rw [iblk7_1]
    exact Finset.sum_congr rfl fun f _ => congrArg (fun p : EReal => p * _) (iblk7_0 V c t i f)
  · rw [iblk7_3]
    exact Finset.sum_congr rfl fun f _ => congrArg (fun p : EReal => p * _) (iblk7_2 V c t i f)

/-- A point's block of the rows before the normalisation. -/
theorem block_rows (t : Fin cfg7.N) : mat .f32 (iblk7 V c 4 t : Vec Ideal S256x1024 .f32) =
    fun i j => mat .f32 (V c main_v14_0 : Vec Ideal S4096x1024 .f32) (row7 t i) j := by
  funext i j
  exact iblk7_4 V c t i j

/-- A point's block of the gradient by the rows before the normalisation. -/
theorem block_through (t : Fin cfg7.N) (i : Fin 256) (j : Fin 1024) :
    normBack (mat .f32 (iblk7 V c 4 t : Vec Ideal S256x1024 .f32)) (mat .f32 (iblk7 V c 6 t : Vec Ideal S1x1024 .f32) 0)
      (mat .f32 (k7_pay10 (prodA V c t) (prodB V c t))) i j + (iblk7 V c 5 t : Vec Ideal S256x1024 .f32) (ix2 i j) =
    through7 V c (row7 t i) j := by
  rw [block_back, block_rows, iblk7_5, iblk7_6]
  rfl

/-- Result 0 holds the gradient by the rows before the normalisation. -/
theorem final7_7 : (dat7 V c).arrAt 7 cfg7.N = arr .f32 (through7 V c) := by
  refine (dat7 V c).arrAt_eq_of_covers 7 _ (by decide +kernel) fun t hf y => ?_
  blk_simp
  obtain ⟨i, j, rfl⟩ := eq_ix2 (a := 256) (b := 1024) y
  refine Eq.trans ?_ (arr_at _ _ _ (row7 t i) j ?_ ?_).symm
  · rw [← block_through, after7_7]
    by_cases h0 : t.val % 16 = 0
    · rw [outsAt7_A V c t h0]; frame_out
      exact k7_back _ _ _ _ _ i j
    · rw [outsAt7_B V c t h0]; frame_out
      exact k7_back _ _ _ _ _ i j
  all_goals (blk_simp [index7_7, row7]; try (dsimp only; omega))

/-- Result 1 holds the gradient by the rows before the normalisation. -/
theorem final7_8 : (dat7 V c).arrAt 8 cfg7.N = arr .bf16 (through7 V c) := by
  refine (dat7 V c).arrAt_eq_of_covers 8 _ (by decide +kernel) fun t hf y => ?_
  blk_simp
  obtain ⟨i, j, rfl⟩ := eq_ix2 (a := 256) (b := 1024) y
  refine Eq.trans ?_ (arr_at _ _ _ (row7 t i) j ?_ ?_).symm
  · rw [← block_through, after7_8]
    by_cases h0 : t.val % 16 = 0
    · rw [outsAt7_A V c t h0]; frame_out
      exact k7_rounded _ _ _ _ _ i j
    · rw [outsAt7_B V c t h0]; frame_out
      exact k7_rounded _ _ _ _ _ i j
  all_goals (blk_simp [index7_8, row7]; try (dsimp only; omega))

/-- What a row adds to the gradient by the gains. -/
def gainAt (i : Fin 4096) (j : Fin 1024) : EReal :=
  unit (mat .f32 (V c main_v14_0 : Vec Ideal S4096x1024 .f32) i) j * back V c i j

theorem gains_eq (t : Fin cfg7.N) (o : Vec Ideal S1x1024 .f32) (j : Fin 1024) :
    k7_pay14 (prodA V c t) (prodB V c t) (k7_pay5 (iblk7 V c 4 t)) (k7_pay8 (iblk7 V c 4 t)) o (ix2 0 j) =
      (o (ix2 0 j) : EReal) + ∑ r : Fin 256, gainAt V c (row7 t r) j := by
  refine (k7_gains _ _ _ o j).trans (congrArg (fun s : EReal => _ + s) (Finset.sum_congr rfl fun r _ => ?_))
  have e := congrFun (congrFun (block_back V c t) r) j
  exact congrArg₂ (fun p q : EReal => p * q) (congrArg (fun x => unit x j) (congrFun (block_rows V c t) r)) e

theorem gains_first (j : Fin 1024) (h : 0 < cfg7.N) :
    (outsAt7 V c 0 h).2.2 (ix2 0 j) = ∑ r : Fin 256, gainAt V c (row7 ⟨0, h⟩ r) j := by
  rw [outsAt7_A V c ⟨0, h⟩ rfl]; frame_out
  refine (gains_eq V c _ _ j).trans ?_
  rw [k7_zero, zero_add]

theorem gains_next (j : Fin 1024) (n : ℕ) (h : n + 1 < cfg7.N) : (outsAt7 V c (n + 1) h).2.2 (ix2 0 j) =
    ((outsAt7 V c n (Nat.lt_of_succ_lt h)).2.2 (ix2 0 j) : EReal) + ∑ r : Fin 256, gainAt V c (row7 ⟨n + 1, h⟩ r) j := by
  have hN : cfg7.N = 16 := N_7
  rw [outsAt7_B V c ⟨n + 1, h⟩ (by dsimp only; omega)]; frame_out
  exact gains_eq V c _ _ j

/-- Result 2 holds the gradient by the gains. -/
theorem final7_9 : (dat7 V c).arrAt 9 cfg7.N = arr .f32 (fun _ j => ∑ i, gainAt V c i j) := by
  refine (dat7 V c).arrAt_eq_of_covers 9 _ (by decide +kernel) fun t hf y => ?_
  have hN : cfg7.N = 16 := N_7
  have ht : t.val = 15 := by have := (flush7_9 t).mp hf; have := t.isLt; omega
  blk_simp
  rw [after7_9]
  obtain ⟨z, j, rfl⟩ := eq_ix2 (a := 1) (b := 1024) y
  obtain rfl : z = 0 := Subsingleton.elim _ _
  refine Eq.trans ?_ (arr_at _ _ _ 0 j ?_ ?_).symm
  · refine (accum (fun t => ∑ r : Fin 256, gainAt V c (row7 t r) j) (fun n h => (outsAt7 V c n h).2.2 (ix2 0 j))
      (gains_first V c j) (gains_next V c j) t.val t.isLt).trans ?_
    obtain ⟨n, hn⟩ := t
    obtain rfl : n = 15 := ht
    refine Eq.trans ?_ (sum_blocks 16 256 (fun i => gainAt V c i j)).symm
    exact Finset.sum_congr rfl fun p _ => Finset.sum_congr rfl fun r _ =>
      congrArg (fun i => gainAt V c i j) (Fin.ext (Nat.add_comm _ _))
  all_goals blk_simp [index7_9]

end Cert.Kernel2Ideal.Ffn

end
-- ==== Proof.FfnRegion8.lean ====
/-
  The gradient by the projection: what the last call leaves in its result array, from the arrays it finds.
-/
module

public import proofs.«01_k».proof.Proof.FfnSpec
public import proofs.«01_k».proof.Proof.Gen.Kernel2Ideal.Frame.Region8
public import Idealize.ShloMosaic.Lib.Pipeline.ValueKit.Geometry
public import Idealize.ShloMosaic.Lib.Pipeline.ValueKit.Acc
public import Idealize.ShloMosaic.Lib.Pipeline.ValueKit.Tiles

@[expose] public section

set_option maxRecDepth 16384

noncomputable section

namespace Cert.Kernel2Ideal.Ffn

open Idealize.ShloMosaic Idealize.ShloMosaic.TcCoe Idealize.ShloMosaic.Tactic Idealize.SL.Sem
open Cert.Kernel2Ideal.Gen Cert.Ffn

theorem k8_product (a : Vec Ideal S4096x512 .bf16) (b : Vec Ideal S4096x1024 .bf16) (i : Fin 512) (j : Fin 1024) :
    k8_pay1 a b (ix2 i j) = ∑ x : Fin 4096, (a (ix2 x i) : EReal) * b (ix2 x j) := by
  pointwise [k8_pay1]

variable (V : (c : Dev nD) → (b : Ref sig .tc) → Buf (Elt Ideal) ((c : Thread nD τ).loc b)) (c : Dev nD)

theorem index8_0 : ∀ t : Fin cfg8.N, win8_0.index t = ![0, t.val] := by
  change ∀ t : Fin grid8.N, _; decide +kernel
theorem index8_1 : ∀ t : Fin cfg8.N, win8_1.index t = ![0, 0] := by
  change ∀ t : Fin grid8.N, _; decide +kernel
theorem index8_2 : ∀ t : Fin cfg8.N, win8_2.index t = ![t.val, 0] := by
  change ∀ t : Fin grid8.N, _; decide +kernel

/-- Row `r` of point `t`'s block of 512 rows. -/
def row8 (t : Fin cfg8.N) (r : Fin 512) : Fin 1024 :=
  ⟨512 * (t.val) + r.val, by have := t.isLt; have : cfg8.N = 2 := N_8; omega⟩

theorem iblk8_0 (t : Fin cfg8.N) (r : Fin 4096) (v : Fin 512) : (iblk8 V c 0 t : Vec Ideal S4096x512 .bf16) (ix2 r v) =
    (V c main_v13 : Vec Ideal S4096x1024 .bf16) (ix2 r (row8 t v)) := by
  blk_simp [iblk8]
  refine congrArg (V c main_v13 : Vec Ideal S4096x1024 .bf16) ?_
  blk_ext [index8_0, row8]

theorem iblk8_1 (t : Fin cfg8.N) (r : Fin 4096) (v : Fin 1024) : (iblk8 V c 1 t : Vec Ideal S4096x1024 .bf16) (ix2 r v) =
    (V c main_v22_1 : Vec Ideal S4096x1024 .bf16) (ix2 r v) := by
  blk_simp [iblk8]
  refine congrArg (V c main_v22_1 : Vec Ideal S4096x1024 .bf16) ?_
  blk_ext [index8_1]

/-- The result holds the product of the first array's columns with the second array's. -/
theorem final8_2 : (dat8 V c).arrAt 2 cfg8.N = arr .bf16 (tDot (mat .bf16 (V c main_v13 : Vec Ideal S4096x1024 .bf16))
    (mat .bf16 (V c main_v22_1 : Vec Ideal S4096x1024 .bf16))) := by
  refine (dat8 V c).arrAt_eq_of_covers 2 _ (by decide +kernel) fun t hf y => ?_
  blk_simp
  rw [after8_2]; frame_out
  obtain ⟨i, j, rfl⟩ := eq_ix2 (a := 512) (b := 1024) y
  refine Eq.trans ?_ (arr_at _ _ _ (row8 t i) j ?_ ?_).symm
  · refine (k8_product _ _ i j).trans (Finset.sum_congr rfl fun x _ => ?_)
    rw [iblk8_0, iblk8_1]
    rfl
  all_goals (blk_simp [index8_2, row8]; try (dsimp only; omega))

end Cert.Kernel2Ideal.Ffn

end
-- ==== Proof.FfnChain.lean ====
/-
  The layer's calls one after the other: what each array holds when the next call begins, as the values of the layer whose
  weights are those the host has prepared, and these against the values of the layer as given.
-/
module

public import proofs.«01_k».proof.Proof.FfnHost
public import proofs.«01_k».proof.Proof.FfnRegion0
public import proofs.«01_k».proof.Proof.FfnRegion1
public import proofs.«01_k».proof.Proof.FfnRegion2
public import proofs.«01_k».proof.Proof.FfnRegion3
public import proofs.«01_k».proof.Proof.FfnRegion4
public import proofs.«01_k».proof.Proof.FfnRegion5
public import proofs.«01_k».proof.Proof.FfnRegion6
public import proofs.«01_k».proof.Proof.FfnRegion7
public import proofs.«01_k».proof.Proof.FfnRegion8

@[expose] public section

set_option maxRecDepth 16384

noncomputable section

namespace Cert.Kernel2Ideal.Ffn

open Idealize.ShloMosaic Idealize.ShloMosaic.TcCoe Idealize.ShloMosaic.StableHlo Cert.Ffn Cert.Kernel2Ideal Cert.Kernel2Ideal.Gen

variable (m : (ℓ : Loc nD τ sig) → Buf (Elt Ideal) ℓ) (ρ : Dev nD → PrngReg) (c : Dev nD)

/-- The layer the calls compute: the arrays as the first call finds them, its hidden columns widened to 3072. -/
def padded : Layer 3072 where
  x := mat .f32 (V7 (F := Ideal) m ρ c main_arg0 : Vec Ideal S4096x1024 .f32)
  merged := mat .bf16 (V7 (F := Ideal) m ρ c main_v13 : Vec Ideal S4096x1024 .bf16)
  wo := mat .bf16 (V7 (F := Ideal) m ρ c main_v8 : Vec Ideal S1024x1024 .bf16)
  g := mat .f32 (V7 (F := Ideal) m ρ c main_arg3 : Vec Ideal S1x1024 .f32) 0
  wg := cols .bf16 (V7 (F := Ideal) m ρ c main_v3 : Vec Ideal S8x1024x384 .bf16)
  wu := cols .bf16 (V7 (F := Ideal) m ρ c main_v7 : Vec Ideal S8x1024x384 .bf16)
  wd := mat .bf16 (V7 (F := Ideal) m ρ c main_v12 : Vec Ideal S3072x1024 .bf16)
  target := mat .f32 (V7 (F := Ideal) m ρ c main_arg7 : Vec Ideal S4096x1024 .f32)

/-! ## What each call leaves -/

theorem at8_v14_0 : W8 (F := Ideal) m ρ c (Proc.devRef .tc main_v14_0) = arr .f32 (padded m ρ c).x1 := by
  refine (W8_arr m ρ c 4).trans ((final0_4 (V7 (F := Ideal) m ρ) c).trans ?_)
  rfl

theorem at8_v14_1 : W8 (F := Ideal) m ρ c (Proc.devRef .tc main_v14_1) = arr .bf16 (padded m ρ c).h2 := by
  refine (W8_arr m ρ c 5).trans ((final0_5 (V7 (F := Ideal) m ρ) c).trans ?_)
  rfl

theorem at8_v3 : W8 (F := Ideal) m ρ c (Proc.devRef .tc main_v3) = W7 (F := Ideal) m ρ c (Proc.devRef .tc main_v3) :=
  (W8_of m ρ c main_v3 (by decide))

theorem at8_v7 : W8 (F := Ideal) m ρ c (Proc.devRef .tc main_v7) = W7 (F := Ideal) m ρ c (Proc.devRef .tc main_v7) :=
  (W8_of m ρ c main_v7 (by decide))

theorem at9_v15_0 : W9 (F := Ideal) m ρ c (Proc.devRef .tc main_v15_0) = arr .f32 (padded m ρ c).gate := by
  refine (W9_arr m ρ c 4).trans ((final1_4 (V8 (F := Ideal) m ρ) c).trans ?_)
  rw [show V8 (F := Ideal) m ρ c main_v14_1 = _ from at8_v14_1 m ρ c, show V8 (F := Ideal) m ρ c main_v3 = _ from at8_v3 m ρ c]
  rfl

theorem at9_v15_1 : W9 (F := Ideal) m ρ c (Proc.devRef .tc main_v15_1) = arr .f32 (padded m ρ c).up := by
  refine (W9_arr m ρ c 5).trans ((final1_5 (V8 (F := Ideal) m ρ) c).trans ?_)
  rw [show V8 (F := Ideal) m ρ c main_v14_1 = _ from at8_v14_1 m ρ c, show V8 (F := Ideal) m ρ c main_v7 = _ from at8_v7 m ρ c]
  rfl

theorem at9_v15_2 : W9 (F := Ideal) m ρ c (Proc.devRef .tc main_v15_2) = arr .bf16 (padded m ρ c).act := by
  refine (W9_arr m ρ c 6).trans ((final1_6 (V8 (F := Ideal) m ρ) c).trans ?_)
  rw [show V8 (F := Ideal) m ρ c main_v14_1 = _ from at8_v14_1 m ρ c, show V8 (F := Ideal) m ρ c main_v3 = _ from at8_v3 m ρ c, show V8 (F := Ideal) m ρ c main_v7 = _ from at8_v7 m ρ c]
  rfl

theorem at9_v12 : W9 (F := Ideal) m ρ c (Proc.devRef .tc main_v12) = W7 (F := Ideal) m ρ c (Proc.devRef .tc main_v12) :=
  ((W9_of m ρ c main_v12 (by decide)).trans (W8_of m ρ c main_v12 (by decide)))

theorem at9_v14_0 : W9 (F := Ideal) m ρ c (Proc.devRef .tc main_v14_0) = arr .f32 (padded m ρ c).x1 :=
  ((W9_of m ρ c main_v14_0 (by decide)).trans (at8_v14_0 m ρ c))

theorem at9_arg7 : W9 (F := Ideal) m ρ c (Proc.devRef .tc main_arg7) = W7 (F := Ideal) m ρ c (Proc.devRef .tc main_arg7) :=
  ((W9_of m ρ c main_arg7 (by decide)).trans (W8_of m ρ c main_arg7 (by decide)))

theorem at10_v16_0 : W10 (F := Ideal) m ρ c (Proc.devRef .tc main_v16_0) = arr .f32 (padded m ρ c).dy := by
  refine (W10_arr m ρ c 4).trans ((final2_4 (V9 (F := Ideal) m ρ) c).trans ?_)
  unfold gap
  rw [show V9 (F := Ideal) m ρ c main_v15_2 = _ from at9_v15_2 m ρ c, show V9 (F := Ideal) m ρ c main_v12 = _ from at9_v12 m ρ c, show V9 (F := Ideal) m ρ c main_v14_0 = _ from at9_v14_0 m ρ c, show V9 (F := Ideal) m ρ c main_arg7 = _ from at9_arg7 m ρ c]
  rfl

theorem at10_v16_1 : W10 (F := Ideal) m ρ c (Proc.devRef .tc main_v16_1) = arr .bf16 (padded m ρ c).dy := by
  refine (W10_arr m ρ c 5).trans ((final2_5 (V9 (F := Ideal) m ρ) c).trans ?_)
  unfold gap
  rw [show V9 (F := Ideal) m ρ c main_v15_2 = _ from at9_v15_2 m ρ c, show V9 (F := Ideal) m ρ c main_v12 = _ from at9_v12 m ρ c, show V9 (F := Ideal) m ρ c main_v14_0 = _ from at9_v14_0 m ρ c, show V9 (F := Ideal) m ρ c main_arg7 = _ from at9_arg7 m ρ c]
  rfl

theorem at10_v16_2 : W10 (F := Ideal) m ρ c (Proc.devRef .tc main_v16_2) = arr .f32 (fun _ _ => (padded m ρ c).loss) := by
  refine (W10_arr m ρ c 6).trans ((final2_6 (V9 (F := Ideal) m ρ) c).trans ?_)
  unfold rowErr gap
  rw [show V9 (F := Ideal) m ρ c main_v15_2 = _ from at9_v15_2 m ρ c, show V9 (F := Ideal) m ρ c main_v12 = _ from at9_v12 m ρ c, show V9 (F := Ideal) m ρ c main_v14_0 = _ from at9_v14_0 m ρ c, show V9 (F := Ideal) m ρ c main_arg7 = _ from at9_arg7 m ρ c]
  rfl

theorem at10_v12 : W10 (F := Ideal) m ρ c (Proc.devRef .tc main_v12) = W7 (F := Ideal) m ρ c (Proc.devRef .tc main_v12) :=
  ((W10_of m ρ c main_v12 (by decide)).trans (at9_v12 m ρ c))

theorem at10_v15_0 : W10 (F := Ideal) m ρ c (Proc.devRef .tc main_v15_0) = arr .f32 (padded m ρ c).gate :=
  ((W10_of m ρ c main_v15_0 (by decide)).trans (at9_v15_0 m ρ c))

theorem at10_v15_1 : W10 (F := Ideal) m ρ c (Proc.devRef .tc main_v15_1) = arr .f32 (padded m ρ c).up :=
  ((W10_of m ρ c main_v15_1 (by decide)).trans (at9_v15_1 m ρ c))

theorem at11_v17_0 : W11 (F := Ideal) m ρ c (Proc.devRef .tc main_v17_0) = arr .bf16 (padded m ρ c).dgate := by
  refine (W11_arr m ρ c 4).trans ((final3_4 (V10 (F := Ideal) m ρ) c).trans ?_)
  rw [show V10 (F := Ideal) m ρ c main_v16_1 = _ from at10_v16_1 m ρ c, show V10 (F := Ideal) m ρ c main_v12 = _ from at10_v12 m ρ c, show V10 (F := Ideal) m ρ c main_v15_0 = _ from at10_v15_0 m ρ c, show V10 (F := Ideal) m ρ c main_v15_1 = _ from at10_v15_1 m ρ c]
  rfl

theorem at11_v17_1 : W11 (F := Ideal) m ρ c (Proc.devRef .tc main_v17_1) = arr .bf16 (padded m ρ c).dup := by
  refine (W11_arr m ρ c 5).trans ((final3_5 (V10 (F := Ideal) m ρ) c).trans ?_)
  rw [show V10 (F := Ideal) m ρ c main_v16_1 = _ from at10_v16_1 m ρ c, show V10 (F := Ideal) m ρ c main_v12 = _ from at10_v12 m ρ c, show V10 (F := Ideal) m ρ c main_v15_0 = _ from at10_v15_0 m ρ c]
  rfl

theorem at11_v15_2 : W11 (F := Ideal) m ρ c (Proc.devRef .tc main_v15_2) = arr .bf16 (padded m ρ c).act :=
  ((W11_of m ρ c main_v15_2 (by decide)).trans ((W10_of m ρ c main_v15_2 (by decide)).trans (at9_v15_2 m ρ c)))

theorem at11_v16_1 : W11 (F := Ideal) m ρ c (Proc.devRef .tc main_v16_1) = arr .bf16 (padded m ρ c).dy :=
  ((W11_of m ρ c main_v16_1 (by decide)).trans (at10_v16_1 m ρ c))

theorem at12_v18 : W12 (F := Ideal) m ρ c (Proc.devRef .tc main_v18) = arr .bf16 (padded m ρ c).dwd := by
  refine (W12_arr m ρ c 2).trans ((final4_2 (V11 (F := Ideal) m ρ) c).trans ?_)
  rw [show V11 (F := Ideal) m ρ c main_v15_2 = _ from at11_v15_2 m ρ c, show V11 (F := Ideal) m ρ c main_v16_1 = _ from at11_v16_1 m ρ c]
  rfl

theorem at13_v14_1 : W13 (F := Ideal) m ρ c (Proc.devRef .tc main_v14_1) = arr .bf16 (padded m ρ c).h2 :=
  ((W13_of m ρ c main_v14_1 (by decide)).trans ((W12_of m ρ c main_v14_1 (by decide)).trans ((W11_of m ρ c main_v14_1 (by decide)).trans ((W10_of m ρ c main_v14_1 (by decide)).trans ((W9_of m ρ c main_v14_1 (by decide)).trans (at8_v14_1 m ρ c))))))

theorem at13_v17_0 : W13 (F := Ideal) m ρ c (Proc.devRef .tc main_v17_0) = arr .bf16 (padded m ρ c).dgate :=
  ((W13_of m ρ c main_v17_0 (by decide)).trans ((W12_of m ρ c main_v17_0 (by decide)).trans (at11_v17_0 m ρ c)))

theorem at14_v20 : W14 (F := Ideal) m ρ c (Proc.devRef .tc main_v20) = uncols .bf16 (padded m ρ c).dwg := by
  refine (W14_arr m ρ c 2).trans ((final5_2 (V13 (F := Ideal) m ρ) c).trans ?_)
  rw [show V13 (F := Ideal) m ρ c main_v14_1 = _ from at13_v14_1 m ρ c, show V13 (F := Ideal) m ρ c main_v17_0 = _ from at13_v17_0 m ρ c]
  rfl

theorem at14_v14_1 : W14 (F := Ideal) m ρ c (Proc.devRef .tc main_v14_1) = arr .bf16 (padded m ρ c).h2 :=
  ((W14_of m ρ c main_v14_1 (by decide)).trans (at13_v14_1 m ρ c))

theorem at14_v17_1 : W14 (F := Ideal) m ρ c (Proc.devRef .tc main_v17_1) = arr .bf16 (padded m ρ c).dup :=
  ((W14_of m ρ c main_v17_1 (by decide)).trans ((W13_of m ρ c main_v17_1 (by decide)).trans ((W12_of m ρ c main_v17_1 (by decide)).trans (at11_v17_1 m ρ c))))

theorem at15_v21 : W15 (F := Ideal) m ρ c (Proc.devRef .tc main_v21) = uncols .bf16 (padded m ρ c).dwu := by
  refine (W15_arr m ρ c 2).trans ((final6_2 (V14 (F := Ideal) m ρ) c).trans ?_)
  rw [show V14 (F := Ideal) m ρ c main_v14_1 = _ from at14_v14_1 m ρ c, show V14 (F := Ideal) m ρ c main_v17_1 = _ from at14_v17_1 m ρ c]
  rfl

theorem at15_v17_0 : W15 (F := Ideal) m ρ c (Proc.devRef .tc main_v17_0) = arr .bf16 (padded m ρ c).dgate :=
  ((W15_of m ρ c main_v17_0 (by decide)).trans ((W14_of m ρ c main_v17_0 (by decide)).trans (at13_v17_0 m ρ c)))

theorem at15_v3 : W15 (F := Ideal) m ρ c (Proc.devRef .tc main_v3) = W7 (F := Ideal) m ρ c (Proc.devRef .tc main_v3) :=
  ((W15_of m ρ c main_v3 (by decide)).trans ((W14_of m ρ c main_v3 (by decide)).trans ((W13_of m ρ c main_v3 (by decide)).trans ((W12_of m ρ c main_v3 (by decide)).trans ((W11_of m ρ c main_v3 (by decide)).trans ((W10_of m ρ c main_v3 (by decide)).trans ((W9_of m ρ c main_v3 (by decide)).trans (at8_v3 m ρ c))))))))

theorem at15_v17_1 : W15 (F := Ideal) m ρ c (Proc.devRef .tc main_v17_1) = arr .bf16 (padded m ρ c).dup :=
  ((W15_of m ρ c main_v17_1 (by decide)).trans (at14_v17_1 m ρ c))

theorem at15_v7 : W15 (F := Ideal) m ρ c (Proc.devRef .tc main_v7) = W7 (F := Ideal) m ρ c (Proc.devRef .tc main_v7) :=
  ((W15_of m ρ c main_v7 (by decide)).trans ((W14_of m ρ c main_v7 (by decide)).trans ((W13_of m ρ c main_v7 (by decide)).trans ((W12_of m ρ c main_v7 (by decide)).trans ((W11_of m ρ c main_v7 (by decide)).trans ((W10_of m ρ c main_v7 (by decide)).trans ((W9_of m ρ c main_v7 (by decide)).trans (at8_v7 m ρ c))))))))

theorem at15_v14_0 : W15 (F := Ideal) m ρ c (Proc.devRef .tc main_v14_0) = arr .f32 (padded m ρ c).x1 :=
  ((W15_of m ρ c main_v14_0 (by decide)).trans ((W14_of m ρ c main_v14_0 (by decide)).trans ((W13_of m ρ c main_v14_0 (by decide)).trans ((W12_of m ρ c main_v14_0 (by decide)).trans ((W11_of m ρ c main_v14_0 (by decide)).trans ((W10_of m ρ c main_v14_0 (by decide)).trans (at9_v14_0 m ρ c)))))))

theorem at15_v16_0 : W15 (F := Ideal) m ρ c (Proc.devRef .tc main_v16_0) = arr .f32 (padded m ρ c).dy :=
  ((W15_of m ρ c main_v16_0 (by decide)).trans ((W14_of m ρ c main_v16_0 (by decide)).trans ((W13_of m ρ c main_v16_0 (by decide)).trans ((W12_of m ρ c main_v16_0 (by decide)).trans ((W11_of m ρ c main_v16_0 (by decide)).trans (at10_v16_0 m ρ c))))))

theorem at15_arg3 : W15 (F := Ideal) m ρ c (Proc.devRef .tc main_arg3) = W7 (F := Ideal) m ρ c (Proc.devRef .tc main_arg3) :=
  ((W15_of m ρ c main_arg3 (by decide)).trans ((W14_of m ρ c main_arg3 (by decide)).trans ((W13_of m ρ c main_arg3 (by decide)).trans ((W12_of m ρ c main_arg3 (by decide)).trans ((W11_of m ρ c main_arg3 (by decide)).trans ((W10_of m ρ c main_arg3 (by decide)).trans ((W9_of m ρ c main_arg3 (by decide)).trans (W8_of m ρ c main_arg3 (by decide)))))))))

theorem at16_v22_0 : W16 (F := Ideal) m ρ c (Proc.devRef .tc main_v22_0) = arr .f32 (padded m ρ c).dx1 := by
  refine (W16_arr m ρ c 7).trans ((final7_7 (V15 (F := Ideal) m ρ) c).trans ?_)
  unfold through7 back
  rw [show V15 (F := Ideal) m ρ c main_v17_0 = _ from at15_v17_0 m ρ c, show V15 (F := Ideal) m ρ c main_v3 = _ from at15_v3 m ρ c, show V15 (F := Ideal) m ρ c main_v17_1 = _ from at15_v17_1 m ρ c, show V15 (F := Ideal) m ρ c main_v7 = _ from at15_v7 m ρ c, show V15 (F := Ideal) m ρ c main_v14_0 = _ from at15_v14_0 m ρ c, show V15 (F := Ideal) m ρ c main_v16_0 = _ from at15_v16_0 m ρ c, show V15 (F := Ideal) m ρ c main_arg3 = _ from at15_arg3 m ρ c]
  rfl

theorem at16_v22_1 : W16 (F := Ideal) m ρ c (Proc.devRef .tc main_v22_1) = arr .bf16 (padded m ρ c).dx1 := by
  refine (W16_arr m ρ c 8).trans ((final7_8 (V15 (F := Ideal) m ρ) c).trans ?_)
  unfold through7 back
  rw [show V15 (F := Ideal) m ρ c main_v17_0 = _ from at15_v17_0 m ρ c, show V15 (F := Ideal) m ρ c main_v3 = _ from at15_v3 m ρ c, show V15 (F := Ideal) m ρ c main_v17_1 = _ from at15_v17_1 m ρ c, show V15 (F := Ideal) m ρ c main_v7 = _ from at15_v7 m ρ c, show V15 (F := Ideal) m ρ c main_v14_0 = _ from at15_v14_0 m ρ c, show V15 (F := Ideal) m ρ c main_v16_0 = _ from at15_v16_0 m ρ c, show V15 (F := Ideal) m ρ c main_arg3 = _ from at15_arg3 m ρ c]
  rfl

theorem at16_v22_2 : W16 (F := Ideal) m ρ c (Proc.devRef .tc main_v22_2) = arr .f32 (fun _ j => (padded m ρ c).dg j) := by
  refine (W16_arr m ρ c 9).trans ((final7_9 (V15 (F := Ideal) m ρ) c).trans ?_)
  unfold gainAt back
  rw [show V15 (F := Ideal) m ρ c main_v17_0 = _ from at15_v17_0 m ρ c, show V15 (F := Ideal) m ρ c main_v3 = _ from at15_v3 m ρ c, show V15 (F := Ideal) m ρ c main_v17_1 = _ from at15_v17_1 m ρ c, show V15 (F := Ideal) m ρ c main_v7 = _ from at15_v7 m ρ c, show V15 (F := Ideal) m ρ c main_v14_0 = _ from at15_v14_0 m ρ c]
  rfl

theorem at16_v13 : W16 (F := Ideal) m ρ c (Proc.devRef .tc main_v13) = W7 (F := Ideal) m ρ c (Proc.devRef .tc main_v13) :=
  ((W16_of m ρ c main_v13 (by decide)).trans ((W15_of m ρ c main_v13 (by decide)).trans ((W14_of m ρ c main_v13 (by decide)).trans ((W13_of m ρ c main_v13 (by decide)).trans ((W12_of m ρ c main_v13 (by decide)).trans ((W11_of m ρ c main_v13 (by decide)).trans ((W10_of m ρ c main_v13 (by decide)).trans ((W9_of m ρ c main_v13 (by decide)).trans (W8_of m ρ c main_v13 (by decide))))))))))

theorem at17_v23 : W17 (F := Ideal) m ρ c (Proc.devRef .tc main_v23) = arr .bf16 (padded m ρ c).dwo := by
  refine (W17_arr m ρ c 2).trans ((final8_2 (V16 (F := Ideal) m ρ) c).trans ?_)
  rw [show V16 (F := Ideal) m ρ c main_v13 = _ from at16_v13 m ρ c, show V16 (F := Ideal) m ρ c main_v22_1 = _ from at16_v22_1 m ρ c]
  rfl

theorem at17_v16_2 : W17 (F := Ideal) m ρ c (Proc.devRef .tc main_v16_2) = arr .f32 (fun _ _ => (padded m ρ c).loss) :=
  ((W17_of m ρ c main_v16_2 (by decide)).trans ((W16_of m ρ c main_v16_2 (by decide)).trans ((W15_of m ρ c main_v16_2 (by decide)).trans ((W14_of m ρ c main_v16_2 (by decide)).trans ((W13_of m ρ c main_v16_2 (by decide)).trans ((W12_of m ρ c main_v16_2 (by decide)).trans ((W11_of m ρ c main_v16_2 (by decide)).trans (at10_v16_2 m ρ c))))))))

theorem at17_v22_0 : W17 (F := Ideal) m ρ c (Proc.devRef .tc main_v22_0) = arr .f32 (padded m ρ c).dx1 :=
  ((W17_of m ρ c main_v22_0 (by decide)).trans (at16_v22_0 m ρ c))

theorem at17_v22_2 : W17 (F := Ideal) m ρ c (Proc.devRef .tc main_v22_2) = arr .f32 (fun _ j => (padded m ρ c).dg j) :=
  ((W17_of m ρ c main_v22_2 (by decide)).trans (at16_v22_2 m ρ c))

theorem at17_v20 : W17 (F := Ideal) m ρ c (Proc.devRef .tc main_v20) = uncols .bf16 (padded m ρ c).dwg :=
  ((W17_of m ρ c main_v20 (by decide)).trans ((W16_of m ρ c main_v20 (by decide)).trans ((W15_of m ρ c main_v20 (by decide)).trans (at14_v20 m ρ c))))

theorem at17_v21 : W17 (F := Ideal) m ρ c (Proc.devRef .tc main_v21) = uncols .bf16 (padded m ρ c).dwu :=
  ((W17_of m ρ c main_v21 (by decide)).trans ((W16_of m ρ c main_v21 (by decide)).trans (at15_v21 m ρ c)))

theorem at18_v22_0 : W18 (F := Ideal) m ρ c (Proc.devRef .tc main_v22_0) = arr .f32 (padded m ρ c).dx1 :=
  ((W18_of m ρ c main_v22_0 (by decide)).trans (at17_v22_0 m ρ c))

theorem at18_v22_2 : W18 (F := Ideal) m ρ c (Proc.devRef .tc main_v22_2) = arr .f32 (fun _ j => (padded m ρ c).dg j) :=
  ((W18_of m ρ c main_v22_2 (by decide)).trans (at17_v22_2 m ρ c))

theorem at18_v16_2 : W18 (F := Ideal) m ρ c (Proc.devRef .tc main_v16_2) = arr .f32 (fun _ _ => (padded m ρ c).loss) :=
  ((W18_of m ρ c main_v16_2 (by decide)).trans (at17_v16_2 m ρ c))

/-! ## The layer as given -/

/-- Where the widened weights hold column `f` of the given ones. -/
def widen (f : Fin 2816) : Fin 3072 := ⟨f.val / 352 * 384 + f.val % 352, by omega⟩

/-- The layer as given to the program. -/
def given : Layer 2816 :=
  layerOf (m (c.tc.loc main_arg0)) (m (c.tc.loc main_arg1)) (m (c.tc.loc main_arg2))
    (m (c.tc.loc main_arg3)) (m (c.tc.loc main_arg4)) (m (c.tc.loc main_arg5))
    (m (c.tc.loc main_arg6)) (m (c.tc.loc main_arg7))

/-- A column of the widened weights that is none of the given ones lies among the last 32 of its block. -/
theorem off (f : Fin 3072) (h : f ∉ Set.range widen) : ¬ f.val % 384 < 352 := fun h' =>
  h ⟨⟨f.val / 384 * 352 + f.val % 384, by omega⟩, Fin.ext (by dsimp only [widen]; omega)⟩

/-- The gate's weights as the calls find them. -/
theorem wg_at (i : Fin 1024) (f : Fin 3072) : (padded m ρ c).wg i f =
    if h : f.val % 384 < 352 then (given m c).wg i ⟨f.val / 384 * 352 + f.val % 384, by omega⟩ else 0 :=
  prep_v3 (W0 m ρ c) ⟨f.val / 384, by omega⟩ i ⟨f.val % 384, by omega⟩

/-- The hidden columns' weights as the calls find them. -/
theorem wu_at (i : Fin 1024) (f : Fin 3072) : (padded m ρ c).wu i f =
    if h : f.val % 384 < 352 then (given m c).wu i ⟨f.val / 384 * 352 + f.val % 384, by omega⟩ else 0 :=
  prep_v7 (W0 m ρ c) ⟨f.val / 384, by omega⟩ i ⟨f.val % 384, by omega⟩

/-- The weights back as the calls find them. -/
theorem wd_at (f : Fin 3072) (j : Fin 1024) : (padded m ρ c).wd f j =
    if h : f.val % 384 < 352 then (given m c).wd ⟨f.val / 384 * 352 + f.val % 384, by omega⟩ j else 0 :=
  prep_v12 (W0 m ρ c) f j

/-- Column `f` of the given weights, found again. -/
theorem widen_back (f : Fin 2816) (h : (widen f).val / 384 * 352 + (widen f).val % 384 < 2816) :
    (⟨(widen f).val / 384 * 352 + (widen f).val % 384, h⟩ : Fin 2816) = f :=
  Fin.ext (by dsimp only [widen]; omega)

theorem widen_on (f : Fin 2816) : (widen f).val % 384 < 352 := by dsimp only [widen]; omega

theorem merged_eq : (padded m ρ c).merged = (given m c).merged :=
  funext fun i => funext fun j => prep_v13 (W0 m ρ c) i j

theorem wo_eq : (padded m ρ c).wo = (given m c).wo :=
  funext fun i => funext fun j => prep_v8 (W0 m ρ c) i j

theorem x_eq : (padded m ρ c).x = (given m c).x :=
  congrArg (mat .f32) (W7_args m ρ c main_arg0 (by decide))

theorem g_eq : (padded m ρ c).g = (given m c).g :=
  congrArg (fun a : Vec Ideal S1x1024 .f32 => mat .f32 a 0) (W7_args m ρ c main_arg3 (by decide))

theorem target_eq : (padded m ρ c).target = (given m c).target :=
  congrArg (mat .f32) (W7_args m ρ c main_arg7 (by decide))

/-- The layer the calls compute is the given one, with further hidden columns of zero weights. -/
theorem pads : Layer.Pads widen (given m c) (padded m ρ c) where
  inj f f' h := Fin.ext (by have := congrArg Fin.val h; dsimp only [widen] at this; omega)
  x := x_eq m ρ c
  merged := merged_eq m ρ c
  wo := wo_eq m ρ c
  g := g_eq m ρ c
  target := target_eq m ρ c
  wg i f := by rw [wg_at, dif_pos (widen_on f), widen_back]
  wu i f := by rw [wu_at, dif_pos (widen_on f), widen_back]
  wd f j := by rw [wd_at, dif_pos (widen_on f), widen_back]
  wg0 i f h := by rw [wg_at, dif_neg (off f h)]
  wu0 i f h := by rw [wu_at, dif_neg (off f h)]
  wd0 f j h := by rw [wd_at, dif_neg (off f h)]

/-! ## The results -/

/-- The loss. -/
theorem result_loss : W18 m ρ c (Proc.devRef .tc main_v16_2) = arr .f32 (fun _ _ => (given m c).loss) :=
  (at18_v16_2 m ρ c).trans (congrArg (fun q => arr .f32 (fun _ _ => q)) (pads m ρ c).loss)

/-- The gradient by the rows entering. -/
theorem result_dx1 : W18 m ρ c (Proc.devRef .tc main_v22_0) = arr .f32 (given m c).dx1 :=
  (at18_v22_0 m ρ c).trans (congrArg (arr .f32) (pads m ρ c).dx1)

/-- The gradient by the gains. -/
theorem result_dg : W18 m ρ c (Proc.devRef .tc main_v22_2) = arr .f32 (fun _ j => (given m c).dg j) :=
  (at18_v22_2 m ρ c).trans (congrArg (fun q => arr .f32 (fun _ j => q j)) (pads m ρ c).dg)

/-- The gradient by the projection. -/
theorem result_dwo : W18 m ρ c (Proc.devRef .tc main_v26) = arr .f32 (given m c).dwo := by
  refine funext fun y => ?_
  obtain ⟨i, j, rfl⟩ := eq_ix2 (a := 1024) (b := 1024) y
  refine (fin_v26 (W17 m ρ c) i j).trans ?_
  rw [at17_v23, (pads m ρ c).dwo]
  rfl

/-- The gradient by the gate's weights. -/
theorem result_dwg : W18 m ρ c (Proc.devRef .tc main_v30) = arr .f32 (given m c).dwg := by
  refine funext fun y => ?_
  obtain ⟨i, f, rfl⟩ := eq_ix2 (a := 1024) (b := 2816) y
  refine (fin_v30 (W17 m ρ c) i f).trans ?_
  rw [at17_v20]
  exact (uncols_at _ _ _ i (widen f) rfl (by dsimp only [widen]; exact congrArg (· + f.val % 352) (Nat.mul_comm _ _))).trans
    ((pads m ρ c).dwg i f)

/-- The gradient by the hidden columns' weights. -/
theorem result_dwu : W18 m ρ c (Proc.devRef .tc main_v34) = arr .f32 (given m c).dwu := by
  refine funext fun y => ?_
  obtain ⟨i, f, rfl⟩ := eq_ix2 (a := 1024) (b := 2816) y
  refine (fin_v34 (W17 m ρ c) i f).trans ?_
  rw [at17_v21]
  exact (uncols_at _ _ _ i (widen f) rfl (by dsimp only [widen]; exact congrArg (· + f.val % 352) (Nat.mul_comm _ _))).trans
    ((pads m ρ c).dwu i f)

/-- The gradient by the weights back. -/
theorem result_dwd : W18 m ρ c (Proc.devRef .tc main_v35) = arr .f32 (given m c).dwd := by
  refine funext fun y => ?_
  obtain ⟨f, j, rfl⟩ := eq_ix2 (a := 2816) (b := 1024) y
  refine (fin_v35 (W17 m ρ c) f j).trans ?_
  rw [W17_of m ρ c main_v19 (by decide), W16_of m ρ c main_v19 (by decide), W15_of m ρ c main_v19 (by decide),
    W14_of m ρ c main_v19 (by decide)]
  refine (mid_v19 (W12 m ρ c) _ _ j).trans ?_
  rw [at12_v18]
  exact (pads m ρ c).dwd f j

end Cert.Kernel2Ideal.Ffn
-- ==== Proof.FfnRun.lean ====
/-
  The run of the layer's program: it ends with its arguments unchanged and with the seven results of the given layer.
-/
module

public import proofs.«01_k».proof.Proof.FfnChain

@[expose] public section

set_option maxRecDepth 16384

noncomputable section

namespace Cert.Kernel2Ideal.Ffn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.StableHlo
open Cert.Ffn Cert.Kernel2Ideal Cert.Kernel2Ideal.Gen

variable (m : (ℓ : Loc nD τ sig) → Buf (Elt Ideal) ℓ) (ρ : Dev nD → PrngReg)

local notation "𝕄" => MT nD τ sig Unit (Elt Ideal) ℕ (UR sig nD τ) ℕ

set_option backward.isDefEq.respectTransparency.types false in
/-- Every execution ends, and each buffer of a device then holds what the chain of calls leaves in it. -/
theorem run_all : θ_run defs (onTc (τ := τ) (main (F := Ideal))) ⟨m, fun _ => 0, ρ⟩ (fun r =>
    ∀ (c : Dev nD), ∀ b ∈ Pipeline.ucRefs τ sig, r.2.mem (((c : Thread nD τ)).1, b) = W18 (F := Ideal) m ρ c b) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl,
      fun _ => .rfl, fun _ => .rfl, fun _ => .rfl, fun _ => .rfl, fun _ => .rfl, fun _ => .rfl,
      fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m (c.tc.loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W18 m ρ c b)
    (hfin := fun c s' => by
      iintro ⟨⟨Hh, -⟩, HSI⟩
      unfold StableHlo.held
      imodintro
      iapply (pointsTo_read_all (Pipeline.ucRefs τ sig) (fun b => (((c : Thread nD τ)).1, b)) (W18 m ρ c) s')
      isplitl [Hh] <;> iassumption)
    (hQ := fun s h _ => h)

/-- Every execution ends with the arguments unchanged and the loss and its six gradients in the result arrays. -/
theorem run : θ_run defs (onTc (τ := τ) (main (F := Ideal))) ⟨m, fun _ => 0, ρ⟩ fun r => ∀ c : Dev nD,
      r.2.mem (c.tc.loc main_v16_2) = arr .f32 (fun _ _ => (given m c).loss)
      ∧ r.2.mem (c.tc.loc main_v22_0) = arr .f32 (given m c).dx1
      ∧ r.2.mem (c.tc.loc main_v26) = arr .f32 (given m c).dwo
      ∧ r.2.mem (c.tc.loc main_v22_2) = arr .f32 (fun _ j => (given m c).dg j)
      ∧ r.2.mem (c.tc.loc main_v30) = arr .f32 (given m c).dwg
      ∧ r.2.mem (c.tc.loc main_v34) = arr .f32 (given m c).dwu
      ∧ r.2.mem (c.tc.loc main_v35) = arr .f32 (given m c).dwd
      ∧ r.2.mem (c.tc.loc main_arg0) = m (c.tc.loc main_arg0)
      ∧ r.2.mem (c.tc.loc main_arg1) = m (c.tc.loc main_arg1)
      ∧ r.2.mem (c.tc.loc main_arg2) = m (c.tc.loc main_arg2)
      ∧ r.2.mem (c.tc.loc main_arg3) = m (c.tc.loc main_arg3)
      ∧ r.2.mem (c.tc.loc main_arg4) = m (c.tc.loc main_arg4)
      ∧ r.2.mem (c.tc.loc main_arg5) = m (c.tc.loc main_arg5)
      ∧ r.2.mem (c.tc.loc main_arg6) = m (c.tc.loc main_arg6)
      ∧ r.2.mem (c.tc.loc main_arg7) = m (c.tc.loc main_arg7) :=
  (θ_run defs _ _).mono (fun _ h c =>
    ⟨(h c _ (mem_uc main_v16_2 (by decide))).trans (result_loss m ρ c),
     (h c _ (mem_uc main_v22_0 (by decide))).trans (result_dx1 m ρ c),
     (h c _ (mem_uc main_v26 (by decide))).trans (result_dwo m ρ c),
     (h c _ (mem_uc main_v22_2 (by decide))).trans (result_dg m ρ c),
     (h c _ (mem_uc main_v30 (by decide))).trans (result_dwg m ρ c),
     (h c _ (mem_uc main_v34 (by decide))).trans (result_dwu m ρ c),
     (h c _ (mem_uc main_v35 (by decide))).trans (result_dwd m ρ c),
     (h c _ (mem_uc main_arg0 (by decide))).trans (W18_main_arg0 m ρ c),
     (h c _ (mem_uc main_arg1 (by decide))).trans (W18_main_arg1 m ρ c),
     (h c _ (mem_uc main_arg2 (by decide))).trans (W18_main_arg2 m ρ c),
     (h c _ (mem_uc main_arg3 (by decide))).trans (W18_main_arg3 m ρ c),
     (h c _ (mem_uc main_arg4 (by decide))).trans (W18_main_arg4 m ρ c),
     (h c _ (mem_uc main_arg5 (by decide))).trans (W18_main_arg5 m ρ c),
     (h c _ (mem_uc main_arg6 (by decide))).trans (W18_main_arg6 m ρ c),
     (h c _ (mem_uc main_arg7 (by decide))).trans (W18_main_arg7 m ρ c)⟩)
    (run_all m ρ)

end Cert.Kernel2Ideal.Ffn
-- ==== Proof.FfnRefRun.lean ====
/-
  The reference of the layer as a list of its operations, in five parts, and its run.
-/
module

public import proofs.«01_k».proof.Proof.Gen.Reference2Ideal
public import proofs.«01_k».proof.Proof.FfnSpec
public import Idealize.ShloMosaic.Lib.StableHlo.RunRead

@[expose] public section

set_option maxRecDepth 16384

noncomputable section

namespace Cert.Reference2Ideal.Ffn

open Cert.Reference2Ideal Cert.Reference2Ideal.Gen Idealize.ShloMosaic Idealize.ShloMosaic.TcCoe Idealize.SL.Sem Idealize.ShloMosaic.StableHlo

variable {F : FTy → Type} [FloatOps F]

/-- The operations up to the normalised rows. -/
abbrev normOps : List (HloOp τ sig (Elt F)) :=
  [ binary main_arg1 main_arg2 main_v0 ((fun l r => Host.dotGeneral dot_S4096x1024_S1024x1024_S4096x1024_1_0_0_1_n_n none l r) : (⟨S4096x1024, .f32⟩ : BufTy).Contents (Elt F) → (⟨S1024x1024, .f32⟩ : BufTy).Contents (Elt F) → (⟨S4096x1024, .f32⟩ : BufTy).Contents (Elt F)),
    binary main_arg0 main_v0 main_v1 (addf : (⟨S4096x1024, .f32⟩ : BufTy).Contents (Elt F) → (⟨S4096x1024, .f32⟩ : BufTy).Contents (Elt F) → (⟨S4096x1024, .f32⟩ : BufTy).Contents (Elt F)),
    binary main_v1 main_v1 main_v2 (mulf : (⟨S4096x1024, .f32⟩ : BufTy).Contents (Elt F) → (⟨S4096x1024, .f32⟩ : BufTy).Contents (Elt F) → (⟨S4096x1024, .f32⟩ : BufTy).Contents (Elt F)),
    nullary main_cst (constant S_ .f32 0x00000000#32),
    binary main_v2 main_cst main_v3 ((fun x v => Host.reduceAdd x v reducesTo_S4096x1024_S4096_d1 h_S_) : (⟨S4096x1024, .f32⟩ : BufTy).Contents (Elt F) → (⟨S_, .f32⟩ : BufTy).Contents (Elt F) → (⟨S4096, .f32⟩ : BufTy).Contents (Elt F)),
    unary main_v3 main_v4 (broadcastInDim S4096x1 ![0] bcast_S4096_S4096x1_0 : (⟨S4096, .f32⟩ : BufTy).Contents (Elt F) → (⟨S4096x1, .f32⟩ : BufTy).Contents (Elt F)),
    nullary main_cst_0 (constant S_ .f32 0x44800000#32),
    unary main_cst_0 main_v5 (broadcastInDim S4096x1 ![] bcast_S_S4096x1 : (⟨S_, .f32⟩ : BufTy).Contents (Elt F) → (⟨S4096x1, .f32⟩ : BufTy).Contents (Elt F)),
    binary main_v4 main_v5 main_v6 (Host.divf : (⟨S4096x1, .f32⟩ : BufTy).Contents (Elt F) → (⟨S4096x1, .f32⟩ : BufTy).Contents (Elt F) → (⟨S4096x1, .f32⟩ : BufTy).Contents (Elt F)),
    nullary main_cst_1 (constant S_ .f32 0x358637BD#32),
    unary main_cst_1 main_v7 (broadcastInDim S4096x1 ![] bcast_S_S4096x1 : (⟨S_, .f32⟩ : BufTy).Contents (Elt F) → (⟨S4096x1, .f32⟩ : BufTy).Contents (Elt F)),
    binary main_v6 main_v7 main_v8 (addf : (⟨S4096x1, .f32⟩ : BufTy).Contents (Elt F) → (⟨S4096x1, .f32⟩ : BufTy).Contents (Elt F) → (⟨S4096x1, .f32⟩ : BufTy).Contents (Elt F)),
    unary main_v8 main_v9 (Host.rsqrt : (⟨S4096x1, .f32⟩ : BufTy).Contents (Elt F) → (⟨S4096x1, .f32⟩ : BufTy).Contents (Elt F)),
    binary main_v9 main_v8 main_v10 (Host.divf : (⟨S4096x1, .f32⟩ : BufTy).Contents (Elt F) → (⟨S4096x1, .f32⟩ : BufTy).Contents (Elt F) → (⟨S4096x1, .f32⟩ : BufTy).Contents (Elt F)),
    nullary main_cst_2 (constant S_ .f32 0xBF000000#32),
    unary main_cst_2 main_v11 (broadcastInDim S4096x1 ![] bcast_S_S4096x1 : (⟨S_, .f32⟩ : BufTy).Contents (Elt F) → (⟨S4096x1, .f32⟩ : BufTy).Contents (Elt F)),
    binary main_v11 main_v10 main_v12 (mulf : (⟨S4096x1, .f32⟩ : BufTy).Contents (Elt F) → (⟨S4096x1, .f32⟩ : BufTy).Contents (Elt F) → (⟨S4096x1, .f32⟩ : BufTy).Contents (Elt F)),
    unary main_v9 main_v13 (broadcastInDim S4096x1024 ![0, 1] bcast_S4096x1_S4096x1024_0_1 : (⟨S4096x1, .f32⟩ : BufTy).Contents (Elt F) → (⟨S4096x1024, .f32⟩ : BufTy).Contents (Elt F)),
    binary main_v1 main_v13 main_v14 (mulf : (⟨S4096x1024, .f32⟩ : BufTy).Contents (Elt F) → (⟨S4096x1024, .f32⟩ : BufTy).Contents (Elt F) → (⟨S4096x1024, .f32⟩ : BufTy).Contents (Elt F)),
    unary main_arg3 main_v15 (broadcastInDim S4096x1024 ![0, 1] bcast_S1x1024_S4096x1024_0_1 : (⟨S1x1024, .f32⟩ : BufTy).Contents (Elt F) → (⟨S4096x1024, .f32⟩ : BufTy).Contents (Elt F)),
    binary main_v14 main_v15 main_v16 (mulf : (⟨S4096x1024, .f32⟩ : BufTy).Contents (Elt F) → (⟨S4096x1024, .f32⟩ : BufTy).Contents (Elt F) → (⟨S4096x1024, .f32⟩ : BufTy).Contents (Elt F)) ]

/-- Those of the gated columns. -/
abbrev gateOps : List (HloOp τ sig (Elt F)) :=
  [ binary main_v16 main_arg4 main_v17 ((fun l r => Host.dotGeneral dot_S4096x1024_S1024x2816_S4096x2816_1_0_0_1_n_n none l r) : (⟨S4096x1024, .f32⟩ : BufTy).Contents (Elt F) → (⟨S1024x2816, .f32⟩ : BufTy).Contents (Elt F) → (⟨S4096x2816, .f32⟩ : BufTy).Contents (Elt F)),
    TRef.unary (TRef.of (T := ⟨S4096x2816, .f32⟩) main_v17) (TRef.of (T := ⟨S4096x2816, .f32⟩) main_call0_v0) Host.negf,
    TRef.unary (TRef.of (T := ⟨S4096x2816, .f32⟩) main_call0_v0) (TRef.of (T := ⟨S4096x2816, .f32⟩) main_call0_v1) Host.exp,
    TRef.nullary (TRef.of (T := ⟨S_, .f32⟩) main_call0_cst) (constant S_ .f32 0x3F800000#32),
    TRef.unary (TRef.of (T := ⟨S_, .f32⟩) main_call0_cst) (TRef.of (T := ⟨S4096x2816, .f32⟩) main_call0_v2) (broadcastInDim S4096x2816 ![] bcast_S_S4096x2816),
    TRef.binary (TRef.of (T := ⟨S4096x2816, .f32⟩) main_call0_v2) (TRef.of (T := ⟨S4096x2816, .f32⟩) main_call0_v1) (TRef.of (T := ⟨S4096x2816, .f32⟩) main_call0_v3) addf,
    TRef.nullary (TRef.of (T := ⟨S_, .f32⟩) main_call0_cst_0) (constant S_ .f32 0x3F800000#32),
    TRef.unary (TRef.of (T := ⟨S_, .f32⟩) main_call0_cst_0) (TRef.of (T := ⟨S4096x2816, .f32⟩) main_call0_v4) (broadcastInDim S4096x2816 ![] bcast_S_S4096x2816),
    TRef.binary (TRef.of (T := ⟨S4096x2816, .f32⟩) main_call0_v4) (TRef.of (T := ⟨S4096x2816, .f32⟩) main_call0_v3) (TRef.of (T := ⟨S4096x2816, .f32⟩) main_v18_2) Host.divf,
    TRef.nullary (TRef.of (T := ⟨S_, .f32⟩) main_call0_cst_1) (constant S_ .f32 0x3F800000#32),
    TRef.unary (TRef.of (T := ⟨S_, .f32⟩) main_call0_cst_1) (TRef.of (T := ⟨S4096x2816, .f32⟩) main_call0_v6) (broadcastInDim S4096x2816 ![] bcast_S_S4096x2816),
    TRef.binary (TRef.of (T := ⟨S4096x2816, .f32⟩) main_call0_v6) (TRef.of (T := ⟨S4096x2816, .f32⟩) main_v18_2) (TRef.of (T := ⟨S4096x2816, .f32⟩) main_call0_v7) subf,
    TRef.binary (TRef.of (T := ⟨S4096x2816, .f32⟩) main_v18_2) (TRef.of (T := ⟨S4096x2816, .f32⟩) main_call0_v7) (TRef.of (T := ⟨S4096x2816, .f32⟩) main_v18_1) mulf,
    TRef.binary (TRef.of (T := ⟨S4096x2816, .f32⟩) main_v17) (TRef.of (T := ⟨S4096x2816, .f32⟩) main_v18_2) (TRef.of (T := ⟨S4096x2816, .f32⟩) main_v18_0) mulf,
    binary main_v16 main_arg5 main_v19 ((fun l r => Host.dotGeneral dot_S4096x1024_S1024x2816_S4096x2816_1_0_0_1_n_n none l r) : (⟨S4096x1024, .f32⟩ : BufTy).Contents (Elt F) → (⟨S1024x2816, .f32⟩ : BufTy).Contents (Elt F) → (⟨S4096x2816, .f32⟩ : BufTy).Contents (Elt F)),
    binary main_v18_0 main_v19 main_v20 (mulf : (⟨S4096x2816, .f32⟩ : BufTy).Contents (Elt F) → (⟨S4096x2816, .f32⟩ : BufTy).Contents (Elt F) → (⟨S4096x2816, .f32⟩ : BufTy).Contents (Elt F)) ]

/-- Those of the loss and of the gradient by the rows leaving. -/
abbrev lossOps : List (HloOp τ sig (Elt F)) :=
  [ binary main_v20 main_arg6 main_v21 ((fun l r => Host.dotGeneral dot_S4096x2816_S2816x1024_S4096x1024_1_0_0_1_n_n none l r) : (⟨S4096x2816, .f32⟩ : BufTy).Contents (Elt F) → (⟨S2816x1024, .f32⟩ : BufTy).Contents (Elt F) → (⟨S4096x1024, .f32⟩ : BufTy).Contents (Elt F)),
    binary main_v1 main_v21 main_v22 (addf : (⟨S4096x1024, .f32⟩ : BufTy).Contents (Elt F) → (⟨S4096x1024, .f32⟩ : BufTy).Contents (Elt F) → (⟨S4096x1024, .f32⟩ : BufTy).Contents (Elt F)),
    binary main_v22 main_arg7 main_v23 (subf : (⟨S4096x1024, .f32⟩ : BufTy).Contents (Elt F) → (⟨S4096x1024, .f32⟩ : BufTy).Contents (Elt F) → (⟨S4096x1024, .f32⟩ : BufTy).Contents (Elt F)),
    binary main_v23 main_v23 main_v24 (mulf : (⟨S4096x1024, .f32⟩ : BufTy).Contents (Elt F) → (⟨S4096x1024, .f32⟩ : BufTy).Contents (Elt F) → (⟨S4096x1024, .f32⟩ : BufTy).Contents (Elt F)),
    nullary main_cst_3 (constant S_ .f32 0x40000000#32),
    unary main_cst_3 main_v25 (broadcastInDim S4096x1024 ![] bcast_S_S4096x1024 : (⟨S_, .f32⟩ : BufTy).Contents (Elt F) → (⟨S4096x1024, .f32⟩ : BufTy).Contents (Elt F)),
    binary main_v25 main_v23 main_v26 (mulf : (⟨S4096x1024, .f32⟩ : BufTy).Contents (Elt F) → (⟨S4096x1024, .f32⟩ : BufTy).Contents (Elt F) → (⟨S4096x1024, .f32⟩ : BufTy).Contents (Elt F)),
    nullary main_cst_4 (constant S_ .f32 0x00000000#32),
    binary main_v24 main_cst_4 main_v27 ((fun x v => Host.reduceAdd x v reducesTo_S4096x1024_S4096_d1 h_S_) : (⟨S4096x1024, .f32⟩ : BufTy).Contents (Elt F) → (⟨S_, .f32⟩ : BufTy).Contents (Elt F) → (⟨S4096, .f32⟩ : BufTy).Contents (Elt F)),
    nullary main_cst_5 (constant S_ .f32 0x44800000#32),
    unary main_cst_5 main_v28 (broadcastInDim S4096 ![] bcast_S_S4096 : (⟨S_, .f32⟩ : BufTy).Contents (Elt F) → (⟨S4096, .f32⟩ : BufTy).Contents (Elt F)),
    binary main_v27 main_v28 main_v29 (Host.divf : (⟨S4096, .f32⟩ : BufTy).Contents (Elt F) → (⟨S4096, .f32⟩ : BufTy).Contents (Elt F) → (⟨S4096, .f32⟩ : BufTy).Contents (Elt F)),
    nullary main_cst_6 (constant S_ .f32 0x00000000#32),
    binary main_v29 main_cst_6 main_v30 ((fun x v => Host.reduceAdd x v reducesTo_S4096_S_d0 h_S_) : (⟨S4096, .f32⟩ : BufTy).Contents (Elt F) → (⟨S_, .f32⟩ : BufTy).Contents (Elt F) → (⟨S_, .f32⟩ : BufTy).Contents (Elt F)),
    nullary main_cst_7 (constant S_ .f32 0x3F000000#32),
    binary main_cst_7 main_v30 main_v31 (mulf : (⟨S_, .f32⟩ : BufTy).Contents (Elt F) → (⟨S_, .f32⟩ : BufTy).Contents (Elt F) → (⟨S_, .f32⟩ : BufTy).Contents (Elt F)),
    nullary main_cst_8 (constant S_ .f32 0x3F000000#32),
    nullary main_cst_9 (constant S_ .f32 0x3F800000#32),
    binary main_cst_8 main_cst_9 main_v32 (mulf : (⟨S_, .f32⟩ : BufTy).Contents (Elt F) → (⟨S_, .f32⟩ : BufTy).Contents (Elt F) → (⟨S_, .f32⟩ : BufTy).Contents (Elt F)),
    unary main_v32 main_v33 (broadcastInDim S4096 ![] bcast_S_S4096 : (⟨S_, .f32⟩ : BufTy).Contents (Elt F) → (⟨S4096, .f32⟩ : BufTy).Contents (Elt F)),
    nullary main_cst_10 (constant S_ .f32 0x44800000#32),
    unary main_cst_10 main_v34 (broadcastInDim S4096 ![] bcast_S_S4096 : (⟨S_, .f32⟩ : BufTy).Contents (Elt F) → (⟨S4096, .f32⟩ : BufTy).Contents (Elt F)),
    binary main_v33 main_v34 main_v35 (Host.divf : (⟨S4096, .f32⟩ : BufTy).Contents (Elt F) → (⟨S4096, .f32⟩ : BufTy).Contents (Elt F) → (⟨S4096, .f32⟩ : BufTy).Contents (Elt F)),
    unary main_v35 main_v36 (broadcastInDim S4096x1024 ![0] bcast_S4096_S4096x1024_0 : (⟨S4096, .f32⟩ : BufTy).Contents (Elt F) → (⟨S4096x1024, .f32⟩ : BufTy).Contents (Elt F)),
    binary main_v36 main_v26 main_v37 (mulf : (⟨S4096x1024, .f32⟩ : BufTy).Contents (Elt F) → (⟨S4096x1024, .f32⟩ : BufTy).Contents (Elt F) → (⟨S4096x1024, .f32⟩ : BufTy).Contents (Elt F)) ]

/-- Those of the gradients by the columns. -/
abbrev weightOps : List (HloOp τ sig (Elt F)) :=
  [ binary main_v37 main_v20 main_v38 ((fun l r => Host.dotGeneral dot_S4096x1024_S4096x2816_S1024x2816_0_0_1_1_n_n none l r) : (⟨S4096x1024, .f32⟩ : BufTy).Contents (Elt F) → (⟨S4096x2816, .f32⟩ : BufTy).Contents (Elt F) → (⟨S1024x2816, .f32⟩ : BufTy).Contents (Elt F)),
    unary main_v38 main_v39 ((transpose S2816x1024 [1, 0] · transposes_S1024x2816_S2816x1024_1_0) : (⟨S1024x2816, .f32⟩ : BufTy).Contents (Elt F) → (⟨S2816x1024, .f32⟩ : BufTy).Contents (Elt F)),
    binary main_v37 main_arg6 main_v40 ((fun l r => Host.dotGeneral dot_S4096x1024_S2816x1024_S4096x2816_1_1_0_0_n_n none l r) : (⟨S4096x1024, .f32⟩ : BufTy).Contents (Elt F) → (⟨S2816x1024, .f32⟩ : BufTy).Contents (Elt F) → (⟨S4096x2816, .f32⟩ : BufTy).Contents (Elt F)),
    binary main_v18_0 main_v40 main_v41 (mulf : (⟨S4096x2816, .f32⟩ : BufTy).Contents (Elt F) → (⟨S4096x2816, .f32⟩ : BufTy).Contents (Elt F) → (⟨S4096x2816, .f32⟩ : BufTy).Contents (Elt F)),
    binary main_v40 main_v19 main_v42 (mulf : (⟨S4096x2816, .f32⟩ : BufTy).Contents (Elt F) → (⟨S4096x2816, .f32⟩ : BufTy).Contents (Elt F) → (⟨S4096x2816, .f32⟩ : BufTy).Contents (Elt F)),
    binary main_v41 main_v16 main_v43 ((fun l r => Host.dotGeneral dot_S4096x2816_S4096x1024_S2816x1024_0_0_1_1_n_n none l r) : (⟨S4096x2816, .f32⟩ : BufTy).Contents (Elt F) → (⟨S4096x1024, .f32⟩ : BufTy).Contents (Elt F) → (⟨S2816x1024, .f32⟩ : BufTy).Contents (Elt F)),
    unary main_v43 main_v44 ((transpose S1024x2816 [1, 0] · transposes_S2816x1024_S1024x2816_1_0) : (⟨S2816x1024, .f32⟩ : BufTy).Contents (Elt F) → (⟨S1024x2816, .f32⟩ : BufTy).Contents (Elt F)) ]

/-- Those of the gradients by the rows and by the projection. -/
abbrev backOps : List (HloOp τ sig (Elt F)) :=
  [ binary main_v41 main_arg5 main_v45 ((fun l r => Host.dotGeneral dot_S4096x2816_S1024x2816_S4096x1024_1_1_0_0_n_n none l r) : (⟨S4096x2816, .f32⟩ : BufTy).Contents (Elt F) → (⟨S1024x2816, .f32⟩ : BufTy).Contents (Elt F) → (⟨S4096x1024, .f32⟩ : BufTy).Contents (Elt F)),
    TRef.binary (TRef.of (T := ⟨S4096x2816, .f32⟩) main_v17) (TRef.of (T := ⟨S4096x2816, .f32⟩) main_v42) (TRef.of (T := ⟨S4096x2816, .f32⟩) main_call1_v0) mulf,
    TRef.binary (TRef.of (T := ⟨S4096x2816, .f32⟩) main_v42) (TRef.of (T := ⟨S4096x2816, .f32⟩) main_v18_2) (TRef.of (T := ⟨S4096x2816, .f32⟩) main_call1_v1) mulf,
    TRef.binary (TRef.of (T := ⟨S4096x2816, .f32⟩) main_call1_v0) (TRef.of (T := ⟨S4096x2816, .f32⟩) main_v18_1) (TRef.of (T := ⟨S4096x2816, .f32⟩) main_call1_v2) mulf,
    TRef.binary (TRef.of (T := ⟨S4096x2816, .f32⟩) main_call1_v1) (TRef.of (T := ⟨S4096x2816, .f32⟩) main_call1_v2) (TRef.of (T := ⟨S4096x2816, .f32⟩) main_v46) addf,
    binary main_v46 main_v16 main_v47 ((fun l r => Host.dotGeneral dot_S4096x2816_S4096x1024_S2816x1024_0_0_1_1_n_n none l r) : (⟨S4096x2816, .f32⟩ : BufTy).Contents (Elt F) → (⟨S4096x1024, .f32⟩ : BufTy).Contents (Elt F) → (⟨S2816x1024, .f32⟩ : BufTy).Contents (Elt F)),
    unary main_v47 main_v48 ((transpose S1024x2816 [1, 0] · transposes_S2816x1024_S1024x2816_1_0) : (⟨S2816x1024, .f32⟩ : BufTy).Contents (Elt F) → (⟨S1024x2816, .f32⟩ : BufTy).Contents (Elt F)),
    binary main_v46 main_arg4 main_v49 ((fun l r => Host.dotGeneral dot_S4096x2816_S1024x2816_S4096x1024_1_1_0_0_n_n none l r) : (⟨S4096x2816, .f32⟩ : BufTy).Contents (Elt F) → (⟨S1024x2816, .f32⟩ : BufTy).Contents (Elt F) → (⟨S4096x1024, .f32⟩ : BufTy).Contents (Elt F)),
    binary main_v45 main_v49 main_v50 (addf : (⟨S4096x1024, .f32⟩ : BufTy).Contents (Elt F) → (⟨S4096x1024, .f32⟩ : BufTy).Contents (Elt F) → (⟨S4096x1024, .f32⟩ : BufTy).Contents (Elt F)),
    binary main_v14 main_v50 main_v51 (mulf : (⟨S4096x1024, .f32⟩ : BufTy).Contents (Elt F) → (⟨S4096x1024, .f32⟩ : BufTy).Contents (Elt F) → (⟨S4096x1024, .f32⟩ : BufTy).Contents (Elt F)),
    nullary main_cst_11 (constant S_ .f32 0x00000000#32),
    binary main_v51 main_cst_11 main_v52 ((fun x v => Host.reduceAdd x v reducesTo_S4096x1024_S1024_d0 h_S_) : (⟨S4096x1024, .f32⟩ : BufTy).Contents (Elt F) → (⟨S_, .f32⟩ : BufTy).Contents (Elt F) → (⟨S1024, .f32⟩ : BufTy).Contents (Elt F)),
    reshape main_v52 main_v53 (rfl : (.f32 : EltTy) = .f32) shapeCasts_S1024_S1x1024,
    unary main_arg3 main_v54 (broadcastInDim S4096x1024 ![0, 1] bcast_S1x1024_S4096x1024_0_1 : (⟨S1x1024, .f32⟩ : BufTy).Contents (Elt F) → (⟨S4096x1024, .f32⟩ : BufTy).Contents (Elt F)),
    binary main_v50 main_v54 main_v55 (mulf : (⟨S4096x1024, .f32⟩ : BufTy).Contents (Elt F) → (⟨S4096x1024, .f32⟩ : BufTy).Contents (Elt F) → (⟨S4096x1024, .f32⟩ : BufTy).Contents (Elt F)),
    binary main_v1 main_v55 main_v56 (mulf : (⟨S4096x1024, .f32⟩ : BufTy).Contents (Elt F) → (⟨S4096x1024, .f32⟩ : BufTy).Contents (Elt F) → (⟨S4096x1024, .f32⟩ : BufTy).Contents (Elt F)),
    nullary main_cst_12 (constant S_ .f32 0x00000000#32),
    binary main_v56 main_cst_12 main_v57 ((fun x v => Host.reduceAdd x v reducesTo_S4096x1024_S4096_d1 h_S_) : (⟨S4096x1024, .f32⟩ : BufTy).Contents (Elt F) → (⟨S_, .f32⟩ : BufTy).Contents (Elt F) → (⟨S4096, .f32⟩ : BufTy).Contents (Elt F)),
    reshape main_v57 main_v58 (rfl : (.f32 : EltTy) = .f32) shapeCasts_S4096_S4096x1,
    unary main_v9 main_v59 (broadcastInDim S4096x1024 ![0, 1] bcast_S4096x1_S4096x1024_0_1 : (⟨S4096x1, .f32⟩ : BufTy).Contents (Elt F) → (⟨S4096x1024, .f32⟩ : BufTy).Contents (Elt F)),
    binary main_v55 main_v59 main_v60 (mulf : (⟨S4096x1024, .f32⟩ : BufTy).Contents (Elt F) → (⟨S4096x1024, .f32⟩ : BufTy).Contents (Elt F) → (⟨S4096x1024, .f32⟩ : BufTy).Contents (Elt F)),
    binary main_v37 main_v60 main_v61 (addf : (⟨S4096x1024, .f32⟩ : BufTy).Contents (Elt F) → (⟨S4096x1024, .f32⟩ : BufTy).Contents (Elt F) → (⟨S4096x1024, .f32⟩ : BufTy).Contents (Elt F)),
    binary main_v58 main_v12 main_v62 (mulf : (⟨S4096x1, .f32⟩ : BufTy).Contents (Elt F) → (⟨S4096x1, .f32⟩ : BufTy).Contents (Elt F) → (⟨S4096x1, .f32⟩ : BufTy).Contents (Elt F)),
    nullary main_cst_13 (constant S_ .f32 0x44800000#32),
    unary main_cst_13 main_v63 (broadcastInDim S4096x1 ![] bcast_S_S4096x1 : (⟨S_, .f32⟩ : BufTy).Contents (Elt F) → (⟨S4096x1, .f32⟩ : BufTy).Contents (Elt F)),
    binary main_v62 main_v63 main_v64 (Host.divf : (⟨S4096x1, .f32⟩ : BufTy).Contents (Elt F) → (⟨S4096x1, .f32⟩ : BufTy).Contents (Elt F) → (⟨S4096x1, .f32⟩ : BufTy).Contents (Elt F)),
    nullary main_cst_14 (constant S_ .f32 0x00000000#32),
    binary main_v64 main_cst_14 main_v65 ((fun x v => Host.reduceAdd x v reducesTo_S4096x1_S4096_d1 h_S_) : (⟨S4096x1, .f32⟩ : BufTy).Contents (Elt F) → (⟨S_, .f32⟩ : BufTy).Contents (Elt F) → (⟨S4096, .f32⟩ : BufTy).Contents (Elt F)),
    unary main_v65 main_v66 (broadcastInDim S4096x1024 ![0] bcast_S4096_S4096x1024_0 : (⟨S4096, .f32⟩ : BufTy).Contents (Elt F) → (⟨S4096x1024, .f32⟩ : BufTy).Contents (Elt F)),
    binary main_v1 main_v66 main_v67 (mulf : (⟨S4096x1024, .f32⟩ : BufTy).Contents (Elt F) → (⟨S4096x1024, .f32⟩ : BufTy).Contents (Elt F) → (⟨S4096x1024, .f32⟩ : BufTy).Contents (Elt F)),
    binary main_v61 main_v67 main_v68 (addf : (⟨S4096x1024, .f32⟩ : BufTy).Contents (Elt F) → (⟨S4096x1024, .f32⟩ : BufTy).Contents (Elt F) → (⟨S4096x1024, .f32⟩ : BufTy).Contents (Elt F)),
    binary main_v66 main_v1 main_v69 (mulf : (⟨S4096x1024, .f32⟩ : BufTy).Contents (Elt F) → (⟨S4096x1024, .f32⟩ : BufTy).Contents (Elt F) → (⟨S4096x1024, .f32⟩ : BufTy).Contents (Elt F)),
    binary main_v68 main_v69 main_v70 (addf : (⟨S4096x1024, .f32⟩ : BufTy).Contents (Elt F) → (⟨S4096x1024, .f32⟩ : BufTy).Contents (Elt F) → (⟨S4096x1024, .f32⟩ : BufTy).Contents (Elt F)),
    binary main_v70 main_arg1 main_v71 ((fun l r => Host.dotGeneral dot_S4096x1024_S4096x1024_S1024x1024_0_0_1_1_n_n none l r) : (⟨S4096x1024, .f32⟩ : BufTy).Contents (Elt F) → (⟨S4096x1024, .f32⟩ : BufTy).Contents (Elt F) → (⟨S1024x1024, .f32⟩ : BufTy).Contents (Elt F)),
    unary main_v71 main_v72 ((transpose S1024x1024 [1, 0] · transposes_S1024x1024_S1024x1024_1_0) : (⟨S1024x1024, .f32⟩ : BufTy).Contents (Elt F) → (⟨S1024x1024, .f32⟩ : BufTy).Contents (Elt F)),
    reshape main_v31 main_v73 (rfl : (.f32 : EltTy) = .f32) shapeCasts_S_S1x1 ]

/-- All the operations, in order. -/
abbrev allOps : List (HloOp τ sig (Elt F)) := normOps ++ (gateOps ++ (lossOps ++ (weightOps ++ backOps)))

set_option maxHeartbeats 4000000 in
theorem main_eq (c : Dev nD) : main (F := F) c = seq allOps := rfl

theorem normOps_sub : (normOps : List (HloOp τ sig (Elt F))).Forall fun op => op.bufs ⊆ tcRefs τ sig :=
  ⟨binary_bufs_sub .., binary_bufs_sub .., binary_bufs_sub .., nullary_bufs_sub .., binary_bufs_sub ..,
    unary_bufs_sub .., nullary_bufs_sub .., unary_bufs_sub .., binary_bufs_sub .., nullary_bufs_sub ..,
    unary_bufs_sub .., binary_bufs_sub .., unary_bufs_sub .., binary_bufs_sub .., nullary_bufs_sub ..,
    unary_bufs_sub .., binary_bufs_sub .., unary_bufs_sub .., binary_bufs_sub .., unary_bufs_sub ..,
    binary_bufs_sub ..⟩

theorem normOps_fresh : ∀ op ∈ (normOps : List (HloOp τ sig (Elt F))), op.fresh = ∅ := by
  intro _ h; (repeat (cases h with | head => rfl | tail _ h => ?_)); exact nomatch h

theorem gateOps_sub : (gateOps : List (HloOp τ sig (Elt F))).Forall fun op => op.bufs ⊆ tcRefs τ sig :=
  ⟨binary_bufs_sub .., unary_bufs_sub .., unary_bufs_sub .., nullary_bufs_sub .., unary_bufs_sub ..,
    binary_bufs_sub .., nullary_bufs_sub .., unary_bufs_sub .., binary_bufs_sub .., nullary_bufs_sub ..,
    unary_bufs_sub .., binary_bufs_sub .., binary_bufs_sub .., binary_bufs_sub .., binary_bufs_sub ..,
    binary_bufs_sub ..⟩

theorem gateOps_fresh : ∀ op ∈ (gateOps : List (HloOp τ sig (Elt F))), op.fresh = ∅ := by
  intro _ h; (repeat (cases h with | head => rfl | tail _ h => ?_)); exact nomatch h

theorem lossOps_sub : (lossOps : List (HloOp τ sig (Elt F))).Forall fun op => op.bufs ⊆ tcRefs τ sig :=
  ⟨binary_bufs_sub .., binary_bufs_sub .., binary_bufs_sub .., binary_bufs_sub .., nullary_bufs_sub ..,
    unary_bufs_sub .., binary_bufs_sub .., nullary_bufs_sub .., binary_bufs_sub .., nullary_bufs_sub ..,
    unary_bufs_sub .., binary_bufs_sub .., nullary_bufs_sub .., binary_bufs_sub .., nullary_bufs_sub ..,
    binary_bufs_sub .., nullary_bufs_sub .., nullary_bufs_sub .., binary_bufs_sub .., unary_bufs_sub ..,
    nullary_bufs_sub .., unary_bufs_sub .., binary_bufs_sub .., unary_bufs_sub .., binary_bufs_sub ..⟩

theorem lossOps_fresh : ∀ op ∈ (lossOps : List (HloOp τ sig (Elt F))), op.fresh = ∅ := by
  intro _ h; (repeat (cases h with | head => rfl | tail _ h => ?_)); exact nomatch h

theorem weightOps_sub : (weightOps : List (HloOp τ sig (Elt F))).Forall fun op => op.bufs ⊆ tcRefs τ sig :=
  ⟨binary_bufs_sub .., unary_bufs_sub .., binary_bufs_sub .., binary_bufs_sub .., binary_bufs_sub ..,
    binary_bufs_sub .., unary_bufs_sub ..⟩

theorem weightOps_fresh : ∀ op ∈ (weightOps : List (HloOp τ sig (Elt F))), op.fresh = ∅ := by
  intro _ h; (repeat (cases h with | head => rfl | tail _ h => ?_)); exact nomatch h

theorem backOps_sub : (backOps : List (HloOp τ sig (Elt F))).Forall fun op => op.bufs ⊆ tcRefs τ sig :=
  ⟨binary_bufs_sub .., binary_bufs_sub .., binary_bufs_sub .., binary_bufs_sub .., binary_bufs_sub ..,
    binary_bufs_sub .., unary_bufs_sub .., binary_bufs_sub .., binary_bufs_sub .., binary_bufs_sub ..,
    nullary_bufs_sub .., binary_bufs_sub .., reshape_bufs_sub .., unary_bufs_sub .., binary_bufs_sub ..,
    binary_bufs_sub .., nullary_bufs_sub .., binary_bufs_sub .., reshape_bufs_sub .., unary_bufs_sub ..,
    binary_bufs_sub .., binary_bufs_sub .., binary_bufs_sub .., nullary_bufs_sub .., unary_bufs_sub ..,
    binary_bufs_sub .., nullary_bufs_sub .., binary_bufs_sub .., unary_bufs_sub .., binary_bufs_sub ..,
    binary_bufs_sub .., binary_bufs_sub .., binary_bufs_sub .., binary_bufs_sub .., unary_bufs_sub ..,
    reshape_bufs_sub ..⟩

theorem backOps_fresh : ∀ op ∈ (backOps : List (HloOp τ sig (Elt F))), op.fresh = ∅ := by
  intro _ h; (repeat (cases h with | head => rfl | tail _ h => ?_)); exact nomatch h

theorem allOps_sub : (allOps : List (HloOp τ sig (Elt F))).Forall fun op => op.bufs ⊆ tcRefs τ sig := by
  simp only [allOps, List.forall_append]
  exact ⟨normOps_sub, gateOps_sub, lossOps_sub, weightOps_sub, backOps_sub⟩

theorem allOps_fresh : ∀ op ∈ (allOps : List (HloOp τ sig (Elt F))), op.fresh = ∅ := by
  intro op h
  simp only [allOps, List.mem_append] at h
  rcases h with h | h | h | h | h
  · exact normOps_fresh op h
  · exact gateOps_fresh op h
  · exact lossOps_fresh op h
  · exact weightOps_fresh op h
  · exact backOps_fresh op h

theorem after_app (l l' : List (HloOp τ sig (Elt F))) (V : Valuation τ sig (Elt F)) :
    after (l ++ l') V = after l' (after l V) := by
  induction l generalizing V with
  | nil => rfl
  | cons op l ih => exact ih _

/-- Every execution ends, and each buffer of a device then holds what the five parts leave in it. -/
theorem run_all (m : (ℓ : Loc nD τ sig) → Buf (Elt F) ℓ) (ρ : Dev nD → PrngReg) :
    θ_run defs (onTc (τ := τ) (main (F := F))) ⟨m, fun _ => 0, ρ⟩ fun r => ∀ (c : Dev nD) (b : Ref sig .tc),
      r.2.mem (c.tc.loc b) =
        after backOps (after weightOps (after lossOps (after gateOps (after normOps (launchContents m c))))) (Proc.devRef .tc b) :=
  (θ_run defs _ _).mono (fun _ h c b => (h c b).trans (by simp only [allOps, after_app]))
    (run_seq (by decide) (by decide) defs main (fun _ => allOps) main_eq (fun _ => allOps_sub) m ρ (fun _ => allOps_fresh))

end Cert.Reference2Ideal.Ffn
-- ==== Proof.FfnRef.lean ====
/-
  The reference of the layer: its results, stage by stage, are the layer's values.
-/
module

public import proofs.«01_k».proof.Proof.FfnSpec
public import proofs.«01_k».proof.Proof.FfnRefRun

@[expose] public section

set_option maxRecDepth 16384

noncomputable section

namespace Cert.Reference2Ideal.Ffn

open Idealize.ShloMosaic Idealize.ShloMosaic.TcCoe Idealize.ShloMosaic.StableHlo Cert.Ffn Cert.Reference2Ideal Cert.Reference2Ideal.Gen

/-! ## The stages -/

/-- The rows. -/
abbrev Rows : Type := FVec Ideal S4096x1024 .f32
/-- The hidden columns. -/
abbrev Hidden : Type := FVec Ideal S4096x2816 .f32
/-- One value per row. -/
abbrev Col : Type := FVec Ideal S4096x1 .f32

/-- A product of the rows and a square matrix, added to the rows. -/
def projected (x p : Rows) (w : FVec Ideal S1024x1024 .f32) : Rows :=
  addf x (Host.dotGeneral dot_S4096x1024_S1024x1024_S4096x1024_1_0_0_1_n_n none p w)

/-- The mean squares of the rows. -/
def spreads (x : Rows) : Col :=
  addf (Host.divf (broadcastInDim S4096x1 ![0] bcast_S4096_S4096x1_0
      (Host.reduceAdd (mulf x x) (constant S_ .f32 0x00000000#32) reducesTo_S4096x1024_S4096_d1 h_S_))
    (broadcastInDim S4096x1 ![] bcast_S_S4096x1 (constant S_ .f32 0x44800000#32)))
    (broadcastInDim S4096x1 ![] bcast_S_S4096x1 (constant S_ .f32 0x358637BD#32))

/-- The rows over the roots of their mean squares. -/
def units (x : Rows) : Rows :=
  mulf x (broadcastInDim S4096x1024 ![0, 1] bcast_S4096x1_S4096x1024_0_1 (Host.rsqrt (spreads x)))

/-- Those, times the gains. -/
def normed (x : Rows) (g : FVec Ideal S1x1024 .f32) : Rows :=
  mulf (units x) (broadcastInDim S4096x1024 ![0, 1] bcast_S1x1024_S4096x1024_0_1 g)

/-- Columns of the rows. -/
def hidden (h : Rows) (w : FVec Ideal S1024x2816 .f32) : Hidden :=
  Host.dotGeneral dot_S4096x1024_S1024x2816_S4096x2816_1_0_0_1_n_n none h w

/-- One, everywhere. -/
def ones : Hidden := broadcastInDim S4096x2816 ![] bcast_S_S4096x2816 (constant S_ .f32 0x3F800000#32)

/-- The logistic of each entry. -/
def sigma (g : Hidden) : Hidden := Host.divf ones (addf ones (Host.exp (Host.negf g)))

/-- The slope of the logistic at each entry. -/
def slopes (g : Hidden) : Hidden := mulf (sigma g) (subf ones (sigma g))

/-- The rows leaving, less the rows aimed at. -/
def apart (x : Rows) (a : Hidden) (w : FVec Ideal S2816x1024 .f32) (t : Rows) : Rows :=
  subf (addf x (Host.dotGeneral dot_S4096x2816_S2816x1024_S4096x1024_1_0_0_1_n_n none a w)) t

/-- Half the mean squares, summed. -/
def halfSum (d : Rows) : FVec Ideal S_ .f32 :=
  mulf (constant S_ .f32 0x3F000000#32) (Host.reduceAdd (Host.divf
    (Host.reduceAdd (mulf d d) (constant S_ .f32 0x00000000#32) reducesTo_S4096x1024_S4096_d1 h_S_)
    (broadcastInDim S4096 ![] bcast_S_S4096 (constant S_ .f32 0x44800000#32)))
    (constant S_ .f32 0x00000000#32) reducesTo_S4096_S_d0 h_S_)

/-- The gradient by the rows leaving. -/
def outGrad (d : Rows) : Rows :=
  mulf (broadcastInDim S4096x1024 ![0] bcast_S4096_S4096x1024_0 (Host.divf (broadcastInDim S4096 ![] bcast_S_S4096
      (mulf (constant S_ .f32 0x3F000000#32) (constant S_ .f32 0x3F800000#32)))
    (broadcastInDim S4096 ![] bcast_S_S4096 (constant S_ .f32 0x44800000#32))))
    (mulf (broadcastInDim S4096x1024 ![] bcast_S_S4096x1024 (constant S_ .f32 0x40000000#32)) d)

/-- The gradient by the gated columns. -/
def actGrad (d : Rows) (w : FVec Ideal S2816x1024 .f32) : Hidden :=
  Host.dotGeneral dot_S4096x1024_S2816x1024_S4096x2816_1_1_0_0_n_n none d w

/-- Columns times the gate's activation: the gated columns, and the gradient by the hidden columns. -/
def upGrad (g q : Hidden) : Hidden := mulf (mulf g (sigma g)) q

/-- The gradient by the gate's columns. -/
def gateGrad (g q : Hidden) : Hidden :=
  addf (mulf q (sigma g)) (mulf (mulf g q) (slopes g))

/-- The gradient by the normalised rows. -/
def normGrad (u g : Hidden) (wu wg : FVec Ideal S1024x2816 .f32) : Rows :=
  addf (Host.dotGeneral dot_S4096x2816_S1024x2816_S4096x1024_1_1_0_0_n_n none u wu)
    (Host.dotGeneral dot_S4096x2816_S1024x2816_S4096x1024_1_1_0_0_n_n none g wg)

/-- The gradient by the gains. -/
def gainGrad (x d : Rows) : FVec Ideal S1x1024 .f32 :=
  shapeCast S1x1024 (Host.reduceAdd (mulf (units x) d) (constant S_ .f32 0x00000000#32) reducesTo_S4096x1024_S1024_d0 h_S_)
    shapeCasts_S1024_S1x1024

/-- The normalised rows' cotangent times the gains. -/
def scaled (d : Rows) (g : FVec Ideal S1x1024 .f32) : Rows :=
  mulf d (broadcastInDim S4096x1024 ![0, 1] bcast_S1x1024_S4096x1024_0_1 g)

/-- The slopes of the roots' reciprocals, by the mean squares. -/
def pulls (x : Rows) : Col :=
  mulf (broadcastInDim S4096x1 ![] bcast_S_S4096x1 (constant S_ .f32 0xBF000000#32)) (Host.divf (Host.rsqrt (spreads x)) (spreads x))

/-- What the cotangent gives through the mean squares. -/
def throughs (x q : Rows) : Rows :=
  broadcastInDim S4096x1024 ![0] bcast_S4096_S4096x1024_0 (Host.reduceAdd (Host.divf
    (mulf (shapeCast S4096x1 (Host.reduceAdd (mulf x q) (constant S_ .f32 0x00000000#32) reducesTo_S4096x1024_S4096_d1 h_S_) shapeCasts_S4096_S4096x1) (pulls x))
    (broadcastInDim S4096x1 ![] bcast_S_S4096x1 (constant S_ .f32 0x44800000#32)))
    (constant S_ .f32 0x00000000#32) reducesTo_S4096x1_S4096_d1 h_S_)

/-- The gradient by the rows entering. -/
def inGrad (x q e : Rows) : Rows :=
  addf (addf (addf e (mulf q (broadcastInDim S4096x1024 ![0, 1] bcast_S4096x1_S4096x1024_0_1 (Host.rsqrt (spreads x)))))
    (mulf x (throughs x q))) (mulf (throughs x q) x)

/-- The gradient by the projection. -/
def projGrad (d p : Rows) : FVec Ideal S1024x1024 .f32 :=
  transpose S1024x1024 [1, 0] (Host.dotGeneral dot_S4096x1024_S4096x1024_S1024x1024_0_0_1_1_n_n none d p)
    transposes_S1024x1024_S1024x1024_1_0

/-- The gradient by weights to the hidden columns. -/
def hiddenGrad (d : Hidden) (h : Rows) : FVec Ideal S1024x2816 .f32 :=
  transpose S1024x2816 [1, 0] (Host.dotGeneral dot_S4096x2816_S4096x1024_S2816x1024_0_0_1_1_n_n none d h)
    transposes_S2816x1024_S1024x2816_1_0

/-- The gradient by the weights back. -/
def backGrad (d : Rows) (a : Hidden) : FVec Ideal S2816x1024 .f32 :=
  transpose S2816x1024 [1, 0] (Host.dotGeneral dot_S4096x1024_S4096x2816_S1024x2816_0_0_1_1_n_n none d a)
    transposes_S1024x2816_S2816x1024_1_0

/-! ## Their entries -/

theorem projected_eq (x p : Rows) (w : FVec Ideal S1024x1024 .f32) :
    projected x p w = arr .f32 (fun i j => mat .f32 x i j + dot (mat .f32 p) (mat .f32 w) i j) := by
  funext y; obtain ⟨i, j, rfl⟩ := eq_ix2 (a := 4096) (b := 1024) y
  pointwise [projected, arr, mat, dot]

theorem spreads_at (f : Mat 4096 1024) (i : Fin 4096) (z : Fin 1) : spreads (arr .f32 f) (ix2 i z) = spread (f i) := by
  pointwise [spreads, arr, spread, width, eps]

theorem units_eq (f : Mat 4096 1024) : units (arr .f32 f) = arr .f32 (fun i j => unit (f i) j) := by
  funext y; obtain ⟨i, j, rfl⟩ := eq_ix2 (a := 4096) (b := 1024) y
  have h := spreads_at f i 0
  generalize hs : spreads (arr .f32 f) = s at h
  unfold units; rw [hs]
  pointwise [arr, unit]
  rw [h]

theorem sigma_eq (f : Mat 4096 2816) : sigma (arr .f32 f) = arr .f32 (fun i j => Ideal.logistic (f i j)) := by
  funext y; obtain ⟨i, j, rfl⟩ := eq_ix2 (a := 4096) (b := 2816) y
  pointwise [sigma, arr, ones, Ideal.logistic]

theorem halfSum_eq (f : Mat 4096 1024) (y : S_.Idx) : halfSum (arr .f32 f) y =
    half * ∑ i, Ideal.div (∑ j, f i j * f i j) width := by
  pointwise [halfSum, arr, half, width]

theorem rate : Ideal.div (Ideal.ofBits .f32 0x3F000000#32) (Ideal.ofBits .f32 0x44800000#32) * Ideal.ofBits .f32 0x40000000#32 = recip := by
  unfold recip
  have h : Ideal.ofBits .f32 0x44800000#32 = ((1024 : ℝ) : EReal) := by
    simp [Ideal.ofBits, Ideal.ieee, -EReal.coe_mul]; norm_num
  rw [h, Ideal.div_coe (by norm_num)]
  simp [Ideal.ofBits, Ideal.ieee, -EReal.coe_mul]
  rw [← EReal.coe_mul, ← EReal.coe_mul]
  norm_num

theorem outGrad_eq (f : Mat 4096 1024) : outGrad (arr .f32 f) = arr .f32 (fun i j => f i j * recip) := by
  funext y; obtain ⟨i, j, rfl⟩ := eq_ix2 (a := 4096) (b := 1024) y
  pointwise [outGrad, arr]
  rw [← rate, ← mul_assoc, mul_comm]

theorem normed_eq (f : Mat 4096 1024) (g : FVec Ideal S1x1024 .f32) : normed (arr .f32 f) g = arr .f32 (norm f (mat .f32 g 0)) := by
  funext y; obtain ⟨i, j, rfl⟩ := eq_ix2 (a := 4096) (b := 1024) y
  unfold normed; rw [units_eq]
  pointwise [arr, mat]
  rfl

theorem hidden_eq (f : Mat 4096 1024) (w : FVec Ideal S1024x2816 .f32) :
    hidden (arr .f32 f) w = arr .f32 (dot f (mat .f32 w)) := by
  funext y; obtain ⟨i, j, rfl⟩ := eq_ix2 (a := 4096) (b := 2816) y
  pointwise [hidden, arr, mat, dot]

theorem upGrad_eq (f q : Mat 4096 2816) : upGrad (arr .f32 f) (arr .f32 q) = arr .f32 (fun i j => silu (f i j) * q i j) := by
  funext y; obtain ⟨i, j, rfl⟩ := eq_ix2 (a := 4096) (b := 2816) y
  unfold upGrad; rw [sigma_eq]
  pointwise [arr, silu]

theorem gateGrad_eq (f q : Mat 4096 2816) : gateGrad (arr .f32 f) (arr .f32 q) = arr .f32 (fun i j => siluBack (f i j) (q i j)) := by
  funext y; obtain ⟨i, j, rfl⟩ := eq_ix2 (a := 4096) (b := 2816) y
  unfold gateGrad slopes; rw [sigma_eq]
  pointwise [arr, siluBack, ones]

theorem apart_eq (x : Mat 4096 1024) (a : Mat 4096 2816) (w : FVec Ideal S2816x1024 .f32) (t : Rows) :
    apart (arr .f32 x) (arr .f32 a) w t = arr .f32 (fun i j => x i j + dot a (mat .f32 w) i j - mat .f32 t i j) := by
  funext y; obtain ⟨i, j, rfl⟩ := eq_ix2 (a := 4096) (b := 1024) y
  pointwise [apart, arr, mat, dot]

theorem actGrad_eq (d : Mat 4096 1024) (w : FVec Ideal S2816x1024 .f32) : actGrad (arr .f32 d) w = arr .f32 (dotT d (mat .f32 w)) := by
  funext y; obtain ⟨i, j, rfl⟩ := eq_ix2 (a := 4096) (b := 2816) y
  pointwise [actGrad, arr, mat, dotT]

theorem normGrad_eq (u g : Mat 4096 2816) (wu wg : FVec Ideal S1024x2816 .f32) :
    normGrad (arr .f32 u) (arr .f32 g) wu wg = arr .f32 (fun i j => dotT g (mat .f32 wg) i j + dotT u (mat .f32 wu) i j) := by
  funext y; obtain ⟨i, j, rfl⟩ := eq_ix2 (a := 4096) (b := 1024) y
  pointwise [normGrad, arr, mat, dotT]
  exact add_comm _ _

theorem gainGrad_eq (x d : Mat 4096 1024) : gainGrad (arr .f32 x) (arr .f32 d) = arr .f32 (fun _ j => ∑ i, unit (x i) j * d i j) := by
  funext y; obtain ⟨z, j, rfl⟩ := eq_ix2 (a := 1) (b := 1024) y
  unfold gainGrad; rw [units_eq]
  pointwise [arr]

theorem scaled_eq (d : Mat 4096 1024) (g : FVec Ideal S1x1024 .f32) : scaled (arr .f32 d) g = arr .f32 (fun i j => d i j * mat .f32 g 0 j) := by
  funext y; obtain ⟨i, j, rfl⟩ := eq_ix2 (a := 4096) (b := 1024) y
  pointwise [scaled, arr, mat]

theorem throughs_eq (x q : Mat 4096 1024) : throughs (arr .f32 x) (arr .f32 q) = arr .f32 (fun i _ => through (x i) (q i)) := by
  funext y; obtain ⟨i, j, rfl⟩ := eq_ix2 (a := 4096) (b := 1024) y
  have h := spreads_at x i 0
  unfold throughs pulls
  generalize spreads (arr .f32 x) = s at h
  pointwise [arr, through, negHalf, width]
  try simp only [Fin.sum_univ_one, Fin.isValue]
  rw [h]

theorem inGrad_eq (x q e : Mat 4096 1024) : inGrad (arr .f32 x) (arr .f32 q) (arr .f32 e) = arr .f32 (fun i j =>
    q i j * Ideal.rsqrt (spread (x i)) + x i j * through (x i) (q i) + through (x i) (q i) * x i j + e i j) := by
  funext y; obtain ⟨i, j, rfl⟩ := eq_ix2 (a := 4096) (b := 1024) y
  unfold inGrad; rw [throughs_eq]
  have h := spreads_at x i 0
  generalize spreads (arr .f32 x) = s at h
  pointwise [arr]
  rw [h, add_comm (e i j), add_right_comm _ (e i j), add_right_comm _ (e i j)]

theorem projGrad_eq (d : Mat 4096 1024) (p : Rows) : projGrad (arr .f32 d) p = arr .f32 (tDot (mat .f32 p) d) := by
  funext y; obtain ⟨i, j, rfl⟩ := eq_ix2 (a := 1024) (b := 1024) y
  pointwise [projGrad, arr, mat, tDot]
  exact Finset.sum_congr rfl fun l _ => mul_comm _ _

theorem hiddenGrad_eq (d : Mat 4096 2816) (h : Mat 4096 1024) : hiddenGrad (arr .f32 d) (arr .f32 h) = arr .f32 (tDot h d) := by
  funext y; obtain ⟨i, j, rfl⟩ := eq_ix2 (a := 1024) (b := 2816) y
  pointwise [hiddenGrad, arr, tDot]
  exact Finset.sum_congr rfl fun l _ => mul_comm _ _

theorem backGrad_eq (d : Mat 4096 1024) (a : Mat 4096 2816) : backGrad (arr .f32 d) (arr .f32 a) = arr .f32 (tDot a d) := by
  funext y; obtain ⟨i, j, rfl⟩ := eq_ix2 (a := 2816) (b := 1024) y
  pointwise [backGrad, arr, tDot]
  exact Finset.sum_congr rfl fun l _ => mul_comm _ _

end Cert.Reference2Ideal.Ffn
-- ==== Proof.FfnRefEnd.lean ====
/-
  The run of the layer's reference: it ends with its arguments unchanged and with the seven results of the given layer.
-/
module

public import proofs.«01_k».proof.Proof.FfnRef

@[expose] public section

set_option maxRecDepth 16384

noncomputable section

namespace Cert.Reference2Ideal.Ffn

open Idealize.ShloMosaic Idealize.ShloMosaic.TcCoe Idealize.ShloMosaic.StableHlo Idealize.SL.Sem Cert.Ffn Cert.Reference2Ideal Cert.Reference2Ideal.Gen

/-! ## What each part leaves, from any contents -/

section
variable (V : Valuation τ sig (Elt Ideal))

theorem normOps_v1 :
    after normOps V (Proc.devRef .tc main_v1) = projected (V (Proc.devRef .tc main_arg0)) (V (Proc.devRef .tc main_arg1)) (V (Proc.devRef .tc main_arg2)) := by
  after_reads_simp
  rfl

theorem normOps_v9 :
    after normOps V (Proc.devRef .tc main_v9) = Host.rsqrt (spreads (projected (V (Proc.devRef .tc main_arg0)) (V (Proc.devRef .tc main_arg1)) (V (Proc.devRef .tc main_arg2)))) := by
  after_reads_simp
  rfl

theorem normOps_v12 :
    after normOps V (Proc.devRef .tc main_v12) = pulls (projected (V (Proc.devRef .tc main_arg0)) (V (Proc.devRef .tc main_arg1)) (V (Proc.devRef .tc main_arg2))) := by
  after_reads_simp
  rfl

theorem normOps_v14 :
    after normOps V (Proc.devRef .tc main_v14) = units (projected (V (Proc.devRef .tc main_arg0)) (V (Proc.devRef .tc main_arg1)) (V (Proc.devRef .tc main_arg2))) := by
  after_reads_simp
  rfl

theorem normOps_v16 :
    after normOps V (Proc.devRef .tc main_v16) = normed (projected (V (Proc.devRef .tc main_arg0)) (V (Proc.devRef .tc main_arg1)) (V (Proc.devRef .tc main_arg2))) (V (Proc.devRef .tc main_arg3)) := by
  after_reads_simp
  rfl

theorem gateOps_v17 :
    after gateOps V (Proc.devRef .tc main_v17) = hidden (V (Proc.devRef .tc main_v16)) (V (Proc.devRef .tc main_arg4)) := by
  after_reads_simp
  rfl

theorem gateOps_v18_2 :
    after gateOps V (Proc.devRef .tc main_v18_2) = sigma (hidden (V (Proc.devRef .tc main_v16)) (V (Proc.devRef .tc main_arg4))) := by
  after_reads_simp
  rfl

theorem gateOps_v18_1 :
    after gateOps V (Proc.devRef .tc main_v18_1) = slopes (hidden (V (Proc.devRef .tc main_v16)) (V (Proc.devRef .tc main_arg4))) := by
  after_reads_simp
  rfl

theorem gateOps_v18_0 :
    after gateOps V (Proc.devRef .tc main_v18_0) = mulf (hidden (V (Proc.devRef .tc main_v16)) (V (Proc.devRef .tc main_arg4))) (sigma (hidden (V (Proc.devRef .tc main_v16)) (V (Proc.devRef .tc main_arg4)))) := by
  after_reads_simp
  rfl

theorem gateOps_v19 :
    after gateOps V (Proc.devRef .tc main_v19) = hidden (V (Proc.devRef .tc main_v16)) (V (Proc.devRef .tc main_arg5)) := by
  after_reads_simp
  rfl

theorem gateOps_v20 :
    after gateOps V (Proc.devRef .tc main_v20) = upGrad (hidden (V (Proc.devRef .tc main_v16)) (V (Proc.devRef .tc main_arg4))) (hidden (V (Proc.devRef .tc main_v16)) (V (Proc.devRef .tc main_arg5))) := by
  after_reads_simp
  rfl

theorem lossOps_v31 :
    after lossOps V (Proc.devRef .tc main_v31) = halfSum (apart (V (Proc.devRef .tc main_v1)) (V (Proc.devRef .tc main_v20)) (V (Proc.devRef .tc main_arg6)) (V (Proc.devRef .tc main_arg7))) := by
  after_reads_simp
  rfl

theorem lossOps_v37 :
    after lossOps V (Proc.devRef .tc main_v37) = outGrad (apart (V (Proc.devRef .tc main_v1)) (V (Proc.devRef .tc main_v20)) (V (Proc.devRef .tc main_arg6)) (V (Proc.devRef .tc main_arg7))) := by
  after_reads_simp
  rfl

theorem weightOps_v39 :
    after weightOps V (Proc.devRef .tc main_v39) = backGrad (V (Proc.devRef .tc main_v37)) (V (Proc.devRef .tc main_v20)) := by
  after_reads_simp
  rfl

theorem weightOps_v41 :
    after weightOps V (Proc.devRef .tc main_v41) = mulf (V (Proc.devRef .tc main_v18_0)) (actGrad (V (Proc.devRef .tc main_v37)) (V (Proc.devRef .tc main_arg6))) := by
  after_reads_simp
  rfl

theorem weightOps_v42 :
    after weightOps V (Proc.devRef .tc main_v42) = mulf (actGrad (V (Proc.devRef .tc main_v37)) (V (Proc.devRef .tc main_arg6))) (V (Proc.devRef .tc main_v19)) := by
  after_reads_simp
  rfl

theorem weightOps_v44 :
    after weightOps V (Proc.devRef .tc main_v44) = hiddenGrad (mulf (V (Proc.devRef .tc main_v18_0)) (actGrad (V (Proc.devRef .tc main_v37)) (V (Proc.devRef .tc main_arg6)))) (V (Proc.devRef .tc main_v16)) := by
  after_reads_simp
  rfl

variable (x e : Rows) (g q u : Hidden)

theorem backOps_v48
    (hv17 : V (Proc.devRef .tc main_v17) = g)
    (hv182 : V (Proc.devRef .tc main_v18_2) = sigma g)
    (hv181 : V (Proc.devRef .tc main_v18_1) = slopes g)
    (hv42 : V (Proc.devRef .tc main_v42) = q) :
    after backOps V (Proc.devRef .tc main_v48) = hiddenGrad (gateGrad g q) (V (Proc.devRef .tc main_v16)) := by
  after_reads_simp
  rw [hv17, hv182, hv181, hv42]
  rfl

theorem backOps_v53
    (hv17 : V (Proc.devRef .tc main_v17) = g)
    (hv182 : V (Proc.devRef .tc main_v18_2) = sigma g)
    (hv181 : V (Proc.devRef .tc main_v18_1) = slopes g)
    (hv42 : V (Proc.devRef .tc main_v42) = q)
    (hv41 : V (Proc.devRef .tc main_v41) = u)
    (hv14 : V (Proc.devRef .tc main_v14) = units x) :
    after backOps V (Proc.devRef .tc main_v53) = gainGrad x (normGrad u (gateGrad g q) (V (Proc.devRef .tc main_arg5)) (V (Proc.devRef .tc main_arg4))) := by
  after_reads_simp
  rw [hv17, hv182, hv181, hv42, hv41, hv14]
  rfl

theorem backOps_v70
    (hv17 : V (Proc.devRef .tc main_v17) = g)
    (hv182 : V (Proc.devRef .tc main_v18_2) = sigma g)
    (hv181 : V (Proc.devRef .tc main_v18_1) = slopes g)
    (hv42 : V (Proc.devRef .tc main_v42) = q)
    (hv41 : V (Proc.devRef .tc main_v41) = u)
    (hv1 : V (Proc.devRef .tc main_v1) = x)
    (hv9 : V (Proc.devRef .tc main_v9) = Host.rsqrt (spreads x))
    (hv12 : V (Proc.devRef .tc main_v12) = pulls x)
    (hv37 : V (Proc.devRef .tc main_v37) = e) :
    after backOps V (Proc.devRef .tc main_v70) = inGrad x (scaled (normGrad u (gateGrad g q) (V (Proc.devRef .tc main_arg5)) (V (Proc.devRef .tc main_arg4))) (V (Proc.devRef .tc main_arg3))) e := by
  after_reads_simp
  rw [hv17, hv182, hv181, hv42, hv41, hv1, hv9, hv12, hv37]
  rfl

theorem backOps_v72
    (hv17 : V (Proc.devRef .tc main_v17) = g)
    (hv182 : V (Proc.devRef .tc main_v18_2) = sigma g)
    (hv181 : V (Proc.devRef .tc main_v18_1) = slopes g)
    (hv42 : V (Proc.devRef .tc main_v42) = q)
    (hv41 : V (Proc.devRef .tc main_v41) = u)
    (hv1 : V (Proc.devRef .tc main_v1) = x)
    (hv9 : V (Proc.devRef .tc main_v9) = Host.rsqrt (spreads x))
    (hv12 : V (Proc.devRef .tc main_v12) = pulls x)
    (hv37 : V (Proc.devRef .tc main_v37) = e) :
    after backOps V (Proc.devRef .tc main_v72) = projGrad (inGrad x (scaled (normGrad u (gateGrad g q) (V (Proc.devRef .tc main_arg5)) (V (Proc.devRef .tc main_arg4))) (V (Proc.devRef .tc main_arg3))) e) (V (Proc.devRef .tc main_arg1)) := by
  after_reads_simp
  rw [hv17, hv182, hv181, hv42, hv41, hv1, hv9, hv12, hv37]
  rfl

theorem backOps_v73 :
    after backOps V (Proc.devRef .tc main_v73) = shapeCast S1x1 (V (Proc.devRef .tc main_v31)) shapeCasts_S_S1x1 := by
  after_reads_simp
  rfl

/-! The arrays a part leaves as they were: those it does not write. -/

/-- What the part writes. -/
abbrev normRefs : List (Ref sig .tc) :=
  [main_v0, main_v1, main_v2, main_cst, main_v3, main_v4, main_cst_0, main_v5, main_v6, main_cst_1, main_v7,
   main_v8, main_v9, main_v10, main_cst_2, main_v11, main_v12, main_v13, main_v14, main_v15, main_v16]

/-- What the part writes. -/
abbrev gateRefs : List (Ref sig .tc) :=
  [main_v17, main_call0_v0, main_call0_v1, main_call0_cst, main_call0_v2, main_call0_v3, main_call0_cst_0,
   main_call0_v4, main_v18_2, main_call0_cst_1, main_call0_v6, main_call0_v7, main_v18_1, main_v18_0,
   main_v19, main_v20]

/-- What the part writes. -/
abbrev lossRefs : List (Ref sig .tc) :=
  [main_v21, main_v22, main_v23, main_v24, main_cst_3, main_v25, main_v26, main_cst_4, main_v27, main_cst_5,
   main_v28, main_v29, main_cst_6, main_v30, main_cst_7, main_v31, main_cst_8, main_cst_9, main_v32, main_v33,
   main_cst_10, main_v34, main_v35, main_v36, main_v37]

/-- What the part writes. -/
abbrev weightRefs : List (Ref sig .tc) :=
  [main_v38, main_v39, main_v40, main_v41, main_v42, main_v43, main_v44]

/-- What the part writes. -/
abbrev backRefs : List (Ref sig .tc) :=
  [main_v45, main_call1_v0, main_call1_v1, main_call1_v2, main_v46, main_v47, main_v48, main_v49, main_v50,
   main_v51, main_cst_11, main_v52, main_v53, main_v54, main_v55, main_v56, main_cst_12, main_v57, main_v58,
   main_v59, main_v60, main_v61, main_v62, main_cst_13, main_v63, main_v64, main_cst_14, main_v65, main_v66,
   main_v67, main_v68, main_v69, main_v70, main_v71, main_v72, main_v73]

theorem normOps_keeps {r : Ref sig .tc} (h : r ∉ normRefs) : after normOps V (Proc.devRef .tc r) = V (Proc.devRef .tc r) :=
  after_of_writes_sub normOps V (forall_writes_sub_of_map rfl) h

theorem gateOps_keeps {r : Ref sig .tc} (h : r ∉ gateRefs) : after gateOps V (Proc.devRef .tc r) = V (Proc.devRef .tc r) :=
  after_of_writes_sub gateOps V (forall_writes_sub_of_map rfl) h

theorem lossOps_keeps {r : Ref sig .tc} (h : r ∉ lossRefs) : after lossOps V (Proc.devRef .tc r) = V (Proc.devRef .tc r) :=
  after_of_writes_sub lossOps V (forall_writes_sub_of_map rfl) h

theorem weightOps_keeps {r : Ref sig .tc} (h : r ∉ weightRefs) : after weightOps V (Proc.devRef .tc r) = V (Proc.devRef .tc r) :=
  after_of_writes_sub weightOps V (forall_writes_sub_of_map rfl) h

theorem backOps_keeps {r : Ref sig .tc} (h : r ∉ backRefs) : after backOps V (Proc.devRef .tc r) = V (Proc.devRef .tc r) :=
  after_of_writes_sub backOps V (forall_writes_sub_of_map rfl) h

/-! ## The parts after one another -/

/-- The layer the arguments hold. -/
abbrev held : Layer 2816 := layerOf (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7))

/-- The contents after each part. -/
abbrev V1 : Valuation τ sig (Elt Ideal) := after normOps V
/-- The contents after two parts. -/
abbrev V2 : Valuation τ sig (Elt Ideal) := after gateOps (V1 V)
/-- The contents after three parts. -/
abbrev V3 : Valuation τ sig (Elt Ideal) := after lossOps (V2 V)
/-- The contents after four parts. -/
abbrev V4 : Valuation τ sig (Elt Ideal) := after weightOps (V3 V)
/-- The contents at the end. -/
abbrev V5 : Valuation τ sig (Elt Ideal) := after backOps (V4 V)

/-- What the parts write. -/
abbrev written : List (Ref sig .tc) := normRefs ++ (gateRefs ++ (lossRefs ++ (weightRefs ++ backRefs)))

theorem V1_arg (r : Ref sig .tc) (h : r ∉ written := by decide) : V1 V (Proc.devRef .tc r) = V (Proc.devRef .tc r) :=
  normOps_keeps (V) fun e => h (by simp only [written, List.mem_append, e, true_or, or_true])

theorem V2_arg (r : Ref sig .tc) (h : r ∉ written := by decide) : V2 V (Proc.devRef .tc r) = V (Proc.devRef .tc r) :=
  (gateOps_keeps (V1 V) fun e => h (by simp only [written, List.mem_append, e, true_or, or_true])).trans (V1_arg V r h)

theorem V3_arg (r : Ref sig .tc) (h : r ∉ written := by decide) : V3 V (Proc.devRef .tc r) = V (Proc.devRef .tc r) :=
  (lossOps_keeps (V2 V) fun e => h (by simp only [written, List.mem_append, e, true_or, or_true])).trans (V2_arg V r h)

theorem V4_arg (r : Ref sig .tc) (h : r ∉ written := by decide) : V4 V (Proc.devRef .tc r) = V (Proc.devRef .tc r) :=
  (weightOps_keeps (V3 V) fun e => h (by simp only [written, List.mem_append, e, true_or, or_true])).trans (V3_arg V r h)

theorem V5_arg (r : Ref sig .tc) (h : r ∉ written := by decide) : V5 V (Proc.devRef .tc r) = V (Proc.devRef .tc r) :=
  (backOps_keeps (V4 V) fun e => h (by simp only [written, List.mem_append, e, true_or, or_true])).trans (V4_arg V r h)

theorem V1_v1 : V1 V (Proc.devRef .tc main_v1) = arr .f32 (held V).x1 := by
  exact (normOps_v1 V).trans (projected_eq _ _ _)

theorem V1_v9 : V1 V (Proc.devRef .tc main_v9) = Host.rsqrt (spreads (arr .f32 (held V).x1)) := by
  refine (normOps_v9 V).trans ?_
  rw [projected_eq]; rfl

theorem V1_v12 : V1 V (Proc.devRef .tc main_v12) = pulls (arr .f32 (held V).x1) := by
  refine (normOps_v12 V).trans ?_
  rw [projected_eq]; rfl

theorem V1_v14 : V1 V (Proc.devRef .tc main_v14) = units (arr .f32 (held V).x1) := by
  refine (normOps_v14 V).trans ?_
  rw [projected_eq]; rfl

theorem V1_v16 : V1 V (Proc.devRef .tc main_v16) = arr .f32 (held V).h2 := by
  refine (normOps_v16 V).trans ?_
  rw [projected_eq, normed_eq]; rfl

theorem V2_v1 : V2 V (Proc.devRef .tc main_v1) = arr .f32 (held V).x1 :=
  (gateOps_keeps _ (by decide)).trans (V1_v1 V)

theorem V2_v9 : V2 V (Proc.devRef .tc main_v9) = Host.rsqrt (spreads (arr .f32 (held V).x1)) :=
  (gateOps_keeps _ (by decide)).trans (V1_v9 V)

theorem V2_v12 : V2 V (Proc.devRef .tc main_v12) = pulls (arr .f32 (held V).x1) :=
  (gateOps_keeps _ (by decide)).trans (V1_v12 V)

theorem V2_v14 : V2 V (Proc.devRef .tc main_v14) = units (arr .f32 (held V).x1) :=
  (gateOps_keeps _ (by decide)).trans (V1_v14 V)

theorem V2_v16 : V2 V (Proc.devRef .tc main_v16) = arr .f32 (held V).h2 :=
  (gateOps_keeps _ (by decide)).trans (V1_v16 V)

theorem V2_v17 : V2 V (Proc.devRef .tc main_v17) = arr .f32 (held V).gate := by
  refine (gateOps_v17 (V1 V)).trans ?_
  rw [V1_v16, V1_arg _ main_arg4, hidden_eq]; rfl

theorem V2_v18_2 : V2 V (Proc.devRef .tc main_v18_2) = sigma (arr .f32 (held V).gate) := by
  refine (gateOps_v18_2 (V1 V)).trans ?_
  rw [V1_v16, V1_arg _ main_arg4, hidden_eq]; rfl

theorem V2_v18_1 : V2 V (Proc.devRef .tc main_v18_1) = slopes (arr .f32 (held V).gate) := by
  refine (gateOps_v18_1 (V1 V)).trans ?_
  rw [V1_v16, V1_arg _ main_arg4, hidden_eq]; rfl

theorem V2_v18_0 : V2 V (Proc.devRef .tc main_v18_0) = mulf (arr .f32 (held V).gate) (sigma (arr .f32 (held V).gate)) := by
  refine (gateOps_v18_0 (V1 V)).trans ?_
  rw [V1_v16, V1_arg _ main_arg4, hidden_eq]; rfl

theorem V2_v19 : V2 V (Proc.devRef .tc main_v19) = arr .f32 (held V).up := by
  refine (gateOps_v19 (V1 V)).trans ?_
  rw [V1_v16, V1_arg _ main_arg5, hidden_eq]; rfl

theorem V2_v20 : V2 V (Proc.devRef .tc main_v20) = arr .f32 (held V).act := by
  refine (gateOps_v20 (V1 V)).trans ?_
  rw [V1_v16, V1_arg _ main_arg4, V1_arg _ main_arg5, hidden_eq, hidden_eq, upGrad_eq]; rfl

theorem V3_v1 : V3 V (Proc.devRef .tc main_v1) = arr .f32 (held V).x1 :=
  (lossOps_keeps _ (by decide)).trans (V2_v1 V)

theorem V3_v9 : V3 V (Proc.devRef .tc main_v9) = Host.rsqrt (spreads (arr .f32 (held V).x1)) :=
  (lossOps_keeps _ (by decide)).trans (V2_v9 V)

theorem V3_v12 : V3 V (Proc.devRef .tc main_v12) = pulls (arr .f32 (held V).x1) :=
  (lossOps_keeps _ (by decide)).trans (V2_v12 V)

theorem V3_v14 : V3 V (Proc.devRef .tc main_v14) = units (arr .f32 (held V).x1) :=
  (lossOps_keeps _ (by decide)).trans (V2_v14 V)

theorem V3_v16 : V3 V (Proc.devRef .tc main_v16) = arr .f32 (held V).h2 :=
  (lossOps_keeps _ (by decide)).trans (V2_v16 V)

theorem V3_v17 : V3 V (Proc.devRef .tc main_v17) = arr .f32 (held V).gate :=
  (lossOps_keeps _ (by decide)).trans (V2_v17 V)

theorem V3_v18_2 : V3 V (Proc.devRef .tc main_v18_2) = sigma (arr .f32 (held V).gate) :=
  (lossOps_keeps _ (by decide)).trans (V2_v18_2 V)

theorem V3_v18_1 : V3 V (Proc.devRef .tc main_v18_1) = slopes (arr .f32 (held V).gate) :=
  (lossOps_keeps _ (by decide)).trans (V2_v18_1 V)

theorem V3_v18_0 : V3 V (Proc.devRef .tc main_v18_0) = mulf (arr .f32 (held V).gate) (sigma (arr .f32 (held V).gate)) :=
  (lossOps_keeps _ (by decide)).trans (V2_v18_0 V)

theorem V3_v19 : V3 V (Proc.devRef .tc main_v19) = arr .f32 (held V).up :=
  (lossOps_keeps _ (by decide)).trans (V2_v19 V)

theorem V3_v20 : V3 V (Proc.devRef .tc main_v20) = arr .f32 (held V).act :=
  (lossOps_keeps _ (by decide)).trans (V2_v20 V)

theorem V3_v31 : V3 V (Proc.devRef .tc main_v31) = halfSum (arr .f32 (held V).diff) := by
  refine (lossOps_v31 (V2 V)).trans ?_
  rw [V2_v1, V2_v20, V2_arg _ main_arg6, V2_arg _ main_arg7, apart_eq]; rfl

theorem V3_v37 : V3 V (Proc.devRef .tc main_v37) = arr .f32 (held V).dy := by
  refine (lossOps_v37 (V2 V)).trans ?_
  rw [V2_v1, V2_v20, V2_arg _ main_arg6, V2_arg _ main_arg7, apart_eq, outGrad_eq]; rfl

theorem V4_v1 : V4 V (Proc.devRef .tc main_v1) = arr .f32 (held V).x1 :=
  (weightOps_keeps _ (by decide)).trans (V3_v1 V)

theorem V4_v9 : V4 V (Proc.devRef .tc main_v9) = Host.rsqrt (spreads (arr .f32 (held V).x1)) :=
  (weightOps_keeps _ (by decide)).trans (V3_v9 V)

theorem V4_v12 : V4 V (Proc.devRef .tc main_v12) = pulls (arr .f32 (held V).x1) :=
  (weightOps_keeps _ (by decide)).trans (V3_v12 V)

theorem V4_v14 : V4 V (Proc.devRef .tc main_v14) = units (arr .f32 (held V).x1) :=
  (weightOps_keeps _ (by decide)).trans (V3_v14 V)

theorem V4_v16 : V4 V (Proc.devRef .tc main_v16) = arr .f32 (held V).h2 :=
  (weightOps_keeps _ (by decide)).trans (V3_v16 V)

theorem V4_v17 : V4 V (Proc.devRef .tc main_v17) = arr .f32 (held V).gate :=
  (weightOps_keeps _ (by decide)).trans (V3_v17 V)

theorem V4_v18_2 : V4 V (Proc.devRef .tc main_v18_2) = sigma (arr .f32 (held V).gate) :=
  (weightOps_keeps _ (by decide)).trans (V3_v18_2 V)

theorem V4_v18_1 : V4 V (Proc.devRef .tc main_v18_1) = slopes (arr .f32 (held V).gate) :=
  (weightOps_keeps _ (by decide)).trans (V3_v18_1 V)

theorem V4_v31 : V4 V (Proc.devRef .tc main_v31) = halfSum (arr .f32 (held V).diff) :=
  (weightOps_keeps _ (by decide)).trans (V3_v31 V)

theorem V4_v37 : V4 V (Proc.devRef .tc main_v37) = arr .f32 (held V).dy :=
  (weightOps_keeps _ (by decide)).trans (V3_v37 V)

theorem V4_v39 : V4 V (Proc.devRef .tc main_v39) = arr .f32 (held V).dwd := by
  refine (weightOps_v39 (V3 V)).trans ?_
  rw [V3_v37, V3_v20, backGrad_eq]; rfl

theorem V4_v41 : V4 V (Proc.devRef .tc main_v41) = arr .f32 (held V).dup := by
  refine (weightOps_v41 (V3 V)).trans ?_
  rw [V3_v37, V3_arg _ main_arg6, V3_v18_0, actGrad_eq]
  exact upGrad_eq _ _

theorem V4_v42 : V4 V (Proc.devRef .tc main_v42) = arr .f32 (fun i f => (held V).dact i f * (held V).up i f) := by
  refine (weightOps_v42 (V3 V)).trans ?_
  rw [V3_v37, V3_arg _ main_arg6, V3_v19, actGrad_eq]; rfl

theorem V4_v44 : V4 V (Proc.devRef .tc main_v44) = arr .f32 (held V).dwu := by
  refine (weightOps_v44 (V3 V)).trans ?_
  rw [V3_v37, V3_arg _ main_arg6, V3_v18_0, V3_v16, actGrad_eq]
  exact (congrArg (hiddenGrad · _) (upGrad_eq _ _)).trans (hiddenGrad_eq _ _)

theorem V5_v39 : V5 V (Proc.devRef .tc main_v39) = arr .f32 (held V).dwd :=
  (backOps_keeps _ (by decide)).trans (V4_v39 V)

theorem V5_v44 : V5 V (Proc.devRef .tc main_v44) = arr .f32 (held V).dwu :=
  (backOps_keeps _ (by decide)).trans (V4_v44 V)

theorem V5_v48 : V5 V (Proc.devRef .tc main_v48) = arr .f32 (held V).dwg := by
  refine (backOps_v48 (V4 V) _ _ (V4_v17 V) (V4_v18_2 V) (V4_v18_1 V) (V4_v42 V)).trans ?_
  rw [V4_v16, gateGrad_eq, hiddenGrad_eq]; rfl

theorem V5_v53 : V5 V (Proc.devRef .tc main_v53) = arr .f32 (fun _ j => (held V).dg j) := by
  refine (backOps_v53 (V4 V) _ _ _ _ (V4_v17 V) (V4_v18_2 V) (V4_v18_1 V) (V4_v42 V) (V4_v41 V) (V4_v14 V)).trans ?_
  rw [V4_arg _ main_arg4, V4_arg _ main_arg5, gateGrad_eq, normGrad_eq, gainGrad_eq]; rfl

theorem V5_v70 : V5 V (Proc.devRef .tc main_v70) = arr .f32 (held V).dx1 := by
  refine (backOps_v70 (V4 V) _ _ _ _ _ (V4_v17 V) (V4_v18_2 V) (V4_v18_1 V) (V4_v42 V) (V4_v41 V) (V4_v1 V) (V4_v9 V) (V4_v12 V) (V4_v37 V)).trans ?_
  rw [V4_arg _ main_arg3, V4_arg _ main_arg4, V4_arg _ main_arg5, gateGrad_eq, normGrad_eq, scaled_eq, inGrad_eq]; rfl

theorem V5_v72 : V5 V (Proc.devRef .tc main_v72) = arr .f32 (held V).dwo := by
  refine (backOps_v72 (V4 V) _ _ _ _ _ (V4_v17 V) (V4_v18_2 V) (V4_v18_1 V) (V4_v42 V) (V4_v41 V) (V4_v1 V) (V4_v9 V) (V4_v12 V) (V4_v37 V)).trans ?_
  rw [V4_arg _ main_arg1, V4_arg _ main_arg3, V4_arg _ main_arg4, V4_arg _ main_arg5, gateGrad_eq, normGrad_eq, scaled_eq, inGrad_eq, projGrad_eq]; rfl

theorem V5_v73 : V5 V (Proc.devRef .tc main_v73) = arr .f32 (fun _ _ => (held V).loss) := by
  refine (backOps_v73 (V4 V)).trans ?_
  rw [V4_v31]
  funext y
  exact halfSum_eq _ _

end

variable (m : (ℓ : Loc nD τ sig) → Buf (Elt Ideal) ℓ) (ρ : Dev nD → PrngReg)

/-- The layer given to a device. -/
abbrev given (c : Dev nD) : Layer 2816 := layerOf (m (c.tc.loc main_arg0))
  (m (c.tc.loc main_arg1))
  (m (c.tc.loc main_arg2))
  (m (c.tc.loc main_arg3))
  (m (c.tc.loc main_arg4))
  (m (c.tc.loc main_arg5))
  (m (c.tc.loc main_arg6))
  (m (c.tc.loc main_arg7))

/-- Every execution ends with the arguments unchanged and the loss and its six gradients in the result arrays. -/
theorem run : θ_run defs (onTc (τ := τ) (main (F := Ideal))) ⟨m, fun _ => 0, ρ⟩ fun r => ∀ c : Dev nD,
      r.2.mem (c.tc.loc main_v73) = arr .f32 (fun _ _ => (given m c).loss)
      ∧ r.2.mem (c.tc.loc main_v70) = arr .f32 (given m c).dx1
      ∧ r.2.mem (c.tc.loc main_v72) = arr .f32 (given m c).dwo
      ∧ r.2.mem (c.tc.loc main_v53) = arr .f32 (fun _ j => (given m c).dg j)
      ∧ r.2.mem (c.tc.loc main_v48) = arr .f32 (given m c).dwg
      ∧ r.2.mem (c.tc.loc main_v44) = arr .f32 (given m c).dwu
      ∧ r.2.mem (c.tc.loc main_v39) = arr .f32 (given m c).dwd
      ∧ r.2.mem (c.tc.loc main_arg0) = m (c.tc.loc main_arg0)
      ∧ r.2.mem (c.tc.loc main_arg1) = m (c.tc.loc main_arg1)
      ∧ r.2.mem (c.tc.loc main_arg2) = m (c.tc.loc main_arg2)
      ∧ r.2.mem (c.tc.loc main_arg3) = m (c.tc.loc main_arg3)
      ∧ r.2.mem (c.tc.loc main_arg4) = m (c.tc.loc main_arg4)
      ∧ r.2.mem (c.tc.loc main_arg5) = m (c.tc.loc main_arg5)
      ∧ r.2.mem (c.tc.loc main_arg6) = m (c.tc.loc main_arg6)
      ∧ r.2.mem (c.tc.loc main_arg7) = m (c.tc.loc main_arg7) :=
  (θ_run defs _ _).mono (fun _ h c =>
    ⟨(h c main_v73).trans (V5_v73 (launchContents m c)),
     (h c main_v70).trans (V5_v70 (launchContents m c)),
     (h c main_v72).trans (V5_v72 (launchContents m c)),
     (h c main_v53).trans (V5_v53 (launchContents m c)),
     (h c main_v48).trans (V5_v48 (launchContents m c)),
     (h c main_v44).trans (V5_v44 (launchContents m c)),
     (h c main_v39).trans (V5_v39 (launchContents m c)),
     (h c main_arg0).trans (V5_arg (launchContents m c) main_arg0),
     (h c main_arg1).trans (V5_arg (launchContents m c) main_arg1),
     (h c main_arg2).trans (V5_arg (launchContents m c) main_arg2),
     (h c main_arg3).trans (V5_arg (launchContents m c) main_arg3),
     (h c main_arg4).trans (V5_arg (launchContents m c) main_arg4),
     (h c main_arg5).trans (V5_arg (launchContents m c) main_arg5),
     (h c main_arg6).trans (V5_arg (launchContents m c) main_arg6),
     (h c main_arg7).trans (V5_arg (launchContents m c) main_arg7)⟩)
    (run_all m ρ)

end Cert.Reference2Ideal.Ffn
-- ==== Proof.InpSpec.lean ====
/-
  The normalised rows, their product with the input weights, and the two gradients drawn back through both, over extended
  reals, as plain functions of matrices.
-/
module

public import proofs.«01_k».proof.Proof.FfnSpec

@[expose] public section

noncomputable section

namespace Cert.Inp

open Idealize.ShloMosaic Cert.Ffn

/-- The rows, the gains, the input weights, the cotangent of the rows and the cotangent of the product. -/
structure Input where
  /-- The rows. -/
  x : Mat 4096 1024
  /-- The gains of the normalisation. -/
  g : Fin 1024 → EReal
  /-- The input weights. -/
  w : Mat 1024 4872
  /-- The cotangent of the rows. -/
  ct : Mat 4096 1024
  /-- The cotangent of the product. -/
  d : Mat 4096 4872

namespace Input

variable (I : Input)

/-- The normalised rows. -/
def h : Mat 4096 1024 := norm I.x I.g
/-- Their product with the input weights. -/
def proj : Mat 4096 4872 := dot I.h I.w
/-- The gradient by the input weights. -/
def dw : Mat 1024 4872 := tDot I.h I.d
/-- The gradient by the normalised rows. -/
def dh : Mat 4096 1024 := dotT I.d I.w
/-- The gradient by the rows. -/
def dx : Mat 4096 1024 := fun i j => normBack I.x I.g I.dh i j + I.ct i j
/-- The gradient by the gains. -/
def dg (j : Fin 1024) : EReal := ∑ i, unit (I.x i) j * I.dh i j

/-- The input of five arrays. -/
def ofArrays (x : FVec Ideal (⟨2, ![4096, 1024]⟩ : Shape) .f32) (g : FVec Ideal (⟨2, ![1, 1024]⟩ : Shape) .f32)
    (w : FVec Ideal (⟨2, ![1024, 4872]⟩ : Shape) .f32) (ct : FVec Ideal (⟨2, ![4096, 1024]⟩ : Shape) .f32)
    (d : FVec Ideal (⟨2, ![4096, 4872]⟩ : Shape) .f32) : Input where
  x := mat .f32 x
  g := mat .f32 g 0
  w := mat .f32 w
  ct := mat .f32 ct
  d := mat .f32 d

end Input

end Cert.Inp

end
-- ==== Proof.InpHost.lean ====
/-
  What the host prepares for the input product's calls, and what it makes of their results: the columns of the input
  weights in the order the calls take them in, widened by zero columns.
-/
module

public import proofs.«01_k».proof.Proof.Gen.Kernel3Ideal.Frame
public import proofs.«01_k».proof.Proof.FfnSpec
public import Idealize.ShloMosaic.Lib.StableHlo.ReadAt

@[expose] public section

set_option maxRecDepth 16384

noncomputable section

namespace Cert.Kernel3Ideal.Inp

open Idealize.ShloMosaic Idealize.ShloMosaic.StableHlo Cert.Ffn Cert.Kernel3Ideal Cert.Kernel3Ideal.Gen

variable (V : Valuation τ sig (Elt Ideal))

/-- Where the calls' columns hold column `f` of the given ones: the last 2048 come first, then the first 2048, then the
    768 after the eight gates, and the eight gates at the end. -/
def place (f : Fin 4872) : Fin 4992 :=
  if _ : f.val < 2048 then ⟨f.val + 2048, by omega⟩
  else if _ : f.val < 2056 then ⟨f.val + 2816, by omega⟩
  else if _ : f.val < 2824 then ⟨f.val + 2040, by omega⟩
  else ⟨f.val - 2824, by omega⟩

theorem place_a (f : Fin 4872) (h : f.val < 2048) : (place f).val = f.val + 2048 := by
  unfold place; rw [dif_pos h]
theorem place_b (f : Fin 4872) (h : ¬ f.val < 2048) (h' : f.val < 2056) : (place f).val = f.val + 2816 := by
  unfold place; rw [dif_neg h, dif_pos h']
theorem place_c (f : Fin 4872) (h : ¬ f.val < 2056) (h' : f.val < 2824) : (place f).val = f.val + 2040 := by
  unfold place; rw [dif_neg (by omega), dif_neg h, dif_pos h']
theorem place_d (f : Fin 4872) (h : ¬ f.val < 2824) : (place f).val = f.val - 2824 := by
  unfold place; rw [dif_neg (by omega), dif_neg (by omega), dif_neg h]

/-- The four cases of a given column, by where it is placed. -/
theorem place_cases (f : Fin 4872) :
    (f.val < 2048 ∧ (place f).val = f.val + 2048) ∨ (2048 ≤ f.val ∧ f.val < 2056 ∧ (place f).val = f.val + 2816) ∨
    (2056 ≤ f.val ∧ f.val < 2824 ∧ (place f).val = f.val + 2040) ∨ (2824 ≤ f.val ∧ (place f).val = f.val - 2824) := by
  by_cases h : f.val < 2048
  · exact .inl ⟨h, place_a f h⟩
  by_cases h' : f.val < 2056
  · exact .inr (.inl ⟨by omega, h', place_b f h h'⟩)
  by_cases h'' : f.val < 2824
  · exact .inr (.inr (.inl ⟨by omega, h'', place_c f h' h''⟩))
  · exact .inr (.inr (.inr ⟨by omega, place_d f h''⟩))

/-- The input weights, column by column, where the calls take them. -/
theorem prep_v6 (i : Fin 1024) (f : Fin 4872) :
    (after hostOps0 V (Proc.devRef .tc main_v6) : Vec Ideal S1024x4992 .bf16) (ix2 i (place f)) =
      (V (Proc.devRef .tc main_arg2) : Vec Ideal S1024x4872 .f32) (ix2 i f) := by
  have hp := place_cases f
  generalize place f = p at hp
  have hf := f.isLt
  after_reads_at
  by_cases h1 : p.val < 2048
  · rw [dif_pos h1]
    after_reads_at
    exact congrArg (fun q => (V (Proc.devRef .tc main_arg2) : Vec Ideal S1024x4872 .f32) (ix2 i q)) (Fin.ext (by dsimp only; omega))
  rw [dif_neg h1]
  by_cases h2 : p.val - 2048 < 2048
  · rw [dif_pos h2]
    after_reads_at
    exact congrArg (fun q => (V (Proc.devRef .tc main_arg2) : Vec Ideal S1024x4872 .f32) (ix2 i q)) (Fin.ext (by dsimp only; omega))
  rw [dif_neg h2]
  by_cases h3 : p.val - 2048 - 2048 < 768
  · rw [dif_pos h3]
    after_reads_at
    exact congrArg (fun q => (V (Proc.devRef .tc main_arg2) : Vec Ideal S1024x4872 .f32) (ix2 i q)) (Fin.ext (by dsimp only; omega))
  rw [dif_neg h3, dif_pos (show p.val - 2048 - 2048 - 768 < 8 by omega)]
  after_reads_at
  exact congrArg (fun q => (V (Proc.devRef .tc main_arg2) : Vec Ideal S1024x4872 .f32) (ix2 i q)) (Fin.ext (by dsimp only; omega))

/-- The columns past the given ones are zero. -/
theorem rest_v6 (i : Fin 1024) (p : Fin 4992) (h : 4872 ≤ p.val) :
    (after hostOps0 V (Proc.devRef .tc main_v6) : Vec Ideal S1024x4992 .bf16) (ix2 i p) = (0 : EReal) := by
  after_reads_at
  rw [dif_neg (by omega), dif_neg (by omega), dif_neg (by omega), dif_neg (by omega)]
  after_reads_at

/-- The cotangent of the product, column by column, where the calls take them. -/
theorem prep_v13 (i : Fin 4096) (f : Fin 4872) :
    (after hostOps0 V (Proc.devRef .tc main_v13) : Vec Ideal S4096x4992 .bf16) (ix2 i (place f)) =
      (V (Proc.devRef .tc main_arg4) : Vec Ideal S4096x4872 .f32) (ix2 i f) := by
  have hp := place_cases f
  generalize place f = p at hp
  have hf := f.isLt
  after_reads_at
  by_cases h1 : p.val < 2048
  · rw [dif_pos h1]
    after_reads_at
    exact congrArg (fun q => (V (Proc.devRef .tc main_arg4) : Vec Ideal S4096x4872 .f32) (ix2 i q)) (Fin.ext (by dsimp only; omega))
  rw [dif_neg h1]
  by_cases h2 : p.val - 2048 < 2048
  · rw [dif_pos h2]
    after_reads_at
    exact congrArg (fun q => (V (Proc.devRef .tc main_arg4) : Vec Ideal S4096x4872 .f32) (ix2 i q)) (Fin.ext (by dsimp only; omega))
  rw [dif_neg h2]
  by_cases h3 : p.val - 2048 - 2048 < 768
  · rw [dif_pos h3]
    after_reads_at
    exact congrArg (fun q => (V (Proc.devRef .tc main_arg4) : Vec Ideal S4096x4872 .f32) (ix2 i q)) (Fin.ext (by dsimp only; omega))
  rw [dif_neg h3, dif_pos (show p.val - 2048 - 2048 - 768 < 8 by omega)]
  after_reads_at
  exact congrArg (fun q => (V (Proc.devRef .tc main_arg4) : Vec Ideal S4096x4872 .f32) (ix2 i q)) (Fin.ext (by dsimp only; omega))

/-- The columns past the given ones are zero. -/
theorem rest_v13 (i : Fin 4096) (p : Fin 4992) (h : 4872 ≤ p.val) :
    (after hostOps0 V (Proc.devRef .tc main_v13) : Vec Ideal S4096x4992 .bf16) (ix2 i p) = (0 : EReal) := by
  after_reads_at
  rw [dif_neg (by omega), dif_neg (by omega), dif_neg (by omega), dif_neg (by omega)]
  after_reads_at

/-! ## The results -/

/-- The product, column by column, from where the calls put them. -/
theorem fin_v22 (i : Fin 4096) (f : Fin 4872) :
    (after hostOps4 V (Proc.devRef .tc main_v22) : Vec Ideal S4096x4872 .f32) (ix2 i f) =
      (V (Proc.devRef .tc main_v15) : Vec Ideal S4096x4992 .f32) (ix2 i (place f)) := by
  have hp := place_cases f
  generalize place f = p at hp
  have hf := f.isLt
  after_reads_at
  by_cases h1 : f.val < 2048
  · rw [dif_pos h1]
    after_reads_at
    exact congrArg (fun q => (V (Proc.devRef .tc main_v15) : Vec Ideal S4096x4992 .f32) (ix2 i q)) (Fin.ext (by dsimp only; omega))
  rw [dif_neg h1]
  by_cases h2 : f.val - 2048 < 8
  · rw [dif_pos h2]
    after_reads_at
    exact congrArg (fun q => (V (Proc.devRef .tc main_v15) : Vec Ideal S4096x4992 .f32) (ix2 i q)) (Fin.ext (by dsimp only; omega))
  rw [dif_neg h2]
  by_cases h3 : f.val - 2048 - 8 < 768
  · rw [dif_pos h3]
    after_reads_at
    exact congrArg (fun q => (V (Proc.devRef .tc main_v15) : Vec Ideal S4096x4992 .f32) (ix2 i q)) (Fin.ext (by dsimp only; omega))
  rw [dif_neg h3]
  after_reads_at
  exact congrArg (fun q => (V (Proc.devRef .tc main_v15) : Vec Ideal S4096x4992 .f32) (ix2 i q)) (Fin.ext (by dsimp only; omega))

/-- The gradient by the input weights, column by column, from where the calls put them. -/
theorem fin_v28 (i : Fin 1024) (f : Fin 4872) :
    (after hostOps4 V (Proc.devRef .tc main_v28) : Vec Ideal S1024x4872 .f32) (ix2 i f) =
      (V (Proc.devRef .tc main_v16) : Vec Ideal S1024x4992 .bf16) (ix2 i (place f)) := by
  have hp := place_cases f
  generalize place f = p at hp
  have hf := f.isLt
  after_reads_at
  by_cases h1 : f.val < 2048
  · rw [dif_pos h1]
    after_reads_at
    exact congrArg (fun q => (V (Proc.devRef .tc main_v16) : Vec Ideal S1024x4992 .bf16) (ix2 i q)) (Fin.ext (by dsimp only; omega))
  rw [dif_neg h1]
  by_cases h2 : f.val - 2048 < 8
  · rw [dif_pos h2]
    after_reads_at
    exact congrArg (fun q => (V (Proc.devRef .tc main_v16) : Vec Ideal S1024x4992 .bf16) (ix2 i q)) (Fin.ext (by dsimp only; omega))
  rw [dif_neg h2]
  by_cases h3 : f.val - 2048 - 8 < 768
  · rw [dif_pos h3]
    after_reads_at
    exact congrArg (fun q => (V (Proc.devRef .tc main_v16) : Vec Ideal S1024x4992 .bf16) (ix2 i q)) (Fin.ext (by dsimp only; omega))
  rw [dif_neg h3]
  after_reads_at
  exact congrArg (fun q => (V (Proc.devRef .tc main_v16) : Vec Ideal S1024x4992 .bf16) (ix2 i q)) (Fin.ext (by dsimp only; omega))

end Cert.Kernel3Ideal.Inp

end
-- ==== Proof.InpRegion0.lean ====
/-
  The normalisation: what the first call leaves in its result array, from the arrays it finds.
-/
module

public import proofs.«01_k».proof.Proof.FfnSpec
public import proofs.«01_k».proof.Proof.Gen.Kernel3Ideal.Frame
public import Idealize.ShloMosaic.Lib.Pipeline.ValueKit.Geometry
public import Idealize.ShloMosaic.Lib.Pipeline.ValueKit.Acc
public import Idealize.ShloMosaic.Lib.Pipeline.ValueKit.Tiles

@[expose] public section

set_option maxRecDepth 16384

noncomputable section

namespace Cert.Kernel3Ideal.Inp

open Idealize.ShloMosaic Idealize.ShloMosaic.TcCoe Idealize.ShloMosaic.Tactic Idealize.SL.Sem
open Cert.Kernel3Ideal.Gen Cert.Ffn

theorem k0_norm (x : Vec Ideal S1024x1024 .f32) (g : Vec Ideal S1x1024 .f32) (i j : Fin 1024) :
    k0_pay1 x g (ix2 i j) = unit (fun l => (x (ix2 i l) : EReal)) j * (g (ix2 0 j) : EReal) := by
  pointwise [k0_pay1, unit, spread, width, eps]

variable (V : (c : Dev nD) → (b : Ref sig .tc) → Buf (Elt Ideal) ((c : Thread nD τ).loc b)) (c : Dev nD)

theorem index0_0 : ∀ t : Fin cfg0.N, win0_0.index t = ![t.val, 0] := by
  change ∀ t : Fin grid0.N, _; decide +kernel
theorem index0_1 : ∀ t : Fin cfg0.N, win0_1.index t = ![0, 0] := by
  change ∀ t : Fin grid0.N, _; decide +kernel
theorem index0_2 : ∀ t : Fin cfg0.N, win0_2.index t = ![t.val, 0] := by
  change ∀ t : Fin grid0.N, _; decide +kernel

/-- Row `r` of point `t`'s block of 1024 rows. -/
def row0 (t : Fin cfg0.N) (r : Fin 1024) : Fin 4096 :=
  ⟨1024 * (t.val) + r.val, by have := t.isLt; have : cfg0.N = 4 := N_0; omega⟩

theorem iblk0_0 (t : Fin cfg0.N) (r : Fin 1024) (v : Fin 1024) : (iblk0 V c 0 t : Vec Ideal S1024x1024 .f32) (ix2 r v) =
    (V c main_arg0 : Vec Ideal S4096x1024 .f32) (ix2 (row0 t r) v) := by
  blk_simp [iblk0]
  refine congrArg (V c main_arg0 : Vec Ideal S4096x1024 .f32) ?_
  blk_ext [index0_0, row0]

theorem iblk0_1 (t : Fin cfg0.N) (r : Fin 1) (v : Fin 1024) : (iblk0 V c 1 t : Vec Ideal S1x1024 .f32) (ix2 r v) =
    (V c main_arg1 : Vec Ideal S1x1024 .f32) (ix2 r v) := by
  blk_simp [iblk0]
  refine congrArg (V c main_arg1 : Vec Ideal S1x1024 .f32) ?_
  blk_ext [index0_1]

/-- The result holds the normalised rows times the gains. -/
theorem final0_2 : (dat0 V c).arrAt 2 cfg0.N = arr .bf16 (norm (mat .f32 (V c main_arg0 : Vec Ideal S4096x1024 .f32))
    (mat .f32 (V c main_arg1 : Vec Ideal S1x1024 .f32) 0)) := by
  refine (dat0 V c).arrAt_eq_of_covers 2 _ (by decide +kernel) fun t hf y => ?_
  blk_simp
  rw [after0_2]; frame_out
  obtain ⟨i, j, rfl⟩ := eq_ix2 (a := 1024) (b := 1024) y
  refine Eq.trans ?_ (arr_at _ _ _ (row0 t i) j ?_ ?_).symm
  · refine (k0_norm _ _ i j).trans ?_
    simp only [iblk0_0, iblk0_1]
    rfl
  all_goals (blk_simp [index0_2, row0]; try (dsimp only; omega))

end Cert.Kernel3Ideal.Inp

end
-- ==== Proof.InpRegion1.lean ====
/-
  The input product: what the second call leaves in its result array, from the arrays it finds.
-/
module

public import proofs.«01_k».proof.Proof.FfnSpec
public import proofs.«01_k».proof.Proof.Gen.Kernel3Ideal.Frame
public import Idealize.ShloMosaic.Lib.Pipeline.ValueKit.Geometry
public import Idealize.ShloMosaic.Lib.Pipeline.ValueKit.Acc
public import Idealize.ShloMosaic.Lib.Pipeline.ValueKit.Tiles

@[expose] public section

set_option maxRecDepth 16384

noncomputable section

namespace Cert.Kernel3Ideal.Inp

open Idealize.ShloMosaic Idealize.ShloMosaic.TcCoe Idealize.ShloMosaic.Tactic Idealize.SL.Sem
open Cert.Kernel3Ideal.Gen Cert.Ffn

theorem k1_product (a : Vec Ideal S1024x1024 .bf16) (b : Vec Ideal S1024x1664 .bf16) (i : Fin 1024) (j : Fin 1664) :
    k1_pay1 a b (ix2 i j) = ∑ x : Fin 1024, (a (ix2 i x) : EReal) * b (ix2 x j) := by
  pointwise [k1_pay1]

variable (V : (c : Dev nD) → (b : Ref sig .tc) → Buf (Elt Ideal) ((c : Thread nD τ).loc b)) (c : Dev nD)

theorem index1_0 : ∀ t : Fin cfg1.N, win1_0.index t = ![t.val % 4, 0] := by
  change ∀ t : Fin grid1.N, _; decide +kernel
theorem index1_1 : ∀ t : Fin cfg1.N, win1_1.index t = ![0, t.val / 4] := by
  change ∀ t : Fin grid1.N, _; decide +kernel
theorem index1_2 : ∀ t : Fin cfg1.N, win1_2.index t = ![t.val % 4, t.val / 4] := by
  change ∀ t : Fin grid1.N, _; decide +kernel

/-- Row `r` of point `t`'s block of 1024 rows. -/
def row1 (t : Fin cfg1.N) (r : Fin 1024) : Fin 4096 :=
  ⟨1024 * (t.val % 4) + r.val, by have := t.isLt; have : cfg1.N = 12 := N_1; omega⟩

/-- Column `r` of point `t`'s block of 1664 columns. -/
def col1 (t : Fin cfg1.N) (r : Fin 1664) : Fin 4992 :=
  ⟨1664 * (t.val / 4) + r.val, by have := t.isLt; have : cfg1.N = 12 := N_1; omega⟩

theorem iblk1_0 (t : Fin cfg1.N) (r : Fin 1024) (v : Fin 1024) : (iblk1 V c 0 t : Vec Ideal S1024x1024 .bf16) (ix2 r v) =
    (V c main_v14 : Vec Ideal S4096x1024 .bf16) (ix2 (row1 t r) v) := by
  blk_simp [iblk1]
  refine congrArg (V c main_v14 : Vec Ideal S4096x1024 .bf16) ?_
  blk_ext [index1_0, row1]

theorem iblk1_1 (t : Fin cfg1.N) (r : Fin 1024) (v : Fin 1664) : (iblk1 V c 1 t : Vec Ideal S1024x1664 .bf16) (ix2 r v) =
    (V c main_v6 : Vec Ideal S1024x4992 .bf16) (ix2 r (col1 t v)) := by
  blk_simp [iblk1]
  refine congrArg (V c main_v6 : Vec Ideal S1024x4992 .bf16) ?_
  blk_ext [index1_1, col1]

/-- The result holds the product of the two arrays. -/
theorem final1_2 : (dat1 V c).arrAt 2 cfg1.N = arr .f32 (dot (mat .bf16 (V c main_v14 : Vec Ideal S4096x1024 .bf16))
    (mat .bf16 (V c main_v6 : Vec Ideal S1024x4992 .bf16))) := by
  refine (dat1 V c).arrAt_eq_of_covers 2 _ (by decide +kernel) fun t hf y => ?_
  blk_simp
  rw [after1_2]; frame_out
  obtain ⟨i, j, rfl⟩ := eq_ix2 (a := 1024) (b := 1664) y
  refine Eq.trans ?_ (arr_at _ _ _ (row1 t i) (col1 t j) ?_ ?_).symm
  · refine (k1_product _ _ i j).trans (Finset.sum_congr rfl fun x _ => ?_)
    rw [iblk1_0, iblk1_1]
    rfl
  all_goals (blk_simp [index1_2, row1, col1]; try (dsimp only; omega))

end Cert.Kernel3Ideal.Inp

end
-- ==== Proof.InpRegion2.lean ====
/-
  The gradient by the input weights: what the third call leaves in its result array, from the arrays it finds.
-/
module

public import proofs.«01_k».proof.Proof.FfnSpec
public import proofs.«01_k».proof.Proof.Gen.Kernel3Ideal.Frame
public import Idealize.ShloMosaic.Lib.Pipeline.ValueKit.Geometry
public import Idealize.ShloMosaic.Lib.Pipeline.ValueKit.Acc
public import Idealize.ShloMosaic.Lib.Pipeline.ValueKit.Tiles

@[expose] public section

set_option maxRecDepth 16384

noncomputable section

namespace Cert.Kernel3Ideal.Inp

open Idealize.ShloMosaic Idealize.ShloMosaic.TcCoe Idealize.ShloMosaic.Tactic Idealize.SL.Sem
open Cert.Kernel3Ideal.Gen Cert.Ffn

theorem k2_product (a : Vec Ideal S4096x512 .bf16) (b : Vec Ideal S4096x1664 .bf16) (i : Fin 512) (j : Fin 1664) :
    k2_pay1 a b (ix2 i j) = ∑ x : Fin 4096, (a (ix2 x i) : EReal) * b (ix2 x j) := by
  pointwise [k2_pay1]

variable (V : (c : Dev nD) → (b : Ref sig .tc) → Buf (Elt Ideal) ((c : Thread nD τ).loc b)) (c : Dev nD)

theorem index2_0 : ∀ t : Fin cfg2.N, win2_0.index t = ![0, t.val % 2] := by
  change ∀ t : Fin grid2.N, _; decide +kernel
theorem index2_1 : ∀ t : Fin cfg2.N, win2_1.index t = ![0, t.val / 2] := by
  change ∀ t : Fin grid2.N, _; decide +kernel
theorem index2_2 : ∀ t : Fin cfg2.N, win2_2.index t = ![t.val % 2, t.val / 2] := by
  change ∀ t : Fin grid2.N, _; decide +kernel

/-- Row `r` of point `t`'s block of 512 rows. -/
def row2 (t : Fin cfg2.N) (r : Fin 512) : Fin 1024 :=
  ⟨512 * (t.val % 2) + r.val, by have := t.isLt; have : cfg2.N = 6 := N_2; omega⟩

/-- Column `r` of point `t`'s block of 1664 columns. -/
def col2 (t : Fin cfg2.N) (r : Fin 1664) : Fin 4992 :=
  ⟨1664 * (t.val / 2) + r.val, by have := t.isLt; have : cfg2.N = 6 := N_2; omega⟩

theorem iblk2_0 (t : Fin cfg2.N) (r : Fin 4096) (v : Fin 512) : (iblk2 V c 0 t : Vec Ideal S4096x512 .bf16) (ix2 r v) =
    (V c main_v14 : Vec Ideal S4096x1024 .bf16) (ix2 r (row2 t v)) := by
  blk_simp [iblk2]
  refine congrArg (V c main_v14 : Vec Ideal S4096x1024 .bf16) ?_
  blk_ext [index2_0, row2]

theorem iblk2_1 (t : Fin cfg2.N) (r : Fin 4096) (v : Fin 1664) : (iblk2 V c 1 t : Vec Ideal S4096x1664 .bf16) (ix2 r v) =
    (V c main_v13 : Vec Ideal S4096x4992 .bf16) (ix2 r (col2 t v)) := by
  blk_simp [iblk2]
  refine congrArg (V c main_v13 : Vec Ideal S4096x4992 .bf16) ?_
  blk_ext [index2_1, col2]

/-- The result holds the product of the first array's columns with the second array's. -/
theorem final2_2 : (dat2 V c).arrAt 2 cfg2.N = arr .bf16 (tDot (mat .bf16 (V c main_v14 : Vec Ideal S4096x1024 .bf16))
    (mat .bf16 (V c main_v13 : Vec Ideal S4096x4992 .bf16))) := by
  refine (dat2 V c).arrAt_eq_of_covers 2 _ (by decide +kernel) fun t hf y => ?_
  blk_simp
  rw [after2_2]; frame_out
  obtain ⟨i, j, rfl⟩ := eq_ix2 (a := 512) (b := 1664) y
  refine Eq.trans ?_ (arr_at _ _ _ (row2 t i) (col2 t j) ?_ ?_).symm
  · refine (k2_product _ _ i j).trans (Finset.sum_congr rfl fun x _ => ?_)
    rw [iblk2_0, iblk2_1]
    rfl
  all_goals (blk_simp [index2_2, row2, col2]; try (dsimp only; omega))

end Cert.Kernel3Ideal.Inp

end
-- ==== Proof.InpRegion3.lean ====
/-
  The gradients through the normalisation: what the fourth call leaves in its two result arrays, from the arrays it finds.
-/
module

public import proofs.«01_k».proof.Proof.FfnSpec
public import proofs.«01_k».proof.Proof.Gen.Kernel3Ideal.Frame
public import Idealize.ShloMosaic.Lib.Pipeline.ValueKit.Geometry
public import Idealize.ShloMosaic.Lib.Pipeline.ValueKit.Acc
public import Idealize.ShloMosaic.Lib.Pipeline.ValueKit.Tiles

@[expose] public section

set_option maxRecDepth 16384

noncomputable section

namespace Cert.Kernel3Ideal.Inp

open Idealize.ShloMosaic Idealize.ShloMosaic.TcCoe Idealize.ShloMosaic.Tactic Idealize.SL.Sem
open Cert.Kernel3Ideal.Gen Cert.Ffn

/-! ## The body's arithmetic -/

theorem k3_product (a : Vec Ideal S512x4992 .bf16) (b : Vec Ideal S1024x4992 .bf16) (i : Fin 512) (j : Fin 1024) :
    k3_pay6 a b (ix2 i j) = dotT (mat .bf16 a) (mat .bf16 b) i j := by
  pointwise [k3_pay6, dotT, mat]

theorem k3_spread (x : Vec Ideal S512x1024 .f32) (i : Fin 512) : k3_pay4 x (ix2 i 0) = spread (mat .f32 x i) := by
  pointwise [k3_pay4, spread, mat, width, eps]

theorem k3_root (x : Vec Ideal S512x1024 .f32) (i : Fin 512) : k3_pay5 x (ix2 i 0) = Ideal.rsqrt (spread (mat .f32 x i)) := by
  rw [← k3_spread]
  generalize h : k3_pay4 x = X
  pointwise [k3_pay5, h]

theorem k3_scaled (a : Vec Ideal S512x4992 .bf16) (b : Vec Ideal S1024x4992 .bf16) (g : Vec Ideal S1x1024 .f32)
    (i : Fin 512) (j : Fin 1024) : k3_pay8 a b g (ix2 i j) = (k3_pay6 a b (ix2 i j) : EReal) * g (ix2 0 j) := by
  generalize h : k3_pay6 a b = D
  pointwise [k3_pay8, h]

theorem k3_direct (a : Vec Ideal S512x4992 .bf16) (b : Vec Ideal S1024x4992 .bf16) (x : Vec Ideal S512x1024 .f32)
    (g : Vec Ideal S1x1024 .f32) (i : Fin 512) (j : Fin 1024) :
    k3_pay9 a b x g (ix2 i j) = (k3_pay6 a b (ix2 i j) : EReal) * g (ix2 0 j) * Ideal.rsqrt (spread (mat .f32 x i)) := by
  rw [← k3_root, ← k3_scaled]
  generalize h : k3_pay8 a b g = D
  generalize h' : k3_pay5 x = R
  pointwise [k3_pay9, h, h']

theorem k3_through (a : Vec Ideal S512x4992 .bf16) (b : Vec Ideal S1024x4992 .bf16) (x : Vec Ideal S512x1024 .f32)
    (g : Vec Ideal S1x1024 .f32) (i : Fin 512) :
    k3_pay10 a b x g (ix2 i 0) =
      through (mat .f32 x i) (fun l => (k3_pay6 a b (ix2 i l) : EReal) * g (ix2 0 l)) := by
  rw [show (fun l => (k3_pay6 a b (ix2 i l) : EReal) * g (ix2 0 l)) = fun l => k3_pay8 a b g (ix2 i l) from
    funext fun l => (k3_scaled a b g i l).symm]
  unfold through
  rw [← k3_root, ← k3_spread]
  generalize h : k3_pay8 a b g = D
  generalize h' : k3_pay5 x = R
  generalize h'' : k3_pay4 x = T
  pointwise [k3_pay10, h, h', h'', mat, negHalf, width]
  simp only [Fin.sum_univ_one, Fin.isValue]

theorem k3_sum (x y p : Vec Ideal S512x1024 .f32) (q : FVec Ideal S512x1 .f32) (i : Fin 512) (j : Fin 1024) :
    k3_pay1 x y p q (ix2 i j) = (p (ix2 i j) : EReal) + x (ix2 i j) * q (ix2 i 0) + q (ix2 i 0) * x (ix2 i j) + y (ix2 i j) := by
  pointwise [k3_pay1]

theorem k3_back (a : Vec Ideal S512x4992 .bf16) (b : Vec Ideal S1024x4992 .bf16) (x y : Vec Ideal S512x1024 .f32)
    (g : Vec Ideal S1x1024 .f32) (i : Fin 512) (j : Fin 1024) :
    k3_pay1 x y (k3_pay9 a b x g) (k3_pay10 a b x g) (ix2 i j) =
      normBack (mat .f32 x) (mat .f32 g 0) (mat .f32 (k3_pay6 a b)) i j + y (ix2 i j) := by
  rw [k3_sum, k3_direct, k3_through]
  rfl

theorem k3_zero (j : Fin 1024) : (k3_pay2 : FVec Ideal S1x1024 .f32) (ix2 0 j) = (0 : EReal) := by
  pointwise [k3_pay2]

theorem k3_part (a : Vec Ideal S512x4992 .bf16) (b : Vec Ideal S1024x4992 .bf16) (x : Vec Ideal S512x1024 .f32) (j : Fin 1024) :
    k3_pay7 a b x (ix2 0 j) = ∑ i : Fin 512, unit (mat .f32 x i) j * (k3_pay6 a b (ix2 i j) : EReal) := by
  unfold unit
  simp only [← k3_root]
  generalize h : k3_pay6 a b = D
  generalize h' : k3_pay5 x = R
  pointwise [k3_pay7, h, h', mat]

theorem k3_add (p : FVec Ideal S1x1024 .f32) (o : Vec Ideal S1x1024 .f32) (j : Fin 1024) :
    k3_pay3 p o (ix2 0 j) = (o (ix2 0 j) : EReal) + p (ix2 0 j) := by
  pointwise [k3_pay3]

variable (V : (c : Dev nD) → (b : Ref sig .tc) → Buf (Elt Ideal) ((c : Thread nD τ).loc b)) (c : Dev nD)

/-! ## The blocks read -/

theorem index3_0 : ∀ t : Fin cfg3.N, win3_0.index t = ![t.val, 0] := by
  change ∀ t : Fin grid3.N, _; decide +kernel
theorem index3_1 : ∀ t : Fin cfg3.N, win3_1.index t = ![0, 0] := by
  change ∀ t : Fin grid3.N, _; decide +kernel
theorem index3_2 : ∀ t : Fin cfg3.N, win3_2.index t = ![t.val, 0] := by
  change ∀ t : Fin grid3.N, _; decide +kernel
theorem index3_3 : ∀ t : Fin cfg3.N, win3_3.index t = ![t.val, 0] := by
  change ∀ t : Fin grid3.N, _; decide +kernel
theorem index3_4 : ∀ t : Fin cfg3.N, win3_4.index t = ![0, 0] := by
  change ∀ t : Fin grid3.N, _; decide +kernel
theorem index3_5 : ∀ t : Fin cfg3.N, win3_5.index t = ![t.val, 0] := by
  change ∀ t : Fin grid3.N, _; decide +kernel
theorem index3_6 : ∀ t : Fin cfg3.N, win3_6.index t = ![0, 0] := by
  change ∀ t : Fin grid3.N, _; decide +kernel

/-- Row `r` of point `t`'s block of 512 rows. -/
def row3 (t : Fin cfg3.N) (r : Fin 512) : Fin 4096 :=
  ⟨512 * (t.val) + r.val, by have := t.isLt; have : cfg3.N = 8 := N_3; omega⟩

theorem iblk3_0 (t : Fin cfg3.N) (r : Fin 512) (v : Fin 4992) : (iblk3 V c 0 t : Vec Ideal S512x4992 .bf16) (ix2 r v) =
    (V c main_v13 : Vec Ideal S4096x4992 .bf16) (ix2 (row3 t r) v) := by
  blk_simp [iblk3]
  refine congrArg (V c main_v13 : Vec Ideal S4096x4992 .bf16) ?_
  blk_ext [index3_0, row3]

theorem iblk3_1 (t : Fin cfg3.N) (r : Fin 1024) (v : Fin 4992) : (iblk3 V c 1 t : Vec Ideal S1024x4992 .bf16) (ix2 r v) =
    (V c main_v6 : Vec Ideal S1024x4992 .bf16) (ix2 r v) := by
  blk_simp [iblk3]
  refine congrArg (V c main_v6 : Vec Ideal S1024x4992 .bf16) ?_
  blk_ext [index3_1]

theorem iblk3_2 (t : Fin cfg3.N) (r : Fin 512) (v : Fin 1024) : (iblk3 V c 2 t : Vec Ideal S512x1024 .f32) (ix2 r v) =
    (V c main_arg0 : Vec Ideal S4096x1024 .f32) (ix2 (row3 t r) v) := by
  blk_simp [iblk3]
  refine congrArg (V c main_arg0 : Vec Ideal S4096x1024 .f32) ?_
  blk_ext [index3_2, row3]

theorem iblk3_3 (t : Fin cfg3.N) (r : Fin 512) (v : Fin 1024) : (iblk3 V c 3 t : Vec Ideal S512x1024 .f32) (ix2 r v) =
    (V c main_arg3 : Vec Ideal S4096x1024 .f32) (ix2 (row3 t r) v) := by
  blk_simp [iblk3]
  refine congrArg (V c main_arg3 : Vec Ideal S4096x1024 .f32) ?_
  blk_ext [index3_3, row3]

theorem iblk3_4 (t : Fin cfg3.N) : (iblk3 V c 4 t : Vec Ideal S1x1024 .f32) = (V c main_arg1 : Vec Ideal S1x1024 .f32) := by
  funext y
  blk_simp [iblk3]
  refine congrArg (V c main_arg1 : Vec Ideal S1x1024 .f32) ?_
  blk_ext [index3_4]

/-! ## The result arrays -/

/-- The gradient by the normalised rows, from the arrays the call finds. -/
def back : Mat 4096 1024 :=
  dotT (mat .bf16 (V c main_v13 : Vec Ideal S4096x4992 .bf16)) (mat .bf16 (V c main_v6 : Vec Ideal S1024x4992 .bf16))

/-- The gradient by the rows before the normalisation, from the arrays the call finds. -/
def through3 : Mat 4096 1024 := fun i j =>
  normBack (mat .f32 (V c main_arg0 : Vec Ideal S4096x1024 .f32)) (mat .f32 (V c main_arg1 : Vec Ideal S1x1024 .f32) 0)
    (back V c) i j + mat .f32 (V c main_arg3 : Vec Ideal S4096x1024 .f32) i j

/-- A point's block of the gradient by the normalised rows. -/
theorem block_back (t : Fin cfg3.N) : mat .f32 (k3_pay6 (iblk3 V c 0 t) (iblk3 V c 1 t)) = fun i j => back V c (row3 t i) j := by
  funext i j
  refine (k3_product _ _ i j).trans ?_
  exact Finset.sum_congr rfl fun f _ => congrArg₂ (fun p q : EReal => p * q) (iblk3_0 V c t i f) (iblk3_1 V c t j f)

/-- A point's block of the rows before the normalisation. -/
theorem block_rows (t : Fin cfg3.N) : mat .f32 (iblk3 V c 2 t : Vec Ideal S512x1024 .f32) =
    fun i j => mat .f32 (V c main_arg0 : Vec Ideal S4096x1024 .f32) (row3 t i) j := by
  funext i j
  exact iblk3_2 V c t i j

/-- A point's block of the gradient by the rows before the normalisation. -/
theorem block_through (t : Fin cfg3.N) (i : Fin 512) (j : Fin 1024) :
    normBack (mat .f32 (iblk3 V c 2 t : Vec Ideal S512x1024 .f32)) (mat .f32 (iblk3 V c 4 t : Vec Ideal S1x1024 .f32) 0)
      (mat .f32 (k3_pay6 (iblk3 V c 0 t) (iblk3 V c 1 t))) i j + (iblk3 V c 3 t : Vec Ideal S512x1024 .f32) (ix2 i j) =
    through3 V c (row3 t i) j := by
  rw [block_back, block_rows, iblk3_3, iblk3_4]
  rfl

/-- Result 0 holds the gradient by the rows before the normalisation. -/
theorem final3_5 : (dat3 V c).arrAt 5 cfg3.N = arr .f32 (through3 V c) := by
  refine (dat3 V c).arrAt_eq_of_covers 5 _ (by decide +kernel) fun t hf y => ?_
  blk_simp
  obtain ⟨i, j, rfl⟩ := eq_ix2 (a := 512) (b := 1024) y
  refine Eq.trans ?_ (arr_at _ _ _ (row3 t i) j ?_ ?_).symm
  · rw [← block_through, after3_5]
    by_cases h0 : t.val % 8 = 0
    · rw [outsAt3_A V c t h0]; frame_out
      exact k3_back _ _ _ _ _ i j
    · rw [outsAt3_B V c t h0]; frame_out
      exact k3_back _ _ _ _ _ i j
  all_goals (blk_simp [index3_5, row3]; try (dsimp only; omega))

/-- What a row adds to the gradient by the gains. -/
def gainAt (i : Fin 4096) (j : Fin 1024) : EReal :=
  unit (mat .f32 (V c main_arg0 : Vec Ideal S4096x1024 .f32) i) j * back V c i j

theorem gains_eq (t : Fin cfg3.N) (o : Vec Ideal S1x1024 .f32) (j : Fin 1024) :
    k3_pay3 (k3_pay7 (iblk3 V c 0 t) (iblk3 V c 1 t) (iblk3 V c 2 t)) o (ix2 0 j) =
      (o (ix2 0 j) : EReal) + ∑ r : Fin 512, gainAt V c (row3 t r) j := by
  refine (k3_add _ o j).trans (congrArg (fun s : EReal => _ + s) ((k3_part _ _ _ j).trans (Finset.sum_congr rfl fun r _ => ?_)))
  have e := congrFun (congrFun (block_back V c t) r) j
  exact congrArg₂ (fun p q : EReal => p * q) (congrArg (fun x => unit x j) (congrFun (block_rows V c t) r)) e

theorem gains_first (j : Fin 1024) (h : 0 < cfg3.N) :
    (outsAt3 V c 0 h).2 (ix2 0 j) = ∑ r : Fin 512, gainAt V c (row3 ⟨0, h⟩ r) j := by
  rw [outsAt3_A V c ⟨0, h⟩ rfl]; frame_out
  refine (gains_eq V c _ _ j).trans ?_
  rw [k3_zero, zero_add]

theorem gains_next (j : Fin 1024) (n : ℕ) (h : n + 1 < cfg3.N) : (outsAt3 V c (n + 1) h).2 (ix2 0 j) =
    ((outsAt3 V c n (Nat.lt_of_succ_lt h)).2 (ix2 0 j) : EReal) + ∑ r : Fin 512, gainAt V c (row3 ⟨n + 1, h⟩ r) j := by
  have hN : cfg3.N = 8 := N_3
  rw [outsAt3_B V c ⟨n + 1, h⟩ (by dsimp only; omega)]; frame_out
  exact gains_eq V c _ _ j

/-- Result 1 holds the gradient by the gains. -/
theorem final3_6 : (dat3 V c).arrAt 6 cfg3.N = arr .f32 (fun _ j => ∑ i, gainAt V c i j) := by
  refine (dat3 V c).arrAt_eq_of_covers 6 _ (by decide +kernel) fun t hf y => ?_
  have hN : cfg3.N = 8 := N_3
  have ht : t.val = 7 := by have := (flush3_6 t).mp hf; have := t.isLt; omega
  blk_simp
  rw [after3_6]
  obtain ⟨z, j, rfl⟩ := eq_ix2 (a := 1) (b := 1024) y
  obtain rfl : z = 0 := Subsingleton.elim _ _
  refine Eq.trans ?_ (arr_at _ _ _ 0 j ?_ ?_).symm
  · refine (accum (fun t => ∑ r : Fin 512, gainAt V c (row3 t r) j) (fun n h => (outsAt3 V c n h).2 (ix2 0 j))
      (gains_first V c j) (gains_next V c j) t.val t.isLt).trans ?_
    obtain ⟨n, hn⟩ := t
    obtain rfl : n = 7 := ht
    refine Eq.trans ?_ (sum_blocks 8 512 (fun i => gainAt V c i j)).symm
    exact Finset.sum_congr rfl fun p _ => Finset.sum_congr rfl fun r _ =>
      congrArg (fun i => gainAt V c i j) (Fin.ext (Nat.add_comm _ _))
  all_goals blk_simp [index3_6]

end Cert.Kernel3Ideal.Inp

end
-- ==== Proof.InpChain.lean ====
/-
  The calls around the input product one after the other, and the run of their program: what each array holds when the
  next call begins, and the four results as the values of the given input.
-/
module

public import proofs.«01_k».proof.Proof.InpSpec
public import proofs.«01_k».proof.Proof.InpHost
public import proofs.«01_k».proof.Proof.InpRegion0
public import proofs.«01_k».proof.Proof.InpRegion1
public import proofs.«01_k».proof.Proof.InpRegion2
public import proofs.«01_k».proof.Proof.InpRegion3

@[expose] public section

set_option maxRecDepth 16384

noncomputable section

namespace Cert.Kernel3Ideal.Inp

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.StableHlo
open Cert.Ffn Cert.Inp Cert.Kernel3Ideal Cert.Kernel3Ideal.Gen

variable (m : (ℓ : Loc nD τ sig) → Buf (Elt Ideal) ℓ) (ρ : Dev nD → PrngReg) (c : Dev nD)

/-- The input as given to the program. -/
def given : Input :=
  Input.ofArrays (m (c.tc.loc main_arg0)) (m (c.tc.loc main_arg1)) (m (c.tc.loc main_arg2))
    (m (c.tc.loc main_arg3)) (m (c.tc.loc main_arg4))

/-- The input weights as the calls take them. -/
def wide : Mat 1024 4992 := mat .bf16 (W1 (F := Ideal) m ρ c (Proc.devRef .tc main_v6) : Vec Ideal S1024x4992 .bf16)

/-- The product's cotangent as the calls take it. -/
def wideD : Mat 4096 4992 := mat .bf16 (W1 (F := Ideal) m ρ c (Proc.devRef .tc main_v13) : Vec Ideal S4096x4992 .bf16)

theorem wide_at (i : Fin 1024) (f : Fin 4872) : wide m ρ c i (place f) = (given m c).w i f := prep_v6 (W0 m ρ c) i f
theorem wideD_at (i : Fin 4096) (f : Fin 4872) : wideD m ρ c i (place f) = (given m c).d i f := prep_v13 (W0 m ρ c) i f
theorem wideD_rest (i : Fin 4096) (p : Fin 4992) (h : 4872 ≤ p.val) : wideD m ρ c i p = 0 := rest_v13 (W0 m ρ c) i p h

theorem place_inj : Function.Injective place := fun f f' h => Fin.ext (by
  have h1 := place_cases f
  have h2 := place_cases f'
  rw [h] at h1
  have := f.isLt; have := f'.isLt
  omega)

/-- Every column below 4872 holds one of the given columns. -/
theorem place_onto (p : Fin 4992) (h : p ∉ Set.range place) : 4872 ≤ p.val := by
  by_contra h'
  have hit : ∀ f : Fin 4872, (place f).val ≠ p.val := fun f e => h ⟨f, Fin.ext e⟩
  by_cases h1 : p.val < 2048
  · exact hit ⟨p.val + 2824, by omega⟩ (by have := place_d ⟨p.val + 2824, by omega⟩ (by dsimp only; omega); dsimp only at this; omega)
  by_cases h2 : p.val < 4096
  · exact hit ⟨p.val - 2048, by omega⟩ (by have := place_a ⟨p.val - 2048, by omega⟩ (by dsimp only; omega); dsimp only at this; omega)
  by_cases h3 : p.val < 4864
  · exact hit ⟨p.val - 2040, by omega⟩ (by have := place_c ⟨p.val - 2040, by omega⟩ (by dsimp only; omega) (by dsimp only; omega); dsimp only at this; omega)
  · exact hit ⟨p.val - 2816, by omega⟩ (by have := place_b ⟨p.val - 2816, by omega⟩ (by dsimp only; omega) (by dsimp only; omega); dsimp only at this; omega)

/-- The gradient by the normalised rows, from the columns as the calls take them. -/
theorem dh_eq : dotT (wideD m ρ c) (wide m ρ c) = (given m c).dh := by
  funext i j
  refine (Fintype.sum_of_injective place place_inj (fun f => (given m c).d i f * (given m c).w j f)
    (fun p => wideD m ρ c i p * wide m ρ c j p) (fun p hp => ?_) (fun f => ?_)).symm
  · rw [wideD_rest m ρ c i p (place_onto p hp), zero_mul]
  · rw [wideD_at, wide_at]

/-! ## What each call leaves -/

theorem at2_v14 : W2 (F := Ideal) m ρ c (Proc.devRef .tc main_v14) = arr .bf16 (given m c).h := by
  refine (W2_arr m ρ c 2).trans ((final0_2 (V1 (F := Ideal) m ρ) c).trans ?_)
  rw [show V1 (F := Ideal) m ρ c main_arg0 = _ from W1_args m ρ c main_arg0 (by decide),
    show V1 (F := Ideal) m ρ c main_arg1 = _ from W1_args m ρ c main_arg1 (by decide)]
  rfl

theorem at3_v15 : W3 (F := Ideal) m ρ c (Proc.devRef .tc main_v15) = arr .f32 (dot (given m c).h (wide m ρ c)) := by
  refine (W3_arr m ρ c 2).trans ((final1_2 (V2 (F := Ideal) m ρ) c).trans ?_)
  rw [show V2 (F := Ideal) m ρ c main_v14 = _ from at2_v14 m ρ c,
    show V2 (F := Ideal) m ρ c main_v6 = _ from W2_of m ρ c main_v6 (by decide)]
  rfl

theorem at4_v16 : W4 (F := Ideal) m ρ c (Proc.devRef .tc main_v16) = arr .bf16 (tDot (given m c).h (wideD m ρ c)) := by
  refine (W4_arr m ρ c 2).trans ((final2_2 (V3 (F := Ideal) m ρ) c).trans ?_)
  rw [show V3 (F := Ideal) m ρ c main_v14 = _ from (W3_of m ρ c main_v14 (by decide)).trans (at2_v14 m ρ c),
    show V3 (F := Ideal) m ρ c main_v13 = _ from (W3_of m ρ c main_v13 (by decide)).trans (W2_of m ρ c main_v13 (by decide))]
  rfl

/-- The gradient by the normalised rows, from the arrays the last call finds. -/
theorem back_eq : back (V4 (F := Ideal) m ρ) c = (given m c).dh := by
  unfold back
  rw [show V4 (F := Ideal) m ρ c main_v13 = _ from (W4_of m ρ c main_v13 (by decide)).trans
      ((W3_of m ρ c main_v13 (by decide)).trans (W2_of m ρ c main_v13 (by decide))),
    show V4 (F := Ideal) m ρ c main_v6 = _ from (W4_of m ρ c main_v6 (by decide)).trans
      ((W3_of m ρ c main_v6 (by decide)).trans (W2_of m ρ c main_v6 (by decide)))]
  exact dh_eq m ρ c

theorem at5_v17_0 : W5 (F := Ideal) m ρ c (Proc.devRef .tc main_v17_0) = arr .f32 (given m c).dx := by
  refine (W5_arr m ρ c 5).trans ((final3_5 (V4 (F := Ideal) m ρ) c).trans ?_)
  unfold through3
  rw [back_eq, show V4 (F := Ideal) m ρ c main_arg0 = _ from W4_args m ρ c main_arg0 (by decide),
    show V4 (F := Ideal) m ρ c main_arg1 = _ from W4_args m ρ c main_arg1 (by decide),
    show V4 (F := Ideal) m ρ c main_arg3 = _ from W4_args m ρ c main_arg3 (by decide)]
  rfl

theorem at5_v17_1 : W5 (F := Ideal) m ρ c (Proc.devRef .tc main_v17_1) = arr .f32 (fun _ j => (given m c).dg j) := by
  refine (W5_arr m ρ c 6).trans ((final3_6 (V4 (F := Ideal) m ρ) c).trans ?_)
  unfold gainAt
  rw [back_eq, show V4 (F := Ideal) m ρ c main_arg0 = _ from W4_args m ρ c main_arg0 (by decide)]
  rfl

/-! ## The results -/

/-- The product. -/
theorem result_proj : W6 (F := Ideal) m ρ c (Proc.devRef .tc main_v22) = arr .f32 (given m c).proj := by
  refine funext fun y => ?_
  obtain ⟨i, f, rfl⟩ := eq_ix2 (a := 4096) (b := 4872) y
  refine (fin_v22 (W5 m ρ c) i f).trans ?_
  rw [show W5 (F := Ideal) m ρ c (Proc.devRef .tc main_v15) = _ from (W5_of m ρ c main_v15 (by decide)).trans
    ((W4_of m ρ c main_v15 (by decide)).trans (at3_v15 m ρ c))]
  show (∑ l, (given m c).h i l * wide m ρ c l (place f)) = ∑ l, (given m c).h i l * (given m c).w l f
  simp only [wide_at]

/-- The gradient by the rows. -/
theorem result_dx : W6 (F := Ideal) m ρ c (Proc.devRef .tc main_v17_0) = arr .f32 (given m c).dx :=
  (W6_of m ρ c main_v17_0 (by decide)).trans (at5_v17_0 m ρ c)

/-- The gradient by the gains. -/
theorem result_dg : W6 (F := Ideal) m ρ c (Proc.devRef .tc main_v17_1) = arr .f32 (fun _ j => (given m c).dg j) :=
  (W6_of m ρ c main_v17_1 (by decide)).trans (at5_v17_1 m ρ c)

/-- The gradient by the input weights. -/
theorem result_dw : W6 (F := Ideal) m ρ c (Proc.devRef .tc main_v28) = arr .f32 (given m c).dw := by
  refine funext fun y => ?_
  obtain ⟨i, f, rfl⟩ := eq_ix2 (a := 1024) (b := 4872) y
  refine (fin_v28 (W5 m ρ c) i f).trans ?_
  rw [show W5 (F := Ideal) m ρ c (Proc.devRef .tc main_v16) = _ from (W5_of m ρ c main_v16 (by decide)).trans (at4_v16 m ρ c)]
  show (∑ l, (given m c).h l i * wideD m ρ c l (place f)) = ∑ l, (given m c).h l i * (given m c).d l f
  simp only [wideD_at]

/-! ## The run -/

local notation "𝕄" => MT nD τ sig Unit (Elt Ideal) ℕ (UR sig nD τ) ℕ

set_option backward.isDefEq.respectTransparency.types false in
/-- Every execution ends, and each buffer of a device then holds what the chain of calls leaves in it. -/
theorem run_all : θ_run defs (onTc (τ := τ) (main (F := Ideal))) ⟨m, fun _ => 0, ρ⟩ (fun r =>
    ∀ (c : Dev nD), ∀ b ∈ Pipeline.ucRefs τ sig, r.2.mem (((c : Thread nD τ)).1, b) = W6 (F := Ideal) m ρ c b) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m (c.tc.loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h _ => h)

/-- Every execution ends with the arguments unchanged and the product and its three gradients in the result arrays. -/
theorem run : θ_run defs (onTc (τ := τ) (main (F := Ideal))) ⟨m, fun _ => 0, ρ⟩ fun r => ∀ c : Dev nD,
      r.2.mem (c.tc.loc main_v22) = arr .f32 (given m c).proj
      ∧ r.2.mem (c.tc.loc main_v17_0) = arr .f32 (given m c).dx
      ∧ r.2.mem (c.tc.loc main_v17_1) = arr .f32 (fun _ j => (given m c).dg j)
      ∧ r.2.mem (c.tc.loc main_v28) = arr .f32 (given m c).dw
      ∧ r.2.mem (c.tc.loc main_arg0) = m (c.tc.loc main_arg0)
      ∧ r.2.mem (c.tc.loc main_arg1) = m (c.tc.loc main_arg1)
      ∧ r.2.mem (c.tc.loc main_arg2) = m (c.tc.loc main_arg2)
      ∧ r.2.mem (c.tc.loc main_arg3) = m (c.tc.loc main_arg3)
      ∧ r.2.mem (c.tc.loc main_arg4) = m (c.tc.loc main_arg4) :=
  (θ_run defs _ _).mono (fun _ h c =>
    ⟨(h c _ (mem_uc main_v22 (by decide))).trans (result_proj m ρ c),
     (h c _ (mem_uc main_v17_0 (by decide))).trans (result_dx m ρ c),
     (h c _ (mem_uc main_v17_1 (by decide))).trans (result_dg m ρ c),
     (h c _ (mem_uc main_v28 (by decide))).trans (result_dw m ρ c),
     (h c _ (mem_uc main_arg0 (by decide))).trans (W6_main_arg0 m ρ c),
     (h c _ (mem_uc main_arg1 (by decide))).trans (W6_main_arg1 m ρ c),
     (h c _ (mem_uc main_arg2 (by decide))).trans (W6_main_arg2 m ρ c),
     (h c _ (mem_uc main_arg3 (by decide))).trans (W6_main_arg3 m ρ c),
     (h c _ (mem_uc main_arg4 (by decide))).trans (W6_main_arg4 m ρ c)⟩)
    (run_all m ρ)

end Cert.Kernel3Ideal.Inp

end
-- ==== Proof.InpRef.lean ====
/-
  The reference of the input product: its four results, stage by stage, are the values of the given input.
-/
module

public import proofs.«01_k».proof.Proof.InpSpec
public import proofs.«01_k».proof.Proof.Gen.Reference3Ideal.Run
public import Idealize.ShloMosaic.Lib.StableHlo.RunRead

@[expose] public section

set_option maxRecDepth 16384

noncomputable section

namespace Cert.Reference3Ideal.Inp

open Idealize.ShloMosaic Idealize.ShloMosaic.TcCoe Idealize.SL.Sem Idealize.ShloMosaic.StableHlo Cert.Ffn Cert.Inp Cert.Reference3Ideal Cert.Reference3Ideal.Gen

/-! ## The stages -/

/-- The rows. -/
abbrev Rows : Type := FVec Ideal S4096x1024 .f32
/-- The product's columns. -/
abbrev Wide : Type := FVec Ideal S4096x4872 .f32
/-- One value per row. -/
abbrev Col : Type := FVec Ideal S4096x1 .f32

/-- The mean squares of the rows. -/
def spreads (x : Rows) : Col :=
  addf (Host.divf (broadcastInDim S4096x1 ![0] bcast_S4096_S4096x1_0
      (Host.reduceAdd (mulf x x) (constant S_ .f32 0x00000000#32) reducesTo_S4096x1024_S4096_d1 h_S_))
    (broadcastInDim S4096x1 ![] bcast_S_S4096x1 (constant S_ .f32 0x44800000#32)))
    (broadcastInDim S4096x1 ![] bcast_S_S4096x1 (constant S_ .f32 0x358637BD#32))

/-- The rows over the roots of their mean squares. -/
def units (x : Rows) : Rows :=
  mulf x (broadcastInDim S4096x1024 ![0, 1] bcast_S4096x1_S4096x1024_0_1 (Host.rsqrt (spreads x)))

/-- Those, times the gains. -/
def normed (x : Rows) (g : FVec Ideal S1x1024 .f32) : Rows :=
  mulf (units x) (broadcastInDim S4096x1024 ![0, 1] bcast_S1x1024_S4096x1024_0_1 g)

/-- The rows' product with the input weights. -/
def product (h : Rows) (w : FVec Ideal S1024x4872 .f32) : Wide :=
  Host.dotGeneral dot_S4096x1024_S1024x4872_S4096x4872_1_0_0_1_n_n none h w

/-- The gradient by the normalised rows. -/
def normGrad (d : Wide) (w : FVec Ideal S1024x4872 .f32) : Rows :=
  Host.dotGeneral dot_S4096x4872_S1024x4872_S4096x1024_1_1_0_0_n_n none d w

/-- The gradient by the input weights. -/
def weightGrad (d : Wide) (h : Rows) : FVec Ideal S1024x4872 .f32 :=
  transpose S1024x4872 [1, 0] (Host.dotGeneral dot_S4096x4872_S4096x1024_S4872x1024_0_0_1_1_n_n none d h)
    transposes_S4872x1024_S1024x4872_1_0

/-- The gradient by the gains. -/
def gainGrad (x d : Rows) : FVec Ideal S1x1024 .f32 :=
  shapeCast S1x1024 (Host.reduceAdd (mulf (units x) d) (constant S_ .f32 0x00000000#32) reducesTo_S4096x1024_S1024_d0 h_S_)
    shapeCasts_S1024_S1x1024

/-- The normalised rows' cotangent times the gains. -/
def scaled (d : Rows) (g : FVec Ideal S1x1024 .f32) : Rows :=
  mulf d (broadcastInDim S4096x1024 ![0, 1] bcast_S1x1024_S4096x1024_0_1 g)

/-- The slopes of the roots' reciprocals, by the mean squares. -/
def pulls (x : Rows) : Col :=
  mulf (broadcastInDim S4096x1 ![] bcast_S_S4096x1 (constant S_ .f32 0xBF000000#32)) (Host.divf (Host.rsqrt (spreads x)) (spreads x))

/-- What the cotangent gives through the mean squares. -/
def throughs (x q : Rows) : Rows :=
  broadcastInDim S4096x1024 ![0] bcast_S4096_S4096x1024_0 (Host.reduceAdd (Host.divf
    (mulf (shapeCast S4096x1 (Host.reduceAdd (mulf x q) (constant S_ .f32 0x00000000#32) reducesTo_S4096x1024_S4096_d1 h_S_) shapeCasts_S4096_S4096x1) (pulls x))
    (broadcastInDim S4096x1 ![] bcast_S_S4096x1 (constant S_ .f32 0x44800000#32)))
    (constant S_ .f32 0x00000000#32) reducesTo_S4096x1_S4096_d1 h_S_)

/-- The gradient by the rows entering. -/
def inGrad (x q e : Rows) : Rows :=
  addf (addf (addf e (mulf q (broadcastInDim S4096x1024 ![0, 1] bcast_S4096x1_S4096x1024_0_1 (Host.rsqrt (spreads x)))))
    (mulf x (throughs x q))) (mulf (throughs x q) x)

/-! ## Their entries -/

theorem spreads_at (f : Mat 4096 1024) (i : Fin 4096) (z : Fin 1) : spreads (arr .f32 f) (ix2 i z) = spread (f i) := by
  pointwise [spreads, arr, spread, width, eps]

theorem units_eq (f : Mat 4096 1024) : units (arr .f32 f) = arr .f32 (fun i j => unit (f i) j) := by
  funext y; obtain ⟨i, j, rfl⟩ := eq_ix2 (a := 4096) (b := 1024) y
  have h := spreads_at f i 0
  generalize hs : spreads (arr .f32 f) = s at h
  unfold units; rw [hs]
  pointwise [arr, unit]
  rw [h]

theorem normed_eq (f : Mat 4096 1024) (g : FVec Ideal S1x1024 .f32) : normed (arr .f32 f) g = arr .f32 (norm f (mat .f32 g 0)) := by
  funext y; obtain ⟨i, j, rfl⟩ := eq_ix2 (a := 4096) (b := 1024) y
  unfold normed; rw [units_eq]
  pointwise [arr, mat]
  rfl

theorem product_eq (f : Mat 4096 1024) (w : FVec Ideal S1024x4872 .f32) :
    product (arr .f32 f) w = arr .f32 (dot f (mat .f32 w)) := by
  funext y; obtain ⟨i, j, rfl⟩ := eq_ix2 (a := 4096) (b := 4872) y
  pointwise [product, arr, mat, dot]

theorem normGrad_eq (d : Wide) (w : FVec Ideal S1024x4872 .f32) :
    normGrad d w = arr .f32 (dotT (mat .f32 d) (mat .f32 w)) := by
  funext y; obtain ⟨i, j, rfl⟩ := eq_ix2 (a := 4096) (b := 1024) y
  pointwise [normGrad, arr, mat, dotT]

theorem weightGrad_eq (d : Wide) (h : Mat 4096 1024) : weightGrad d (arr .f32 h) = arr .f32 (tDot h (mat .f32 d)) := by
  funext y; obtain ⟨i, j, rfl⟩ := eq_ix2 (a := 1024) (b := 4872) y
  pointwise [weightGrad, arr, mat, tDot]
  exact Finset.sum_congr rfl fun l _ => mul_comm _ _

theorem gainGrad_eq (x d : Mat 4096 1024) : gainGrad (arr .f32 x) (arr .f32 d) = arr .f32 (fun _ j => ∑ i, unit (x i) j * d i j) := by
  funext y; obtain ⟨z, j, rfl⟩ := eq_ix2 (a := 1) (b := 1024) y
  unfold gainGrad; rw [units_eq]
  pointwise [arr]

theorem scaled_eq (d : Mat 4096 1024) (g : FVec Ideal S1x1024 .f32) : scaled (arr .f32 d) g = arr .f32 (fun i j => d i j * mat .f32 g 0 j) := by
  funext y; obtain ⟨i, j, rfl⟩ := eq_ix2 (a := 4096) (b := 1024) y
  pointwise [scaled, arr, mat]

theorem throughs_eq (x q : Mat 4096 1024) : throughs (arr .f32 x) (arr .f32 q) = arr .f32 (fun i _ => through (x i) (q i)) := by
  funext y; obtain ⟨i, j, rfl⟩ := eq_ix2 (a := 4096) (b := 1024) y
  have h := spreads_at x i 0
  unfold throughs pulls
  generalize spreads (arr .f32 x) = s at h
  pointwise [arr, through, negHalf, width]
  try simp only [Fin.sum_univ_one, Fin.isValue]
  rw [h]

theorem inGrad_eq (x q e : Mat 4096 1024) : inGrad (arr .f32 x) (arr .f32 q) (arr .f32 e) = arr .f32 (fun i j =>
    q i j * Ideal.rsqrt (spread (x i)) + x i j * through (x i) (q i) + through (x i) (q i) * x i j + e i j) := by
  funext y; obtain ⟨i, j, rfl⟩ := eq_ix2 (a := 4096) (b := 1024) y
  unfold inGrad; rw [throughs_eq]
  have h := spreads_at x i 0
  generalize spreads (arr .f32 x) = s at h
  pointwise [arr]
  rw [h, add_comm (e i j), add_right_comm _ (e i j), add_right_comm _ (e i j)]

/-! ## The run -/

variable (m : (ℓ : Loc nD τ sig) → Buf (Elt Ideal) ℓ) (ρ : Dev nD → PrngReg) (c : Dev nD)

/-- The input as given to the program. -/
def given : Input :=
  Input.ofArrays (m (c.tc.loc main_arg0)) (m (c.tc.loc main_arg1)) (m (c.tc.loc main_arg2))
    (m (c.tc.loc main_arg3)) (m (c.tc.loc main_arg4))

/-- An array is the array of its entries. -/
theorem as_rows (x : Rows) : x = arr .f32 (mat .f32 x) := by
  funext y; obtain ⟨i, j, rfl⟩ := eq_ix2 (a := 4096) (b := 1024) y
  rfl

theorem proj_eq (x : Rows) (g : FVec Ideal S1x1024 .f32) (w : FVec Ideal S1024x4872 .f32) (e : Rows) (d : Wide) :
    product (normed x g) w = arr .f32 (Input.ofArrays x g w e d).proj := by
  rw [as_rows x, normed_eq, product_eq]
  rfl

theorem dw_eq (x : Rows) (g : FVec Ideal S1x1024 .f32) (w : FVec Ideal S1024x4872 .f32) (e : Rows) (d : Wide) :
    weightGrad d (normed x g) = arr .f32 (Input.ofArrays x g w e d).dw := by
  rw [as_rows x, normed_eq, weightGrad_eq]
  rfl

theorem dg_eq (x : Rows) (g : FVec Ideal S1x1024 .f32) (w : FVec Ideal S1024x4872 .f32) (e : Rows) (d : Wide) :
    gainGrad x (normGrad d w) = arr .f32 (fun _ j => (Input.ofArrays x g w e d).dg j) := by
  rw [as_rows x, normGrad_eq, gainGrad_eq]
  rfl

theorem dx_eq (x : Rows) (g : FVec Ideal S1x1024 .f32) (w : FVec Ideal S1024x4872 .f32) (e : Rows) (d : Wide) :
    inGrad x (scaled (normGrad d w) g) e = arr .f32 (Input.ofArrays x g w e d).dx := by
  rw [as_rows x, as_rows e, normGrad_eq, scaled_eq, inGrad_eq]
  rfl

/-- Every execution ends with the arguments unchanged and the product and its three gradients in the result arrays. -/
theorem run : θ_run defs (onTc (τ := τ) (main (F := Ideal))) ⟨m, fun _ => 0, ρ⟩ fun r => ∀ c : Dev nD,
      r.2.mem (c.tc.loc main_v15) = arr .f32 (given m c).proj
      ∧ r.2.mem (c.tc.loc main_v38) = arr .f32 (given m c).dx
      ∧ r.2.mem (c.tc.loc main_v21) = arr .f32 (fun _ j => (given m c).dg j)
      ∧ r.2.mem (c.tc.loc main_v17) = arr .f32 (given m c).dw
      ∧ r.2.mem (c.tc.loc main_arg0) = m (c.tc.loc main_arg0)
      ∧ r.2.mem (c.tc.loc main_arg1) = m (c.tc.loc main_arg1)
      ∧ r.2.mem (c.tc.loc main_arg2) = m (c.tc.loc main_arg2)
      ∧ r.2.mem (c.tc.loc main_arg3) = m (c.tc.loc main_arg3)
      ∧ r.2.mem (c.tc.loc main_arg4) = m (c.tc.loc main_arg4) :=
  (θ_run defs _ _).mono (fun _ h c => ⟨(h c).1.trans (proj_eq _ _ _ _ _), (h c).2.1.trans (dx_eq _ _ _ _ _),
    (h c).2.2.1.trans (dg_eq _ _ _ _ _), (h c).2.2.2.1.trans (dw_eq _ _ _ _ _), (h c).2.2.2.2⟩)
    (Cert.Reference3Ideal.Value.run m ρ)

end Cert.Reference3Ideal.Inp

end
-- ==== Proof.BranchSpec.lean ====
/-
  The column blocks of the branches' weights, as matrices: eight blocks of 128 columns, side by side.
-/
module

public import proofs.«01_k».proof.Proof.FfnSpec

@[expose] public section

set_option maxRecDepth 16384

noncomputable section

namespace Cert.Branch

open Idealize.ShloMosaic Cert.Ffn

/-- The column blocks of an array of three axes, side by side, as a matrix. -/
def bcols (φ : FTy) (x : FVec Ideal (⟨3, ![8, 512, 128]⟩ : Shape) φ) : Mat 512 1024 := fun i f =>
  x (ix3 ⟨f.val / 128, by omega⟩ i ⟨f.val % 128, by omega⟩)

/-- A matrix cut into column blocks. -/
def unbcols (φ : FTy) (f : Mat 512 1024) : FVec Ideal (⟨3, ![8, 512, 128]⟩ : Shape) φ := fun y =>
  f (y 1) ⟨128 * (y 0).val + (y 2).val, by have : (y 0).val < 8 := (y 0).isLt; have : (y 2).val < 128 := (y 2).isLt; omega⟩

/-- A matrix cut into column blocks, at an index of row `i` and column `f`. -/
theorem uncols_at (φ : FTy) (m : Mat 512 1024) (z : (⟨3, ![8, 512, 128]⟩ : Shape).Idx) (i : Fin 512) (f : Fin 1024)
    (hi : (z 1).val = i.val) (hf : 128 * (z 0).val + (z 2).val = f.val) : unbcols φ m z = m i f :=
  congrArg₂ m (Fin.ext hi) (Fin.ext hf)

/-- An entry of a column block, by its column among all. -/
theorem pick {x : FVec Ideal (⟨3, ![8, 512, 128]⟩ : Shape) .bf16} {b : FVec Ideal (⟨3, ![1, 512, 128]⟩ : Shape) .bf16} {k : Fin 8}
    (h : ∀ (i : Fin 512) (j : Fin 128), b (ix3 0 i j) = x (ix3 k i j)) (f : Fin 1024) (r : ℕ)
    (e : f.val = 128 * k.val + r) (hr : r < 128) (j : Fin 512) :
    b (ix3 0 j ⟨r, hr⟩) = x (ix3 ⟨f.val / 128, by omega⟩ j ⟨f.val % 128, by omega⟩) :=
  (h _ _).trans (congrArg₂ (fun p q => x (ix3 p j q)) (Fin.ext (show k.val = f.val / 128 by omega))
    (Fin.ext (show r = f.val % 128 by omega)))

/-- The arrays given to the backward calls of the branches' products: the rows and the weights of the delta rule's branch and
    of the attention's, and the cotangents of the two products. -/
structure Input where
  yd : Mat 4096 512
  ys : Mat 4096 512
  wd : Mat 512 1024
  ws : Mat 512 1024
  dd : Mat 4096 1024
  ds : Mat 4096 1024

/-- The input held by six arrays. -/
def Input.ofArrays (yd ys : FVec Ideal (⟨2, ![4096, 512]⟩ : Shape) .f32) (wd ws : FVec Ideal (⟨2, ![512, 1024]⟩ : Shape) .f32)
    (dd ds : FVec Ideal (⟨2, ![4096, 1024]⟩ : Shape) .f32) : Input :=
  ⟨mat .f32 yd, mat .f32 ys, mat .f32 wd, mat .f32 ws, mat .f32 dd, mat .f32 ds⟩

end Cert.Branch

end
-- ==== Proof.BranchHost.lean ====
/-
  What the host prepares for the branches' calls, and what it makes of their results.
-/
module

public import proofs.«01_k».proof.Proof.Gen.Kernel4Ideal.Frame
public import proofs.«01_k».proof.Proof.BranchSpec
public import Idealize.ShloMosaic.Lib.StableHlo.ReadAt

@[expose] public section

set_option maxRecDepth 16384

noncomputable section

namespace Cert.Kernel4Ideal.Branch

open Idealize.ShloMosaic Idealize.ShloMosaic.StableHlo Cert.Ffn Cert.Branch Cert.Kernel4Ideal Cert.Kernel4Ideal.Gen

variable (V : Valuation τ sig (Elt Ideal))

/-- The buffers once the host has prepared the arguments of the calls. -/
abbrev prep : Valuation τ sig (Elt Ideal) :=
  after hostOps0_4 (after hostOps0_3 (after hostOps0_2 (after hostOps0_1 (after hostOps0 V))))

/-- The weights are cut into eight column blocks. -/
theorem prep_v3 : bcols .bf16 (prep V (Proc.devRef .tc main_v3) : Vec Ideal S8x512x128 .bf16) =
    mat .f32 (V (Proc.devRef .tc main_arg2) : Vec Ideal S512x1024 .f32) := by
  funext i f
  unfold bcols mat
  after_reads_at
  rw [dif_pos ⟨by omega, by omega⟩]
  exact congrArg (fun q => (V (Proc.devRef .tc main_arg2) : Vec Ideal S512x1024 .f32) (ix2 i q)) (Fin.ext (by dsimp only; omega))

/-- The weights are cut into eight column blocks. -/
theorem prep_v7 : bcols .bf16 (prep V (Proc.devRef .tc main_v7) : Vec Ideal S8x512x128 .bf16) =
    mat .f32 (V (Proc.devRef .tc main_arg3) : Vec Ideal S512x1024 .f32) := by
  funext i f
  unfold bcols mat
  after_reads_at
  rw [dif_pos ⟨by omega, by omega⟩]
  exact congrArg (fun q => (V (Proc.devRef .tc main_arg3) : Vec Ideal S512x1024 .f32) (ix2 i q)) (Fin.ext (by dsimp only; omega))

theorem prep_v8 : mat .bf16 (prep V (Proc.devRef .tc main_v8) : Vec Ideal S4096x512 .bf16) =
    mat .f32 (V (Proc.devRef .tc main_arg0) : Vec Ideal S4096x512 .f32) := by
  funext i f
  unfold mat
  after_reads_at

theorem prep_v9 : mat .bf16 (prep V (Proc.devRef .tc main_v9) : Vec Ideal S4096x512 .bf16) =
    mat .f32 (V (Proc.devRef .tc main_arg1) : Vec Ideal S4096x512 .f32) := by
  funext i f
  unfold mat
  after_reads_at

theorem prep_v10 : mat .bf16 (prep V (Proc.devRef .tc main_v10) : Vec Ideal S4096x1024 .bf16) =
    mat .f32 (V (Proc.devRef .tc main_arg4) : Vec Ideal S4096x1024 .f32) := by
  funext i f
  unfold mat
  after_reads_at

theorem prep_v11 : mat .bf16 (prep V (Proc.devRef .tc main_v11) : Vec Ideal S4096x1024 .bf16) =
    mat .f32 (V (Proc.devRef .tc main_arg5) : Vec Ideal S4096x1024 .f32) := by
  funext i f
  unfold mat
  after_reads_at

/-- The column blocks of a gradient are put side by side. -/
theorem fin_v18 (M : Mat 512 1024) (h : (V (Proc.devRef .tc main_v14) : Vec Ideal S8x512x128 .bf16) = unbcols .bf16 M) :
    (after hostOps4 V (Proc.devRef .tc main_v18) : Vec Ideal S512x1024 .f32) = arr .f32 M := by
  funext y
  obtain ⟨i, f, rfl⟩ := eq_ix2 (a := 512) (b := 1024) y
  refine Eq.trans (b := (V (Proc.devRef .tc main_v14) : Vec Ideal S8x512x128 .bf16) (ix3 ⟨f.val / 128, by omega⟩ i ⟨f.val % 128, by omega⟩)) ?_ ?_
  · after_reads_at
  · rw [h]
    exact uncols_at _ _ _ i f rfl (show 128 * (f.val / 128) + f.val % 128 = f.val by omega)

/-- The column blocks of a gradient are put side by side. -/
theorem fin_v21 (M : Mat 512 1024) (h : (V (Proc.devRef .tc main_v15) : Vec Ideal S8x512x128 .bf16) = unbcols .bf16 M) :
    (after hostOps4 V (Proc.devRef .tc main_v21) : Vec Ideal S512x1024 .f32) = arr .f32 M := by
  funext y
  obtain ⟨i, f, rfl⟩ := eq_ix2 (a := 512) (b := 1024) y
  refine Eq.trans (b := (V (Proc.devRef .tc main_v15) : Vec Ideal S8x512x128 .bf16) (ix3 ⟨f.val / 128, by omega⟩ i ⟨f.val % 128, by omega⟩)) ?_ ?_
  · after_reads_at
  · rw [h]
    exact uncols_at _ _ _ i f rfl (show 128 * (f.val / 128) + f.val % 128 = f.val by omega)

end Cert.Kernel4Ideal.Branch

end
-- ==== Proof.BranchRegion0.lean ====
/-
  The gradient by the delta rule branch's rows: what the call leaves in its result array, from the arrays it finds.
-/
module

public import proofs.«01_k».proof.Proof.BranchSpec
public import proofs.«01_k».proof.Proof.Gen.Kernel4Ideal.Frame
public import Idealize.ShloMosaic.Lib.Pipeline.ValueKit.Geometry
public import Idealize.ShloMosaic.Lib.Pipeline.ValueKit.Acc
public import Idealize.ShloMosaic.Lib.Pipeline.ValueKit.Tiles

@[expose] public section

set_option maxRecDepth 16384

noncomputable section

namespace Cert.Kernel4Ideal.Branch

open Idealize.ShloMosaic Idealize.ShloMosaic.TcCoe Idealize.ShloMosaic.Tactic Idealize.SL.Sem
open Cert.Kernel4Ideal.Gen Cert.Ffn Cert.Branch

theorem k0_product (x : Vec Ideal S8x512x128 .bf16) (b0 b1 b2 b3 b4 b5 b6 b7 : Vec Ideal S1x512x128 .bf16)
    (e0 : ∀ (i : Fin 512) (j : Fin 128), b0 (ix3 0 i j) = x (ix3 0 i j)) (e1 : ∀ (i : Fin 512) (j : Fin 128), b1 (ix3 0 i j) = x (ix3 1 i j))
     (e2 : ∀ (i : Fin 512) (j : Fin 128), b2 (ix3 0 i j) = x (ix3 2 i j)) (e3 : ∀ (i : Fin 512) (j : Fin 128), b3 (ix3 0 i j) = x (ix3 3 i j))
     (e4 : ∀ (i : Fin 512) (j : Fin 128), b4 (ix3 0 i j) = x (ix3 4 i j)) (e5 : ∀ (i : Fin 512) (j : Fin 128), b5 (ix3 0 i j) = x (ix3 5 i j))
     (e6 : ∀ (i : Fin 512) (j : Fin 128), b6 (ix3 0 i j) = x (ix3 6 i j)) (e7 : ∀ (i : Fin 512) (j : Fin 128), b7 (ix3 0 i j) = x (ix3 7 i j))
    (a : Vec Ideal S1024x1024 .bf16) (i : Fin 1024) (j : Fin 512) :
    k0_pay1 a b0 b1 b2 b3 b4 b5 b6 b7 (ix2 i j) = dotT (mat .bf16 a) (bcols .bf16 x) i j := by
  pointwise [k0_pay1, dotT, mat, bcols]
  refine Finset.sum_congr rfl fun f _ => congrArg (fun q : EReal => a (ix2 i f) * q) ?_
  by_cases h0 : f.val < 128
  · rw [dif_pos h0]; exact pick e0 f _ (show f.val = 128 * 0 + (f.val) by omega) _ _
  rw [dif_neg h0]
  by_cases h1 : f.val - 128 < 128
  · rw [dif_pos h1]; exact pick e1 f _ (show f.val = 128 * 1 + (f.val - 128) by omega) _ _
  rw [dif_neg h1]
  by_cases h2 : f.val - 128 - 128 < 128
  · rw [dif_pos h2]; exact pick e2 f _ (show f.val = 128 * 2 + (f.val - 128 - 128) by omega) _ _
  rw [dif_neg h2]
  by_cases h3 : f.val - 128 - 128 - 128 < 128
  · rw [dif_pos h3]; exact pick e3 f _ (show f.val = 128 * 3 + (f.val - 128 - 128 - 128) by omega) _ _
  rw [dif_neg h3]
  by_cases h4 : f.val - 128 - 128 - 128 - 128 < 128
  · rw [dif_pos h4]; exact pick e4 f _ (show f.val = 128 * 4 + (f.val - 128 - 128 - 128 - 128) by omega) _ _
  rw [dif_neg h4]
  by_cases h5 : f.val - 128 - 128 - 128 - 128 - 128 < 128
  · rw [dif_pos h5]; exact pick e5 f _ (show f.val = 128 * 5 + (f.val - 128 - 128 - 128 - 128 - 128) by omega) _ _
  rw [dif_neg h5]
  by_cases h6 : f.val - 128 - 128 - 128 - 128 - 128 - 128 < 128
  · rw [dif_pos h6]; exact pick e6 f _ (show f.val = 128 * 6 + (f.val - 128 - 128 - 128 - 128 - 128 - 128) by omega) _ _
  rw [dif_neg h6]
  exact pick e7 f _ (show f.val = 128 * 7 + (f.val - 128 - 128 - 128 - 128 - 128 - 128 - 128) by omega) _ _

/-- A column block of an array, loaded. -/
theorem ld0 (x : Vec Ideal S8x512x128 .bf16) (n : Fin 8) (h) (i : Fin 512) (j : Fin 128) :
    View.ld x (Rect.unit (s := S8x512x128) ![n.val, 0, 0] S1x512x128.size h) (ix3 0 i j) = x (ix3 n i j) :=
  View.ld_unit_apply_of x _ _ _ _ (ix3 n i j) fun a => match a with
    | ⟨0, _⟩ => rfl | ⟨1, _⟩ => (Nat.zero_add _).symm | ⟨2, _⟩ => (Nat.zero_add _).symm

variable (V : (c : Dev nD) → (b : Ref sig .tc) → Buf (Elt Ideal) ((c : Thread nD τ).loc b)) (c : Dev nD)

theorem index0_0 : ∀ t : Fin cfg0.N, win0_0.index t = ![t.val, 0] := by
  change ∀ t : Fin grid0.N, _; decide +kernel
theorem index0_1 : ∀ t : Fin cfg0.N, win0_1.index t = ![0, 0, 0] := by
  change ∀ t : Fin grid0.N, _; decide +kernel
theorem index0_2 : ∀ t : Fin cfg0.N, win0_2.index t = ![t.val, 0] := by
  change ∀ t : Fin grid0.N, _; decide +kernel

/-- Row `r` of point `t`'s block of 1024 rows. -/
def row0 (t : Fin cfg0.N) (r : Fin 1024) : Fin 4096 :=
  ⟨1024 * (t.val) + r.val, by have := t.isLt; have : cfg0.N = 4 := N_0; omega⟩

theorem iblk0_0 (t : Fin cfg0.N) (r : Fin 1024) (v : Fin 1024) : (iblk0 V c 0 t : Vec Ideal S1024x1024 .bf16) (ix2 r v) =
    (V c main_v10 : Vec Ideal S4096x1024 .bf16) (ix2 (row0 t r) v) := by
  blk_simp [iblk0]
  refine congrArg (V c main_v10 : Vec Ideal S4096x1024 .bf16) ?_
  blk_ext [index0_0, row0]

theorem iblk0_1 (t : Fin cfg0.N) : (iblk0 V c 1 t : Vec Ideal S8x512x128 .bf16) = (V c main_v3 : Vec Ideal S8x512x128 .bf16) := by
  funext y
  blk_simp [iblk0]
  refine congrArg (V c main_v3 : Vec Ideal S8x512x128 .bf16) ?_
  blk_ext [index0_1]

/-- The result holds the product of the first array with the second's columns. -/
theorem final0_2 : (dat0 V c).arrAt 2 cfg0.N = arr .f32 (dotT (mat .bf16 (V c main_v10 : Vec Ideal S4096x1024 .bf16))
    (bcols .bf16 (V c main_v3 : Vec Ideal S8x512x128 .bf16))) := by
  refine (dat0 V c).arrAt_eq_of_covers 2 _ (by decide +kernel) fun t hf y => ?_
  blk_simp
  rw [after0_2]; frame_out
  obtain ⟨i, j, rfl⟩ := eq_ix2 (a := 1024) (b := 512) y
  refine Eq.trans ?_ (arr_at _ _ _ (row0 t i) j ?_ ?_).symm
  · refine (k0_product (iblk0 V c 1 t) _ _ _ _ _ _ _ _ (ld0 _ 0 _) (ld0 _ 1 _) (ld0 _ 2 _) (ld0 _ 3 _)
      (ld0 _ 4 _) (ld0 _ 5 _) (ld0 _ 6 _) (ld0 _ 7 _) _ i j).trans ?_
    rw [iblk0_1]
    exact Finset.sum_congr rfl fun l _ => congrArg (fun q : EReal => q * _) (iblk0_0 V c t i l)
  all_goals (blk_simp [index0_2, row0]; try (dsimp only; omega))

end Cert.Kernel4Ideal.Branch

end
-- ==== Proof.BranchRegion1.lean ====
/-
  The gradient by the attention branch's rows: what the call leaves in its result array, from the arrays it finds.
-/
module

public import proofs.«01_k».proof.Proof.BranchRegion0
public import proofs.«01_k».proof.Proof.Gen.Kernel4Ideal.Frame
public import Idealize.ShloMosaic.Lib.Pipeline.ValueKit.Geometry
public import Idealize.ShloMosaic.Lib.Pipeline.ValueKit.Acc
public import Idealize.ShloMosaic.Lib.Pipeline.ValueKit.Tiles

@[expose] public section

set_option maxRecDepth 16384

noncomputable section

namespace Cert.Kernel4Ideal.Branch

open Idealize.ShloMosaic Idealize.ShloMosaic.TcCoe Idealize.ShloMosaic.Tactic Idealize.SL.Sem
open Cert.Kernel4Ideal.Gen Cert.Ffn Cert.Branch

variable (V : (c : Dev nD) → (b : Ref sig .tc) → Buf (Elt Ideal) ((c : Thread nD τ).loc b)) (c : Dev nD)

theorem index1_0 : ∀ t : Fin cfg1.N, win1_0.index t = ![t.val, 0] := by
  change ∀ t : Fin grid1.N, _; decide +kernel
theorem index1_1 : ∀ t : Fin cfg1.N, win1_1.index t = ![0, 0, 0] := by
  change ∀ t : Fin grid1.N, _; decide +kernel
theorem index1_2 : ∀ t : Fin cfg1.N, win1_2.index t = ![t.val, 0] := by
  change ∀ t : Fin grid1.N, _; decide +kernel

/-- Row `r` of point `t`'s block of 1024 rows. -/
def row1 (t : Fin cfg1.N) (r : Fin 1024) : Fin 4096 :=
  ⟨1024 * (t.val) + r.val, by have := t.isLt; have : cfg1.N = 4 := N_1; omega⟩

theorem iblk1_0 (t : Fin cfg1.N) (r : Fin 1024) (v : Fin 1024) : (iblk1 V c 0 t : Vec Ideal S1024x1024 .bf16) (ix2 r v) =
    (V c main_v11 : Vec Ideal S4096x1024 .bf16) (ix2 (row1 t r) v) := by
  blk_simp [iblk1]
  refine congrArg (V c main_v11 : Vec Ideal S4096x1024 .bf16) ?_
  blk_ext [index1_0, row1]

theorem iblk1_1 (t : Fin cfg1.N) : (iblk1 V c 1 t : Vec Ideal S8x512x128 .bf16) = (V c main_v7 : Vec Ideal S8x512x128 .bf16) := by
  funext y
  blk_simp [iblk1]
  refine congrArg (V c main_v7 : Vec Ideal S8x512x128 .bf16) ?_
  blk_ext [index1_1]

/-- The result holds the product of the first array with the second's columns. -/
theorem final1_2 : (dat1 V c).arrAt 2 cfg1.N = arr .f32 (dotT (mat .bf16 (V c main_v11 : Vec Ideal S4096x1024 .bf16))
    (bcols .bf16 (V c main_v7 : Vec Ideal S8x512x128 .bf16))) := by
  refine (dat1 V c).arrAt_eq_of_covers 2 _ (by decide +kernel) fun t hf y => ?_
  blk_simp
  rw [after1_2]; frame_out
  obtain ⟨i, j, rfl⟩ := eq_ix2 (a := 1024) (b := 512) y
  refine Eq.trans ?_ (arr_at _ _ _ (row1 t i) j ?_ ?_).symm
  · refine (k0_product (iblk1 V c 1 t) _ _ _ _ _ _ _ _ (ld0 _ 0 _) (ld0 _ 1 _) (ld0 _ 2 _) (ld0 _ 3 _)
      (ld0 _ 4 _) (ld0 _ 5 _) (ld0 _ 6 _) (ld0 _ 7 _) _ i j).trans ?_
    rw [iblk1_1]
    exact Finset.sum_congr rfl fun l _ => congrArg (fun q : EReal => q * _) (iblk1_0 V c t i l)
  all_goals (blk_simp [index1_2, row1]; try (dsimp only; omega))

end Cert.Kernel4Ideal.Branch

end
-- ==== Proof.BranchRegion2.lean ====
/-
  The gradient by the delta rule branch's weights: what the call leaves in its result array, from the arrays it
  finds.
-/
module

public import proofs.«01_k».proof.Proof.BranchSpec
public import proofs.«01_k».proof.Proof.Gen.Kernel4Ideal.Frame
public import Idealize.ShloMosaic.Lib.Pipeline.ValueKit.Geometry
public import Idealize.ShloMosaic.Lib.Pipeline.ValueKit.Acc
public import Idealize.ShloMosaic.Lib.Pipeline.ValueKit.Tiles

@[expose] public section

set_option maxRecDepth 16384

noncomputable section

namespace Cert.Kernel4Ideal.Branch

open Idealize.ShloMosaic Idealize.ShloMosaic.TcCoe Idealize.ShloMosaic.Tactic Idealize.SL.Sem
open Cert.Kernel4Ideal.Gen Cert.Ffn Cert.Branch

theorem k2_block0 (a : Vec Ideal S4096x512 .bf16) (b : Vec Ideal S4096x512 .bf16) (i : Fin 512) (j : Fin 128) :
    k2_pay2 a b (ix3 0 i j) = ∑ x : Fin 4096, (a (ix2 x i) : EReal) * b (ix2 x ⟨j.val, by omega⟩) := by
  pointwise [k2_pay1, k2_pay2]

theorem k2_block1 (a : Vec Ideal S4096x512 .bf16) (b : Vec Ideal S4096x512 .bf16) (i : Fin 512) (j : Fin 128) :
    k2_pay3 a b (ix3 0 i j) = ∑ x : Fin 4096, (a (ix2 x i) : EReal) * b (ix2 x ⟨128 + j.val, by omega⟩) := by
  pointwise [k2_pay1, k2_pay3]

theorem k2_block2 (a : Vec Ideal S4096x512 .bf16) (b : Vec Ideal S4096x512 .bf16) (i : Fin 512) (j : Fin 128) :
    k2_pay4 a b (ix3 0 i j) = ∑ x : Fin 4096, (a (ix2 x i) : EReal) * b (ix2 x ⟨256 + j.val, by omega⟩) := by
  pointwise [k2_pay1, k2_pay4]

theorem k2_block3 (a : Vec Ideal S4096x512 .bf16) (b : Vec Ideal S4096x512 .bf16) (i : Fin 512) (j : Fin 128) :
    k2_pay5 a b (ix3 0 i j) = ∑ x : Fin 4096, (a (ix2 x i) : EReal) * b (ix2 x ⟨384 + j.val, by omega⟩) := by
  pointwise [k2_pay1, k2_pay5]

variable (V : (c : Dev nD) → (b : Ref sig .tc) → Buf (Elt Ideal) ((c : Thread nD τ).loc b)) (c : Dev nD)

theorem index2_0 : ∀ t : Fin cfg2.N, win2_0.index t = ![0, 0] := by
  change ∀ t : Fin grid2.N, _; decide +kernel
theorem index2_1 : ∀ t : Fin cfg2.N, win2_1.index t = ![0, t.val] := by
  change ∀ t : Fin grid2.N, _; decide +kernel
theorem index2_2 : ∀ t : Fin cfg2.N, win2_2.index t = ![t.val, 0, 0] := by
  change ∀ t : Fin grid2.N, _; decide +kernel

/-- Column `r` of point `t`'s block of 512 columns. -/
def col2 (t : Fin cfg2.N) (r : Fin 512) : Fin 1024 :=
  ⟨512 * (t.val) + r.val, by have := t.isLt; have : cfg2.N = 2 := N_2; omega⟩

theorem iblk2_0 (t : Fin cfg2.N) (r : Fin 4096) (v : Fin 512) : (iblk2 V c 0 t : Vec Ideal S4096x512 .bf16) (ix2 r v) =
    (V c main_v8 : Vec Ideal S4096x512 .bf16) (ix2 r v) := by
  blk_simp [iblk2]
  refine congrArg (V c main_v8 : Vec Ideal S4096x512 .bf16) ?_
  blk_ext [index2_0]

theorem iblk2_1 (t : Fin cfg2.N) (r : Fin 4096) (v : Fin 512) : (iblk2 V c 1 t : Vec Ideal S4096x512 .bf16) (ix2 r v) =
    (V c main_v10 : Vec Ideal S4096x1024 .bf16) (ix2 r (col2 t v)) := by
  blk_simp [iblk2]
  refine congrArg (V c main_v10 : Vec Ideal S4096x1024 .bf16) ?_
  blk_ext [index2_1, col2]

/-- The result holds the product of the first array's columns with the second array's, cut into column blocks. -/
theorem final2_2 : (dat2 V c).arrAt 2 cfg2.N = unbcols .bf16 (tDot (mat .bf16 (V c main_v8 : Vec Ideal S4096x512 .bf16))
    (mat .bf16 (V c main_v10 : Vec Ideal S4096x1024 .bf16))) := by
  refine (dat2 V c).arrAt_eq_of_covers 2 _ (by decide +kernel) fun t hf y => ?_
  blk_simp
  rw [after2_2]
  frame_out
  canon_tiles x h using Gen.cover2_2 ..
  · obtain ⟨i, j, rfl⟩ := eq_ix3 (a := 512) (b := 128) x
    have e2 : (y 2).val = j.val := h2
    have e1 : (y 1).val = i.val := h1
    have e0 : (y 0).val = 3 := h0
    refine Eq.trans ?_ (uncols_at _ _ _ i (col2 t ⟨384 + j.val, by omega⟩) ?_ ?_).symm
    · refine (k2_block3 _ _ i j).trans (Finset.sum_congr rfl fun l _ => ?_)
      exact congrArg₂ (fun p q : EReal => p * q) (iblk2_0 V c t _ _) (iblk2_1 V c t _ _)
    all_goals (blk_simp [index2_2, col2]; try (dsimp only; omega))
  · obtain ⟨i, j, rfl⟩ := eq_ix3 (a := 512) (b := 128) x
    have e2 : (y 2).val = j.val := h2
    have e1 : (y 1).val = i.val := h1
    have e0 : (y 0).val = 2 := h0
    refine Eq.trans ?_ (uncols_at _ _ _ i (col2 t ⟨256 + j.val, by omega⟩) ?_ ?_).symm
    · refine (k2_block2 _ _ i j).trans (Finset.sum_congr rfl fun l _ => ?_)
      exact congrArg₂ (fun p q : EReal => p * q) (iblk2_0 V c t _ _) (iblk2_1 V c t _ _)
    all_goals (blk_simp [index2_2, col2]; try (dsimp only; omega))
  · obtain ⟨i, j, rfl⟩ := eq_ix3 (a := 512) (b := 128) x
    have e2 : (y 2).val = j.val := h2
    have e1 : (y 1).val = i.val := h1
    have e0 : (y 0).val = 1 := h0
    refine Eq.trans ?_ (uncols_at _ _ _ i (col2 t ⟨128 + j.val, by omega⟩) ?_ ?_).symm
    · refine (k2_block1 _ _ i j).trans (Finset.sum_congr rfl fun l _ => ?_)
      exact congrArg₂ (fun p q : EReal => p * q) (iblk2_0 V c t _ _) (iblk2_1 V c t _ _)
    all_goals (blk_simp [index2_2, col2]; try (dsimp only; omega))
  · obtain ⟨i, j, rfl⟩ := eq_ix3 (a := 512) (b := 128) x
    have e2 : (y 2).val = j.val := h2
    have e1 : (y 1).val = i.val := h1
    have e0 : (y 0).val = 0 := h0
    refine Eq.trans ?_ (uncols_at _ _ _ i (col2 t ⟨j.val, by omega⟩) ?_ ?_).symm
    · refine (k2_block0 _ _ i j).trans (Finset.sum_congr rfl fun l _ => ?_)
      exact congrArg₂ (fun p q : EReal => p * q) (iblk2_0 V c t _ _) (iblk2_1 V c t _ _)
    all_goals (blk_simp [index2_2, col2]; try (dsimp only; omega))

end Cert.Kernel4Ideal.Branch

end
-- ==== Proof.BranchRegion3.lean ====
/-
  The gradient by the attention branch's weights: what the call leaves in its result array, from the arrays it
  finds.
-/
module

public import proofs.«01_k».proof.Proof.BranchRegion2
public import proofs.«01_k».proof.Proof.Gen.Kernel4Ideal.Frame
public import Idealize.ShloMosaic.Lib.Pipeline.ValueKit.Geometry
public import Idealize.ShloMosaic.Lib.Pipeline.ValueKit.Acc
public import Idealize.ShloMosaic.Lib.Pipeline.ValueKit.Tiles

@[expose] public section

set_option maxRecDepth 16384

noncomputable section

namespace Cert.Kernel4Ideal.Branch

open Idealize.ShloMosaic Idealize.ShloMosaic.TcCoe Idealize.ShloMosaic.Tactic Idealize.SL.Sem
open Cert.Kernel4Ideal.Gen Cert.Ffn Cert.Branch

variable (V : (c : Dev nD) → (b : Ref sig .tc) → Buf (Elt Ideal) ((c : Thread nD τ).loc b)) (c : Dev nD)

theorem index3_0 : ∀ t : Fin cfg3.N, win3_0.index t = ![0, 0] := by
  change ∀ t : Fin grid3.N, _; decide +kernel
theorem index3_1 : ∀ t : Fin cfg3.N, win3_1.index t = ![0, t.val] := by
  change ∀ t : Fin grid3.N, _; decide +kernel
theorem index3_2 : ∀ t : Fin cfg3.N, win3_2.index t = ![t.val, 0, 0] := by
  change ∀ t : Fin grid3.N, _; decide +kernel

/-- Column `r` of point `t`'s block of 512 columns. -/
def col3 (t : Fin cfg3.N) (r : Fin 512) : Fin 1024 :=
  ⟨512 * (t.val) + r.val, by have := t.isLt; have : cfg3.N = 2 := N_3; omega⟩

theorem iblk3_0 (t : Fin cfg3.N) (r : Fin 4096) (v : Fin 512) : (iblk3 V c 0 t : Vec Ideal S4096x512 .bf16) (ix2 r v) =
    (V c main_v9 : Vec Ideal S4096x512 .bf16) (ix2 r v) := by
  blk_simp [iblk3]
  refine congrArg (V c main_v9 : Vec Ideal S4096x512 .bf16) ?_
  blk_ext [index3_0]

theorem iblk3_1 (t : Fin cfg3.N) (r : Fin 4096) (v : Fin 512) : (iblk3 V c 1 t : Vec Ideal S4096x512 .bf16) (ix2 r v) =
    (V c main_v11 : Vec Ideal S4096x1024 .bf16) (ix2 r (col3 t v)) := by
  blk_simp [iblk3]
  refine congrArg (V c main_v11 : Vec Ideal S4096x1024 .bf16) ?_
  blk_ext [index3_1, col3]

/-- The result holds the product of the first array's columns with the second array's, cut into column blocks. -/
theorem final3_2 : (dat3 V c).arrAt 2 cfg3.N = unbcols .bf16 (tDot (mat .bf16 (V c main_v9 : Vec Ideal S4096x512 .bf16))
    (mat .bf16 (V c main_v11 : Vec Ideal S4096x1024 .bf16))) := by
  refine (dat3 V c).arrAt_eq_of_covers 2 _ (by decide +kernel) fun t hf y => ?_
  blk_simp
  rw [after3_2]
  frame_out
  canon_tiles x h using Gen.cover3_2 ..
  · obtain ⟨i, j, rfl⟩ := eq_ix3 (a := 512) (b := 128) x
    have e2 : (y 2).val = j.val := h2
    have e1 : (y 1).val = i.val := h1
    have e0 : (y 0).val = 3 := h0
    refine Eq.trans ?_ (uncols_at _ _ _ i (col3 t ⟨384 + j.val, by omega⟩) ?_ ?_).symm
    · refine (k2_block3 _ _ i j).trans (Finset.sum_congr rfl fun l _ => ?_)
      exact congrArg₂ (fun p q : EReal => p * q) (iblk3_0 V c t _ _) (iblk3_1 V c t _ _)
    all_goals (blk_simp [index3_2, col3]; try (dsimp only; omega))
  · obtain ⟨i, j, rfl⟩ := eq_ix3 (a := 512) (b := 128) x
    have e2 : (y 2).val = j.val := h2
    have e1 : (y 1).val = i.val := h1
    have e0 : (y 0).val = 2 := h0
    refine Eq.trans ?_ (uncols_at _ _ _ i (col3 t ⟨256 + j.val, by omega⟩) ?_ ?_).symm
    · refine (k2_block2 _ _ i j).trans (Finset.sum_congr rfl fun l _ => ?_)
      exact congrArg₂ (fun p q : EReal => p * q) (iblk3_0 V c t _ _) (iblk3_1 V c t _ _)
    all_goals (blk_simp [index3_2, col3]; try (dsimp only; omega))
  · obtain ⟨i, j, rfl⟩ := eq_ix3 (a := 512) (b := 128) x
    have e2 : (y 2).val = j.val := h2
    have e1 : (y 1).val = i.val := h1
    have e0 : (y 0).val = 1 := h0
    refine Eq.trans ?_ (uncols_at _ _ _ i (col3 t ⟨128 + j.val, by omega⟩) ?_ ?_).symm
    · refine (k2_block1 _ _ i j).trans (Finset.sum_congr rfl fun l _ => ?_)
      exact congrArg₂ (fun p q : EReal => p * q) (iblk3_0 V c t _ _) (iblk3_1 V c t _ _)
    all_goals (blk_simp [index3_2, col3]; try (dsimp only; omega))
  · obtain ⟨i, j, rfl⟩ := eq_ix3 (a := 512) (b := 128) x
    have e2 : (y 2).val = j.val := h2
    have e1 : (y 1).val = i.val := h1
    have e0 : (y 0).val = 0 := h0
    refine Eq.trans ?_ (uncols_at _ _ _ i (col3 t ⟨j.val, by omega⟩) ?_ ?_).symm
    · refine (k2_block0 _ _ i j).trans (Finset.sum_congr rfl fun l _ => ?_)
      exact congrArg₂ (fun p q : EReal => p * q) (iblk3_0 V c t _ _) (iblk3_1 V c t _ _)
    all_goals (blk_simp [index3_2, col3]; try (dsimp only; omega))

end Cert.Kernel4Ideal.Branch

end
-- ==== Proof.BranchChain.lean ====
/-
  The backward calls of the branches' products one after the other, and the run of their program: what each array
  holds when the next call begins, and the four results as the values of the given input.
-/
module

public import proofs.«01_k».proof.Proof.BranchHost
public import proofs.«01_k».proof.Proof.BranchRegion0
public import proofs.«01_k».proof.Proof.BranchRegion1
public import proofs.«01_k».proof.Proof.BranchRegion2
public import proofs.«01_k».proof.Proof.BranchRegion3

@[expose] public section

set_option maxRecDepth 16384

noncomputable section

namespace Cert.Kernel4Ideal.Branch

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.StableHlo
open Cert.Ffn Cert.Branch Cert.Kernel4Ideal Cert.Kernel4Ideal.Gen

variable (m : (ℓ : Loc nD τ sig) → Buf (Elt Ideal) ℓ) (ρ : Dev nD → PrngReg) (c : Dev nD)

/-- The input as given to the program. -/
def given : Input :=
  Input.ofArrays (m (c.tc.loc main_arg0)) (m (c.tc.loc main_arg1)) (m (c.tc.loc main_arg2))
    (m (c.tc.loc main_arg3)) (m (c.tc.loc main_arg4)) (m (c.tc.loc main_arg5))

theorem at5_v8 : mat .bf16 (W5 (F := Ideal) m ρ c (Proc.devRef .tc main_v8) : Vec Ideal S4096x512 .bf16) = (given m c).yd := prep_v8 (W0 m ρ c)
theorem at5_v9 : mat .bf16 (W5 (F := Ideal) m ρ c (Proc.devRef .tc main_v9) : Vec Ideal S4096x512 .bf16) = (given m c).ys := prep_v9 (W0 m ρ c)
theorem at5_v10 : mat .bf16 (W5 (F := Ideal) m ρ c (Proc.devRef .tc main_v10) : Vec Ideal S4096x1024 .bf16) = (given m c).dd := prep_v10 (W0 m ρ c)
theorem at5_v11 : mat .bf16 (W5 (F := Ideal) m ρ c (Proc.devRef .tc main_v11) : Vec Ideal S4096x1024 .bf16) = (given m c).ds := prep_v11 (W0 m ρ c)
theorem at5_v3 : bcols .bf16 (W5 (F := Ideal) m ρ c (Proc.devRef .tc main_v3) : Vec Ideal S8x512x128 .bf16) = (given m c).wd := prep_v3 (W0 m ρ c)
theorem at5_v7 : bcols .bf16 (W5 (F := Ideal) m ρ c (Proc.devRef .tc main_v7) : Vec Ideal S8x512x128 .bf16) = (given m c).ws := prep_v7 (W0 m ρ c)

theorem at6_v12 : W6 (F := Ideal) m ρ c (Proc.devRef .tc main_v12) = arr .f32 (dotT (given m c).dd (given m c).wd) := by
  refine (W6_arr m ρ c 2).trans ((final0_2 (V5 (F := Ideal) m ρ) c).trans ?_)
  refine congrArg (arr .f32) (congrArg₂ dotT ?_ ?_)
  · exact at5_v10 m ρ c
  · exact at5_v3 m ρ c

theorem at7_v13 : W7 (F := Ideal) m ρ c (Proc.devRef .tc main_v13) = arr .f32 (dotT (given m c).ds (given m c).ws) := by
  refine (W7_arr m ρ c 2).trans ((final1_2 (V6 (F := Ideal) m ρ) c).trans ?_)
  rw [show V6 (F := Ideal) m ρ c main_v11 = _ from (W6_of m ρ c main_v11 (by decide)),
    show V6 (F := Ideal) m ρ c main_v7 = _ from (W6_of m ρ c main_v7 (by decide))]
  refine congrArg (arr .f32) (congrArg₂ dotT ?_ ?_)
  · exact at5_v11 m ρ c
  · exact at5_v7 m ρ c

theorem at8_v14 : W8 (F := Ideal) m ρ c (Proc.devRef .tc main_v14) = unbcols .bf16 (tDot (given m c).yd (given m c).dd) := by
  refine (W8_arr m ρ c 2).trans ((final2_2 (V7 (F := Ideal) m ρ) c).trans ?_)
  rw [show V7 (F := Ideal) m ρ c main_v8 = _ from (W7_of m ρ c main_v8 (by decide)).trans ((W6_of m ρ c main_v8 (by decide))),
    show V7 (F := Ideal) m ρ c main_v10 = _ from (W7_of m ρ c main_v10 (by decide)).trans ((W6_of m ρ c main_v10 (by decide)))]
  refine congrArg (unbcols .bf16) (congrArg₂ tDot ?_ ?_)
  · exact at5_v8 m ρ c
  · exact at5_v10 m ρ c

theorem at9_v15 : W9 (F := Ideal) m ρ c (Proc.devRef .tc main_v15) = unbcols .bf16 (tDot (given m c).ys (given m c).ds) := by
  refine (W9_arr m ρ c 2).trans ((final3_2 (V8 (F := Ideal) m ρ) c).trans ?_)
  rw [show V8 (F := Ideal) m ρ c main_v9 = _ from (W8_of m ρ c main_v9 (by decide)).trans ((W7_of m ρ c main_v9 (by decide)).trans ((W6_of m ρ c main_v9 (by decide)))),
    show V8 (F := Ideal) m ρ c main_v11 = _ from (W8_of m ρ c main_v11 (by decide)).trans ((W7_of m ρ c main_v11 (by decide)).trans ((W6_of m ρ c main_v11 (by decide))))]
  refine congrArg (unbcols .bf16) (congrArg₂ tDot ?_ ?_)
  · exact at5_v9 m ρ c
  · exact at5_v11 m ρ c

/-! ## The results -/

/-- The gradient by the delta rule branch's rows. -/
theorem result_yd : W10 (F := Ideal) m ρ c (Proc.devRef .tc main_v12) = arr .f32 (dotT (given m c).dd (given m c).wd) :=
  ((W10_of m ρ c main_v12 (by decide)).trans ((W9_of m ρ c main_v12 (by decide)).trans ((W8_of m ρ c main_v12 (by decide)).trans ((W7_of m ρ c main_v12 (by decide)))))).trans (at6_v12 m ρ c)

/-- The gradient by the attention branch's rows. -/
theorem result_ys : W10 (F := Ideal) m ρ c (Proc.devRef .tc main_v13) = arr .f32 (dotT (given m c).ds (given m c).ws) :=
  ((W10_of m ρ c main_v13 (by decide)).trans ((W9_of m ρ c main_v13 (by decide)).trans ((W8_of m ρ c main_v13 (by decide))))).trans (at7_v13 m ρ c)

/-- The gradient by the delta rule branch's weights. -/
theorem result_wd : W10 (F := Ideal) m ρ c (Proc.devRef .tc main_v18) = arr .f32 (tDot (given m c).yd (given m c).dd) :=
  fin_v18 (W9 m ρ c) _ ((W9_of m ρ c main_v14 (by decide)).trans (at8_v14 m ρ c))

/-- The gradient by the attention branch's weights. -/
theorem result_ws : W10 (F := Ideal) m ρ c (Proc.devRef .tc main_v21) = arr .f32 (tDot (given m c).ys (given m c).ds) :=
  fin_v21 (W9 m ρ c) _ (at9_v15 m ρ c)

/-! ## The run -/

local notation "𝕄" => MT nD τ sig Unit (Elt Ideal) ℕ (UR sig nD τ) ℕ

set_option backward.isDefEq.respectTransparency.types false in
/-- Every execution ends, and each buffer of a device then holds what the chain of calls leaves in it. -/
theorem run_all : θ_run defs (onTc (τ := τ) (main (F := Ideal))) ⟨m, fun _ => 0, ρ⟩ (fun r =>
    ∀ (c : Dev nD), ∀ b ∈ Pipeline.ucRefs τ sig, r.2.mem (((c : Thread nD τ)).1, b) = W10 (F := Ideal) m ρ c b) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m (c.tc.loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h _ => h)

/-- Every execution ends with the arguments unchanged and the four gradients in the result arrays. -/
theorem run : θ_run defs (onTc (τ := τ) (main (F := Ideal))) ⟨m, fun _ => 0, ρ⟩ fun r => ∀ c : Dev nD,
      r.2.mem (c.tc.loc main_v12) = arr .f32 (dotT (given m c).dd (given m c).wd)
      ∧ r.2.mem (c.tc.loc main_v13) = arr .f32 (dotT (given m c).ds (given m c).ws)
      ∧ r.2.mem (c.tc.loc main_v18) = arr .f32 (tDot (given m c).yd (given m c).dd)
      ∧ r.2.mem (c.tc.loc main_v21) = arr .f32 (tDot (given m c).ys (given m c).ds)
      ∧ r.2.mem (c.tc.loc main_arg0) = m (c.tc.loc main_arg0)
      ∧ r.2.mem (c.tc.loc main_arg1) = m (c.tc.loc main_arg1)
      ∧ r.2.mem (c.tc.loc main_arg2) = m (c.tc.loc main_arg2)
      ∧ r.2.mem (c.tc.loc main_arg3) = m (c.tc.loc main_arg3)
      ∧ r.2.mem (c.tc.loc main_arg4) = m (c.tc.loc main_arg4)
      ∧ r.2.mem (c.tc.loc main_arg5) = m (c.tc.loc main_arg5) :=
  (θ_run defs _ _).mono (fun _ h c =>
    ⟨(h c _ (mem_uc main_v12 (by decide))).trans (result_yd m ρ c),
     (h c _ (mem_uc main_v13 (by decide))).trans (result_ys m ρ c),
     (h c _ (mem_uc main_v18 (by decide))).trans (result_wd m ρ c),
     (h c _ (mem_uc main_v21 (by decide))).trans (result_ws m ρ c),
     (h c _ (mem_uc main_arg0 (by decide))).trans (W10_main_arg0 m ρ c),
     (h c _ (mem_uc main_arg1 (by decide))).trans (W10_main_arg1 m ρ c),
     (h c _ (mem_uc main_arg2 (by decide))).trans (W10_main_arg2 m ρ c),
     (h c _ (mem_uc main_arg3 (by decide))).trans (W10_main_arg3 m ρ c),
     (h c _ (mem_uc main_arg4 (by decide))).trans (W10_main_arg4 m ρ c),
     (h c _ (mem_uc main_arg5 (by decide))).trans (W10_main_arg5 m ρ c)⟩)
    (run_all m ρ)

end Cert.Kernel4Ideal.Branch

end
-- ==== Proof.BranchRef.lean ====
/-
  The reference of the branches' backward products: its four results are the values of the given input.
-/
module

public import proofs.«01_k».proof.Proof.BranchSpec
public import proofs.«01_k».proof.Proof.Gen.Reference4Ideal.Run

@[expose] public section

set_option maxRecDepth 16384

noncomputable section

namespace Cert.Reference4Ideal.Branch

open Idealize.ShloMosaic Idealize.ShloMosaic.TcCoe Idealize.SL.Sem Idealize.ShloMosaic.StableHlo Cert.Ffn Cert.Branch Cert.Reference4Ideal Cert.Reference4Ideal.Gen

/-- The gradient by a branch's rows: the cotangent's product with the weights' columns. -/
theorem rows_eq (d : FVec Ideal S4096x1024 .f32) (w : FVec Ideal S512x1024 .f32) :
    Host.dotGeneral dot_S4096x1024_S512x1024_S4096x512_1_1_0_0_n_n none d w = arr .f32 (dotT (mat .f32 d) (mat .f32 w)) := by
  funext y; obtain ⟨i, j, rfl⟩ := eq_ix2 (a := 4096) (b := 512) y
  pointwise [arr, mat, dotT]

/-- The gradient by a branch's weights: the product of the rows' columns with the cotangent's. -/
theorem weights_eq (d : FVec Ideal S4096x1024 .f32) (x : FVec Ideal S4096x512 .f32) :
    transpose S512x1024 [1, 0] (Host.dotGeneral dot_S4096x1024_S4096x512_S1024x512_0_0_1_1_n_n none d x) transposes_S1024x512_S512x1024_1_0 =
      arr .f32 (tDot (mat .f32 x) (mat .f32 d)) := by
  funext y; obtain ⟨i, j, rfl⟩ := eq_ix2 (a := 512) (b := 1024) y
  pointwise [arr, mat, tDot]
  exact Finset.sum_congr rfl fun l _ => mul_comm _ _

variable (m : (ℓ : Loc nD τ sig) → Buf (Elt Ideal) ℓ) (ρ : Dev nD → PrngReg) (c : Dev nD)

/-- The input as given to the program. -/
def given : Input :=
  Input.ofArrays (m (c.tc.loc main_arg0)) (m (c.tc.loc main_arg1)) (m (c.tc.loc main_arg2))
    (m (c.tc.loc main_arg3)) (m (c.tc.loc main_arg4)) (m (c.tc.loc main_arg5))

/-- Every execution ends with the arguments unchanged and the four gradients in the result arrays. -/
theorem run : θ_run defs (onTc (τ := τ) (main (F := Ideal))) ⟨m, fun _ => 0, ρ⟩ fun r => ∀ c : Dev nD,
      r.2.mem (c.tc.loc main_v7) = arr .f32 (dotT (given m c).dd (given m c).wd)
      ∧ r.2.mem (c.tc.loc main_v4) = arr .f32 (dotT (given m c).ds (given m c).ws)
      ∧ r.2.mem (c.tc.loc main_v6) = arr .f32 (tDot (given m c).yd (given m c).dd)
      ∧ r.2.mem (c.tc.loc main_v3) = arr .f32 (tDot (given m c).ys (given m c).ds)
      ∧ r.2.mem (c.tc.loc main_arg0) = m (c.tc.loc main_arg0)
      ∧ r.2.mem (c.tc.loc main_arg1) = m (c.tc.loc main_arg1)
      ∧ r.2.mem (c.tc.loc main_arg2) = m (c.tc.loc main_arg2)
      ∧ r.2.mem (c.tc.loc main_arg3) = m (c.tc.loc main_arg3)
      ∧ r.2.mem (c.tc.loc main_arg4) = m (c.tc.loc main_arg4)
      ∧ r.2.mem (c.tc.loc main_arg5) = m (c.tc.loc main_arg5) :=
  (θ_run defs _ _).mono (fun _ h c => ⟨(h c).1.trans (rows_eq _ _), (h c).2.1.trans (rows_eq _ _),
    (h c).2.2.1.trans (weights_eq _ _), (h c).2.2.2.1.trans (weights_eq _ _), (h c).2.2.2.2⟩)
    (Cert.Reference4Ideal.Value.run m ρ)

end Cert.Reference4Ideal.Branch

end
-- ==== Proof.MergeSpec.lean ====
/-
  The branches' products with their weights, the gates and the merge of the two: the values, and the gradients of
  the merge.
-/
module

public import proofs.«01_k».proof.Proof.FfnSpec

@[expose] public section

set_option maxRecDepth 16384

noncomputable section

namespace Cert.Merge

open Idealize.ShloMosaic Cert.Ffn

/-- Gate `b` of the two: the logistic of its columns, which lie from column 2824 on, 1024 each. -/
def gate (p : Mat 4096 4872) (b : Fin 2) : Mat 4096 1024 := fun i j =>
  Ideal.logistic (p i ⟨2824 + 1024 * b.val + j.val, by omega⟩)

/-- Each branch's product times its gate, added. -/
def merged (p : Mat 4096 4872) (a s : Mat 4096 1024) : Mat 4096 1024 := fun i j => gate p 0 i j * a i j + gate p 1 i j * s i j

/-- The gradient by a branch's product: the cotangent times the gate. -/
def byBranch (p : Mat 4096 4872) (b : Fin 2) (d : Mat 4096 1024) : Mat 4096 1024 := fun i j => d i j * gate p b i j

/-- The gradient by the gates' columns: the cotangent times the branch's product times the logistic's slope, the first gate's
    1024 columns before the second's. -/
def byGates (p : Mat 4096 4872) (a s d : Mat 4096 1024) : Mat 4096 2048 := fun i q =>
  if h : q.val < 1024 then d i ⟨q.val, h⟩ * a i ⟨q.val, h⟩ * (gate p 0 i ⟨q.val, h⟩ * (1 - gate p 0 i ⟨q.val, h⟩))
  else d i ⟨q.val - 1024, by omega⟩ * s i ⟨q.val - 1024, by omega⟩ *
    (gate p 1 i ⟨q.val - 1024, by omega⟩ * (1 - gate p 1 i ⟨q.val - 1024, by omega⟩))

/-- An entry of one of four column blocks, by its column among all of them. -/
theorem pick {x : FVec Ideal (⟨3, ![4, 512, 128]⟩ : Shape) .bf16} {b : FVec Ideal (⟨3, ![1, 512, 128]⟩ : Shape) .bf16} {k : Fin 4}
    (h : ∀ (i : Fin 512) (j : Fin 128), b (ix3 0 i j) = x (ix3 k i j)) (f : Fin 512) (r : ℕ)
    (e : f.val = 128 * k.val + r) (hr : r < 128) (j : Fin 512) :
    b (ix3 0 j ⟨r, hr⟩) = x (ix3 ⟨f.val / 128, by omega⟩ j ⟨f.val % 128, by omega⟩) :=
  (h _ _).trans (congrArg₂ (fun p q => x (ix3 p j q)) (Fin.ext (show k.val = f.val / 128 by omega))
    (Fin.ext (show r = f.val % 128 by omega)))

end Cert.Merge

end
-- ==== Proof.Merge5.lean ====
/-
  The branches' products with their weights and the gated merge: what the call leaves in its three result arrays.
-/
module

public import proofs.«01_k».proof.Proof.BranchSpec
public import proofs.«01_k».proof.Proof.MergeSpec
public import proofs.«01_k».proof.Proof.Gen.Kernel5Ideal.Frame
public import Idealize.ShloMosaic.Lib.StableHlo.ReadAt
public import Idealize.ShloMosaic.Lib.Pipeline.ValueKit.Geometry
public import Idealize.ShloMosaic.Lib.Pipeline.ValueKit.Acc
public import Idealize.ShloMosaic.Lib.Pipeline.ValueKit.Tiles

@[expose] public section

set_option maxRecDepth 16384

noncomputable section

namespace Cert.Kernel5Ideal.Merge

open Idealize.ShloMosaic Idealize.ShloMosaic.TcCoe Idealize.ShloMosaic.Tactic Idealize.SL.Sem Idealize.ShloMosaic.StableHlo
open Cert.Kernel5Ideal Cert.Kernel5Ideal.Gen Cert.Ffn Cert.Merge

/-- The product of a block of rows with four column blocks side by side. -/
theorem product2 (x : Vec Ideal S4x512x128 .bf16) (b0 b1 b2 b3 : Vec Ideal S1x512x128 .bf16)
    (e0 : ∀ (i : Fin 512) (j : Fin 128), b0 (ix3 0 i j) = x (ix3 0 i j)) (e1 : ∀ (i : Fin 512) (j : Fin 128), b1 (ix3 0 i j) = x (ix3 1 i j))
    (e2 : ∀ (i : Fin 512) (j : Fin 128), b2 (ix3 0 i j) = x (ix3 2 i j)) (e3 : ∀ (i : Fin 512) (j : Fin 128), b3 (ix3 0 i j) = x (ix3 3 i j))
    (a : Vec Ideal S1024x512 .bf16) (i : Fin 1024) (j : Fin 512) :
    k0_pay2 a b0 b1 b2 b3 (ix2 i j) = ∑ l : Fin 512, (a (ix2 i l) : EReal) * x (ix3 ⟨j.val / 128, by omega⟩ l ⟨j.val % 128, by omega⟩) := by
  pointwise [k0_pay2]
  refine Finset.sum_congr rfl fun f _ => congrArg (fun q : EReal => a (ix2 i f) * q) ?_
  by_cases h0 : j.val < 128
  · rw [dif_pos h0]; exact pick e0 j _ (show j.val = 128 * 0 + (j.val) by omega) _ _
  rw [dif_neg h0]
  by_cases h1 : j.val - 128 < 128
  · rw [dif_pos h1]; exact pick e1 j _ (show j.val = 128 * 1 + (j.val - 128) by omega) _ _
  rw [dif_neg h1]
  by_cases h2 : j.val - 128 - 128 < 128
  · rw [dif_pos h2]; exact pick e2 j _ (show j.val = 128 * 2 + (j.val - 128 - 128) by omega) _ _
  rw [dif_neg h2]
  exact pick e3 j _ (show j.val = 128 * 3 + (j.val - 128 - 128 - 128) by omega) _ _

/-- The product of a block of rows with four column blocks side by side. -/
theorem product3 (x : Vec Ideal S4x512x128 .bf16) (b0 b1 b2 b3 : Vec Ideal S1x512x128 .bf16)
    (e0 : ∀ (i : Fin 512) (j : Fin 128), b0 (ix3 0 i j) = x (ix3 0 i j)) (e1 : ∀ (i : Fin 512) (j : Fin 128), b1 (ix3 0 i j) = x (ix3 1 i j))
    (e2 : ∀ (i : Fin 512) (j : Fin 128), b2 (ix3 0 i j) = x (ix3 2 i j)) (e3 : ∀ (i : Fin 512) (j : Fin 128), b3 (ix3 0 i j) = x (ix3 3 i j))
    (a : Vec Ideal S1024x512 .bf16) (i : Fin 1024) (j : Fin 512) :
    k0_pay3 a b0 b1 b2 b3 (ix2 i j) = ∑ l : Fin 512, (a (ix2 i l) : EReal) * x (ix3 ⟨j.val / 128, by omega⟩ l ⟨j.val % 128, by omega⟩) := by
  pointwise [k0_pay3]
  refine Finset.sum_congr rfl fun f _ => congrArg (fun q : EReal => a (ix2 i f) * q) ?_
  by_cases h0 : j.val < 128
  · rw [dif_pos h0]; exact pick e0 j _ (show j.val = 128 * 0 + (j.val) by omega) _ _
  rw [dif_neg h0]
  by_cases h1 : j.val - 128 < 128
  · rw [dif_pos h1]; exact pick e1 j _ (show j.val = 128 * 1 + (j.val - 128) by omega) _ _
  rw [dif_neg h1]
  by_cases h2 : j.val - 128 - 128 < 128
  · rw [dif_pos h2]; exact pick e2 j _ (show j.val = 128 * 2 + (j.val - 128 - 128) by omega) _ _
  rw [dif_neg h2]
  exact pick e3 j _ (show j.val = 128 * 3 + (j.val - 128 - 128 - 128) by omega) _ _

/-- Each branch's block times the logistic of its gate's block, added. -/
theorem merge_at (a s g h : Vec Ideal S1024x512 .f32) (i : Fin 1024) (j : Fin 512) : k0_pay1 a s (k0_pay4 g) h (ix2 i j) =
    Ideal.logistic (g (ix2 i j)) * a (ix2 i j) + Ideal.logistic (h (ix2 i j)) * s (ix2 i j) := by
  pointwise [k0_pay1, k0_pay4]

/-- A column block of an array, loaded. -/
theorem ld0 (x : Vec Ideal S4x512x128 .bf16) (n : Fin 4) (h) (i : Fin 512) (j : Fin 128) :
    View.ld x (Rect.unit (s := S4x512x128) ![n.val, 0, 0] S1x512x128.size h) (ix3 0 i j) = x (ix3 n i j) :=
  View.ld_unit_apply_of x _ _ _ _ (ix3 n i j) fun a => match a with
    | ⟨0, _⟩ => rfl | ⟨1, _⟩ => (Nat.zero_add _).symm | ⟨2, _⟩ => (Nat.zero_add _).symm

variable (m : (ℓ : Loc nD τ sig) → Buf (Elt Ideal) ℓ) (c : Dev nD)

theorem index_0 : ∀ t : Fin cfg0.N, win0_0.index t = ![t.val / 2, 0] := by
  change ∀ t : Fin grid0.N, _; decide +kernel
theorem index_1 : ∀ t : Fin cfg0.N, win0_1.index t = ![t.val % 2, 0, 0] := by
  change ∀ t : Fin grid0.N, _; decide +kernel
theorem index_2 : ∀ t : Fin cfg0.N, win0_2.index t = ![t.val / 2, 0] := by
  change ∀ t : Fin grid0.N, _; decide +kernel
theorem index_3 : ∀ t : Fin cfg0.N, win0_3.index t = ![t.val % 2, 0, 0] := by
  change ∀ t : Fin grid0.N, _; decide +kernel
theorem index_4 : ∀ t : Fin cfg0.N, win0_4.index t = ![t.val / 2, t.val % 2] := by
  change ∀ t : Fin grid0.N, _; decide +kernel
theorem index_5 : ∀ t : Fin cfg0.N, win0_5.index t = ![t.val / 2, t.val % 2 + 2] := by
  change ∀ t : Fin grid0.N, _; decide +kernel
theorem index_6 : ∀ t : Fin cfg0.N, win0_6.index t = ![t.val / 2, t.val % 2] := by
  change ∀ t : Fin grid0.N, _; decide +kernel
theorem index_7 : ∀ t : Fin cfg0.N, win0_7.index t = ![t.val / 2, t.val % 2] := by
  change ∀ t : Fin grid0.N, _; decide +kernel
theorem index_8 : ∀ t : Fin cfg0.N, win0_8.index t = ![t.val / 2, t.val % 2] := by
  change ∀ t : Fin grid0.N, _; decide +kernel

theorem lt8 (t : Fin cfg0.N) : t.val < 8 := by have := t.isLt; have : cfg0.N = 8 := N_0; omega

/-- Row `r` of point `t`'s block of 1024 rows. -/
def row (t : Fin cfg0.N) (r : Fin 1024) : Fin 4096 := ⟨1024 * (t.val / 2) + r.val, by have := lt8 t; omega⟩

/-- Column `q` of point `t`'s block of 512 columns. -/
def col (t : Fin cfg0.N) (q : Fin 512) : Fin 1024 := ⟨512 * (t.val % 2) + q.val, by omega⟩

theorem iblk_0 (t : Fin cfg0.N) (r : Fin 1024) (v : Fin 512) : (iblk m c 0 t : Vec Ideal S1024x512 .bf16) (ix2 r v) =
    (V m c main_v14 : Vec Ideal S4096x512 .bf16) (ix2 (row t r) v) := by
  blk_simp [iblk]
  refine congrArg (V m c main_v14 : Vec Ideal S4096x512 .bf16) ?_
  blk_ext [index_0, row]

theorem iblk_2 (t : Fin cfg0.N) (r : Fin 1024) (v : Fin 512) : (iblk m c 2 t : Vec Ideal S1024x512 .bf16) (ix2 r v) =
    (V m c main_v15 : Vec Ideal S4096x512 .bf16) (ix2 (row t r) v) := by
  blk_simp [iblk]
  refine congrArg (V m c main_v15 : Vec Ideal S4096x512 .bf16) ?_
  blk_ext [index_2, row]

theorem iblk_1 (t : Fin cfg0.N) (k : Fin 4) (i : Fin 512) (j : Fin 128) : (iblk m c 1 t : Vec Ideal S4x512x128 .bf16) (ix3 k i j) =
    (V m c main_v9 : Vec Ideal S8x512x128 .bf16) (ix3 ⟨4 * (t.val % 2) + k.val, by omega⟩ i j) := by
  blk_simp [iblk]
  refine congrArg (V m c main_v9 : Vec Ideal S8x512x128 .bf16) ?_
  blk_ext [index_1]

theorem iblk_3 (t : Fin cfg0.N) (k : Fin 4) (i : Fin 512) (j : Fin 128) : (iblk m c 3 t : Vec Ideal S4x512x128 .bf16) (ix3 k i j) =
    (V m c main_v13 : Vec Ideal S8x512x128 .bf16) (ix3 ⟨4 * (t.val % 2) + k.val, by omega⟩ i j) := by
  blk_simp [iblk]
  refine congrArg (V m c main_v13 : Vec Ideal S8x512x128 .bf16) ?_
  blk_ext [index_3]

theorem iblk_4 (t : Fin cfg0.N) (r : Fin 1024) (v : Fin 512) : (X0_4 m c t : Vec Ideal S1024x512 .f32) (ix2 r v) =
    (V m c main_v5 : Vec Ideal S4096x4992 .f32) (ix2 (row t r) ⟨1024 * 0 + (col t v).val, by have := (col t v).isLt; omega⟩) := by
  unfold X0_4 Pipeline.Window.fill
  rw [dif_pos (moved0_4 t _)]
  blk_simp [iblk]
  refine congrArg (V m c main_v5 : Vec Ideal S4096x4992 .f32) ?_
  blk_ext [index_4, row, col]

theorem iblk_5 (t : Fin cfg0.N) (r : Fin 1024) (v : Fin 512) : (X0_5 m c t : Vec Ideal S1024x512 .f32) (ix2 r v) =
    (V m c main_v5 : Vec Ideal S4096x4992 .f32) (ix2 (row t r) ⟨1024 * 1 + (col t v).val, by have := (col t v).isLt; omega⟩) := by
  unfold X0_5 Pipeline.Window.fill
  rw [dif_pos (moved0_5 t _)]
  blk_simp [iblk]
  refine congrArg (V m c main_v5 : Vec Ideal S4096x4992 .f32) ?_
  blk_ext [index_5, row, col]

/-- A block of a branch's product. -/
theorem block_6 (t : Fin cfg0.N) (b0 b1 b2 b3 : Vec Ideal S1x512x128 .bf16)
    (e0 : b0 = View.ld (iblk m c 1 t) (Rect.unit (s := S4x512x128) ![0, 0, 0] S1x512x128.size inb_S4x512x128_S1x512x128_0_0_0))
    (e1 : b1 = View.ld (iblk m c 1 t) (Rect.unit (s := S4x512x128) ![1, 0, 0] S1x512x128.size inb_S4x512x128_S1x512x128_1_0_0))
    (e2 : b2 = View.ld (iblk m c 1 t) (Rect.unit (s := S4x512x128) ![2, 0, 0] S1x512x128.size inb_S4x512x128_S1x512x128_2_0_0))
    (e3 : b3 = View.ld (iblk m c 1 t) (Rect.unit (s := S4x512x128) ![3, 0, 0] S1x512x128.size inb_S4x512x128_S1x512x128_3_0_0))
    (i : Fin 1024) (j : Fin 512) : k0_pay2 (iblk m c 0 t) b0 b1 b2 b3 (ix2 i j) =
      dot (mat .bf16 (V m c main_v14 : Vec Ideal S4096x512 .bf16)) (Branch.bcols .bf16 (V m c main_v9 : Vec Ideal S8x512x128 .bf16)) (row t i) (col t j) := by
  subst e0 e1 e2 e3
  refine (product2 (iblk m c 1 t) _ _ _ _ (ld0 _ 0 _) (ld0 _ 1 _) (ld0 _ 2 _) (ld0 _ 3 _) _ i j).trans ?_
  refine Finset.sum_congr rfl fun l _ => congrArg₂ (fun p q : EReal => p * q) (iblk_0 m c t i l) ((iblk_1 m c t _ l _).trans ?_)
  exact congrArg₂ (fun p q => (V m c main_v9 : Vec Ideal S8x512x128 .bf16) (ix3 p l q)) (Fin.ext (by dsimp only [col]; omega))
    (Fin.ext (by dsimp only [col]; omega))

/-- The result holds a branch's product with its weights. -/
theorem final_6 : (dats m 0 c).arrAt 6 cfg0.N = arr .f32 (dot (mat .bf16 (V m c main_v14 : Vec Ideal S4096x512 .bf16))
    (Branch.bcols .bf16 (V m c main_v9 : Vec Ideal S8x512x128 .bf16))) := by
  refine (dats m 0 c).arrAt_eq_of_covers 6 _ (by decide +kernel) fun t hf y => ?_
  blk_simp
  rw [after0_6]; unfold outsAt0; dsimp only; frame_out
  obtain ⟨i, j, rfl⟩ := eq_ix2 (a := 1024) (b := 512) y
  refine Eq.trans (block_6 m c t _ _ _ _ rfl rfl rfl rfl i j) (arr_at _ _ _ (row t i) (col t j) ?_ ?_).symm
  all_goals (blk_simp [index_6, row, col]; try (dsimp only; omega))

/-- A block of a branch's product. -/
theorem block_7 (t : Fin cfg0.N) (b0 b1 b2 b3 : Vec Ideal S1x512x128 .bf16)
    (e0 : b0 = View.ld (iblk m c 3 t) (Rect.unit (s := S4x512x128) ![0, 0, 0] S1x512x128.size inb_S4x512x128_S1x512x128_0_0_0))
    (e1 : b1 = View.ld (iblk m c 3 t) (Rect.unit (s := S4x512x128) ![1, 0, 0] S1x512x128.size inb_S4x512x128_S1x512x128_1_0_0))
    (e2 : b2 = View.ld (iblk m c 3 t) (Rect.unit (s := S4x512x128) ![2, 0, 0] S1x512x128.size inb_S4x512x128_S1x512x128_2_0_0))
    (e3 : b3 = View.ld (iblk m c 3 t) (Rect.unit (s := S4x512x128) ![3, 0, 0] S1x512x128.size inb_S4x512x128_S1x512x128_3_0_0))
    (i : Fin 1024) (j : Fin 512) : k0_pay3 (iblk m c 2 t) b0 b1 b2 b3 (ix2 i j) =
      dot (mat .bf16 (V m c main_v15 : Vec Ideal S4096x512 .bf16)) (Branch.bcols .bf16 (V m c main_v13 : Vec Ideal S8x512x128 .bf16)) (row t i) (col t j) := by
  subst e0 e1 e2 e3
  refine (product3 (iblk m c 3 t) _ _ _ _ (ld0 _ 0 _) (ld0 _ 1 _) (ld0 _ 2 _) (ld0 _ 3 _) _ i j).trans ?_
  refine Finset.sum_congr rfl fun l _ => congrArg₂ (fun p q : EReal => p * q) (iblk_2 m c t i l) ((iblk_3 m c t _ l _).trans ?_)
  exact congrArg₂ (fun p q => (V m c main_v13 : Vec Ideal S8x512x128 .bf16) (ix3 p l q)) (Fin.ext (by dsimp only [col]; omega))
    (Fin.ext (by dsimp only [col]; omega))

/-- The result holds a branch's product with its weights. -/
theorem final_7 : (dats m 0 c).arrAt 7 cfg0.N = arr .f32 (dot (mat .bf16 (V m c main_v15 : Vec Ideal S4096x512 .bf16))
    (Branch.bcols .bf16 (V m c main_v13 : Vec Ideal S8x512x128 .bf16))) := by
  refine (dats m 0 c).arrAt_eq_of_covers 7 _ (by decide +kernel) fun t hf y => ?_
  blk_simp
  rw [after0_7]; unfold outsAt0; dsimp only; frame_out
  obtain ⟨i, j, rfl⟩ := eq_ix2 (a := 1024) (b := 512) y
  refine Eq.trans (block_7 m c t _ _ _ _ rfl rfl rfl rfl i j) (arr_at _ _ _ (row t i) (col t j) ?_ ?_).symm
  all_goals (blk_simp [index_7, row, col]; try (dsimp only; omega))

/-- The gate's columns in the reordered array come first. -/
def gates (x : Vec Ideal S4096x4992 .f32) (b : Fin 2) : Mat 4096 1024 := fun i j =>
  Ideal.logistic (x (ix2 i ⟨1024 * b.val + j.val, by omega⟩))

/-- The result holds the sum of the branches' products, each times its gate. -/
theorem final_8 : (dats m 0 c).arrAt 8 cfg0.N = arr .bf16 (fun i j =>
    gates (V m c main_v5) 0 i j * dot (mat .bf16 (V m c main_v14 : Vec Ideal S4096x512 .bf16)) (Branch.bcols .bf16 (V m c main_v9 : Vec Ideal S8x512x128 .bf16)) i j
    + gates (V m c main_v5) 1 i j * dot (mat .bf16 (V m c main_v15 : Vec Ideal S4096x512 .bf16)) (Branch.bcols .bf16 (V m c main_v13 : Vec Ideal S8x512x128 .bf16)) i j) := by
  refine (dats m 0 c).arrAt_eq_of_covers 8 _ (by decide +kernel) fun t hf y => ?_
  blk_simp
  rw [after0_8]; unfold outsAt0; dsimp only; frame_out
  obtain ⟨i, j, rfl⟩ := eq_ix2 (a := 1024) (b := 512) y
  refine Eq.trans ((merge_at _ _ _ _ i j).trans ?_) (arr_at _ _ _ (row t i) (col t j) ?_ ?_).symm
  · exact congrArg₂ (fun p q : EReal => p + q)
      (congrArg₂ (fun p q : EReal => p * q) (congrArg Ideal.logistic (iblk_4 m c t i j)) (block_6 m c t _ _ _ _ rfl rfl rfl rfl i j))
      (congrArg₂ (fun p q : EReal => p * q) (congrArg Ideal.logistic (iblk_5 m c t i j)) (block_7 m c t _ _ _ _ rfl rfl rfl rfl i j))
  all_goals (blk_simp [index_8, row, col]; try (dsimp only; omega))

theorem host_v14 : mat .bf16 (V m c main_v14 : Vec Ideal S4096x512 .bf16) = mat .f32 (m (c.tc.loc main_arg1) : Vec Ideal S4096x512 .f32) := by
  funext i f
  unfold mat V V0
  after_reads_at

theorem host_v15 : mat .bf16 (V m c main_v15 : Vec Ideal S4096x512 .bf16) = mat .f32 (m (c.tc.loc main_arg2) : Vec Ideal S4096x512 .f32) := by
  funext i f
  unfold mat V V0
  after_reads_at

/-- The weights are cut into eight column blocks. -/
theorem host_v9 : Branch.bcols .bf16 (V m c main_v9 : Vec Ideal S8x512x128 .bf16) = mat .f32 (m (c.tc.loc main_arg3) : Vec Ideal S512x1024 .f32) := by
  funext i f
  unfold Branch.bcols mat V V0
  after_reads_at
  rw [dif_pos ⟨by omega, by omega⟩]
  exact congrArg (fun q => (m (c.tc.loc main_arg3) : Vec Ideal S512x1024 .f32) (ix2 i q)) (Fin.ext (by dsimp only; omega))

/-- The weights are cut into eight column blocks. -/
theorem host_v13 : Branch.bcols .bf16 (V m c main_v13 : Vec Ideal S8x512x128 .bf16) = mat .f32 (m (c.tc.loc main_arg4) : Vec Ideal S512x1024 .f32) := by
  funext i f
  unfold Branch.bcols mat V V0
  after_reads_at
  rw [dif_pos ⟨by omega, by omega⟩]
  exact congrArg (fun q => (m (c.tc.loc main_arg4) : Vec Ideal S512x1024 .f32) (ix2 i q)) (Fin.ext (by dsimp only; omega))

/-- The gates' columns are moved to the front. -/
theorem host_v5 (b : Fin 2) : gates (V m c main_v5) b = gate (mat .f32 (m (c.tc.loc main_arg0) : Vec Ideal S4096x4872 .f32)) b := by
  funext i f
  unfold gates gate mat V V0
  refine congrArg Ideal.logistic ?_
  after_reads_at
  rw [dif_pos (by omega)]
  after_reads_at
  simp only [Nat.add_assoc]

/-- A branch's product, of the arrays given. -/
def branch (y : Vec Ideal S4096x512 .f32) (w : Vec Ideal S512x1024 .f32) : Mat 4096 1024 := dot (mat .f32 y) (mat .f32 w)

theorem result_dn : (dats m 0 c).arrAt 6 cfg0.N = arr .f32 (branch (m (c.tc.loc main_arg1)) (m (c.tc.loc main_arg3))) := by
  rw [final_6, host_v14, host_v9]; rfl

theorem result_swa : (dats m 0 c).arrAt 7 cfg0.N = arr .f32 (branch (m (c.tc.loc main_arg2)) (m (c.tc.loc main_arg4))) := by
  rw [final_7, host_v15, host_v13]; rfl

theorem result_merged : (dats m 0 c).arrAt 8 cfg0.N = arr .bf16 (merged (mat .f32 (m (c.tc.loc main_arg0)))
    (branch (m (c.tc.loc main_arg1)) (m (c.tc.loc main_arg3)))
    (branch (m (c.tc.loc main_arg2)) (m (c.tc.loc main_arg4)))) := by
  rw [final_8, host_v14, host_v9, host_v15, host_v13, host_v5, host_v5]; rfl

/-- The last operation widens the third result. -/
theorem last : Pipeline.afterTail₀ cfgs (dats m) 0 (V0 m) [hostOps1] c main_v17 = arr .f32 (merged (mat .f32 (m (c.tc.loc main_arg0)))
    (branch (m (c.tc.loc main_arg1)) (m (c.tc.loc main_arg3)))
    (branch (m (c.tc.loc main_arg2)) (m (c.tc.loc main_arg4)))) := by
  have h := result_merged m c
  rw [← Pipeline.withArrays_arr_shared spec0 c (V0 m c) (fun w => (dats m 0 c).arrAt w cfg0.N)
    ((dats m 0 c).arrAt_sharedIn (by decide) (V0 m c) (A_eq m c) _) 8] at h
  unfold Pipeline.afterTail₀
  funext y
  refine Eq.trans ?_ (congrFun h y)
  after_reads_at

/-- Every execution ends with the arguments unchanged, the branches' products and their gated sum in the result arrays. -/
theorem run (ρ : Dev nD → PrngReg) : θ_run defs (onTc (τ := τ) (main (F := Ideal))) ⟨m, fun _ => 0, ρ⟩ fun r => ∀ c : Dev nD,
      r.2.mem (c.tc.loc main_v16_0) = arr .f32 (branch (m (c.tc.loc main_arg1)) (m (c.tc.loc main_arg3)))
      ∧ r.2.mem (c.tc.loc main_v16_1) = arr .f32 (branch (m (c.tc.loc main_arg2)) (m (c.tc.loc main_arg4)))
      ∧ r.2.mem (c.tc.loc main_v17) = arr .f32 (merged (mat .f32 (m (c.tc.loc main_arg0)))
          (branch (m (c.tc.loc main_arg1)) (m (c.tc.loc main_arg3)))
          (branch (m (c.tc.loc main_arg2)) (m (c.tc.loc main_arg4))))
      ∧ r.2.mem (c.tc.loc main_arg0) = m (c.tc.loc main_arg0)
      ∧ r.2.mem (c.tc.loc main_arg1) = m (c.tc.loc main_arg1)
      ∧ r.2.mem (c.tc.loc main_arg2) = m (c.tc.loc main_arg2)
      ∧ r.2.mem (c.tc.loc main_arg3) = m (c.tc.loc main_arg3)
      ∧ r.2.mem (c.tc.loc main_arg4) = m (c.tc.loc main_arg4) :=
  (θ_run defs _ _).mono (fun _ h c => ⟨((h c).1 6).trans (result_dn m c), ((h c).1 7).trans (result_swa m c),
    ((h c).2 main_v17 (Pipeline.mem_restRefs_of main_v17 (by decide) (by decide))).trans (last m c),
    ((h c).2 main_arg0 (Pipeline.mem_restRefs_of main_arg0 (by decide) (by decide))).trans (W_main_arg0 m (dats m) c),
    ((h c).2 main_arg1 (Pipeline.mem_restRefs_of main_arg1 (by decide) (by decide))).trans (W_main_arg1 m (dats m) c),
    ((h c).2 main_arg2 (Pipeline.mem_restRefs_of main_arg2 (by decide) (by decide))).trans (W_main_arg2 m (dats m) c),
    ((h c).2 main_arg3 (Pipeline.mem_restRefs_of main_arg3 (by decide) (by decide))).trans (W_main_arg3 m (dats m) c),
    ((h c).2 main_arg4 (Pipeline.mem_restRefs_of main_arg4 (by decide) (by decide))).trans (W_main_arg4 m (dats m) c)⟩)
    (run_main m ρ)

end Cert.Kernel5Ideal.Merge

end
-- ==== Proof.Merge5Ref.lean ====
/-
  The reference of the branches' products and their gated sum: its three results.
-/
module

public import proofs.«01_k».proof.Proof.MergeSpec
public import proofs.«01_k».proof.Proof.Gen.Reference5Ideal.Run

@[expose] public section

set_option maxRecDepth 16384

noncomputable section

namespace Cert.Reference5Ideal.Merge

open Idealize.ShloMosaic Idealize.ShloMosaic.TcCoe Idealize.SL.Sem Idealize.ShloMosaic.StableHlo Cert.Ffn Cert.Merge Cert.Reference5Ideal Cert.Reference5Ideal.Gen

/-- A branch's product, of the arrays given. -/
def branch (y : Vec Ideal S4096x512 .f32) (w : Vec Ideal S512x1024 .f32) : Mat 4096 1024 := dot (mat .f32 y) (mat .f32 w)

theorem branch_eq (y : FVec Ideal S4096x512 .f32) (w : FVec Ideal S512x1024 .f32) :
    Host.dotGeneral dot_S4096x512_S512x1024_S4096x1024_1_0_0_1_n_n none y w = arr .f32 (branch y w) := by
  funext z; obtain ⟨i, j, rfl⟩ := eq_ix2 (a := 4096) (b := 1024) z
  pointwise [arr, mat, branch, dot]

/-- The logistic of the gates' columns. -/
def sigma (p : FVec Ideal S4096x4872 .f32) : FVec Ideal S4096x2048 .f32 :=
  Host.divf (broadcastInDim S4096x2048 ![] bcast_S_S4096x2048 (constant S_ .f32 0x3F800000#32))
    (addf (broadcastInDim S4096x2048 ![] bcast_S_S4096x2048 (constant S_ .f32 0x3F800000#32))
      (Host.exp (Host.negf (extractStridedSlice S4096x2048 ![0, 2824] p slices_S4096x4872_S4096x2048_0_2824))))

theorem sigma_at (p : FVec Ideal S4096x4872 .f32) (i : Fin 4096) (b : Fin 2) (j : Fin 1024) (q : Fin 2048)
    (e : q.val = 1024 * b.val + j.val) : sigma p (ix2 i q) = gate (mat .f32 p) b i j := by
  obtain ⟨q, hq⟩ := q
  obtain rfl : q = 1024 * b.val + j.val := e
  pointwise [sigma, gate, mat, Ideal.logistic]
  simp only [Nat.add_assoc]

theorem first_at (p : FVec Ideal S4096x4872 .f32) (i : Fin 4096) (j : Fin 1024) :
    shapeCast S4096x1024 (extractStridedSlice S4096x1x1024 ![0, 0, 0] (shapeCast S4096x2x1024 (sigma p) shapeCasts_S4096x2048_S4096x2x1024) slices_S4096x2x1024_S4096x1x1024_0_0_0) shapeCasts_S4096x1x1024_S4096x1024 (ix2 i j)
      = gate (mat .f32 p) 0 i j := by
  have h := sigma_at p
  generalize sigma p = s at h
  pointwise []
  exact h _ _ _ _ (by dsimp only; omega)

theorem second_at (p : FVec Ideal S4096x4872 .f32) (i : Fin 4096) (j : Fin 1024) :
    shapeCast S4096x1024 (extractStridedSlice S4096x1x1024 ![0, 1, 0] (shapeCast S4096x2x1024 (sigma p) shapeCasts_S4096x2048_S4096x2x1024) slices_S4096x2x1024_S4096x1x1024_0_1_0) shapeCasts_S4096x1x1024_S4096x1024 (ix2 i j)
      = gate (mat .f32 p) 1 i j := by
  have h := sigma_at p
  generalize sigma p = s at h
  pointwise []
  exact h _ _ _ _ (by dsimp only; omega)

/-- Every execution ends with the arguments unchanged, the branches' products and their gated sum in the result arrays. -/
theorem run (m : (ℓ : Loc nD τ sig) → Buf (Elt Ideal) ℓ) (ρ : Dev nD → PrngReg) : θ_run defs (onTc (τ := τ) (main (F := Ideal))) ⟨m, fun _ => 0, ρ⟩ fun r => ∀ c : Dev nD,
      r.2.mem (c.tc.loc main_v1) = arr .f32 (branch (m (c.tc.loc main_arg1)) (m (c.tc.loc main_arg3)))
      ∧ r.2.mem (c.tc.loc main_v2) = arr .f32 (branch (m (c.tc.loc main_arg2)) (m (c.tc.loc main_arg4)))
      ∧ r.2.mem (c.tc.loc main_v16) = arr .f32 (merged (mat .f32 (m (c.tc.loc main_arg0)))
          (branch (m (c.tc.loc main_arg1)) (m (c.tc.loc main_arg3)))
          (branch (m (c.tc.loc main_arg2)) (m (c.tc.loc main_arg4))))
      ∧ r.2.mem (c.tc.loc main_arg0) = m (c.tc.loc main_arg0)
      ∧ r.2.mem (c.tc.loc main_arg1) = m (c.tc.loc main_arg1)
      ∧ r.2.mem (c.tc.loc main_arg2) = m (c.tc.loc main_arg2)
      ∧ r.2.mem (c.tc.loc main_arg3) = m (c.tc.loc main_arg3)
      ∧ r.2.mem (c.tc.loc main_arg4) = m (c.tc.loc main_arg4) :=
  (θ_run defs _ _).mono (fun _ h c => ⟨(h c).1.trans (branch_eq _ _), (h c).2.1.trans (branch_eq _ _), (h c).2.2.1.trans (by
    funext z; obtain ⟨i, j, rfl⟩ := eq_ix2 (a := 4096) (b := 1024) z
    rw [branch_eq, branch_eq]
    exact congrArg₂ (fun p q : EReal => p + q) (congrArg (fun p : EReal => p * _) (first_at _ i j)) (congrArg (fun p : EReal => p * _) (second_at _ i j))),
    (h c).2.2.2⟩)
    (Cert.Reference5Ideal.Value.run m ρ)

end Cert.Reference5Ideal.Merge

end
-- ==== Proof.Merge6.lean ====
/-
  The gradient of the gated merge: what the call leaves in its three result arrays, and what the host makes of them.
-/
module

public import proofs.«01_k».proof.Proof.MergeSpec
public import proofs.«01_k».proof.Proof.Gen.Kernel6Ideal.Frame
public import Idealize.ShloMosaic.Lib.StableHlo.ReadAt
public import Idealize.ShloMosaic.Lib.Pipeline.ValueKit.Geometry
public import Idealize.ShloMosaic.Lib.Pipeline.ValueKit.Acc
public import Idealize.ShloMosaic.Lib.Pipeline.ValueKit.Tiles
public import Idealize.ShloMosaic.Lib.Pipeline.ValueKit.Partial

@[expose] public section

set_option maxRecDepth 16384

noncomputable section

namespace Cert.Kernel6Ideal.Merge

open Idealize.ShloMosaic Idealize.ShloMosaic.TcCoe Idealize.ShloMosaic.Tactic Idealize.SL.Sem Idealize.ShloMosaic.StableHlo
open Cert.Kernel6Ideal Cert.Kernel6Ideal.Gen Cert.Ffn Cert.Merge

/-- The merge's cotangent, a block of its rows. -/
theorem cotangent_at (d : Vec Ideal S512x1024 .bf16) (w : Vec Ideal S1024x1024 .bf16) (i : Fin 512) (j : Fin 1024) :
    k0_pay1 d w (ix2 i j) = ∑ l : Fin 1024, (d (ix2 i l) : EReal) * w (ix2 j l) := by
  pointwise [k0_pay1]

/-- The gates' gradients, side by side. -/
theorem gates_at (d : Vec Ideal S512x1024 .bf16) (w : Vec Ideal S1024x1024 .bf16) (g h a s : Vec Ideal S512x1024 .f32) (i : Fin 512) (q : Fin 2048) :
    k0_pay4 d w g h a s (ix2 i q) =
      if e : q.val < 1024 then k0_pay1 d w (ix2 i ⟨q.val, e⟩) * a (ix2 i ⟨q.val, e⟩)
        * (Ideal.logistic (g (ix2 i ⟨q.val, e⟩)) * (1 - Ideal.logistic (g (ix2 i ⟨q.val, e⟩))))
      else k0_pay1 d w (ix2 i ⟨q.val - 1024, by omega⟩) * s (ix2 i ⟨q.val - 1024, by omega⟩)
        * (Ideal.logistic (h (ix2 i ⟨q.val - 1024, by omega⟩)) * (1 - Ideal.logistic (h (ix2 i ⟨q.val - 1024, by omega⟩)))) := by
  unfold k0_pay4
  generalize k0_pay1 d w = x
  pointwise [k0_pay2, k0_pay3]

theorem first_at (d : Vec Ideal S512x1024 .bf16) (w : Vec Ideal S1024x1024 .bf16) (g : Vec Ideal S512x1024 .f32) (i : Fin 512) (j : Fin 1024) :
    k0_pay5 d w g (ix2 i j) = Ideal.logistic (g (ix2 i j)) * k0_pay1 d w (ix2 i j) := by
  unfold k0_pay5
  generalize k0_pay1 d w = x
  pointwise [k0_pay2]

theorem second_at (d : Vec Ideal S512x1024 .bf16) (w : Vec Ideal S1024x1024 .bf16) (h : Vec Ideal S512x1024 .f32) (i : Fin 512) (j : Fin 1024) :
    k0_pay6 d w h (ix2 i j) = Ideal.logistic (h (ix2 i j)) * k0_pay1 d w (ix2 i j) := by
  unfold k0_pay6
  generalize k0_pay1 d w = x
  pointwise [k0_pay3]

variable (m : (ℓ : Loc nD τ sig) → Buf (Elt Ideal) ℓ) (c : Dev nD)

theorem index_0 : ∀ t : Fin cfg0.N, win0_0.index t = ![t.val, 0] := by
  change ∀ t : Fin grid0.N, _; decide +kernel
theorem index_1 : ∀ t : Fin cfg0.N, win0_1.index t = ![0, 0] := by
  change ∀ t : Fin grid0.N, _; decide +kernel
theorem index_2 : ∀ t : Fin cfg0.N, win0_2.index t = ![t.val, 0] := by
  change ∀ t : Fin grid0.N, _; decide +kernel
theorem index_3 : ∀ t : Fin cfg0.N, win0_3.index t = ![t.val, 1] := by
  change ∀ t : Fin grid0.N, _; decide +kernel
theorem index_4 : ∀ t : Fin cfg0.N, win0_4.index t = ![t.val, 0] := by
  change ∀ t : Fin grid0.N, _; decide +kernel
theorem index_5 : ∀ t : Fin cfg0.N, win0_5.index t = ![t.val, 0] := by
  change ∀ t : Fin grid0.N, _; decide +kernel
theorem index_6 : ∀ t : Fin cfg0.N, win0_6.index t = ![t.val, 0] := by
  change ∀ t : Fin grid0.N, _; decide +kernel
theorem index_7 : ∀ t : Fin cfg0.N, win0_7.index t = ![t.val, 0] := by
  change ∀ t : Fin grid0.N, _; decide +kernel
theorem index_8 : ∀ t : Fin cfg0.N, win0_8.index t = ![t.val, 0] := by
  change ∀ t : Fin grid0.N, _; decide +kernel

/-- Row `r` of point `t`'s block of 512 rows. -/
def row (t : Fin cfg0.N) (r : Fin 512) : Fin 4096 :=
  ⟨512 * t.val + r.val, by have := t.isLt; have : cfg0.N = 8 := N_0; omega⟩

theorem iblk_0 (t : Fin cfg0.N) (r : Fin 512) (v : Fin 1024) : (iblk m c 0 t : Vec Ideal S512x1024 .bf16) (ix2 r v) =
    (V m c main_v7 : Vec Ideal S4096x1024 .bf16) (ix2 (row t r) v) := by
  blk_simp [iblk]
  refine congrArg (V m c main_v7 : Vec Ideal S4096x1024 .bf16) ?_
  blk_ext [index_0, row]

theorem iblk_4 (t : Fin cfg0.N) (r : Fin 512) (v : Fin 1024) : (iblk m c 4 t : Vec Ideal S512x1024 .f32) (ix2 r v) =
    (V m c main_arg1 : Vec Ideal S4096x1024 .f32) (ix2 (row t r) v) := by
  blk_simp [iblk]
  refine congrArg (V m c main_arg1 : Vec Ideal S4096x1024 .f32) ?_
  blk_ext [index_4, row]

theorem iblk_5 (t : Fin cfg0.N) (r : Fin 512) (v : Fin 1024) : (iblk m c 5 t : Vec Ideal S512x1024 .f32) (ix2 r v) =
    (V m c main_arg2 : Vec Ideal S4096x1024 .f32) (ix2 (row t r) v) := by
  blk_simp [iblk]
  refine congrArg (V m c main_arg2 : Vec Ideal S4096x1024 .f32) ?_
  blk_ext [index_5, row]

theorem iblk_1 (t : Fin cfg0.N) : (iblk m c 1 t : Vec Ideal S1024x1024 .bf16) = (V m c main_v6 : Vec Ideal S1024x1024 .bf16) := by
  funext y
  blk_simp [iblk]
  refine congrArg (V m c main_v6 : Vec Ideal S1024x1024 .bf16) ?_
  blk_ext [index_1]

theorem iblk_2 (t : Fin cfg0.N) (r : Fin 512) (v : Fin 1024) : (X0_2 m c t : Vec Ideal S512x1024 .f32) (ix2 r v) =
    (V m c main_v5 : Vec Ideal S4096x4992 .f32) (ix2 (row t r) ⟨1024 * 0 + v.val, by omega⟩) := by
  unfold X0_2 Pipeline.Window.fill
  rw [dif_pos (moved0_2 t _)]
  blk_simp [iblk]
  refine congrArg (V m c main_v5 : Vec Ideal S4096x4992 .f32) ?_
  blk_ext [index_2, row]

theorem iblk_3 (t : Fin cfg0.N) (r : Fin 512) (v : Fin 1024) : (X0_3 m c t : Vec Ideal S512x1024 .f32) (ix2 r v) =
    (V m c main_v5 : Vec Ideal S4096x4992 .f32) (ix2 (row t r) ⟨1024 * 1 + v.val, by omega⟩) := by
  unfold X0_3 Pipeline.Window.fill
  rw [dif_pos (moved0_3 t _)]
  blk_simp [iblk]
  refine congrArg (V m c main_v5 : Vec Ideal S4096x4992 .f32) ?_
  blk_ext [index_3, row]

/-- The cotangent of the merge, of the arrays given. -/
def cot : Mat 4096 1024 := dotT (mat .f32 (m (c.tc.loc main_arg4) : Vec Ideal S4096x1024 .f32))
  (mat .f32 (m (c.tc.loc main_arg3) : Vec Ideal S1024x1024 .f32))

/-- The projections given. -/
def projs : Mat 4096 4872 := mat .f32 (m (c.tc.loc main_arg0) : Vec Ideal S4096x4872 .f32)

theorem host_v7 (i : Fin 4096) (j : Fin 1024) : (V m c main_v7 : Vec Ideal S4096x1024 .bf16) (ix2 i j) = (m (c.tc.loc main_arg4) : Vec Ideal S4096x1024 .f32) (ix2 i j) := by
  unfold V V0
  after_reads_at

theorem host_v6 (i : Fin 1024) (j : Fin 1024) : (V m c main_v6 : Vec Ideal S1024x1024 .bf16) (ix2 i j) = (m (c.tc.loc main_arg3) : Vec Ideal S1024x1024 .f32) (ix2 i j) := by
  unfold V V0
  after_reads_at

/-- The gates' columns are moved to the front. -/
theorem host_v5 (i : Fin 4096) (q : Fin 4992) (h : q.val < 2048) : (V m c main_v5 : Vec Ideal S4096x4992 .f32) (ix2 i q) = projs m c i ⟨2824 + q.val, by omega⟩ := by
  unfold projs mat V V0
  after_reads_at
  rw [dif_pos h]
  after_reads_at

theorem cot_at (t : Fin cfg0.N) (i : Fin 512) (j : Fin 1024) : k0_pay1 (iblk m c 0 t) (iblk m c 1 t) (ix2 i j) = cot m c (row t i) j := by
  rw [iblk_1]
  refine (cotangent_at _ _ i j).trans ?_
  unfold cot dotT mat
  refine Finset.sum_congr rfl fun l _ => ?_
  exact congrArg₂ (fun p q : EReal => p * q) ((iblk_0 m c t i l).trans (host_v7 m c _ _)) (host_v6 m c _ _)

theorem gate_first (t : Fin cfg0.N) (i : Fin 512) (j : Fin 1024) : Ideal.logistic ((X0_2 m c t : Vec Ideal S512x1024 .f32) (ix2 i j)) = gate (projs m c) 0 (row t i) j :=
  congrArg Ideal.logistic ((iblk_2 m c t i j).trans ((host_v5 m c _ _ (by dsimp only; omega)).trans (congrArg (projs m c (row t i)) (Fin.ext (by simp; try omega)))))

theorem gate_second (t : Fin cfg0.N) (i : Fin 512) (j : Fin 1024) : Ideal.logistic ((X0_3 m c t : Vec Ideal S512x1024 .f32) (ix2 i j)) = gate (projs m c) 1 (row t i) j :=
  congrArg Ideal.logistic ((iblk_3 m c t i j).trans ((host_v5 m c _ _ (by dsimp only; omega)).trans (congrArg (projs m c (row t i)) (Fin.ext (by simp; try omega)))))

theorem rows_first (t : Fin cfg0.N) (i : Fin 512) (j : Fin 1024) : (iblk m c 4 t : Vec Ideal S512x1024 .f32) (ix2 i j) = mat .f32 (m (c.tc.loc main_arg1) : Vec Ideal S4096x1024 .f32) (row t i) j :=
  (iblk_4 m c t i j).trans (congrFun (V_main_arg1 m c) _)

theorem rows_second (t : Fin cfg0.N) (i : Fin 512) (j : Fin 1024) : (iblk m c 5 t : Vec Ideal S512x1024 .f32) (ix2 i j) = mat .f32 (m (c.tc.loc main_arg2) : Vec Ideal S4096x1024 .f32) (row t i) j :=
  (iblk_5 m c t i j).trans (congrFun (V_main_arg2 m c) _)

/-- The gates' gradients, of the arrays given. -/
def slopes : Mat 4096 2048 := byGates (projs m c) (mat .f32 (m (c.tc.loc main_arg1) : Vec Ideal S4096x1024 .f32))
  (mat .f32 (m (c.tc.loc main_arg2) : Vec Ideal S4096x1024 .f32)) (cot m c)

theorem slopes_at (t : Fin cfg0.N) (i : Fin 512) (q : Fin 2048) :
    k0_pay4 (iblk m c 0 t) (iblk m c 1 t) (X0_2 m c t) (X0_3 m c t) (iblk m c 4 t) (iblk m c 5 t) (ix2 i q) = slopes m c (row t i) q := by
  refine (gates_at _ _ _ _ _ _ i q).trans ?_
  unfold slopes byGates
  by_cases e : q.val < 1024
  · rw [dif_pos e, dif_pos e, cot_at, rows_first, gate_first]
  · rw [dif_neg e, dif_neg e, cot_at, rows_second, gate_second]

/-- The first result's array: the gates' gradients in its first 2048 columns. -/
def wide : Vec Ideal S4096x4992 .bf16 := fun y => if h : (y 1).val < 2048 then slopes m c (y 0) ⟨(y 1).val, h⟩ else 0

theorem wide_at (y : S4096x4992.Idx) (i : Fin 4096) (q : Fin 2048) (hi : (y 0).val = i.val) (hq : (y 1).val = q.val) : wide m c y = slopes m c i q := by
  unfold wide
  rw [dif_pos (by omega)]
  exact congrArg₂ (slopes m c) (Fin.ext hi) (Fin.ext hq)

theorem final_6 : (dats m 0 c).arrAt 6 cfg0.N = fun y : S4096x4992.Idx => if (y 1).val / 2048 = 0 then wide m c y else (dats m 0 c).A 6 y := by
  refine (dats m 0 c).arrAt_eq_of_coversWhere 6 _ (fun β => β (1 : Fin _) = 0) (by decide +kernel) (fun t hf y => ?_) (fun j => Iff.rfl)
  blk_simp
  rw [after0_6]; unfold outsAt0; dsimp only; frame_out
  obtain ⟨i, q, hz⟩ := eq_ix2 (a := 512) (b := 2048) ((win0 6).xinj (grid0.coords t) y)
  have h0 : (y 0).val = i.val := congrArg (fun z : S512x2048.Idx => (z 0).val) hz
  have h1 : (y 1).val = q.val := congrArg (fun z : S512x2048.Idx => (z 1).val) hz
  refine Eq.trans ((congrArg _ hz).trans (slopes_at m c t i q)) (wide_at m c _ (row t i) q ?_ ?_).symm
  all_goals (blk_simp [index_6, row]; try (dsimp only; omega))

theorem final_7 : (dats m 0 c).arrAt 7 cfg0.N = arr .bf16 (byBranch (projs m c) 0 (cot m c)) := by
  refine (dats m 0 c).arrAt_eq_of_covers 7 _ (by decide +kernel) fun t hf y => ?_
  blk_simp
  rw [after0_7]; unfold outsAt0; dsimp only; frame_out
  obtain ⟨i, j, rfl⟩ := eq_ix2 (a := 512) (b := 1024) y
  refine Eq.trans ((first_at _ _ _ i j).trans ?_) (arr_at _ _ _ (row t i) j ?_ ?_).symm
  · rw [cot_at, gate_first]; exact mul_comm _ _
  all_goals (blk_simp [index_7, row]; try (dsimp only; omega))

theorem final_8 : (dats m 0 c).arrAt 8 cfg0.N = arr .bf16 (byBranch (projs m c) 1 (cot m c)) := by
  refine (dats m 0 c).arrAt_eq_of_covers 8 _ (by decide +kernel) fun t hf y => ?_
  blk_simp
  rw [after0_8]; unfold outsAt0; dsimp only; frame_out
  obtain ⟨i, j, rfl⟩ := eq_ix2 (a := 512) (b := 1024) y
  refine Eq.trans ((second_at _ _ _ i j).trans ?_) (arr_at _ _ _ (row t i) j ?_ ?_).symm
  · rw [cot_at, gate_second]; exact mul_comm _ _
  all_goals (blk_simp [index_8, row]; try (dsimp only; omega))

theorem exits (w : Fin 9) : Pipeline.withArrays spec0 c (V0 m c) (fun w => (dats m 0 c).arrAt w cfg0.N) (Proc.devRef .tc (Pipeline.arrRef spec0 w)) =
    (dats m 0 c).arrAt w cfg0.N :=
  Pipeline.withArrays_arr_shared spec0 c (V0 m c) (fun w => (dats m 0 c).arrAt w cfg0.N)
    ((dats m 0 c).arrAt_sharedIn (by decide) (V0 m c) (A_eq m c) _) w

/-- The first result is cut to the gates' columns and widened. -/
theorem last_gates : Pipeline.afterTail₀ cfgs (dats m) 0 (V0 m) [hostOps1] c main_v10 = arr .f32 (slopes m c) := by
  have h := (exits m c 6).trans (final_6 m c)
  unfold Pipeline.afterTail₀
  funext y
  obtain ⟨i, q, rfl⟩ := eq_ix2 (a := 4096) (b := 2048) y
  refine Eq.trans ?_ ((congrFun h (ix2 i ⟨q.val, by omega⟩)).trans ((if_pos (Nat.div_eq_of_lt q.isLt)).trans (wide_at m c _ i q rfl rfl)))
  after_reads_at

theorem last_first : Pipeline.afterTail₀ cfgs (dats m) 0 (V0 m) [hostOps1] c main_v11 = arr .f32 (byBranch (projs m c) 0 (cot m c)) := by
  have h := (exits m c 7).trans (final_7 m c)
  unfold Pipeline.afterTail₀
  funext y
  refine Eq.trans ?_ (congrFun h y)
  after_reads_at

theorem last_second : Pipeline.afterTail₀ cfgs (dats m) 0 (V0 m) [hostOps1] c main_v12 = arr .f32 (byBranch (projs m c) 1 (cot m c)) := by
  have h := (exits m c 8).trans (final_8 m c)
  unfold Pipeline.afterTail₀
  funext y
  refine Eq.trans ?_ (congrFun h y)
  after_reads_at

/-- Every execution ends with the arguments unchanged and the merge's gradients in the result arrays. -/
theorem run (ρ : Dev nD → PrngReg) : θ_run defs (onTc (τ := τ) (main (F := Ideal))) ⟨m, fun _ => 0, ρ⟩ fun r => ∀ c : Dev nD,
      r.2.mem (c.tc.loc main_v10) = arr .f32 (slopes m c)
      ∧ r.2.mem (c.tc.loc main_v11) = arr .f32 (byBranch (projs m c) 0 (cot m c))
      ∧ r.2.mem (c.tc.loc main_v12) = arr .f32 (byBranch (projs m c) 1 (cot m c))
      ∧ r.2.mem (c.tc.loc main_arg0) = m (c.tc.loc main_arg0)
      ∧ r.2.mem (c.tc.loc main_arg1) = m (c.tc.loc main_arg1)
      ∧ r.2.mem (c.tc.loc main_arg2) = m (c.tc.loc main_arg2)
      ∧ r.2.mem (c.tc.loc main_arg3) = m (c.tc.loc main_arg3)
      ∧ r.2.mem (c.tc.loc main_arg4) = m (c.tc.loc main_arg4) :=
  (θ_run defs _ _).mono (fun _ h c => ⟨((h c).2 main_v10 (Pipeline.mem_restRefs_of main_v10 (by decide) (by decide))).trans (last_gates m c),
    ((h c).2 main_v11 (Pipeline.mem_restRefs_of main_v11 (by decide) (by decide))).trans (last_first m c),
    ((h c).2 main_v12 (Pipeline.mem_restRefs_of main_v12 (by decide) (by decide))).trans (last_second m c),
    ((h c).2 main_arg0 (Pipeline.mem_restRefs_of main_arg0 (by decide) (by decide))).trans (W_main_arg0 m (dats m) c),
    ((h c).1 4).trans (((dats m 0 c).arrAt_in 4 rfl _).trans ((A_eq m c 4).trans (V_main_arg1 m c))),
    ((h c).1 5).trans (((dats m 0 c).arrAt_in 5 rfl _).trans ((A_eq m c 5).trans (V_main_arg2 m c))),
    ((h c).2 main_arg3 (Pipeline.mem_restRefs_of main_arg3 (by decide) (by decide))).trans (W_main_arg3 m (dats m) c),
    ((h c).2 main_arg4 (Pipeline.mem_restRefs_of main_arg4 (by decide) (by decide))).trans (W_main_arg4 m (dats m) c)⟩)
    (run_main m ρ)

end Cert.Kernel6Ideal.Merge

end
-- ==== Proof.Merge6Ref.lean ====
/-
  The reference of the gated merge's gradient: its three results.
-/
module

public import proofs.«01_k».proof.Proof.MergeSpec
public import proofs.«01_k».proof.Proof.Gen.Reference6Ideal.Run

@[expose] public section

set_option maxRecDepth 16384

noncomputable section

namespace Cert.Reference6Ideal.Merge

open Idealize.ShloMosaic Idealize.ShloMosaic.TcCoe Idealize.SL.Sem Idealize.ShloMosaic.StableHlo Cert.Ffn Cert.Merge Cert.Reference6Ideal Cert.Reference6Ideal.Gen

/-- The logistic of the gates' columns. -/
def sigma (p : FVec Ideal S4096x4872 .f32) : FVec Ideal S4096x2048 .f32 :=
  Host.divf (broadcastInDim S4096x2048 ![] bcast_S_S4096x2048 (constant S_ .f32 0x3F800000#32))
    (addf (broadcastInDim S4096x2048 ![] bcast_S_S4096x2048 (constant S_ .f32 0x3F800000#32))
      (Host.exp (Host.negf (extractStridedSlice S4096x2048 ![0, 2824] p slices_S4096x4872_S4096x2048_0_2824))))

theorem sigma_at (p : FVec Ideal S4096x4872 .f32) (i : Fin 4096) (b : Fin 2) (j : Fin 1024) (q : Fin 2048)
    (e : q.val = 1024 * b.val + j.val) : sigma p (ix2 i q) = gate (mat .f32 p) b i j := by
  obtain ⟨q, hq⟩ := q
  obtain rfl : q = 1024 * b.val + j.val := e
  pointwise [sigma, gate, mat, Ideal.logistic]
  simp only [Nat.add_assoc]

theorem first_at (p : FVec Ideal S4096x4872 .f32) (i : Fin 4096) (j : Fin 1024) :
    shapeCast S4096x1024 (extractStridedSlice S4096x1x1024 ![0, 0, 0] (shapeCast S4096x2x1024 (sigma p) shapeCasts_S4096x2048_S4096x2x1024) slices_S4096x2x1024_S4096x1x1024_0_0_0) shapeCasts_S4096x1x1024_S4096x1024 (ix2 i j)
      = gate (mat .f32 p) 0 i j := by
  have h := sigma_at p
  generalize sigma p = s at h
  pointwise []
  exact h _ _ _ _ (by dsimp only; omega)

theorem second_at (p : FVec Ideal S4096x4872 .f32) (i : Fin 4096) (j : Fin 1024) :
    shapeCast S4096x1024 (extractStridedSlice S4096x1x1024 ![0, 1, 0] (shapeCast S4096x2x1024 (sigma p) shapeCasts_S4096x2048_S4096x2x1024) slices_S4096x2x1024_S4096x1x1024_0_1_0) shapeCasts_S4096x1x1024_S4096x1024 (ix2 i j)
      = gate (mat .f32 p) 1 i j := by
  have h := sigma_at p
  generalize sigma p = s at h
  pointwise []
  exact h _ _ _ _ (by dsimp only; omega)

/-- The slope of the logistic, at the gates' columns. -/
def slope (p : FVec Ideal S4096x4872 .f32) : FVec Ideal S4096x2048 .f32 :=
  mulf (sigma p) (subf (broadcastInDim S4096x2048 ![] bcast_S_S4096x2048 (constant S_ .f32 0x3F800000#32)) (sigma p))

theorem slope_at (p : FVec Ideal S4096x4872 .f32) (i : Fin 4096) (b : Fin 2) (j : Fin 1024) (q : Fin 2048)
    (e : q.val = 1024 * b.val + j.val) : slope p (ix2 i q) = gate (mat .f32 p) b i j * (1 - gate (mat .f32 p) b i j) := by
  have h := sigma_at p i b j q e
  unfold slope
  generalize sigma p = s at h
  pointwise []
  rw [h]

/-- Two arrays side by side, each set beside zeros and the two added. -/
def beside (x y : FVec Ideal S4096x1024 .f32) : FVec Ideal S4096x2048 .f32 :=
  shapeCast S4096x2048 (addf
    (pad S4096x2x1024 ![0, 1, 0] ![0, 0, 0] ![0, 0, 0] (broadcastInDim S4096x1x1024 ![0, 2] bcast_S4096x1024_S4096x1x1024_0_2 y) (constant S_ .f32 0x00000000#32) pads_S4096x1x1024_S4096x2x1024_000_100_000 h_S_)
    (pad S4096x2x1024 ![0, 0, 0] ![0, 1, 0] ![0, 0, 0] (broadcastInDim S4096x1x1024 ![0, 2] bcast_S4096x1024_S4096x1x1024_0_2 x) (constant S_ .f32 0x00000000#32) pads_S4096x1x1024_S4096x2x1024_000_010_000 h_S_)) shapeCasts_S4096x2x1024_S4096x2048

theorem beside_at (x y : FVec Ideal S4096x1024 .f32) (i : Fin 4096) (q : Fin 2048) : beside x y (ix2 i q) =
    if h : q.val < 1024 then x (ix2 i ⟨q.val, h⟩) else y (ix2 i ⟨q.val - 1024, by omega⟩) := by
  pointwise [beside]
  by_cases h : q.val < 1024
  · have n : ¬((1 ≤ q.val / 1024 ∧ q.val / 1024 - 1 < 1) ∧ q.val % 1024 < 1024) := by omega
    have k : q.val / 1024 < 1 ∧ q.val % 1024 < 1024 := by omega
    refine Eq.trans (congrArg₂ (fun u v : EReal => u + v) (dif_neg n) (dif_pos k)) ((zero_add _).trans (Eq.trans ?_ (dif_pos h).symm))
    exact congrArg (fun k => x (ix2 i k)) (Fin.ext (Nat.mod_eq_of_lt h))
  · have k : (1 ≤ q.val / 1024 ∧ q.val / 1024 - 1 < 1) ∧ q.val % 1024 < 1024 := by omega
    have n : ¬(q.val / 1024 < 1 ∧ q.val % 1024 < 1024) := by omega
    refine Eq.trans (congrArg₂ (fun u v : EReal => u + v) (dif_pos k) (dif_neg n)) ((add_zero _).trans (Eq.trans ?_ (dif_neg h).symm))
    exact congrArg (fun k => y (ix2 i k)) (Fin.ext (show q.val % 1024 = q.val - 1024 by omega))

/-- The cotangent of the merge. -/
def cot (d : FVec Ideal S4096x1024 .f32) (w : FVec Ideal S1024x1024 .f32) : Mat 4096 1024 := dotT (mat .f32 d) (mat .f32 w)

theorem cot_eq (d : FVec Ideal S4096x1024 .f32) (w : FVec Ideal S1024x1024 .f32) :
    Host.dotGeneral dot_S4096x1024_S1024x1024_S4096x1024_1_1_0_0_n_n none d w = arr .f32 (cot d w) := by
  funext z; obtain ⟨i, j, rfl⟩ := eq_ix2 (a := 4096) (b := 1024) z
  pointwise [arr, mat, cot, dotT]

/-- The gates' gradients. -/
theorem gates_eq (p : FVec Ideal S4096x4872 .f32) (a s d : FVec Ideal S4096x1024 .f32) (w : FVec Ideal S1024x1024 .f32) :
    mulf (beside (mulf (arr .f32 (cot d w)) a) (mulf (arr .f32 (cot d w)) s)) (slope p) =
      arr .f32 (byGates (mat .f32 p) (mat .f32 a) (mat .f32 s) (cot d w)) := by
  funext z; obtain ⟨i, q, rfl⟩ := eq_ix2 (a := 4096) (b := 2048) z
  refine Eq.trans (congrArg (fun u : EReal => u * slope p (ix2 i q)) (beside_at _ _ i q)) ?_
  refine Eq.trans ?_ (arr_at _ _ _ i q rfl rfl).symm
  unfold byGates
  by_cases h : q.val < 1024
  · rw [dif_pos h, dif_pos h, slope_at p i 0 ⟨q.val, h⟩ q (by simp)]
    rfl
  · rw [dif_neg h, dif_neg h, slope_at p i 1 ⟨q.val - 1024, by omega⟩ q (by simp; omega)]
    rfl

variable (m : (ℓ : Loc nD τ sig) → Buf (Elt Ideal) ℓ) (ρ : Dev nD → PrngReg)

/-- Every execution ends with the arguments unchanged and the merge's gradients in the result arrays. -/
theorem run : θ_run defs (onTc (τ := τ) (main (F := Ideal))) ⟨m, fun _ => 0, ρ⟩ fun r => ∀ c : Dev nD,
      r.2.mem (c.tc.loc main_v30) = arr .f32 (byGates (mat .f32 (m (c.tc.loc main_arg0))) (mat .f32 (m (c.tc.loc main_arg1)))
        (mat .f32 (m (c.tc.loc main_arg2))) (cot (m (c.tc.loc main_arg4)) (m (c.tc.loc main_arg3))))
      ∧ r.2.mem (c.tc.loc main_v24) = arr .f32 (byBranch (mat .f32 (m (c.tc.loc main_arg0))) 0 (cot (m (c.tc.loc main_arg4)) (m (c.tc.loc main_arg3))))
      ∧ r.2.mem (c.tc.loc main_v20) = arr .f32 (byBranch (mat .f32 (m (c.tc.loc main_arg0))) 1 (cot (m (c.tc.loc main_arg4)) (m (c.tc.loc main_arg3))))
      ∧ r.2.mem (c.tc.loc main_arg0) = m (c.tc.loc main_arg0)
      ∧ r.2.mem (c.tc.loc main_arg1) = m (c.tc.loc main_arg1)
      ∧ r.2.mem (c.tc.loc main_arg2) = m (c.tc.loc main_arg2)
      ∧ r.2.mem (c.tc.loc main_arg3) = m (c.tc.loc main_arg3)
      ∧ r.2.mem (c.tc.loc main_arg4) = m (c.tc.loc main_arg4) :=
  (θ_run defs _ _).mono (fun _ h c => ⟨(h c).1.trans (by
      rw [cot_eq]
      exact gates_eq _ _ _ _ _), (h c).2.1.trans (by
      rw [cot_eq]
      funext z; obtain ⟨i, j, rfl⟩ := eq_ix2 (a := 4096) (b := 1024) z
      exact (congrArg (fun p : EReal => p * _) (first_at _ i j)).trans (mul_comm _ _)), (h c).2.2.1.trans (by
      rw [cot_eq]
      funext z; obtain ⟨i, j, rfl⟩ := eq_ix2 (a := 4096) (b := 1024) z
      exact (congrArg (fun p : EReal => p * _) (second_at _ i j)).trans (mul_comm _ _)), (h c).2.2.2⟩)
    (Cert.Reference6Ideal.Value.run m ρ)

end Cert.Reference6Ideal.Merge

end
-- ==== Proof.AdamSpec.lean ====
/-
  One step of the optimiser: the gradient a weight's eight device parts add up to, the two moments and the change of
  the weight, over extended reals.
-/
module

public import proofs.«01_k».proof.Proof.FfnSpec

@[expose] public section

set_option maxRecDepth 16384

noncomputable section

namespace Cert.Adam

open Idealize.ShloMosaic Cert.Ffn

variable {a b A B : ℕ}

/-- A single sheet of an array of three axes, as a matrix. -/
def sheet (φ : FTy) (x : FVec Ideal (⟨3, ![1, a, b]⟩ : Shape) φ) : Mat a b := fun i j => x (ix3 0 i j)

/-- A matrix as a single sheet. -/
def onSheet (φ : FTy) (f : Mat a b) : FVec Ideal (⟨3, ![1, a, b]⟩ : Shape) φ := fun y => f (y 1) (y 2)

/-- An entry of a matrix laid on a sheet, by the positions' values. -/
theorem onSheet_at (φ : FTy) (f : Mat a b) (z : (⟨3, ![1, a, b]⟩ : Shape).Idx) (i : Fin a) (j : Fin b)
    (hi : (z 1).val = i.val) (hj : (z 2).val = j.val) : onSheet φ f z = f i j := by
  unfold onSheet
  rw [show z 1 = i from Fin.ext hi, show z 2 = j from Fin.ext hj]

theorem sheet_onSheet (φ : FTy) (f : Mat a b) : sheet φ (onSheet φ f) = f := rfl

/-- An index of an array whose middle axis is single. -/
theorem eq_mid (y : (⟨3, ![a, 1, b]⟩ : Shape).Idx) : ∃ (i : Fin a) (j : Fin b), y = ix3 i 0 j :=
  ⟨y 0, y 2, funext fun x => by
    fin_cases x
    · rfl
    · exact Subsingleton.elim (α := Fin 1) _ _
    · rfl⟩

/-- The sum of the eight devices' parts, at a position. -/
def over (φ : FTy) (p : FVec Ideal (⟨3, ![8, A, B]⟩ : Shape) φ) (i : Fin A) (j : Fin B) : EReal := ∑ s : Fin 8, p (ix3 s i j)

theorem over_congr {A' B' : ℕ} (φ : FTy) (p : FVec Ideal (⟨3, ![8, A, B]⟩ : Shape) φ) (q : FVec Ideal (⟨3, ![8, A', B']⟩ : Shape) φ)
    (i : Fin A) (j : Fin B) (i' : Fin A') (j' : Fin B') (h : ∀ s : Fin 8, p (ix3 s i j) = q (ix3 s i' j')) :
    over φ p i j = over φ q i' j' := Finset.sum_congr rfl fun s _ => h s

/-- The sum of the eight devices' parts, over the corner of the padded parts that holds the weight. -/
def total (φ : FTy) (p : FVec Ideal (⟨3, ![8, A, B]⟩ : Shape) φ) (ha : a ≤ A) (hb : b ≤ B) : Mat a b := fun i j =>
  over φ p ⟨i.val, lt_of_lt_of_le i.isLt ha⟩ ⟨j.val, lt_of_lt_of_le j.isLt hb⟩

/-- The new first moment, of the gradient and the old one. -/
def first (g u : EReal) : EReal := Ideal.ofBits .f32 0x3F666666#32 * u + Ideal.ofBits .f32 0x3DCCCCCD#32 * g

/-- The new second moment, of the gradient and the old one. -/
def second (g u : EReal) : EReal := Ideal.ofBits .f32 0x3F7FBE77#32 * u + Ideal.ofBits .f32 0x3A83126F#32 * (g * g)

/-- The change of the weight `w`, of the gradient and the old moments. -/
def change (g w u v : EReal) : EReal := Ideal.ofBits .f32 0xBA83126F#32 *
  (Ideal.div (Ideal.div (first g u) (Ideal.ofBits .f32 0x3F26BD02#32))
    (Ideal.sqrt (Ideal.div (second g v) (Ideal.ofBits .f32 0x3C231ACC#32)) + Ideal.ofBits .f32 0x322BCC77#32) +
    Ideal.ofBits .f32 0x3C23D70A#32 * w)

/-- The new first moments, entry by entry. -/
def firsts (g u : Mat a b) : Mat a b := fun i j => first (g i j) (u i j)

/-- The new second moments, entry by entry. -/
def seconds (g u : Mat a b) : Mat a b := fun i j => second (g i j) (u i j)

/-- The changes of a weight, entry by entry. -/
def changes (g w u v : Mat a b) : Mat a b := fun i j => change (g i j) (w i j) (u i j) (v i j)

end Cert.Adam

end
-- ==== Proof.Adam7.lean ====
/-
  An optimiser step of one weight of 352 rows and 1024 columns: what the call leaves in its four result arrays.
-/
module

public import proofs.«01_k».proof.Proof.AdamSpec
public import proofs.«01_k».proof.Proof.Gen.Kernel7Ideal.Frame
public import Idealize.ShloMosaic.Lib.StableHlo.ReadAt
public import Idealize.ShloMosaic.Lib.Pipeline.ValueKit.Geometry
public import Idealize.ShloMosaic.Lib.Pipeline.ValueKit.Acc
public import Idealize.ShloMosaic.Lib.Pipeline.ValueKit.Tiles

@[expose] public section

set_option maxRecDepth 16384

noncomputable section

namespace Cert.Kernel7Ideal.Adam

open Idealize.ShloMosaic Idealize.ShloMosaic.TcCoe Idealize.ShloMosaic.Tactic Idealize.SL.Sem Idealize.ShloMosaic.StableHlo
open Cert.Kernel7Ideal Cert.Kernel7Ideal.Gen Cert.Ffn Cert.Adam

variable (m : (ℓ : Loc nD τ sig) → Buf (Elt Ideal) ℓ) (c : Dev nD)

theorem index_0 : ∀ t : Fin cfg0.N, win0_0.index t = ![0, t.val, 0] := by
  change ∀ t : Fin grid0.N, _; decide +kernel
theorem index_1 : ∀ t : Fin cfg0.N, win0_1.index t = ![0, t.val, 0] := by
  change ∀ t : Fin grid0.N, _; decide +kernel
theorem index_2 : ∀ t : Fin cfg0.N, win0_2.index t = ![0, t.val, 0] := by
  change ∀ t : Fin grid0.N, _; decide +kernel
theorem index_3 : ∀ t : Fin cfg0.N, win0_3.index t = ![0, t.val, 0] := by
  change ∀ t : Fin grid0.N, _; decide +kernel
theorem index_4 : ∀ t : Fin cfg0.N, win0_4.index t = ![0, t.val, 0] := by
  change ∀ t : Fin grid0.N, _; decide +kernel
theorem index_5 : ∀ t : Fin cfg0.N, win0_5.index t = ![0, t.val, 0] := by
  change ∀ t : Fin grid0.N, _; decide +kernel
theorem index_6 : ∀ t : Fin cfg0.N, win0_6.index t = ![0, t.val, 0] := by
  change ∀ t : Fin grid0.N, _; decide +kernel
theorem index_7 : ∀ t : Fin cfg0.N, win0_7.index t = ![0, t.val, 0] := by
  change ∀ t : Fin grid0.N, _; decide +kernel

theorem lt_points (t : Fin cfg0.N) : t.val < 2 := by have := t.isLt; have : cfg0.N = 2 := N_0; omega

/-- Row `r` of point `t`'s block of 176. -/
def pos (t : Fin cfg0.N) (r : Fin 176) : Fin 352 := ⟨176 * t.val + r.val, by have := lt_points t; omega⟩

/-- The gradient: the sum of the parts, over the weight's rows and columns. -/
def grad : Mat 352 1024 := total .bf16 (m (c.tc.loc main_arg0) : Vec Ideal S8x384x1024 .bf16) (by decide) (by decide)

/-- The weight. -/
def weight : Mat 352 1024 := sheet .f32 (m (c.tc.loc main_arg1) : Vec Ideal S1x352x1024 .f32)

/-- The old first moment. -/
def oldFirst : Mat 352 1024 := sheet .f32 (m (c.tc.loc main_arg2) : Vec Ideal S1x352x1024 .f32)

/-- The old second moment. -/
def oldSecond : Mat 352 1024 := sheet .f32 (m (c.tc.loc main_arg3) : Vec Ideal S1x352x1024 .f32)

theorem iblk_0 (t : Fin cfg0.N) (s : Fin 8) (i : Fin 176) (j : Fin 1024) : (X0_0 m c t : Vec Ideal S8x176x1024 .bf16) (ix3 s i j) =
    (m (c.tc.loc main_arg0) : Vec Ideal S8x384x1024 .bf16) (ix3 s ⟨(pos t i).val, by have := (pos t i).isLt; omega⟩ j) := by
  unfold X0_0 Pipeline.Window.fill
  rw [dif_pos (moved0_0 t _)]
  blk_simp [iblk]
  refine congrArg (m (c.tc.loc main_arg0) : Vec Ideal S8x384x1024 .bf16) ?_
  blk_ext [index_0, pos]

theorem iblk_1 (t : Fin cfg0.N) (i : Fin 176) (j : Fin 1024) : (iblk m c 1 t : Vec Ideal S1x176x1024 .f32) (ix3 0 i j) = weight m c (pos t i) j := by
  unfold weight sheet
  blk_simp [iblk]
  refine congrArg (m (c.tc.loc main_arg1) : Vec Ideal S1x352x1024 .f32) ?_
  blk_ext [index_1, pos]

theorem iblk_2 (t : Fin cfg0.N) (i : Fin 176) (j : Fin 1024) : (iblk m c 2 t : Vec Ideal S1x176x1024 .f32) (ix3 0 i j) = oldFirst m c (pos t i) j := by
  unfold oldFirst sheet
  blk_simp [iblk]
  refine congrArg (m (c.tc.loc main_arg2) : Vec Ideal S1x352x1024 .f32) ?_
  blk_ext [index_2, pos]

theorem iblk_3 (t : Fin cfg0.N) (i : Fin 176) (j : Fin 1024) : (iblk m c 3 t : Vec Ideal S1x176x1024 .f32) (ix3 0 i j) = oldSecond m c (pos t i) j := by
  unfold oldSecond sheet
  blk_simp [iblk]
  refine congrArg (m (c.tc.loc main_arg3) : Vec Ideal S1x352x1024 .f32) ?_
  blk_ext [index_3, pos]

/-- The parts' sum over a block is the gradient's block. -/
theorem grad_at (t : Fin cfg0.N) (i : Fin 176) (j : Fin 1024) : over .bf16 (X0_0 m c t : Vec Ideal S8x176x1024 .bf16) i j = grad m c (pos t i) j :=
  over_congr .bf16 _ _ _ _ _ _ fun s => iblk_0 m c t s i j

theorem block_4 (t : Fin cfg0.N) (i : Fin 176) (j : Fin 1024) : ((dats m 0 c).after 4 t : Vec Ideal S1x176x1024 .f32) (ix3 0 i j) = (grad m c (pos t i) j) := by
  rw [← grad_at m c t i j, after0_4]
  unfold outsAt0; dsimp only; frame_out
  unfold over
  rw [Fin.sum_univ_eight]
  generalize X0_0 m c t = x
  generalize iblk m c 1 t = w
  generalize iblk m c 2 t = u
  generalize iblk m c 3 t = v
  pointwise [k0_pay6, k0_pay3]

theorem final_4 : (dats m 0 c).arrAt 4 cfg0.N = onSheet .f32 (grad m c) := by
  refine (dats m 0 c).arrAt_eq_of_covers 4 _ (by decide +kernel) fun t hf y => ?_
  blk_simp
  obtain ⟨i, j, rfl⟩ := eq_ix3 (a := 176) (b := 1024) y
  refine Eq.trans (block_4 m c t i j) (onSheet_at .f32 (grad m c) _ (pos t i) j ?_ ?_).symm
  all_goals (blk_simp [index_4, pos]; try (dsimp only; omega))

theorem block_5 (t : Fin cfg0.N) (i : Fin 176) (j : Fin 1024) : ((dats m 0 c).after 5 t : Vec Ideal S1x176x1024 .f32) (ix3 0 i j) = change (grad m c (pos t i) j) (weight m c (pos t i) j) (oldFirst m c (pos t i) j) (oldSecond m c (pos t i) j) := by
  rw [← grad_at m c t i j, ← iblk_1 m c t i j, ← iblk_2 m c t i j, ← iblk_3 m c t i j, after0_5]
  unfold outsAt0; dsimp only; frame_out
  unfold over
  rw [Fin.sum_univ_eight]
  generalize X0_0 m c t = x
  generalize iblk m c 1 t = w
  generalize iblk m c 2 t = u
  generalize iblk m c 3 t = v
  pointwise [k0_pay7, k0_pay4, k0_pay5, k0_pay3, change, first, second]

theorem final_5 : (dats m 0 c).arrAt 5 cfg0.N = onSheet .f32 (changes (grad m c) (weight m c) (oldFirst m c) (oldSecond m c)) := by
  refine (dats m 0 c).arrAt_eq_of_covers 5 _ (by decide +kernel) fun t hf y => ?_
  blk_simp
  obtain ⟨i, j, rfl⟩ := eq_ix3 (a := 176) (b := 1024) y
  refine Eq.trans (block_5 m c t i j) (onSheet_at .f32 (changes (grad m c) (weight m c) (oldFirst m c) (oldSecond m c)) _ (pos t i) j ?_ ?_).symm
  all_goals (blk_simp [index_5, pos]; try (dsimp only; omega))

theorem block_6 (t : Fin cfg0.N) (i : Fin 176) (j : Fin 1024) : ((dats m 0 c).after 6 t : Vec Ideal S1x176x1024 .f32) (ix3 0 i j) = first (grad m c (pos t i) j) (oldFirst m c (pos t i) j) := by
  rw [← grad_at m c t i j, ← iblk_2 m c t i j, after0_6]
  unfold outsAt0; dsimp only; frame_out
  unfold over
  rw [Fin.sum_univ_eight]
  generalize X0_0 m c t = x
  generalize iblk m c 1 t = w
  generalize iblk m c 2 t = u
  generalize iblk m c 3 t = v
  pointwise [k0_pay1, k0_pay4, k0_pay3, first]

theorem final_6 : (dats m 0 c).arrAt 6 cfg0.N = onSheet .f32 (firsts (grad m c) (oldFirst m c)) := by
  refine (dats m 0 c).arrAt_eq_of_covers 6 _ (by decide +kernel) fun t hf y => ?_
  blk_simp
  obtain ⟨i, j, rfl⟩ := eq_ix3 (a := 176) (b := 1024) y
  refine Eq.trans (block_6 m c t i j) (onSheet_at .f32 (firsts (grad m c) (oldFirst m c)) _ (pos t i) j ?_ ?_).symm
  all_goals (blk_simp [index_6, pos]; try (dsimp only; omega))

theorem block_7 (t : Fin cfg0.N) (i : Fin 176) (j : Fin 1024) : ((dats m 0 c).after 7 t : Vec Ideal S1x176x1024 .f32) (ix3 0 i j) = second (grad m c (pos t i) j) (oldSecond m c (pos t i) j) := by
  rw [← grad_at m c t i j, ← iblk_3 m c t i j, after0_7]
  unfold outsAt0; dsimp only; frame_out
  unfold over
  rw [Fin.sum_univ_eight]
  generalize X0_0 m c t = x
  generalize iblk m c 1 t = w
  generalize iblk m c 2 t = u
  generalize iblk m c 3 t = v
  pointwise [k0_pay2, k0_pay5, k0_pay3, second]

theorem final_7 : (dats m 0 c).arrAt 7 cfg0.N = onSheet .f32 (seconds (grad m c) (oldSecond m c)) := by
  refine (dats m 0 c).arrAt_eq_of_covers 7 _ (by decide +kernel) fun t hf y => ?_
  blk_simp
  obtain ⟨i, j, rfl⟩ := eq_ix3 (a := 176) (b := 1024) y
  refine Eq.trans (block_7 m c t i j) (onSheet_at .f32 (seconds (grad m c) (oldSecond m c)) _ (pos t i) j ?_ ?_).symm
  all_goals (blk_simp [index_7, pos]; try (dsimp only; omega))

/-- Every execution ends with the arguments unchanged and the gradient, the change and the new moments in the result arrays. -/
theorem run (ρ : Dev nD → PrngReg) : θ_run defs (onTc (τ := τ) (main (F := Ideal))) ⟨m, fun _ => 0, ρ⟩ fun r => ∀ c : Dev nD,
      r.2.mem (c.tc.loc main_v0_0) = onSheet .f32 (grad m c)
      ∧ r.2.mem (c.tc.loc main_v0_1) = onSheet .f32 (changes (grad m c) (weight m c) (oldFirst m c) (oldSecond m c))
      ∧ r.2.mem (c.tc.loc main_v0_2) = onSheet .f32 (firsts (grad m c) (oldFirst m c))
      ∧ r.2.mem (c.tc.loc main_v0_3) = onSheet .f32 (seconds (grad m c) (oldSecond m c))
      ∧ r.2.mem (c.tc.loc main_arg0) = m (c.tc.loc main_arg0)
      ∧ r.2.mem (c.tc.loc main_arg1) = m (c.tc.loc main_arg1)
      ∧ r.2.mem (c.tc.loc main_arg2) = m (c.tc.loc main_arg2)
      ∧ r.2.mem (c.tc.loc main_arg3) = m (c.tc.loc main_arg3) :=
  (θ_run defs _ _).mono (fun _ h c => ⟨((h c).1 4).trans (final_4 m c),
    ((h c).1 5).trans (final_5 m c),
    ((h c).1 6).trans (final_6 m c),
    ((h c).1 7).trans (final_7 m c),
    ((h c).1 0).trans (((dats m 0 c).arrAt_in 0 rfl _).trans (A_eq m c 0)),
    ((h c).1 1).trans (((dats m 0 c).arrAt_in 1 rfl _).trans (A_eq m c 1)),
    ((h c).1 2).trans (((dats m 0 c).arrAt_in 2 rfl _).trans (A_eq m c 2)),
    ((h c).1 3).trans (((dats m 0 c).arrAt_in 3 rfl _).trans (A_eq m c 3))⟩)
    (run_main m ρ)

end Cert.Kernel7Ideal.Adam

end
-- ==== Proof.AdamHost.lean ====
/-
  The reference's lines of one step of the optimiser, for a weight of any shape, as the step's sum, change and moments.
-/
module

public import proofs.«01_k».proof.Proof.AdamSpec
public import Idealize.ShloMosaic.Lib.StableHlo.ReadAt

@[expose] public section

set_option maxRecDepth 16384

noncomputable section

namespace Cert.Adam

open Idealize.ShloMosaic Idealize.ShloMosaic.Tactic Idealize.ShloMosaic.StableHlo Cert.Ffn

/-- The shape of a single number. -/
abbrev One : Shape := ⟨0, ![]⟩

section
variable {S : Shape} (hb : One.BroadcastsInDim S (![] : Fin 0 → Fin S.rank)) (g w u v : FVec Ideal S .f32)

/-- The reference's new first moment. -/
abbrev refFirst : FVec Ideal S .f32 := addf (mulf (broadcastInDim S ![] hb (constant One .f32 0x3F666666#32)) u)
  (mulf (broadcastInDim S ![] hb (constant One .f32 0x3DCCCCCD#32)) g)

/-- The reference's new second moment. -/
abbrev refSecond : FVec Ideal S .f32 := addf (mulf (broadcastInDim S ![] hb (constant One .f32 0x3F7FBE77#32)) v)
  (mulf (broadcastInDim S ![] hb (constant One .f32 0x3A83126F#32)) (mulf g g))

/-- The reference's change of the weight. -/
abbrev refChange : FVec Ideal S .f32 := mulf (broadcastInDim S ![] hb (constant One .f32 0xBA83126F#32))
  (addf (Host.divf (Host.divf (refFirst hb g u) (broadcastInDim S ![] hb (constant One .f32 0x3F26BD02#32)))
      (addf (Host.sqrt (Host.divf (refSecond hb g v) (broadcastInDim S ![] hb (constant One .f32 0x3C231ACC#32))))
        (broadcastInDim S ![] hb (constant One .f32 0x322BCC77#32))))
    (mulf (broadcastInDim S ![] hb (constant One .f32 0x3C23D70A#32)) w))

theorem refFirst_at (y : S.Idx) : refFirst hb g u y = first (g y) (u y) := by pointwise [refFirst, first]

theorem refSecond_at (y : S.Idx) : refSecond hb g v y = second (g y) (v y) := by pointwise [refSecond, second]

theorem refChange_at (y : S.Idx) : refChange hb g w u v y = change (g y) (w y) (u y) (v y) := by
  pointwise [refChange, change, first, second]
end

variable {a b A B : ℕ}

/-- A weight's four results: the gradient `g`, the change of the weight and the two new moments. -/
def Step (g : Mat a b) (w u v G D N K : FVec Ideal (⟨3, ![1, a, b]⟩ : Shape) .f32) : Prop :=
  G = onSheet .f32 g ∧ D = onSheet .f32 (changes g (sheet .f32 w) (sheet .f32 u) (sheet .f32 v)) ∧
    N = onSheet .f32 (firsts g (sheet .f32 u)) ∧ K = onSheet .f32 (seconds g (sheet .f32 v))

/-- The sum over the eight devices, as the reference has it, on a sheet. -/
abbrev refGrad (q : FVec Ideal (⟨3, ![8, a, b]⟩ : Shape) .f32) (hr : (⟨3, ![8, a, b]⟩ : Shape).ReducesTo [0] ⟨2, ![a, b]⟩)
    (hn : 0 < One.numel) (h2 : (⟨2, ![a, b]⟩ : Shape).BroadcastsInDim ⟨3, ![1, a, b]⟩ (![1, 2] : Fin 2 → Fin 3)) :
    FVec Ideal (⟨3, ![1, a, b]⟩ : Shape) .f32 :=
  broadcastInDim ⟨3, ![1, a, b]⟩ ![1, 2] h2 (Host.reduceAdd q (constant One .f32 0x00000000#32) hr hn)

/-- The reference's four results are the step's, when the parts that it adds are the parts' corner. -/
theorem refStep {φ : FTy} {p : FVec Ideal (⟨3, ![8, A, B]⟩ : Shape) φ} {ha : a ≤ A} {hb : b ≤ B} {q : FVec Ideal (⟨3, ![8, a, b]⟩ : Shape) .f32}
    {hr : _} {hn : _} {h2 : _} {h0 : _} {w u v G D N K : FVec Ideal (⟨3, ![1, a, b]⟩ : Shape) .f32}
    (hq : ∀ (s : Fin 8) (i : Fin a) (j : Fin b), q (ix3 s i j) = p (ix3 s ⟨i.val, lt_of_lt_of_le i.isLt ha⟩ ⟨j.val, lt_of_lt_of_le j.isLt hb⟩))
    (eG : G = refGrad q hr hn h2) (eD : D = refChange h0 (refGrad q hr hn h2) w u v)
    (eN : N = refFirst h0 (refGrad q hr hn h2) u) (eK : K = refSecond h0 (refGrad q hr hn h2) v) :
    Step (total φ p ha hb) w u v G D N K := by
  have e : refGrad q hr hn h2 = onSheet .f32 (total φ p ha hb) := by
    funext z; obtain ⟨i, j, rfl⟩ := eq_ix3 (a := a) (b := b) z
    refine Eq.trans (b := ∑ s : Fin 8, q (ix3 s i j)) ?_ (Finset.sum_congr rfl fun s _ => hq s i j)
    pointwise [refGrad]
    refine Finset.sum_congr rfl fun s _ => congrArg₂ (fun i j => q (ix3 s i j)) ?_ ?_
    · by_cases h : a = 1
      · subst h; exact Subsingleton.elim (α := Fin 1) _ _
      · exact dif_neg h
    · by_cases h : b = 1
      · subst h; exact Subsingleton.elim (α := Fin 1) _ _
      · exact dif_neg h
  rw [e] at eG eD eN eK
  refine ⟨eG, eD.trans ?_, eN.trans ?_, eK.trans ?_⟩
  all_goals
    funext z; obtain ⟨i, j, rfl⟩ := eq_ix3 (a := a) (b := b) z
  · exact refChange_at _ _ _ _ _ _
  · exact refFirst_at _ _ _ _
  · exact refSecond_at _ _ _ _

end Cert.Adam

end
-- ==== Proof.AdamRef7.lean ====
/-
  The reference of an optimiser step of one weight of 352 rows and 1024 columns: its four results.
-/
module

public import proofs.«01_k».proof.Proof.AdamHost
public import proofs.«01_k».proof.Proof.Gen.Reference7Ideal.Run

@[expose] public section

set_option maxRecDepth 16384

noncomputable section

namespace Cert.Reference7Ideal.Adam

open Idealize.ShloMosaic Idealize.ShloMosaic.TcCoe Idealize.ShloMosaic.Tactic Idealize.SL.Sem Idealize.ShloMosaic.StableHlo Cert.Ffn Cert.Adam Cert.Reference7Ideal Cert.Reference7Ideal.Gen

/-- Every execution ends with the arguments unchanged and the gradient, the change and the new moments in the result arrays. -/
theorem run (m : (ℓ : Loc nD τ sig) → Buf (Elt Ideal) ℓ) (ρ : Dev nD → PrngReg) : θ_run defs (onTc (τ := τ) (main (F := Ideal))) ⟨m, fun _ => 0, ρ⟩ fun r => ∀ c : Dev nD,
      Step (total .bf16 (m (c.tc.loc main_arg0) : Vec Ideal S8x384x1024 .bf16) (by decide : 352 ≤ 384) (by decide : 1024 ≤ 1024)) (m (c.tc.loc main_arg1))
        (m (c.tc.loc main_arg2)) (m (c.tc.loc main_arg3)) (r.2.mem (c.tc.loc main_v3)) (r.2.mem (c.tc.loc main_v27)) (r.2.mem (c.tc.loc main_v8)) (r.2.mem (c.tc.loc main_v14))
      ∧ r.2.mem (c.tc.loc main_arg0) = m (c.tc.loc main_arg0)
      ∧ r.2.mem (c.tc.loc main_arg1) = m (c.tc.loc main_arg1)
      ∧ r.2.mem (c.tc.loc main_arg2) = m (c.tc.loc main_arg2)
      ∧ r.2.mem (c.tc.loc main_arg3) = m (c.tc.loc main_arg3) :=
  (θ_run defs _ _).mono (fun _ h c => ⟨refStep (q := (extf .f32 (extractStridedSlice S8x352x1024 ![0, 0, 0] (m (c.tc.loc main_arg0) : Vec Ideal S8x384x1024 .bf16) slices_S8x384x1024_S8x352x1024_0_0_0) bitsLt_bf16_f32)) (hr := reducesTo_S8x352x1024_S352x1024_d0) (hn := h_S_)
      (h2 := bcast_S352x1024_S1x352x1024_1_2) (h0 := bcast_S_S1x352x1024) (fun s i j => by pointwise [])
      (h c).1 (h c).2.1 (h c).2.2.1 (h c).2.2.2.1, (h c).2.2.2.2⟩)
    (Cert.Reference7Ideal.Value.run m ρ)

end Cert.Reference7Ideal.Adam

end
-- ==== Proof.Adam8.lean ====
/-
  An optimiser step of one weight of 128 rows and 1024 columns: what the call leaves in its four result arrays.
-/
module

public import proofs.«01_k».proof.Proof.AdamSpec
public import proofs.«01_k».proof.Proof.Gen.Kernel8Ideal.Frame
public import Idealize.ShloMosaic.Lib.StableHlo.ReadAt
public import Idealize.ShloMosaic.Lib.Pipeline.ValueKit.Geometry
public import Idealize.ShloMosaic.Lib.Pipeline.ValueKit.Acc
public import Idealize.ShloMosaic.Lib.Pipeline.ValueKit.Tiles

@[expose] public section

set_option maxRecDepth 16384

noncomputable section

namespace Cert.Kernel8Ideal.Adam

open Idealize.ShloMosaic Idealize.ShloMosaic.TcCoe Idealize.ShloMosaic.Tactic Idealize.SL.Sem Idealize.ShloMosaic.StableHlo
open Cert.Kernel8Ideal Cert.Kernel8Ideal.Gen Cert.Ffn Cert.Adam

variable (x : Vec Ideal S8x128x1024 .bf16) (w u v : Vec Ideal S1x128x1024 .f32)

/-- The first result's block: the sum of the eight parts. -/
theorem total_at (i : Fin 128) (j : Fin 1024) : out0_4 x w u v (ix3 0 i j) =
    (over .bf16 x i j) := by
  unfold_out out0_4
  frame_out
  unfold over
  rw [Fin.sum_univ_eight]
  pointwise [k0_pay6, k0_pay3]

/-- The second result's block: the change of the weight. -/
theorem change_at (i : Fin 128) (j : Fin 1024) : out0_5 x w u v (ix3 0 i j) =
    change (over .bf16 x i j) (w (ix3 0 i j)) (u (ix3 0 i j)) (v (ix3 0 i j)) := by
  unfold_out out0_5
  frame_out
  unfold over
  rw [Fin.sum_univ_eight]
  pointwise [k0_pay7, k0_pay4, k0_pay5, k0_pay3, change, first, second]

/-- The third result's block: the new first moment. -/
theorem first_at (i : Fin 128) (j : Fin 1024) : out0_6 x w u v (ix3 0 i j) =
    first (over .bf16 x i j) (u (ix3 0 i j)) := by
  unfold_out out0_6
  frame_out
  unfold over
  rw [Fin.sum_univ_eight]
  pointwise [k0_pay1, k0_pay4, k0_pay3, first]

/-- The fourth result's block: the new second moment. -/
theorem second_at (i : Fin 128) (j : Fin 1024) : out0_7 x w u v (ix3 0 i j) =
    second (over .bf16 x i j) (v (ix3 0 i j)) := by
  unfold_out out0_7
  frame_out
  unfold over
  rw [Fin.sum_univ_eight]
  pointwise [k0_pay2, k0_pay5, k0_pay3, second]

variable (m : (ℓ : Loc nD τ sig) → Buf (Elt Ideal) ℓ) (c : Dev nD)

theorem index_0 : ∀ t : Fin cfg0.N, win0_0.index t = ![0, t.val, 0] := by
  change ∀ t : Fin grid0.N, _; decide +kernel
theorem index_1 : ∀ t : Fin cfg0.N, win0_1.index t = ![0, t.val, 0] := by
  change ∀ t : Fin grid0.N, _; decide +kernel
theorem index_2 : ∀ t : Fin cfg0.N, win0_2.index t = ![0, t.val, 0] := by
  change ∀ t : Fin grid0.N, _; decide +kernel
theorem index_3 : ∀ t : Fin cfg0.N, win0_3.index t = ![0, t.val, 0] := by
  change ∀ t : Fin grid0.N, _; decide +kernel
theorem index_4 : ∀ t : Fin cfg0.N, win0_4.index t = ![0, t.val, 0] := by
  change ∀ t : Fin grid0.N, _; decide +kernel
theorem index_5 : ∀ t : Fin cfg0.N, win0_5.index t = ![0, t.val, 0] := by
  change ∀ t : Fin grid0.N, _; decide +kernel
theorem index_6 : ∀ t : Fin cfg0.N, win0_6.index t = ![0, t.val, 0] := by
  change ∀ t : Fin grid0.N, _; decide +kernel
theorem index_7 : ∀ t : Fin cfg0.N, win0_7.index t = ![0, t.val, 0] := by
  change ∀ t : Fin grid0.N, _; decide +kernel

theorem lt_points (t : Fin cfg0.N) : t.val < 1 := by have := t.isLt; have : cfg0.N = 1 := N_0; omega

/-- Row `r` of point `t`'s block of 128. -/
def pos (t : Fin cfg0.N) (r : Fin 128) : Fin 128 := ⟨128 * t.val + r.val, by have := lt_points t; omega⟩

/-- The gradient: the sum of the parts, over the weight's rows and columns. -/
def grad : Mat 128 1024 := total .bf16 (m (c.tc.loc main_arg0) : Vec Ideal S8x128x1024 .bf16) (by decide) (by decide)

/-- The weight. -/
def weight : Mat 128 1024 := sheet .f32 (m (c.tc.loc main_arg1) : Vec Ideal S1x128x1024 .f32)

/-- The old first moment. -/
def oldFirst : Mat 128 1024 := sheet .f32 (m (c.tc.loc main_arg2) : Vec Ideal S1x128x1024 .f32)

/-- The old second moment. -/
def oldSecond : Mat 128 1024 := sheet .f32 (m (c.tc.loc main_arg3) : Vec Ideal S1x128x1024 .f32)

theorem iblk_0 (t : Fin cfg0.N) (s : Fin 8) (i : Fin 128) (j : Fin 1024) : (iblk m c 0 t : Vec Ideal S8x128x1024 .bf16) (ix3 s i j) =
    (m (c.tc.loc main_arg0) : Vec Ideal S8x128x1024 .bf16) (ix3 s (pos t i) j) := by
  blk_simp [iblk]
  refine congrArg (m (c.tc.loc main_arg0) : Vec Ideal S8x128x1024 .bf16) ?_
  blk_ext [index_0, pos]

theorem iblk_1 (t : Fin cfg0.N) (i : Fin 128) (j : Fin 1024) : (iblk m c 1 t : Vec Ideal S1x128x1024 .f32) (ix3 0 i j) = weight m c (pos t i) j := by
  unfold weight sheet
  blk_simp [iblk]
  refine congrArg (m (c.tc.loc main_arg1) : Vec Ideal S1x128x1024 .f32) ?_
  blk_ext [index_1, pos]

theorem iblk_2 (t : Fin cfg0.N) (i : Fin 128) (j : Fin 1024) : (iblk m c 2 t : Vec Ideal S1x128x1024 .f32) (ix3 0 i j) = oldFirst m c (pos t i) j := by
  unfold oldFirst sheet
  blk_simp [iblk]
  refine congrArg (m (c.tc.loc main_arg2) : Vec Ideal S1x128x1024 .f32) ?_
  blk_ext [index_2, pos]

theorem iblk_3 (t : Fin cfg0.N) (i : Fin 128) (j : Fin 1024) : (iblk m c 3 t : Vec Ideal S1x128x1024 .f32) (ix3 0 i j) = oldSecond m c (pos t i) j := by
  unfold oldSecond sheet
  blk_simp [iblk]
  refine congrArg (m (c.tc.loc main_arg3) : Vec Ideal S1x128x1024 .f32) ?_
  blk_ext [index_3, pos]

/-- The parts' sum over a block is the gradient's block. -/
theorem grad_at (t : Fin cfg0.N) (i : Fin 128) (j : Fin 1024) : over .bf16 (iblk m c 0 t : Vec Ideal S8x128x1024 .bf16) i j = grad m c (pos t i) j :=
  over_congr .bf16 _ _ _ _ _ _ fun s => iblk_0 m c t s i j

theorem block_4 (t : Fin cfg0.N) (i : Fin 128) (j : Fin 1024) : ((dats m 0 c).after 4 t : Vec Ideal S1x128x1024 .f32) (ix3 0 i j) = (grad m c (pos t i) j) := by
  rw [after0_4]
  exact (total_at _ _ _ _ i j).trans (by rw [grad_at m c t i j])

theorem final_4 : (dats m 0 c).arrAt 4 cfg0.N = onSheet .f32 (grad m c) := by
  refine (dats m 0 c).arrAt_eq_of_covers 4 _ (by decide +kernel) fun t hf y => ?_
  blk_simp
  obtain ⟨i, j, rfl⟩ := eq_ix3 (a := 128) (b := 1024) y
  refine Eq.trans (block_4 m c t i j) (onSheet_at .f32 (grad m c) _ (pos t i) j ?_ ?_).symm
  all_goals (blk_simp [index_4, pos]; try (dsimp only; omega))

theorem block_5 (t : Fin cfg0.N) (i : Fin 128) (j : Fin 1024) : ((dats m 0 c).after 5 t : Vec Ideal S1x128x1024 .f32) (ix3 0 i j) = change (grad m c (pos t i) j) (weight m c (pos t i) j) (oldFirst m c (pos t i) j) (oldSecond m c (pos t i) j) := by
  rw [after0_5]
  exact (change_at _ _ _ _ i j).trans (by rw [grad_at m c t i j, iblk_1, iblk_2, iblk_3])

theorem final_5 : (dats m 0 c).arrAt 5 cfg0.N = onSheet .f32 (changes (grad m c) (weight m c) (oldFirst m c) (oldSecond m c)) := by
  refine (dats m 0 c).arrAt_eq_of_covers 5 _ (by decide +kernel) fun t hf y => ?_
  blk_simp
  obtain ⟨i, j, rfl⟩ := eq_ix3 (a := 128) (b := 1024) y
  refine Eq.trans (block_5 m c t i j) (onSheet_at .f32 (changes (grad m c) (weight m c) (oldFirst m c) (oldSecond m c)) _ (pos t i) j ?_ ?_).symm
  all_goals (blk_simp [index_5, pos]; try (dsimp only; omega))

theorem block_6 (t : Fin cfg0.N) (i : Fin 128) (j : Fin 1024) : ((dats m 0 c).after 6 t : Vec Ideal S1x128x1024 .f32) (ix3 0 i j) = first (grad m c (pos t i) j) (oldFirst m c (pos t i) j) := by
  rw [after0_6]
  exact (first_at _ _ _ _ i j).trans (by rw [grad_at m c t i j, iblk_2])

theorem final_6 : (dats m 0 c).arrAt 6 cfg0.N = onSheet .f32 (firsts (grad m c) (oldFirst m c)) := by
  refine (dats m 0 c).arrAt_eq_of_covers 6 _ (by decide +kernel) fun t hf y => ?_
  blk_simp
  obtain ⟨i, j, rfl⟩ := eq_ix3 (a := 128) (b := 1024) y
  refine Eq.trans (block_6 m c t i j) (onSheet_at .f32 (firsts (grad m c) (oldFirst m c)) _ (pos t i) j ?_ ?_).symm
  all_goals (blk_simp [index_6, pos]; try (dsimp only; omega))

theorem block_7 (t : Fin cfg0.N) (i : Fin 128) (j : Fin 1024) : ((dats m 0 c).after 7 t : Vec Ideal S1x128x1024 .f32) (ix3 0 i j) = second (grad m c (pos t i) j) (oldSecond m c (pos t i) j) := by
  rw [after0_7]
  exact (second_at _ _ _ _ i j).trans (by rw [grad_at m c t i j, iblk_3])

theorem final_7 : (dats m 0 c).arrAt 7 cfg0.N = onSheet .f32 (seconds (grad m c) (oldSecond m c)) := by
  refine (dats m 0 c).arrAt_eq_of_covers 7 _ (by decide +kernel) fun t hf y => ?_
  blk_simp
  obtain ⟨i, j, rfl⟩ := eq_ix3 (a := 128) (b := 1024) y
  refine Eq.trans (block_7 m c t i j) (onSheet_at .f32 (seconds (grad m c) (oldSecond m c)) _ (pos t i) j ?_ ?_).symm
  all_goals (blk_simp [index_7, pos]; try (dsimp only; omega))

/-- Every execution ends with the arguments unchanged and the gradient, the change and the new moments in the result arrays. -/
theorem run (ρ : Dev nD → PrngReg) : θ_run defs (onTc (τ := τ) (main (F := Ideal))) ⟨m, fun _ => 0, ρ⟩ fun r => ∀ c : Dev nD,
      r.2.mem (c.tc.loc main_v0_0) = onSheet .f32 (grad m c)
      ∧ r.2.mem (c.tc.loc main_v0_1) = onSheet .f32 (changes (grad m c) (weight m c) (oldFirst m c) (oldSecond m c))
      ∧ r.2.mem (c.tc.loc main_v0_2) = onSheet .f32 (firsts (grad m c) (oldFirst m c))
      ∧ r.2.mem (c.tc.loc main_v0_3) = onSheet .f32 (seconds (grad m c) (oldSecond m c))
      ∧ r.2.mem (c.tc.loc main_arg0) = m (c.tc.loc main_arg0)
      ∧ r.2.mem (c.tc.loc main_arg1) = m (c.tc.loc main_arg1)
      ∧ r.2.mem (c.tc.loc main_arg2) = m (c.tc.loc main_arg2)
      ∧ r.2.mem (c.tc.loc main_arg3) = m (c.tc.loc main_arg3) :=
  (θ_run defs _ _).mono (fun _ h c => ⟨((h c).1 4).trans (final_4 m c),
    ((h c).1 5).trans (final_5 m c),
    ((h c).1 6).trans (final_6 m c),
    ((h c).1 7).trans (final_7 m c),
    ((h c).1 0).trans (((dats m 0 c).arrAt_in 0 rfl _).trans (A_eq m c 0)),
    ((h c).1 1).trans (((dats m 0 c).arrAt_in 1 rfl _).trans (A_eq m c 1)),
    ((h c).1 2).trans (((dats m 0 c).arrAt_in 2 rfl _).trans (A_eq m c 2)),
    ((h c).1 3).trans (((dats m 0 c).arrAt_in 3 rfl _).trans (A_eq m c 3))⟩)
    (run_main m ρ)

end Cert.Kernel8Ideal.Adam

end
-- ==== Proof.AdamRef8.lean ====
/-
  The reference of an optimiser step of one weight of 128 rows and 1024 columns: its four results.
-/
module

public import proofs.«01_k».proof.Proof.AdamHost
public import proofs.«01_k».proof.Proof.Gen.Reference8Ideal.Run

@[expose] public section

set_option maxRecDepth 16384

noncomputable section

namespace Cert.Reference8Ideal.Adam

open Idealize.ShloMosaic Idealize.ShloMosaic.TcCoe Idealize.ShloMosaic.Tactic Idealize.SL.Sem Idealize.ShloMosaic.StableHlo Cert.Ffn Cert.Adam Cert.Reference8Ideal Cert.Reference8Ideal.Gen

/-- Every execution ends with the arguments unchanged and the gradient, the change and the new moments in the result arrays. -/
theorem run (m : (ℓ : Loc nD τ sig) → Buf (Elt Ideal) ℓ) (ρ : Dev nD → PrngReg) : θ_run defs (onTc (τ := τ) (main (F := Ideal))) ⟨m, fun _ => 0, ρ⟩ fun r => ∀ c : Dev nD,
      Step (total .bf16 (m (c.tc.loc main_arg0) : Vec Ideal S8x128x1024 .bf16) (by decide : 128 ≤ 128) (by decide : 1024 ≤ 1024)) (m (c.tc.loc main_arg1))
        (m (c.tc.loc main_arg2)) (m (c.tc.loc main_arg3)) (r.2.mem (c.tc.loc main_v2)) (r.2.mem (c.tc.loc main_v26)) (r.2.mem (c.tc.loc main_v7)) (r.2.mem (c.tc.loc main_v13))
      ∧ r.2.mem (c.tc.loc main_arg0) = m (c.tc.loc main_arg0)
      ∧ r.2.mem (c.tc.loc main_arg1) = m (c.tc.loc main_arg1)
      ∧ r.2.mem (c.tc.loc main_arg2) = m (c.tc.loc main_arg2)
      ∧ r.2.mem (c.tc.loc main_arg3) = m (c.tc.loc main_arg3) :=
  (θ_run defs _ _).mono (fun _ h c => ⟨refStep (q := (extf .f32 (m (c.tc.loc main_arg0) : Vec Ideal S8x128x1024 .bf16) bitsLt_bf16_f32)) (hr := reducesTo_S8x128x1024_S128x1024_d0) (hn := h_S_)
      (h2 := bcast_S128x1024_S1x128x1024_1_2) (h0 := bcast_S_S1x128x1024) (fun s i j => by pointwise [])
      (h c).1 (h c).2.1 (h c).2.2.1 (h c).2.2.2.1, (h c).2.2.2.2⟩)
    (Cert.Reference8Ideal.Value.run m ρ)

end Cert.Reference8Ideal.Adam

end
-- ==== Proof.Adam9.lean ====
/-
  An optimiser step of one weight of 512 rows and 128 columns: what the call leaves in its four result arrays.
-/
module

public import proofs.«01_k».proof.Proof.AdamSpec
public import proofs.«01_k».proof.Proof.Gen.Kernel9Ideal.Frame
public import Idealize.ShloMosaic.Lib.StableHlo.ReadAt
public import Idealize.ShloMosaic.Lib.Pipeline.ValueKit.Geometry
public import Idealize.ShloMosaic.Lib.Pipeline.ValueKit.Acc
public import Idealize.ShloMosaic.Lib.Pipeline.ValueKit.Tiles

@[expose] public section

set_option maxRecDepth 16384

noncomputable section

namespace Cert.Kernel9Ideal.Adam

open Idealize.ShloMosaic Idealize.ShloMosaic.TcCoe Idealize.ShloMosaic.Tactic Idealize.SL.Sem Idealize.ShloMosaic.StableHlo
open Cert.Kernel9Ideal Cert.Kernel9Ideal.Gen Cert.Ffn Cert.Adam

variable (x : Vec Ideal S8x256x128 .bf16) (w u v : Vec Ideal S1x256x128 .f32)

/-- The first result's block: the sum of the eight parts. -/
theorem total_at (i : Fin 256) (j : Fin 128) : out0_4 x w u v (ix3 0 i j) =
    (over .bf16 x i j) := by
  unfold_out out0_4
  frame_out
  unfold over
  rw [Fin.sum_univ_eight]
  pointwise [k0_pay6, k0_pay3]

/-- The second result's block: the change of the weight. -/
theorem change_at (i : Fin 256) (j : Fin 128) : out0_5 x w u v (ix3 0 i j) =
    change (over .bf16 x i j) (w (ix3 0 i j)) (u (ix3 0 i j)) (v (ix3 0 i j)) := by
  unfold_out out0_5
  frame_out
  unfold over
  rw [Fin.sum_univ_eight]
  pointwise [k0_pay7, k0_pay4, k0_pay5, k0_pay3, change, first, second]

/-- The third result's block: the new first moment. -/
theorem first_at (i : Fin 256) (j : Fin 128) : out0_6 x w u v (ix3 0 i j) =
    first (over .bf16 x i j) (u (ix3 0 i j)) := by
  unfold_out out0_6
  frame_out
  unfold over
  rw [Fin.sum_univ_eight]
  pointwise [k0_pay1, k0_pay4, k0_pay3, first]

/-- The fourth result's block: the new second moment. -/
theorem second_at (i : Fin 256) (j : Fin 128) : out0_7 x w u v (ix3 0 i j) =
    second (over .bf16 x i j) (v (ix3 0 i j)) := by
  unfold_out out0_7
  frame_out
  unfold over
  rw [Fin.sum_univ_eight]
  pointwise [k0_pay2, k0_pay5, k0_pay3, second]

variable (m : (ℓ : Loc nD τ sig) → Buf (Elt Ideal) ℓ) (c : Dev nD)

theorem index_0 : ∀ t : Fin cfg0.N, win0_0.index t = ![0, t.val, 0] := by
  change ∀ t : Fin grid0.N, _; decide +kernel
theorem index_1 : ∀ t : Fin cfg0.N, win0_1.index t = ![0, t.val, 0] := by
  change ∀ t : Fin grid0.N, _; decide +kernel
theorem index_2 : ∀ t : Fin cfg0.N, win0_2.index t = ![0, t.val, 0] := by
  change ∀ t : Fin grid0.N, _; decide +kernel
theorem index_3 : ∀ t : Fin cfg0.N, win0_3.index t = ![0, t.val, 0] := by
  change ∀ t : Fin grid0.N, _; decide +kernel
theorem index_4 : ∀ t : Fin cfg0.N, win0_4.index t = ![0, t.val, 0] := by
  change ∀ t : Fin grid0.N, _; decide +kernel
theorem index_5 : ∀ t : Fin cfg0.N, win0_5.index t = ![0, t.val, 0] := by
  change ∀ t : Fin grid0.N, _; decide +kernel
theorem index_6 : ∀ t : Fin cfg0.N, win0_6.index t = ![0, t.val, 0] := by
  change ∀ t : Fin grid0.N, _; decide +kernel
theorem index_7 : ∀ t : Fin cfg0.N, win0_7.index t = ![0, t.val, 0] := by
  change ∀ t : Fin grid0.N, _; decide +kernel

theorem lt_points (t : Fin cfg0.N) : t.val < 2 := by have := t.isLt; have : cfg0.N = 2 := N_0; omega

/-- Row `r` of point `t`'s block of 256. -/
def pos (t : Fin cfg0.N) (r : Fin 256) : Fin 512 := ⟨256 * t.val + r.val, by have := lt_points t; omega⟩

/-- The gradient: the sum of the parts, over the weight's rows and columns. -/
def grad : Mat 512 128 := total .bf16 (m (c.tc.loc main_arg0) : Vec Ideal S8x512x128 .bf16) (by decide) (by decide)

/-- The weight. -/
def weight : Mat 512 128 := sheet .f32 (m (c.tc.loc main_arg1) : Vec Ideal S1x512x128 .f32)

/-- The old first moment. -/
def oldFirst : Mat 512 128 := sheet .f32 (m (c.tc.loc main_arg2) : Vec Ideal S1x512x128 .f32)

/-- The old second moment. -/
def oldSecond : Mat 512 128 := sheet .f32 (m (c.tc.loc main_arg3) : Vec Ideal S1x512x128 .f32)

theorem iblk_0 (t : Fin cfg0.N) (s : Fin 8) (i : Fin 256) (j : Fin 128) : (iblk m c 0 t : Vec Ideal S8x256x128 .bf16) (ix3 s i j) =
    (m (c.tc.loc main_arg0) : Vec Ideal S8x512x128 .bf16) (ix3 s (pos t i) j) := by
  blk_simp [iblk]
  refine congrArg (m (c.tc.loc main_arg0) : Vec Ideal S8x512x128 .bf16) ?_
  blk_ext [index_0, pos]

theorem iblk_1 (t : Fin cfg0.N) (i : Fin 256) (j : Fin 128) : (iblk m c 1 t : Vec Ideal S1x256x128 .f32) (ix3 0 i j) = weight m c (pos t i) j := by
  unfold weight sheet
  blk_simp [iblk]
  refine congrArg (m (c.tc.loc main_arg1) : Vec Ideal S1x512x128 .f32) ?_
  blk_ext [index_1, pos]

theorem iblk_2 (t : Fin cfg0.N) (i : Fin 256) (j : Fin 128) : (iblk m c 2 t : Vec Ideal S1x256x128 .f32) (ix3 0 i j) = oldFirst m c (pos t i) j := by
  unfold oldFirst sheet
  blk_simp [iblk]
  refine congrArg (m (c.tc.loc main_arg2) : Vec Ideal S1x512x128 .f32) ?_
  blk_ext [index_2, pos]

theorem iblk_3 (t : Fin cfg0.N) (i : Fin 256) (j : Fin 128) : (iblk m c 3 t : Vec Ideal S1x256x128 .f32) (ix3 0 i j) = oldSecond m c (pos t i) j := by
  unfold oldSecond sheet
  blk_simp [iblk]
  refine congrArg (m (c.tc.loc main_arg3) : Vec Ideal S1x512x128 .f32) ?_
  blk_ext [index_3, pos]

/-- The parts' sum over a block is the gradient's block. -/
theorem grad_at (t : Fin cfg0.N) (i : Fin 256) (j : Fin 128) : over .bf16 (iblk m c 0 t : Vec Ideal S8x256x128 .bf16) i j = grad m c (pos t i) j :=
  over_congr .bf16 _ _ _ _ _ _ fun s => iblk_0 m c t s i j

theorem block_4 (t : Fin cfg0.N) (i : Fin 256) (j : Fin 128) : ((dats m 0 c).after 4 t : Vec Ideal S1x256x128 .f32) (ix3 0 i j) = (grad m c (pos t i) j) := by
  rw [after0_4]
  exact (total_at _ _ _ _ i j).trans (by rw [grad_at m c t i j])

theorem final_4 : (dats m 0 c).arrAt 4 cfg0.N = onSheet .f32 (grad m c) := by
  refine (dats m 0 c).arrAt_eq_of_covers 4 _ (by decide +kernel) fun t hf y => ?_
  blk_simp
  obtain ⟨i, j, rfl⟩ := eq_ix3 (a := 256) (b := 128) y
  refine Eq.trans (block_4 m c t i j) (onSheet_at .f32 (grad m c) _ (pos t i) j ?_ ?_).symm
  all_goals (blk_simp [index_4, pos]; try (dsimp only; omega))

theorem block_5 (t : Fin cfg0.N) (i : Fin 256) (j : Fin 128) : ((dats m 0 c).after 5 t : Vec Ideal S1x256x128 .f32) (ix3 0 i j) = change (grad m c (pos t i) j) (weight m c (pos t i) j) (oldFirst m c (pos t i) j) (oldSecond m c (pos t i) j) := by
  rw [after0_5]
  exact (change_at _ _ _ _ i j).trans (by rw [grad_at m c t i j, iblk_1, iblk_2, iblk_3])

theorem final_5 : (dats m 0 c).arrAt 5 cfg0.N = onSheet .f32 (changes (grad m c) (weight m c) (oldFirst m c) (oldSecond m c)) := by
  refine (dats m 0 c).arrAt_eq_of_covers 5 _ (by decide +kernel) fun t hf y => ?_
  blk_simp
  obtain ⟨i, j, rfl⟩ := eq_ix3 (a := 256) (b := 128) y
  refine Eq.trans (block_5 m c t i j) (onSheet_at .f32 (changes (grad m c) (weight m c) (oldFirst m c) (oldSecond m c)) _ (pos t i) j ?_ ?_).symm
  all_goals (blk_simp [index_5, pos]; try (dsimp only; omega))

theorem block_6 (t : Fin cfg0.N) (i : Fin 256) (j : Fin 128) : ((dats m 0 c).after 6 t : Vec Ideal S1x256x128 .f32) (ix3 0 i j) = first (grad m c (pos t i) j) (oldFirst m c (pos t i) j) := by
  rw [after0_6]
  exact (first_at _ _ _ _ i j).trans (by rw [grad_at m c t i j, iblk_2])

theorem final_6 : (dats m 0 c).arrAt 6 cfg0.N = onSheet .f32 (firsts (grad m c) (oldFirst m c)) := by
  refine (dats m 0 c).arrAt_eq_of_covers 6 _ (by decide +kernel) fun t hf y => ?_
  blk_simp
  obtain ⟨i, j, rfl⟩ := eq_ix3 (a := 256) (b := 128) y
  refine Eq.trans (block_6 m c t i j) (onSheet_at .f32 (firsts (grad m c) (oldFirst m c)) _ (pos t i) j ?_ ?_).symm
  all_goals (blk_simp [index_6, pos]; try (dsimp only; omega))

theorem block_7 (t : Fin cfg0.N) (i : Fin 256) (j : Fin 128) : ((dats m 0 c).after 7 t : Vec Ideal S1x256x128 .f32) (ix3 0 i j) = second (grad m c (pos t i) j) (oldSecond m c (pos t i) j) := by
  rw [after0_7]
  exact (second_at _ _ _ _ i j).trans (by rw [grad_at m c t i j, iblk_3])

theorem final_7 : (dats m 0 c).arrAt 7 cfg0.N = onSheet .f32 (seconds (grad m c) (oldSecond m c)) := by
  refine (dats m 0 c).arrAt_eq_of_covers 7 _ (by decide +kernel) fun t hf y => ?_
  blk_simp
  obtain ⟨i, j, rfl⟩ := eq_ix3 (a := 256) (b := 128) y
  refine Eq.trans (block_7 m c t i j) (onSheet_at .f32 (seconds (grad m c) (oldSecond m c)) _ (pos t i) j ?_ ?_).symm
  all_goals (blk_simp [index_7, pos]; try (dsimp only; omega))

/-- Every execution ends with the arguments unchanged and the gradient, the change and the new moments in the result arrays. -/
theorem run (ρ : Dev nD → PrngReg) : θ_run defs (onTc (τ := τ) (main (F := Ideal))) ⟨m, fun _ => 0, ρ⟩ fun r => ∀ c : Dev nD,
      r.2.mem (c.tc.loc main_v0_0) = onSheet .f32 (grad m c)
      ∧ r.2.mem (c.tc.loc main_v0_1) = onSheet .f32 (changes (grad m c) (weight m c) (oldFirst m c) (oldSecond m c))
      ∧ r.2.mem (c.tc.loc main_v0_2) = onSheet .f32 (firsts (grad m c) (oldFirst m c))
      ∧ r.2.mem (c.tc.loc main_v0_3) = onSheet .f32 (seconds (grad m c) (oldSecond m c))
      ∧ r.2.mem (c.tc.loc main_arg0) = m (c.tc.loc main_arg0)
      ∧ r.2.mem (c.tc.loc main_arg1) = m (c.tc.loc main_arg1)
      ∧ r.2.mem (c.tc.loc main_arg2) = m (c.tc.loc main_arg2)
      ∧ r.2.mem (c.tc.loc main_arg3) = m (c.tc.loc main_arg3) :=
  (θ_run defs _ _).mono (fun _ h c => ⟨((h c).1 4).trans (final_4 m c),
    ((h c).1 5).trans (final_5 m c),
    ((h c).1 6).trans (final_6 m c),
    ((h c).1 7).trans (final_7 m c),
    ((h c).1 0).trans (((dats m 0 c).arrAt_in 0 rfl _).trans (A_eq m c 0)),
    ((h c).1 1).trans (((dats m 0 c).arrAt_in 1 rfl _).trans (A_eq m c 1)),
    ((h c).1 2).trans (((dats m 0 c).arrAt_in 2 rfl _).trans (A_eq m c 2)),
    ((h c).1 3).trans (((dats m 0 c).arrAt_in 3 rfl _).trans (A_eq m c 3))⟩)
    (run_main m ρ)

end Cert.Kernel9Ideal.Adam

end
-- ==== Proof.AdamRef9.lean ====
/-
  The reference of an optimiser step of one weight of 512 rows and 128 columns: its four results.
-/
module

public import proofs.«01_k».proof.Proof.AdamHost
public import proofs.«01_k».proof.Proof.Gen.Reference9Ideal.Run

@[expose] public section

set_option maxRecDepth 16384

noncomputable section

namespace Cert.Reference9Ideal.Adam

open Idealize.ShloMosaic Idealize.ShloMosaic.TcCoe Idealize.ShloMosaic.Tactic Idealize.SL.Sem Idealize.ShloMosaic.StableHlo Cert.Ffn Cert.Adam Cert.Reference9Ideal Cert.Reference9Ideal.Gen

/-- Every execution ends with the arguments unchanged and the gradient, the change and the new moments in the result arrays. -/
theorem run (m : (ℓ : Loc nD τ sig) → Buf (Elt Ideal) ℓ) (ρ : Dev nD → PrngReg) : θ_run defs (onTc (τ := τ) (main (F := Ideal))) ⟨m, fun _ => 0, ρ⟩ fun r => ∀ c : Dev nD,
      Step (total .bf16 (m (c.tc.loc main_arg0) : Vec Ideal S8x512x128 .bf16) (by decide : 512 ≤ 512) (by decide : 128 ≤ 128)) (m (c.tc.loc main_arg1))
        (m (c.tc.loc main_arg2)) (m (c.tc.loc main_arg3)) (r.2.mem (c.tc.loc main_v2)) (r.2.mem (c.tc.loc main_v26)) (r.2.mem (c.tc.loc main_v7)) (r.2.mem (c.tc.loc main_v13))
      ∧ r.2.mem (c.tc.loc main_arg0) = m (c.tc.loc main_arg0)
      ∧ r.2.mem (c.tc.loc main_arg1) = m (c.tc.loc main_arg1)
      ∧ r.2.mem (c.tc.loc main_arg2) = m (c.tc.loc main_arg2)
      ∧ r.2.mem (c.tc.loc main_arg3) = m (c.tc.loc main_arg3) :=
  (θ_run defs _ _).mono (fun _ h c => ⟨refStep (q := (extf .f32 (m (c.tc.loc main_arg0) : Vec Ideal S8x512x128 .bf16) bitsLt_bf16_f32)) (hr := reducesTo_S8x512x128_S512x128_d0) (hn := h_S_)
      (h2 := bcast_S512x128_S1x512x128_1_2) (h0 := bcast_S_S1x512x128) (fun s i j => by pointwise [])
      (h c).1 (h c).2.1 (h c).2.2.1 (h c).2.2.2.1, (h c).2.2.2.2⟩)
    (Cert.Reference9Ideal.Value.run m ρ)

end Cert.Reference9Ideal.Adam

end
-- ==== Proof.Adam10.lean ====
/-
  An optimiser step of one weight of 1024 rows and 352 columns: what the call leaves in its four result arrays.
-/
module

public import proofs.«01_k».proof.Proof.AdamSpec
public import proofs.«01_k».proof.Proof.Gen.Kernel10Ideal.Frame
public import Idealize.ShloMosaic.Lib.StableHlo.ReadAt
public import Idealize.ShloMosaic.Lib.Pipeline.ValueKit.Geometry
public import Idealize.ShloMosaic.Lib.Pipeline.ValueKit.Acc
public import Idealize.ShloMosaic.Lib.Pipeline.ValueKit.Tiles

@[expose] public section

set_option maxRecDepth 16384

noncomputable section

namespace Cert.Kernel10Ideal.Adam

open Idealize.ShloMosaic Idealize.ShloMosaic.TcCoe Idealize.ShloMosaic.Tactic Idealize.SL.Sem Idealize.ShloMosaic.StableHlo
open Cert.Kernel10Ideal Cert.Kernel10Ideal.Gen Cert.Ffn Cert.Adam

variable (x : Vec Ideal S8x256x384 .bf16) (w u v : Vec Ideal S1x352x256 .f32)

/-- The first result's block: the sum of the eight parts. -/
theorem total_at (i : Fin 352) (j : Fin 256) : out0_4 x w u v (ix3 0 i j) =
    (over .bf16 x j ⟨i.val, by omega⟩) := by
  unfold_out out0_4
  frame_out
  unfold over
  rw [Fin.sum_univ_eight]
  pointwise [k0_pay6, k0_pay3]

/-- The second result's block: the change of the weight. -/
theorem change_at (i : Fin 352) (j : Fin 256) : out0_5 x w u v (ix3 0 i j) =
    change (over .bf16 x j ⟨i.val, by omega⟩) (w (ix3 0 i j)) (u (ix3 0 i j)) (v (ix3 0 i j)) := by
  unfold_out out0_5
  frame_out
  unfold over
  rw [Fin.sum_univ_eight]
  pointwise [k0_pay7, k0_pay4, k0_pay5, k0_pay3, change, first, second]

/-- The third result's block: the new first moment. -/
theorem first_at (i : Fin 352) (j : Fin 256) : out0_6 x w u v (ix3 0 i j) =
    first (over .bf16 x j ⟨i.val, by omega⟩) (u (ix3 0 i j)) := by
  unfold_out out0_6
  frame_out
  unfold over
  rw [Fin.sum_univ_eight]
  pointwise [k0_pay1, k0_pay4, k0_pay3, first]

/-- The fourth result's block: the new second moment. -/
theorem second_at (i : Fin 352) (j : Fin 256) : out0_7 x w u v (ix3 0 i j) =
    second (over .bf16 x j ⟨i.val, by omega⟩) (v (ix3 0 i j)) := by
  unfold_out out0_7
  frame_out
  unfold over
  rw [Fin.sum_univ_eight]
  pointwise [k0_pay2, k0_pay5, k0_pay3, second]

variable (m : (ℓ : Loc nD τ sig) → Buf (Elt Ideal) ℓ) (c : Dev nD)

theorem index_0 : ∀ t : Fin cfg0.N, win0_0.index t = ![0, t.val, 0] := by
  change ∀ t : Fin grid0.N, _; decide +kernel
theorem index_1 : ∀ t : Fin cfg0.N, win0_1.index t = ![0, 0, t.val] := by
  change ∀ t : Fin grid0.N, _; decide +kernel
theorem index_2 : ∀ t : Fin cfg0.N, win0_2.index t = ![0, 0, t.val] := by
  change ∀ t : Fin grid0.N, _; decide +kernel
theorem index_3 : ∀ t : Fin cfg0.N, win0_3.index t = ![0, 0, t.val] := by
  change ∀ t : Fin grid0.N, _; decide +kernel
theorem index_4 : ∀ t : Fin cfg0.N, win0_4.index t = ![0, 0, t.val] := by
  change ∀ t : Fin grid0.N, _; decide +kernel
theorem index_5 : ∀ t : Fin cfg0.N, win0_5.index t = ![0, 0, t.val] := by
  change ∀ t : Fin grid0.N, _; decide +kernel
theorem index_6 : ∀ t : Fin cfg0.N, win0_6.index t = ![0, 0, t.val] := by
  change ∀ t : Fin grid0.N, _; decide +kernel
theorem index_7 : ∀ t : Fin cfg0.N, win0_7.index t = ![0, 0, t.val] := by
  change ∀ t : Fin grid0.N, _; decide +kernel

theorem lt_points (t : Fin cfg0.N) : t.val < 4 := by have := t.isLt; have : cfg0.N = 4 := N_0; omega

/-- Column `r` of point `t`'s block of 256. -/
def pos (t : Fin cfg0.N) (r : Fin 256) : Fin 1024 := ⟨256 * t.val + r.val, by have := lt_points t; omega⟩

/-- The gradient: the sum of the parts, over the weight's rows and columns. -/
def grad : Mat 1024 352 := total .bf16 (m (c.tc.loc main_arg0) : Vec Ideal S8x1024x384 .bf16) (by decide) (by decide)

/-- The weight. -/
def weight : Mat 1024 352 := sheet .f32 (m (c.tc.loc main_arg1) : Vec Ideal S1x1024x352 .f32)

/-- The old first moment. -/
def oldFirst : Mat 1024 352 := sheet .f32 (m (c.tc.loc main_arg2) : Vec Ideal S1x1024x352 .f32)

/-- The old second moment. -/
def oldSecond : Mat 1024 352 := sheet .f32 (m (c.tc.loc main_arg3) : Vec Ideal S1x1024x352 .f32)

/-- The host's turned array 1. -/
theorem turned_1 (i : Fin 352) (j : Fin 1024) : (V m c main_v0 : Vec Ideal S1x352x1024 .f32) (ix3 0 i j) = weight m c j i := by
  unfold V V0
  after_reads_at
  rfl

/-- The host's turned array 2. -/
theorem turned_2 (i : Fin 352) (j : Fin 1024) : (V m c main_v1 : Vec Ideal S1x352x1024 .f32) (ix3 0 i j) = oldFirst m c j i := by
  unfold V V0
  after_reads_at
  rfl

/-- The host's turned array 3. -/
theorem turned_3 (i : Fin 352) (j : Fin 1024) : (V m c main_v2 : Vec Ideal S1x352x1024 .f32) (ix3 0 i j) = oldSecond m c j i := by
  unfold V V0
  after_reads_at
  rfl

theorem iblk_0 (t : Fin cfg0.N) (s : Fin 8) (j : Fin 256) (k : Fin 384) : (iblk m c 0 t : Vec Ideal S8x256x384 .bf16) (ix3 s j k) =
    (m (c.tc.loc main_arg0) : Vec Ideal S8x1024x384 .bf16) (ix3 s (pos t j) k) := by
  blk_simp [iblk]
  refine congrArg (m (c.tc.loc main_arg0) : Vec Ideal S8x1024x384 .bf16) ?_
  blk_ext [index_0, pos]

theorem iblk_1 (t : Fin cfg0.N) (i : Fin 352) (j : Fin 256) : (iblk m c 1 t : Vec Ideal S1x352x256 .f32) (ix3 0 i j) = weight m c (pos t j) i := by
  refine Eq.trans ?_ (turned_1 m c i (pos t j))
  blk_simp [iblk]
  refine congrArg (V m c main_v0 : Vec Ideal S1x352x1024 .f32) ?_
  blk_ext [index_1, pos]

theorem iblk_2 (t : Fin cfg0.N) (i : Fin 352) (j : Fin 256) : (iblk m c 2 t : Vec Ideal S1x352x256 .f32) (ix3 0 i j) = oldFirst m c (pos t j) i := by
  refine Eq.trans ?_ (turned_2 m c i (pos t j))
  blk_simp [iblk]
  refine congrArg (V m c main_v1 : Vec Ideal S1x352x1024 .f32) ?_
  blk_ext [index_2, pos]

theorem iblk_3 (t : Fin cfg0.N) (i : Fin 352) (j : Fin 256) : (iblk m c 3 t : Vec Ideal S1x352x256 .f32) (ix3 0 i j) = oldSecond m c (pos t j) i := by
  refine Eq.trans ?_ (turned_3 m c i (pos t j))
  blk_simp [iblk]
  refine congrArg (V m c main_v2 : Vec Ideal S1x352x1024 .f32) ?_
  blk_ext [index_3, pos]

/-- The parts' sum over a block is the gradient's block. -/
theorem grad_at (t : Fin cfg0.N) (i : Fin 352) (j : Fin 256) : over .bf16 (iblk m c 0 t : Vec Ideal S8x256x384 .bf16) j ⟨i.val, by omega⟩ = grad m c (pos t j) i :=
  over_congr .bf16 _ _ _ _ _ _ fun s => iblk_0 m c t s j _

theorem block_4 (t : Fin cfg0.N) (i : Fin 352) (j : Fin 256) : ((dats m 0 c).after 4 t : Vec Ideal S1x352x256 .f32) (ix3 0 i j) = (grad m c (pos t j) i) := by
  rw [after0_4]
  exact (total_at _ _ _ _ i j).trans (by rw [grad_at m c t i j])

theorem final_4 : (dats m 0 c).arrAt 4 cfg0.N = onSheet .f32 (fun i j => (grad m c) j i) := by
  refine (dats m 0 c).arrAt_eq_of_covers 4 _ (by decide +kernel) fun t hf y => ?_
  blk_simp
  obtain ⟨i, j, rfl⟩ := eq_ix3 (a := 352) (b := 256) y
  refine Eq.trans (block_4 m c t i j) (onSheet_at .f32 (fun i j => (grad m c) j i) _ i (pos t j) ?_ ?_).symm
  all_goals (blk_simp [index_4, pos]; try (dsimp only; omega))

theorem block_5 (t : Fin cfg0.N) (i : Fin 352) (j : Fin 256) : ((dats m 0 c).after 5 t : Vec Ideal S1x352x256 .f32) (ix3 0 i j) = change (grad m c (pos t j) i) (weight m c (pos t j) i) (oldFirst m c (pos t j) i) (oldSecond m c (pos t j) i) := by
  rw [after0_5]
  exact (change_at _ _ _ _ i j).trans (by rw [grad_at m c t i j, iblk_1, iblk_2, iblk_3])

theorem final_5 : (dats m 0 c).arrAt 5 cfg0.N = onSheet .f32 (fun i j => (changes (grad m c) (weight m c) (oldFirst m c) (oldSecond m c)) j i) := by
  refine (dats m 0 c).arrAt_eq_of_covers 5 _ (by decide +kernel) fun t hf y => ?_
  blk_simp
  obtain ⟨i, j, rfl⟩ := eq_ix3 (a := 352) (b := 256) y
  refine Eq.trans (block_5 m c t i j) (onSheet_at .f32 (fun i j => (changes (grad m c) (weight m c) (oldFirst m c) (oldSecond m c)) j i) _ i (pos t j) ?_ ?_).symm
  all_goals (blk_simp [index_5, pos]; try (dsimp only; omega))

theorem block_6 (t : Fin cfg0.N) (i : Fin 352) (j : Fin 256) : ((dats m 0 c).after 6 t : Vec Ideal S1x352x256 .f32) (ix3 0 i j) = first (grad m c (pos t j) i) (oldFirst m c (pos t j) i) := by
  rw [after0_6]
  exact (first_at _ _ _ _ i j).trans (by rw [grad_at m c t i j, iblk_2])

theorem final_6 : (dats m 0 c).arrAt 6 cfg0.N = onSheet .f32 (fun i j => (firsts (grad m c) (oldFirst m c)) j i) := by
  refine (dats m 0 c).arrAt_eq_of_covers 6 _ (by decide +kernel) fun t hf y => ?_
  blk_simp
  obtain ⟨i, j, rfl⟩ := eq_ix3 (a := 352) (b := 256) y
  refine Eq.trans (block_6 m c t i j) (onSheet_at .f32 (fun i j => (firsts (grad m c) (oldFirst m c)) j i) _ i (pos t j) ?_ ?_).symm
  all_goals (blk_simp [index_6, pos]; try (dsimp only; omega))

theorem block_7 (t : Fin cfg0.N) (i : Fin 352) (j : Fin 256) : ((dats m 0 c).after 7 t : Vec Ideal S1x352x256 .f32) (ix3 0 i j) = second (grad m c (pos t j) i) (oldSecond m c (pos t j) i) := by
  rw [after0_7]
  exact (second_at _ _ _ _ i j).trans (by rw [grad_at m c t i j, iblk_3])

theorem final_7 : (dats m 0 c).arrAt 7 cfg0.N = onSheet .f32 (fun i j => (seconds (grad m c) (oldSecond m c)) j i) := by
  refine (dats m 0 c).arrAt_eq_of_covers 7 _ (by decide +kernel) fun t hf y => ?_
  blk_simp
  obtain ⟨i, j, rfl⟩ := eq_ix3 (a := 352) (b := 256) y
  refine Eq.trans (block_7 m c t i j) (onSheet_at .f32 (fun i j => (seconds (grad m c) (oldSecond m c)) j i) _ i (pos t j) ?_ ?_).symm
  all_goals (blk_simp [index_7, pos]; try (dsimp only; omega))

theorem exits (w : Fin 8) : Pipeline.withArrays spec0 c (V0 m c) (fun w => (dats m 0 c).arrAt w cfg0.N) (Proc.devRef .tc (Pipeline.arrRef spec0 w)) =
    (dats m 0 c).arrAt w cfg0.N :=
  Pipeline.withArrays_arr_shared spec0 c (V0 m c) (fun w => (dats m 0 c).arrAt w cfg0.N)
    ((dats m 0 c).arrAt_sharedIn (by decide) (V0 m c) (A_eq m c) _) w

/-- Result 1, turned back by the host. -/
theorem last_4 : Pipeline.afterTail₀ cfgs (dats m) 0 (V0 m) [hostOps1] c main_v4 = onSheet .f32 (grad m c) := by
  have h := (exits m c 4).trans (final_4 m c)
  unfold Pipeline.afterTail₀
  funext y
  obtain ⟨i, j, rfl⟩ := eq_ix3 (a := 1024) (b := 352) y
  refine Eq.trans ?_ (congrFun h (ix3 0 j i))
  after_reads_at

/-- Result 2, turned back by the host. -/
theorem last_5 : Pipeline.afterTail₀ cfgs (dats m) 0 (V0 m) [hostOps1] c main_v5 = onSheet .f32 (changes (grad m c) (weight m c) (oldFirst m c) (oldSecond m c)) := by
  have h := (exits m c 5).trans (final_5 m c)
  unfold Pipeline.afterTail₀
  funext y
  obtain ⟨i, j, rfl⟩ := eq_ix3 (a := 1024) (b := 352) y
  refine Eq.trans ?_ (congrFun h (ix3 0 j i))
  after_reads_at

/-- Result 3, turned back by the host. -/
theorem last_6 : Pipeline.afterTail₀ cfgs (dats m) 0 (V0 m) [hostOps1] c main_v6 = onSheet .f32 (firsts (grad m c) (oldFirst m c)) := by
  have h := (exits m c 6).trans (final_6 m c)
  unfold Pipeline.afterTail₀
  funext y
  obtain ⟨i, j, rfl⟩ := eq_ix3 (a := 1024) (b := 352) y
  refine Eq.trans ?_ (congrFun h (ix3 0 j i))
  after_reads_at

/-- Result 4, turned back by the host. -/
theorem last_7 : Pipeline.afterTail₀ cfgs (dats m) 0 (V0 m) [hostOps1] c main_v7 = onSheet .f32 (seconds (grad m c) (oldSecond m c)) := by
  have h := (exits m c 7).trans (final_7 m c)
  unfold Pipeline.afterTail₀
  funext y
  obtain ⟨i, j, rfl⟩ := eq_ix3 (a := 1024) (b := 352) y
  refine Eq.trans ?_ (congrFun h (ix3 0 j i))
  after_reads_at

/-- Every execution ends with the arguments unchanged and the gradient, the change and the new moments in the result arrays. -/
theorem run (ρ : Dev nD → PrngReg) : θ_run defs (onTc (τ := τ) (main (F := Ideal))) ⟨m, fun _ => 0, ρ⟩ fun r => ∀ c : Dev nD,
      r.2.mem (c.tc.loc main_v4) = onSheet .f32 (grad m c)
      ∧ r.2.mem (c.tc.loc main_v5) = onSheet .f32 (changes (grad m c) (weight m c) (oldFirst m c) (oldSecond m c))
      ∧ r.2.mem (c.tc.loc main_v6) = onSheet .f32 (firsts (grad m c) (oldFirst m c))
      ∧ r.2.mem (c.tc.loc main_v7) = onSheet .f32 (seconds (grad m c) (oldSecond m c))
      ∧ r.2.mem (c.tc.loc main_arg0) = m (c.tc.loc main_arg0)
      ∧ r.2.mem (c.tc.loc main_arg1) = m (c.tc.loc main_arg1)
      ∧ r.2.mem (c.tc.loc main_arg2) = m (c.tc.loc main_arg2)
      ∧ r.2.mem (c.tc.loc main_arg3) = m (c.tc.loc main_arg3) :=
  (θ_run defs _ _).mono (fun _ h c => ⟨((h c).2 main_v4 (Pipeline.mem_restRefs_of main_v4 (by decide) (by decide))).trans (last_4 m c),
    ((h c).2 main_v5 (Pipeline.mem_restRefs_of main_v5 (by decide) (by decide))).trans (last_5 m c),
    ((h c).2 main_v6 (Pipeline.mem_restRefs_of main_v6 (by decide) (by decide))).trans (last_6 m c),
    ((h c).2 main_v7 (Pipeline.mem_restRefs_of main_v7 (by decide) (by decide))).trans (last_7 m c),
    ((h c).1 0).trans (((dats m 0 c).arrAt_in 0 rfl _).trans ((A_eq m c 0).trans (V_main_arg0 m c))),
    ((h c).2 main_arg1 (Pipeline.mem_restRefs_of main_arg1 (by decide) (by decide))).trans (W_main_arg1 m (dats m) c),
    ((h c).2 main_arg2 (Pipeline.mem_restRefs_of main_arg2 (by decide) (by decide))).trans (W_main_arg2 m (dats m) c),
    ((h c).2 main_arg3 (Pipeline.mem_restRefs_of main_arg3 (by decide) (by decide))).trans (W_main_arg3 m (dats m) c)⟩)
    (run_main m ρ)

end Cert.Kernel10Ideal.Adam

end
-- ==== Proof.AdamRef10.lean ====
/-
  The reference of an optimiser step of one weight of 1024 rows and 352 columns: its four results.
-/
module

public import proofs.«01_k».proof.Proof.AdamHost
public import proofs.«01_k».proof.Proof.Gen.Reference10Ideal.Run

@[expose] public section

set_option maxRecDepth 16384

noncomputable section

namespace Cert.Reference10Ideal.Adam

open Idealize.ShloMosaic Idealize.ShloMosaic.TcCoe Idealize.ShloMosaic.Tactic Idealize.SL.Sem Idealize.ShloMosaic.StableHlo Cert.Ffn Cert.Adam Cert.Reference10Ideal Cert.Reference10Ideal.Gen

/-- Every execution ends with the arguments unchanged and the gradient, the change and the new moments in the result arrays. -/
theorem run (m : (ℓ : Loc nD τ sig) → Buf (Elt Ideal) ℓ) (ρ : Dev nD → PrngReg) : θ_run defs (onTc (τ := τ) (main (F := Ideal))) ⟨m, fun _ => 0, ρ⟩ fun r => ∀ c : Dev nD,
      Step (total .bf16 (m (c.tc.loc main_arg0) : Vec Ideal S8x1024x384 .bf16) (by decide : 1024 ≤ 1024) (by decide : 352 ≤ 384)) (m (c.tc.loc main_arg1))
        (m (c.tc.loc main_arg2)) (m (c.tc.loc main_arg3)) (r.2.mem (c.tc.loc main_v3)) (r.2.mem (c.tc.loc main_v27)) (r.2.mem (c.tc.loc main_v8)) (r.2.mem (c.tc.loc main_v14))
      ∧ r.2.mem (c.tc.loc main_arg0) = m (c.tc.loc main_arg0)
      ∧ r.2.mem (c.tc.loc main_arg1) = m (c.tc.loc main_arg1)
      ∧ r.2.mem (c.tc.loc main_arg2) = m (c.tc.loc main_arg2)
      ∧ r.2.mem (c.tc.loc main_arg3) = m (c.tc.loc main_arg3) :=
  (θ_run defs _ _).mono (fun _ h c => ⟨refStep (q := (extf .f32 (extractStridedSlice S8x1024x352 ![0, 0, 0] (m (c.tc.loc main_arg0) : Vec Ideal S8x1024x384 .bf16) slices_S8x1024x384_S8x1024x352_0_0_0) bitsLt_bf16_f32)) (hr := reducesTo_S8x1024x352_S1024x352_d0) (hn := h_S_)
      (h2 := bcast_S1024x352_S1x1024x352_1_2) (h0 := bcast_S_S1x1024x352) (fun s i j => by pointwise [])
      (h c).1 (h c).2.1 (h c).2.2.1 (h c).2.2.2.1, (h c).2.2.2.2⟩)
    (Cert.Reference10Ideal.Value.run m ρ)

end Cert.Reference10Ideal.Adam

end
-- ==== Proof.Adam11.lean ====
/-
  An optimiser step of one weight of 1024 rows and 609 columns: what the call leaves in its four result arrays.
-/
module

public import proofs.«01_k».proof.Proof.AdamSpec
public import proofs.«01_k».proof.Proof.Gen.Kernel11Ideal.Frame
public import Idealize.ShloMosaic.Lib.StableHlo.ReadAt
public import Idealize.ShloMosaic.Lib.Pipeline.ValueKit.Geometry
public import Idealize.ShloMosaic.Lib.Pipeline.ValueKit.Acc
public import Idealize.ShloMosaic.Lib.Pipeline.ValueKit.Tiles

@[expose] public section

set_option maxRecDepth 16384

noncomputable section

namespace Cert.Kernel11Ideal.Adam

open Idealize.ShloMosaic Idealize.ShloMosaic.TcCoe Idealize.ShloMosaic.Tactic Idealize.SL.Sem Idealize.ShloMosaic.StableHlo
open Cert.Kernel11Ideal Cert.Kernel11Ideal.Gen Cert.Ffn Cert.Adam

variable (x : Vec Ideal S8x256x640 .bf16) (w u v : Vec Ideal S609x1x256 .f32)

/-- The first result's block: the sum of the eight parts. -/
theorem total_at (i : Fin 609) (j : Fin 256) : out0_4 x w u v (ix3 i 0 j) =
    (over .bf16 x j ⟨i.val, by omega⟩) := by
  unfold_out out0_4
  frame_out
  unfold over
  rw [Fin.sum_univ_eight]
  pointwise [k0_pay6, k0_pay3]

/-- The second result's block: the change of the weight. -/
theorem change_at (i : Fin 609) (j : Fin 256) : out0_5 x w u v (ix3 i 0 j) =
    change (over .bf16 x j ⟨i.val, by omega⟩) (w (ix3 i 0 j)) (u (ix3 i 0 j)) (v (ix3 i 0 j)) := by
  unfold_out out0_5
  frame_out
  unfold over
  rw [Fin.sum_univ_eight]
  pointwise [k0_pay7, k0_pay4, k0_pay5, k0_pay3, change, first, second]

/-- The third result's block: the new first moment. -/
theorem first_at (i : Fin 609) (j : Fin 256) : out0_6 x w u v (ix3 i 0 j) =
    first (over .bf16 x j ⟨i.val, by omega⟩) (u (ix3 i 0 j)) := by
  unfold_out out0_6
  frame_out
  unfold over
  rw [Fin.sum_univ_eight]
  pointwise [k0_pay1, k0_pay4, k0_pay3, first]

/-- The fourth result's block: the new second moment. -/
theorem second_at (i : Fin 609) (j : Fin 256) : out0_7 x w u v (ix3 i 0 j) =
    second (over .bf16 x j ⟨i.val, by omega⟩) (v (ix3 i 0 j)) := by
  unfold_out out0_7
  frame_out
  unfold over
  rw [Fin.sum_univ_eight]
  pointwise [k0_pay2, k0_pay5, k0_pay3, second]

variable (m : (ℓ : Loc nD τ sig) → Buf (Elt Ideal) ℓ) (c : Dev nD)

theorem index_0 : ∀ t : Fin cfg0.N, win0_0.index t = ![0, t.val, 0] := by
  change ∀ t : Fin grid0.N, _; decide +kernel
theorem index_1 : ∀ t : Fin cfg0.N, win0_1.index t = ![0, 0, t.val] := by
  change ∀ t : Fin grid0.N, _; decide +kernel
theorem index_2 : ∀ t : Fin cfg0.N, win0_2.index t = ![0, 0, t.val] := by
  change ∀ t : Fin grid0.N, _; decide +kernel
theorem index_3 : ∀ t : Fin cfg0.N, win0_3.index t = ![0, 0, t.val] := by
  change ∀ t : Fin grid0.N, _; decide +kernel
theorem index_4 : ∀ t : Fin cfg0.N, win0_4.index t = ![0, 0, t.val] := by
  change ∀ t : Fin grid0.N, _; decide +kernel
theorem index_5 : ∀ t : Fin cfg0.N, win0_5.index t = ![0, 0, t.val] := by
  change ∀ t : Fin grid0.N, _; decide +kernel
theorem index_6 : ∀ t : Fin cfg0.N, win0_6.index t = ![0, 0, t.val] := by
  change ∀ t : Fin grid0.N, _; decide +kernel
theorem index_7 : ∀ t : Fin cfg0.N, win0_7.index t = ![0, 0, t.val] := by
  change ∀ t : Fin grid0.N, _; decide +kernel

theorem lt_points (t : Fin cfg0.N) : t.val < 4 := by have := t.isLt; have : cfg0.N = 4 := N_0; omega

/-- Column `r` of point `t`'s block of 256. -/
def pos (t : Fin cfg0.N) (r : Fin 256) : Fin 1024 := ⟨256 * t.val + r.val, by have := lt_points t; omega⟩

/-- The gradient: the sum of the parts, over the weight's rows and columns. -/
def grad : Mat 1024 609 := total .bf16 (m (c.tc.loc main_arg0) : Vec Ideal S8x1024x640 .bf16) (by decide) (by decide)

/-- The weight. -/
def weight : Mat 1024 609 := sheet .f32 (m (c.tc.loc main_arg1) : Vec Ideal S1x1024x609 .f32)

/-- The old first moment. -/
def oldFirst : Mat 1024 609 := sheet .f32 (m (c.tc.loc main_arg2) : Vec Ideal S1x1024x609 .f32)

/-- The old second moment. -/
def oldSecond : Mat 1024 609 := sheet .f32 (m (c.tc.loc main_arg3) : Vec Ideal S1x1024x609 .f32)

/-- The host's turned array 1. -/
theorem turned_1 (i : Fin 609) (j : Fin 1024) : (V m c main_v0 : Vec Ideal S609x1x1024 .f32) (ix3 i 0 j) = weight m c j i := by
  unfold V V0
  after_reads_at
  rfl

/-- The host's turned array 2. -/
theorem turned_2 (i : Fin 609) (j : Fin 1024) : (V m c main_v1 : Vec Ideal S609x1x1024 .f32) (ix3 i 0 j) = oldFirst m c j i := by
  unfold V V0
  after_reads_at
  rfl

/-- The host's turned array 3. -/
theorem turned_3 (i : Fin 609) (j : Fin 1024) : (V m c main_v2 : Vec Ideal S609x1x1024 .f32) (ix3 i 0 j) = oldSecond m c j i := by
  unfold V V0
  after_reads_at
  rfl

theorem iblk_0 (t : Fin cfg0.N) (s : Fin 8) (j : Fin 256) (k : Fin 640) : (iblk m c 0 t : Vec Ideal S8x256x640 .bf16) (ix3 s j k) =
    (m (c.tc.loc main_arg0) : Vec Ideal S8x1024x640 .bf16) (ix3 s (pos t j) k) := by
  blk_simp [iblk]
  refine congrArg (m (c.tc.loc main_arg0) : Vec Ideal S8x1024x640 .bf16) ?_
  blk_ext [index_0, pos]

theorem iblk_1 (t : Fin cfg0.N) (i : Fin 609) (j : Fin 256) : (iblk m c 1 t : Vec Ideal S609x1x256 .f32) (ix3 i 0 j) = weight m c (pos t j) i := by
  refine Eq.trans ?_ (turned_1 m c i (pos t j))
  blk_simp [iblk]
  refine congrArg (V m c main_v0 : Vec Ideal S609x1x1024 .f32) ?_
  blk_ext [index_1, pos]

theorem iblk_2 (t : Fin cfg0.N) (i : Fin 609) (j : Fin 256) : (iblk m c 2 t : Vec Ideal S609x1x256 .f32) (ix3 i 0 j) = oldFirst m c (pos t j) i := by
  refine Eq.trans ?_ (turned_2 m c i (pos t j))
  blk_simp [iblk]
  refine congrArg (V m c main_v1 : Vec Ideal S609x1x1024 .f32) ?_
  blk_ext [index_2, pos]

theorem iblk_3 (t : Fin cfg0.N) (i : Fin 609) (j : Fin 256) : (iblk m c 3 t : Vec Ideal S609x1x256 .f32) (ix3 i 0 j) = oldSecond m c (pos t j) i := by
  refine Eq.trans ?_ (turned_3 m c i (pos t j))
  blk_simp [iblk]
  refine congrArg (V m c main_v2 : Vec Ideal S609x1x1024 .f32) ?_
  blk_ext [index_3, pos]

/-- The parts' sum over a block is the gradient's block. -/
theorem grad_at (t : Fin cfg0.N) (i : Fin 609) (j : Fin 256) : over .bf16 (iblk m c 0 t : Vec Ideal S8x256x640 .bf16) j ⟨i.val, by omega⟩ = grad m c (pos t j) i :=
  over_congr .bf16 _ _ _ _ _ _ fun s => iblk_0 m c t s j _

theorem block_4 (t : Fin cfg0.N) (i : Fin 609) (j : Fin 256) : ((dats m 0 c).after 4 t : Vec Ideal S609x1x256 .f32) (ix3 i 0 j) = (grad m c (pos t j) i) := by
  rw [after0_4]
  exact (total_at _ _ _ _ i j).trans (by rw [grad_at m c t i j])

theorem final_4 : (dats m 0 c).arrAt 4 cfg0.N = fun y : S609x1x1024.Idx => (grad m c) (y 2) (y 0) := by
  refine (dats m 0 c).arrAt_eq_of_covers 4 _ (by decide +kernel) fun t hf y => ?_
  blk_simp
  obtain ⟨i, j, rfl⟩ := eq_mid (a := 609) (b := 256) y
  refine (block_4 m c t i j).trans (congrArg₂ (grad m c) (Fin.ext ?_) (Fin.ext ?_))
  all_goals (blk_simp [index_4, pos]; try (dsimp only; omega))

theorem block_5 (t : Fin cfg0.N) (i : Fin 609) (j : Fin 256) : ((dats m 0 c).after 5 t : Vec Ideal S609x1x256 .f32) (ix3 i 0 j) = change (grad m c (pos t j) i) (weight m c (pos t j) i) (oldFirst m c (pos t j) i) (oldSecond m c (pos t j) i) := by
  rw [after0_5]
  exact (change_at _ _ _ _ i j).trans (by rw [grad_at m c t i j, iblk_1, iblk_2, iblk_3])

theorem final_5 : (dats m 0 c).arrAt 5 cfg0.N = fun y : S609x1x1024.Idx => (changes (grad m c) (weight m c) (oldFirst m c) (oldSecond m c)) (y 2) (y 0) := by
  refine (dats m 0 c).arrAt_eq_of_covers 5 _ (by decide +kernel) fun t hf y => ?_
  blk_simp
  obtain ⟨i, j, rfl⟩ := eq_mid (a := 609) (b := 256) y
  refine (block_5 m c t i j).trans (congrArg₂ (changes (grad m c) (weight m c) (oldFirst m c) (oldSecond m c)) (Fin.ext ?_) (Fin.ext ?_))
  all_goals (blk_simp [index_5, pos]; try (dsimp only; omega))

theorem block_6 (t : Fin cfg0.N) (i : Fin 609) (j : Fin 256) : ((dats m 0 c).after 6 t : Vec Ideal S609x1x256 .f32) (ix3 i 0 j) = first (grad m c (pos t j) i) (oldFirst m c (pos t j) i) := by
  rw [after0_6]
  exact (first_at _ _ _ _ i j).trans (by rw [grad_at m c t i j, iblk_2])

theorem final_6 : (dats m 0 c).arrAt 6 cfg0.N = fun y : S609x1x1024.Idx => (firsts (grad m c) (oldFirst m c)) (y 2) (y 0) := by
  refine (dats m 0 c).arrAt_eq_of_covers 6 _ (by decide +kernel) fun t hf y => ?_
  blk_simp
  obtain ⟨i, j, rfl⟩ := eq_mid (a := 609) (b := 256) y
  refine (block_6 m c t i j).trans (congrArg₂ (firsts (grad m c) (oldFirst m c)) (Fin.ext ?_) (Fin.ext ?_))
  all_goals (blk_simp [index_6, pos]; try (dsimp only; omega))

theorem block_7 (t : Fin cfg0.N) (i : Fin 609) (j : Fin 256) : ((dats m 0 c).after 7 t : Vec Ideal S609x1x256 .f32) (ix3 i 0 j) = second (grad m c (pos t j) i) (oldSecond m c (pos t j) i) := by
  rw [after0_7]
  exact (second_at _ _ _ _ i j).trans (by rw [grad_at m c t i j, iblk_3])

theorem final_7 : (dats m 0 c).arrAt 7 cfg0.N = fun y : S609x1x1024.Idx => (seconds (grad m c) (oldSecond m c)) (y 2) (y 0) := by
  refine (dats m 0 c).arrAt_eq_of_covers 7 _ (by decide +kernel) fun t hf y => ?_
  blk_simp
  obtain ⟨i, j, rfl⟩ := eq_mid (a := 609) (b := 256) y
  refine (block_7 m c t i j).trans (congrArg₂ (seconds (grad m c) (oldSecond m c)) (Fin.ext ?_) (Fin.ext ?_))
  all_goals (blk_simp [index_7, pos]; try (dsimp only; omega))

theorem exits (w : Fin 8) : Pipeline.withArrays spec0 c (V0 m c) (fun w => (dats m 0 c).arrAt w cfg0.N) (Proc.devRef .tc (Pipeline.arrRef spec0 w)) =
    (dats m 0 c).arrAt w cfg0.N :=
  Pipeline.withArrays_arr_shared spec0 c (V0 m c) (fun w => (dats m 0 c).arrAt w cfg0.N)
    ((dats m 0 c).arrAt_sharedIn (by decide) (V0 m c) (A_eq m c) _) w

/-- Result 1, turned back by the host. -/
theorem last_4 : Pipeline.afterTail₀ cfgs (dats m) 0 (V0 m) [hostOps1] c main_v4 = onSheet .f32 (grad m c) := by
  have h := (exits m c 4).trans (final_4 m c)
  unfold Pipeline.afterTail₀
  funext y
  obtain ⟨i, j, rfl⟩ := eq_ix3 (a := 1024) (b := 609) y
  refine Eq.trans ?_ (congrFun h (ix3 j 0 i))
  after_reads_at

/-- Result 2, turned back by the host. -/
theorem last_5 : Pipeline.afterTail₀ cfgs (dats m) 0 (V0 m) [hostOps1] c main_v5 = onSheet .f32 (changes (grad m c) (weight m c) (oldFirst m c) (oldSecond m c)) := by
  have h := (exits m c 5).trans (final_5 m c)
  unfold Pipeline.afterTail₀
  funext y
  obtain ⟨i, j, rfl⟩ := eq_ix3 (a := 1024) (b := 609) y
  refine Eq.trans ?_ (congrFun h (ix3 j 0 i))
  after_reads_at

/-- Result 3, turned back by the host. -/
theorem last_6 : Pipeline.afterTail₀ cfgs (dats m) 0 (V0 m) [hostOps1] c main_v6 = onSheet .f32 (firsts (grad m c) (oldFirst m c)) := by
  have h := (exits m c 6).trans (final_6 m c)
  unfold Pipeline.afterTail₀
  funext y
  obtain ⟨i, j, rfl⟩ := eq_ix3 (a := 1024) (b := 609) y
  refine Eq.trans ?_ (congrFun h (ix3 j 0 i))
  after_reads_at

/-- Result 4, turned back by the host. -/
theorem last_7 : Pipeline.afterTail₀ cfgs (dats m) 0 (V0 m) [hostOps1] c main_v7 = onSheet .f32 (seconds (grad m c) (oldSecond m c)) := by
  have h := (exits m c 7).trans (final_7 m c)
  unfold Pipeline.afterTail₀
  funext y
  obtain ⟨i, j, rfl⟩ := eq_ix3 (a := 1024) (b := 609) y
  refine Eq.trans ?_ (congrFun h (ix3 j 0 i))
  after_reads_at

/-- Every execution ends with the arguments unchanged and the gradient, the change and the new moments in the result arrays. -/
theorem run (ρ : Dev nD → PrngReg) : θ_run defs (onTc (τ := τ) (main (F := Ideal))) ⟨m, fun _ => 0, ρ⟩ fun r => ∀ c : Dev nD,
      r.2.mem (c.tc.loc main_v4) = onSheet .f32 (grad m c)
      ∧ r.2.mem (c.tc.loc main_v5) = onSheet .f32 (changes (grad m c) (weight m c) (oldFirst m c) (oldSecond m c))
      ∧ r.2.mem (c.tc.loc main_v6) = onSheet .f32 (firsts (grad m c) (oldFirst m c))
      ∧ r.2.mem (c.tc.loc main_v7) = onSheet .f32 (seconds (grad m c) (oldSecond m c))
      ∧ r.2.mem (c.tc.loc main_arg0) = m (c.tc.loc main_arg0)
      ∧ r.2.mem (c.tc.loc main_arg1) = m (c.tc.loc main_arg1)
      ∧ r.2.mem (c.tc.loc main_arg2) = m (c.tc.loc main_arg2)
      ∧ r.2.mem (c.tc.loc main_arg3) = m (c.tc.loc main_arg3) :=
  (θ_run defs _ _).mono (fun _ h c => ⟨((h c).2 main_v4 (Pipeline.mem_restRefs_of main_v4 (by decide) (by decide))).trans (last_4 m c),
    ((h c).2 main_v5 (Pipeline.mem_restRefs_of main_v5 (by decide) (by decide))).trans (last_5 m c),
    ((h c).2 main_v6 (Pipeline.mem_restRefs_of main_v6 (by decide) (by decide))).trans (last_6 m c),
    ((h c).2 main_v7 (Pipeline.mem_restRefs_of main_v7 (by decide) (by decide))).trans (last_7 m c),
    ((h c).1 0).trans (((dats m 0 c).arrAt_in 0 rfl _).trans ((A_eq m c 0).trans (V_main_arg0 m c))),
    ((h c).2 main_arg1 (Pipeline.mem_restRefs_of main_arg1 (by decide) (by decide))).trans (W_main_arg1 m (dats m) c),
    ((h c).2 main_arg2 (Pipeline.mem_restRefs_of main_arg2 (by decide) (by decide))).trans (W_main_arg2 m (dats m) c),
    ((h c).2 main_arg3 (Pipeline.mem_restRefs_of main_arg3 (by decide) (by decide))).trans (W_main_arg3 m (dats m) c)⟩)
    (run_main m ρ)

end Cert.Kernel11Ideal.Adam

end
-- ==== Proof.AdamRef11.lean ====
/-
  The reference of an optimiser step of one weight of 1024 rows and 609 columns: its four results.
-/
module

public import proofs.«01_k».proof.Proof.AdamHost
public import proofs.«01_k».proof.Proof.Gen.Reference11Ideal.Run

@[expose] public section

set_option maxRecDepth 16384

noncomputable section

namespace Cert.Reference11Ideal.Adam

open Idealize.ShloMosaic Idealize.ShloMosaic.TcCoe Idealize.ShloMosaic.Tactic Idealize.SL.Sem Idealize.ShloMosaic.StableHlo Cert.Ffn Cert.Adam Cert.Reference11Ideal Cert.Reference11Ideal.Gen

/-- Every execution ends with the arguments unchanged and the gradient, the change and the new moments in the result arrays. -/
theorem run (m : (ℓ : Loc nD τ sig) → Buf (Elt Ideal) ℓ) (ρ : Dev nD → PrngReg) : θ_run defs (onTc (τ := τ) (main (F := Ideal))) ⟨m, fun _ => 0, ρ⟩ fun r => ∀ c : Dev nD,
      Step (total .bf16 (m (c.tc.loc main_arg0) : Vec Ideal S8x1024x640 .bf16) (by decide : 1024 ≤ 1024) (by decide : 609 ≤ 640)) (m (c.tc.loc main_arg1))
        (m (c.tc.loc main_arg2)) (m (c.tc.loc main_arg3)) (r.2.mem (c.tc.loc main_v3)) (r.2.mem (c.tc.loc main_v27)) (r.2.mem (c.tc.loc main_v8)) (r.2.mem (c.tc.loc main_v14))
      ∧ r.2.mem (c.tc.loc main_arg0) = m (c.tc.loc main_arg0)
      ∧ r.2.mem (c.tc.loc main_arg1) = m (c.tc.loc main_arg1)
      ∧ r.2.mem (c.tc.loc main_arg2) = m (c.tc.loc main_arg2)
      ∧ r.2.mem (c.tc.loc main_arg3) = m (c.tc.loc main_arg3) :=
  (θ_run defs _ _).mono (fun _ h c => ⟨refStep (q := (extf .f32 (extractStridedSlice S8x1024x609 ![0, 0, 0] (m (c.tc.loc main_arg0) : Vec Ideal S8x1024x640 .bf16) slices_S8x1024x640_S8x1024x609_0_0_0) bitsLt_bf16_f32)) (hr := reducesTo_S8x1024x609_S1024x609_d0) (hn := h_S_)
      (h2 := bcast_S1024x609_S1x1024x609_1_2) (h0 := bcast_S_S1x1024x609) (fun s i j => by pointwise [])
      (h c).1 (h c).2.1 (h c).2.2.1 (h c).2.2.2.1, (h c).2.2.2.2⟩)
    (Cert.Reference11Ideal.Value.run m ρ)

end Cert.Reference11Ideal.Adam

end
-- ==== Proof.Adam12.lean ====
/-
  An optimiser step of one weight of 4 rows and 192 columns: what the call leaves in its four result arrays.
-/
module

public import proofs.«01_k».proof.Proof.AdamSpec
public import proofs.«01_k».proof.Proof.Gen.Kernel12Ideal.Frame
public import Idealize.ShloMosaic.Lib.StableHlo.ReadAt
public import Idealize.ShloMosaic.Lib.Pipeline.ValueKit.Geometry
public import Idealize.ShloMosaic.Lib.Pipeline.ValueKit.Acc
public import Idealize.ShloMosaic.Lib.Pipeline.ValueKit.Tiles

@[expose] public section

set_option maxRecDepth 16384

noncomputable section

namespace Cert.Kernel12Ideal.Adam

open Idealize.ShloMosaic Idealize.ShloMosaic.TcCoe Idealize.ShloMosaic.Tactic Idealize.SL.Sem Idealize.ShloMosaic.StableHlo
open Cert.Kernel12Ideal Cert.Kernel12Ideal.Gen Cert.Ffn Cert.Adam

variable (x : Vec Ideal S8x4x192 .f32) (w u v : Vec Ideal S1x4x192 .f32)

/-- The first result's block: the sum of the eight parts. -/
theorem total_at (i : Fin 4) (j : Fin 192) : out0_4 x w u v (ix3 0 i j) =
    (over .f32 x i j) := by
  unfold_out out0_4
  frame_out
  unfold over
  rw [Fin.sum_univ_eight]
  pointwise [k0_pay7, k0_pay2]

/-- The second result's block: the change of the weight. -/
theorem change_at (i : Fin 4) (j : Fin 192) : out0_5 x w u v (ix3 0 i j) =
    change (over .f32 x i j) (w (ix3 0 i j)) (u (ix3 0 i j)) (v (ix3 0 i j)) := by
  unfold_out out0_5
  frame_out
  unfold over
  rw [Fin.sum_univ_eight]
  pointwise [k0_pay8, k0_pay5, k0_pay6, k0_pay2, k0_pay3, k0_pay4, change, first, second]

/-- The third result's block: the new first moment. -/
theorem first_at (i : Fin 4) (j : Fin 192) : out0_6 x w u v (ix3 0 i j) =
    first (over .f32 x i j) (u (ix3 0 i j)) := by
  unfold_out out0_6
  frame_out
  unfold over
  rw [Fin.sum_univ_eight]
  pointwise [k0_pay9, k0_pay5, k0_pay2, k0_pay4, first]

/-- The fourth result's block: the new second moment. -/
theorem second_at (i : Fin 4) (j : Fin 192) : out0_7 x w u v (ix3 0 i j) =
    second (over .f32 x i j) (v (ix3 0 i j)) := by
  unfold_out out0_7
  frame_out
  unfold over
  rw [Fin.sum_univ_eight]
  pointwise [k0_pay1, k0_pay6, k0_pay2, second]

variable (m : (ℓ : Loc nD τ sig) → Buf (Elt Ideal) ℓ) (c : Dev nD)

theorem index_0 : ∀ t : Fin cfg0.N, win0_0.index t = ![0, t.val, 0] := by
  change ∀ t : Fin grid0.N, _; decide +kernel
theorem index_1 : ∀ t : Fin cfg0.N, win0_1.index t = ![0, t.val, 0] := by
  change ∀ t : Fin grid0.N, _; decide +kernel
theorem index_2 : ∀ t : Fin cfg0.N, win0_2.index t = ![0, t.val, 0] := by
  change ∀ t : Fin grid0.N, _; decide +kernel
theorem index_3 : ∀ t : Fin cfg0.N, win0_3.index t = ![0, t.val, 0] := by
  change ∀ t : Fin grid0.N, _; decide +kernel
theorem index_4 : ∀ t : Fin cfg0.N, win0_4.index t = ![0, t.val, 0] := by
  change ∀ t : Fin grid0.N, _; decide +kernel
theorem index_5 : ∀ t : Fin cfg0.N, win0_5.index t = ![0, t.val, 0] := by
  change ∀ t : Fin grid0.N, _; decide +kernel
theorem index_6 : ∀ t : Fin cfg0.N, win0_6.index t = ![0, t.val, 0] := by
  change ∀ t : Fin grid0.N, _; decide +kernel
theorem index_7 : ∀ t : Fin cfg0.N, win0_7.index t = ![0, t.val, 0] := by
  change ∀ t : Fin grid0.N, _; decide +kernel

theorem lt_points (t : Fin cfg0.N) : t.val < 1 := by have := t.isLt; have : cfg0.N = 1 := N_0; omega

/-- Row `r` of point `t`'s block of 4. -/
def pos (t : Fin cfg0.N) (r : Fin 4) : Fin 4 := ⟨4 * t.val + r.val, by have := lt_points t; omega⟩

/-- The gradient: the sum of the parts, over the weight's rows and columns. -/
def grad : Mat 4 192 := total .f32 (m (c.tc.loc main_arg0) : Vec Ideal S8x4x192 .f32) (by decide) (by decide)

/-- The weight. -/
def weight : Mat 4 192 := sheet .f32 (m (c.tc.loc main_arg1) : Vec Ideal S1x4x192 .f32)

/-- The old first moment. -/
def oldFirst : Mat 4 192 := sheet .f32 (m (c.tc.loc main_arg2) : Vec Ideal S1x4x192 .f32)

/-- The old second moment. -/
def oldSecond : Mat 4 192 := sheet .f32 (m (c.tc.loc main_arg3) : Vec Ideal S1x4x192 .f32)

theorem iblk_0 (t : Fin cfg0.N) (s : Fin 8) (i : Fin 4) (j : Fin 192) : (iblk m c 0 t : Vec Ideal S8x4x192 .f32) (ix3 s i j) =
    (m (c.tc.loc main_arg0) : Vec Ideal S8x4x192 .f32) (ix3 s (pos t i) j) := by
  blk_simp [iblk]
  refine congrArg (m (c.tc.loc main_arg0) : Vec Ideal S8x4x192 .f32) ?_
  blk_ext [index_0, pos]

theorem iblk_1 (t : Fin cfg0.N) (i : Fin 4) (j : Fin 192) : (iblk m c 1 t : Vec Ideal S1x4x192 .f32) (ix3 0 i j) = weight m c (pos t i) j := by
  unfold weight sheet
  blk_simp [iblk]
  refine congrArg (m (c.tc.loc main_arg1) : Vec Ideal S1x4x192 .f32) ?_
  blk_ext [index_1, pos]

theorem iblk_2 (t : Fin cfg0.N) (i : Fin 4) (j : Fin 192) : (iblk m c 2 t : Vec Ideal S1x4x192 .f32) (ix3 0 i j) = oldFirst m c (pos t i) j := by
  unfold oldFirst sheet
  blk_simp [iblk]
  refine congrArg (m (c.tc.loc main_arg2) : Vec Ideal S1x4x192 .f32) ?_
  blk_ext [index_2, pos]

theorem iblk_3 (t : Fin cfg0.N) (i : Fin 4) (j : Fin 192) : (iblk m c 3 t : Vec Ideal S1x4x192 .f32) (ix3 0 i j) = oldSecond m c (pos t i) j := by
  unfold oldSecond sheet
  blk_simp [iblk]
  refine congrArg (m (c.tc.loc main_arg3) : Vec Ideal S1x4x192 .f32) ?_
  blk_ext [index_3, pos]

/-- The parts' sum over a block is the gradient's block. -/
theorem grad_at (t : Fin cfg0.N) (i : Fin 4) (j : Fin 192) : over .f32 (iblk m c 0 t : Vec Ideal S8x4x192 .f32) i j = grad m c (pos t i) j :=
  over_congr .f32 _ _ _ _ _ _ fun s => iblk_0 m c t s i j

theorem block_4 (t : Fin cfg0.N) (i : Fin 4) (j : Fin 192) : ((dats m 0 c).after 4 t : Vec Ideal S1x4x192 .f32) (ix3 0 i j) = (grad m c (pos t i) j) := by
  rw [after0_4]
  exact (total_at _ _ _ _ i j).trans (by rw [grad_at m c t i j])

theorem final_4 : (dats m 0 c).arrAt 4 cfg0.N = onSheet .f32 (grad m c) := by
  refine (dats m 0 c).arrAt_eq_of_covers 4 _ (by decide +kernel) fun t hf y => ?_
  blk_simp
  obtain ⟨i, j, rfl⟩ := eq_ix3 (a := 4) (b := 192) y
  refine Eq.trans (block_4 m c t i j) (onSheet_at .f32 (grad m c) _ (pos t i) j ?_ ?_).symm
  all_goals (blk_simp [index_4, pos]; try (dsimp only; omega))

theorem block_5 (t : Fin cfg0.N) (i : Fin 4) (j : Fin 192) : ((dats m 0 c).after 5 t : Vec Ideal S1x4x192 .f32) (ix3 0 i j) = change (grad m c (pos t i) j) (weight m c (pos t i) j) (oldFirst m c (pos t i) j) (oldSecond m c (pos t i) j) := by
  rw [after0_5]
  exact (change_at _ _ _ _ i j).trans (by rw [grad_at m c t i j, iblk_1, iblk_2, iblk_3])

theorem final_5 : (dats m 0 c).arrAt 5 cfg0.N = onSheet .f32 (changes (grad m c) (weight m c) (oldFirst m c) (oldSecond m c)) := by
  refine (dats m 0 c).arrAt_eq_of_covers 5 _ (by decide +kernel) fun t hf y => ?_
  blk_simp
  obtain ⟨i, j, rfl⟩ := eq_ix3 (a := 4) (b := 192) y
  refine Eq.trans (block_5 m c t i j) (onSheet_at .f32 (changes (grad m c) (weight m c) (oldFirst m c) (oldSecond m c)) _ (pos t i) j ?_ ?_).symm
  all_goals (blk_simp [index_5, pos]; try (dsimp only; omega))

theorem block_6 (t : Fin cfg0.N) (i : Fin 4) (j : Fin 192) : ((dats m 0 c).after 6 t : Vec Ideal S1x4x192 .f32) (ix3 0 i j) = first (grad m c (pos t i) j) (oldFirst m c (pos t i) j) := by
  rw [after0_6]
  exact (first_at _ _ _ _ i j).trans (by rw [grad_at m c t i j, iblk_2])

theorem final_6 : (dats m 0 c).arrAt 6 cfg0.N = onSheet .f32 (firsts (grad m c) (oldFirst m c)) := by
  refine (dats m 0 c).arrAt_eq_of_covers 6 _ (by decide +kernel) fun t hf y => ?_
  blk_simp
  obtain ⟨i, j, rfl⟩ := eq_ix3 (a := 4) (b := 192) y
  refine Eq.trans (block_6 m c t i j) (onSheet_at .f32 (firsts (grad m c) (oldFirst m c)) _ (pos t i) j ?_ ?_).symm
  all_goals (blk_simp [index_6, pos]; try (dsimp only; omega))

theorem block_7 (t : Fin cfg0.N) (i : Fin 4) (j : Fin 192) : ((dats m 0 c).after 7 t : Vec Ideal S1x4x192 .f32) (ix3 0 i j) = second (grad m c (pos t i) j) (oldSecond m c (pos t i) j) := by
  rw [after0_7]
  exact (second_at _ _ _ _ i j).trans (by rw [grad_at m c t i j, iblk_3])

theorem final_7 : (dats m 0 c).arrAt 7 cfg0.N = onSheet .f32 (seconds (grad m c) (oldSecond m c)) := by
  refine (dats m 0 c).arrAt_eq_of_covers 7 _ (by decide +kernel) fun t hf y => ?_
  blk_simp
  obtain ⟨i, j, rfl⟩ := eq_ix3 (a := 4) (b := 192) y
  refine Eq.trans (block_7 m c t i j) (onSheet_at .f32 (seconds (grad m c) (oldSecond m c)) _ (pos t i) j ?_ ?_).symm
  all_goals (blk_simp [index_7, pos]; try (dsimp only; omega))

/-- Every execution ends with the arguments unchanged and the gradient, the change and the new moments in the result arrays. -/
theorem run (ρ : Dev nD → PrngReg) : θ_run defs (onTc (τ := τ) (main (F := Ideal))) ⟨m, fun _ => 0, ρ⟩ fun r => ∀ c : Dev nD,
      r.2.mem (c.tc.loc main_v0_0) = onSheet .f32 (grad m c)
      ∧ r.2.mem (c.tc.loc main_v0_1) = onSheet .f32 (changes (grad m c) (weight m c) (oldFirst m c) (oldSecond m c))
      ∧ r.2.mem (c.tc.loc main_v0_2) = onSheet .f32 (firsts (grad m c) (oldFirst m c))
      ∧ r.2.mem (c.tc.loc main_v0_3) = onSheet .f32 (seconds (grad m c) (oldSecond m c))
      ∧ r.2.mem (c.tc.loc main_arg0) = m (c.tc.loc main_arg0)
      ∧ r.2.mem (c.tc.loc main_arg1) = m (c.tc.loc main_arg1)
      ∧ r.2.mem (c.tc.loc main_arg2) = m (c.tc.loc main_arg2)
      ∧ r.2.mem (c.tc.loc main_arg3) = m (c.tc.loc main_arg3) :=
  (θ_run defs _ _).mono (fun _ h c => ⟨((h c).1 4).trans (final_4 m c),
    ((h c).1 5).trans (final_5 m c),
    ((h c).1 6).trans (final_6 m c),
    ((h c).1 7).trans (final_7 m c),
    ((h c).1 0).trans (((dats m 0 c).arrAt_in 0 rfl _).trans (A_eq m c 0)),
    ((h c).1 1).trans (((dats m 0 c).arrAt_in 1 rfl _).trans (A_eq m c 1)),
    ((h c).1 2).trans (((dats m 0 c).arrAt_in 2 rfl _).trans (A_eq m c 2)),
    ((h c).1 3).trans (((dats m 0 c).arrAt_in 3 rfl _).trans (A_eq m c 3))⟩)
    (run_main m ρ)

end Cert.Kernel12Ideal.Adam

end
-- ==== Proof.AdamRef12.lean ====
/-
  The reference of an optimiser step of one weight of 4 rows and 192 columns: its four results.
-/
module

public import proofs.«01_k».proof.Proof.AdamHost
public import proofs.«01_k».proof.Proof.Gen.Reference12Ideal.Run

@[expose] public section

set_option maxRecDepth 16384

noncomputable section

namespace Cert.Reference12Ideal.Adam

open Idealize.ShloMosaic Idealize.ShloMosaic.TcCoe Idealize.ShloMosaic.Tactic Idealize.SL.Sem Idealize.ShloMosaic.StableHlo Cert.Ffn Cert.Adam Cert.Reference12Ideal Cert.Reference12Ideal.Gen

/-- Every execution ends with the arguments unchanged and the gradient, the change and the new moments in the result arrays. -/
theorem run (m : (ℓ : Loc nD τ sig) → Buf (Elt Ideal) ℓ) (ρ : Dev nD → PrngReg) : θ_run defs (onTc (τ := τ) (main (F := Ideal))) ⟨m, fun _ => 0, ρ⟩ fun r => ∀ c : Dev nD,
      Step (total .f32 (m (c.tc.loc main_arg0) : Vec Ideal S8x4x192 .f32) (by decide : 4 ≤ 4) (by decide : 192 ≤ 192)) (m (c.tc.loc main_arg1))
        (m (c.tc.loc main_arg2)) (m (c.tc.loc main_arg3)) (r.2.mem (c.tc.loc main_v1)) (r.2.mem (c.tc.loc main_v25)) (r.2.mem (c.tc.loc main_v6)) (r.2.mem (c.tc.loc main_v12))
      ∧ r.2.mem (c.tc.loc main_arg0) = m (c.tc.loc main_arg0)
      ∧ r.2.mem (c.tc.loc main_arg1) = m (c.tc.loc main_arg1)
      ∧ r.2.mem (c.tc.loc main_arg2) = m (c.tc.loc main_arg2)
      ∧ r.2.mem (c.tc.loc main_arg3) = m (c.tc.loc main_arg3) :=
  (θ_run defs _ _).mono (fun _ h c => ⟨refStep (q := (m (c.tc.loc main_arg0) : Vec Ideal S8x4x192 .f32)) (hr := reducesTo_S8x4x192_S4x192_d0) (hn := h_S_)
      (h2 := bcast_S4x192_S1x4x192_1_2) (h0 := bcast_S_S1x4x192) (fun s i j => rfl)
      (h c).1 (h c).2.1 (h c).2.2.1 (h c).2.2.2.1, (h c).2.2.2.2⟩)
    (Cert.Reference12Ideal.Value.run m ρ)

end Cert.Reference12Ideal.Adam

end
-- ==== Proof.Adam13.lean ====
/-
  The optimiser's step of w_branch_swa and its reference: the same call, of the same shapes, as another weight's, so
  that what is known of that holds here.
-/
module

public import proofs.«01_k».proof.Proof.Adam9
public import proofs.«01_k».proof.Proof.AdamRef9
public import proofs.«01_k».proof.Proof.Gen.Kernel13Ideal.Launch
public import proofs.«01_k».proof.Proof.Gen.Reference13Ideal.Run

@[expose] public section

set_option maxRecDepth 16384

noncomputable section

namespace Cert

open Idealize.ShloMosaic Idealize.ShloMosaic.TcCoe Idealize.SL.Sem Cert.Ffn Cert.Adam

namespace Kernel13Ideal.Adam

/-- The body's table is that of the other weight's call. -/
theorem bodies : defs₀ (F := Ideal) = Cert.Kernel9Ideal.defs₀ (F := Ideal) := by
  unfold defs₀ Cert.Kernel9Ideal.defs₀
  congr 1
  funext l a
  match l, a with
  | 0, (t, s) => rfl

/-- So is the whole table, with the regions. -/
theorem tables : defs (F := Ideal) = Cert.Kernel9Ideal.defs (F := Ideal) := congrArg (Pipeline.defs pcfgs) bodies

open Cert.Kernel9Ideal.Adam (grad weight oldFirst oldSecond) in
/-- Every execution ends with the arguments unchanged and the gradient, the change and the new moments in the result arrays. -/
theorem run (m : (ℓ : Loc nD τ sig) → Buf (Elt Ideal) ℓ) (ρ : Dev nD → PrngReg) : θ_run defs (onTc (τ := τ) (main (F := Ideal))) ⟨m, fun _ => 0, ρ⟩ fun r => ∀ c : Dev nD,
      r.2.mem (c.tc.loc main_v0_0) = onSheet .f32 (grad m c)
      ∧ r.2.mem (c.tc.loc main_v0_1) = onSheet .f32 (changes (grad m c) (weight m c) (oldFirst m c) (oldSecond m c))
      ∧ r.2.mem (c.tc.loc main_v0_2) = onSheet .f32 (firsts (grad m c) (oldFirst m c))
      ∧ r.2.mem (c.tc.loc main_v0_3) = onSheet .f32 (seconds (grad m c) (oldSecond m c))
      ∧ r.2.mem (c.tc.loc main_arg0) = m (c.tc.loc main_arg0)
      ∧ r.2.mem (c.tc.loc main_arg1) = m (c.tc.loc main_arg1)
      ∧ r.2.mem (c.tc.loc main_arg2) = m (c.tc.loc main_arg2)
      ∧ r.2.mem (c.tc.loc main_arg3) = m (c.tc.loc main_arg3) := by
  have h := Cert.Kernel9Ideal.Adam.run m ρ
  rw [← tables] at h
  exact h

end Kernel13Ideal.Adam

namespace Reference13Ideal.Adam

/-- Every execution ends with the arguments unchanged and the gradient, the change and the new moments in the result arrays. -/
theorem run (m : (ℓ : Loc nD τ sig) → Buf (Elt Ideal) ℓ) (ρ : Dev nD → PrngReg) : θ_run defs (onTc (τ := τ) (main (F := Ideal))) ⟨m, fun _ => 0, ρ⟩ fun r => ∀ c : Dev nD,
      Step (total .bf16 (m (c.tc.loc main_arg0) : Vec Ideal S8x512x128 .bf16) (by decide : 512 ≤ 512) (by decide : 128 ≤ 128)) (m (c.tc.loc main_arg1))
        (m (c.tc.loc main_arg2)) (m (c.tc.loc main_arg3)) (r.2.mem (c.tc.loc main_v2)) (r.2.mem (c.tc.loc main_v26)) (r.2.mem (c.tc.loc main_v7)) (r.2.mem (c.tc.loc main_v13))
      ∧ r.2.mem (c.tc.loc main_arg0) = m (c.tc.loc main_arg0)
      ∧ r.2.mem (c.tc.loc main_arg1) = m (c.tc.loc main_arg1)
      ∧ r.2.mem (c.tc.loc main_arg2) = m (c.tc.loc main_arg2)
      ∧ r.2.mem (c.tc.loc main_arg3) = m (c.tc.loc main_arg3) :=
  Cert.Reference9Ideal.Adam.run m ρ

end Reference13Ideal.Adam

end Cert

end
-- ==== Proof.Adam14.lean ====
/-
  The optimiser's step of w_up and its reference: the same call, of the same shapes, as another weight's, so that
  what is known of that holds here.
-/
module

public import proofs.«01_k».proof.Proof.Adam10
public import proofs.«01_k».proof.Proof.AdamRef10
public import proofs.«01_k».proof.Proof.Gen.Kernel14Ideal.Launch
public import proofs.«01_k».proof.Proof.Gen.Reference14Ideal.Run

@[expose] public section

set_option maxRecDepth 16384

noncomputable section

namespace Cert

open Idealize.ShloMosaic Idealize.ShloMosaic.TcCoe Idealize.SL.Sem Cert.Ffn Cert.Adam

namespace Kernel14Ideal.Adam

/-- The body's table is that of the other weight's call. -/
theorem bodies : defs₀ (F := Ideal) = Cert.Kernel10Ideal.defs₀ (F := Ideal) := by
  unfold defs₀ Cert.Kernel10Ideal.defs₀
  congr 1
  funext l a
  match l, a with
  | 0, (t, s) => rfl

/-- So is the whole table, with the regions. -/
theorem tables : defs (F := Ideal) = Cert.Kernel10Ideal.defs (F := Ideal) := congrArg (Pipeline.defs pcfgs) bodies

open Cert.Kernel10Ideal.Adam (grad weight oldFirst oldSecond) in
/-- Every execution ends with the arguments unchanged and the gradient, the change and the new moments in the result arrays. -/
theorem run (m : (ℓ : Loc nD τ sig) → Buf (Elt Ideal) ℓ) (ρ : Dev nD → PrngReg) : θ_run defs (onTc (τ := τ) (main (F := Ideal))) ⟨m, fun _ => 0, ρ⟩ fun r => ∀ c : Dev nD,
      r.2.mem (c.tc.loc main_v4) = onSheet .f32 (grad m c)
      ∧ r.2.mem (c.tc.loc main_v5) = onSheet .f32 (changes (grad m c) (weight m c) (oldFirst m c) (oldSecond m c))
      ∧ r.2.mem (c.tc.loc main_v6) = onSheet .f32 (firsts (grad m c) (oldFirst m c))
      ∧ r.2.mem (c.tc.loc main_v7) = onSheet .f32 (seconds (grad m c) (oldSecond m c))
      ∧ r.2.mem (c.tc.loc main_arg0) = m (c.tc.loc main_arg0)
      ∧ r.2.mem (c.tc.loc main_arg1) = m (c.tc.loc main_arg1)
      ∧ r.2.mem (c.tc.loc main_arg2) = m (c.tc.loc main_arg2)
      ∧ r.2.mem (c.tc.loc main_arg3) = m (c.tc.loc main_arg3) := by
  have h := Cert.Kernel10Ideal.Adam.run m ρ
  rw [← tables] at h
  exact h

end Kernel14Ideal.Adam

namespace Reference14Ideal.Adam

/-- Every execution ends with the arguments unchanged and the gradient, the change and the new moments in the result arrays. -/
theorem run (m : (ℓ : Loc nD τ sig) → Buf (Elt Ideal) ℓ) (ρ : Dev nD → PrngReg) : θ_run defs (onTc (τ := τ) (main (F := Ideal))) ⟨m, fun _ => 0, ρ⟩ fun r => ∀ c : Dev nD,
      Step (total .bf16 (m (c.tc.loc main_arg0) : Vec Ideal S8x1024x384 .bf16) (by decide : 1024 ≤ 1024) (by decide : 352 ≤ 384)) (m (c.tc.loc main_arg1))
        (m (c.tc.loc main_arg2)) (m (c.tc.loc main_arg3)) (r.2.mem (c.tc.loc main_v3)) (r.2.mem (c.tc.loc main_v27)) (r.2.mem (c.tc.loc main_v8)) (r.2.mem (c.tc.loc main_v14))
      ∧ r.2.mem (c.tc.loc main_arg0) = m (c.tc.loc main_arg0)
      ∧ r.2.mem (c.tc.loc main_arg1) = m (c.tc.loc main_arg1)
      ∧ r.2.mem (c.tc.loc main_arg2) = m (c.tc.loc main_arg2)
      ∧ r.2.mem (c.tc.loc main_arg3) = m (c.tc.loc main_arg3) :=
  Cert.Reference10Ideal.Adam.run m ρ

end Reference14Ideal.Adam

end Cert

end
-- ==== Proof.AdamSmallBody.lean ====
/-
  The optimiser's step of the nine small weights: what its body computes, and its triple.
  The nine weights differ only in the rows of the packed sheets that hold their gradients and in their
  shapes, so what the body leaves is stated for any rows and shape.
-/
module

public import proofs.«01_k».proof.Proof.Gen.Kernel15Ideal.Launch
public import proofs.«01_k».proof.Proof.Gen.Kernel15Ideal.Skeleton
public import proofs.«01_k».proof.Proof.Gen.Kernel15Ideal.Points
public import Idealize.ShloMosaic.Lib.Pipeline.FrameBody
public import Idealize.ShloMosaic.Lib.Claim
public import Idealize.ShloMosaic.Lib.Ring
public import Idealize.ShloMosaic.Lib.Tactic

@[expose] public section

set_option maxRecDepth 16384

noncomputable section

namespace Cert.Kernel15Ideal.Small

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)
open Cert.Kernel15Ideal Cert.Kernel15Ideal.Gen

variable {F : FTy → Type} [FloatOps F]

local notation "𝕄" => MT nD τ sig Unit (Elt F) ℕ (UR sig nD τ) ℕ

/-! ## What the body computes -/

/-- The shape of a weight. -/
abbrev Wt (n c : ℕ) : Shape := ⟨2, ![n, c]⟩

/-- The shape of its part in one device's sheet. -/
abbrev Slab (n c : ℕ) : Shape := ⟨3, ![1, n, c]⟩

theorem casts (n c : ℕ) : (Slab n c).ShapeCasts (Wt n c) := by
  simp [Shape.ShapeCasts, Shape.numel, Fin.prod_univ_succ]

theorem inside (row n c : ℕ) (hr : row + n ≤ 48) (hc : c ≤ 1024) (k : Fin 8) :
    ∀ a, (![k.val, row, 0] : Fin 3 → ℕ) a + (Slab n c).size a ≤ S8x48x1024.size a := by
  have hk := k.isLt
  intro a
  fin_cases a
  · show k.val + 1 ≤ 8
    omega
  · exact hr
  · show 0 + c ≤ 1024
    omega

theorem all_of (n c : ℕ) : ∀ a, (![0, 0] : Fin 2 → ℕ) a + (Wt n c).size a ≤ (Wt n c).size a := by
  intro a
  fin_cases a
  · exact (Nat.zero_add _).le
  · exact (Nat.zero_add _).le

section
variable (row n c : ℕ) (hr : row + n ≤ 48) (hc : c ≤ 1024) (x : Vec F S8x48x1024 .f32)

/-- One device's part of a weight's gradient. -/
def sheetPart (k : Fin 8) : FVec F (Wt n c) .f32 :=
  shapeCast (Wt n c) (View.ld x (Rect.unit (s := S8x48x1024) ![k.val, row, 0] (Slab n c).size (inside row n c hr hc k))) (casts n c)

/-- The gradient: the eight parts added, the first first. -/
def gradOf : FVec F (Wt n c) .f32 :=
  addf (addf (addf (addf (addf (addf (addf (sheetPart row n c hr hc x 0) (sheetPart row n c hr hc x 1)) (sheetPart row n c hr hc x 2))
    (sheetPart row n c hr hc x 3)) (sheetPart row n c hr hc x 4)) (sheetPart row n c hr hc x 5)) (sheetPart row n c hr hc x 6))
    (sheetPart row n c hr hc x 7)
end

section
variable {S : Shape} (g w u v : FVec F S .f32)

/-- The new first moment. -/
def firstOf : FVec F S .f32 := addf (mulf (broadcast S (Scalar.ofBits .f32 0x3F666666#32)) u)
  (mulf (broadcast S (Scalar.ofBits .f32 0x3DCCCCCD#32)) g)

/-- The new second moment. -/
def secondOf : FVec F S .f32 := addf (mulf (broadcast S (Scalar.ofBits .f32 0x3F7FBE77#32)) v)
  (mulf (broadcast S (Scalar.ofBits .f32 0x3A83126F#32)) (mulf g g))

/-- The change of the weight. -/
def changeOf : FVec F S .f32 := mulf (broadcast S (Scalar.ofBits .f32 0xBA83126F#32))
  (addf (divf (divf (firstOf g u) (broadcast S (Scalar.ofBits .f32 0x3F26BD02#32)))
      (addf (sqrt (divf (secondOf g v) (broadcast S (Scalar.ofBits .f32 0x3C231ACC#32))))
        (broadcast S (Scalar.ofBits .f32 0x322BCC77#32))))
    (mulf (broadcast S (Scalar.ofBits .f32 0x3C23D70A#32)) w))
end

/-- A weight's array, loaded whole. -/
def get (n c : ℕ) (x : Vec F (Wt n c) .f32) : FVec F (Wt n c) .f32 :=
  View.ld x (Rect.unit (s := Wt n c) ![0, 0] (Wt n c).size (all_of n c))

/-- A result's buffer after a store of the whole. -/
def put (n c : ℕ) (v : FVec F (Wt n c) .f32) : Vec F (Wt n c) .f32 :=
  View.canon [⟨Rect.unit (s := Wt n c) ![0, 0] (Wt n c).size (all_of n c), v⟩]

section
variable (row n c : ℕ) (x : Vec F S8x48x1024 .f32) (w u v : Vec F (Wt n c) .f32)

/-- The buffer of the gradient, -/
def part (hr : row + n ≤ 48 := by decide) (hc : c ≤ 1024 := by decide) : Vec F (Wt n c) .f32 := put n c (gradOf row n c hr hc x)

/-- of the change of the weight, -/
def partChange (hr : row + n ≤ 48 := by decide) (hc : c ≤ 1024 := by decide) : Vec F (Wt n c) .f32 :=
  put n c (changeOf (gradOf row n c hr hc x) (get n c w) (get n c u) (get n c v))

/-- of the new first moment -/
def partFirst (hr : row + n ≤ 48 := by decide) (hc : c ≤ 1024 := by decide) : Vec F (Wt n c) .f32 :=
  put n c (firstOf (gradOf row n c hr hc x) (get n c u))

/-- and of the new second moment. -/
def partSecond (hr : row + n ≤ 48 := by decide) (hc : c ≤ 1024 := by decide) : Vec F (Wt n c) .f32 :=
  put n c (secondOf (gradOf row n c hr hc x) (get n c v))
end

/-! ## The body -/

/-- A buffer held at a content. -/
abbrev has (c : Dev nD) {S : Shape} (a : Memref sig .tc .vmem S .f32) (x : Vec F S .f32) : sProp 𝕄 :=
  owns (c : Thread nD τ) a fullShare x

/-- A buffer held at one of a family of contents. -/
abbrev some (c : Dev nD) {S : Shape} (a : Memref sig .tc .vmem S .f32) {D : Type} (f : D → Vec F S .f32) : sProp 𝕄 :=
  iprop(∃ d, owns (c : Thread nD τ) a fullShare (f d))

theorem covers {S : Shape} (r : Rect S) (p : r.shape.Idx → Elt F .f32) (h : View.Piece.tiled [(⟨r, p⟩ : View.Piece (Elt F) S .f32)] S.size = true) (y : S.Idx) :
    ∃ pc ∈ [(⟨r, p⟩ : View.Piece (Elt F) S .f32)], y ∈ pc.1.set := View.cover_of_tiled _ S.size h y

section
variable (c : Dev nD) (E : Set ℕ)
    (a0 : Memref sig .tc .vmem S8x48x1024 .f32) (h0 : a0.IsWhole)
    (a1 : Memref sig .tc .vmem S1x1024 .f32) (h1 : a1.IsWhole)
    (a2 : Memref sig .tc .vmem S1x1024 .f32) (h2 : a2.IsWhole)
    (a3 : Memref sig .tc .vmem S1x128 .f32) (h3 : a3.IsWhole)
    (a4 : Memref sig .tc .vmem S1x64 .f32) (h4 : a4.IsWhole) (a5 : Memref sig .tc .vmem S1x64 .f32) (h5 : a5.IsWhole)
    (a6 : Memref sig .tc .vmem S1x4 .f32) (h6 : a6.IsWhole) (a7 : Memref sig .tc .vmem S1x4 .f32) (h7 : a7.IsWhole)
    (a8 : Memref sig .tc .vmem S1x8 .f32) (h8 : a8.IsWhole) (a9 : Memref sig .tc .vmem S32x8 .f32) (h9 : a9.IsWhole)
    (a10 : Memref sig .tc .vmem S1x1024 .f32) (h10 : a10.IsWhole)
    (a11 : Memref sig .tc .vmem S1x1024 .f32) (h11 : a11.IsWhole)
    (a12 : Memref sig .tc .vmem S1x128 .f32) (h12 : a12.IsWhole)
    (a13 : Memref sig .tc .vmem S1x64 .f32) (h13 : a13.IsWhole)
    (a14 : Memref sig .tc .vmem S1x64 .f32) (h14 : a14.IsWhole)
    (a15 : Memref sig .tc .vmem S1x4 .f32) (h15 : a15.IsWhole)
    (a16 : Memref sig .tc .vmem S1x4 .f32) (h16 : a16.IsWhole)
    (a17 : Memref sig .tc .vmem S1x8 .f32) (h17 : a17.IsWhole)
    (a18 : Memref sig .tc .vmem S32x8 .f32) (h18 : a18.IsWhole)
    (a19 : Memref sig .tc .vmem S1x1024 .f32) (h19 : a19.IsWhole)
    (a20 : Memref sig .tc .vmem S1x1024 .f32) (h20 : a20.IsWhole)
    (a21 : Memref sig .tc .vmem S1x128 .f32) (h21 : a21.IsWhole)
    (a22 : Memref sig .tc .vmem S1x64 .f32) (h22 : a22.IsWhole)
    (a23 : Memref sig .tc .vmem S1x64 .f32) (h23 : a23.IsWhole)
    (a24 : Memref sig .tc .vmem S1x4 .f32) (h24 : a24.IsWhole)
    (a25 : Memref sig .tc .vmem S1x4 .f32) (h25 : a25.IsWhole)
    (a26 : Memref sig .tc .vmem S1x8 .f32) (h26 : a26.IsWhole)
    (a27 : Memref sig .tc .vmem S32x8 .f32) (h27 : a27.IsWhole)
    (a28 : Memref sig .tc .vmem S1x1024 .f32) (h28 : a28.IsWhole)
    (a29 : Memref sig .tc .vmem S1x1024 .f32) (h29 : a29.IsWhole)
    (a30 : Memref sig .tc .vmem S1x128 .f32) (h30 : a30.IsWhole)
    (a31 : Memref sig .tc .vmem S1x64 .f32) (h31 : a31.IsWhole)
    (a32 : Memref sig .tc .vmem S1x64 .f32) (h32 : a32.IsWhole)
    (a33 : Memref sig .tc .vmem S1x4 .f32) (h33 : a33.IsWhole)
    (a34 : Memref sig .tc .vmem S1x4 .f32) (h34 : a34.IsWhole)
    (a35 : Memref sig .tc .vmem S1x8 .f32) (h35 : a35.IsWhole)
    (a36 : Memref sig .tc .vmem S32x8 .f32) (h36 : a36.IsWhole)
    (a37 : Memref sig .tc .vmem S1x1024 .f32) (h37 : a37.IsWhole)
    (a38 : Memref sig .tc .vmem S1x1024 .f32) (h38 : a38.IsWhole)
    (a39 : Memref sig .tc .vmem S1x128 .f32) (h39 : a39.IsWhole)
    (a40 : Memref sig .tc .vmem S1x64 .f32) (h40 : a40.IsWhole)
    (a41 : Memref sig .tc .vmem S1x64 .f32) (h41 : a41.IsWhole)
    (a42 : Memref sig .tc .vmem S1x4 .f32) (h42 : a42.IsWhole)
    (a43 : Memref sig .tc .vmem S1x4 .f32) (h43 : a43.IsWhole)
    (a44 : Memref sig .tc .vmem S1x8 .f32) (h44 : a44.IsWhole)
    (a45 : Memref sig .tc .vmem S32x8 .f32) (h45 : a45.IsWhole)
    (a46 : Memref sig .tc .vmem S1x1024 .f32) (h46 : a46.IsWhole)
    (a47 : Memref sig .tc .vmem S1x1024 .f32) (h47 : a47.IsWhole)
    (a48 : Memref sig .tc .vmem S1x128 .f32) (h48 : a48.IsWhole)
    (a49 : Memref sig .tc .vmem S1x64 .f32) (h49 : a49.IsWhole)
    (a50 : Memref sig .tc .vmem S1x64 .f32) (h50 : a50.IsWhole)
    (a51 : Memref sig .tc .vmem S1x4 .f32) (h51 : a51.IsWhole)
    (a52 : Memref sig .tc .vmem S1x4 .f32) (h52 : a52.IsWhole)
    (a53 : Memref sig .tc .vmem S1x8 .f32) (h53 : a53.IsWhole)
    (a54 : Memref sig .tc .vmem S32x8 .f32) (h54 : a54.IsWhole)
    (a55 : Memref sig .tc .vmem S1x1024 .f32) (h55 : a55.IsWhole)
    (a56 : Memref sig .tc .vmem S1x1024 .f32) (h56 : a56.IsWhole)
    (a57 : Memref sig .tc .vmem S1x128 .f32) (h57 : a57.IsWhole)
    (a58 : Memref sig .tc .vmem S1x64 .f32) (h58 : a58.IsWhole)
    (a59 : Memref sig .tc .vmem S1x64 .f32) (h59 : a59.IsWhole)
    (a60 : Memref sig .tc .vmem S1x4 .f32) (h60 : a60.IsWhole)
    (a61 : Memref sig .tc .vmem S1x4 .f32) (h61 : a61.IsWhole)
    (a62 : Memref sig .tc .vmem S1x8 .f32) (h62 : a62.IsWhole)
    (a63 : Memref sig .tc .vmem S32x8 .f32) (h63 : a63.IsWhole)
    (a64 : Memref sig .tc .vmem S1x1 .f32) (h64 : a64.IsWhole)
    {D0 : Type} (f0 : D0 → Vec F S8x48x1024 .f32) {D1 : Type} (f1 : D1 → Vec F S1x1024 .f32)
    {D2 : Type} (f2 : D2 → Vec F S1x1024 .f32) {D3 : Type} (f3 : D3 → Vec F S1x128 .f32)
    {D4 : Type} (f4 : D4 → Vec F S1x64 .f32) {D5 : Type} (f5 : D5 → Vec F S1x64 .f32)
    {D6 : Type} (f6 : D6 → Vec F S1x4 .f32) {D7 : Type} (f7 : D7 → Vec F S1x4 .f32)
    {D8 : Type} (f8 : D8 → Vec F S1x8 .f32) {D9 : Type} (f9 : D9 → Vec F S32x8 .f32)
    {D10 : Type} (f10 : D10 → Vec F S1x1024 .f32) {D11 : Type} (f11 : D11 → Vec F S1x1024 .f32)
    {D12 : Type} (f12 : D12 → Vec F S1x128 .f32) {D13 : Type} (f13 : D13 → Vec F S1x64 .f32)
    {D14 : Type} (f14 : D14 → Vec F S1x64 .f32) {D15 : Type} (f15 : D15 → Vec F S1x4 .f32)
    {D16 : Type} (f16 : D16 → Vec F S1x4 .f32) {D17 : Type} (f17 : D17 → Vec F S1x8 .f32)
    {D18 : Type} (f18 : D18 → Vec F S32x8 .f32) {D19 : Type} (f19 : D19 → Vec F S1x1024 .f32)
    {D20 : Type} (f20 : D20 → Vec F S1x1024 .f32) {D21 : Type} (f21 : D21 → Vec F S1x128 .f32)
    {D22 : Type} (f22 : D22 → Vec F S1x64 .f32) {D23 : Type} (f23 : D23 → Vec F S1x64 .f32)
    {D24 : Type} (f24 : D24 → Vec F S1x4 .f32) {D25 : Type} (f25 : D25 → Vec F S1x4 .f32)
    {D26 : Type} (f26 : D26 → Vec F S1x8 .f32) {D27 : Type} (f27 : D27 → Vec F S32x8 .f32)
    {D28 : Type} (f28 : D28 → Vec F S1x1024 .f32) {D29 : Type} (f29 : D29 → Vec F S1x1024 .f32)
    {D30 : Type} (f30 : D30 → Vec F S1x128 .f32) {D31 : Type} (f31 : D31 → Vec F S1x64 .f32)
    {D32 : Type} (f32 : D32 → Vec F S1x64 .f32) {D33 : Type} (f33 : D33 → Vec F S1x4 .f32)
    {D34 : Type} (f34 : D34 → Vec F S1x4 .f32) {D35 : Type} (f35 : D35 → Vec F S1x8 .f32)
    {D36 : Type} (f36 : D36 → Vec F S32x8 .f32) {D37 : Type} (f37 : D37 → Vec F S1x1024 .f32)
    {D38 : Type} (f38 : D38 → Vec F S1x1024 .f32) {D39 : Type} (f39 : D39 → Vec F S1x128 .f32)
    {D40 : Type} (f40 : D40 → Vec F S1x64 .f32) {D41 : Type} (f41 : D41 → Vec F S1x64 .f32)
    {D42 : Type} (f42 : D42 → Vec F S1x4 .f32) {D43 : Type} (f43 : D43 → Vec F S1x4 .f32)
    {D44 : Type} (f44 : D44 → Vec F S1x8 .f32) {D45 : Type} (f45 : D45 → Vec F S32x8 .f32)
    {D46 : Type} (f46 : D46 → Vec F S1x1024 .f32) {D47 : Type} (f47 : D47 → Vec F S1x1024 .f32)
    {D48 : Type} (f48 : D48 → Vec F S1x128 .f32) {D49 : Type} (f49 : D49 → Vec F S1x64 .f32)
    {D50 : Type} (f50 : D50 → Vec F S1x64 .f32) {D51 : Type} (f51 : D51 → Vec F S1x4 .f32)
    {D52 : Type} (f52 : D52 → Vec F S1x4 .f32) {D53 : Type} (f53 : D53 → Vec F S1x8 .f32)
    {D54 : Type} (f54 : D54 → Vec F S32x8 .f32) {D55 : Type} (f55 : D55 → Vec F S1x1024 .f32)
    {D56 : Type} (f56 : D56 → Vec F S1x1024 .f32) {D57 : Type} (f57 : D57 → Vec F S1x128 .f32)
    {D58 : Type} (f58 : D58 → Vec F S1x64 .f32) {D59 : Type} (f59 : D59 → Vec F S1x64 .f32)
    {D60 : Type} (f60 : D60 → Vec F S1x4 .f32) {D61 : Type} (f61 : D61 → Vec F S1x4 .f32)
    {D62 : Type} (f62 : D62 → Vec F S1x8 .f32) {D63 : Type} (f63 : D63 → Vec F S32x8 .f32)
    {D64 : Type} (f64 : D64 → Vec F S1x1 .f32)
    (x0 : Vec F S8x48x1024 .f32) (x1 : Vec F S1x1024 .f32) (x2 : Vec F S1x1024 .f32) (x3 : Vec F S1x128 .f32)
    (x4 : Vec F S1x64 .f32) (x5 : Vec F S1x64 .f32) (x6 : Vec F S1x4 .f32) (x7 : Vec F S1x4 .f32)
    (x8 : Vec F S1x8 .f32) (x9 : Vec F S32x8 .f32) (x10 : Vec F S1x1024 .f32) (x11 : Vec F S1x1024 .f32)
    (x12 : Vec F S1x128 .f32) (x13 : Vec F S1x64 .f32) (x14 : Vec F S1x64 .f32) (x15 : Vec F S1x4 .f32)
    (x16 : Vec F S1x4 .f32) (x17 : Vec F S1x8 .f32) (x18 : Vec F S32x8 .f32) (x19 : Vec F S1x1024 .f32)
    (x20 : Vec F S1x1024 .f32) (x21 : Vec F S1x128 .f32) (x22 : Vec F S1x64 .f32) (x23 : Vec F S1x64 .f32)
    (x24 : Vec F S1x4 .f32) (x25 : Vec F S1x4 .f32) (x26 : Vec F S1x8 .f32) (x27 : Vec F S32x8 .f32)

set_option maxHeartbeats 4000000 in
/-- The body, from its buffers, the arguments' at given contents: it leaves these and the results'. -/
theorem sound_kernel
    (e0 : f0 = fun _ => x0) (e1 : f1 = fun _ => x1) (e2 : f2 = fun _ => x2) (e3 : f3 = fun _ => x3)
    (e4 : f4 = fun _ => x4) (e5 : f5 = fun _ => x5) (e6 : f6 = fun _ => x6) (e7 : f7 = fun _ => x7)
    (e8 : f8 = fun _ => x8) (e9 : f9 = fun _ => x9) (e10 : f10 = fun _ => x10) (e11 : f11 = fun _ => x11)
    (e12 : f12 = fun _ => x12) (e13 : f13 = fun _ => x13) (e14 : f14 = fun _ => x14) (e15 : f15 = fun _ => x15)
    (e16 : f16 = fun _ => x16) (e17 : f17 = fun _ => x17) (e18 : f18 = fun _ => x18) (e19 : f19 = fun _ => x19)
    (e20 : f20 = fun _ => x20) (e21 : f21 = fun _ => x21) (e22 : f22 = fun _ => x22) (e23 : f23 = fun _ => x23)
    (e24 : f24 = fun _ => x24) (e25 : f25 = fun _ => x25) (e26 : f26 = fun _ => x26) (e27 : f27 = fun _ => x27) (K : PUnit → sProp 𝕄) :
    iprop((some c a0 f0 ∗ some c a1 f1 ∗ some c a2 f2 ∗ some c a3 f3 ∗ some c a4 f4 ∗ some c a5 f5 ∗ some c a6 f6 ∗
    some c a7 f7 ∗ some c a8 f8 ∗ some c a9 f9 ∗ some c a10 f10 ∗ some c a11 f11 ∗ some c a12 f12 ∗ some c a13 f13 ∗
    some c a14 f14 ∗ some c a15 f15 ∗ some c a16 f16 ∗ some c a17 f17 ∗ some c a18 f18 ∗ some c a19 f19 ∗
    some c a20 f20 ∗ some c a21 f21 ∗ some c a22 f22 ∗ some c a23 f23 ∗ some c a24 f24 ∗ some c a25 f25 ∗
    some c a26 f26 ∗ some c a27 f27 ∗ some c a28 f28 ∗ some c a29 f29 ∗ some c a30 f30 ∗ some c a31 f31 ∗
    some c a32 f32 ∗ some c a33 f33 ∗ some c a34 f34 ∗ some c a35 f35 ∗ some c a36 f36 ∗ some c a37 f37 ∗
    some c a38 f38 ∗ some c a39 f39 ∗ some c a40 f40 ∗ some c a41 f41 ∗ some c a42 f42 ∗ some c a43 f43 ∗
    some c a44 f44 ∗ some c a45 f45 ∗ some c a46 f46 ∗ some c a47 f47 ∗ some c a48 f48 ∗ some c a49 f49 ∗
    some c a50 f50 ∗ some c a51 f51 ∗ some c a52 f52 ∗ some c a53 f53 ∗ some c a54 f54 ∗ some c a55 f55 ∗
    some c a56 f56 ∗ some c a57 f57 ∗ some c a58 f58 ∗ some c a59 f59 ∗ some c a60 f60 ∗ some c a61 f61 ∗
    some c a62 f62 ∗ some c a63 f63 ∗ some c a64 f64)
      ∗ ((has c a0 x0 ∗ has c a1 x1 ∗ has c a2 x2 ∗ has c a3 x3 ∗ has c a4 x4 ∗ has c a5 x5 ∗ has c a6 x6 ∗ has c a7 x7 ∗
    has c a8 x8 ∗ has c a9 x9 ∗ has c a10 x10 ∗ has c a11 x11 ∗ has c a12 x12 ∗ has c a13 x13 ∗ has c a14 x14 ∗
    has c a15 x15 ∗ has c a16 x16 ∗ has c a17 x17 ∗ has c a18 x18 ∗ has c a19 x19 ∗ has c a20 x20 ∗ has c a21 x21 ∗
    has c a22 x22 ∗ has c a23 x23 ∗ has c a24 x24 ∗ has c a25 x25 ∗ has c a26 x26 ∗ has c a27 x27 ∗
    has c a28 (part 0 1 1024 x0) ∗ has c a29 (part 1 1 1024 x0) ∗ has c a30 (part 2 1 128 x0) ∗
    has c a31 (part 3 1 64 x0) ∗ has c a32 (part 4 1 64 x0) ∗ has c a33 (part 5 1 4 x0) ∗ has c a34 (part 6 1 4 x0) ∗
    has c a35 (part 7 1 8 x0) ∗ has c a36 (part 8 32 8 x0) ∗ has c a37 (partChange 0 1 1024 x0 x1 x10 x19) ∗
    has c a38 (partChange 1 1 1024 x0 x2 x11 x20) ∗ has c a39 (partChange 2 1 128 x0 x3 x12 x21) ∗
    has c a40 (partChange 3 1 64 x0 x4 x13 x22) ∗ has c a41 (partChange 4 1 64 x0 x5 x14 x23) ∗
    has c a42 (partChange 5 1 4 x0 x6 x15 x24) ∗ has c a43 (partChange 6 1 4 x0 x7 x16 x25) ∗
    has c a44 (partChange 7 1 8 x0 x8 x17 x26) ∗ has c a45 (partChange 8 32 8 x0 x9 x18 x27) ∗
    has c a46 (partFirst 0 1 1024 x0 x10) ∗ has c a47 (partFirst 1 1 1024 x0 x11) ∗
    has c a48 (partFirst 2 1 128 x0 x12) ∗ has c a49 (partFirst 3 1 64 x0 x13) ∗
    has c a50 (partFirst 4 1 64 x0 x14) ∗ has c a51 (partFirst 5 1 4 x0 x15) ∗ has c a52 (partFirst 6 1 4 x0 x16) ∗
    has c a53 (partFirst 7 1 8 x0 x17) ∗ has c a54 (partFirst 8 32 8 x0 x18) ∗
    has c a55 (partSecond 0 1 1024 x0 x19) ∗ has c a56 (partSecond 1 1 1024 x0 x20) ∗
    has c a57 (partSecond 2 1 128 x0 x21) ∗ has c a58 (partSecond 3 1 64 x0 x22) ∗
    has c a59 (partSecond 4 1 64 x0 x23) ∗ has c a60 (partSecond 5 1 4 x0 x24) ∗
    has c a61 (partSecond 6 1 4 x0 x25) ∗ has c a62 (partSecond 7 1 8 x0 x26) ∗
    has c a63 (partSecond 8 32 8 x0 x27) ∗ has c a64 (part 40 1 1 x0))
        -∗ K ⟨⟩))
      ⊢ wp frame (wpE (defs₀ (F := F)) Variants.none c none) E (cc0_adam_small
    a0 h0 a1 h1 a2 h2 a3 h3 a4 h4 a5 h5 a6 h6 a7 h7 a8 h8 a9 h9 a10 h10 a11 h11 a12 h12 a13 h13 a14 h14 a15 h15
    a16 h16 a17 h17 a18 h18 a19 h19 a20 h20 a21 h21 a22 h22 a23 h23 a24 h24 a25 h25 a26 h26 a27 h27 a28 h28 a29 h29
    a30 h30 a31 h31 a32 h32 a33 h33 a34 h34 a35 h35 a36 h36 a37 h37 a38 h38 a39 h39 a40 h40 a41 h41 a42 h42 a43 h43
    a44 h44 a45 h45 a46 h46 a47 h47 a48 h48 a49 h49 a50 h50 a51 h51 a52 h52 a53 h53 a54 h54 a55 h55 a56 h56 a57 h57
    a58 h58 a59 h59 a60 h60 a61 h61 a62 h62 a63 h63 a64 h64) K := by
  subst e0 e1 e2 e3 e4 e5 e6 e7 e8 e9 e10 e11 e12 e13 e14 e15 e16 e17 e18 e19 e20 e21 e22 e23 e24 e25 e26 e27
  simp only [cc0_adam_small_eq_skeleton]; unfold cc0_adam_small_skel
  simp only [k0_part1_eq_skeleton, k0_part2_eq_skeleton, k0_part3_eq_skeleton, k0_part4_eq_skeleton, k0_part5_eq_skeleton,
    k0_part6_eq_skeleton, k0_part7_eq_skeleton, k0_part8_eq_skeleton, k0_part9_eq_skeleton, k0_part10_eq_skeleton,
    k0_part11_eq_skeleton, k0_part12_eq_skeleton, k0_part13_eq_skeleton, k0_part14_eq_skeleton,
    k0_part15_eq_skeleton, k0_part16_eq_skeleton]
  unfold some has owns
  iintro ⟨⟨⟨%d0, %p0, %q0, H0⟩, ⟨%d1, %p1, %q1, H1⟩, ⟨%d2, %p2, %q2, H2⟩, ⟨%d3, %p3, %q3, H3⟩, ⟨%d4, %p4, %q4, H4⟩,
    ⟨%d5, %p5, %q5, H5⟩, ⟨%d6, %p6, %q6, H6⟩, ⟨%d7, %p7, %q7, H7⟩, ⟨%d8, %p8, %q8, H8⟩, ⟨%d9, %p9, %q9, H9⟩,
    ⟨%d10, %p10, %q10, H10⟩, ⟨%d11, %p11, %q11, H11⟩, ⟨%d12, %p12, %q12, H12⟩, ⟨%d13, %p13, %q13, H13⟩,
    ⟨%d14, %p14, %q14, H14⟩, ⟨%d15, %p15, %q15, H15⟩, ⟨%d16, %p16, %q16, H16⟩, ⟨%d17, %p17, %q17, H17⟩,
    ⟨%d18, %p18, %q18, H18⟩, ⟨%d19, %p19, %q19, H19⟩, ⟨%d20, %p20, %q20, H20⟩, ⟨%d21, %p21, %q21, H21⟩,
    ⟨%d22, %p22, %q22, H22⟩, ⟨%d23, %p23, %q23, H23⟩, ⟨%d24, %p24, %q24, H24⟩, ⟨%d25, %p25, %q25, H25⟩,
    ⟨%d26, %p26, %q26, H26⟩, ⟨%d27, %p27, %q27, H27⟩, ⟨%d28, %p28, -, H28⟩, ⟨%d29, %p29, -, H29⟩,
    ⟨%d30, %p30, -, H30⟩, ⟨%d31, %p31, -, H31⟩, ⟨%d32, %p32, -, H32⟩, ⟨%d33, %p33, -, H33⟩, ⟨%d34, %p34, -, H34⟩,
    ⟨%d35, %p35, -, H35⟩, ⟨%d36, %p36, -, H36⟩, ⟨%d37, %p37, -, H37⟩, ⟨%d38, %p38, -, H38⟩, ⟨%d39, %p39, -, H39⟩,
    ⟨%d40, %p40, -, H40⟩, ⟨%d41, %p41, -, H41⟩, ⟨%d42, %p42, -, H42⟩, ⟨%d43, %p43, -, H43⟩, ⟨%d44, %p44, -, H44⟩,
    ⟨%d45, %p45, -, H45⟩, ⟨%d46, %p46, -, H46⟩, ⟨%d47, %p47, -, H47⟩, ⟨%d48, %p48, -, H48⟩, ⟨%d49, %p49, -, H49⟩,
    ⟨%d50, %p50, -, H50⟩, ⟨%d51, %p51, -, H51⟩, ⟨%d52, %p52, -, H52⟩, ⟨%d53, %p53, -, H53⟩, ⟨%d54, %p54, -, H54⟩,
    ⟨%d55, %p55, -, H55⟩, ⟨%d56, %p56, -, H56⟩, ⟨%d57, %p57, -, H57⟩, ⟨%d58, %p58, -, H58⟩, ⟨%d59, %p59, -, H59⟩,
    ⟨%d60, %p60, -, H60⟩, ⟨%d61, %p61, -, H61⟩, ⟨%d62, %p62, -, H62⟩, ⟨%d63, %p63, -, H63⟩, ⟨%d64, %p64, -, H64⟩⟩, Hk⟩
  subst q0 q1 q2 q3 q4 q5 q6 q7 q8 q9 q10 q11 q12 q13 q14 q15 q16 q17 q18 q19 q20 q21 q22 q23 q24 q25 q26 q27
  sl_exec
  sl_step
  iapply Hk
  isplitl [H0]
  · iexists p0; isplitr; · ipureintro; rfl
    iexact H0
  isplitl [H1]
  · iexists p1; isplitr; · ipureintro; rfl
    iexact H1
  isplitl [H2]
  · iexists p2; isplitr; · ipureintro; rfl
    iexact H2
  isplitl [H3]
  · iexists p3; isplitr; · ipureintro; rfl
    iexact H3
  isplitl [H4]
  · iexists p4; isplitr; · ipureintro; rfl
    iexact H4
  isplitl [H5]
  · iexists p5; isplitr; · ipureintro; rfl
    iexact H5
  isplitl [H6]
  · iexists p6; isplitr; · ipureintro; rfl
    iexact H6
  isplitl [H7]
  · iexists p7; isplitr; · ipureintro; rfl
    iexact H7
  isplitl [H8]
  · iexists p8; isplitr; · ipureintro; rfl
    iexact H8
  isplitl [H9]
  · iexists p9; isplitr; · ipureintro; rfl
    iexact H9
  isplitl [H10]
  · iexists p10; isplitr; · ipureintro; rfl
    iexact H10
  isplitl [H11]
  · iexists p11; isplitr; · ipureintro; rfl
    iexact H11
  isplitl [H12]
  · iexists p12; isplitr; · ipureintro; rfl
    iexact H12
  isplitl [H13]
  · iexists p13; isplitr; · ipureintro; rfl
    iexact H13
  isplitl [H14]
  · iexists p14; isplitr; · ipureintro; rfl
    iexact H14
  isplitl [H15]
  · iexists p15; isplitr; · ipureintro; rfl
    iexact H15
  isplitl [H16]
  · iexists p16; isplitr; · ipureintro; rfl
    iexact H16
  isplitl [H17]
  · iexists p17; isplitr; · ipureintro; rfl
    iexact H17
  isplitl [H18]
  · iexists p18; isplitr; · ipureintro; rfl
    iexact H18
  isplitl [H19]
  · iexists p19; isplitr; · ipureintro; rfl
    iexact H19
  isplitl [H20]
  · iexists p20; isplitr; · ipureintro; rfl
    iexact H20
  isplitl [H21]
  · iexists p21; isplitr; · ipureintro; rfl
    iexact H21
  isplitl [H22]
  · iexists p22; isplitr; · ipureintro; rfl
    iexact H22
  isplitl [H23]
  · iexists p23; isplitr; · ipureintro; rfl
    iexact H23
  isplitl [H24]
  · iexists p24; isplitr; · ipureintro; rfl
    iexact H24
  isplitl [H25]
  · iexists p25; isplitr; · ipureintro; rfl
    iexact H25
  isplitl [H26]
  · iexists p26; isplitr; · ipureintro; rfl
    iexact H26
  isplitl [H27]
  · iexists p27; isplitr; · ipureintro; rfl
    iexact H27
  isplitl [H28]; iexists _; isplitr; rotate_left; iexact H28
  isplitl [H29]; iexists _; isplitr; rotate_left; iexact H29
  isplitl [H30]; iexists _; isplitr; rotate_left; iexact H30
  isplitl [H31]; iexists _; isplitr; rotate_left; iexact H31
  isplitl [H32]; iexists _; isplitr; rotate_left; iexact H32
  isplitl [H33]; iexists _; isplitr; rotate_left; iexact H33
  isplitl [H34]; iexists _; isplitr; rotate_left; iexact H34
  isplitl [H35]; iexists _; isplitr; rotate_left; iexact H35
  isplitl [H36]; iexists _; isplitr; rotate_left; iexact H36
  isplitl [H37]; iexists _; isplitr; rotate_left; iexact H37
  isplitl [H38]; iexists _; isplitr; rotate_left; iexact H38
  isplitl [H39]; iexists _; isplitr; rotate_left; iexact H39
  isplitl [H40]; iexists _; isplitr; rotate_left; iexact H40
  isplitl [H41]; iexists _; isplitr; rotate_left; iexact H41
  isplitl [H42]; iexists _; isplitr; rotate_left; iexact H42
  isplitl [H43]; iexists _; isplitr; rotate_left; iexact H43
  isplitl [H44]; iexists _; isplitr; rotate_left; iexact H44
  isplitl [H45]; iexists _; isplitr; rotate_left; iexact H45
  isplitl [H46]; iexists _; isplitr; rotate_left; iexact H46
  isplitl [H47]; iexists _; isplitr; rotate_left; iexact H47
  isplitl [H48]; iexists _; isplitr; rotate_left; iexact H48
  isplitl [H49]; iexists _; isplitr; rotate_left; iexact H49
  isplitl [H50]; iexists _; isplitr; rotate_left; iexact H50
  isplitl [H51]; iexists _; isplitr; rotate_left; iexact H51
  isplitl [H52]; iexists _; isplitr; rotate_left; iexact H52
  isplitl [H53]; iexists _; isplitr; rotate_left; iexact H53
  isplitl [H54]; iexists _; isplitr; rotate_left; iexact H54
  isplitl [H55]; iexists _; isplitr; rotate_left; iexact H55
  isplitl [H56]; iexists _; isplitr; rotate_left; iexact H56
  isplitl [H57]; iexists _; isplitr; rotate_left; iexact H57
  isplitl [H58]; iexists _; isplitr; rotate_left; iexact H58
  isplitl [H59]; iexists _; isplitr; rotate_left; iexact H59
  isplitl [H60]; iexists _; isplitr; rotate_left; iexact H60
  isplitl [H61]; iexists _; isplitr; rotate_left; iexact H61
  isplitl [H62]; iexists _; isplitr; rotate_left; iexact H62
  isplitl [H63]; iexists _; isplitr; rotate_left; iexact H63
  iexists _; isplitr; rotate_left; iexact H64
  all_goals ipureintro; refine (View.read_writes_eq_canon _ _ _ (covers _ _ rfl)).trans ?_; rfl
end

end Cert.Kernel15Ideal.Small

end
-- ==== Proof.AdamSmall.lean ====
/-
  The optimiser's step of the nine small weights: the run of its one call, and that the arguments end unchanged.
-/
module

public import proofs.«01_k».proof.Proof.Gen.Kernel15Ideal.Launch
public import proofs.«01_k».proof.Proof.Gen.Kernel15Ideal.Skeleton
public import proofs.«01_k».proof.Proof.Gen.Kernel15Ideal.Points
public import proofs.«01_k».proof.Proof.AdamSmallBody
public import Idealize.ShloMosaic.Lib.Pipeline.FrameBody
public import Idealize.ShloMosaic.Lib.Claim
public import Idealize.ShloMosaic.Lib.Ring
public import Idealize.ShloMosaic.Lib.Tactic

@[expose] public section

set_option maxRecDepth 16384

noncomputable section

namespace Cert.Kernel15Ideal.Small

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)
open Cert.Kernel15Ideal Cert.Kernel15Ideal.Gen

variable {F : FTy → Type} [FloatOps F]

local notation "𝕄" => MT nD τ sig Unit (Elt F) ℕ (UR sig nD τ) ℕ

section
variable (m : (ℓ : Loc nD τ sig) → Buf (Elt F) ℓ) (ρ : Dev nD → PrngReg)

/-! ## The data of the one call -/

/-- The arrays as launched. -/
abbrev V (c : Dev nD) (b : Ref sig .tc) : Buf (Elt F) ((c : Thread nD τ).loc b) := m (c.tc.loc b)

set_option maxHeartbeats 800000 in
theorem hmain (𝒱₀ : Variants) : Pipeline.HMain (Ix := Unit) (Name := ℕ) (U := UR sig nD τ) (Lvl := ℕ) cfgs 0 defs₀ 𝒱₀ m (main (F := F)) (V m) :=
  Pipeline.hmain_region cfgs 0 defs₀ 𝒱₀ m main fun c => (main_chain c).trans rfl

/-- A window's block of its array. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- What the body leaves in each window's buffer: an argument's its block, a result's the values above. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, _⟩ => iblk m c 19 t
    | ⟨20, _⟩ => iblk m c 20 t
    | ⟨21, _⟩ => iblk m c 21 t
    | ⟨22, _⟩ => iblk m c 22 t
    | ⟨23, _⟩ => iblk m c 23 t
    | ⟨24, _⟩ => iblk m c 24 t
    | ⟨25, _⟩ => iblk m c 25 t
    | ⟨26, _⟩ => iblk m c 26 t
    | ⟨27, _⟩ => iblk m c 27 t
    | ⟨28, _⟩ => part 0 1 1024 (iblk m c 0 t)
    | ⟨29, _⟩ => part 1 1 1024 (iblk m c 0 t)
    | ⟨30, _⟩ => part 2 1 128 (iblk m c 0 t)
    | ⟨31, _⟩ => part 3 1 64 (iblk m c 0 t)
    | ⟨32, _⟩ => part 4 1 64 (iblk m c 0 t)
    | ⟨33, _⟩ => part 5 1 4 (iblk m c 0 t)
    | ⟨34, _⟩ => part 6 1 4 (iblk m c 0 t)
    | ⟨35, _⟩ => part 7 1 8 (iblk m c 0 t)
    | ⟨36, _⟩ => part 8 32 8 (iblk m c 0 t)
    | ⟨37, _⟩ => partChange 0 1 1024 (iblk m c 0 t) (iblk m c 1 t) (iblk m c 10 t) (iblk m c 19 t)
    | ⟨38, _⟩ => partChange 1 1 1024 (iblk m c 0 t) (iblk m c 2 t) (iblk m c 11 t) (iblk m c 20 t)
    | ⟨39, _⟩ => partChange 2 1 128 (iblk m c 0 t) (iblk m c 3 t) (iblk m c 12 t) (iblk m c 21 t)
    | ⟨40, _⟩ => partChange 3 1 64 (iblk m c 0 t) (iblk m c 4 t) (iblk m c 13 t) (iblk m c 22 t)
    | ⟨41, _⟩ => partChange 4 1 64 (iblk m c 0 t) (iblk m c 5 t) (iblk m c 14 t) (iblk m c 23 t)
    | ⟨42, _⟩ => partChange 5 1 4 (iblk m c 0 t) (iblk m c 6 t) (iblk m c 15 t) (iblk m c 24 t)
    | ⟨43, _⟩ => partChange 6 1 4 (iblk m c 0 t) (iblk m c 7 t) (iblk m c 16 t) (iblk m c 25 t)
    | ⟨44, _⟩ => partChange 7 1 8 (iblk m c 0 t) (iblk m c 8 t) (iblk m c 17 t) (iblk m c 26 t)
    | ⟨45, _⟩ => partChange 8 32 8 (iblk m c 0 t) (iblk m c 9 t) (iblk m c 18 t) (iblk m c 27 t)
    | ⟨46, _⟩ => partFirst 0 1 1024 (iblk m c 0 t) (iblk m c 10 t)
    | ⟨47, _⟩ => partFirst 1 1 1024 (iblk m c 0 t) (iblk m c 11 t)
    | ⟨48, _⟩ => partFirst 2 1 128 (iblk m c 0 t) (iblk m c 12 t)
    | ⟨49, _⟩ => partFirst 3 1 64 (iblk m c 0 t) (iblk m c 13 t)
    | ⟨50, _⟩ => partFirst 4 1 64 (iblk m c 0 t) (iblk m c 14 t)
    | ⟨51, _⟩ => partFirst 5 1 4 (iblk m c 0 t) (iblk m c 15 t)
    | ⟨52, _⟩ => partFirst 6 1 4 (iblk m c 0 t) (iblk m c 16 t)
    | ⟨53, _⟩ => partFirst 7 1 8 (iblk m c 0 t) (iblk m c 17 t)
    | ⟨54, _⟩ => partFirst 8 32 8 (iblk m c 0 t) (iblk m c 18 t)
    | ⟨55, _⟩ => partSecond 0 1 1024 (iblk m c 0 t) (iblk m c 19 t)
    | ⟨56, _⟩ => partSecond 1 1 1024 (iblk m c 0 t) (iblk m c 20 t)
    | ⟨57, _⟩ => partSecond 2 1 128 (iblk m c 0 t) (iblk m c 21 t)
    | ⟨58, _⟩ => partSecond 3 1 64 (iblk m c 0 t) (iblk m c 22 t)
    | ⟨59, _⟩ => partSecond 4 1 64 (iblk m c 0 t) (iblk m c 23 t)
    | ⟨60, _⟩ => partSecond 5 1 4 (iblk m c 0 t) (iblk m c 24 t)
    | ⟨61, _⟩ => partSecond 6 1 4 (iblk m c 0 t) (iblk m c 25 t)
    | ⟨62, _⟩ => partSecond 7 1 8 (iblk m c 0 t) (iblk m c 26 t)
    | ⟨63, _⟩ => partSecond 8 32 8 (iblk m c 0 t) (iblk m c 27 t)
    | ⟨64, _⟩ => part 40 1 1 (iblk m c 0 t)
    | ⟨_ + 65, h⟩ => absurd h (Nat.not_lt.2 (Nat.le_add_left _ _))
  Φ _ := Pipeline.ΦA spec0 c
  q _ := fullShare
  owed _ := 0

theorem A_eq (c : Dev nD) (w : Fin cfg0.W) : (dats m 0 c).A w = V m c (Pipeline.arrRef spec0 w) := by
  dsimp only [dats]

set_option backward.isDefEq.respectTransparency.types false in
/-- An argument's buffer holds its block when the body is called. -/
theorem before_in (c : Dev nD) (w : Fin cfg0.W) (hw : (cfg0.win w).isOut = false) (hlive : ∀ i, cfg0.idle w i = false)
    (hclip : ∀ t t' : Fin cfg0.N, (cfg0.win w).index t = (cfg0.win w).index t' →
      (cfg0.win w).clip (cfg0.grid.coords t) = (cfg0.win w).clip (cfg0.grid.coords t'))
    (hkeep : ∀ t, (cfg0.win w).cut (cfg0.grid.coords t) ((dats m 0 c).after w t) = (dats m 0 c).blockOf w t)
    (t : Fin cfg0.N) (x : (cfg0.win w).block.Idx → Elt F (cfg0.win w).elt) (hx : ∀ d, (dats m 0 c).fetched w t d = x) :
    (fun d => (dats m 0 c).before w t d) = fun _ => x :=
  funext fun d => ((dats m 0 c).before_in_eq_fetched w hw hlive hclip hkeep t d).trans (hx d)

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = iblk m c 9 t := by dsimp only [dats]
theorem after_10 (c : Dev nD) (t : Fin cfg0.N) : (dats m 0 c).after 10 t = iblk m c 10 t := by dsimp only [dats]
theorem after_11 (c : Dev nD) (t : Fin cfg0.N) : (dats m 0 c).after 11 t = iblk m c 11 t := by dsimp only [dats]
theorem after_12 (c : Dev nD) (t : Fin cfg0.N) : (dats m 0 c).after 12 t = iblk m c 12 t := by dsimp only [dats]
theorem after_13 (c : Dev nD) (t : Fin cfg0.N) : (dats m 0 c).after 13 t = iblk m c 13 t := by dsimp only [dats]
theorem after_14 (c : Dev nD) (t : Fin cfg0.N) : (dats m 0 c).after 14 t = iblk m c 14 t := by dsimp only [dats]
theorem after_15 (c : Dev nD) (t : Fin cfg0.N) : (dats m 0 c).after 15 t = iblk m c 15 t := by dsimp only [dats]
theorem after_16 (c : Dev nD) (t : Fin cfg0.N) : (dats m 0 c).after 16 t = iblk m c 16 t := by dsimp only [dats]
theorem after_17 (c : Dev nD) (t : Fin cfg0.N) : (dats m 0 c).after 17 t = iblk m c 17 t := by dsimp only [dats]
theorem after_18 (c : Dev nD) (t : Fin cfg0.N) : (dats m 0 c).after 18 t = iblk m c 18 t := by dsimp only [dats]
theorem after_19 (c : Dev nD) (t : Fin cfg0.N) : (dats m 0 c).after 19 t = iblk m c 19 t := by dsimp only [dats]
theorem after_20 (c : Dev nD) (t : Fin cfg0.N) : (dats m 0 c).after 20 t = iblk m c 20 t := by dsimp only [dats]
theorem after_21 (c : Dev nD) (t : Fin cfg0.N) : (dats m 0 c).after 21 t = iblk m c 21 t := by dsimp only [dats]
theorem after_22 (c : Dev nD) (t : Fin cfg0.N) : (dats m 0 c).after 22 t = iblk m c 22 t := by dsimp only [dats]
theorem after_23 (c : Dev nD) (t : Fin cfg0.N) : (dats m 0 c).after 23 t = iblk m c 23 t := by dsimp only [dats]
theorem after_24 (c : Dev nD) (t : Fin cfg0.N) : (dats m 0 c).after 24 t = iblk m c 24 t := by dsimp only [dats]
theorem after_25 (c : Dev nD) (t : Fin cfg0.N) : (dats m 0 c).after 25 t = iblk m c 25 t := by dsimp only [dats]
theorem after_26 (c : Dev nD) (t : Fin cfg0.N) : (dats m 0 c).after 26 t = iblk m c 26 t := by dsimp only [dats]
theorem after_27 (c : Dev nD) (t : Fin cfg0.N) : (dats m 0 c).after 27 t = iblk m c 27 t := by dsimp only [dats]
theorem after_28 (c : Dev nD) (t : Fin cfg0.N) : (dats m 0 c).after 28 t = part 0 1 1024 (iblk m c 0 t) := by dsimp only [dats]
theorem after_29 (c : Dev nD) (t : Fin cfg0.N) : (dats m 0 c).after 29 t = part 1 1 1024 (iblk m c 0 t) := by dsimp only [dats]
theorem after_30 (c : Dev nD) (t : Fin cfg0.N) : (dats m 0 c).after 30 t = part 2 1 128 (iblk m c 0 t) := by dsimp only [dats]
theorem after_31 (c : Dev nD) (t : Fin cfg0.N) : (dats m 0 c).after 31 t = part 3 1 64 (iblk m c 0 t) := by dsimp only [dats]
theorem after_32 (c : Dev nD) (t : Fin cfg0.N) : (dats m 0 c).after 32 t = part 4 1 64 (iblk m c 0 t) := by dsimp only [dats]
theorem after_33 (c : Dev nD) (t : Fin cfg0.N) : (dats m 0 c).after 33 t = part 5 1 4 (iblk m c 0 t) := by dsimp only [dats]
theorem after_34 (c : Dev nD) (t : Fin cfg0.N) : (dats m 0 c).after 34 t = part 6 1 4 (iblk m c 0 t) := by dsimp only [dats]
theorem after_35 (c : Dev nD) (t : Fin cfg0.N) : (dats m 0 c).after 35 t = part 7 1 8 (iblk m c 0 t) := by dsimp only [dats]
theorem after_36 (c : Dev nD) (t : Fin cfg0.N) : (dats m 0 c).after 36 t = part 8 32 8 (iblk m c 0 t) := by dsimp only [dats]
theorem after_37 (c : Dev nD) (t : Fin cfg0.N) : (dats m 0 c).after 37 t = partChange 0 1 1024 (iblk m c 0 t) (iblk m c 1 t) (iblk m c 10 t) (iblk m c 19 t) := by dsimp only [dats]
theorem after_38 (c : Dev nD) (t : Fin cfg0.N) : (dats m 0 c).after 38 t = partChange 1 1 1024 (iblk m c 0 t) (iblk m c 2 t) (iblk m c 11 t) (iblk m c 20 t) := by dsimp only [dats]
theorem after_39 (c : Dev nD) (t : Fin cfg0.N) : (dats m 0 c).after 39 t = partChange 2 1 128 (iblk m c 0 t) (iblk m c 3 t) (iblk m c 12 t) (iblk m c 21 t) := by dsimp only [dats]
theorem after_40 (c : Dev nD) (t : Fin cfg0.N) : (dats m 0 c).after 40 t = partChange 3 1 64 (iblk m c 0 t) (iblk m c 4 t) (iblk m c 13 t) (iblk m c 22 t) := by dsimp only [dats]
theorem after_41 (c : Dev nD) (t : Fin cfg0.N) : (dats m 0 c).after 41 t = partChange 4 1 64 (iblk m c 0 t) (iblk m c 5 t) (iblk m c 14 t) (iblk m c 23 t) := by dsimp only [dats]
theorem after_42 (c : Dev nD) (t : Fin cfg0.N) : (dats m 0 c).after 42 t = partChange 5 1 4 (iblk m c 0 t) (iblk m c 6 t) (iblk m c 15 t) (iblk m c 24 t) := by dsimp only [dats]
theorem after_43 (c : Dev nD) (t : Fin cfg0.N) : (dats m 0 c).after 43 t = partChange 6 1 4 (iblk m c 0 t) (iblk m c 7 t) (iblk m c 16 t) (iblk m c 25 t) := by dsimp only [dats]
theorem after_44 (c : Dev nD) (t : Fin cfg0.N) : (dats m 0 c).after 44 t = partChange 7 1 8 (iblk m c 0 t) (iblk m c 8 t) (iblk m c 17 t) (iblk m c 26 t) := by dsimp only [dats]
theorem after_45 (c : Dev nD) (t : Fin cfg0.N) : (dats m 0 c).after 45 t = partChange 8 32 8 (iblk m c 0 t) (iblk m c 9 t) (iblk m c 18 t) (iblk m c 27 t) := by dsimp only [dats]
theorem after_46 (c : Dev nD) (t : Fin cfg0.N) : (dats m 0 c).after 46 t = partFirst 0 1 1024 (iblk m c 0 t) (iblk m c 10 t) := by dsimp only [dats]
theorem after_47 (c : Dev nD) (t : Fin cfg0.N) : (dats m 0 c).after 47 t = partFirst 1 1 1024 (iblk m c 0 t) (iblk m c 11 t) := by dsimp only [dats]
theorem after_48 (c : Dev nD) (t : Fin cfg0.N) : (dats m 0 c).after 48 t = partFirst 2 1 128 (iblk m c 0 t) (iblk m c 12 t) := by dsimp only [dats]
theorem after_49 (c : Dev nD) (t : Fin cfg0.N) : (dats m 0 c).after 49 t = partFirst 3 1 64 (iblk m c 0 t) (iblk m c 13 t) := by dsimp only [dats]
theorem after_50 (c : Dev nD) (t : Fin cfg0.N) : (dats m 0 c).after 50 t = partFirst 4 1 64 (iblk m c 0 t) (iblk m c 14 t) := by dsimp only [dats]
theorem after_51 (c : Dev nD) (t : Fin cfg0.N) : (dats m 0 c).after 51 t = partFirst 5 1 4 (iblk m c 0 t) (iblk m c 15 t) := by dsimp only [dats]
theorem after_52 (c : Dev nD) (t : Fin cfg0.N) : (dats m 0 c).after 52 t = partFirst 6 1 4 (iblk m c 0 t) (iblk m c 16 t) := by dsimp only [dats]
theorem after_53 (c : Dev nD) (t : Fin cfg0.N) : (dats m 0 c).after 53 t = partFirst 7 1 8 (iblk m c 0 t) (iblk m c 17 t) := by dsimp only [dats]
theorem after_54 (c : Dev nD) (t : Fin cfg0.N) : (dats m 0 c).after 54 t = partFirst 8 32 8 (iblk m c 0 t) (iblk m c 18 t) := by dsimp only [dats]
theorem after_55 (c : Dev nD) (t : Fin cfg0.N) : (dats m 0 c).after 55 t = partSecond 0 1 1024 (iblk m c 0 t) (iblk m c 19 t) := by dsimp only [dats]
theorem after_56 (c : Dev nD) (t : Fin cfg0.N) : (dats m 0 c).after 56 t = partSecond 1 1 1024 (iblk m c 0 t) (iblk m c 20 t) := by dsimp only [dats]
theorem after_57 (c : Dev nD) (t : Fin cfg0.N) : (dats m 0 c).after 57 t = partSecond 2 1 128 (iblk m c 0 t) (iblk m c 21 t) := by dsimp only [dats]
theorem after_58 (c : Dev nD) (t : Fin cfg0.N) : (dats m 0 c).after 58 t = partSecond 3 1 64 (iblk m c 0 t) (iblk m c 22 t) := by dsimp only [dats]
theorem after_59 (c : Dev nD) (t : Fin cfg0.N) : (dats m 0 c).after 59 t = partSecond 4 1 64 (iblk m c 0 t) (iblk m c 23 t) := by dsimp only [dats]
theorem after_60 (c : Dev nD) (t : Fin cfg0.N) : (dats m 0 c).after 60 t = partSecond 5 1 4 (iblk m c 0 t) (iblk m c 24 t) := by dsimp only [dats]
theorem after_61 (c : Dev nD) (t : Fin cfg0.N) : (dats m 0 c).after 61 t = partSecond 6 1 4 (iblk m c 0 t) (iblk m c 25 t) := by dsimp only [dats]
theorem after_62 (c : Dev nD) (t : Fin cfg0.N) : (dats m 0 c).after 62 t = partSecond 7 1 8 (iblk m c 0 t) (iblk m c 26 t) := by dsimp only [dats]
theorem after_63 (c : Dev nD) (t : Fin cfg0.N) : (dats m 0 c).after 63 t = partSecond 8 32 8 (iblk m c 0 t) (iblk m c 27 t) := by dsimp only [dats]
theorem after_64 (c : Dev nD) (t : Fin cfg0.N) : (dats m 0 c).after 64 t = part 40 1 1 (iblk m c 0 t) := by dsimp only [dats]

theorem defs₀_row (t : Fin cfg0.N) : defs₀ (F := F) .tc cfg0.body (cfg0.bodyArgs t (cfg0.slots t)) = bodyAt0 t := by
  unfold defs₀; rw [Defs.onTc_tc]

/-- A triple with two assertions carried along. -/
theorem passing {P Q A B : sProp 𝕄} {W : sWPT 𝕄 PUnit} (h : ∀ K : PUnit → sProp 𝕄, iprop(P ∗ (Q -∗ K ⟨⟩)) ⊢ W K) :
    iprop(A ∗ B ∗ P) ⊢ W fun _ => iprop(A ∗ B ∗ Q) := by
  refine BIBase.Entails.trans ?_ (h _)
  iintro ⟨HA, HB, HP⟩
  isplitl [HP]; · iexact HP
  iintro HQ
  isplitl [HA]; · iexact HA
  isplitl [HB]; · iexact HB
  iexact HQ

set_option maxHeartbeats 8000000 in
theorem body_obligation (c : Dev nD) : BodyObligation (dats (F := F) m 0 c) (defs₀ (F := F)) Variants.none () Set.univ := fun t => by
  rw [bigSep_W0, bigSep_W0, defs₀_row]
  rw [after_0, after_1, after_2, after_3, after_4, after_5, after_6, after_7, after_8, after_9, after_10, after_11,
    after_12, after_13, after_14, after_15, after_16, after_17, after_18, after_19, after_20, after_21, after_22,
    after_23, after_24, after_25, after_26, after_27, after_28, after_29, after_30, after_31, after_32, after_33,
    after_34, after_35, after_36, after_37, after_38, after_39, after_40, after_41, after_42, after_43, after_44,
    after_45, after_46, after_47, after_48, after_49, after_50, after_51, after_52, after_53, after_54, after_55,
    after_56, after_57, after_58, after_59, after_60, after_61, after_62, after_63, after_64]
  exact triple_restated (passing (sound_kernel c Set.univ
    (st0_0 t) (hstage0_0 0) (st0_1 t) (hstage0_1 0) (st0_2 t) (hstage0_2 0) (st0_3 t) (hstage0_3 0)
    (st0_4 t) (hstage0_4 0) (st0_5 t) (hstage0_5 0) (st0_6 t) (hstage0_6 0) (st0_7 t) (hstage0_7 0)
    (st0_8 t) (hstage0_8 0) (st0_9 t) (hstage0_9 0) (st0_10 t) (hstage0_10 0) (st0_11 t) (hstage0_11 0)
    (st0_12 t) (hstage0_12 0) (st0_13 t) (hstage0_13 0) (st0_14 t) (hstage0_14 0) (st0_15 t) (hstage0_15 0)
    (st0_16 t) (hstage0_16 0) (st0_17 t) (hstage0_17 0) (st0_18 t) (hstage0_18 0) (st0_19 t) (hstage0_19 0)
    (st0_20 t) (hstage0_20 0) (st0_21 t) (hstage0_21 0) (st0_22 t) (hstage0_22 0) (st0_23 t) (hstage0_23 0)
    (st0_24 t) (hstage0_24 0) (st0_25 t) (hstage0_25 0) (st0_26 t) (hstage0_26 0) (st0_27 t) (hstage0_27 0)
    (st0_28 t) (hstage0_28 0) (st0_29 t) (hstage0_29 0) (st0_30 t) (hstage0_30 0) (st0_31 t) (hstage0_31 0)
    (st0_32 t) (hstage0_32 0) (st0_33 t) (hstage0_33 0) (st0_34 t) (hstage0_34 0) (st0_35 t) (hstage0_35 0)
    (st0_36 t) (hstage0_36 0) (st0_37 t) (hstage0_37 0) (st0_38 t) (hstage0_38 0) (st0_39 t) (hstage0_39 0)
    (st0_40 t) (hstage0_40 0) (st0_41 t) (hstage0_41 0) (st0_42 t) (hstage0_42 0) (st0_43 t) (hstage0_43 0)
    (st0_44 t) (hstage0_44 0) (st0_45 t) (hstage0_45 0) (st0_46 t) (hstage0_46 0) (st0_47 t) (hstage0_47 0)
    (st0_48 t) (hstage0_48 0) (st0_49 t) (hstage0_49 0) (st0_50 t) (hstage0_50 0) (st0_51 t) (hstage0_51 0)
    (st0_52 t) (hstage0_52 0) (st0_53 t) (hstage0_53 0) (st0_54 t) (hstage0_54 0) (st0_55 t) (hstage0_55 0)
    (st0_56 t) (hstage0_56 0) (st0_57 t) (hstage0_57 0) (st0_58 t) (hstage0_58 0) (st0_59 t) (hstage0_59 0)
    (st0_60 t) (hstage0_60 0) (st0_61 t) (hstage0_61 0) (st0_62 t) (hstage0_62 0) (st0_63 t) (hstage0_63 0)
    (st0_64 t) (hstage0_64 0)
    ((dats m 0 c).before 0 t) ((dats m 0 c).before 1 t) ((dats m 0 c).before 2 t)
    ((dats m 0 c).before 3 t) ((dats m 0 c).before 4 t) ((dats m 0 c).before 5 t)
    ((dats m 0 c).before 6 t) ((dats m 0 c).before 7 t) ((dats m 0 c).before 8 t)
    ((dats m 0 c).before 9 t) ((dats m 0 c).before 10 t) ((dats m 0 c).before 11 t)
    ((dats m 0 c).before 12 t) ((dats m 0 c).before 13 t) ((dats m 0 c).before 14 t)
    ((dats m 0 c).before 15 t) ((dats m 0 c).before 16 t) ((dats m 0 c).before 17 t)
    ((dats m 0 c).before 18 t) ((dats m 0 c).before 19 t) ((dats m 0 c).before 20 t)
    ((dats m 0 c).before 21 t) ((dats m 0 c).before 22 t) ((dats m 0 c).before 23 t)
    ((dats m 0 c).before 24 t) ((dats m 0 c).before 25 t) ((dats m 0 c).before 26 t)
    ((dats m 0 c).before 27 t) ((dats m 0 c).before 28 t) ((dats m 0 c).before 29 t)
    ((dats m 0 c).before 30 t) ((dats m 0 c).before 31 t) ((dats m 0 c).before 32 t)
    ((dats m 0 c).before 33 t) ((dats m 0 c).before 34 t) ((dats m 0 c).before 35 t)
    ((dats m 0 c).before 36 t) ((dats m 0 c).before 37 t) ((dats m 0 c).before 38 t)
    ((dats m 0 c).before 39 t) ((dats m 0 c).before 40 t) ((dats m 0 c).before 41 t)
    ((dats m 0 c).before 42 t) ((dats m 0 c).before 43 t) ((dats m 0 c).before 44 t)
    ((dats m 0 c).before 45 t) ((dats m 0 c).before 46 t) ((dats m 0 c).before 47 t)
    ((dats m 0 c).before 48 t) ((dats m 0 c).before 49 t) ((dats m 0 c).before 50 t)
    ((dats m 0 c).before 51 t) ((dats m 0 c).before 52 t) ((dats m 0 c).before 53 t)
    ((dats m 0 c).before 54 t) ((dats m 0 c).before 55 t) ((dats m 0 c).before 56 t)
    ((dats m 0 c).before 57 t) ((dats m 0 c).before 58 t) ((dats m 0 c).before 59 t)
    ((dats m 0 c).before 60 t) ((dats m 0 c).before 61 t) ((dats m 0 c).before 62 t)
    ((dats m 0 c).before 63 t) ((dats m 0 c).before 64 t)
    (iblk m c 0 t) (iblk m c 1 t) (iblk m c 2 t) (iblk m c 3 t) (iblk m c 4 t) (iblk m c 5 t) (iblk m c 6 t)
    (iblk m c 7 t) (iblk m c 8 t) (iblk m c 9 t) (iblk m c 10 t) (iblk m c 11 t) (iblk m c 12 t) (iblk m c 13 t)
    (iblk m c 14 t) (iblk m c 15 t) (iblk m c 16 t) (iblk m c 17 t) (iblk m c 18 t) (iblk m c 19 t) (iblk m c 20 t)
    (iblk m c 21 t) (iblk m c 22 t) (iblk m c 23 t) (iblk m c 24 t) (iblk m c 25 t) (iblk m c 26 t) (iblk m c 27 t)
    (before_in m c 0 rfl (fun _ => rfl) (fun _ _ _ => rfl) (fun _ => rfl) t _ fun _ => rfl)
    (before_in m c 1 rfl (fun _ => rfl) (fun _ _ _ => rfl) (fun _ => rfl) t _ fun _ => rfl)
    (before_in m c 2 rfl (fun _ => rfl) (fun _ _ _ => rfl) (fun _ => rfl) t _ fun _ => rfl)
    (before_in m c 3 rfl (fun _ => rfl) (fun _ _ _ => rfl) (fun _ => rfl) t _ fun _ => rfl)
    (before_in m c 4 rfl (fun _ => rfl) (fun _ _ _ => rfl) (fun _ => rfl) t _ fun _ => rfl)
    (before_in m c 5 rfl (fun _ => rfl) (fun _ _ _ => rfl) (fun _ => rfl) t _ fun _ => rfl)
    (before_in m c 6 rfl (fun _ => rfl) (fun _ _ _ => rfl) (fun _ => rfl) t _ fun _ => rfl)
    (before_in m c 7 rfl (fun _ => rfl) (fun _ _ _ => rfl) (fun _ => rfl) t _ fun _ => rfl)
    (before_in m c 8 rfl (fun _ => rfl) (fun _ _ _ => rfl) (fun _ => rfl) t _ fun _ => rfl)
    (before_in m c 9 rfl (fun _ => rfl) (fun _ _ _ => rfl) (fun _ => rfl) t _ fun _ => rfl)
    (before_in m c 10 rfl (fun _ => rfl) (fun _ _ _ => rfl) (fun _ => rfl) t _ fun _ => rfl)
    (before_in m c 11 rfl (fun _ => rfl) (fun _ _ _ => rfl) (fun _ => rfl) t _ fun _ => rfl)
    (before_in m c 12 rfl (fun _ => rfl) (fun _ _ _ => rfl) (fun _ => rfl) t _ fun _ => rfl)
    (before_in m c 13 rfl (fun _ => rfl) (fun _ _ _ => rfl) (fun _ => rfl) t _ fun _ => rfl)
    (before_in m c 14 rfl (fun _ => rfl) (fun _ _ _ => rfl) (fun _ => rfl) t _ fun _ => rfl)
    (before_in m c 15 rfl (fun _ => rfl) (fun _ _ _ => rfl) (fun _ => rfl) t _ fun _ => rfl)
    (before_in m c 16 rfl (fun _ => rfl) (fun _ _ _ => rfl) (fun _ => rfl) t _ fun _ => rfl)
    (before_in m c 17 rfl (fun _ => rfl) (fun _ _ _ => rfl) (fun _ => rfl) t _ fun _ => rfl)
    (before_in m c 18 rfl (fun _ => rfl) (fun _ _ _ => rfl) (fun _ => rfl) t _ fun _ => rfl)
    (before_in m c 19 rfl (fun _ => rfl) (fun _ _ _ => rfl) (fun _ => rfl) t _ fun _ => rfl)
    (before_in m c 20 rfl (fun _ => rfl) (fun _ _ _ => rfl) (fun _ => rfl) t _ fun _ => rfl)
    (before_in m c 21 rfl (fun _ => rfl) (fun _ _ _ => rfl) (fun _ => rfl) t _ fun _ => rfl)
    (before_in m c 22 rfl (fun _ => rfl) (fun _ _ _ => rfl) (fun _ => rfl) t _ fun _ => rfl)
    (before_in m c 23 rfl (fun _ => rfl) (fun _ _ _ => rfl) (fun _ => rfl) t _ fun _ => rfl)
    (before_in m c 24 rfl (fun _ => rfl) (fun _ _ _ => rfl) (fun _ => rfl) t _ fun _ => rfl)
    (before_in m c 25 rfl (fun _ => rfl) (fun _ _ _ => rfl) (fun _ => rfl) t _ fun _ => rfl)
    (before_in m c 26 rfl (fun _ => rfl) (fun _ _ _ => rfl) (fun _ => rfl) t _ fun _ => rfl)
    (before_in m c 27 rfl (fun _ => rfl) (fun _ _ _ => rfl) (fun _ => rfl) t _ fun _ => rfl))) rfl .rfl fun _ => .rfl

/-! ## The run and the frame -/

set_option backward.isDefEq.respectTransparency.types false in
set_option maxHeartbeats 800000 in
/-- Every execution ends with every array at what the data say and no semaphore raised. -/
theorem run_quiescent : θ_run defs (onTc (τ := τ) (main (F := F))) (s₀ m ρ)
    (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- What the frame says of a final state: the arguments as launched and no semaphore raised. -/
def Kept (r : PUnit × MemSt nD τ sig (Elt F)) : Prop :=
  (∀ c : Dev nD, r.2.mem (c.tc.loc main_arg0) = m (c.tc.loc main_arg0)
      ∧ r.2.mem (c.tc.loc main_arg1) = m (c.tc.loc main_arg1)
      ∧ r.2.mem (c.tc.loc main_arg2) = m (c.tc.loc main_arg2)
      ∧ r.2.mem (c.tc.loc main_arg3) = m (c.tc.loc main_arg3)
      ∧ r.2.mem (c.tc.loc main_arg4) = m (c.tc.loc main_arg4)
      ∧ r.2.mem (c.tc.loc main_arg5) = m (c.tc.loc main_arg5)
      ∧ r.2.mem (c.tc.loc main_arg6) = m (c.tc.loc main_arg6)
      ∧ r.2.mem (c.tc.loc main_arg7) = m (c.tc.loc main_arg7)
      ∧ r.2.mem (c.tc.loc main_arg8) = m (c.tc.loc main_arg8)
      ∧ r.2.mem (c.tc.loc main_arg9) = m (c.tc.loc main_arg9)
      ∧ r.2.mem (c.tc.loc main_arg10) = m (c.tc.loc main_arg10)
      ∧ r.2.mem (c.tc.loc main_arg11) = m (c.tc.loc main_arg11)
      ∧ r.2.mem (c.tc.loc main_arg12) = m (c.tc.loc main_arg12)
      ∧ r.2.mem (c.tc.loc main_arg13) = m (c.tc.loc main_arg13)
      ∧ r.2.mem (c.tc.loc main_arg14) = m (c.tc.loc main_arg14)
      ∧ r.2.mem (c.tc.loc main_arg15) = m (c.tc.loc main_arg15)
      ∧ r.2.mem (c.tc.loc main_arg16) = m (c.tc.loc main_arg16)
      ∧ r.2.mem (c.tc.loc main_arg17) = m (c.tc.loc main_arg17)
      ∧ r.2.mem (c.tc.loc main_arg18) = m (c.tc.loc main_arg18)
      ∧ r.2.mem (c.tc.loc main_arg19) = m (c.tc.loc main_arg19)
      ∧ r.2.mem (c.tc.loc main_arg20) = m (c.tc.loc main_arg20)
      ∧ r.2.mem (c.tc.loc main_arg21) = m (c.tc.loc main_arg21)
      ∧ r.2.mem (c.tc.loc main_arg22) = m (c.tc.loc main_arg22)
      ∧ r.2.mem (c.tc.loc main_arg23) = m (c.tc.loc main_arg23)
      ∧ r.2.mem (c.tc.loc main_arg24) = m (c.tc.loc main_arg24)
      ∧ r.2.mem (c.tc.loc main_arg25) = m (c.tc.loc main_arg25)
      ∧ r.2.mem (c.tc.loc main_arg26) = m (c.tc.loc main_arg26)
      ∧ r.2.mem (c.tc.loc main_arg27) = m (c.tc.loc main_arg27))
    ∧ r.2.sem = fun _ => 0

/-- An argument ends as launched. -/
theorem arg_end {r : PUnit × MemSt nD τ sig (Elt F)} (h : Pipeline.FramePost cfgs (dats m) 0 (V m) r) (c : Dev nD) (w : Fin cfg0.W)
    (hw : (cfg0.win w).isOut = false) : r.2.mem (((cfgs 0).spec w).arr.view.loc (c.tc : Thread nD τ)) = V m c (Pipeline.arrRef spec0 w) :=
  ((h c).1 w).trans (((dats m 0 c).arrAt_in w hw _).trans (A_eq m c w))

/-- Every execution ends with the arguments as launched and no semaphore raised. -/
theorem frame : θ_run defs (onTc (τ := τ) (main (F := F))) ⟨m, fun _ => 0, ρ⟩ (Kept m) :=
  (θ_run defs _ _).mono (fun _ h => ⟨fun c => ⟨
      arg_end m h.1 c 0 rfl, arg_end m h.1 c 1 rfl, arg_end m h.1 c 2 rfl, arg_end m h.1 c 3 rfl,
      arg_end m h.1 c 4 rfl, arg_end m h.1 c 5 rfl, arg_end m h.1 c 6 rfl, arg_end m h.1 c 7 rfl,
      arg_end m h.1 c 8 rfl, arg_end m h.1 c 9 rfl, arg_end m h.1 c 10 rfl, arg_end m h.1 c 11 rfl,
      arg_end m h.1 c 12 rfl, arg_end m h.1 c 13 rfl, arg_end m h.1 c 14 rfl, arg_end m h.1 c 15 rfl,
      arg_end m h.1 c 16 rfl, arg_end m h.1 c 17 rfl, arg_end m h.1 c 18 rfl, arg_end m h.1 c 19 rfl,
      arg_end m h.1 c 20 rfl, arg_end m h.1 c 21 rfl, arg_end m h.1 c 22 rfl, arg_end m h.1 c 23 rfl,
      arg_end m h.1 c 24 rfl, arg_end m h.1 c 25 rfl, arg_end m h.1 c 26 rfl, arg_end m h.1 c 27 rfl⟩, h.2⟩) (run_quiescent m ρ)
end

end Cert.Kernel15Ideal.Small

end
-- ==== Proof.AdamSmallVal.lean ====
/-
  The optimiser's step of the nine small weights: its results are the reference's.
-/
module

public import proofs.«01_k».proof.Proof.AdamSmall
public import proofs.«01_k».proof.Proof.AdamHost
public import proofs.«01_k».proof.Proof.Gen.Reference15Ideal.Run
public import Idealize.ShloMosaic.Lib.StableHlo.ReadAt
public import Idealize.ShloMosaic.Lib.Pipeline.ValueKit.Geometry
public import Idealize.ShloMosaic.Lib.Pipeline.ValueKit.Acc
public import Idealize.ShloMosaic.Lib.Pipeline.ValueKit.Tiles

@[expose] public section

set_option maxRecDepth 16384

noncomputable section

namespace Cert.Kernel15Ideal.Small

open Idealize.ShloMosaic Idealize.ShloMosaic.TcCoe Idealize.ShloMosaic.Tactic Idealize.SL.Sem Idealize.ShloMosaic.StableHlo
open Cert.Kernel15Ideal Cert.Kernel15Ideal.Gen Cert.Ffn
open Cert.Adam (refFirst refSecond refChange)

/-! ## What the body leaves, entry by entry -/

theorem zeros (n c : ℕ) : ∀ a, (![0, 0] : Fin 2 → ℕ) a = 0 := by
  intro a
  fin_cases a <;> rfl

theorem put_eq (n c : ℕ) (v : FVec Ideal (Wt n c) .f32) : put n c v = v := View.canon_cons_unit_lit (S := Wt n c) _ _ _ (zeros n c)

theorem get_eq (n c : ℕ) (x : Vec Ideal (Wt n c) .f32) : get n c x = x := View.ld_unit_lit (S := Wt n c) _ _ (zeros n c)

section
variable (row n c : ℕ) (hr : row + n ≤ 48) (hc : c ≤ 1024) (x : Vec Ideal S8x48x1024 .f32)

/-- An entry of one device's part. -/
theorem sheetPart_at (k : Fin 8) (i : Fin n) (j : Fin c) : sheetPart row n c hr hc x k (ix2 i j) =
    x (ix3 k ⟨row + i.val, by omega⟩ ⟨j.val, by omega⟩) := by
  unfold sheetPart
  rw [shapeCast_dropUnit_apply ![n, c]]
  refine View.ld_unit_apply_of (S := S8x48x1024) x _ _ _ _ _ fun a => ?_
  fin_cases a
  · rfl
  · rfl
  · exact (Nat.zero_add _).symm

/-- An entry of the gradient: the sum over the devices. -/
theorem gradOf_at (i : Fin n) (j : Fin c) : gradOf row n c hr hc x (ix2 i j) =
    ∑ k : Fin 8, x (ix3 k ⟨row + i.val, by omega⟩ ⟨j.val, by omega⟩) := by
  rw [Fin.sum_univ_eight]
  simp only [← sheetPart_at row n c hr hc x _ i j]
  rfl

/-- The reference's rows of the summed sheets are the gradient. -/
theorem cut_eq (hred : S8x48x1024.ReducesTo [0] Reference15Ideal.S48x1024) (hs : _) (hS : _) : extractStridedSlice (Wt n c) ![row, 0]
    (Host.reduceAdd x (constant (F := Ideal) Reference15Ideal.S_ .f32 0x00000000#32) hred hS : FVec Ideal Reference15Ideal.S48x1024 .f32) hs = gradOf row n c hr hc x := by
  funext y
  obtain ⟨i, j, rfl⟩ : ∃ (i : Fin n) (j : Fin c), y = ix2 i j := ⟨y 0, y 1, funext fun a => by fin_cases a <;> rfl⟩
  rw [gradOf_at]
  pointwise []
  done
end

section
variable {S : Shape} (hb : _) (g w u v : FVec Ideal S .f32)

theorem refFirst_eq : refFirst hb g u = firstOf g u := by
  funext y
  pointwise [refFirst, firstOf]

theorem refSecond_eq : refSecond hb g v = secondOf g v := by
  funext y
  pointwise [refSecond, secondOf]

theorem refChange_eq : refChange hb g w u v = changeOf g w u v := by
  funext y
  pointwise [refChange, changeOf, firstOf, secondOf]
end

/-! ## The arrays at the end -/

section
variable (row n c : ℕ) (hr : row + n ≤ 48) (hc : c ≤ 1024) {x x' : Vec Ideal S8x48x1024 .f32} {w w' u u' v v' : Vec Ideal (Wt n c) .f32}

/-- The reference's gradient is the kernel's, on equal arguments, -/
theorem ref_part (ex : x' = x) (hred : S8x48x1024.ReducesTo [0] Reference15Ideal.S48x1024) (hs : _) (hS : _) :
    extractStridedSlice (Wt n c) ![row, 0] (Host.reduceAdd x' (constant (F := Ideal) Reference15Ideal.S_ .f32 0x00000000#32) hred hS :
      FVec Ideal Reference15Ideal.S48x1024 .f32) hs = part row n c x hr hc := by
  subst ex
  unfold part
  rw [put_eq, cut_eq row n c hr hc]

/-- so is its change of the weight, -/
theorem ref_change (hb : _) (g : FVec Ideal (Wt n c) .f32) (eg : g = part row n c x hr hc) (ew : w' = w) (eu : u' = u) (ev : v' = v) :
    refChange hb g w' u' v' = partChange row n c x w u v hr hc := by
  subst eg ew eu ev
  unfold partChange part
  rw [refChange_eq, put_eq, put_eq, get_eq, get_eq, get_eq]

/-- its new first moment -/
theorem ref_first (hb : _) (g : FVec Ideal (Wt n c) .f32) (eg : g = part row n c x hr hc) (eu : u' = u) :
    refFirst hb g u' = partFirst row n c x u hr hc := by
  subst eg eu
  unfold partFirst part
  rw [refFirst_eq, put_eq, put_eq, get_eq]

/-- and its new second moment. -/
theorem ref_second (hb : _) (g : FVec Ideal (Wt n c) .f32) (eg : g = part row n c x hr hc) (ev : v' = v) :
    refSecond hb g v' = partSecond row n c x v hr hc := by
  subst eg ev
  unfold partSecond part
  rw [refSecond_eq, put_eq, put_eq, get_eq]
end

variable (m : (ℓ : Loc nD τ sig) → Buf (Elt Ideal) ℓ) (c : Dev nD)

/-- The single point of the grid. -/
abbrev pt : Fin cfg0.N := ⟨0, by decide⟩

/-- Every window is its whole array. -/
theorem wholes : ∀ w : Fin cfg0.W, (cfg0.win w).isOut = true → (cfg0.win w).WholeAt pt := by decide +kernel

theorem index_zero : ∀ (w : Fin cfg0.W) (a : Fin (cfg0.win w).shape.rank), (cfg0.win w).index pt a = 0 := by decide +kernel

/-- An argument's block is the argument, entry by entry. -/
theorem iblk_at (w : Fin cfg0.W) (y : ((cfg0.win w).xblock (cfg0.grid.coords pt)).Idx) (i : (cfg0.win w).shape.Idx)
    (hi : ∀ a, (i a).val = (y a).val) : iblk m c w pt y = (cfg0.win w).arr.view.read (Elt Ideal) (V m c (Pipeline.arrRef spec0 w)) i := by
  have e : ((cfg0.win w).rect pt).emb y = i := by
    funext a
    apply Fin.ext
    rw [Pipeline.Window.rect_emb_val_of_index_zero _ _ _ (index_zero w a)]
    exact (hi a).symm
  subst e
  rfl

theorem iblk_0 : (iblk m c 0 pt : Vec Ideal S8x48x1024 .f32) = V m c main_arg0 := funext fun y => iblk_at m c 0 y y fun _ => rfl
theorem iblk_1 : (iblk m c 1 pt : Vec Ideal S1x1024 .f32) = V m c main_arg1 := funext fun y => iblk_at m c 1 y y fun _ => rfl
theorem iblk_2 : (iblk m c 2 pt : Vec Ideal S1x1024 .f32) = V m c main_arg2 := funext fun y => iblk_at m c 2 y y fun _ => rfl
theorem iblk_3 : (iblk m c 3 pt : Vec Ideal S1x128 .f32) = V m c main_arg3 := funext fun y => iblk_at m c 3 y y fun _ => rfl
theorem iblk_4 : (iblk m c 4 pt : Vec Ideal S1x64 .f32) = V m c main_arg4 := funext fun y => iblk_at m c 4 y y fun _ => rfl
theorem iblk_5 : (iblk m c 5 pt : Vec Ideal S1x64 .f32) = V m c main_arg5 := funext fun y => iblk_at m c 5 y y fun _ => rfl
theorem iblk_6 : (iblk m c 6 pt : Vec Ideal S1x4 .f32) = V m c main_arg6 := funext fun y => iblk_at m c 6 y y fun _ => rfl
theorem iblk_7 : (iblk m c 7 pt : Vec Ideal S1x4 .f32) = V m c main_arg7 := funext fun y => iblk_at m c 7 y y fun _ => rfl
theorem iblk_8 : (iblk m c 8 pt : Vec Ideal S1x8 .f32) = V m c main_arg8 := funext fun y => iblk_at m c 8 y y fun _ => rfl
theorem iblk_9 : (iblk m c 9 pt : Vec Ideal S32x8 .f32) = V m c main_arg9 := funext fun y => iblk_at m c 9 y y fun _ => rfl
theorem iblk_10 : (iblk m c 10 pt : Vec Ideal S1x1024 .f32) = V m c main_arg10 := funext fun y => iblk_at m c 10 y y fun _ => rfl
theorem iblk_11 : (iblk m c 11 pt : Vec Ideal S1x1024 .f32) = V m c main_arg11 := funext fun y => iblk_at m c 11 y y fun _ => rfl
theorem iblk_12 : (iblk m c 12 pt : Vec Ideal S1x128 .f32) = V m c main_arg12 := funext fun y => iblk_at m c 12 y y fun _ => rfl
theorem iblk_13 : (iblk m c 13 pt : Vec Ideal S1x64 .f32) = V m c main_arg13 := funext fun y => iblk_at m c 13 y y fun _ => rfl
theorem iblk_14 : (iblk m c 14 pt : Vec Ideal S1x64 .f32) = V m c main_arg14 := funext fun y => iblk_at m c 14 y y fun _ => rfl
theorem iblk_15 : (iblk m c 15 pt : Vec Ideal S1x4 .f32) = V m c main_arg15 := funext fun y => iblk_at m c 15 y y fun _ => rfl
theorem iblk_16 : (iblk m c 16 pt : Vec Ideal S1x4 .f32) = V m c main_arg16 := funext fun y => iblk_at m c 16 y y fun _ => rfl
theorem iblk_17 : (iblk m c 17 pt : Vec Ideal S1x8 .f32) = V m c main_arg17 := funext fun y => iblk_at m c 17 y y fun _ => rfl
theorem iblk_18 : (iblk m c 18 pt : Vec Ideal S32x8 .f32) = V m c main_arg18 := funext fun y => iblk_at m c 18 y y fun _ => rfl
theorem iblk_19 : (iblk m c 19 pt : Vec Ideal S1x1024 .f32) = V m c main_arg19 := funext fun y => iblk_at m c 19 y y fun _ => rfl
theorem iblk_20 : (iblk m c 20 pt : Vec Ideal S1x1024 .f32) = V m c main_arg20 := funext fun y => iblk_at m c 20 y y fun _ => rfl
theorem iblk_21 : (iblk m c 21 pt : Vec Ideal S1x128 .f32) = V m c main_arg21 := funext fun y => iblk_at m c 21 y y fun _ => rfl
theorem iblk_22 : (iblk m c 22 pt : Vec Ideal S1x64 .f32) = V m c main_arg22 := funext fun y => iblk_at m c 22 y y fun _ => rfl
theorem iblk_23 : (iblk m c 23 pt : Vec Ideal S1x64 .f32) = V m c main_arg23 := funext fun y => iblk_at m c 23 y y fun _ => rfl
theorem iblk_24 : (iblk m c 24 pt : Vec Ideal S1x4 .f32) = V m c main_arg24 := funext fun y => iblk_at m c 24 y y fun _ => rfl
theorem iblk_25 : (iblk m c 25 pt : Vec Ideal S1x4 .f32) = V m c main_arg25 := funext fun y => iblk_at m c 25 y y fun _ => rfl
theorem iblk_26 : (iblk m c 26 pt : Vec Ideal S1x8 .f32) = V m c main_arg26 := funext fun y => iblk_at m c 26 y y fun _ => rfl
theorem iblk_27 : (iblk m c 27 pt : Vec Ideal S32x8 .f32) = V m c main_arg27 := funext fun y => iblk_at m c 27 y y fun _ => rfl
theorem final_28 : (dats m 0 c).arrAt 28 cfg0.N = part 0 1 1024 (V m c main_arg0) :=
  (dats m 0 c).arrAt_eq_of_after_last 28 pt (wholes 28 rfl) _ fun j =>
    congrFun ((after_28 m c pt).trans (by rw [iblk_0])) j
theorem final_29 : (dats m 0 c).arrAt 29 cfg0.N = part 1 1 1024 (V m c main_arg0) :=
  (dats m 0 c).arrAt_eq_of_after_last 29 pt (wholes 29 rfl) _ fun j =>
    congrFun ((after_29 m c pt).trans (by rw [iblk_0])) j
theorem final_30 : (dats m 0 c).arrAt 30 cfg0.N = part 2 1 128 (V m c main_arg0) :=
  (dats m 0 c).arrAt_eq_of_after_last 30 pt (wholes 30 rfl) _ fun j =>
    congrFun ((after_30 m c pt).trans (by rw [iblk_0])) j
theorem final_31 : (dats m 0 c).arrAt 31 cfg0.N = part 3 1 64 (V m c main_arg0) :=
  (dats m 0 c).arrAt_eq_of_after_last 31 pt (wholes 31 rfl) _ fun j =>
    congrFun ((after_31 m c pt).trans (by rw [iblk_0])) j
theorem final_32 : (dats m 0 c).arrAt 32 cfg0.N = part 4 1 64 (V m c main_arg0) :=
  (dats m 0 c).arrAt_eq_of_after_last 32 pt (wholes 32 rfl) _ fun j =>
    congrFun ((after_32 m c pt).trans (by rw [iblk_0])) j
theorem final_33 : (dats m 0 c).arrAt 33 cfg0.N = part 5 1 4 (V m c main_arg0) :=
  (dats m 0 c).arrAt_eq_of_after_last 33 pt (wholes 33 rfl) _ fun j =>
    congrFun ((after_33 m c pt).trans (by rw [iblk_0])) j
theorem final_34 : (dats m 0 c).arrAt 34 cfg0.N = part 6 1 4 (V m c main_arg0) :=
  (dats m 0 c).arrAt_eq_of_after_last 34 pt (wholes 34 rfl) _ fun j =>
    congrFun ((after_34 m c pt).trans (by rw [iblk_0])) j
theorem final_35 : (dats m 0 c).arrAt 35 cfg0.N = part 7 1 8 (V m c main_arg0) :=
  (dats m 0 c).arrAt_eq_of_after_last 35 pt (wholes 35 rfl) _ fun j =>
    congrFun ((after_35 m c pt).trans (by rw [iblk_0])) j
theorem final_36 : (dats m 0 c).arrAt 36 cfg0.N = part 8 32 8 (V m c main_arg0) :=
  (dats m 0 c).arrAt_eq_of_after_last 36 pt (wholes 36 rfl) _ fun j =>
    congrFun ((after_36 m c pt).trans (by rw [iblk_0])) j
theorem final_37 : (dats m 0 c).arrAt 37 cfg0.N = partChange 0 1 1024 (V m c main_arg0) (V m c main_arg1) (V m c main_arg10) (V m c main_arg19) :=
  (dats m 0 c).arrAt_eq_of_after_last 37 pt (wholes 37 rfl) _ fun j =>
    congrFun ((after_37 m c pt).trans (by rw [iblk_0, iblk_1, iblk_10, iblk_19])) j
theorem final_38 : (dats m 0 c).arrAt 38 cfg0.N = partChange 1 1 1024 (V m c main_arg0) (V m c main_arg2) (V m c main_arg11) (V m c main_arg20) :=
  (dats m 0 c).arrAt_eq_of_after_last 38 pt (wholes 38 rfl) _ fun j =>
    congrFun ((after_38 m c pt).trans (by rw [iblk_0, iblk_2, iblk_11, iblk_20])) j
theorem final_39 : (dats m 0 c).arrAt 39 cfg0.N = partChange 2 1 128 (V m c main_arg0) (V m c main_arg3) (V m c main_arg12) (V m c main_arg21) :=
  (dats m 0 c).arrAt_eq_of_after_last 39 pt (wholes 39 rfl) _ fun j =>
    congrFun ((after_39 m c pt).trans (by rw [iblk_0, iblk_3, iblk_12, iblk_21])) j
theorem final_40 : (dats m 0 c).arrAt 40 cfg0.N = partChange 3 1 64 (V m c main_arg0) (V m c main_arg4) (V m c main_arg13) (V m c main_arg22) :=
  (dats m 0 c).arrAt_eq_of_after_last 40 pt (wholes 40 rfl) _ fun j =>
    congrFun ((after_40 m c pt).trans (by rw [iblk_0, iblk_4, iblk_13, iblk_22])) j
theorem final_41 : (dats m 0 c).arrAt 41 cfg0.N = partChange 4 1 64 (V m c main_arg0) (V m c main_arg5) (V m c main_arg14) (V m c main_arg23) :=
  (dats m 0 c).arrAt_eq_of_after_last 41 pt (wholes 41 rfl) _ fun j =>
    congrFun ((after_41 m c pt).trans (by rw [iblk_0, iblk_5, iblk_14, iblk_23])) j
theorem final_42 : (dats m 0 c).arrAt 42 cfg0.N = partChange 5 1 4 (V m c main_arg0) (V m c main_arg6) (V m c main_arg15) (V m c main_arg24) :=
  (dats m 0 c).arrAt_eq_of_after_last 42 pt (wholes 42 rfl) _ fun j =>
    congrFun ((after_42 m c pt).trans (by rw [iblk_0, iblk_6, iblk_15, iblk_24])) j
theorem final_43 : (dats m 0 c).arrAt 43 cfg0.N = partChange 6 1 4 (V m c main_arg0) (V m c main_arg7) (V m c main_arg16) (V m c main_arg25) :=
  (dats m 0 c).arrAt_eq_of_after_last 43 pt (wholes 43 rfl) _ fun j =>
    congrFun ((after_43 m c pt).trans (by rw [iblk_0, iblk_7, iblk_16, iblk_25])) j
theorem final_44 : (dats m 0 c).arrAt 44 cfg0.N = partChange 7 1 8 (V m c main_arg0) (V m c main_arg8) (V m c main_arg17) (V m c main_arg26) :=
  (dats m 0 c).arrAt_eq_of_after_last 44 pt (wholes 44 rfl) _ fun j =>
    congrFun ((after_44 m c pt).trans (by rw [iblk_0, iblk_8, iblk_17, iblk_26])) j
theorem final_45 : (dats m 0 c).arrAt 45 cfg0.N = partChange 8 32 8 (V m c main_arg0) (V m c main_arg9) (V m c main_arg18) (V m c main_arg27) :=
  (dats m 0 c).arrAt_eq_of_after_last 45 pt (wholes 45 rfl) _ fun j =>
    congrFun ((after_45 m c pt).trans (by rw [iblk_0, iblk_9, iblk_18, iblk_27])) j
theorem final_46 : (dats m 0 c).arrAt 46 cfg0.N = partFirst 0 1 1024 (V m c main_arg0) (V m c main_arg10) :=
  (dats m 0 c).arrAt_eq_of_after_last 46 pt (wholes 46 rfl) _ fun j =>
    congrFun ((after_46 m c pt).trans (by rw [iblk_0, iblk_10])) j
theorem final_47 : (dats m 0 c).arrAt 47 cfg0.N = partFirst 1 1 1024 (V m c main_arg0) (V m c main_arg11) :=
  (dats m 0 c).arrAt_eq_of_after_last 47 pt (wholes 47 rfl) _ fun j =>
    congrFun ((after_47 m c pt).trans (by rw [iblk_0, iblk_11])) j
theorem final_48 : (dats m 0 c).arrAt 48 cfg0.N = partFirst 2 1 128 (V m c main_arg0) (V m c main_arg12) :=
  (dats m 0 c).arrAt_eq_of_after_last 48 pt (wholes 48 rfl) _ fun j =>
    congrFun ((after_48 m c pt).trans (by rw [iblk_0, iblk_12])) j
theorem final_49 : (dats m 0 c).arrAt 49 cfg0.N = partFirst 3 1 64 (V m c main_arg0) (V m c main_arg13) :=
  (dats m 0 c).arrAt_eq_of_after_last 49 pt (wholes 49 rfl) _ fun j =>
    congrFun ((after_49 m c pt).trans (by rw [iblk_0, iblk_13])) j
theorem final_50 : (dats m 0 c).arrAt 50 cfg0.N = partFirst 4 1 64 (V m c main_arg0) (V m c main_arg14) :=
  (dats m 0 c).arrAt_eq_of_after_last 50 pt (wholes 50 rfl) _ fun j =>
    congrFun ((after_50 m c pt).trans (by rw [iblk_0, iblk_14])) j
theorem final_51 : (dats m 0 c).arrAt 51 cfg0.N = partFirst 5 1 4 (V m c main_arg0) (V m c main_arg15) :=
  (dats m 0 c).arrAt_eq_of_after_last 51 pt (wholes 51 rfl) _ fun j =>
    congrFun ((after_51 m c pt).trans (by rw [iblk_0, iblk_15])) j
theorem final_52 : (dats m 0 c).arrAt 52 cfg0.N = partFirst 6 1 4 (V m c main_arg0) (V m c main_arg16) :=
  (dats m 0 c).arrAt_eq_of_after_last 52 pt (wholes 52 rfl) _ fun j =>
    congrFun ((after_52 m c pt).trans (by rw [iblk_0, iblk_16])) j
theorem final_53 : (dats m 0 c).arrAt 53 cfg0.N = partFirst 7 1 8 (V m c main_arg0) (V m c main_arg17) :=
  (dats m 0 c).arrAt_eq_of_after_last 53 pt (wholes 53 rfl) _ fun j =>
    congrFun ((after_53 m c pt).trans (by rw [iblk_0, iblk_17])) j
theorem final_54 : (dats m 0 c).arrAt 54 cfg0.N = partFirst 8 32 8 (V m c main_arg0) (V m c main_arg18) :=
  (dats m 0 c).arrAt_eq_of_after_last 54 pt (wholes 54 rfl) _ fun j =>
    congrFun ((after_54 m c pt).trans (by rw [iblk_0, iblk_18])) j
theorem final_55 : (dats m 0 c).arrAt 55 cfg0.N = partSecond 0 1 1024 (V m c main_arg0) (V m c main_arg19) :=
  (dats m 0 c).arrAt_eq_of_after_last 55 pt (wholes 55 rfl) _ fun j =>
    congrFun ((after_55 m c pt).trans (by rw [iblk_0, iblk_19])) j
theorem final_56 : (dats m 0 c).arrAt 56 cfg0.N = partSecond 1 1 1024 (V m c main_arg0) (V m c main_arg20) :=
  (dats m 0 c).arrAt_eq_of_after_last 56 pt (wholes 56 rfl) _ fun j =>
    congrFun ((after_56 m c pt).trans (by rw [iblk_0, iblk_20])) j
theorem final_57 : (dats m 0 c).arrAt 57 cfg0.N = partSecond 2 1 128 (V m c main_arg0) (V m c main_arg21) :=
  (dats m 0 c).arrAt_eq_of_after_last 57 pt (wholes 57 rfl) _ fun j =>
    congrFun ((after_57 m c pt).trans (by rw [iblk_0, iblk_21])) j
theorem final_58 : (dats m 0 c).arrAt 58 cfg0.N = partSecond 3 1 64 (V m c main_arg0) (V m c main_arg22) :=
  (dats m 0 c).arrAt_eq_of_after_last 58 pt (wholes 58 rfl) _ fun j =>
    congrFun ((after_58 m c pt).trans (by rw [iblk_0, iblk_22])) j
theorem final_59 : (dats m 0 c).arrAt 59 cfg0.N = partSecond 4 1 64 (V m c main_arg0) (V m c main_arg23) :=
  (dats m 0 c).arrAt_eq_of_after_last 59 pt (wholes 59 rfl) _ fun j =>
    congrFun ((after_59 m c pt).trans (by rw [iblk_0, iblk_23])) j
theorem final_60 : (dats m 0 c).arrAt 60 cfg0.N = partSecond 5 1 4 (V m c main_arg0) (V m c main_arg24) :=
  (dats m 0 c).arrAt_eq_of_after_last 60 pt (wholes 60 rfl) _ fun j =>
    congrFun ((after_60 m c pt).trans (by rw [iblk_0, iblk_24])) j
theorem final_61 : (dats m 0 c).arrAt 61 cfg0.N = partSecond 6 1 4 (V m c main_arg0) (V m c main_arg25) :=
  (dats m 0 c).arrAt_eq_of_after_last 61 pt (wholes 61 rfl) _ fun j =>
    congrFun ((after_61 m c pt).trans (by rw [iblk_0, iblk_25])) j
theorem final_62 : (dats m 0 c).arrAt 62 cfg0.N = partSecond 7 1 8 (V m c main_arg0) (V m c main_arg26) :=
  (dats m 0 c).arrAt_eq_of_after_last 62 pt (wholes 62 rfl) _ fun j =>
    congrFun ((after_62 m c pt).trans (by rw [iblk_0, iblk_26])) j
theorem final_63 : (dats m 0 c).arrAt 63 cfg0.N = partSecond 8 32 8 (V m c main_arg0) (V m c main_arg27) :=
  (dats m 0 c).arrAt_eq_of_after_last 63 pt (wholes 63 rfl) _ fun j =>
    congrFun ((after_63 m c pt).trans (by rw [iblk_0, iblk_27])) j
theorem final_64 : (dats m 0 c).arrAt 64 cfg0.N = part 40 1 1 (V m c main_arg0) :=
  (dats m 0 c).arrAt_eq_of_after_last 64 pt (wholes 64 rfl) _ fun j =>
    congrFun ((after_64 m c pt).trans (by rw [iblk_0])) j

end Cert.Kernel15Ideal.Small

end
-- ==== Proof.AdamSmallEnd.lean ====
/-
  The optimiser's step of the nine small weights: the machine's program and its idealization end with their arguments
  unchanged, and the idealization's results are the reference's.
-/
module

public import proofs.«01_k».proof.Defs
public import proofs.«01_k».proof.Proof.AdamSmallVal
public import proofs.«01_k».proof.Proof.Gen.Kernel15

@[expose] public section

set_option maxRecDepth 16384

noncomputable section

namespace Cert

open Idealize.ShloMosaic Idealize.ShloMosaic.TcCoe Idealize.SL.Sem

namespace Kernel15.Small

set_option maxHeartbeats 4000000 in
/-- The machine's program has the idealization's table of bodies. -/
theorem bodies : defs₀ (F := Bits) = Cert.Kernel15Ideal.defs₀ (F := Bits) := by
  unfold defs₀ Cert.Kernel15Ideal.defs₀
  congr 1
  funext l a
  match l, a with
  | 0, (t, s) => rfl

set_option maxHeartbeats 4000000 in
/-- So is the whole table, with the regions. -/
theorem tables : defs (F := Bits) = Cert.Kernel15Ideal.defs (F := Bits) := congrArg (Pipeline.defs pcfgs) bodies

set_option maxHeartbeats 4000000 in
/-- The machine's program ends with its arguments unchanged. -/
theorem frame : Cert.quiescent_Kernel15 := by
  intro m ρ _
  have h := Cert.Kernel15Ideal.Small.frame (F := Bits) m ρ
  rw [← tables] at h
  exact h

end Kernel15.Small

namespace Kernel15Ideal.Small

open Cert.Kernel15Ideal.Gen

/-- The idealization ends with its arguments unchanged. -/
theorem frameIdeal : Cert.quiescent_Kernel15Ideal := fun m ρ _ => frame m ρ

set_option maxHeartbeats 4000000 in
/-- The idealization's results are the reference's. -/
theorem value : Cert.algebraic_Kernel15Ideal_Reference15Ideal := by
  intro m ρ m' ρ' _ hag
  refine ⟨_, _, _, _, _, _, _, _, _, _, _, _, _, _, _, _, _, _, _, _, _, _, _, _, _, _, _, _, _, _, _, _, _, _, _, _, _,
    (θ_run Cert.Kernel15Ideal.defs _ _).mono (fun r h c => ⟨
      ((h.1 c).1 64).trans (final_64 m c), ((h.1 c).1 28).trans (final_28 m c), ((h.1 c).1 29).trans (final_29 m c),
      ((h.1 c).1 30).trans (final_30 m c), ((h.1 c).1 31).trans (final_31 m c), ((h.1 c).1 32).trans (final_32 m c),
      ((h.1 c).1 33).trans (final_33 m c), ((h.1 c).1 34).trans (final_34 m c), ((h.1 c).1 35).trans (final_35 m c),
      ((h.1 c).1 36).trans (final_36 m c), ((h.1 c).1 37).trans (final_37 m c), ((h.1 c).1 38).trans (final_38 m c),
      ((h.1 c).1 39).trans (final_39 m c), ((h.1 c).1 40).trans (final_40 m c), ((h.1 c).1 41).trans (final_41 m c),
      ((h.1 c).1 42).trans (final_42 m c), ((h.1 c).1 43).trans (final_43 m c), ((h.1 c).1 44).trans (final_44 m c),
      ((h.1 c).1 45).trans (final_45 m c), ((h.1 c).1 46).trans (final_46 m c), ((h.1 c).1 47).trans (final_47 m c),
      ((h.1 c).1 48).trans (final_48 m c), ((h.1 c).1 49).trans (final_49 m c), ((h.1 c).1 50).trans (final_50 m c),
      ((h.1 c).1 51).trans (final_51 m c), ((h.1 c).1 52).trans (final_52 m c), ((h.1 c).1 53).trans (final_53 m c),
      ((h.1 c).1 54).trans (final_54 m c), ((h.1 c).1 55).trans (final_55 m c), ((h.1 c).1 56).trans (final_56 m c),
      ((h.1 c).1 57).trans (final_57 m c), ((h.1 c).1 58).trans (final_58 m c), ((h.1 c).1 59).trans (final_59 m c),
      ((h.1 c).1 60).trans (final_60 m c), ((h.1 c).1 61).trans (final_61 m c), ((h.1 c).1 62).trans (final_62 m c),
      ((h.1 c).1 63).trans (final_63 m c), arg_end m h.1 c 0 rfl, arg_end m h.1 c 1 rfl, arg_end m h.1 c 2 rfl,
      arg_end m h.1 c 3 rfl, arg_end m h.1 c 4 rfl, arg_end m h.1 c 5 rfl, arg_end m h.1 c 6 rfl,
      arg_end m h.1 c 7 rfl, arg_end m h.1 c 8 rfl, arg_end m h.1 c 9 rfl, arg_end m h.1 c 10 rfl,
      arg_end m h.1 c 11 rfl, arg_end m h.1 c 12 rfl, arg_end m h.1 c 13 rfl, arg_end m h.1 c 14 rfl,
      arg_end m h.1 c 15 rfl, arg_end m h.1 c 16 rfl, arg_end m h.1 c 17 rfl, arg_end m h.1 c 18 rfl,
      arg_end m h.1 c 19 rfl, arg_end m h.1 c 20 rfl, arg_end m h.1 c 21 rfl, arg_end m h.1 c 22 rfl,
      arg_end m h.1 c 23 rfl, arg_end m h.1 c 24 rfl, arg_end m h.1 c 25 rfl, arg_end m h.1 c 26 rfl,
      arg_end m h.1 c 27 rfl⟩) (run_quiescent m ρ), ?_⟩
  refine (θ_run Cert.Reference15Ideal.defs _ _).mono (fun r h c => ?_) (Cert.Reference15Ideal.Value.run m' ρ')
  obtain ⟨a0, a1, a2, a3, a4, a5, a6, a7, a8, a9, a10, a11, a12, a13, a14, a15, a16, a17, a18, a19, a20, a21, a22, a23,
    a24, a25, a26, a27⟩ := hag c
  obtain ⟨h64, h28, h29, h30, h31, h32, h33, h34, h35, h36, h37, h38, h39, h40, h41, h42, h43, h44, h45, h46, h47, h48,
    h49, h50, h51, h52, h53, h54, h55, h56, h57, h58, h59, h60, h61, h62, h63, hr⟩ := h c
  have p0 := ref_part 0 1 1024 (by decide) (by decide) a0
  have p1 := ref_part 1 1 1024 (by decide) (by decide) a0
  have p2 := ref_part 2 1 128 (by decide) (by decide) a0
  have p3 := ref_part 3 1 64 (by decide) (by decide) a0
  have p4 := ref_part 4 1 64 (by decide) (by decide) a0
  have p5 := ref_part 5 1 4 (by decide) (by decide) a0
  have p6 := ref_part 6 1 4 (by decide) (by decide) a0
  have p7 := ref_part 7 1 8 (by decide) (by decide) a0
  have p8 := ref_part 8 32 8 (by decide) (by decide) a0
  exact ⟨h64.trans (ref_part 40 1 1 (by decide) (by decide) a0 _ _ _),
    h28.trans (p0 _ _ _),
    h29.trans (p1 _ _ _),
    h30.trans (p2 _ _ _),
    h31.trans (p3 _ _ _),
    h32.trans (p4 _ _ _),
    h33.trans (p5 _ _ _),
    h34.trans (p6 _ _ _),
    h35.trans (p7 _ _ _),
    h36.trans (p8 _ _ _),
    h37.trans (ref_change 0 1 1024 _ _ _ _ (p0 _ _ _) a1 a10 a19),
    h38.trans (ref_change 1 1 1024 _ _ _ _ (p1 _ _ _) a2 a11 a20),
    h39.trans (ref_change 2 1 128 _ _ _ _ (p2 _ _ _) a3 a12 a21),
    h40.trans (ref_change 3 1 64 _ _ _ _ (p3 _ _ _) a4 a13 a22),
    h41.trans (ref_change 4 1 64 _ _ _ _ (p4 _ _ _) a5 a14 a23),
    h42.trans (ref_change 5 1 4 _ _ _ _ (p5 _ _ _) a6 a15 a24),
    h43.trans (ref_change 6 1 4 _ _ _ _ (p6 _ _ _) a7 a16 a25),
    h44.trans (ref_change 7 1 8 _ _ _ _ (p7 _ _ _) a8 a17 a26),
    h45.trans (ref_change 8 32 8 _ _ _ _ (p8 _ _ _) a9 a18 a27),
    h46.trans (ref_first 0 1 1024 _ _ _ _ (p0 _ _ _) a10),
    h47.trans (ref_first 1 1 1024 _ _ _ _ (p1 _ _ _) a11),
    h48.trans (ref_first 2 1 128 _ _ _ _ (p2 _ _ _) a12),
    h49.trans (ref_first 3 1 64 _ _ _ _ (p3 _ _ _) a13),
    h50.trans (ref_first 4 1 64 _ _ _ _ (p4 _ _ _) a14),
    h51.trans (ref_first 5 1 4 _ _ _ _ (p5 _ _ _) a15),
    h52.trans (ref_first 6 1 4 _ _ _ _ (p6 _ _ _) a16),
    h53.trans (ref_first 7 1 8 _ _ _ _ (p7 _ _ _) a17),
    h54.trans (ref_first 8 32 8 _ _ _ _ (p8 _ _ _) a18),
    h55.trans (ref_second 0 1 1024 _ _ _ _ (p0 _ _ _) a19),
    h56.trans (ref_second 1 1 1024 _ _ _ _ (p1 _ _ _) a20),
    h57.trans (ref_second 2 1 128 _ _ _ _ (p2 _ _ _) a21),
    h58.trans (ref_second 3 1 64 _ _ _ _ (p3 _ _ _) a22),
    h59.trans (ref_second 4 1 64 _ _ _ _ (p4 _ _ _) a23),
    h60.trans (ref_second 5 1 4 _ _ _ _ (p5 _ _ _) a24),
    h61.trans (ref_second 6 1 4 _ _ _ _ (p6 _ _ _) a25),
    h62.trans (ref_second 7 1 8 _ _ _ _ (p7 _ _ _) a26),
    h63.trans (ref_second 8 32 8 _ _ _ _ (p8 _ _ _) a27), hr⟩

end Kernel15Ideal.Small

namespace Reference15Ideal.Small

/-- The reference ends with its arguments unchanged. -/
theorem frame : Cert.quiescent_Reference15Ideal := fun m ρ _ =>
  (θ_run Cert.Reference15Ideal.defs _ _).mono (fun r h => ⟨fun c => (h c).2.2.2.2.2.2.2.2.2.2.2.2.2.2.2.2.2.2.2.2.2.2.2.2.2.2.2.2.2.2.2.2.2.2.2.2.2,
    sem_eq_zero_of_no_sems (by decide) r.2⟩) (Cert.Reference15Ideal.Value.run m ρ)

end Reference15Ideal.Small

end Cert

end
-- ==== Proof.lean ====
/-
  The certificate's claims, joined. Of each of fifteen programs of the kernel, the printed one and the one over extended
  reals leave their arguments as they were (their frames, and no operation was rewritten); so does its reference; and from
  equal arguments the kernel and the reference end with equal results: of the scan both are the chunk-by-chunk gradient of
  `Proof/Spec.lean`, of the layer both are the loss and the gradients of `Proof/FfnSpec.lean`, of
  the input product both are the product and the gradients of `Proof/InpSpec.lean`, of the branches' products, their gated
  merge and the gradients of both both are the values of `Proof/BranchSpec.lean` and `Proof/MergeSpec.lean`, and of the
  optimiser's steps both are the gradient, the change of the weight and the new moments that AdamW has for it.
-/
module

public import proofs.«01_k».proof.Defs
public import proofs.«01_k».proof.Proof.Gen.Kernel.Frame
public import proofs.«01_k».proof.Proof.Gen.KernelIdeal.Frame
public import proofs.«01_k».proof.Proof.Gen.Kernel2.Frame
public import proofs.«01_k».proof.Proof.Gen.Kernel3.Frame
public import proofs.«01_k».proof.Proof.Gen.Kernel4.Frame
public import proofs.«01_k».proof.Proof.Gen.Kernel5.Frame
public import proofs.«01_k».proof.Proof.Gen.Kernel6.Frame
public import proofs.«01_k».proof.Proof.Gen.Kernel7.Frame
public import proofs.«01_k».proof.Proof.Gen.Kernel8.Frame
public import proofs.«01_k».proof.Proof.Gen.Kernel9.Frame
public import proofs.«01_k».proof.Proof.Gen.Kernel10.Frame
public import proofs.«01_k».proof.Proof.Gen.Kernel11.Frame
public import proofs.«01_k».proof.Proof.Gen.Kernel12.Frame
public import proofs.«01_k».proof.Proof.Gen.Kernel13.Frame
public import proofs.«01_k».proof.Proof.Gen.Kernel13Ideal.Frame
public import proofs.«01_k».proof.Proof.Gen.Kernel14.Frame
public import proofs.«01_k».proof.Proof.Gen.Kernel14Ideal.Frame
public import proofs.«01_k».proof.Proof.Gen.Kernel15Ideal.Launch
public import proofs.«01_k».proof.Proof.Gen.Kernel15Ideal.Skeleton
public import proofs.«01_k».proof.Proof.Gen.Kernel15Ideal.Points
public import proofs.«01_k».proof.Proof.Gen.Kernel15
public import proofs.«01_k».proof.Proof.Gen.Reference15Ideal.Run
public import proofs.«01_k».proof.Proof.KernelValue
public import proofs.«01_k».proof.Proof.RefValue
public import proofs.«01_k».proof.Proof.FfnRun
public import proofs.«01_k».proof.Proof.FfnRefEnd
public import proofs.«01_k».proof.Proof.InpChain
public import proofs.«01_k».proof.Proof.InpRef
public import proofs.«01_k».proof.Proof.BranchChain
public import proofs.«01_k».proof.Proof.BranchRef
public import proofs.«01_k».proof.Proof.Merge5
public import proofs.«01_k».proof.Proof.Merge5Ref
public import proofs.«01_k».proof.Proof.Merge6
public import proofs.«01_k».proof.Proof.Merge6Ref
public import proofs.«01_k».proof.Proof.Adam7
public import proofs.«01_k».proof.Proof.AdamRef7
public import proofs.«01_k».proof.Proof.Adam8
public import proofs.«01_k».proof.Proof.AdamRef8
public import proofs.«01_k».proof.Proof.Adam9
public import proofs.«01_k».proof.Proof.AdamRef9
public import proofs.«01_k».proof.Proof.Adam10
public import proofs.«01_k».proof.Proof.AdamRef10
public import proofs.«01_k».proof.Proof.Adam11
public import proofs.«01_k».proof.Proof.AdamRef11
public import proofs.«01_k».proof.Proof.Adam12
public import proofs.«01_k».proof.Proof.AdamRef12
public import proofs.«01_k».proof.Proof.Adam13
public import proofs.«01_k».proof.Proof.Adam14
public import proofs.«01_k».proof.Proof.AdamSmallEnd
public import Idealize.ShloMosaic.Adequacy
public import Idealize.ShloMosaic.Init
public import Idealize.ShloMosaic.Lib.Quiescent

@[expose] public section

noncomputable section

namespace Cert.Proof

open Idealize.ShloMosaic Idealize.SL.Sem

/-- The reference ends with its arguments unchanged. -/
theorem reference_frame : Cert.quiescent_ReferenceIdeal := fun m ρ _ =>
  (θ_run Cert.ReferenceIdeal.defs _ _).mono (fun r h => ⟨fun c => (h c).2.2.2.2.2.2,
    sem_eq_zero_of_no_sems (by decide) r.2⟩) (Cert.ReferenceIdeal.Scan.run m ρ)

/-- Equal arguments are equal chunks. -/
theorem data_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (h0 : m' (c.tc.loc Cert.ReferenceIdeal.main_arg0) = m (c.tc.loc Cert.KernelIdeal.main_arg0))
    (h1 : m' (c.tc.loc Cert.ReferenceIdeal.main_arg1) = m (c.tc.loc Cert.KernelIdeal.main_arg1))
    (h2 : m' (c.tc.loc Cert.ReferenceIdeal.main_arg2) = m (c.tc.loc Cert.KernelIdeal.main_arg2))
    (h3 : m' (c.tc.loc Cert.ReferenceIdeal.main_arg3) = m (c.tc.loc Cert.KernelIdeal.main_arg3))
    (h4 : m' (c.tc.loc Cert.ReferenceIdeal.main_arg4) = m (c.tc.loc Cert.KernelIdeal.main_arg4))
    (h5 : m' (c.tc.loc Cert.ReferenceIdeal.main_arg5) = m (c.tc.loc Cert.KernelIdeal.main_arg5))
    (h6 : m' (c.tc.loc Cert.ReferenceIdeal.main_arg6) = m (c.tc.loc Cert.KernelIdeal.main_arg6))
    (h7 : m' (c.tc.loc Cert.ReferenceIdeal.main_arg7) = m (c.tc.loc Cert.KernelIdeal.main_arg7)) :
    Cert.ReferenceIdeal.Scan.data m' c = Cert.KernelIdeal.Chunk.data m c := by
  unfold Cert.ReferenceIdeal.Scan.data Cert.KernelIdeal.Chunk.data
  rw [h0, h1, h2, h3, h4, h5, h6, h7]

/-- The kernel's six results are the reference's. -/
theorem value : Cert.algebraic_KernelIdeal_ReferenceIdeal := by
  intro m ρ m' ρ' _ hag
  refine ⟨_, _, _, _, _, _, Cert.KernelIdeal.Chunk.run m ρ, ?_⟩
  refine (θ_run Cert.ReferenceIdeal.defs _ _).mono (fun r h c => ?_) (Cert.ReferenceIdeal.Scan.run m' ρ')
  obtain ⟨a0, a1, a2, a3, a4, a5, a6, a7⟩ := hag c
  have e := data_eq m m' c a0 a1 a2 a3 a4 a5 a6 a7
  have hc := h c
  rw [e] at hc
  exact hc

/-- The layer's reference ends with its arguments unchanged. -/
theorem reference2_frame : Cert.quiescent_Reference2Ideal := fun m ρ _ =>
  (θ_run Cert.Reference2Ideal.defs _ _).mono (fun r h => ⟨fun c => (h c).2.2.2.2.2.2.2,
    sem_eq_zero_of_no_sems (by decide) r.2⟩) (Cert.Reference2Ideal.Ffn.run m ρ)

/-- Equal arguments are equal layers. -/
theorem layer_eq (m : (ℓ : Loc Cert.Kernel2Ideal.nD Cert.Kernel2Ideal.τ Cert.Kernel2Ideal.sig) → Buf (Elt Ideal) ℓ)
    (m' : (ℓ : Loc Cert.Reference2Ideal.nD Cert.Reference2Ideal.τ Cert.Reference2Ideal.sig) → Buf (Elt Ideal) ℓ)
    (c : Dev Cert.Kernel2Ideal.nD)
    (h0 : m' (c.tc.loc Cert.Reference2Ideal.main_arg0) = m (c.tc.loc Cert.Kernel2Ideal.main_arg0))
    (h1 : m' (c.tc.loc Cert.Reference2Ideal.main_arg1) = m (c.tc.loc Cert.Kernel2Ideal.main_arg1))
    (h2 : m' (c.tc.loc Cert.Reference2Ideal.main_arg2) = m (c.tc.loc Cert.Kernel2Ideal.main_arg2))
    (h3 : m' (c.tc.loc Cert.Reference2Ideal.main_arg3) = m (c.tc.loc Cert.Kernel2Ideal.main_arg3))
    (h4 : m' (c.tc.loc Cert.Reference2Ideal.main_arg4) = m (c.tc.loc Cert.Kernel2Ideal.main_arg4))
    (h5 : m' (c.tc.loc Cert.Reference2Ideal.main_arg5) = m (c.tc.loc Cert.Kernel2Ideal.main_arg5))
    (h6 : m' (c.tc.loc Cert.Reference2Ideal.main_arg6) = m (c.tc.loc Cert.Kernel2Ideal.main_arg6))
    (h7 : m' (c.tc.loc Cert.Reference2Ideal.main_arg7) = m (c.tc.loc Cert.Kernel2Ideal.main_arg7)) :
    Cert.Reference2Ideal.Ffn.given m' c = Cert.Kernel2Ideal.Ffn.given m c := by
  unfold Cert.Reference2Ideal.Ffn.given Cert.Kernel2Ideal.Ffn.given
  rw [h0, h1, h2, h3, h4, h5, h6, h7]

/-- The layer's seven results are the reference's. -/
theorem value2 : Cert.algebraic_Kernel2Ideal_Reference2Ideal := by
  intro m ρ m' ρ' _ hag
  refine ⟨_, _, _, _, _, _, _, Cert.Kernel2Ideal.Ffn.run m ρ, ?_⟩
  refine (θ_run Cert.Reference2Ideal.defs _ _).mono (fun r h c => ?_) (Cert.Reference2Ideal.Ffn.run m' ρ')
  obtain ⟨a0, a1, a2, a3, a4, a5, a6, a7⟩ := hag c
  have e := layer_eq m m' c a0 a1 a2 a3 a4 a5 a6 a7
  have hc := h c
  rw [e] at hc
  exact hc

/-- The input product's reference ends with its arguments unchanged. -/
theorem reference3_frame : Cert.quiescent_Reference3Ideal := fun m ρ _ =>
  (θ_run Cert.Reference3Ideal.defs _ _).mono (fun r h => ⟨fun c => (h c).2.2.2.2,
    sem_eq_zero_of_no_sems (by decide) r.2⟩) (Cert.Reference3Ideal.Inp.run m ρ)

/-- Equal arguments are equal inputs. -/
theorem input_eq (m : (ℓ : Loc Cert.Kernel3Ideal.nD Cert.Kernel3Ideal.τ Cert.Kernel3Ideal.sig) → Buf (Elt Ideal) ℓ)
    (m' : (ℓ : Loc Cert.Reference3Ideal.nD Cert.Reference3Ideal.τ Cert.Reference3Ideal.sig) → Buf (Elt Ideal) ℓ)
    (c : Dev Cert.Kernel3Ideal.nD)
    (h0 : m' (c.tc.loc Cert.Reference3Ideal.main_arg0) = m (c.tc.loc Cert.Kernel3Ideal.main_arg0))
    (h1 : m' (c.tc.loc Cert.Reference3Ideal.main_arg1) = m (c.tc.loc Cert.Kernel3Ideal.main_arg1))
    (h2 : m' (c.tc.loc Cert.Reference3Ideal.main_arg2) = m (c.tc.loc Cert.Kernel3Ideal.main_arg2))
    (h3 : m' (c.tc.loc Cert.Reference3Ideal.main_arg3) = m (c.tc.loc Cert.Kernel3Ideal.main_arg3))
    (h4 : m' (c.tc.loc Cert.Reference3Ideal.main_arg4) = m (c.tc.loc Cert.Kernel3Ideal.main_arg4)) :
    Cert.Reference3Ideal.Inp.given m' c = Cert.Kernel3Ideal.Inp.given m c := by
  unfold Cert.Reference3Ideal.Inp.given Cert.Kernel3Ideal.Inp.given
  rw [h0, h1, h2, h3, h4]

/-- The four results around the input product are the reference's. -/
theorem value3 : Cert.algebraic_Kernel3Ideal_Reference3Ideal := by
  intro m ρ m' ρ' _ hag
  refine ⟨_, _, _, _, Cert.Kernel3Ideal.Inp.run m ρ, ?_⟩
  refine (θ_run Cert.Reference3Ideal.defs _ _).mono (fun r h c => ?_) (Cert.Reference3Ideal.Inp.run m' ρ')
  obtain ⟨a0, a1, a2, a3, a4⟩ := hag c
  have e := input_eq m m' c a0 a1 a2 a3 a4
  have hc := h c
  rw [e] at hc
  exact hc

/-- The branches' backward products' reference ends with its arguments unchanged. -/
theorem reference4_frame : Cert.quiescent_Reference4Ideal := fun m ρ _ =>
  (θ_run Cert.Reference4Ideal.defs _ _).mono (fun r h => ⟨fun c => (h c).2.2.2.2,
    sem_eq_zero_of_no_sems (by decide) r.2⟩) (Cert.Reference4Ideal.Branch.run m ρ)

/-- Equal arguments are equal inputs of the branches' backward products. -/
theorem branches_eq (m : (ℓ : Loc Cert.Kernel4Ideal.nD Cert.Kernel4Ideal.τ Cert.Kernel4Ideal.sig) → Buf (Elt Ideal) ℓ)
    (m' : (ℓ : Loc Cert.Reference4Ideal.nD Cert.Reference4Ideal.τ Cert.Reference4Ideal.sig) → Buf (Elt Ideal) ℓ)
    (c : Dev Cert.Kernel4Ideal.nD)
    (h0 : m' (c.tc.loc Cert.Reference4Ideal.main_arg0) = m (c.tc.loc Cert.Kernel4Ideal.main_arg0))
    (h1 : m' (c.tc.loc Cert.Reference4Ideal.main_arg1) = m (c.tc.loc Cert.Kernel4Ideal.main_arg1))
    (h2 : m' (c.tc.loc Cert.Reference4Ideal.main_arg2) = m (c.tc.loc Cert.Kernel4Ideal.main_arg2))
    (h3 : m' (c.tc.loc Cert.Reference4Ideal.main_arg3) = m (c.tc.loc Cert.Kernel4Ideal.main_arg3))
    (h4 : m' (c.tc.loc Cert.Reference4Ideal.main_arg4) = m (c.tc.loc Cert.Kernel4Ideal.main_arg4))
    (h5 : m' (c.tc.loc Cert.Reference4Ideal.main_arg5) = m (c.tc.loc Cert.Kernel4Ideal.main_arg5)) :
    Cert.Reference4Ideal.Branch.given m' c = Cert.Kernel4Ideal.Branch.given m c := by
  unfold Cert.Reference4Ideal.Branch.given Cert.Kernel4Ideal.Branch.given
  rw [h0, h1, h2, h3, h4, h5]

/-- The four gradients of the branches' products are the reference's. -/
theorem value4 : Cert.algebraic_Kernel4Ideal_Reference4Ideal := by
  intro m ρ m' ρ' _ hag
  refine ⟨_, _, _, _, Cert.Kernel4Ideal.Branch.run m ρ, ?_⟩
  refine (θ_run Cert.Reference4Ideal.defs _ _).mono (fun r h c => ?_) (Cert.Reference4Ideal.Branch.run m' ρ')
  obtain ⟨a0, a1, a2, a3, a4, a5⟩ := hag c
  have e := branches_eq m m' c a0 a1 a2 a3 a4 a5
  have hc := h c
  rw [e] at hc
  exact hc

/-- The reference of the branches' products and their merge ends with its arguments unchanged. -/
theorem reference5_frame : Cert.quiescent_Reference5Ideal := fun m ρ _ =>
  (θ_run Cert.Reference5Ideal.defs _ _).mono (fun r h => ⟨fun c => (h c).2.2.2,
    sem_eq_zero_of_no_sems (by decide) r.2⟩) (Cert.Reference5Ideal.Merge.run m ρ)

/-- The branches' products and their merge are the reference's. -/
theorem value5 : Cert.algebraic_Kernel5Ideal_Reference5Ideal := by
  intro m ρ m' ρ' _ hag
  refine ⟨_, _, _, Cert.Kernel5Ideal.Merge.run m ρ, ?_⟩
  refine (θ_run Cert.Reference5Ideal.defs _ _).mono (fun r h c => ?_) (Cert.Reference5Ideal.Merge.run m' ρ')
  obtain ⟨a0, a1, a2, a3, a4⟩ := hag c
  obtain ⟨h1, h2, h3, h4⟩ := h c
  rw [a1, a3] at h1
  rw [a2, a4] at h2
  rw [a0, a1, a2, a3, a4] at h3
  exact ⟨h1, h2, h3, h4⟩

/-- The reference of the merge's gradient ends with its arguments unchanged. -/
theorem reference6_frame : Cert.quiescent_Reference6Ideal := fun m ρ _ =>
  (θ_run Cert.Reference6Ideal.defs _ _).mono (fun r h => ⟨fun c => (h c).2.2.2,
    sem_eq_zero_of_no_sems (by decide) r.2⟩) (Cert.Reference6Ideal.Merge.run m ρ)

/-- The gradients of the merge are the reference's. -/
theorem value6 : Cert.algebraic_Kernel6Ideal_Reference6Ideal := by
  intro m ρ m' ρ' _ hag
  refine ⟨_, _, _, Cert.Kernel6Ideal.Merge.run m ρ, ?_⟩
  refine (θ_run Cert.Reference6Ideal.defs _ _).mono (fun r h c => ?_) (Cert.Reference6Ideal.Merge.run m' ρ')
  obtain ⟨a0, a1, a2, a3, a4⟩ := hag c
  obtain ⟨h1, h2, h3, h4⟩ := h c
  rw [a0, a1, a2, a3, a4] at h1
  rw [a0, a3, a4] at h2 h3
  exact ⟨h1, h2, h3, h4⟩

/-- The reference of the optimiser's step of w_down ends with its arguments unchanged. -/
theorem reference7_frame : Cert.quiescent_Reference7Ideal := fun m ρ _ =>
  (θ_run Cert.Reference7Ideal.defs _ _).mono (fun r h => ⟨fun c => (h c).2,
    sem_eq_zero_of_no_sems (by decide) r.2⟩) (Cert.Reference7Ideal.Adam.run m ρ)

/-- The gradient, the change and the new moments of w_down are the reference's. -/
theorem value7 : Cert.algebraic_Kernel7Ideal_Reference7Ideal := by
  intro m ρ m' ρ' _ hag
  refine ⟨_, _, _, _, Cert.Kernel7Ideal.Adam.run m ρ, ?_⟩
  refine (θ_run Cert.Reference7Ideal.defs _ _).mono (fun r h c => ?_) (Cert.Reference7Ideal.Adam.run m' ρ')
  obtain ⟨a0, a1, a2, a3⟩ := hag c
  obtain ⟨⟨h1, h2, h3, h4⟩, h5⟩ := h c
  rw [a0] at h1
  rw [a0, a1, a2, a3] at h2
  rw [a0, a2] at h3
  rw [a0, a3] at h4
  exact ⟨h1, h2, h3, h4, h5⟩

/-- The reference of the optimiser's step of w_out ends with its arguments unchanged. -/
theorem reference8_frame : Cert.quiescent_Reference8Ideal := fun m ρ _ =>
  (θ_run Cert.Reference8Ideal.defs _ _).mono (fun r h => ⟨fun c => (h c).2,
    sem_eq_zero_of_no_sems (by decide) r.2⟩) (Cert.Reference8Ideal.Adam.run m ρ)

/-- The gradient, the change and the new moments of w_out are the reference's. -/
theorem value8 : Cert.algebraic_Kernel8Ideal_Reference8Ideal := by
  intro m ρ m' ρ' _ hag
  refine ⟨_, _, _, _, Cert.Kernel8Ideal.Adam.run m ρ, ?_⟩
  refine (θ_run Cert.Reference8Ideal.defs _ _).mono (fun r h c => ?_) (Cert.Reference8Ideal.Adam.run m' ρ')
  obtain ⟨a0, a1, a2, a3⟩ := hag c
  obtain ⟨⟨h1, h2, h3, h4⟩, h5⟩ := h c
  rw [a0] at h1
  rw [a0, a1, a2, a3] at h2
  rw [a0, a2] at h3
  rw [a0, a3] at h4
  exact ⟨h1, h2, h3, h4, h5⟩

/-- The reference of the optimiser's step of w_branch_dn ends with its arguments unchanged. -/
theorem reference9_frame : Cert.quiescent_Reference9Ideal := fun m ρ _ =>
  (θ_run Cert.Reference9Ideal.defs _ _).mono (fun r h => ⟨fun c => (h c).2,
    sem_eq_zero_of_no_sems (by decide) r.2⟩) (Cert.Reference9Ideal.Adam.run m ρ)

/-- The gradient, the change and the new moments of w_branch_dn are the reference's. -/
theorem value9 : Cert.algebraic_Kernel9Ideal_Reference9Ideal := by
  intro m ρ m' ρ' _ hag
  refine ⟨_, _, _, _, Cert.Kernel9Ideal.Adam.run m ρ, ?_⟩
  refine (θ_run Cert.Reference9Ideal.defs _ _).mono (fun r h c => ?_) (Cert.Reference9Ideal.Adam.run m' ρ')
  obtain ⟨a0, a1, a2, a3⟩ := hag c
  obtain ⟨⟨h1, h2, h3, h4⟩, h5⟩ := h c
  rw [a0] at h1
  rw [a0, a1, a2, a3] at h2
  rw [a0, a2] at h3
  rw [a0, a3] at h4
  exact ⟨h1, h2, h3, h4, h5⟩

/-- The reference of the optimiser's step of w_gate ends with its arguments unchanged. -/
theorem reference10_frame : Cert.quiescent_Reference10Ideal := fun m ρ _ =>
  (θ_run Cert.Reference10Ideal.defs _ _).mono (fun r h => ⟨fun c => (h c).2,
    sem_eq_zero_of_no_sems (by decide) r.2⟩) (Cert.Reference10Ideal.Adam.run m ρ)

/-- The gradient, the change and the new moments of w_gate are the reference's. -/
theorem value10 : Cert.algebraic_Kernel10Ideal_Reference10Ideal := by
  intro m ρ m' ρ' _ hag
  refine ⟨_, _, _, _, Cert.Kernel10Ideal.Adam.run m ρ, ?_⟩
  refine (θ_run Cert.Reference10Ideal.defs _ _).mono (fun r h c => ?_) (Cert.Reference10Ideal.Adam.run m' ρ')
  obtain ⟨a0, a1, a2, a3⟩ := hag c
  obtain ⟨⟨h1, h2, h3, h4⟩, h5⟩ := h c
  rw [a0] at h1
  rw [a0, a1, a2, a3] at h2
  rw [a0, a2] at h3
  rw [a0, a3] at h4
  exact ⟨h1, h2, h3, h4, h5⟩

/-- The reference of the optimiser's step of w_in ends with its arguments unchanged. -/
theorem reference11_frame : Cert.quiescent_Reference11Ideal := fun m ρ _ =>
  (θ_run Cert.Reference11Ideal.defs _ _).mono (fun r h => ⟨fun c => (h c).2,
    sem_eq_zero_of_no_sems (by decide) r.2⟩) (Cert.Reference11Ideal.Adam.run m ρ)

/-- The gradient, the change and the new moments of w_in are the reference's. -/
theorem value11 : Cert.algebraic_Kernel11Ideal_Reference11Ideal := by
  intro m ρ m' ρ' _ hag
  refine ⟨_, _, _, _, Cert.Kernel11Ideal.Adam.run m ρ, ?_⟩
  refine (θ_run Cert.Reference11Ideal.defs _ _).mono (fun r h c => ?_) (Cert.Reference11Ideal.Adam.run m' ρ')
  obtain ⟨a0, a1, a2, a3⟩ := hag c
  obtain ⟨⟨h1, h2, h3, h4⟩, h5⟩ := h c
  rw [a0] at h1
  rw [a0, a1, a2, a3] at h2
  rw [a0, a2] at h3
  rw [a0, a3] at h4
  exact ⟨h1, h2, h3, h4, h5⟩

/-- The reference of the optimiser's step of the convolution ends with its arguments unchanged. -/
theorem reference12_frame : Cert.quiescent_Reference12Ideal := fun m ρ _ =>
  (θ_run Cert.Reference12Ideal.defs _ _).mono (fun r h => ⟨fun c => (h c).2,
    sem_eq_zero_of_no_sems (by decide) r.2⟩) (Cert.Reference12Ideal.Adam.run m ρ)

/-- The gradient, the change and the new moments of the convolution are the reference's. -/
theorem value12 : Cert.algebraic_Kernel12Ideal_Reference12Ideal := by
  intro m ρ m' ρ' _ hag
  refine ⟨_, _, _, _, Cert.Kernel12Ideal.Adam.run m ρ, ?_⟩
  refine (θ_run Cert.Reference12Ideal.defs _ _).mono (fun r h c => ?_) (Cert.Reference12Ideal.Adam.run m' ρ')
  obtain ⟨a0, a1, a2, a3⟩ := hag c
  obtain ⟨⟨h1, h2, h3, h4⟩, h5⟩ := h c
  rw [a0] at h1
  rw [a0, a1, a2, a3] at h2
  rw [a0, a2] at h3
  rw [a0, a3] at h4
  exact ⟨h1, h2, h3, h4, h5⟩

/-- The reference of the optimiser's step of w_branch_swa ends with its arguments unchanged. -/
theorem reference13_frame : Cert.quiescent_Reference13Ideal := fun m ρ _ =>
  (θ_run Cert.Reference13Ideal.defs _ _).mono (fun r h => ⟨fun c => (h c).2,
    sem_eq_zero_of_no_sems (by decide) r.2⟩) (Cert.Reference13Ideal.Adam.run m ρ)

/-- The gradient, the change and the new moments of w_branch_swa are the reference's. -/
theorem value13 : Cert.algebraic_Kernel13Ideal_Reference13Ideal := by
  intro m ρ m' ρ' _ hag
  refine ⟨_, _, _, _, Cert.Kernel13Ideal.Adam.run m ρ, ?_⟩
  refine (θ_run Cert.Reference13Ideal.defs _ _).mono (fun r h c => ?_) (Cert.Reference13Ideal.Adam.run m' ρ')
  obtain ⟨a0, a1, a2, a3⟩ := hag c
  obtain ⟨⟨h1, h2, h3, h4⟩, h5⟩ := h c
  rw [a0] at h1
  rw [a0, a1, a2, a3] at h2
  rw [a0, a2] at h3
  rw [a0, a3] at h4
  exact ⟨h1, h2, h3, h4, h5⟩

/-- The reference of the optimiser's step of w_up ends with its arguments unchanged. -/
theorem reference14_frame : Cert.quiescent_Reference14Ideal := fun m ρ _ =>
  (θ_run Cert.Reference14Ideal.defs _ _).mono (fun r h => ⟨fun c => (h c).2,
    sem_eq_zero_of_no_sems (by decide) r.2⟩) (Cert.Reference14Ideal.Adam.run m ρ)

/-- The gradient, the change and the new moments of w_up are the reference's. -/
theorem value14 : Cert.algebraic_Kernel14Ideal_Reference14Ideal := by
  intro m ρ m' ρ' _ hag
  refine ⟨_, _, _, _, Cert.Kernel14Ideal.Adam.run m ρ, ?_⟩
  refine (θ_run Cert.Reference14Ideal.defs _ _).mono (fun r h c => ?_) (Cert.Reference14Ideal.Adam.run m' ρ')
  obtain ⟨a0, a1, a2, a3⟩ := hag c
  obtain ⟨⟨h1, h2, h3, h4⟩, h5⟩ := h c
  rw [a0] at h1
  rw [a0, a1, a2, a3] at h2
  rw [a0, a2] at h3
  rw [a0, a3] at h4
  exact ⟨h1, h2, h3, h4, h5⟩

/-- Everything claimed. -/
theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Kernel10.Gen.facts, Cert.Kernel10Ideal.Gen.facts, Cert.Reference10Ideal.Gen.facts,
  Cert.Kernel11.Gen.facts, Cert.Kernel11Ideal.Gen.facts, Cert.Reference11Ideal.Gen.facts,
  Cert.Kernel12.Gen.facts, Cert.Kernel12Ideal.Gen.facts, Cert.Reference12Ideal.Gen.facts,
  Cert.Kernel13.Gen.facts, Cert.Kernel13Ideal.Gen.facts, Cert.Reference13Ideal.Gen.facts,
  Cert.Kernel14.Gen.facts, Cert.Kernel14Ideal.Gen.facts, Cert.Reference14Ideal.Gen.facts,
  Cert.Kernel15.Gen.facts, Cert.Kernel15Ideal.Gen.facts, Cert.Reference15Ideal.Gen.facts,
  fun m ρ _ => Cert.Kernel.Gen.frame m ρ, fun m ρ _ => Cert.KernelIdeal.Gen.frame m ρ, reference_frame,
  fun m ρ _ => Cert.Kernel2.Gen.frame m ρ, fun m ρ _ => Cert.Kernel2Ideal.Gen.frame m ρ, reference2_frame,
  fun m ρ _ => Cert.Kernel3.Gen.frame m ρ, fun m ρ _ => Cert.Kernel3Ideal.Gen.frame m ρ, reference3_frame,
  fun m ρ _ => Cert.Kernel4.Gen.frame m ρ, fun m ρ _ => Cert.Kernel4Ideal.Gen.frame m ρ, reference4_frame,
  fun m ρ _ => Cert.Kernel5.Gen.frame m ρ, fun m ρ _ => Cert.Kernel5Ideal.Gen.frame m ρ, reference5_frame,
  fun m ρ _ => Cert.Kernel6.Gen.frame m ρ, fun m ρ _ => Cert.Kernel6Ideal.Gen.frame m ρ, reference6_frame,
  fun m ρ _ => Cert.Kernel7.Gen.frame m ρ, fun m ρ _ => Cert.Kernel7Ideal.Gen.frame m ρ, reference7_frame,
  fun m ρ _ => Cert.Kernel8.Gen.frame m ρ, fun m ρ _ => Cert.Kernel8Ideal.Gen.frame m ρ, reference8_frame,
  fun m ρ _ => Cert.Kernel9.Gen.frame m ρ, fun m ρ _ => Cert.Kernel9Ideal.Gen.frame m ρ, reference9_frame,
  fun m ρ _ => Cert.Kernel10.Gen.frame m ρ, fun m ρ _ => Cert.Kernel10Ideal.Gen.frame m ρ, reference10_frame,
  fun m ρ _ => Cert.Kernel11.Gen.frame m ρ, fun m ρ _ => Cert.Kernel11Ideal.Gen.frame m ρ, reference11_frame,
  fun m ρ _ => Cert.Kernel12.Gen.frame m ρ, fun m ρ _ => Cert.Kernel12Ideal.Gen.frame m ρ, reference12_frame,
  fun m ρ _ => Cert.Kernel13.Gen.frame m ρ, fun m ρ _ => Cert.Kernel13Ideal.Gen.frame m ρ, reference13_frame,
  fun m ρ _ => Cert.Kernel14.Gen.frame m ρ, fun m ρ _ => Cert.Kernel14Ideal.Gen.frame m ρ, reference14_frame,
  Cert.Kernel15.Small.frame, Cert.Kernel15Ideal.Small.frameIdeal, Cert.Reference15Ideal.Small.frame,
  trivial, value, trivial, value2, trivial, value3, trivial, value4, trivial, value5, trivial, value6,
  trivial, value7, trivial, value8, trivial, value9, trivial, value10, trivial, value11, trivial, value12, trivial, value13, trivial, value14,
  trivial, Cert.Kernel15Ideal.Small.value⟩

end Cert.Proof

end
